-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_GmInDw (m : (ℓ : Loc Cert.GmInDw.nD Cert.GmInDw.τ Cert.GmInDw.sig) → Buf (Elt Bits) ℓ) : Prop :=
  True

def Pre_GmInDwIdeal (m : (ℓ : Loc Cert.GmInDwIdeal.nD Cert.GmInDwIdeal.τ Cert.GmInDwIdeal.sig) → Buf (Elt Ideal) ℓ) : Prop :=
  True

def Pre_GmInDwRefIdeal (m : (ℓ : Loc Cert.GmInDwRefIdeal.nD Cert.GmInDwRefIdeal.τ Cert.GmInDwRefIdeal.sig) → Buf (Elt Ideal) ℓ) : Prop :=
  True

def Pre_GmInDx (m : (ℓ : Loc Cert.GmInDx.nD Cert.GmInDx.τ Cert.GmInDx.sig) → Buf (Elt Bits) ℓ) : Prop :=
  True

def Pre_GmInDxIdeal (m : (ℓ : Loc Cert.GmInDxIdeal.nD Cert.GmInDxIdeal.τ Cert.GmInDxIdeal.sig) → Buf (Elt Ideal) ℓ) : Prop :=
  True

def Pre_GmInDxRefIdeal (m : (ℓ : Loc Cert.GmInDxRefIdeal.nD Cert.GmInDxRefIdeal.τ Cert.GmInDxRefIdeal.sig) → Buf (Elt Ideal) ℓ) : Prop :=
  True

def Pre_ArInLat (m : (ℓ : Loc Cert.ArInLat.nD Cert.ArInLat.τ Cert.ArInLat.sig) → Buf (Elt Bits) ℓ) : Prop :=
  True

def Pre_ArInLatIdeal (m : (ℓ : Loc Cert.ArInLatIdeal.nD Cert.ArInLatIdeal.τ Cert.ArInLatIdeal.sig) → Buf (Elt Ideal) ℓ) : Prop :=
  True

def Pre_ArInLatRefIdeal (m : (ℓ : Loc Cert.ArInLatRefIdeal.nD Cert.ArInLatRefIdeal.τ Cert.ArInLatRefIdeal.sig) → Buf (Elt Ideal) ℓ) : Prop :=
  True

def Pre_ArInCtx (m : (ℓ : Loc Cert.ArInCtx.nD Cert.ArInCtx.τ Cert.ArInCtx.sig) → Buf (Elt Bits) ℓ) : Prop :=
  True

def Pre_ArInCtxIdeal (m : (ℓ : Loc Cert.ArInCtxIdeal.nD Cert.ArInCtxIdeal.τ Cert.ArInCtxIdeal.sig) → Buf (Elt Ideal) ℓ) : Prop :=
  True

def Pre_ArInCtxRefIdeal (m : (ℓ : Loc Cert.ArInCtxRefIdeal.nD Cert.ArInCtxRefIdeal.τ Cert.ArInCtxRefIdeal.sig) → Buf (Elt Ideal) ℓ) : Prop :=
  True

def Pre_ArInDw (m : (ℓ : Loc Cert.ArInDw.nD Cert.ArInDw.τ Cert.ArInDw.sig) → Buf (Elt Bits) ℓ) : Prop :=
  True

def Pre_ArInDwIdeal (m : (ℓ : Loc Cert.ArInDwIdeal.nD Cert.ArInDwIdeal.τ Cert.ArInDwIdeal.sig) → Buf (Elt Ideal) ℓ) : Prop :=
  True

def Pre_ArInDwRefIdeal (m : (ℓ : Loc Cert.ArInDwRefIdeal.nD Cert.ArInDwRefIdeal.τ Cert.ArInDwRefIdeal.sig) → Buf (Elt Ideal) ℓ) : Prop :=
  True

def Pre_ArInDxLat (m : (ℓ : Loc Cert.ArInDxLat.nD Cert.ArInDxLat.τ Cert.ArInDxLat.sig) → Buf (Elt Bits) ℓ) : Prop :=
  True

def Pre_ArInDxLatIdeal (m : (ℓ : Loc Cert.ArInDxLatIdeal.nD Cert.ArInDxLatIdeal.τ Cert.ArInDxLatIdeal.sig) → Buf (Elt Ideal) ℓ) : Prop :=
  True

def Pre_ArInDxLatRefIdeal (m : (ℓ : Loc Cert.ArInDxLatRefIdeal.nD Cert.ArInDxLatRefIdeal.τ Cert.ArInDxLatRefIdeal.sig) → Buf (Elt Ideal) ℓ) : Prop :=
  True

def Pre_ArInDxCtx (m : (ℓ : Loc Cert.ArInDxCtx.nD Cert.ArInDxCtx.τ Cert.ArInDxCtx.sig) → Buf (Elt Bits) ℓ) : Prop :=
  True

def Pre_ArInDxCtxIdeal (m : (ℓ : Loc Cert.ArInDxCtxIdeal.nD Cert.ArInDxCtxIdeal.τ Cert.ArInDxCtxIdeal.sig) → Buf (Elt Ideal) ℓ) : Prop :=
  True

def Pre_ArInDxCtxRefIdeal (m : (ℓ : Loc Cert.ArInDxCtxRefIdeal.nD Cert.ArInDxCtxRefIdeal.τ Cert.ArInDxCtxRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfRefIdeal (m : (ℓ : Loc Cert.AdamFfRefIdeal.nD Cert.AdamFfRefIdeal.τ Cert.AdamFfRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamCtx (m : (ℓ : Loc Cert.AdamCtx.nD Cert.AdamCtx.τ Cert.AdamCtx.sig) → Buf (Elt Bits) ℓ) : Prop :=
  True

def Pre_AdamCtxIdeal (m : (ℓ : Loc Cert.AdamCtxIdeal.nD Cert.AdamCtxIdeal.τ Cert.AdamCtxIdeal.sig) → Buf (Elt Ideal) ℓ) : Prop :=
  True

def Pre_AdamCtxRefIdeal (m : (ℓ : Loc Cert.AdamCtxRefIdeal.nD Cert.AdamCtxRefIdeal.τ Cert.AdamCtxRefIdeal.sig) → Buf (Elt Ideal) ℓ) : Prop :=
  True

def Pre_AdamBMod (m : (ℓ : Loc Cert.AdamBMod.nD Cert.AdamBMod.τ Cert.AdamBMod.sig) → Buf (Elt Bits) ℓ) : Prop :=
  True

def Pre_AdamBModIdeal (m : (ℓ : Loc Cert.AdamBModIdeal.nD Cert.AdamBModIdeal.τ Cert.AdamBModIdeal.sig) → Buf (Elt Ideal) ℓ) : Prop :=
  True

def Pre_AdamBModRefIdeal (m : (ℓ : Loc Cert.AdamBModRefIdeal.nD Cert.AdamBModRefIdeal.τ Cert.AdamBModRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamArIn (m : (ℓ : Loc Cert.AdamArIn.nD Cert.AdamArIn.τ Cert.AdamArIn.sig) → Buf (Elt Bits) ℓ) : Prop :=
  True

def Pre_AdamArInIdeal (m : (ℓ : Loc Cert.AdamArInIdeal.nD Cert.AdamArInIdeal.τ Cert.AdamArInIdeal.sig) → Buf (Elt Ideal) ℓ) : Prop :=
  True

def Pre_AdamArInRefIdeal (m : (ℓ : Loc Cert.AdamArInRefIdeal.nD Cert.AdamArInRefIdeal.τ Cert.AdamArInRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGmIn (m : (ℓ : Loc Cert.AdamGmIn.nD Cert.AdamGmIn.τ Cert.AdamGmIn.sig) → Buf (Elt Bits) ℓ) : Prop :=
  True

def Pre_AdamGmInIdeal (m : (ℓ : Loc Cert.AdamGmInIdeal.nD Cert.AdamGmInIdeal.τ Cert.AdamGmInIdeal.sig) → Buf (Elt Ideal) ℓ) : Prop :=
  True

def Pre_AdamGmInRefIdeal (m : (ℓ : Loc Cert.AdamGmInRefIdeal.nD Cert.AdamGmInRefIdeal.τ Cert.AdamGmInRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamSp (m : (ℓ : Loc Cert.AdamSp.nD Cert.AdamSp.τ Cert.AdamSp.sig) → Buf (Elt Bits) ℓ) : Prop :=
  True

def Pre_AdamSpIdeal (m : (ℓ : Loc Cert.AdamSpIdeal.nD Cert.AdamSpIdeal.τ Cert.AdamSpIdeal.sig) → Buf (Elt Ideal) ℓ) : Prop :=
  True

def Pre_AdamSpRefIdeal (m : (ℓ : Loc Cert.AdamSpRefIdeal.nD Cert.AdamSpRefIdeal.τ Cert.AdamSpRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_ModDs (m : (ℓ : Loc Cert.ModDs.nD Cert.ModDs.τ Cert.ModDs.sig) → Buf (Elt Bits) ℓ) : Prop :=
  True

def Pre_ModDsIdeal (m : (ℓ : Loc Cert.ModDsIdeal.nD Cert.ModDsIdeal.τ Cert.ModDsIdeal.sig) → Buf (Elt Ideal) ℓ) : Prop :=
  True

def Pre_ModDsRefIdeal (m : (ℓ : Loc Cert.ModDsRefIdeal.nD Cert.ModDsRefIdeal.τ Cert.ModDsRefIdeal.sig) → Buf (Elt Ideal) ℓ) : Prop :=
  True

def Pre_SmallSums (m : (ℓ : Loc Cert.SmallSums.nD Cert.SmallSums.τ Cert.SmallSums.sig) → Buf (Elt Bits) ℓ) : Prop :=
  True

def Pre_SmallSumsIdeal (m : (ℓ : Loc Cert.SmallSumsIdeal.nD Cert.SmallSumsIdeal.τ Cert.SmallSumsIdeal.sig) → Buf (Elt Ideal) ℓ) : Prop :=
  True

def Pre_SmallSumsRefIdeal (m : (ℓ : Loc Cert.SmallSumsRefIdeal.nD Cert.SmallSumsRefIdeal.τ Cert.SmallSumsRefIdeal.sig) → Buf (Elt Ideal) ℓ) : Prop :=
  True

def Pre_GateSums (m : (ℓ : Loc Cert.GateSums.nD Cert.GateSums.τ Cert.GateSums.sig) → Buf (Elt Bits) ℓ) : Prop :=
  True

def Pre_GateSumsIdeal (m : (ℓ : Loc Cert.GateSumsIdeal.nD Cert.GateSumsIdeal.τ Cert.GateSumsIdeal.sig) → Buf (Elt Ideal) ℓ) : Prop :=
  True

def Pre_GateSumsRefIdeal (m : (ℓ : Loc Cert.GateSumsRefIdeal.nD Cert.GateSumsRefIdeal.τ Cert.GateSumsRefIdeal.sig) → Buf (Elt Ideal) ℓ) : Prop :=
  True

def Pre_ResMod (m : (ℓ : Loc Cert.ResMod.nD Cert.ResMod.τ Cert.ResMod.sig) → Buf (Elt Bits) ℓ) : Prop :=
  True

def Pre_ResModIdeal (m : (ℓ : Loc Cert.ResModIdeal.nD Cert.ResModIdeal.τ Cert.ResModIdeal.sig) → Buf (Elt Ideal) ℓ) : Prop :=
  True

def Pre_ResModRefIdeal (m : (ℓ : Loc Cert.ResModRefIdeal.nD Cert.ResModRefIdeal.τ Cert.ResModRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ModRows (m : (ℓ : Loc Cert.ModRows.nD Cert.ModRows.τ Cert.ModRows.sig) → Buf (Elt Bits) ℓ) : Prop :=
  True

def Pre_ModRowsIdeal (m : (ℓ : Loc Cert.ModRowsIdeal.nD Cert.ModRowsIdeal.τ Cert.ModRowsIdeal.sig) → Buf (Elt Ideal) ℓ) : Prop :=
  True

def Pre_ModRowsIdeal_parts_finite [hPre_parts_finite : Cert.Pre_parts_finite.Facts] (m : (ℓ : Loc Cert.ModRowsIdeal.nD Cert.ModRowsIdeal.τ Cert.ModRowsIdeal.sig) → Buf (Elt Ideal) ℓ) : Prop :=
  ∀ c : Dev Cert.ModRowsIdeal.nD,
    (Cert.Pre_parts_finite.fn (F := Ideal) (m ((c.tc : Thread Cert.ModRowsIdeal.nD Cert.ModRowsIdeal.τ).loc Cert.ModRowsIdeal.main_arg0)) (m ((c.tc : Thread Cert.ModRowsIdeal.nD Cert.ModRowsIdeal.τ).loc Cert.ModRowsIdeal.main_arg1)) (m ((c.tc : Thread Cert.ModRowsIdeal.nD Cert.ModRowsIdeal.τ).loc Cert.ModRowsIdeal.main_arg2))) = (fun _ => 1#1)

def Pre_ModRowsRefIdeal (m : (ℓ : Loc Cert.ModRowsRefIdeal.nD Cert.ModRowsRefIdeal.τ Cert.ModRowsRefIdeal.sig) → Buf (Elt Ideal) ℓ) : Prop :=
  True

def Pre_ModRowsRefIdeal_parts_finite [hPre_parts_finite : Cert.Pre_parts_finite.Facts] (m : (ℓ : Loc Cert.ModRowsRefIdeal.nD Cert.ModRowsRefIdeal.τ Cert.ModRowsRefIdeal.sig) → Buf (Elt Ideal) ℓ) : Prop :=
  ∀ c : Dev Cert.ModRowsRefIdeal.nD,
    (Cert.Pre_parts_finite.fn (F := Ideal) (m ((c.tc : Thread Cert.ModRowsRefIdeal.nD Cert.ModRowsRefIdeal.τ).loc Cert.ModRowsRefIdeal.main_arg0)) (m ((c.tc : Thread Cert.ModRowsRefIdeal.nD Cert.ModRowsRefIdeal.τ).loc Cert.ModRowsRefIdeal.main_arg1)) (m ((c.tc : Thread Cert.ModRowsRefIdeal.nD Cert.ModRowsRefIdeal.τ).loc Cert.ModRowsRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1)
      ∧ r.2.mem ((c.tc : Thread Cert.GmIn.nD Cert.GmIn.τ).loc Cert.GmIn.main_arg2) = m ((c.tc : Thread Cert.GmIn.nD Cert.GmIn.τ).loc Cert.GmIn.main_arg2))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1)
      ∧ r.2.mem ((c.tc : Thread Cert.GmInIdeal.nD Cert.GmInIdeal.τ).loc Cert.GmInIdeal.main_arg2) = m ((c.tc : Thread Cert.GmInIdeal.nD Cert.GmInIdeal.τ).loc Cert.GmInIdeal.main_arg2))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1)
      ∧ r.2.mem ((c.tc : Thread Cert.GmInRefIdeal.nD Cert.GmInRefIdeal.τ).loc Cert.GmInRefIdeal.main_arg2) = m ((c.tc : Thread Cert.GmInRefIdeal.nD Cert.GmInRefIdeal.τ).loc Cert.GmInRefIdeal.main_arg2))
      ∧ r.2.sem = fun _ => 0)

def quiescent_GmInDw [hGmInDw : Cert.GmInDw.Facts] : Prop :=
  ∀ (m : (ℓ : Loc Cert.GmInDw.nD Cert.GmInDw.τ Cert.GmInDw.sig) → Buf (Elt Bits) ℓ) (g : Dev Cert.GmInDw.nD → PrngReg), Pre_GmInDw m →
    θ_run (Cert.GmInDw.defs (F := Bits)) (onTc (τ := Cert.GmInDw.τ) (Cert.GmInDw.main (F := Bits))) ⟨m, fun _ => 0, g⟩ (fun r => (∀ c : Dev Cert.GmInDw.nD,
      r.2.mem ((c.tc : Thread Cert.GmInDw.nD Cert.GmInDw.τ).loc Cert.GmInDw.main_arg0) = m ((c.tc : Thread Cert.GmInDw.nD Cert.GmInDw.τ).loc Cert.GmInDw.main_arg0)
      ∧ r.2.mem ((c.tc : Thread Cert.GmInDw.nD Cert.GmInDw.τ).loc Cert.GmInDw.main_arg1) = m ((c.tc : Thread Cert.GmInDw.nD Cert.GmInDw.τ).loc Cert.GmInDw.main_arg1))
      ∧ r.2.sem = fun _ => 0)

def quiescent_GmInDwIdeal [hGmInDwIdeal : Cert.GmInDwIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg), Pre_GmInDwIdeal m →
    θ_run (Cert.GmInDwIdeal.defs (F := Ideal)) (onTc (τ := Cert.GmInDwIdeal.τ) (Cert.GmInDwIdeal.main (F := Ideal))) ⟨m, fun _ => 0, g⟩ (fun r => (∀ c : Dev Cert.GmInDwIdeal.nD,
      r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
      ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ r.2.sem = fun _ => 0)

def quiescent_GmInDwRefIdeal [hGmInDwRefIdeal : Cert.GmInDwRefIdeal.Facts] : Prop :=
  ∀ (m : (ℓ : Loc Cert.GmInDwRefIdeal.nD Cert.GmInDwRefIdeal.τ Cert.GmInDwRefIdeal.sig) → Buf (Elt Ideal) ℓ) (g : Dev Cert.GmInDwRefIdeal.nD → PrngReg), Pre_GmInDwRefIdeal m →
    θ_run (Cert.GmInDwRefIdeal.defs (F := Ideal)) (onTc (τ := Cert.GmInDwRefIdeal.τ) (Cert.GmInDwRefIdeal.main (F := Ideal))) ⟨m, fun _ => 0, g⟩ (fun r => (∀ c : Dev Cert.GmInDwRefIdeal.nD,
      r.2.mem ((c.tc : Thread Cert.GmInDwRefIdeal.nD Cert.GmInDwRefIdeal.τ).loc Cert.GmInDwRefIdeal.main_arg0) = m ((c.tc : Thread Cert.GmInDwRefIdeal.nD Cert.GmInDwRefIdeal.τ).loc Cert.GmInDwRefIdeal.main_arg0)
      ∧ r.2.mem ((c.tc : Thread Cert.GmInDwRefIdeal.nD Cert.GmInDwRefIdeal.τ).loc Cert.GmInDwRefIdeal.main_arg1) = m ((c.tc : Thread Cert.GmInDwRefIdeal.nD Cert.GmInDwRefIdeal.τ).loc Cert.GmInDwRefIdeal.main_arg1))
      ∧ r.2.sem = fun _ => 0)

def quiescent_GmInDx [hGmInDx : Cert.GmInDx.Facts] : Prop :=
  ∀ (m : (ℓ : Loc Cert.GmInDx.nD Cert.GmInDx.τ Cert.GmInDx.sig) → Buf (Elt Bits) ℓ) (g : Dev Cert.GmInDx.nD → PrngReg), Pre_GmInDx m →
    θ_run (Cert.GmInDx.defs (F := Bits)) (onTc (τ := Cert.GmInDx.τ) (Cert.GmInDx.main (F := Bits))) ⟨m, fun _ => 0, g⟩ (fun r => (∀ c : Dev Cert.GmInDx.nD,
      r.2.mem ((c.tc : Thread Cert.GmInDx.nD Cert.GmInDx.τ).loc Cert.GmInDx.main_arg0) = m ((c.tc : Thread Cert.GmInDx.nD Cert.GmInDx.τ).loc Cert.GmInDx.main_arg0)
      ∧ r.2.mem ((c.tc : Thread Cert.GmInDx.nD Cert.GmInDx.τ).loc Cert.GmInDx.main_arg1) = m ((c.tc : Thread Cert.GmInDx.nD Cert.GmInDx.τ).loc Cert.GmInDx.main_arg1))
      ∧ r.2.sem = fun _ => 0)

def quiescent_GmInDxIdeal [hGmInDxIdeal : Cert.GmInDxIdeal.Facts] : Prop :=
  ∀ (m : (ℓ : Loc Cert.GmInDxIdeal.nD Cert.GmInDxIdeal.τ Cert.GmInDxIdeal.sig) → Buf (Elt Ideal) ℓ) (g : Dev Cert.GmInDxIdeal.nD → PrngReg), Pre_GmInDxIdeal m →
    θ_run (Cert.GmInDxIdeal.defs (F := Ideal)) (onTc (τ := Cert.GmInDxIdeal.τ) (Cert.GmInDxIdeal.main (F := Ideal))) ⟨m, fun _ => 0, g⟩ (fun r => (∀ c : Dev Cert.GmInDxIdeal.nD,
      r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
      ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1))
      ∧ r.2.sem = fun _ => 0)

def quiescent_GmInDxRefIdeal [hGmInDxRefIdeal : Cert.GmInDxRefIdeal.Facts] : Prop :=
  ∀ (m : (ℓ : Loc Cert.GmInDxRefIdeal.nD Cert.GmInDxRefIdeal.τ Cert.GmInDxRefIdeal.sig) → Buf (Elt Ideal) ℓ) (g : Dev Cert.GmInDxRefIdeal.nD → PrngReg), Pre_GmInDxRefIdeal m →
    θ_run (Cert.GmInDxRefIdeal.defs (F := Ideal)) (onTc (τ := Cert.GmInDxRefIdeal.τ) (Cert.GmInDxRefIdeal.main (F := Ideal))) ⟨m, fun _ => 0, g⟩ (fun r => (∀ c : Dev Cert.GmInDxRefIdeal.nD,
      r.2.mem ((c.tc : Thread Cert.GmInDxRefIdeal.nD Cert.GmInDxRefIdeal.τ).loc Cert.GmInDxRefIdeal.main_arg0) = m ((c.tc : Thread Cert.GmInDxRefIdeal.nD Cert.GmInDxRefIdeal.τ).loc Cert.GmInDxRefIdeal.main_arg0)
      ∧ r.2.mem ((c.tc : Thread Cert.GmInDxRefIdeal.nD Cert.GmInDxRefIdeal.τ).loc Cert.GmInDxRefIdeal.main_arg1) = m ((c.tc : Thread Cert.GmInDxRefIdeal.nD Cert.GmInDxRefIdeal.τ).loc Cert.GmInDxRefIdeal.main_arg1))
      ∧ r.2.sem = fun _ => 0)

def quiescent_ArInLat [hArInLat : Cert.ArInLat.Facts] : Prop :=
  ∀ (m : (ℓ : Loc Cert.ArInLat.nD Cert.ArInLat.τ Cert.ArInLat.sig) → Buf (Elt Bits) ℓ) (g : Dev Cert.ArInLat.nD → PrngReg), Pre_ArInLat m →
    θ_run (Cert.ArInLat.defs (F := Bits)) (onTc (τ := Cert.ArInLat.τ) (Cert.ArInLat.main (F := Bits))) ⟨m, fun _ => 0, g⟩ (fun r => (∀ c : Dev Cert.ArInLat.nD,
      r.2.mem ((c.tc : Thread Cert.ArInLat.nD Cert.ArInLat.τ).loc Cert.ArInLat.main_arg0) = m ((c.tc : Thread Cert.ArInLat.nD Cert.ArInLat.τ).loc Cert.ArInLat.main_arg0)
      ∧ r.2.mem ((c.tc : Thread Cert.ArInLat.nD Cert.ArInLat.τ).loc Cert.ArInLat.main_arg1) = m ((c.tc : Thread Cert.ArInLat.nD Cert.ArInLat.τ).loc Cert.ArInLat.main_arg1))
      ∧ r.2.sem = fun _ => 0)

def quiescent_ArInLatIdeal [hArInLatIdeal : Cert.ArInLatIdeal.Facts] : Prop :=
  ∀ (m : (ℓ : Loc Cert.ArInLatIdeal.nD Cert.ArInLatIdeal.τ Cert.ArInLatIdeal.sig) → Buf (Elt Ideal) ℓ) (g : Dev Cert.ArInLatIdeal.nD → PrngReg), Pre_ArInLatIdeal m →
    θ_run (Cert.ArInLatIdeal.defs (F := Ideal)) (onTc (τ := Cert.ArInLatIdeal.τ) (Cert.ArInLatIdeal.main (F := Ideal))) ⟨m, fun _ => 0, g⟩ (fun r => (∀ c : Dev Cert.ArInLatIdeal.nD,
      r.2.mem ((c.tc : Thread Cert.ArInLatIdeal.nD Cert.ArInLatIdeal.τ).loc Cert.ArInLatIdeal.main_arg0) = m ((c.tc : Thread Cert.ArInLatIdeal.nD Cert.ArInLatIdeal.τ).loc Cert.ArInLatIdeal.main_arg0)
      ∧ r.2.mem ((c.tc : Thread Cert.ArInLatIdeal.nD Cert.ArInLatIdeal.τ).loc Cert.ArInLatIdeal.main_arg1) = m ((c.tc : Thread Cert.ArInLatIdeal.nD Cert.ArInLatIdeal.τ).loc Cert.ArInLatIdeal.main_arg1))
      ∧ r.2.sem = fun _ => 0)

def quiescent_ArInLatRefIdeal [hArInLatRefIdeal : Cert.ArInLatRefIdeal.Facts] : Prop :=
  ∀ (m : (ℓ : Loc Cert.ArInLatRefIdeal.nD Cert.ArInLatRefIdeal.τ Cert.ArInLatRefIdeal.sig) → Buf (Elt Ideal) ℓ) (g : Dev Cert.ArInLatRefIdeal.nD → PrngReg), Pre_ArInLatRefIdeal m →
    θ_run (Cert.ArInLatRefIdeal.defs (F := Ideal)) (onTc (τ := Cert.ArInLatRefIdeal.τ) (Cert.ArInLatRefIdeal.main (F := Ideal))) ⟨m, fun _ => 0, g⟩ (fun r => (∀ c : Dev Cert.ArInLatRefIdeal.nD,
      r.2.mem ((c.tc : Thread Cert.ArInLatRefIdeal.nD Cert.ArInLatRefIdeal.τ).loc Cert.ArInLatRefIdeal.main_arg0) = m ((c.tc : Thread Cert.ArInLatRefIdeal.nD Cert.ArInLatRefIdeal.τ).loc Cert.ArInLatRefIdeal.main_arg0)
      ∧ r.2.mem ((c.tc : Thread Cert.ArInLatRefIdeal.nD Cert.ArInLatRefIdeal.τ).loc Cert.ArInLatRefIdeal.main_arg1) = m ((c.tc : Thread Cert.ArInLatRefIdeal.nD Cert.ArInLatRefIdeal.τ).loc Cert.ArInLatRefIdeal.main_arg1))
      ∧ r.2.sem = fun _ => 0)

def quiescent_ArInCtx [hArInCtx : Cert.ArInCtx.Facts] : Prop :=
  ∀ (m : (ℓ : Loc Cert.ArInCtx.nD Cert.ArInCtx.τ Cert.ArInCtx.sig) → Buf (Elt Bits) ℓ) (g : Dev Cert.ArInCtx.nD → PrngReg), Pre_ArInCtx m →
    θ_run (Cert.ArInCtx.defs (F := Bits)) (onTc (τ := Cert.ArInCtx.τ) (Cert.ArInCtx.main (F := Bits))) ⟨m, fun _ => 0, g⟩ (fun r => (∀ c : Dev Cert.ArInCtx.nD,
      r.2.mem ((c.tc : Thread Cert.ArInCtx.nD Cert.ArInCtx.τ).loc Cert.ArInCtx.main_arg0) = m ((c.tc : Thread Cert.ArInCtx.nD Cert.ArInCtx.τ).loc Cert.ArInCtx.main_arg0)
      ∧ r.2.mem ((c.tc : Thread Cert.ArInCtx.nD Cert.ArInCtx.τ).loc Cert.ArInCtx.main_arg1) = m ((c.tc : Thread Cert.ArInCtx.nD Cert.ArInCtx.τ).loc Cert.ArInCtx.main_arg1))
      ∧ r.2.sem = fun _ => 0)

def quiescent_ArInCtxIdeal [hArInCtxIdeal : Cert.ArInCtxIdeal.Facts] : Prop :=
  ∀ (m : (ℓ : Loc Cert.ArInCtxIdeal.nD Cert.ArInCtxIdeal.τ Cert.ArInCtxIdeal.sig) → Buf (Elt Ideal) ℓ) (g : Dev Cert.ArInCtxIdeal.nD → PrngReg), Pre_ArInCtxIdeal m →
    θ_run (Cert.ArInCtxIdeal.defs (F := Ideal)) (onTc (τ := Cert.ArInCtxIdeal.τ) (Cert.ArInCtxIdeal.main (F := Ideal))) ⟨m, fun _ => 0, g⟩ (fun r => (∀ c : Dev Cert.ArInCtxIdeal.nD,
      r.2.mem ((c.tc : Thread Cert.ArInCtxIdeal.nD Cert.ArInCtxIdeal.τ).loc Cert.ArInCtxIdeal.main_arg0) = m ((c.tc : Thread Cert.ArInCtxIdeal.nD Cert.ArInCtxIdeal.τ).loc Cert.ArInCtxIdeal.main_arg0)
      ∧ r.2.mem ((c.tc : Thread Cert.ArInCtxIdeal.nD Cert.ArInCtxIdeal.τ).loc Cert.ArInCtxIdeal.main_arg1) = m ((c.tc : Thread Cert.ArInCtxIdeal.nD Cert.ArInCtxIdeal.τ).loc Cert.ArInCtxIdeal.main_arg1))
      ∧ r.2.sem = fun _ => 0)

def quiescent_ArInCtxRefIdeal [hArInCtxRefIdeal : Cert.ArInCtxRefIdeal.Facts] : Prop :=
  ∀ (m : (ℓ : Loc Cert.ArInCtxRefIdeal.nD Cert.ArInCtxRefIdeal.τ Cert.ArInCtxRefIdeal.sig) → Buf (Elt Ideal) ℓ) (g : Dev Cert.ArInCtxRefIdeal.nD → PrngReg), Pre_ArInCtxRefIdeal m →
    θ_run (Cert.ArInCtxRefIdeal.defs (F := Ideal)) (onTc (τ := Cert.ArInCtxRefIdeal.τ) (Cert.ArInCtxRefIdeal.main (F := Ideal))) ⟨m, fun _ => 0, g⟩ (fun r => (∀ c : Dev Cert.ArInCtxRefIdeal.nD,
      r.2.mem ((c.tc : Thread Cert.ArInCtxRefIdeal.nD Cert.ArInCtxRefIdeal.τ).loc Cert.ArInCtxRefIdeal.main_arg0) = m ((c.tc : Thread Cert.ArInCtxRefIdeal.nD Cert.ArInCtxRefIdeal.τ).loc Cert.ArInCtxRefIdeal.main_arg0)
      ∧ r.2.mem ((c.tc : Thread Cert.ArInCtxRefIdeal.nD Cert.ArInCtxRefIdeal.τ).loc Cert.ArInCtxRefIdeal.main_arg1) = m ((c.tc : Thread Cert.ArInCtxRefIdeal.nD Cert.ArInCtxRefIdeal.τ).loc Cert.ArInCtxRefIdeal.main_arg1))
      ∧ r.2.sem = fun _ => 0)

def quiescent_ArInDw [hArInDw : Cert.ArInDw.Facts] : Prop :=
  ∀ (m : (ℓ : Loc Cert.ArInDw.nD Cert.ArInDw.τ Cert.ArInDw.sig) → Buf (Elt Bits) ℓ) (g : Dev Cert.ArInDw.nD → PrngReg), Pre_ArInDw m →
    θ_run (Cert.ArInDw.defs (F := Bits)) (onTc (τ := Cert.ArInDw.τ) (Cert.ArInDw.main (F := Bits))) ⟨m, fun _ => 0, g⟩ (fun r => (∀ c : Dev Cert.ArInDw.nD,
      r.2.mem ((c.tc : Thread Cert.ArInDw.nD Cert.ArInDw.τ).loc Cert.ArInDw.main_arg0) = m ((c.tc : Thread Cert.ArInDw.nD Cert.ArInDw.τ).loc Cert.ArInDw.main_arg0)
      ∧ r.2.mem ((c.tc : Thread Cert.ArInDw.nD Cert.ArInDw.τ).loc Cert.ArInDw.main_arg1) = m ((c.tc : Thread Cert.ArInDw.nD Cert.ArInDw.τ).loc Cert.ArInDw.main_arg1))
      ∧ r.2.sem = fun _ => 0)

def quiescent_ArInDwIdeal [hArInDwIdeal : Cert.ArInDwIdeal.Facts] : Prop :=
  ∀ (m : (ℓ : Loc Cert.ArInDwIdeal.nD Cert.ArInDwIdeal.τ Cert.ArInDwIdeal.sig) → Buf (Elt Ideal) ℓ) (g : Dev Cert.ArInDwIdeal.nD → PrngReg), Pre_ArInDwIdeal m →
    θ_run (Cert.ArInDwIdeal.defs (F := Ideal)) (onTc (τ := Cert.ArInDwIdeal.τ) (Cert.ArInDwIdeal.main (F := Ideal))) ⟨m, fun _ => 0, g⟩ (fun r => (∀ c : Dev Cert.ArInDwIdeal.nD,
      r.2.mem ((c.tc : Thread Cert.ArInDwIdeal.nD Cert.ArInDwIdeal.τ).loc Cert.ArInDwIdeal.main_arg0) = m ((c.tc : Thread Cert.ArInDwIdeal.nD Cert.ArInDwIdeal.τ).loc Cert.ArInDwIdeal.main_arg0)
      ∧ r.2.mem ((c.tc : Thread Cert.ArInDwIdeal.nD Cert.ArInDwIdeal.τ).loc Cert.ArInDwIdeal.main_arg1) = m ((c.tc : Thread Cert.ArInDwIdeal.nD Cert.ArInDwIdeal.τ).loc Cert.ArInDwIdeal.main_arg1))
      ∧ r.2.sem = fun _ => 0)

def quiescent_ArInDwRefIdeal [hArInDwRefIdeal : Cert.ArInDwRefIdeal.Facts] : Prop :=
  ∀ (m : (ℓ : Loc Cert.ArInDwRefIdeal.nD Cert.ArInDwRefIdeal.τ Cert.ArInDwRefIdeal.sig) → Buf (Elt Ideal) ℓ) (g : Dev Cert.ArInDwRefIdeal.nD → PrngReg), Pre_ArInDwRefIdeal m →
    θ_run (Cert.ArInDwRefIdeal.defs (F := Ideal)) (onTc (τ := Cert.ArInDwRefIdeal.τ) (Cert.ArInDwRefIdeal.main (F := Ideal))) ⟨m, fun _ => 0, g⟩ (fun r => (∀ c : Dev Cert.ArInDwRefIdeal.nD,
      r.2.mem ((c.tc : Thread Cert.ArInDwRefIdeal.nD Cert.ArInDwRefIdeal.τ).loc Cert.ArInDwRefIdeal.main_arg0) = m ((c.tc : Thread Cert.ArInDwRefIdeal.nD Cert.ArInDwRefIdeal.τ).loc Cert.ArInDwRefIdeal.main_arg0)
      ∧ r.2.mem ((c.tc : Thread Cert.ArInDwRefIdeal.nD Cert.ArInDwRefIdeal.τ).loc Cert.ArInDwRefIdeal.main_arg1) = m ((c.tc : Thread Cert.ArInDwRefIdeal.nD Cert.ArInDwRefIdeal.τ).loc Cert.ArInDwRefIdeal.main_arg1))
      ∧ r.2.sem = fun _ => 0)

def quiescent_ArInDxLat [hArInDxLat : Cert.ArInDxLat.Facts] : Prop :=
  ∀ (m : (ℓ : Loc Cert.ArInDxLat.nD Cert.ArInDxLat.τ Cert.ArInDxLat.sig) → Buf (Elt Bits) ℓ) (g : Dev Cert.ArInDxLat.nD → PrngReg), Pre_ArInDxLat m →
    θ_run (Cert.ArInDxLat.defs (F := Bits)) (onTc (τ := Cert.ArInDxLat.τ) (Cert.ArInDxLat.main (F := Bits))) ⟨m, fun _ => 0, g⟩ (fun r => (∀ c : Dev Cert.ArInDxLat.nD,
      r.2.mem ((c.tc : Thread Cert.ArInDxLat.nD Cert.ArInDxLat.τ).loc Cert.ArInDxLat.main_arg0) = m ((c.tc : Thread Cert.ArInDxLat.nD Cert.ArInDxLat.τ).loc Cert.ArInDxLat.main_arg0)
      ∧ r.2.mem ((c.tc : Thread Cert.ArInDxLat.nD Cert.ArInDxLat.τ).loc Cert.ArInDxLat.main_arg1) = m ((c.tc : Thread Cert.ArInDxLat.nD Cert.ArInDxLat.τ).loc Cert.ArInDxLat.main_arg1))
      ∧ r.2.sem = fun _ => 0)

def quiescent_ArInDxLatIdeal [hArInDxLatIdeal : Cert.ArInDxLatIdeal.Facts] : Prop :=
  ∀ (m : (ℓ : Loc Cert.ArInDxLatIdeal.nD Cert.ArInDxLatIdeal.τ Cert.ArInDxLatIdeal.sig) → Buf (Elt Ideal) ℓ) (g : Dev Cert.ArInDxLatIdeal.nD → PrngReg), Pre_ArInDxLatIdeal m →
    θ_run (Cert.ArInDxLatIdeal.defs (F := Ideal)) (onTc (τ := Cert.ArInDxLatIdeal.τ) (Cert.ArInDxLatIdeal.main (F := Ideal))) ⟨m, fun _ => 0, g⟩ (fun r => (∀ c : Dev Cert.ArInDxLatIdeal.nD,
      r.2.mem ((c.tc : Thread Cert.ArInDxLatIdeal.nD Cert.ArInDxLatIdeal.τ).loc Cert.ArInDxLatIdeal.main_arg0) = m ((c.tc : Thread Cert.ArInDxLatIdeal.nD Cert.ArInDxLatIdeal.τ).loc Cert.ArInDxLatIdeal.main_arg0)
      ∧ r.2.mem ((c.tc : Thread Cert.ArInDxLatIdeal.nD Cert.ArInDxLatIdeal.τ).loc Cert.ArInDxLatIdeal.main_arg1) = m ((c.tc : Thread Cert.ArInDxLatIdeal.nD Cert.ArInDxLatIdeal.τ).loc Cert.ArInDxLatIdeal.main_arg1))
      ∧ r.2.sem = fun _ => 0)

def quiescent_ArInDxLatRefIdeal [hArInDxLatRefIdeal : Cert.ArInDxLatRefIdeal.Facts] : Prop :=
  ∀ (m : (ℓ : Loc Cert.ArInDxLatRefIdeal.nD Cert.ArInDxLatRefIdeal.τ Cert.ArInDxLatRefIdeal.sig) → Buf (Elt Ideal) ℓ) (g : Dev Cert.ArInDxLatRefIdeal.nD → PrngReg), Pre_ArInDxLatRefIdeal m →
    θ_run (Cert.ArInDxLatRefIdeal.defs (F := Ideal)) (onTc (τ := Cert.ArInDxLatRefIdeal.τ) (Cert.ArInDxLatRefIdeal.main (F := Ideal))) ⟨m, fun _ => 0, g⟩ (fun r => (∀ c : Dev Cert.ArInDxLatRefIdeal.nD,
      r.2.mem ((c.tc : Thread Cert.ArInDxLatRefIdeal.nD Cert.ArInDxLatRefIdeal.τ).loc Cert.ArInDxLatRefIdeal.main_arg0) = m ((c.tc : Thread Cert.ArInDxLatRefIdeal.nD Cert.ArInDxLatRefIdeal.τ).loc Cert.ArInDxLatRefIdeal.main_arg0)
      ∧ r.2.mem ((c.tc : Thread Cert.ArInDxLatRefIdeal.nD Cert.ArInDxLatRefIdeal.τ).loc Cert.ArInDxLatRefIdeal.main_arg1) = m ((c.tc : Thread Cert.ArInDxLatRefIdeal.nD Cert.ArInDxLatRefIdeal.τ).loc Cert.ArInDxLatRefIdeal.main_arg1))
      ∧ r.2.sem = fun _ => 0)

def quiescent_ArInDxCtx [hArInDxCtx : Cert.ArInDxCtx.Facts] : Prop :=
  ∀ (m : (ℓ : Loc Cert.ArInDxCtx.nD Cert.ArInDxCtx.τ Cert.ArInDxCtx.sig) → Buf (Elt Bits) ℓ) (g : Dev Cert.ArInDxCtx.nD → PrngReg), Pre_ArInDxCtx m →
    θ_run (Cert.ArInDxCtx.defs (F := Bits)) (onTc (τ := Cert.ArInDxCtx.τ) (Cert.ArInDxCtx.main (F := Bits))) ⟨m, fun _ => 0, g⟩ (fun r => (∀ c : Dev Cert.ArInDxCtx.nD,
      r.2.mem ((c.tc : Thread Cert.ArInDxCtx.nD Cert.ArInDxCtx.τ).loc Cert.ArInDxCtx.main_arg0) = m ((c.tc : Thread Cert.ArInDxCtx.nD Cert.ArInDxCtx.τ).loc Cert.ArInDxCtx.main_arg0)
      ∧ r.2.mem ((c.tc : Thread Cert.ArInDxCtx.nD Cert.ArInDxCtx.τ).loc Cert.ArInDxCtx.main_arg1) = m ((c.tc : Thread Cert.ArInDxCtx.nD Cert.ArInDxCtx.τ).loc Cert.ArInDxCtx.main_arg1))
      ∧ r.2.sem = fun _ => 0)

def quiescent_ArInDxCtxIdeal [hArInDxCtxIdeal : Cert.ArInDxCtxIdeal.Facts] : Prop :=
  ∀ (m : (ℓ : Loc Cert.ArInDxCtxIdeal.nD Cert.ArInDxCtxIdeal.τ Cert.ArInDxCtxIdeal.sig) → Buf (Elt Ideal) ℓ) (g : Dev Cert.ArInDxCtxIdeal.nD → PrngReg), Pre_ArInDxCtxIdeal m →
    θ_run (Cert.ArInDxCtxIdeal.defs (F := Ideal)) (onTc (τ := Cert.ArInDxCtxIdeal.τ) (Cert.ArInDxCtxIdeal.main (F := Ideal))) ⟨m, fun _ => 0, g⟩ (fun r => (∀ c : Dev Cert.ArInDxCtxIdeal.nD,
      r.2.mem ((c.tc : Thread Cert.ArInDxCtxIdeal.nD Cert.ArInDxCtxIdeal.τ).loc Cert.ArInDxCtxIdeal.main_arg0) = m ((c.tc : Thread Cert.ArInDxCtxIdeal.nD Cert.ArInDxCtxIdeal.τ).loc Cert.ArInDxCtxIdeal.main_arg0)
      ∧ r.2.mem ((c.tc : Thread Cert.ArInDxCtxIdeal.nD Cert.ArInDxCtxIdeal.τ).loc Cert.ArInDxCtxIdeal.main_arg1) = m ((c.tc : Thread Cert.ArInDxCtxIdeal.nD Cert.ArInDxCtxIdeal.τ).loc Cert.ArInDxCtxIdeal.main_arg1))
      ∧ r.2.sem = fun _ => 0)

def quiescent_ArInDxCtxRefIdeal [hArInDxCtxRefIdeal : Cert.ArInDxCtxRefIdeal.Facts] : Prop :=
  ∀ (m : (ℓ : Loc Cert.ArInDxCtxRefIdeal.nD Cert.ArInDxCtxRefIdeal.τ Cert.ArInDxCtxRefIdeal.sig) → Buf (Elt Ideal) ℓ) (g : Dev Cert.ArInDxCtxRefIdeal.nD → PrngReg), Pre_ArInDxCtxRefIdeal m →
    θ_run (Cert.ArInDxCtxRefIdeal.defs (F := Ideal)) (onTc (τ := Cert.ArInDxCtxRefIdeal.τ) (Cert.ArInDxCtxRefIdeal.main (F := Ideal))) ⟨m, fun _ => 0, g⟩ (fun r => (∀ c : Dev Cert.ArInDxCtxRefIdeal.nD,
      r.2.mem ((c.tc : Thread Cert.ArInDxCtxRefIdeal.nD Cert.ArInDxCtxRefIdeal.τ).loc Cert.ArInDxCtxRefIdeal.main_arg0) = m ((c.tc : Thread Cert.ArInDxCtxRefIdeal.nD Cert.ArInDxCtxRefIdeal.τ).loc Cert.ArInDxCtxRefIdeal.main_arg0)
      ∧ r.2.mem ((c.tc : Thread Cert.ArInDxCtxRefIdeal.nD Cert.ArInDxCtxRefIdeal.τ).loc Cert.ArInDxCtxRefIdeal.main_arg1) = m ((c.tc : Thread Cert.ArInDxCtxRefIdeal.nD Cert.ArInDxCtxRefIdeal.τ).loc Cert.ArInDxCtxRefIdeal.main_arg1))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3)
      ∧ r.2.mem ((c.tc : Thread Cert.ModBwd.nD Cert.ModBwd.τ).loc Cert.ModBwd.main_arg4) = m ((c.tc : Thread Cert.ModBwd.nD Cert.ModBwd.τ).loc Cert.ModBwd.main_arg4))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
      ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2)
      ∧ r.2.mem ((c.tc : Thread Cert.ModBwdRefIdeal.nD Cert.ModBwdRefIdeal.τ).loc Cert.ModBwdRefIdeal.main_arg3) = m ((c.tc : Thread Cert.ModBwdRefIdeal.nD Cert.ModBwdRefIdeal.τ).loc Cert.ModBwdRefIdeal.main_arg3)
      ∧ r.2.mem ((c.tc : Thread Cert.ModBwdRefIdeal.nD Cert.ModBwdRefIdeal.τ).loc Cert.ModBwdRefIdeal.main_arg4) = m ((c.tc : Thread Cert.ModBwdRefIdeal.nD Cert.ModBwdRefIdeal.τ).loc Cert.ModBwdRefIdeal.main_arg4))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamCtx [hAdamCtx : Cert.AdamCtx.Facts] : Prop :=
  ∀ (m : (ℓ : Loc Cert.AdamCtx.nD Cert.AdamCtx.τ Cert.AdamCtx.sig) → Buf (Elt Bits) ℓ) (g : Dev Cert.AdamCtx.nD → PrngReg), Pre_AdamCtx m →
    θ_run (Cert.AdamCtx.defs (F := Bits)) (onTc (τ := Cert.AdamCtx.τ) (Cert.AdamCtx.main (F := Bits))) ⟨m, fun _ => 0, g⟩ (fun r => (∀ c : Dev Cert.AdamCtx.nD,
      r.2.mem ((c.tc : Thread Cert.AdamCtx.nD Cert.AdamCtx.τ).loc Cert.AdamCtx.main_arg0) = m ((c.tc : Thread Cert.AdamCtx.nD Cert.AdamCtx.τ).loc Cert.AdamCtx.main_arg0)
      ∧ r.2.mem ((c.tc : Thread Cert.AdamCtx.nD Cert.AdamCtx.τ).loc Cert.AdamCtx.main_arg1) = m ((c.tc : Thread Cert.AdamCtx.nD Cert.AdamCtx.τ).loc Cert.AdamCtx.main_arg1)
      ∧ r.2.mem ((c.tc : Thread Cert.AdamCtx.nD Cert.AdamCtx.τ).loc Cert.AdamCtx.main_arg2) = m ((c.tc : Thread Cert.AdamCtx.nD Cert.AdamCtx.τ).loc Cert.AdamCtx.main_arg2)
      ∧ r.2.mem ((c.tc : Thread Cert.AdamCtx.nD Cert.AdamCtx.τ).loc Cert.AdamCtx.main_arg3) = m ((c.tc : Thread Cert.AdamCtx.nD Cert.AdamCtx.τ).loc Cert.AdamCtx.main_arg3))
      ∧ r.2.sem = fun _ => 0)

def quiescent_AdamCtxIdeal [hAdamCtxIdeal : Cert.AdamCtxIdeal.Facts] : Prop :=
  ∀ (m : (ℓ : Loc Cert.AdamCtxIdeal.nD Cert.AdamCtxIdeal.τ Cert.AdamCtxIdeal.sig) → Buf (Elt Ideal) ℓ) (g : Dev Cert.AdamCtxIdeal.nD → PrngReg), Pre_AdamCtxIdeal m →
    θ_run (Cert.AdamCtxIdeal.defs (F := Ideal)) (onTc (τ := Cert.AdamCtxIdeal.τ) (Cert.AdamCtxIdeal.main (F := Ideal))) ⟨m, fun _ => 0, g⟩ (fun r => (∀ c : Dev Cert.AdamCtxIdeal.nD,
      r.2.mem ((c.tc : Thread Cert.AdamCtxIdeal.nD Cert.AdamCtxIdeal.τ).loc Cert.AdamCtxIdeal.main_arg0) = m ((c.tc : Thread Cert.AdamCtxIdeal.nD Cert.AdamCtxIdeal.τ).loc Cert.AdamCtxIdeal.main_arg0)
      ∧ r.2.mem ((c.tc : Thread Cert.AdamCtxIdeal.nD Cert.AdamCtxIdeal.τ).loc Cert.AdamCtxIdeal.main_arg1) = m ((c.tc : Thread Cert.AdamCtxIdeal.nD Cert.AdamCtxIdeal.τ).loc Cert.AdamCtxIdeal.main_arg1)
      ∧ r.2.mem ((c.tc : Thread Cert.AdamCtxIdeal.nD Cert.AdamCtxIdeal.τ).loc Cert.AdamCtxIdeal.main_arg2) = m ((c.tc : Thread Cert.AdamCtxIdeal.nD Cert.AdamCtxIdeal.τ).loc Cert.AdamCtxIdeal.main_arg2)
      ∧ r.2.mem ((c.tc : Thread Cert.AdamCtxIdeal.nD Cert.AdamCtxIdeal.τ).loc Cert.AdamCtxIdeal.main_arg3) = m ((c.tc : Thread Cert.AdamCtxIdeal.nD Cert.AdamCtxIdeal.τ).loc Cert.AdamCtxIdeal.main_arg3))
      ∧ r.2.sem = fun _ => 0)

def quiescent_AdamCtxRefIdeal [hAdamCtxRefIdeal : Cert.AdamCtxRefIdeal.Facts] : Prop :=
  ∀ (m : (ℓ : Loc Cert.AdamCtxRefIdeal.nD Cert.AdamCtxRefIdeal.τ Cert.AdamCtxRefIdeal.sig) → Buf (Elt Ideal) ℓ) (g : Dev Cert.AdamCtxRefIdeal.nD → PrngReg), Pre_AdamCtxRefIdeal m →
    θ_run (Cert.AdamCtxRefIdeal.defs (F := Ideal)) (onTc (τ := Cert.AdamCtxRefIdeal.τ) (Cert.AdamCtxRefIdeal.main (F := Ideal))) ⟨m, fun _ => 0, g⟩ (fun r => (∀ c : Dev Cert.AdamCtxRefIdeal.nD,
      r.2.mem ((c.tc : Thread Cert.AdamCtxRefIdeal.nD Cert.AdamCtxRefIdeal.τ).loc Cert.AdamCtxRefIdeal.main_arg0) = m ((c.tc : Thread Cert.AdamCtxRefIdeal.nD Cert.AdamCtxRefIdeal.τ).loc Cert.AdamCtxRefIdeal.main_arg0)
      ∧ r.2.mem ((c.tc : Thread Cert.AdamCtxRefIdeal.nD Cert.AdamCtxRefIdeal.τ).loc Cert.AdamCtxRefIdeal.main_arg1) = m ((c.tc : Thread Cert.AdamCtxRefIdeal.nD Cert.AdamCtxRefIdeal.τ).loc Cert.AdamCtxRefIdeal.main_arg1)
      ∧ r.2.mem ((c.tc : Thread Cert.AdamCtxRefIdeal.nD Cert.AdamCtxRefIdeal.τ).loc Cert.AdamCtxRefIdeal.main_arg2) = m ((c.tc : Thread Cert.AdamCtxRefIdeal.nD Cert.AdamCtxRefIdeal.τ).loc Cert.AdamCtxRefIdeal.main_arg2)
      ∧ r.2.mem ((c.tc : Thread Cert.AdamCtxRefIdeal.nD Cert.AdamCtxRefIdeal.τ).loc Cert.AdamCtxRefIdeal.main_arg3) = m ((c.tc : Thread Cert.AdamCtxRefIdeal.nD Cert.AdamCtxRefIdeal.τ).loc Cert.AdamCtxRefIdeal.main_arg3))
      ∧ r.2.sem = fun _ => 0)

def quiescent_AdamBMod [hAdamBMod : Cert.AdamBMod.Facts] : Prop :=
  ∀ (m : (ℓ : Loc Cert.AdamBMod.nD Cert.AdamBMod.τ Cert.AdamBMod.sig) → Buf (Elt Bits) ℓ) (g : Dev Cert.AdamBMod.nD → PrngReg), Pre_AdamBMod m →
    θ_run (Cert.AdamBMod.defs (F := Bits)) (onTc (τ := Cert.AdamBMod.τ) (Cert.AdamBMod.main (F := Bits))) ⟨m, fun _ => 0, g⟩ (fun r => (∀ c : Dev Cert.AdamBMod.nD,
      r.2.mem ((c.tc : Thread Cert.AdamBMod.nD Cert.AdamBMod.τ).loc Cert.AdamBMod.main_arg0) = m ((c.tc : Thread Cert.AdamBMod.nD Cert.AdamBMod.τ).loc Cert.AdamBMod.main_arg0)
      ∧ r.2.mem ((c.tc : Thread Cert.AdamBMod.nD Cert.AdamBMod.τ).loc Cert.AdamBMod.main_arg1) = m ((c.tc : Thread Cert.AdamBMod.nD Cert.AdamBMod.τ).loc Cert.AdamBMod.main_arg1)
      ∧ r.2.mem ((c.tc : Thread Cert.AdamBMod.nD Cert.AdamBMod.τ).loc Cert.AdamBMod.main_arg2) = m ((c.tc : Thread Cert.AdamBMod.nD Cert.AdamBMod.τ).loc Cert.AdamBMod.main_arg2)
      ∧ r.2.mem ((c.tc : Thread Cert.AdamBMod.nD Cert.AdamBMod.τ).loc Cert.AdamBMod.main_arg3) = m ((c.tc : Thread Cert.AdamBMod.nD Cert.AdamBMod.τ).loc Cert.AdamBMod.main_arg3))
      ∧ r.2.sem = fun _ => 0)

def quiescent_AdamBModIdeal [hAdamBModIdeal : Cert.AdamBModIdeal.Facts] : Prop :=
  ∀ (m : (ℓ : Loc Cert.AdamBModIdeal.nD Cert.AdamBModIdeal.τ Cert.AdamBModIdeal.sig) → Buf (Elt Ideal) ℓ) (g : Dev Cert.AdamBModIdeal.nD → PrngReg), Pre_AdamBModIdeal m →
    θ_run (Cert.AdamBModIdeal.defs (F := Ideal)) (onTc (τ := Cert.AdamBModIdeal.τ) (Cert.AdamBModIdeal.main (F := Ideal))) ⟨m, fun _ => 0, g⟩ (fun r => (∀ c : Dev Cert.AdamBModIdeal.nD,
      r.2.mem ((c.tc : Thread Cert.AdamBModIdeal.nD Cert.AdamBModIdeal.τ).loc Cert.AdamBModIdeal.main_arg0) = m ((c.tc : Thread Cert.AdamBModIdeal.nD Cert.AdamBModIdeal.τ).loc Cert.AdamBModIdeal.main_arg0)
      ∧ r.2.mem ((c.tc : Thread Cert.AdamBModIdeal.nD Cert.AdamBModIdeal.τ).loc Cert.AdamBModIdeal.main_arg1) = m ((c.tc : Thread Cert.AdamBModIdeal.nD Cert.AdamBModIdeal.τ).loc Cert.AdamBModIdeal.main_arg1)
      ∧ r.2.mem ((c.tc : Thread Cert.AdamBModIdeal.nD Cert.AdamBModIdeal.τ).loc Cert.AdamBModIdeal.main_arg2) = m ((c.tc : Thread Cert.AdamBModIdeal.nD Cert.AdamBModIdeal.τ).loc Cert.AdamBModIdeal.main_arg2)
      ∧ r.2.mem ((c.tc : Thread Cert.AdamBModIdeal.nD Cert.AdamBModIdeal.τ).loc Cert.AdamBModIdeal.main_arg3) = m ((c.tc : Thread Cert.AdamBModIdeal.nD Cert.AdamBModIdeal.τ).loc Cert.AdamBModIdeal.main_arg3))
      ∧ r.2.sem = fun _ => 0)

def quiescent_AdamBModRefIdeal [hAdamBModRefIdeal : Cert.AdamBModRefIdeal.Facts] : Prop :=
  ∀ (m : (ℓ : Loc Cert.AdamBModRefIdeal.nD Cert.AdamBModRefIdeal.τ Cert.AdamBModRefIdeal.sig) → Buf (Elt Ideal) ℓ) (g : Dev Cert.AdamBModRefIdeal.nD → PrngReg), Pre_AdamBModRefIdeal m →
    θ_run (Cert.AdamBModRefIdeal.defs (F := Ideal)) (onTc (τ := Cert.AdamBModRefIdeal.τ) (Cert.AdamBModRefIdeal.main (F := Ideal))) ⟨m, fun _ => 0, g⟩ (fun r => (∀ c : Dev Cert.AdamBModRefIdeal.nD,
      r.2.mem ((c.tc : Thread Cert.AdamBModRefIdeal.nD Cert.AdamBModRefIdeal.τ).loc Cert.AdamBModRefIdeal.main_arg0) = m ((c.tc : Thread Cert.AdamBModRefIdeal.nD Cert.AdamBModRefIdeal.τ).loc Cert.AdamBModRefIdeal.main_arg0)
      ∧ r.2.mem ((c.tc : Thread Cert.AdamBModRefIdeal.nD Cert.AdamBModRefIdeal.τ).loc Cert.AdamBModRefIdeal.main_arg1) = m ((c.tc : Thread Cert.AdamBModRefIdeal.nD Cert.AdamBModRefIdeal.τ).loc Cert.AdamBModRefIdeal.main_arg1)
      ∧ r.2.mem ((c.tc : Thread Cert.AdamBModRefIdeal.nD Cert.AdamBModRefIdeal.τ).loc Cert.AdamBModRefIdeal.main_arg2) = m ((c.tc : Thread Cert.AdamBModRefIdeal.nD Cert.AdamBModRefIdeal.τ).loc Cert.AdamBModRefIdeal.main_arg2)
      ∧ r.2.mem ((c.tc : Thread Cert.AdamBModRefIdeal.nD Cert.AdamBModRefIdeal.τ).loc Cert.AdamBModRefIdeal.main_arg3) = m ((c.tc : Thread Cert.AdamBModRefIdeal.nD Cert.AdamBModRefIdeal.τ).loc Cert.AdamBModRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamArIn [hAdamArIn : Cert.AdamArIn.Facts] : Prop :=
  ∀ (m : (ℓ : Loc Cert.AdamArIn.nD Cert.AdamArIn.τ Cert.AdamArIn.sig) → Buf (Elt Bits) ℓ) (g : Dev Cert.AdamArIn.nD → PrngReg), Pre_AdamArIn m →
    θ_run (Cert.AdamArIn.defs (F := Bits)) (onTc (τ := Cert.AdamArIn.τ) (Cert.AdamArIn.main (F := Bits))) ⟨m, fun _ => 0, g⟩ (fun r => (∀ c : Dev Cert.AdamArIn.nD,
      r.2.mem ((c.tc : Thread Cert.AdamArIn.nD Cert.AdamArIn.τ).loc Cert.AdamArIn.main_arg0) = m ((c.tc : Thread Cert.AdamArIn.nD Cert.AdamArIn.τ).loc Cert.AdamArIn.main_arg0)
      ∧ r.2.mem ((c.tc : Thread Cert.AdamArIn.nD Cert.AdamArIn.τ).loc Cert.AdamArIn.main_arg1) = m ((c.tc : Thread Cert.AdamArIn.nD Cert.AdamArIn.τ).loc Cert.AdamArIn.main_arg1)
      ∧ r.2.mem ((c.tc : Thread Cert.AdamArIn.nD Cert.AdamArIn.τ).loc Cert.AdamArIn.main_arg2) = m ((c.tc : Thread Cert.AdamArIn.nD Cert.AdamArIn.τ).loc Cert.AdamArIn.main_arg2)
      ∧ r.2.mem ((c.tc : Thread Cert.AdamArIn.nD Cert.AdamArIn.τ).loc Cert.AdamArIn.main_arg3) = m ((c.tc : Thread Cert.AdamArIn.nD Cert.AdamArIn.τ).loc Cert.AdamArIn.main_arg3))
      ∧ r.2.sem = fun _ => 0)

def quiescent_AdamArInIdeal [hAdamArInIdeal : Cert.AdamArInIdeal.Facts] : Prop :=
  ∀ (m : (ℓ : Loc Cert.AdamArInIdeal.nD Cert.AdamArInIdeal.τ Cert.AdamArInIdeal.sig) → Buf (Elt Ideal) ℓ) (g : Dev Cert.AdamArInIdeal.nD → PrngReg), Pre_AdamArInIdeal m →
    θ_run (Cert.AdamArInIdeal.defs (F := Ideal)) (onTc (τ := Cert.AdamArInIdeal.τ) (Cert.AdamArInIdeal.main (F := Ideal))) ⟨m, fun _ => 0, g⟩ (fun r => (∀ c : Dev Cert.AdamArInIdeal.nD,
      r.2.mem ((c.tc : Thread Cert.AdamArInIdeal.nD Cert.AdamArInIdeal.τ).loc Cert.AdamArInIdeal.main_arg0) = m ((c.tc : Thread Cert.AdamArInIdeal.nD Cert.AdamArInIdeal.τ).loc Cert.AdamArInIdeal.main_arg0)
      ∧ r.2.mem ((c.tc : Thread Cert.AdamArInIdeal.nD Cert.AdamArInIdeal.τ).loc Cert.AdamArInIdeal.main_arg1) = m ((c.tc : Thread Cert.AdamArInIdeal.nD Cert.AdamArInIdeal.τ).loc Cert.AdamArInIdeal.main_arg1)
      ∧ r.2.mem ((c.tc : Thread Cert.AdamArInIdeal.nD Cert.AdamArInIdeal.τ).loc Cert.AdamArInIdeal.main_arg2) = m ((c.tc : Thread Cert.AdamArInIdeal.nD Cert.AdamArInIdeal.τ).loc Cert.AdamArInIdeal.main_arg2)
      ∧ r.2.mem ((c.tc : Thread Cert.AdamArInIdeal.nD Cert.AdamArInIdeal.τ).loc Cert.AdamArInIdeal.main_arg3) = m ((c.tc : Thread Cert.AdamArInIdeal.nD Cert.AdamArInIdeal.τ).loc Cert.AdamArInIdeal.main_arg3))
      ∧ r.2.sem = fun _ => 0)

def quiescent_AdamArInRefIdeal [hAdamArInRefIdeal : Cert.AdamArInRefIdeal.Facts] : Prop :=
  ∀ (m : (ℓ : Loc Cert.AdamArInRefIdeal.nD Cert.AdamArInRefIdeal.τ Cert.AdamArInRefIdeal.sig) → Buf (Elt Ideal) ℓ) (g : Dev Cert.AdamArInRefIdeal.nD → PrngReg), Pre_AdamArInRefIdeal m →
    θ_run (Cert.AdamArInRefIdeal.defs (F := Ideal)) (onTc (τ := Cert.AdamArInRefIdeal.τ) (Cert.AdamArInRefIdeal.main (F := Ideal))) ⟨m, fun _ => 0, g⟩ (fun r => (∀ c : Dev Cert.AdamArInRefIdeal.nD,
      r.2.mem ((c.tc : Thread Cert.AdamArInRefIdeal.nD Cert.AdamArInRefIdeal.τ).loc Cert.AdamArInRefIdeal.main_arg0) = m ((c.tc : Thread Cert.AdamArInRefIdeal.nD Cert.AdamArInRefIdeal.τ).loc Cert.AdamArInRefIdeal.main_arg0)
      ∧ r.2.mem ((c.tc : Thread Cert.AdamArInRefIdeal.nD Cert.AdamArInRefIdeal.τ).loc Cert.AdamArInRefIdeal.main_arg1) = m ((c.tc : Thread Cert.AdamArInRefIdeal.nD Cert.AdamArInRefIdeal.τ).loc Cert.AdamArInRefIdeal.main_arg1)
      ∧ r.2.mem ((c.tc : Thread Cert.AdamArInRefIdeal.nD Cert.AdamArInRefIdeal.τ).loc Cert.AdamArInRefIdeal.main_arg2) = m ((c.tc : Thread Cert.AdamArInRefIdeal.nD Cert.AdamArInRefIdeal.τ).loc Cert.AdamArInRefIdeal.main_arg2)
      ∧ r.2.mem ((c.tc : Thread Cert.AdamArInRefIdeal.nD Cert.AdamArInRefIdeal.τ).loc Cert.AdamArInRefIdeal.main_arg3) = m ((c.tc : Thread Cert.AdamArInRefIdeal.nD Cert.AdamArInRefIdeal.τ).loc Cert.AdamArInRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGmIn [hAdamGmIn : Cert.AdamGmIn.Facts] : Prop :=
  ∀ (m : (ℓ : Loc Cert.AdamGmIn.nD Cert.AdamGmIn.τ Cert.AdamGmIn.sig) → Buf (Elt Bits) ℓ) (g : Dev Cert.AdamGmIn.nD → PrngReg), Pre_AdamGmIn m →
    θ_run (Cert.AdamGmIn.defs (F := Bits)) (onTc (τ := Cert.AdamGmIn.τ) (Cert.AdamGmIn.main (F := Bits))) ⟨m, fun _ => 0, g⟩ (fun r => (∀ c : Dev Cert.AdamGmIn.nD,
      r.2.mem ((c.tc : Thread Cert.AdamGmIn.nD Cert.AdamGmIn.τ).loc Cert.AdamGmIn.main_arg0) = m ((c.tc : Thread Cert.AdamGmIn.nD Cert.AdamGmIn.τ).loc Cert.AdamGmIn.main_arg0)
      ∧ r.2.mem ((c.tc : Thread Cert.AdamGmIn.nD Cert.AdamGmIn.τ).loc Cert.AdamGmIn.main_arg1) = m ((c.tc : Thread Cert.AdamGmIn.nD Cert.AdamGmIn.τ).loc Cert.AdamGmIn.main_arg1)
      ∧ r.2.mem ((c.tc : Thread Cert.AdamGmIn.nD Cert.AdamGmIn.τ).loc Cert.AdamGmIn.main_arg2) = m ((c.tc : Thread Cert.AdamGmIn.nD Cert.AdamGmIn.τ).loc Cert.AdamGmIn.main_arg2)
      ∧ r.2.mem ((c.tc : Thread Cert.AdamGmIn.nD Cert.AdamGmIn.τ).loc Cert.AdamGmIn.main_arg3) = m ((c.tc : Thread Cert.AdamGmIn.nD Cert.AdamGmIn.τ).loc Cert.AdamGmIn.main_arg3))
      ∧ r.2.sem = fun _ => 0)

def quiescent_AdamGmInIdeal [hAdamGmInIdeal : Cert.AdamGmInIdeal.Facts] : Prop :=
  ∀ (m : (ℓ : Loc Cert.AdamGmInIdeal.nD Cert.AdamGmInIdeal.τ Cert.AdamGmInIdeal.sig) → Buf (Elt Ideal) ℓ) (g : Dev Cert.AdamGmInIdeal.nD → PrngReg), Pre_AdamGmInIdeal m →
    θ_run (Cert.AdamGmInIdeal.defs (F := Ideal)) (onTc (τ := Cert.AdamGmInIdeal.τ) (Cert.AdamGmInIdeal.main (F := Ideal))) ⟨m, fun _ => 0, g⟩ (fun r => (∀ c : Dev Cert.AdamGmInIdeal.nD,
      r.2.mem ((c.tc : Thread Cert.AdamGmInIdeal.nD Cert.AdamGmInIdeal.τ).loc Cert.AdamGmInIdeal.main_arg0) = m ((c.tc : Thread Cert.AdamGmInIdeal.nD Cert.AdamGmInIdeal.τ).loc Cert.AdamGmInIdeal.main_arg0)
      ∧ r.2.mem ((c.tc : Thread Cert.AdamGmInIdeal.nD Cert.AdamGmInIdeal.τ).loc Cert.AdamGmInIdeal.main_arg1) = m ((c.tc : Thread Cert.AdamGmInIdeal.nD Cert.AdamGmInIdeal.τ).loc Cert.AdamGmInIdeal.main_arg1)
      ∧ r.2.mem ((c.tc : Thread Cert.AdamGmInIdeal.nD Cert.AdamGmInIdeal.τ).loc Cert.AdamGmInIdeal.main_arg2) = m ((c.tc : Thread Cert.AdamGmInIdeal.nD Cert.AdamGmInIdeal.τ).loc Cert.AdamGmInIdeal.main_arg2)
      ∧ r.2.mem ((c.tc : Thread Cert.AdamGmInIdeal.nD Cert.AdamGmInIdeal.τ).loc Cert.AdamGmInIdeal.main_arg3) = m ((c.tc : Thread Cert.AdamGmInIdeal.nD Cert.AdamGmInIdeal.τ).loc Cert.AdamGmInIdeal.main_arg3))
      ∧ r.2.sem = fun _ => 0)

def quiescent_AdamGmInRefIdeal [hAdamGmInRefIdeal : Cert.AdamGmInRefIdeal.Facts] : Prop :=
  ∀ (m : (ℓ : Loc Cert.AdamGmInRefIdeal.nD Cert.AdamGmInRefIdeal.τ Cert.AdamGmInRefIdeal.sig) → Buf (Elt Ideal) ℓ) (g : Dev Cert.AdamGmInRefIdeal.nD → PrngReg), Pre_AdamGmInRefIdeal m →
    θ_run (Cert.AdamGmInRefIdeal.defs (F := Ideal)) (onTc (τ := Cert.AdamGmInRefIdeal.τ) (Cert.AdamGmInRefIdeal.main (F := Ideal))) ⟨m, fun _ => 0, g⟩ (fun r => (∀ c : Dev Cert.AdamGmInRefIdeal.nD,
      r.2.mem ((c.tc : Thread Cert.AdamGmInRefIdeal.nD Cert.AdamGmInRefIdeal.τ).loc Cert.AdamGmInRefIdeal.main_arg0) = m ((c.tc : Thread Cert.AdamGmInRefIdeal.nD Cert.AdamGmInRefIdeal.τ).loc Cert.AdamGmInRefIdeal.main_arg0)
      ∧ r.2.mem ((c.tc : Thread Cert.AdamGmInRefIdeal.nD Cert.AdamGmInRefIdeal.τ).loc Cert.AdamGmInRefIdeal.main_arg1) = m ((c.tc : Thread Cert.AdamGmInRefIdeal.nD Cert.AdamGmInRefIdeal.τ).loc Cert.AdamGmInRefIdeal.main_arg1)
      ∧ r.2.mem ((c.tc : Thread Cert.AdamGmInRefIdeal.nD Cert.AdamGmInRefIdeal.τ).loc Cert.AdamGmInRefIdeal.main_arg2) = m ((c.tc : Thread Cert.AdamGmInRefIdeal.nD Cert.AdamGmInRefIdeal.τ).loc Cert.AdamGmInRefIdeal.main_arg2)
      ∧ r.2.mem ((c.tc : Thread Cert.AdamGmInRefIdeal.nD Cert.AdamGmInRefIdeal.τ).loc Cert.AdamGmInRefIdeal.main_arg3) = m ((c.tc : Thread Cert.AdamGmInRefIdeal.nD Cert.AdamGmInRefIdeal.τ).loc Cert.AdamGmInRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamSp [hAdamSp : Cert.AdamSp.Facts] : Prop :=
  ∀ (m : (ℓ : Loc Cert.AdamSp.nD Cert.AdamSp.τ Cert.AdamSp.sig) → Buf (Elt Bits) ℓ) (g : Dev Cert.AdamSp.nD → PrngReg), Pre_AdamSp m →
    θ_run (Cert.AdamSp.defs (F := Bits)) (onTc (τ := Cert.AdamSp.τ) (Cert.AdamSp.main (F := Bits))) ⟨m, fun _ => 0, g⟩ (fun r => (∀ c : Dev Cert.AdamSp.nD,
      r.2.mem ((c.tc : Thread Cert.AdamSp.nD Cert.AdamSp.τ).loc Cert.AdamSp.main_arg0) = m ((c.tc : Thread Cert.AdamSp.nD Cert.AdamSp.τ).loc Cert.AdamSp.main_arg0)
      ∧ r.2.mem ((c.tc : Thread Cert.AdamSp.nD Cert.AdamSp.τ).loc Cert.AdamSp.main_arg1) = m ((c.tc : Thread Cert.AdamSp.nD Cert.AdamSp.τ).loc Cert.AdamSp.main_arg1)
      ∧ r.2.mem ((c.tc : Thread Cert.AdamSp.nD Cert.AdamSp.τ).loc Cert.AdamSp.main_arg2) = m ((c.tc : Thread Cert.AdamSp.nD Cert.AdamSp.τ).loc Cert.AdamSp.main_arg2)
      ∧ r.2.mem ((c.tc : Thread Cert.AdamSp.nD Cert.AdamSp.τ).loc Cert.AdamSp.main_arg3) = m ((c.tc : Thread Cert.AdamSp.nD Cert.AdamSp.τ).loc Cert.AdamSp.main_arg3))
      ∧ r.2.sem = fun _ => 0)

def quiescent_AdamSpIdeal [hAdamSpIdeal : Cert.AdamSpIdeal.Facts] : Prop :=
  ∀ (m : (ℓ : Loc Cert.AdamSpIdeal.nD Cert.AdamSpIdeal.τ Cert.AdamSpIdeal.sig) → Buf (Elt Ideal) ℓ) (g : Dev Cert.AdamSpIdeal.nD → PrngReg), Pre_AdamSpIdeal m →
    θ_run (Cert.AdamSpIdeal.defs (F := Ideal)) (onTc (τ := Cert.AdamSpIdeal.τ) (Cert.AdamSpIdeal.main (F := Ideal))) ⟨m, fun _ => 0, g⟩ (fun r => (∀ c : Dev Cert.AdamSpIdeal.nD,
      r.2.mem ((c.tc : Thread Cert.AdamSpIdeal.nD Cert.AdamSpIdeal.τ).loc Cert.AdamSpIdeal.main_arg0) = m ((c.tc : Thread Cert.AdamSpIdeal.nD Cert.AdamSpIdeal.τ).loc Cert.AdamSpIdeal.main_arg0)
      ∧ r.2.mem ((c.tc : Thread Cert.AdamSpIdeal.nD Cert.AdamSpIdeal.τ).loc Cert.AdamSpIdeal.main_arg1) = m ((c.tc : Thread Cert.AdamSpIdeal.nD Cert.AdamSpIdeal.τ).loc Cert.AdamSpIdeal.main_arg1)
      ∧ r.2.mem ((c.tc : Thread Cert.AdamSpIdeal.nD Cert.AdamSpIdeal.τ).loc Cert.AdamSpIdeal.main_arg2) = m ((c.tc : Thread Cert.AdamSpIdeal.nD Cert.AdamSpIdeal.τ).loc Cert.AdamSpIdeal.main_arg2)
      ∧ r.2.mem ((c.tc : Thread Cert.AdamSpIdeal.nD Cert.AdamSpIdeal.τ).loc Cert.AdamSpIdeal.main_arg3) = m ((c.tc : Thread Cert.AdamSpIdeal.nD Cert.AdamSpIdeal.τ).loc Cert.AdamSpIdeal.main_arg3))
      ∧ r.2.sem = fun _ => 0)

def quiescent_AdamSpRefIdeal [hAdamSpRefIdeal : Cert.AdamSpRefIdeal.Facts] : Prop :=
  ∀ (m : (ℓ : Loc Cert.AdamSpRefIdeal.nD Cert.AdamSpRefIdeal.τ Cert.AdamSpRefIdeal.sig) → Buf (Elt Ideal) ℓ) (g : Dev Cert.AdamSpRefIdeal.nD → PrngReg), Pre_AdamSpRefIdeal m →
    θ_run (Cert.AdamSpRefIdeal.defs (F := Ideal)) (onTc (τ := Cert.AdamSpRefIdeal.τ) (Cert.AdamSpRefIdeal.main (F := Ideal))) ⟨m, fun _ => 0, g⟩ (fun r => (∀ c : Dev Cert.AdamSpRefIdeal.nD,
      r.2.mem ((c.tc : Thread Cert.AdamSpRefIdeal.nD Cert.AdamSpRefIdeal.τ).loc Cert.AdamSpRefIdeal.main_arg0) = m ((c.tc : Thread Cert.AdamSpRefIdeal.nD Cert.AdamSpRefIdeal.τ).loc Cert.AdamSpRefIdeal.main_arg0)
      ∧ r.2.mem ((c.tc : Thread Cert.AdamSpRefIdeal.nD Cert.AdamSpRefIdeal.τ).loc Cert.AdamSpRefIdeal.main_arg1) = m ((c.tc : Thread Cert.AdamSpRefIdeal.nD Cert.AdamSpRefIdeal.τ).loc Cert.AdamSpRefIdeal.main_arg1)
      ∧ r.2.mem ((c.tc : Thread Cert.AdamSpRefIdeal.nD Cert.AdamSpRefIdeal.τ).loc Cert.AdamSpRefIdeal.main_arg2) = m ((c.tc : Thread Cert.AdamSpRefIdeal.nD Cert.AdamSpRefIdeal.τ).loc Cert.AdamSpRefIdeal.main_arg2)
      ∧ r.2.mem ((c.tc : Thread Cert.AdamSpRefIdeal.nD Cert.AdamSpRefIdeal.τ).loc Cert.AdamSpRefIdeal.main_arg3) = m ((c.tc : Thread Cert.AdamSpRefIdeal.nD Cert.AdamSpRefIdeal.τ).loc Cert.AdamSpRefIdeal.main_arg3))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1)
      ∧ r.2.mem ((c.tc : Thread Cert.ModDw.nD Cert.ModDw.τ).loc Cert.ModDw.main_arg2) = m ((c.tc : Thread Cert.ModDw.nD Cert.ModDw.τ).loc Cert.ModDw.main_arg2))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
      ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1)
      ∧ r.2.mem ((c.tc : Thread Cert.ModDwRefIdeal.nD Cert.ModDwRefIdeal.τ).loc Cert.ModDwRefIdeal.main_arg2) = m ((c.tc : Thread Cert.ModDwRefIdeal.nD Cert.ModDwRefIdeal.τ).loc Cert.ModDwRefIdeal.main_arg2))
      ∧ r.2.sem = fun _ => 0)

def quiescent_ModDs [hModDs : Cert.ModDs.Facts] : Prop :=
  ∀ (m : (ℓ : Loc Cert.ModDs.nD Cert.ModDs.τ Cert.ModDs.sig) → Buf (Elt Bits) ℓ) (g : Dev Cert.ModDs.nD → PrngReg), Pre_ModDs m →
    θ_run (Cert.ModDs.defs (F := Bits)) (onTc (τ := Cert.ModDs.τ) (Cert.ModDs.main (F := Bits))) ⟨m, fun _ => 0, g⟩ (fun r => (∀ c : Dev Cert.ModDs.nD,
      r.2.mem ((c.tc : Thread Cert.ModDs.nD Cert.ModDs.τ).loc Cert.ModDs.main_arg0) = m ((c.tc : Thread Cert.ModDs.nD Cert.ModDs.τ).loc Cert.ModDs.main_arg0)
      ∧ r.2.mem ((c.tc : Thread Cert.ModDs.nD Cert.ModDs.τ).loc Cert.ModDs.main_arg1) = m ((c.tc : Thread Cert.ModDs.nD Cert.ModDs.τ).loc Cert.ModDs.main_arg1))
      ∧ r.2.sem = fun _ => 0)

def quiescent_ModDsIdeal [hModDsIdeal : Cert.ModDsIdeal.Facts] : Prop :=
  ∀ (m : (ℓ : Loc Cert.ModDsIdeal.nD Cert.ModDsIdeal.τ Cert.ModDsIdeal.sig) → Buf (Elt Ideal) ℓ) (g : Dev Cert.ModDsIdeal.nD → PrngReg), Pre_ModDsIdeal m →
    θ_run (Cert.ModDsIdeal.defs (F := Ideal)) (onTc (τ := Cert.ModDsIdeal.τ) (Cert.ModDsIdeal.main (F := Ideal))) ⟨m, fun _ => 0, g⟩ (fun r => (∀ c : Dev Cert.ModDsIdeal.nD,
      r.2.mem ((c.tc : Thread Cert.ModDsIdeal.nD Cert.ModDsIdeal.τ).loc Cert.ModDsIdeal.main_arg0) = m ((c.tc : Thread Cert.ModDsIdeal.nD Cert.ModDsIdeal.τ).loc Cert.ModDsIdeal.main_arg0)
      ∧ r.2.mem ((c.tc : Thread Cert.ModDsIdeal.nD Cert.ModDsIdeal.τ).loc Cert.ModDsIdeal.main_arg1) = m ((c.tc : Thread Cert.ModDsIdeal.nD Cert.ModDsIdeal.τ).loc Cert.ModDsIdeal.main_arg1))
      ∧ r.2.sem = fun _ => 0)

def quiescent_ModDsRefIdeal [hModDsRefIdeal : Cert.ModDsRefIdeal.Facts] : Prop :=
  ∀ (m : (ℓ : Loc Cert.ModDsRefIdeal.nD Cert.ModDsRefIdeal.τ Cert.ModDsRefIdeal.sig) → Buf (Elt Ideal) ℓ) (g : Dev Cert.ModDsRefIdeal.nD → PrngReg), Pre_ModDsRefIdeal m →
    θ_run (Cert.ModDsRefIdeal.defs (F := Ideal)) (onTc (τ := Cert.ModDsRefIdeal.τ) (Cert.ModDsRefIdeal.main (F := Ideal))) ⟨m, fun _ => 0, g⟩ (fun r => (∀ c : Dev Cert.ModDsRefIdeal.nD,
      r.2.mem ((c.tc : Thread Cert.ModDsRefIdeal.nD Cert.ModDsRefIdeal.τ).loc Cert.ModDsRefIdeal.main_arg0) = m ((c.tc : Thread Cert.ModDsRefIdeal.nD Cert.ModDsRefIdeal.τ).loc Cert.ModDsRefIdeal.main_arg0)
      ∧ r.2.mem ((c.tc : Thread Cert.ModDsRefIdeal.nD Cert.ModDsRefIdeal.τ).loc Cert.ModDsRefIdeal.main_arg1) = m ((c.tc : Thread Cert.ModDsRefIdeal.nD Cert.ModDsRefIdeal.τ).loc Cert.ModDsRefIdeal.main_arg1))
      ∧ r.2.sem = fun _ => 0)

def quiescent_SmallSums [hSmallSums : Cert.SmallSums.Facts] : Prop :=
  ∀ (m : (ℓ : Loc Cert.SmallSums.nD Cert.SmallSums.τ Cert.SmallSums.sig) → Buf (Elt Bits) ℓ) (g : Dev Cert.SmallSums.nD → PrngReg), Pre_SmallSums m →
    θ_run (Cert.SmallSums.defs (F := Bits)) (onTc (τ := Cert.SmallSums.τ) (Cert.SmallSums.main (F := Bits))) ⟨m, fun _ => 0, g⟩ (fun r => (∀ c : Dev Cert.SmallSums.nD,
      r.2.mem ((c.tc : Thread Cert.SmallSums.nD Cert.SmallSums.τ).loc Cert.SmallSums.main_arg0) = m ((c.tc : Thread Cert.SmallSums.nD Cert.SmallSums.τ).loc Cert.SmallSums.main_arg0))
      ∧ r.2.sem = fun _ => 0)

def quiescent_SmallSumsIdeal [hSmallSumsIdeal : Cert.SmallSumsIdeal.Facts] : Prop :=
  ∀ (m : (ℓ : Loc Cert.SmallSumsIdeal.nD Cert.SmallSumsIdeal.τ Cert.SmallSumsIdeal.sig) → Buf (Elt Ideal) ℓ) (g : Dev Cert.SmallSumsIdeal.nD → PrngReg), Pre_SmallSumsIdeal m →
    θ_run (Cert.SmallSumsIdeal.defs (F := Ideal)) (onTc (τ := Cert.SmallSumsIdeal.τ) (Cert.SmallSumsIdeal.main (F := Ideal))) ⟨m, fun _ => 0, g⟩ (fun r => (∀ c : Dev Cert.SmallSumsIdeal.nD,
      r.2.mem ((c.tc : Thread Cert.SmallSumsIdeal.nD Cert.SmallSumsIdeal.τ).loc Cert.SmallSumsIdeal.main_arg0) = m ((c.tc : Thread Cert.SmallSumsIdeal.nD Cert.SmallSumsIdeal.τ).loc Cert.SmallSumsIdeal.main_arg0))
      ∧ r.2.sem = fun _ => 0)

def quiescent_SmallSumsRefIdeal [hSmallSumsRefIdeal : Cert.SmallSumsRefIdeal.Facts] : Prop :=
  ∀ (m : (ℓ : Loc Cert.SmallSumsRefIdeal.nD Cert.SmallSumsRefIdeal.τ Cert.SmallSumsRefIdeal.sig) → Buf (Elt Ideal) ℓ) (g : Dev Cert.SmallSumsRefIdeal.nD → PrngReg), Pre_SmallSumsRefIdeal m →
    θ_run (Cert.SmallSumsRefIdeal.defs (F := Ideal)) (onTc (τ := Cert.SmallSumsRefIdeal.τ) (Cert.SmallSumsRefIdeal.main (F := Ideal))) ⟨m, fun _ => 0, g⟩ (fun r => (∀ c : Dev Cert.SmallSumsRefIdeal.nD,
      r.2.mem ((c.tc : Thread Cert.SmallSumsRefIdeal.nD Cert.SmallSumsRefIdeal.τ).loc Cert.SmallSumsRefIdeal.main_arg0) = m ((c.tc : Thread Cert.SmallSumsRefIdeal.nD Cert.SmallSumsRefIdeal.τ).loc Cert.SmallSumsRefIdeal.main_arg0))
      ∧ r.2.sem = fun _ => 0)

def quiescent_GateSums [hGateSums : Cert.GateSums.Facts] : Prop :=
  ∀ (m : (ℓ : Loc Cert.GateSums.nD Cert.GateSums.τ Cert.GateSums.sig) → Buf (Elt Bits) ℓ) (g : Dev Cert.GateSums.nD → PrngReg), Pre_GateSums m →
    θ_run (Cert.GateSums.defs (F := Bits)) (onTc (τ := Cert.GateSums.τ) (Cert.GateSums.main (F := Bits))) ⟨m, fun _ => 0, g⟩ (fun r => (∀ c : Dev Cert.GateSums.nD,
      r.2.mem ((c.tc : Thread Cert.GateSums.nD Cert.GateSums.τ).loc Cert.GateSums.main_arg0) = m ((c.tc : Thread Cert.GateSums.nD Cert.GateSums.τ).loc Cert.GateSums.main_arg0))
      ∧ r.2.sem = fun _ => 0)

def quiescent_GateSumsIdeal [hGateSumsIdeal : Cert.GateSumsIdeal.Facts] : Prop :=
  ∀ (m : (ℓ : Loc Cert.GateSumsIdeal.nD Cert.GateSumsIdeal.τ Cert.GateSumsIdeal.sig) → Buf (Elt Ideal) ℓ) (g : Dev Cert.GateSumsIdeal.nD → PrngReg), Pre_GateSumsIdeal m →
    θ_run (Cert.GateSumsIdeal.defs (F := Ideal)) (onTc (τ := Cert.GateSumsIdeal.τ) (Cert.GateSumsIdeal.main (F := Ideal))) ⟨m, fun _ => 0, g⟩ (fun r => (∀ c : Dev Cert.GateSumsIdeal.nD,
      r.2.mem ((c.tc : Thread Cert.GateSumsIdeal.nD Cert.GateSumsIdeal.τ).loc Cert.GateSumsIdeal.main_arg0) = m ((c.tc : Thread Cert.GateSumsIdeal.nD Cert.GateSumsIdeal.τ).loc Cert.GateSumsIdeal.main_arg0))
      ∧ r.2.sem = fun _ => 0)

def quiescent_GateSumsRefIdeal [hGateSumsRefIdeal : Cert.GateSumsRefIdeal.Facts] : Prop :=
  ∀ (m : (ℓ : Loc Cert.GateSumsRefIdeal.nD Cert.GateSumsRefIdeal.τ Cert.GateSumsRefIdeal.sig) → Buf (Elt Ideal) ℓ) (g : Dev Cert.GateSumsRefIdeal.nD → PrngReg), Pre_GateSumsRefIdeal m →
    θ_run (Cert.GateSumsRefIdeal.defs (F := Ideal)) (onTc (τ := Cert.GateSumsRefIdeal.τ) (Cert.GateSumsRefIdeal.main (F := Ideal))) ⟨m, fun _ => 0, g⟩ (fun r => (∀ c : Dev Cert.GateSumsRefIdeal.nD,
      r.2.mem ((c.tc : Thread Cert.GateSumsRefIdeal.nD Cert.GateSumsRefIdeal.τ).loc Cert.GateSumsRefIdeal.main_arg0) = m ((c.tc : Thread Cert.GateSumsRefIdeal.nD Cert.GateSumsRefIdeal.τ).loc Cert.GateSumsRefIdeal.main_arg0))
      ∧ r.2.sem = fun _ => 0)

def quiescent_ResMod [hResMod : Cert.ResMod.Facts] : Prop :=
  ∀ (m : (ℓ : Loc Cert.ResMod.nD Cert.ResMod.τ Cert.ResMod.sig) → Buf (Elt Bits) ℓ) (g : Dev Cert.ResMod.nD → PrngReg), Pre_ResMod m →
    θ_run (Cert.ResMod.defs (F := Bits)) (onTc (τ := Cert.ResMod.τ) (Cert.ResMod.main (F := Bits))) ⟨m, fun _ => 0, g⟩ (fun r => (∀ c : Dev Cert.ResMod.nD,
      r.2.mem ((c.tc : Thread Cert.ResMod.nD Cert.ResMod.τ).loc Cert.ResMod.main_arg0) = m ((c.tc : Thread Cert.ResMod.nD Cert.ResMod.τ).loc Cert.ResMod.main_arg0)
      ∧ r.2.mem ((c.tc : Thread Cert.ResMod.nD Cert.ResMod.τ).loc Cert.ResMod.main_arg1) = m ((c.tc : Thread Cert.ResMod.nD Cert.ResMod.τ).loc Cert.ResMod.main_arg1)
      ∧ r.2.mem ((c.tc : Thread Cert.ResMod.nD Cert.ResMod.τ).loc Cert.ResMod.main_arg2) = m ((c.tc : Thread Cert.ResMod.nD Cert.ResMod.τ).loc Cert.ResMod.main_arg2)
      ∧ r.2.mem ((c.tc : Thread Cert.ResMod.nD Cert.ResMod.τ).loc Cert.ResMod.main_arg3) = m ((c.tc : Thread Cert.ResMod.nD Cert.ResMod.τ).loc Cert.ResMod.main_arg3)
      ∧ r.2.mem ((c.tc : Thread Cert.ResMod.nD Cert.ResMod.τ).loc Cert.ResMod.main_arg4) = m ((c.tc : Thread Cert.ResMod.nD Cert.ResMod.τ).loc Cert.ResMod.main_arg4)
      ∧ r.2.mem ((c.tc : Thread Cert.ResMod.nD Cert.ResMod.τ).loc Cert.ResMod.main_arg5) = m ((c.tc : Thread Cert.ResMod.nD Cert.ResMod.τ).loc Cert.ResMod.main_arg5)
      ∧ r.2.mem ((c.tc : Thread Cert.ResMod.nD Cert.ResMod.τ).loc Cert.ResMod.main_arg6) = m ((c.tc : Thread Cert.ResMod.nD Cert.ResMod.τ).loc Cert.ResMod.main_arg6))
      ∧ r.2.sem = fun _ => 0)

def quiescent_ResModIdeal [hResModIdeal : Cert.ResModIdeal.Facts] : Prop :=
  ∀ (m : (ℓ : Loc Cert.ResModIdeal.nD Cert.ResModIdeal.τ Cert.ResModIdeal.sig) → Buf (Elt Ideal) ℓ) (g : Dev Cert.ResModIdeal.nD → PrngReg), Pre_ResModIdeal m →
    θ_run (Cert.ResModIdeal.defs (F := Ideal)) (onTc (τ := Cert.ResModIdeal.τ) (Cert.ResModIdeal.main (F := Ideal))) ⟨m, fun _ => 0, g⟩ (fun r => (∀ c : Dev Cert.ResModIdeal.nD,
      r.2.mem ((c.tc : Thread Cert.ResModIdeal.nD Cert.ResModIdeal.τ).loc Cert.ResModIdeal.main_arg0) = m ((c.tc : Thread Cert.ResModIdeal.nD Cert.ResModIdeal.τ).loc Cert.ResModIdeal.main_arg0)
      ∧ r.2.mem ((c.tc : Thread Cert.ResModIdeal.nD Cert.ResModIdeal.τ).loc Cert.ResModIdeal.main_arg1) = m ((c.tc : Thread Cert.ResModIdeal.nD Cert.ResModIdeal.τ).loc Cert.ResModIdeal.main_arg1)
      ∧ r.2.mem ((c.tc : Thread Cert.ResModIdeal.nD Cert.ResModIdeal.τ).loc Cert.ResModIdeal.main_arg2) = m ((c.tc : Thread Cert.ResModIdeal.nD Cert.ResModIdeal.τ).loc Cert.ResModIdeal.main_arg2)
      ∧ r.2.mem ((c.tc : Thread Cert.ResModIdeal.nD Cert.ResModIdeal.τ).loc Cert.ResModIdeal.main_arg3) = m ((c.tc : Thread Cert.ResModIdeal.nD Cert.ResModIdeal.τ).loc Cert.ResModIdeal.main_arg3)
      ∧ r.2.mem ((c.tc : Thread Cert.ResModIdeal.nD Cert.ResModIdeal.τ).loc Cert.ResModIdeal.main_arg4) = m ((c.tc : Thread Cert.ResModIdeal.nD Cert.ResModIdeal.τ).loc Cert.ResModIdeal.main_arg4)
      ∧ r.2.mem ((c.tc : Thread Cert.ResModIdeal.nD Cert.ResModIdeal.τ).loc Cert.ResModIdeal.main_arg5) = m ((c.tc : Thread Cert.ResModIdeal.nD Cert.ResModIdeal.τ).loc Cert.ResModIdeal.main_arg5)
      ∧ r.2.mem ((c.tc : Thread Cert.ResModIdeal.nD Cert.ResModIdeal.τ).loc Cert.ResModIdeal.main_arg6) = m ((c.tc : Thread Cert.ResModIdeal.nD Cert.ResModIdeal.τ).loc Cert.ResModIdeal.main_arg6))
      ∧ r.2.sem = fun _ => 0)

def quiescent_ResModRefIdeal [hResModRefIdeal : Cert.ResModRefIdeal.Facts] : Prop :=
  ∀ (m : (ℓ : Loc Cert.ResModRefIdeal.nD Cert.ResModRefIdeal.τ Cert.ResModRefIdeal.sig) → Buf (Elt Ideal) ℓ) (g : Dev Cert.ResModRefIdeal.nD → PrngReg), Pre_ResModRefIdeal m →
    θ_run (Cert.ResModRefIdeal.defs (F := Ideal)) (onTc (τ := Cert.ResModRefIdeal.τ) (Cert.ResModRefIdeal.main (F := Ideal))) ⟨m, fun _ => 0, g⟩ (fun r => (∀ c : Dev Cert.ResModRefIdeal.nD,
      r.2.mem ((c.tc : Thread Cert.ResModRefIdeal.nD Cert.ResModRefIdeal.τ).loc Cert.ResModRefIdeal.main_arg0) = m ((c.tc : Thread Cert.ResModRefIdeal.nD Cert.ResModRefIdeal.τ).loc Cert.ResModRefIdeal.main_arg0)
      ∧ r.2.mem ((c.tc : Thread Cert.ResModRefIdeal.nD Cert.ResModRefIdeal.τ).loc Cert.ResModRefIdeal.main_arg1) = m ((c.tc : Thread Cert.ResModRefIdeal.nD Cert.ResModRefIdeal.τ).loc Cert.ResModRefIdeal.main_arg1)
      ∧ r.2.mem ((c.tc : Thread Cert.ResModRefIdeal.nD Cert.ResModRefIdeal.τ).loc Cert.ResModRefIdeal.main_arg2) = m ((c.tc : Thread Cert.ResModRefIdeal.nD Cert.ResModRefIdeal.τ).loc Cert.ResModRefIdeal.main_arg2)
      ∧ r.2.mem ((c.tc : Thread Cert.ResModRefIdeal.nD Cert.ResModRefIdeal.τ).loc Cert.ResModRefIdeal.main_arg3) = m ((c.tc : Thread Cert.ResModRefIdeal.nD Cert.ResModRefIdeal.τ).loc Cert.ResModRefIdeal.main_arg3)
      ∧ r.2.mem ((c.tc : Thread Cert.ResModRefIdeal.nD Cert.ResModRefIdeal.τ).loc Cert.ResModRefIdeal.main_arg4) = m ((c.tc : Thread Cert.ResModRefIdeal.nD Cert.ResModRefIdeal.τ).loc Cert.ResModRefIdeal.main_arg4)
      ∧ r.2.mem ((c.tc : Thread Cert.ResModRefIdeal.nD Cert.ResModRefIdeal.τ).loc Cert.ResModRefIdeal.main_arg5) = m ((c.tc : Thread Cert.ResModRefIdeal.nD Cert.ResModRefIdeal.τ).loc Cert.ResModRefIdeal.main_arg5)
      ∧ r.2.mem ((c.tc : Thread Cert.ResModRefIdeal.nD Cert.ResModRefIdeal.τ).loc Cert.ResModRefIdeal.main_arg6) = m ((c.tc : Thread Cert.ResModRefIdeal.nD Cert.ResModRefIdeal.τ).loc Cert.ResModRefIdeal.main_arg6))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3)
      ∧ r.2.mem ((c.tc : Thread Cert.NormFwd.nD Cert.NormFwd.τ).loc Cert.NormFwd.main_arg4) = m ((c.tc : Thread Cert.NormFwd.nD Cert.NormFwd.τ).loc Cert.NormFwd.main_arg4)
      ∧ r.2.mem ((c.tc : Thread Cert.NormFwd.nD Cert.NormFwd.τ).loc Cert.NormFwd.main_arg5) = m ((c.tc : Thread Cert.NormFwd.nD Cert.NormFwd.τ).loc Cert.NormFwd.main_arg5)
      ∧ r.2.mem ((c.tc : Thread Cert.NormFwd.nD Cert.NormFwd.τ).loc Cert.NormFwd.main_arg6) = m ((c.tc : Thread Cert.NormFwd.nD Cert.NormFwd.τ).loc Cert.NormFwd.main_arg6))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
      ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
      ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5)
      ∧ r.2.mem ((c.tc : Thread Cert.NormFwdIdeal.nD Cert.NormFwdIdeal.τ).loc Cert.NormFwdIdeal.main_arg6) = m ((c.tc : Thread Cert.NormFwdIdeal.nD Cert.NormFwdIdeal.τ).loc Cert.NormFwdIdeal.main_arg6))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3)
      ∧ r.2.mem ((c.tc : Thread Cert.NormFwdRefIdeal.nD Cert.NormFwdRefIdeal.τ).loc Cert.NormFwdRefIdeal.main_arg4) = m ((c.tc : Thread Cert.NormFwdRefIdeal.nD Cert.NormFwdRefIdeal.τ).loc Cert.NormFwdRefIdeal.main_arg4)
      ∧ r.2.mem ((c.tc : Thread Cert.NormFwdRefIdeal.nD Cert.NormFwdRefIdeal.τ).loc Cert.NormFwdRefIdeal.main_arg5) = m ((c.tc : Thread Cert.NormFwdRefIdeal.nD Cert.NormFwdRefIdeal.τ).loc Cert.NormFwdRefIdeal.main_arg5)
      ∧ r.2.mem ((c.tc : Thread Cert.NormFwdRefIdeal.nD Cert.NormFwdRefIdeal.τ).loc Cert.NormFwdRefIdeal.main_arg6) = m ((c.tc : Thread Cert.NormFwdRefIdeal.nD Cert.NormFwdRefIdeal.τ).loc Cert.NormFwdRefIdeal.main_arg6))
      ∧ r.2.sem = fun _ => 0)

def quiescent_ModRows [hModRows : Cert.ModRows.Facts] : Prop :=
  ∀ (m : (ℓ : Loc Cert.ModRows.nD Cert.ModRows.τ Cert.ModRows.sig) → Buf (Elt Bits) ℓ) (g : Dev Cert.ModRows.nD → PrngReg), Pre_ModRows m →
    θ_run (Cert.ModRows.defs (F := Bits)) (onTc (τ := Cert.ModRows.τ) (Cert.ModRows.main (F := Bits))) ⟨m, fun _ => 0, g⟩ (fun r => (∀ c : Dev Cert.ModRows.nD,
      r.2.mem ((c.tc : Thread Cert.ModRows.nD Cert.ModRows.τ).loc Cert.ModRows.main_arg0) = m ((c.tc : Thread Cert.ModRows.nD Cert.ModRows.τ).loc Cert.ModRows.main_arg0)
      ∧ r.2.mem ((c.tc : Thread Cert.ModRows.nD Cert.ModRows.τ).loc Cert.ModRows.main_arg1) = m ((c.tc : Thread Cert.ModRows.nD Cert.ModRows.τ).loc Cert.ModRows.main_arg1)
      ∧ r.2.mem ((c.tc : Thread Cert.ModRows.nD Cert.ModRows.τ).loc Cert.ModRows.main_arg2) = m ((c.tc : Thread Cert.ModRows.nD Cert.ModRows.τ).loc Cert.ModRows.main_arg2))
      ∧ r.2.sem = fun _ => 0)

def quiescent_ModRowsIdeal [hModRowsIdeal : Cert.ModRowsIdeal.Facts] : Prop :=
  ∀ (m : (ℓ : Loc Cert.ModRowsIdeal.nD Cert.ModRowsIdeal.τ Cert.ModRowsIdeal.sig) → Buf (Elt Ideal) ℓ) (g : Dev Cert.ModRowsIdeal.nD → PrngReg), Pre_ModRowsIdeal m →
    θ_run (Cert.ModRowsIdeal.defs (F := Ideal)) (onTc (τ := Cert.ModRowsIdeal.τ) (Cert.ModRowsIdeal.main (F := Ideal))) ⟨m, fun _ => 0, g⟩ (fun r => (∀ c : Dev Cert.ModRowsIdeal.nD,
      r.2.mem ((c.tc : Thread Cert.ModRowsIdeal.nD Cert.ModRowsIdeal.τ).loc Cert.ModRowsIdeal.main_arg0) = m ((c.tc : Thread Cert.ModRowsIdeal.nD Cert.ModRowsIdeal.τ).loc Cert.ModRowsIdeal.main_arg0)
      ∧ r.2.mem ((c.tc : Thread Cert.ModRowsIdeal.nD Cert.ModRowsIdeal.τ).loc Cert.ModRowsIdeal.main_arg1) = m ((c.tc : Thread Cert.ModRowsIdeal.nD Cert.ModRowsIdeal.τ).loc Cert.ModRowsIdeal.main_arg1)
      ∧ r.2.mem ((c.tc : Thread Cert.ModRowsIdeal.nD Cert.ModRowsIdeal.τ).loc Cert.ModRowsIdeal.main_arg2) = m ((c.tc : Thread Cert.ModRowsIdeal.nD Cert.ModRowsIdeal.τ).loc Cert.ModRowsIdeal.main_arg2))
      ∧ r.2.sem = fun _ => 0)

def quiescent_ModRowsIdeal_pre_parts_finite [hModRowsIdeal : Cert.ModRowsIdeal.Facts] [hPre_parts_finite : Cert.Pre_parts_finite.Facts] : Prop :=
  ∀ (m : (ℓ : Loc Cert.ModRowsIdeal.nD Cert.ModRowsIdeal.τ Cert.ModRowsIdeal.sig) → Buf (Elt Ideal) ℓ) (g : Dev Cert.ModRowsIdeal.nD → PrngReg), Pre_ModRowsIdeal_parts_finite m →
    θ_run (Cert.ModRowsIdeal.defs (F := Ideal)) (onTc (τ := Cert.ModRowsIdeal.τ) (Cert.ModRowsIdeal.main (F := Ideal))) ⟨m, fun _ => 0, g⟩ (fun r => (∀ c : Dev Cert.ModRowsIdeal.nD,
      r.2.mem ((c.tc : Thread Cert.ModRowsIdeal.nD Cert.ModRowsIdeal.τ).loc Cert.ModRowsIdeal.main_arg0) = m ((c.tc : Thread Cert.ModRowsIdeal.nD Cert.ModRowsIdeal.τ).loc Cert.ModRowsIdeal.main_arg0)
      ∧ r.2.mem ((c.tc : Thread Cert.ModRowsIdeal.nD Cert.ModRowsIdeal.τ).loc Cert.ModRowsIdeal.main_arg1) = m ((c.tc : Thread Cert.ModRowsIdeal.nD Cert.ModRowsIdeal.τ).loc Cert.ModRowsIdeal.main_arg1)
      ∧ r.2.mem ((c.tc : Thread Cert.ModRowsIdeal.nD Cert.ModRowsIdeal.τ).loc Cert.ModRowsIdeal.main_arg2) = m ((c.tc : Thread Cert.ModRowsIdeal.nD Cert.ModRowsIdeal.τ).loc Cert.ModRowsIdeal.main_arg2))
      ∧ r.2.sem = fun _ => 0)

def quiescent_ModRowsRefIdeal [hModRowsRefIdeal : Cert.ModRowsRefIdeal.Facts] : Prop :=
  ∀ (m : (ℓ : Loc Cert.ModRowsRefIdeal.nD Cert.ModRowsRefIdeal.τ Cert.ModRowsRefIdeal.sig) → Buf (Elt Ideal) ℓ) (g : Dev Cert.ModRowsRefIdeal.nD → PrngReg), Pre_ModRowsRefIdeal m →
    θ_run (Cert.ModRowsRefIdeal.defs (F := Ideal)) (onTc (τ := Cert.ModRowsRefIdeal.τ) (Cert.ModRowsRefIdeal.main (F := Ideal))) ⟨m, fun _ => 0, g⟩ (fun r => (∀ c : Dev Cert.ModRowsRefIdeal.nD,
      r.2.mem ((c.tc : Thread Cert.ModRowsRefIdeal.nD Cert.ModRowsRefIdeal.τ).loc Cert.ModRowsRefIdeal.main_arg0) = m ((c.tc : Thread Cert.ModRowsRefIdeal.nD Cert.ModRowsRefIdeal.τ).loc Cert.ModRowsRefIdeal.main_arg0)
      ∧ r.2.mem ((c.tc : Thread Cert.ModRowsRefIdeal.nD Cert.ModRowsRefIdeal.τ).loc Cert.ModRowsRefIdeal.main_arg1) = m ((c.tc : Thread Cert.ModRowsRefIdeal.nD Cert.ModRowsRefIdeal.τ).loc Cert.ModRowsRefIdeal.main_arg1)
      ∧ r.2.mem ((c.tc : Thread Cert.ModRowsRefIdeal.nD Cert.ModRowsRefIdeal.τ).loc Cert.ModRowsRefIdeal.main_arg2) = m ((c.tc : Thread Cert.ModRowsRefIdeal.nD Cert.ModRowsRefIdeal.τ).loc Cert.ModRowsRefIdeal.main_arg2))
      ∧ r.2.sem = fun _ => 0)

def quiescent_ModRowsRefIdeal_pre_parts_finite [hModRowsRefIdeal : Cert.ModRowsRefIdeal.Facts] [hPre_parts_finite : Cert.Pre_parts_finite.Facts] : Prop :=
  ∀ (m : (ℓ : Loc Cert.ModRowsRefIdeal.nD Cert.ModRowsRefIdeal.τ Cert.ModRowsRefIdeal.sig) → Buf (Elt Ideal) ℓ) (g : Dev Cert.ModRowsRefIdeal.nD → PrngReg), Pre_ModRowsRefIdeal_parts_finite m →
    θ_run (Cert.ModRowsRefIdeal.defs (F := Ideal)) (onTc (τ := Cert.ModRowsRefIdeal.τ) (Cert.ModRowsRefIdeal.main (F := Ideal))) ⟨m, fun _ => 0, g⟩ (fun r => (∀ c : Dev Cert.ModRowsRefIdeal.nD,
      r.2.mem ((c.tc : Thread Cert.ModRowsRefIdeal.nD Cert.ModRowsRefIdeal.τ).loc Cert.ModRowsRefIdeal.main_arg0) = m ((c.tc : Thread Cert.ModRowsRefIdeal.nD Cert.ModRowsRefIdeal.τ).loc Cert.ModRowsRefIdeal.main_arg0)
      ∧ r.2.mem ((c.tc : Thread Cert.ModRowsRefIdeal.nD Cert.ModRowsRefIdeal.τ).loc Cert.ModRowsRefIdeal.main_arg1) = m ((c.tc : Thread Cert.ModRowsRefIdeal.nD Cert.ModRowsRefIdeal.τ).loc Cert.ModRowsRefIdeal.main_arg1)
      ∧ r.2.mem ((c.tc : Thread Cert.ModRowsRefIdeal.nD Cert.ModRowsRefIdeal.τ).loc Cert.ModRowsRefIdeal.main_arg2) = m ((c.tc : Thread Cert.ModRowsRefIdeal.nD Cert.ModRowsRefIdeal.τ).loc Cert.ModRowsRefIdeal.main_arg2))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2_1)) (v1 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_1) = v0 c
          ∧ r.2.mem ((c.tc : Thread Cert.FfnIdeal.nD Cert.FfnIdeal.τ).loc Cert.FfnIdeal.main_v3) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v7) = v0 c
          ∧ r.2.mem ((c.tc : Thread Cert.FfnRefIdeal.nD Cert.FfnRefIdeal.τ).loc Cert.FfnRefIdeal.main_v20) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v6) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v8) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v2)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v2) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)
      ∧ m' ((c.tc : Thread Cert.GmInRefIdeal.nD Cert.GmInRefIdeal.τ).loc Cert.GmInRefIdeal.main_arg2) = m ((c.tc : Thread Cert.GmInIdeal.nD Cert.GmInIdeal.τ).loc Cert.GmInIdeal.main_arg2)) →
    ∃ (v0 : (c : Dev Cert.GmInIdeal.nD) → Buf (Elt Ideal) ((c.tc : Thread Cert.GmInIdeal.nD Cert.GmInIdeal.τ).loc Cert.GmInIdeal.main_v2)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v2) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1)
          ∧ r.2.mem ((c.tc : Thread Cert.GmInIdeal.nD Cert.GmInIdeal.τ).loc Cert.GmInIdeal.main_arg2) = m ((c.tc : Thread Cert.GmInIdeal.nD Cert.GmInIdeal.τ).loc Cert.GmInIdeal.main_arg2))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v4) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1)
          ∧ r.2.mem ((c.tc : Thread Cert.GmInRefIdeal.nD Cert.GmInRefIdeal.τ).loc Cert.GmInRefIdeal.main_arg2) = m' ((c.tc : Thread Cert.GmInRefIdeal.nD Cert.GmInRefIdeal.τ).loc Cert.GmInRefIdeal.main_arg2))

def preserves_GmInDw_GmInDwIdeal : Prop :=
  True

def algebraic_GmInDwIdeal_GmInDwRefIdeal [hGmInDwIdeal : Cert.GmInDwIdeal.Facts] [hGmInDwRefIdeal : Cert.GmInDwRefIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg)
    (m' : (ℓ : Loc Cert.GmInDwRefIdeal.nD Cert.GmInDwRefIdeal.τ Cert.GmInDwRefIdeal.sig) → Buf (Elt Ideal) ℓ) (g' : Dev Cert.GmInDwRefIdeal.nD → PrngReg), Pre_GmInDwIdeal m →
    (∀ c : Dev Cert.GmInDwIdeal.nD,
      m' ((c.tc : Thread Cert.GmInDwRefIdeal.nD Cert.GmInDwRefIdeal.τ).loc Cert.GmInDwRefIdeal.main_arg0) = m ((c.tc : Thread Cert.GmInDwIdeal.nD Cert.GmInDwIdeal.τ).loc Cert.GmInDwIdeal.main_arg0)
      ∧ m' ((c.tc : Thread Cert.GmInDwRefIdeal.nD Cert.GmInDwRefIdeal.τ).loc Cert.GmInDwRefIdeal.main_arg1) = m ((c.tc : Thread Cert.GmInDwIdeal.nD Cert.GmInDwIdeal.τ).loc Cert.GmInDwIdeal.main_arg1)) →
    ∃ (v0 : (c : Dev Cert.GmInDwIdeal.nD) → Buf (Elt Ideal) ((c.tc : Thread Cert.GmInDwIdeal.nD Cert.GmInDwIdeal.τ).loc Cert.GmInDwIdeal.main_v0)),
      θ_run (Cert.GmInDwIdeal.defs (F := Ideal)) (onTc (τ := Cert.GmInDwIdeal.τ) (Cert.GmInDwIdeal.main (F := Ideal))) ⟨m, fun _ => 0, g⟩ (fun r => ∀ c : Dev Cert.GmInDwIdeal.nD,
          r.2.mem ((c.tc : Thread Cert.GmInDwIdeal.nD Cert.GmInDwIdeal.τ).loc Cert.GmInDwIdeal.main_v0) = v0 c
          ∧ r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
          ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ θ_run (Cert.GmInDwRefIdeal.defs (F := Ideal)) (onTc (τ := Cert.GmInDwRefIdeal.τ) (Cert.GmInDwRefIdeal.main (F := Ideal))) ⟨m', fun _ => 0, g'⟩ (fun r => ∀ c : Dev Cert.GmInDwRefIdeal.nD,
          r.2.mem ((c.tc : Thread Cert.GmInDwRefIdeal.nD Cert.GmInDwRefIdeal.τ).loc Cert.GmInDwRefIdeal.main_v8) = v0 c
          ∧ r.2.mem ((c.tc : Thread Cert.GmInDwRefIdeal.nD Cert.GmInDwRefIdeal.τ).loc Cert.GmInDwRefIdeal.main_arg0) = m' ((c.tc : Thread Cert.GmInDwRefIdeal.nD Cert.GmInDwRefIdeal.τ).loc Cert.GmInDwRefIdeal.main_arg0)
          ∧ r.2.mem ((c.tc : Thread Cert.GmInDwRefIdeal.nD Cert.GmInDwRefIdeal.τ).loc Cert.GmInDwRefIdeal.main_arg1) = m' ((c.tc : Thread Cert.GmInDwRefIdeal.nD Cert.GmInDwRefIdeal.τ).loc Cert.GmInDwRefIdeal.main_arg1))

def preserves_GmInDx_GmInDxIdeal : Prop :=
  True

def algebraic_GmInDxIdeal_GmInDxRefIdeal [hGmInDxIdeal : Cert.GmInDxIdeal.Facts] [hGmInDxRefIdeal : Cert.GmInDxRefIdeal.Facts] : Prop :=
  ∀ (m : (ℓ : Loc Cert.GmInDxIdeal.nD Cert.GmInDxIdeal.τ Cert.GmInDxIdeal.sig) → Buf (Elt Ideal) ℓ) (g : Dev Cert.GmInDxIdeal.nD → PrngReg)
    (m' : (ℓ : Loc Cert.GmInDxRefIdeal.nD Cert.GmInDxRefIdeal.τ Cert.GmInDxRefIdeal.sig) → Buf (Elt Ideal) ℓ) (g' : Dev Cert.GmInDxRefIdeal.nD → PrngReg), Pre_GmInDxIdeal m →
    (∀ c : Dev Cert.GmInDxIdeal.nD,
      m' ((c.tc : Thread Cert.GmInDxRefIdeal.nD Cert.GmInDxRefIdeal.τ).loc Cert.GmInDxRefIdeal.main_arg0) = m ((c.tc : Thread Cert.GmInDxIdeal.nD Cert.GmInDxIdeal.τ).loc Cert.GmInDxIdeal.main_arg0)
      ∧ m' ((c.tc : Thread Cert.GmInDxRefIdeal.nD Cert.GmInDxRefIdeal.τ).loc Cert.GmInDxRefIdeal.main_arg1) = m ((c.tc : Thread Cert.GmInDxIdeal.nD Cert.GmInDxIdeal.τ).loc Cert.GmInDxIdeal.main_arg1)) →
    ∃ (v0 : (c : Dev Cert.GmInDxIdeal.nD) → Buf (Elt Ideal) ((c.tc : Thread Cert.GmInDxIdeal.nD Cert.GmInDxIdeal.τ).loc Cert.GmInDxIdeal.main_v2)),
      θ_run (Cert.GmInDxIdeal.defs (F := Ideal)) (onTc (τ := Cert.GmInDxIdeal.τ) (Cert.GmInDxIdeal.main (F := Ideal))) ⟨m, fun _ => 0, g⟩ (fun r => ∀ c : Dev Cert.GmInDxIdeal.nD,
          r.2.mem ((c.tc : Thread Cert.GmInDxIdeal.nD Cert.GmInDxIdeal.τ).loc Cert.GmInDxIdeal.main_v2) = v0 c
          ∧ r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
          ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1))
      ∧ θ_run (Cert.GmInDxRefIdeal.defs (F := Ideal)) (onTc (τ := Cert.GmInDxRefIdeal.τ) (Cert.GmInDxRefIdeal.main (F := Ideal))) ⟨m', fun _ => 0, g'⟩ (fun r => ∀ c : Dev Cert.GmInDxRefIdeal.nD,
          r.2.mem ((c.tc : Thread Cert.GmInDxRefIdeal.nD Cert.GmInDxRefIdeal.τ).loc Cert.GmInDxRefIdeal.main_v4) = v0 c
          ∧ r.2.mem ((c.tc : Thread Cert.GmInDxRefIdeal.nD Cert.GmInDxRefIdeal.τ).loc Cert.GmInDxRefIdeal.main_arg0) = m' ((c.tc : Thread Cert.GmInDxRefIdeal.nD Cert.GmInDxRefIdeal.τ).loc Cert.GmInDxRefIdeal.main_arg0)
          ∧ r.2.mem ((c.tc : Thread Cert.GmInDxRefIdeal.nD Cert.GmInDxRefIdeal.τ).loc Cert.GmInDxRefIdeal.main_arg1) = m' ((c.tc : Thread Cert.GmInDxRefIdeal.nD Cert.GmInDxRefIdeal.τ).loc Cert.GmInDxRefIdeal.main_arg1))

def preserves_ArInLat_ArInLatIdeal : Prop :=
  True

def algebraic_ArInLatIdeal_ArInLatRefIdeal [hArInLatIdeal : Cert.ArInLatIdeal.Facts] [hArInLatRefIdeal : Cert.ArInLatRefIdeal.Facts] : Prop :=
  ∀ (m : (ℓ : Loc Cert.ArInLatIdeal.nD Cert.ArInLatIdeal.τ Cert.ArInLatIdeal.sig) → Buf (Elt Ideal) ℓ) (g : Dev Cert.ArInLatIdeal.nD → PrngReg)
    (m' : (ℓ : Loc Cert.ArInLatRefIdeal.nD Cert.ArInLatRefIdeal.τ Cert.ArInLatRefIdeal.sig) → Buf (Elt Ideal) ℓ) (g' : Dev Cert.ArInLatRefIdeal.nD → PrngReg), Pre_ArInLatIdeal m →
    (∀ c : Dev Cert.ArInLatIdeal.nD,
      m' ((c.tc : Thread Cert.ArInLatRefIdeal.nD Cert.ArInLatRefIdeal.τ).loc Cert.ArInLatRefIdeal.main_arg0) = m ((c.tc : Thread Cert.ArInLatIdeal.nD Cert.ArInLatIdeal.τ).loc Cert.ArInLatIdeal.main_arg0)
      ∧ m' ((c.tc : Thread Cert.ArInLatRefIdeal.nD Cert.ArInLatRefIdeal.τ).loc Cert.ArInLatRefIdeal.main_arg1) = m ((c.tc : Thread Cert.ArInLatIdeal.nD Cert.ArInLatIdeal.τ).loc Cert.ArInLatIdeal.main_arg1)) →
    ∃ (v0 : (c : Dev Cert.ArInLatIdeal.nD) → Buf (Elt Ideal) ((c.tc : Thread Cert.ArInLatIdeal.nD Cert.ArInLatIdeal.τ).loc Cert.ArInLatIdeal.main_v2)),
      θ_run (Cert.ArInLatIdeal.defs (F := Ideal)) (onTc (τ := Cert.ArInLatIdeal.τ) (Cert.ArInLatIdeal.main (F := Ideal))) ⟨m, fun _ => 0, g⟩ (fun r => ∀ c : Dev Cert.ArInLatIdeal.nD,
          r.2.mem ((c.tc : Thread Cert.ArInLatIdeal.nD Cert.ArInLatIdeal.τ).loc Cert.ArInLatIdeal.main_v2) = v0 c
          ∧ r.2.mem ((c.tc : Thread Cert.ArInLatIdeal.nD Cert.ArInLatIdeal.τ).loc Cert.ArInLatIdeal.main_arg0) = m ((c.tc : Thread Cert.ArInLatIdeal.nD Cert.ArInLatIdeal.τ).loc Cert.ArInLatIdeal.main_arg0)
          ∧ r.2.mem ((c.tc : Thread Cert.ArInLatIdeal.nD Cert.ArInLatIdeal.τ).loc Cert.ArInLatIdeal.main_arg1) = m ((c.tc : Thread Cert.ArInLatIdeal.nD Cert.ArInLatIdeal.τ).loc Cert.ArInLatIdeal.main_arg1))
      ∧ θ_run (Cert.ArInLatRefIdeal.defs (F := Ideal)) (onTc (τ := Cert.ArInLatRefIdeal.τ) (Cert.ArInLatRefIdeal.main (F := Ideal))) ⟨m', fun _ => 0, g'⟩ (fun r => ∀ c : Dev Cert.ArInLatRefIdeal.nD,
          r.2.mem ((c.tc : Thread Cert.ArInLatRefIdeal.nD Cert.ArInLatRefIdeal.τ).loc Cert.ArInLatRefIdeal.main_v3) = v0 c
          ∧ r.2.mem ((c.tc : Thread Cert.ArInLatRefIdeal.nD Cert.ArInLatRefIdeal.τ).loc Cert.ArInLatRefIdeal.main_arg0) = m' ((c.tc : Thread Cert.ArInLatRefIdeal.nD Cert.ArInLatRefIdeal.τ).loc Cert.ArInLatRefIdeal.main_arg0)
          ∧ r.2.mem ((c.tc : Thread Cert.ArInLatRefIdeal.nD Cert.ArInLatRefIdeal.τ).loc Cert.ArInLatRefIdeal.main_arg1) = m' ((c.tc : Thread Cert.ArInLatRefIdeal.nD Cert.ArInLatRefIdeal.τ).loc Cert.ArInLatRefIdeal.main_arg1))

def preserves_ArInCtx_ArInCtxIdeal : Prop :=
  True

def algebraic_ArInCtxIdeal_ArInCtxRefIdeal [hArInCtxIdeal : Cert.ArInCtxIdeal.Facts] [hArInCtxRefIdeal : Cert.ArInCtxRefIdeal.Facts] : Prop :=
  ∀ (m : (ℓ : Loc Cert.ArInCtxIdeal.nD Cert.ArInCtxIdeal.τ Cert.ArInCtxIdeal.sig) → Buf (Elt Ideal) ℓ) (g : Dev Cert.ArInCtxIdeal.nD → PrngReg)
    (m' : (ℓ : Loc Cert.ArInCtxRefIdeal.nD Cert.ArInCtxRefIdeal.τ Cert.ArInCtxRefIdeal.sig) → Buf (Elt Ideal) ℓ) (g' : Dev Cert.ArInCtxRefIdeal.nD → PrngReg), Pre_ArInCtxIdeal m →
    (∀ c : Dev Cert.ArInCtxIdeal.nD,
      m' ((c.tc : Thread Cert.ArInCtxRefIdeal.nD Cert.ArInCtxRefIdeal.τ).loc Cert.ArInCtxRefIdeal.main_arg0) = m ((c.tc : Thread Cert.ArInCtxIdeal.nD Cert.ArInCtxIdeal.τ).loc Cert.ArInCtxIdeal.main_arg0)
      ∧ m' ((c.tc : Thread Cert.ArInCtxRefIdeal.nD Cert.ArInCtxRefIdeal.τ).loc Cert.ArInCtxRefIdeal.main_arg1) = m ((c.tc : Thread Cert.ArInCtxIdeal.nD Cert.ArInCtxIdeal.τ).loc Cert.ArInCtxIdeal.main_arg1)) →
    ∃ (v0 : (c : Dev Cert.ArInCtxIdeal.nD) → Buf (Elt Ideal) ((c.tc : Thread Cert.ArInCtxIdeal.nD Cert.ArInCtxIdeal.τ).loc Cert.ArInCtxIdeal.main_v2)),
      θ_run (Cert.ArInCtxIdeal.defs (F := Ideal)) (onTc (τ := Cert.ArInCtxIdeal.τ) (Cert.ArInCtxIdeal.main (F := Ideal))) ⟨m, fun _ => 0, g⟩ (fun r => ∀ c : Dev Cert.ArInCtxIdeal.nD,
          r.2.mem ((c.tc : Thread Cert.ArInCtxIdeal.nD Cert.ArInCtxIdeal.τ).loc Cert.ArInCtxIdeal.main_v2) = v0 c
          ∧ r.2.mem ((c.tc : Thread Cert.ArInCtxIdeal.nD Cert.ArInCtxIdeal.τ).loc Cert.ArInCtxIdeal.main_arg0) = m ((c.tc : Thread Cert.ArInCtxIdeal.nD Cert.ArInCtxIdeal.τ).loc Cert.ArInCtxIdeal.main_arg0)
          ∧ r.2.mem ((c.tc : Thread Cert.ArInCtxIdeal.nD Cert.ArInCtxIdeal.τ).loc Cert.ArInCtxIdeal.main_arg1) = m ((c.tc : Thread Cert.ArInCtxIdeal.nD Cert.ArInCtxIdeal.τ).loc Cert.ArInCtxIdeal.main_arg1))
      ∧ θ_run (Cert.ArInCtxRefIdeal.defs (F := Ideal)) (onTc (τ := Cert.ArInCtxRefIdeal.τ) (Cert.ArInCtxRefIdeal.main (F := Ideal))) ⟨m', fun _ => 0, g'⟩ (fun r => ∀ c : Dev Cert.ArInCtxRefIdeal.nD,
          r.2.mem ((c.tc : Thread Cert.ArInCtxRefIdeal.nD Cert.ArInCtxRefIdeal.τ).loc Cert.ArInCtxRefIdeal.main_v3) = v0 c
          ∧ r.2.mem ((c.tc : Thread Cert.ArInCtxRefIdeal.nD Cert.ArInCtxRefIdeal.τ).loc Cert.ArInCtxRefIdeal.main_arg0) = m' ((c.tc : Thread Cert.ArInCtxRefIdeal.nD Cert.ArInCtxRefIdeal.τ).loc Cert.ArInCtxRefIdeal.main_arg0)
          ∧ r.2.mem ((c.tc : Thread Cert.ArInCtxRefIdeal.nD Cert.ArInCtxRefIdeal.τ).loc Cert.ArInCtxRefIdeal.main_arg1) = m' ((c.tc : Thread Cert.ArInCtxRefIdeal.nD Cert.ArInCtxRefIdeal.τ).loc Cert.ArInCtxRefIdeal.main_arg1))

def preserves_ArInDw_ArInDwIdeal : Prop :=
  True

def algebraic_ArInDwIdeal_ArInDwRefIdeal [hArInDwIdeal : Cert.ArInDwIdeal.Facts] [hArInDwRefIdeal : Cert.ArInDwRefIdeal.Facts] : Prop :=
  ∀ (m : (ℓ : Loc Cert.ArInDwIdeal.nD Cert.ArInDwIdeal.τ Cert.ArInDwIdeal.sig) → Buf (Elt Ideal) ℓ) (g : Dev Cert.ArInDwIdeal.nD → PrngReg)
    (m' : (ℓ : Loc Cert.ArInDwRefIdeal.nD Cert.ArInDwRefIdeal.τ Cert.ArInDwRefIdeal.sig) → Buf (Elt Ideal) ℓ) (g' : Dev Cert.ArInDwRefIdeal.nD → PrngReg), Pre_ArInDwIdeal m →
    (∀ c : Dev Cert.ArInDwIdeal.nD,
      m' ((c.tc : Thread Cert.ArInDwRefIdeal.nD Cert.ArInDwRefIdeal.τ).loc Cert.ArInDwRefIdeal.main_arg0) = m ((c.tc : Thread Cert.ArInDwIdeal.nD Cert.ArInDwIdeal.τ).loc Cert.ArInDwIdeal.main_arg0)
      ∧ m' ((c.tc : Thread Cert.ArInDwRefIdeal.nD Cert.ArInDwRefIdeal.τ).loc Cert.ArInDwRefIdeal.main_arg1) = m ((c.tc : Thread Cert.ArInDwIdeal.nD Cert.ArInDwIdeal.τ).loc Cert.ArInDwIdeal.main_arg1)) →
    ∃ (v0 : (c : Dev Cert.ArInDwIdeal.nD) → Buf (Elt Ideal) ((c.tc : Thread Cert.ArInDwIdeal.nD Cert.ArInDwIdeal.τ).loc Cert.ArInDwIdeal.main_v0)),
      θ_run (Cert.ArInDwIdeal.defs (F := Ideal)) (onTc (τ := Cert.ArInDwIdeal.τ) (Cert.ArInDwIdeal.main (F := Ideal))) ⟨m, fun _ => 0, g⟩ (fun r => ∀ c : Dev Cert.ArInDwIdeal.nD,
          r.2.mem ((c.tc : Thread Cert.ArInDwIdeal.nD Cert.ArInDwIdeal.τ).loc Cert.ArInDwIdeal.main_v0) = v0 c
          ∧ r.2.mem ((c.tc : Thread Cert.ArInDwIdeal.nD Cert.ArInDwIdeal.τ).loc Cert.ArInDwIdeal.main_arg0) = m ((c.tc : Thread Cert.ArInDwIdeal.nD Cert.ArInDwIdeal.τ).loc Cert.ArInDwIdeal.main_arg0)
          ∧ r.2.mem ((c.tc : Thread Cert.ArInDwIdeal.nD Cert.ArInDwIdeal.τ).loc Cert.ArInDwIdeal.main_arg1) = m ((c.tc : Thread Cert.ArInDwIdeal.nD Cert.ArInDwIdeal.τ).loc Cert.ArInDwIdeal.main_arg1))
      ∧ θ_run (Cert.ArInDwRefIdeal.defs (F := Ideal)) (onTc (τ := Cert.ArInDwRefIdeal.τ) (Cert.ArInDwRefIdeal.main (F := Ideal))) ⟨m', fun _ => 0, g'⟩ (fun r => ∀ c : Dev Cert.ArInDwRefIdeal.nD,
          r.2.mem ((c.tc : Thread Cert.ArInDwRefIdeal.nD Cert.ArInDwRefIdeal.τ).loc Cert.ArInDwRefIdeal.main_v8) = v0 c
          ∧ r.2.mem ((c.tc : Thread Cert.ArInDwRefIdeal.nD Cert.ArInDwRefIdeal.τ).loc Cert.ArInDwRefIdeal.main_arg0) = m' ((c.tc : Thread Cert.ArInDwRefIdeal.nD Cert.ArInDwRefIdeal.τ).loc Cert.ArInDwRefIdeal.main_arg0)
          ∧ r.2.mem ((c.tc : Thread Cert.ArInDwRefIdeal.nD Cert.ArInDwRefIdeal.τ).loc Cert.ArInDwRefIdeal.main_arg1) = m' ((c.tc : Thread Cert.ArInDwRefIdeal.nD Cert.ArInDwRefIdeal.τ).loc Cert.ArInDwRefIdeal.main_arg1))

def preserves_ArInDxLat_ArInDxLatIdeal : Prop :=
  True

def algebraic_ArInDxLatIdeal_ArInDxLatRefIdeal [hArInDxLatIdeal : Cert.ArInDxLatIdeal.Facts] [hArInDxLatRefIdeal : Cert.ArInDxLatRefIdeal.Facts] : Prop :=
  ∀ (m : (ℓ : Loc Cert.ArInDxLatIdeal.nD Cert.ArInDxLatIdeal.τ Cert.ArInDxLatIdeal.sig) → Buf (Elt Ideal) ℓ) (g : Dev Cert.ArInDxLatIdeal.nD → PrngReg)
    (m' : (ℓ : Loc Cert.ArInDxLatRefIdeal.nD Cert.ArInDxLatRefIdeal.τ Cert.ArInDxLatRefIdeal.sig) → Buf (Elt Ideal) ℓ) (g' : Dev Cert.ArInDxLatRefIdeal.nD → PrngReg), Pre_ArInDxLatIdeal m →
    (∀ c : Dev Cert.ArInDxLatIdeal.nD,
      m' ((c.tc : Thread Cert.ArInDxLatRefIdeal.nD Cert.ArInDxLatRefIdeal.τ).loc Cert.ArInDxLatRefIdeal.main_arg0) = m ((c.tc : Thread Cert.ArInDxLatIdeal.nD Cert.ArInDxLatIdeal.τ).loc Cert.ArInDxLatIdeal.main_arg0)
      ∧ m' ((c.tc : Thread Cert.ArInDxLatRefIdeal.nD Cert.ArInDxLatRefIdeal.τ).loc Cert.ArInDxLatRefIdeal.main_arg1) = m ((c.tc : Thread Cert.ArInDxLatIdeal.nD Cert.ArInDxLatIdeal.τ).loc Cert.ArInDxLatIdeal.main_arg1)) →
    ∃ (v0 : (c : Dev Cert.ArInDxLatIdeal.nD) → Buf (Elt Ideal) ((c.tc : Thread Cert.ArInDxLatIdeal.nD Cert.ArInDxLatIdeal.τ).loc Cert.ArInDxLatIdeal.main_v2)),
      θ_run (Cert.ArInDxLatIdeal.defs (F := Ideal)) (onTc (τ := Cert.ArInDxLatIdeal.τ) (Cert.ArInDxLatIdeal.main (F := Ideal))) ⟨m, fun _ => 0, g⟩ (fun r => ∀ c : Dev Cert.ArInDxLatIdeal.nD,
          r.2.mem ((c.tc : Thread Cert.ArInDxLatIdeal.nD Cert.ArInDxLatIdeal.τ).loc Cert.ArInDxLatIdeal.main_v2) = v0 c
          ∧ r.2.mem ((c.tc : Thread Cert.ArInDxLatIdeal.nD Cert.ArInDxLatIdeal.τ).loc Cert.ArInDxLatIdeal.main_arg0) = m ((c.tc : Thread Cert.ArInDxLatIdeal.nD Cert.ArInDxLatIdeal.τ).loc Cert.ArInDxLatIdeal.main_arg0)
          ∧ r.2.mem ((c.tc : Thread Cert.ArInDxLatIdeal.nD Cert.ArInDxLatIdeal.τ).loc Cert.ArInDxLatIdeal.main_arg1) = m ((c.tc : Thread Cert.ArInDxLatIdeal.nD Cert.ArInDxLatIdeal.τ).loc Cert.ArInDxLatIdeal.main_arg1))
      ∧ θ_run (Cert.ArInDxLatRefIdeal.defs (F := Ideal)) (onTc (τ := Cert.ArInDxLatRefIdeal.τ) (Cert.ArInDxLatRefIdeal.main (F := Ideal))) ⟨m', fun _ => 0, g'⟩ (fun r => ∀ c : Dev Cert.ArInDxLatRefIdeal.nD,
          r.2.mem ((c.tc : Thread Cert.ArInDxLatRefIdeal.nD Cert.ArInDxLatRefIdeal.τ).loc Cert.ArInDxLatRefIdeal.main_v5) = v0 c
          ∧ r.2.mem ((c.tc : Thread Cert.ArInDxLatRefIdeal.nD Cert.ArInDxLatRefIdeal.τ).loc Cert.ArInDxLatRefIdeal.main_arg0) = m' ((c.tc : Thread Cert.ArInDxLatRefIdeal.nD Cert.ArInDxLatRefIdeal.τ).loc Cert.ArInDxLatRefIdeal.main_arg0)
          ∧ r.2.mem ((c.tc : Thread Cert.ArInDxLatRefIdeal.nD Cert.ArInDxLatRefIdeal.τ).loc Cert.ArInDxLatRefIdeal.main_arg1) = m' ((c.tc : Thread Cert.ArInDxLatRefIdeal.nD Cert.ArInDxLatRefIdeal.τ).loc Cert.ArInDxLatRefIdeal.main_arg1))

def preserves_ArInDxCtx_ArInDxCtxIdeal : Prop :=
  True

def algebraic_ArInDxCtxIdeal_ArInDxCtxRefIdeal [hArInDxCtxIdeal : Cert.ArInDxCtxIdeal.Facts] [hArInDxCtxRefIdeal : Cert.ArInDxCtxRefIdeal.Facts] : Prop :=
  ∀ (m : (ℓ : Loc Cert.ArInDxCtxIdeal.nD Cert.ArInDxCtxIdeal.τ Cert.ArInDxCtxIdeal.sig) → Buf (Elt Ideal) ℓ) (g : Dev Cert.ArInDxCtxIdeal.nD → PrngReg)
    (m' : (ℓ : Loc Cert.ArInDxCtxRefIdeal.nD Cert.ArInDxCtxRefIdeal.τ Cert.ArInDxCtxRefIdeal.sig) → Buf (Elt Ideal) ℓ) (g' : Dev Cert.ArInDxCtxRefIdeal.nD → PrngReg), Pre_ArInDxCtxIdeal m →
    (∀ c : Dev Cert.ArInDxCtxIdeal.nD,
      m' ((c.tc : Thread Cert.ArInDxCtxRefIdeal.nD Cert.ArInDxCtxRefIdeal.τ).loc Cert.ArInDxCtxRefIdeal.main_arg0) = m ((c.tc : Thread Cert.ArInDxCtxIdeal.nD Cert.ArInDxCtxIdeal.τ).loc Cert.ArInDxCtxIdeal.main_arg0)
      ∧ m' ((c.tc : Thread Cert.ArInDxCtxRefIdeal.nD Cert.ArInDxCtxRefIdeal.τ).loc Cert.ArInDxCtxRefIdeal.main_arg1) = m ((c.tc : Thread Cert.ArInDxCtxIdeal.nD Cert.ArInDxCtxIdeal.τ).loc Cert.ArInDxCtxIdeal.main_arg1)) →
    ∃ (v0 : (c : Dev Cert.ArInDxCtxIdeal.nD) → Buf (Elt Ideal) ((c.tc : Thread Cert.ArInDxCtxIdeal.nD Cert.ArInDxCtxIdeal.τ).loc Cert.ArInDxCtxIdeal.main_v2)),
      θ_run (Cert.ArInDxCtxIdeal.defs (F := Ideal)) (onTc (τ := Cert.ArInDxCtxIdeal.τ) (Cert.ArInDxCtxIdeal.main (F := Ideal))) ⟨m, fun _ => 0, g⟩ (fun r => ∀ c : Dev Cert.ArInDxCtxIdeal.nD,
          r.2.mem ((c.tc : Thread Cert.ArInDxCtxIdeal.nD Cert.ArInDxCtxIdeal.τ).loc Cert.ArInDxCtxIdeal.main_v2) = v0 c
          ∧ r.2.mem ((c.tc : Thread Cert.ArInDxCtxIdeal.nD Cert.ArInDxCtxIdeal.τ).loc Cert.ArInDxCtxIdeal.main_arg0) = m ((c.tc : Thread Cert.ArInDxCtxIdeal.nD Cert.ArInDxCtxIdeal.τ).loc Cert.ArInDxCtxIdeal.main_arg0)
          ∧ r.2.mem ((c.tc : Thread Cert.ArInDxCtxIdeal.nD Cert.ArInDxCtxIdeal.τ).loc Cert.ArInDxCtxIdeal.main_arg1) = m ((c.tc : Thread Cert.ArInDxCtxIdeal.nD Cert.ArInDxCtxIdeal.τ).loc Cert.ArInDxCtxIdeal.main_arg1))
      ∧ θ_run (Cert.ArInDxCtxRefIdeal.defs (F := Ideal)) (onTc (τ := Cert.ArInDxCtxRefIdeal.τ) (Cert.ArInDxCtxRefIdeal.main (F := Ideal))) ⟨m', fun _ => 0, g'⟩ (fun r => ∀ c : Dev Cert.ArInDxCtxRefIdeal.nD,
          r.2.mem ((c.tc : Thread Cert.ArInDxCtxRefIdeal.nD Cert.ArInDxCtxRefIdeal.τ).loc Cert.ArInDxCtxRefIdeal.main_v5) = v0 c
          ∧ r.2.mem ((c.tc : Thread Cert.ArInDxCtxRefIdeal.nD Cert.ArInDxCtxRefIdeal.τ).loc Cert.ArInDxCtxRefIdeal.main_arg0) = m' ((c.tc : Thread Cert.ArInDxCtxRefIdeal.nD Cert.ArInDxCtxRefIdeal.τ).loc Cert.ArInDxCtxRefIdeal.main_arg0)
          ∧ r.2.mem ((c.tc : Thread Cert.ArInDxCtxRefIdeal.nD Cert.ArInDxCtxRefIdeal.τ).loc Cert.ArInDxCtxRefIdeal.main_arg1) = m' ((c.tc : Thread Cert.ArInDxCtxRefIdeal.nD Cert.ArInDxCtxRefIdeal.τ).loc Cert.ArInDxCtxRefIdeal.main_arg1))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)
      ∧ m' ((c.tc : Thread Cert.ModBwdRefIdeal.nD Cert.ModBwdRefIdeal.τ).loc Cert.ModBwdRefIdeal.main_arg3) = m ((c.tc : Thread Cert.ModBwdIdeal.nD Cert.ModBwdIdeal.τ).loc Cert.ModBwdIdeal.main_arg3)
      ∧ m' ((c.tc : Thread Cert.ModBwdRefIdeal.nD Cert.ModBwdRefIdeal.τ).loc Cert.ModBwdRefIdeal.main_arg4) = m ((c.tc : Thread Cert.ModBwdIdeal.nD Cert.ModBwdIdeal.τ).loc Cert.ModBwdIdeal.main_arg4)) →
    ∃ (v0 : (c : Dev Cert.ModBwdIdeal.nD) → Buf (Elt Ideal) ((c.tc : Thread Cert.ModBwdIdeal.nD Cert.ModBwdIdeal.τ).loc Cert.ModBwdIdeal.main_v2_0)) (v1 : (c : Dev Cert.ModBwdIdeal.nD) → Buf (Elt Ideal) ((c.tc : Thread Cert.ModBwdIdeal.nD Cert.ModBwdIdeal.τ).loc Cert.ModBwdIdeal.main_v2_1)) (v2 : (c : Dev Cert.ModBwdIdeal.nD) → Buf (Elt Ideal) ((c.tc : Thread Cert.ModBwdIdeal.nD Cert.ModBwdIdeal.τ).loc Cert.ModBwdIdeal.main_v2_2)) (v3 : (c : Dev Cert.ModBwdIdeal.nD) → Buf (Elt Ideal) ((c.tc : Thread Cert.ModBwdIdeal.nD Cert.ModBwdIdeal.τ).loc Cert.ModBwdIdeal.main_v2_3)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v2_0) = v0 c
          ∧ r.2.mem ((c.tc : Thread Cert.ModBwdIdeal.nD Cert.ModBwdIdeal.τ).loc Cert.ModBwdIdeal.main_v2_1) = v1 c
          ∧ r.2.mem ((c.tc : Thread Cert.ModBwdIdeal.nD Cert.ModBwdIdeal.τ).loc Cert.ModBwdIdeal.main_v2_2) = v2 c
          ∧ r.2.mem ((c.tc : Thread Cert.ModBwdIdeal.nD Cert.ModBwdIdeal.τ).loc Cert.ModBwdIdeal.main_v2_3) = v3 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
          ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v49) = v0 c
          ∧ r.2.mem ((c.tc : Thread Cert.ModBwdRefIdeal.nD Cert.ModBwdRefIdeal.τ).loc Cert.ModBwdRefIdeal.main_v32) = v1 c
          ∧ r.2.mem ((c.tc : Thread Cert.ModBwdRefIdeal.nD Cert.ModBwdRefIdeal.τ).loc Cert.ModBwdRefIdeal.main_v27) = v2 c
          ∧ r.2.mem ((c.tc : Thread Cert.ModBwdRefIdeal.nD Cert.ModBwdRefIdeal.τ).loc Cert.ModBwdRefIdeal.main_v24) = v3 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2)
          ∧ r.2.mem ((c.tc : Thread Cert.ModBwdRefIdeal.nD Cert.ModBwdRefIdeal.τ).loc Cert.ModBwdRefIdeal.main_arg3) = m' ((c.tc : Thread Cert.ModBwdRefIdeal.nD Cert.ModBwdRefIdeal.τ).loc Cert.ModBwdRefIdeal.main_arg3)
          ∧ r.2.mem ((c.tc : Thread Cert.ModBwdRefIdeal.nD Cert.ModBwdRefIdeal.τ).loc Cert.ModBwdRefIdeal.main_arg4) = m' ((c.tc : Thread Cert.ModBwdRefIdeal.nD Cert.ModBwdRefIdeal.τ).loc Cert.ModBwdRefIdeal.main_arg4))

def preserves_AdamFf_AdamFfIdeal : Prop :=
  True

def algebraic_AdamFfIdeal_AdamFfRefIdeal [hAdamFfIdeal : Cert.AdamFfIdeal.Facts] [hAdamFfRefIdeal : Cert.AdamFfRefIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)) →
    ∃ (v0 : (c : Dev Cert.AdamFfIdeal.nD) → Buf (Elt Ideal) ((c.tc : Thread Cert.AdamFfIdeal.nD Cert.AdamFfIdeal.τ).loc Cert.AdamFfIdeal.main_v0_0)) (v1 : (c : Dev Cert.AdamFfIdeal.nD) → Buf (Elt Ideal) ((c.tc : Thread Cert.AdamFfIdeal.nD Cert.AdamFfIdeal.τ).loc Cert.AdamFfIdeal.main_v0_1)) (v2 : (c : Dev Cert.AdamFfIdeal.nD) → Buf (Elt Ideal) ((c.tc : Thread Cert.AdamFfIdeal.nD Cert.AdamFfIdeal.τ).loc Cert.AdamFfIdeal.main_v0_2)) (v3 : (c : Dev Cert.AdamFfIdeal.nD) → Buf (Elt Ideal) ((c.tc : Thread Cert.AdamFfIdeal.nD Cert.AdamFfIdeal.τ).loc Cert.AdamFfIdeal.main_v0_3)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v0_0) = v0 c
          ∧ r.2.mem ((c.tc : Thread Cert.AdamFfIdeal.nD Cert.AdamFfIdeal.τ).loc Cert.AdamFfIdeal.main_v0_1) = v1 c
          ∧ r.2.mem ((c.tc : Thread Cert.AdamFfIdeal.nD Cert.AdamFfIdeal.τ).loc Cert.AdamFfIdeal.main_v0_2) = v2 c
          ∧ r.2.mem ((c.tc : Thread Cert.AdamFfIdeal.nD Cert.AdamFfIdeal.τ).loc Cert.AdamFfIdeal.main_v0_3) = v3 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_arg1) = v0 c
          ∧ r.2.mem ((c.tc : Thread Cert.AdamFfRefIdeal.nD Cert.AdamFfRefIdeal.τ).loc Cert.AdamFfRefIdeal.main_v23) = v1 c
          ∧ r.2.mem ((c.tc : Thread Cert.AdamFfRefIdeal.nD Cert.AdamFfRefIdeal.τ).loc Cert.AdamFfRefIdeal.main_v4) = v2 c
          ∧ r.2.mem ((c.tc : Thread Cert.AdamFfRefIdeal.nD Cert.AdamFfRefIdeal.τ).loc Cert.AdamFfRefIdeal.main_v10) = v3 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v23) = v0 c
          ∧ r.2.mem ((c.tc : Thread Cert.AdamModRefIdeal.nD Cert.AdamModRefIdeal.τ).loc Cert.AdamModRefIdeal.main_v4) = v1 c
          ∧ r.2.mem ((c.tc : Thread Cert.AdamModRefIdeal.nD Cert.AdamModRefIdeal.τ).loc Cert.AdamModRefIdeal.main_v10) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamCtx_AdamCtxIdeal : Prop :=
  True

def algebraic_AdamCtxIdeal_AdamCtxRefIdeal [hAdamCtxIdeal : Cert.AdamCtxIdeal.Facts] [hAdamCtxRefIdeal : Cert.AdamCtxRefIdeal.Facts] : Prop :=
  ∀ (m : (ℓ : Loc Cert.AdamCtxIdeal.nD Cert.AdamCtxIdeal.τ Cert.AdamCtxIdeal.sig) → Buf (Elt Ideal) ℓ) (g : Dev Cert.AdamCtxIdeal.nD → PrngReg)
    (m' : (ℓ : Loc Cert.AdamCtxRefIdeal.nD Cert.AdamCtxRefIdeal.τ Cert.AdamCtxRefIdeal.sig) → Buf (Elt Ideal) ℓ) (g' : Dev Cert.AdamCtxRefIdeal.nD → PrngReg), Pre_AdamCtxIdeal m →
    (∀ c : Dev Cert.AdamCtxIdeal.nD,
      m' ((c.tc : Thread Cert.AdamCtxRefIdeal.nD Cert.AdamCtxRefIdeal.τ).loc Cert.AdamCtxRefIdeal.main_arg0) = m ((c.tc : Thread Cert.AdamCtxIdeal.nD Cert.AdamCtxIdeal.τ).loc Cert.AdamCtxIdeal.main_arg0)
      ∧ m' ((c.tc : Thread Cert.AdamCtxRefIdeal.nD Cert.AdamCtxRefIdeal.τ).loc Cert.AdamCtxRefIdeal.main_arg1) = m ((c.tc : Thread Cert.AdamCtxIdeal.nD Cert.AdamCtxIdeal.τ).loc Cert.AdamCtxIdeal.main_arg1)
      ∧ m' ((c.tc : Thread Cert.AdamCtxRefIdeal.nD Cert.AdamCtxRefIdeal.τ).loc Cert.AdamCtxRefIdeal.main_arg2) = m ((c.tc : Thread Cert.AdamCtxIdeal.nD Cert.AdamCtxIdeal.τ).loc Cert.AdamCtxIdeal.main_arg2)
      ∧ m' ((c.tc : Thread Cert.AdamCtxRefIdeal.nD Cert.AdamCtxRefIdeal.τ).loc Cert.AdamCtxRefIdeal.main_arg3) = m ((c.tc : Thread Cert.AdamCtxIdeal.nD Cert.AdamCtxIdeal.τ).loc Cert.AdamCtxIdeal.main_arg3)) →
    ∃ (v0 : (c : Dev Cert.AdamCtxIdeal.nD) → Buf (Elt Ideal) ((c.tc : Thread Cert.AdamCtxIdeal.nD Cert.AdamCtxIdeal.τ).loc Cert.AdamCtxIdeal.main_v0_0)) (v1 : (c : Dev Cert.AdamCtxIdeal.nD) → Buf (Elt Ideal) ((c.tc : Thread Cert.AdamCtxIdeal.nD Cert.AdamCtxIdeal.τ).loc Cert.AdamCtxIdeal.main_v0_1)) (v2 : (c : Dev Cert.AdamCtxIdeal.nD) → Buf (Elt Ideal) ((c.tc : Thread Cert.AdamCtxIdeal.nD Cert.AdamCtxIdeal.τ).loc Cert.AdamCtxIdeal.main_v0_2)),
      θ_run (Cert.AdamCtxIdeal.defs (F := Ideal)) (onTc (τ := Cert.AdamCtxIdeal.τ) (Cert.AdamCtxIdeal.main (F := Ideal))) ⟨m, fun _ => 0, g⟩ (fun r => ∀ c : Dev Cert.AdamCtxIdeal.nD,
          r.2.mem ((c.tc : Thread Cert.AdamCtxIdeal.nD Cert.AdamCtxIdeal.τ).loc Cert.AdamCtxIdeal.main_v0_0) = v0 c
          ∧ r.2.mem ((c.tc : Thread Cert.AdamCtxIdeal.nD Cert.AdamCtxIdeal.τ).loc Cert.AdamCtxIdeal.main_v0_1) = v1 c
          ∧ r.2.mem ((c.tc : Thread Cert.AdamCtxIdeal.nD Cert.AdamCtxIdeal.τ).loc Cert.AdamCtxIdeal.main_v0_2) = v2 c
          ∧ r.2.mem ((c.tc : Thread Cert.AdamCtxIdeal.nD Cert.AdamCtxIdeal.τ).loc Cert.AdamCtxIdeal.main_arg0) = m ((c.tc : Thread Cert.AdamCtxIdeal.nD Cert.AdamCtxIdeal.τ).loc Cert.AdamCtxIdeal.main_arg0)
          ∧ r.2.mem ((c.tc : Thread Cert.AdamCtxIdeal.nD Cert.AdamCtxIdeal.τ).loc Cert.AdamCtxIdeal.main_arg1) = m ((c.tc : Thread Cert.AdamCtxIdeal.nD Cert.AdamCtxIdeal.τ).loc Cert.AdamCtxIdeal.main_arg1)
          ∧ r.2.mem ((c.tc : Thread Cert.AdamCtxIdeal.nD Cert.AdamCtxIdeal.τ).loc Cert.AdamCtxIdeal.main_arg2) = m ((c.tc : Thread Cert.AdamCtxIdeal.nD Cert.AdamCtxIdeal.τ).loc Cert.AdamCtxIdeal.main_arg2)
          ∧ r.2.mem ((c.tc : Thread Cert.AdamCtxIdeal.nD Cert.AdamCtxIdeal.τ).loc Cert.AdamCtxIdeal.main_arg3) = m ((c.tc : Thread Cert.AdamCtxIdeal.nD Cert.AdamCtxIdeal.τ).loc Cert.AdamCtxIdeal.main_arg3))
      ∧ θ_run (Cert.AdamCtxRefIdeal.defs (F := Ideal)) (onTc (τ := Cert.AdamCtxRefIdeal.τ) (Cert.AdamCtxRefIdeal.main (F := Ideal))) ⟨m', fun _ => 0, g'⟩ (fun r => ∀ c : Dev Cert.AdamCtxRefIdeal.nD,
          r.2.mem ((c.tc : Thread Cert.AdamCtxRefIdeal.nD Cert.AdamCtxRefIdeal.τ).loc Cert.AdamCtxRefIdeal.main_v23) = v0 c
          ∧ r.2.mem ((c.tc : Thread Cert.AdamCtxRefIdeal.nD Cert.AdamCtxRefIdeal.τ).loc Cert.AdamCtxRefIdeal.main_v4) = v1 c
          ∧ r.2.mem ((c.tc : Thread Cert.AdamCtxRefIdeal.nD Cert.AdamCtxRefIdeal.τ).loc Cert.AdamCtxRefIdeal.main_v10) = v2 c
          ∧ r.2.mem ((c.tc : Thread Cert.AdamCtxRefIdeal.nD Cert.AdamCtxRefIdeal.τ).loc Cert.AdamCtxRefIdeal.main_arg0) = m' ((c.tc : Thread Cert.AdamCtxRefIdeal.nD Cert.AdamCtxRefIdeal.τ).loc Cert.AdamCtxRefIdeal.main_arg0)
          ∧ r.2.mem ((c.tc : Thread Cert.AdamCtxRefIdeal.nD Cert.AdamCtxRefIdeal.τ).loc Cert.AdamCtxRefIdeal.main_arg1) = m' ((c.tc : Thread Cert.AdamCtxRefIdeal.nD Cert.AdamCtxRefIdeal.τ).loc Cert.AdamCtxRefIdeal.main_arg1)
          ∧ r.2.mem ((c.tc : Thread Cert.AdamCtxRefIdeal.nD Cert.AdamCtxRefIdeal.τ).loc Cert.AdamCtxRefIdeal.main_arg2) = m' ((c.tc : Thread Cert.AdamCtxRefIdeal.nD Cert.AdamCtxRefIdeal.τ).loc Cert.AdamCtxRefIdeal.main_arg2)
          ∧ r.2.mem ((c.tc : Thread Cert.AdamCtxRefIdeal.nD Cert.AdamCtxRefIdeal.τ).loc Cert.AdamCtxRefIdeal.main_arg3) = m' ((c.tc : Thread Cert.AdamCtxRefIdeal.nD Cert.AdamCtxRefIdeal.τ).loc Cert.AdamCtxRefIdeal.main_arg3))

def preserves_AdamBMod_AdamBModIdeal : Prop :=
  True

def algebraic_AdamBModIdeal_AdamBModRefIdeal [hAdamBModIdeal : Cert.AdamBModIdeal.Facts] [hAdamBModRefIdeal : Cert.AdamBModRefIdeal.Facts] : Prop :=
  ∀ (m : (ℓ : Loc Cert.AdamBModIdeal.nD Cert.AdamBModIdeal.τ Cert.AdamBModIdeal.sig) → Buf (Elt Ideal) ℓ) (g : Dev Cert.AdamBModIdeal.nD → PrngReg)
    (m' : (ℓ : Loc Cert.AdamBModRefIdeal.nD Cert.AdamBModRefIdeal.τ Cert.AdamBModRefIdeal.sig) → Buf (Elt Ideal) ℓ) (g' : Dev Cert.AdamBModRefIdeal.nD → PrngReg), Pre_AdamBModIdeal m →
    (∀ c : Dev Cert.AdamBModIdeal.nD,
      m' ((c.tc : Thread Cert.AdamBModRefIdeal.nD Cert.AdamBModRefIdeal.τ).loc Cert.AdamBModRefIdeal.main_arg0) = m ((c.tc : Thread Cert.AdamBModIdeal.nD Cert.AdamBModIdeal.τ).loc Cert.AdamBModIdeal.main_arg0)
      ∧ m' ((c.tc : Thread Cert.AdamBModRefIdeal.nD Cert.AdamBModRefIdeal.τ).loc Cert.AdamBModRefIdeal.main_arg1) = m ((c.tc : Thread Cert.AdamBModIdeal.nD Cert.AdamBModIdeal.τ).loc Cert.AdamBModIdeal.main_arg1)
      ∧ m' ((c.tc : Thread Cert.AdamBModRefIdeal.nD Cert.AdamBModRefIdeal.τ).loc Cert.AdamBModRefIdeal.main_arg2) = m ((c.tc : Thread Cert.AdamBModIdeal.nD Cert.AdamBModIdeal.τ).loc Cert.AdamBModIdeal.main_arg2)
      ∧ m' ((c.tc : Thread Cert.AdamBModRefIdeal.nD Cert.AdamBModRefIdeal.τ).loc Cert.AdamBModRefIdeal.main_arg3) = m ((c.tc : Thread Cert.AdamBModIdeal.nD Cert.AdamBModIdeal.τ).loc Cert.AdamBModIdeal.main_arg3)) →
    ∃ (v0 : (c : Dev Cert.AdamBModIdeal.nD) → Buf (Elt Ideal) ((c.tc : Thread Cert.AdamBModIdeal.nD Cert.AdamBModIdeal.τ).loc Cert.AdamBModIdeal.main_v0_0)) (v1 : (c : Dev Cert.AdamBModIdeal.nD) → Buf (Elt Ideal) ((c.tc : Thread Cert.AdamBModIdeal.nD Cert.AdamBModIdeal.τ).loc Cert.AdamBModIdeal.main_v0_1)) (v2 : (c : Dev Cert.AdamBModIdeal.nD) → Buf (Elt Ideal) ((c.tc : Thread Cert.AdamBModIdeal.nD Cert.AdamBModIdeal.τ).loc Cert.AdamBModIdeal.main_v0_2)),
      θ_run (Cert.AdamBModIdeal.defs (F := Ideal)) (onTc (τ := Cert.AdamBModIdeal.τ) (Cert.AdamBModIdeal.main (F := Ideal))) ⟨m, fun _ => 0, g⟩ (fun r => ∀ c : Dev Cert.AdamBModIdeal.nD,
          r.2.mem ((c.tc : Thread Cert.AdamBModIdeal.nD Cert.AdamBModIdeal.τ).loc Cert.AdamBModIdeal.main_v0_0) = v0 c
          ∧ r.2.mem ((c.tc : Thread Cert.AdamBModIdeal.nD Cert.AdamBModIdeal.τ).loc Cert.AdamBModIdeal.main_v0_1) = v1 c
          ∧ r.2.mem ((c.tc : Thread Cert.AdamBModIdeal.nD Cert.AdamBModIdeal.τ).loc Cert.AdamBModIdeal.main_v0_2) = v2 c
          ∧ r.2.mem ((c.tc : Thread Cert.AdamBModIdeal.nD Cert.AdamBModIdeal.τ).loc Cert.AdamBModIdeal.main_arg0) = m ((c.tc : Thread Cert.AdamBModIdeal.nD Cert.AdamBModIdeal.τ).loc Cert.AdamBModIdeal.main_arg0)
          ∧ r.2.mem ((c.tc : Thread Cert.AdamBModIdeal.nD Cert.AdamBModIdeal.τ).loc Cert.AdamBModIdeal.main_arg1) = m ((c.tc : Thread Cert.AdamBModIdeal.nD Cert.AdamBModIdeal.τ).loc Cert.AdamBModIdeal.main_arg1)
          ∧ r.2.mem ((c.tc : Thread Cert.AdamBModIdeal.nD Cert.AdamBModIdeal.τ).loc Cert.AdamBModIdeal.main_arg2) = m ((c.tc : Thread Cert.AdamBModIdeal.nD Cert.AdamBModIdeal.τ).loc Cert.AdamBModIdeal.main_arg2)
          ∧ r.2.mem ((c.tc : Thread Cert.AdamBModIdeal.nD Cert.AdamBModIdeal.τ).loc Cert.AdamBModIdeal.main_arg3) = m ((c.tc : Thread Cert.AdamBModIdeal.nD Cert.AdamBModIdeal.τ).loc Cert.AdamBModIdeal.main_arg3))
      ∧ θ_run (Cert.AdamBModRefIdeal.defs (F := Ideal)) (onTc (τ := Cert.AdamBModRefIdeal.τ) (Cert.AdamBModRefIdeal.main (F := Ideal))) ⟨m', fun _ => 0, g'⟩ (fun r => ∀ c : Dev Cert.AdamBModRefIdeal.nD,
          r.2.mem ((c.tc : Thread Cert.AdamBModRefIdeal.nD Cert.AdamBModRefIdeal.τ).loc Cert.AdamBModRefIdeal.main_v23) = v0 c
          ∧ r.2.mem ((c.tc : Thread Cert.AdamBModRefIdeal.nD Cert.AdamBModRefIdeal.τ).loc Cert.AdamBModRefIdeal.main_v4) = v1 c
          ∧ r.2.mem ((c.tc : Thread Cert.AdamBModRefIdeal.nD Cert.AdamBModRefIdeal.τ).loc Cert.AdamBModRefIdeal.main_v10) = v2 c
          ∧ r.2.mem ((c.tc : Thread Cert.AdamBModRefIdeal.nD Cert.AdamBModRefIdeal.τ).loc Cert.AdamBModRefIdeal.main_arg0) = m' ((c.tc : Thread Cert.AdamBModRefIdeal.nD Cert.AdamBModRefIdeal.τ).loc Cert.AdamBModRefIdeal.main_arg0)
          ∧ r.2.mem ((c.tc : Thread Cert.AdamBModRefIdeal.nD Cert.AdamBModRefIdeal.τ).loc Cert.AdamBModRefIdeal.main_arg1) = m' ((c.tc : Thread Cert.AdamBModRefIdeal.nD Cert.AdamBModRefIdeal.τ).loc Cert.AdamBModRefIdeal.main_arg1)
          ∧ r.2.mem ((c.tc : Thread Cert.AdamBModRefIdeal.nD Cert.AdamBModRefIdeal.τ).loc Cert.AdamBModRefIdeal.main_arg2) = m' ((c.tc : Thread Cert.AdamBModRefIdeal.nD Cert.AdamBModRefIdeal.τ).loc Cert.AdamBModRefIdeal.main_arg2)
          ∧ r.2.mem ((c.tc : Thread Cert.AdamBModRefIdeal.nD Cert.AdamBModRefIdeal.τ).loc Cert.AdamBModRefIdeal.main_arg3) = m' ((c.tc : Thread Cert.AdamBModRefIdeal.nD Cert.AdamBModRefIdeal.τ).loc Cert.AdamBModRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamArIn_AdamArInIdeal : Prop :=
  True

def algebraic_AdamArInIdeal_AdamArInRefIdeal [hAdamArInIdeal : Cert.AdamArInIdeal.Facts] [hAdamArInRefIdeal : Cert.AdamArInRefIdeal.Facts] : Prop :=
  ∀ (m : (ℓ : Loc Cert.AdamArInIdeal.nD Cert.AdamArInIdeal.τ Cert.AdamArInIdeal.sig) → Buf (Elt Ideal) ℓ) (g : Dev Cert.AdamArInIdeal.nD → PrngReg)
    (m' : (ℓ : Loc Cert.AdamArInRefIdeal.nD Cert.AdamArInRefIdeal.τ Cert.AdamArInRefIdeal.sig) → Buf (Elt Ideal) ℓ) (g' : Dev Cert.AdamArInRefIdeal.nD → PrngReg), Pre_AdamArInIdeal m →
    (∀ c : Dev Cert.AdamArInIdeal.nD,
      m' ((c.tc : Thread Cert.AdamArInRefIdeal.nD Cert.AdamArInRefIdeal.τ).loc Cert.AdamArInRefIdeal.main_arg0) = m ((c.tc : Thread Cert.AdamArInIdeal.nD Cert.AdamArInIdeal.τ).loc Cert.AdamArInIdeal.main_arg0)
      ∧ m' ((c.tc : Thread Cert.AdamArInRefIdeal.nD Cert.AdamArInRefIdeal.τ).loc Cert.AdamArInRefIdeal.main_arg1) = m ((c.tc : Thread Cert.AdamArInIdeal.nD Cert.AdamArInIdeal.τ).loc Cert.AdamArInIdeal.main_arg1)
      ∧ m' ((c.tc : Thread Cert.AdamArInRefIdeal.nD Cert.AdamArInRefIdeal.τ).loc Cert.AdamArInRefIdeal.main_arg2) = m ((c.tc : Thread Cert.AdamArInIdeal.nD Cert.AdamArInIdeal.τ).loc Cert.AdamArInIdeal.main_arg2)
      ∧ m' ((c.tc : Thread Cert.AdamArInRefIdeal.nD Cert.AdamArInRefIdeal.τ).loc Cert.AdamArInRefIdeal.main_arg3) = m ((c.tc : Thread Cert.AdamArInIdeal.nD Cert.AdamArInIdeal.τ).loc Cert.AdamArInIdeal.main_arg3)) →
    ∃ (v0 : (c : Dev Cert.AdamArInIdeal.nD) → Buf (Elt Ideal) ((c.tc : Thread Cert.AdamArInIdeal.nD Cert.AdamArInIdeal.τ).loc Cert.AdamArInIdeal.main_v0_0)) (v1 : (c : Dev Cert.AdamArInIdeal.nD) → Buf (Elt Ideal) ((c.tc : Thread Cert.AdamArInIdeal.nD Cert.AdamArInIdeal.τ).loc Cert.AdamArInIdeal.main_v0_1)) (v2 : (c : Dev Cert.AdamArInIdeal.nD) → Buf (Elt Ideal) ((c.tc : Thread Cert.AdamArInIdeal.nD Cert.AdamArInIdeal.τ).loc Cert.AdamArInIdeal.main_v0_2)) (v3 : (c : Dev Cert.AdamArInIdeal.nD) → Buf (Elt Ideal) ((c.tc : Thread Cert.AdamArInIdeal.nD Cert.AdamArInIdeal.τ).loc Cert.AdamArInIdeal.main_v0_3)),
      θ_run (Cert.AdamArInIdeal.defs (F := Ideal)) (onTc (τ := Cert.AdamArInIdeal.τ) (Cert.AdamArInIdeal.main (F := Ideal))) ⟨m, fun _ => 0, g⟩ (fun r => ∀ c : Dev Cert.AdamArInIdeal.nD,
          r.2.mem ((c.tc : Thread Cert.AdamArInIdeal.nD Cert.AdamArInIdeal.τ).loc Cert.AdamArInIdeal.main_v0_0) = v0 c
          ∧ r.2.mem ((c.tc : Thread Cert.AdamArInIdeal.nD Cert.AdamArInIdeal.τ).loc Cert.AdamArInIdeal.main_v0_1) = v1 c
          ∧ r.2.mem ((c.tc : Thread Cert.AdamArInIdeal.nD Cert.AdamArInIdeal.τ).loc Cert.AdamArInIdeal.main_v0_2) = v2 c
          ∧ r.2.mem ((c.tc : Thread Cert.AdamArInIdeal.nD Cert.AdamArInIdeal.τ).loc Cert.AdamArInIdeal.main_v0_3) = v3 c
          ∧ r.2.mem ((c.tc : Thread Cert.AdamArInIdeal.nD Cert.AdamArInIdeal.τ).loc Cert.AdamArInIdeal.main_arg0) = m ((c.tc : Thread Cert.AdamArInIdeal.nD Cert.AdamArInIdeal.τ).loc Cert.AdamArInIdeal.main_arg0)
          ∧ r.2.mem ((c.tc : Thread Cert.AdamArInIdeal.nD Cert.AdamArInIdeal.τ).loc Cert.AdamArInIdeal.main_arg1) = m ((c.tc : Thread Cert.AdamArInIdeal.nD Cert.AdamArInIdeal.τ).loc Cert.AdamArInIdeal.main_arg1)
          ∧ r.2.mem ((c.tc : Thread Cert.AdamArInIdeal.nD Cert.AdamArInIdeal.τ).loc Cert.AdamArInIdeal.main_arg2) = m ((c.tc : Thread Cert.AdamArInIdeal.nD Cert.AdamArInIdeal.τ).loc Cert.AdamArInIdeal.main_arg2)
          ∧ r.2.mem ((c.tc : Thread Cert.AdamArInIdeal.nD Cert.AdamArInIdeal.τ).loc Cert.AdamArInIdeal.main_arg3) = m ((c.tc : Thread Cert.AdamArInIdeal.nD Cert.AdamArInIdeal.τ).loc Cert.AdamArInIdeal.main_arg3))
      ∧ θ_run (Cert.AdamArInRefIdeal.defs (F := Ideal)) (onTc (τ := Cert.AdamArInRefIdeal.τ) (Cert.AdamArInRefIdeal.main (F := Ideal))) ⟨m', fun _ => 0, g'⟩ (fun r => ∀ c : Dev Cert.AdamArInRefIdeal.nD,
          r.2.mem ((c.tc : Thread Cert.AdamArInRefIdeal.nD Cert.AdamArInRefIdeal.τ).loc Cert.AdamArInRefIdeal.main_arg1) = v0 c
          ∧ r.2.mem ((c.tc : Thread Cert.AdamArInRefIdeal.nD Cert.AdamArInRefIdeal.τ).loc Cert.AdamArInRefIdeal.main_v23) = v1 c
          ∧ r.2.mem ((c.tc : Thread Cert.AdamArInRefIdeal.nD Cert.AdamArInRefIdeal.τ).loc Cert.AdamArInRefIdeal.main_v4) = v2 c
          ∧ r.2.mem ((c.tc : Thread Cert.AdamArInRefIdeal.nD Cert.AdamArInRefIdeal.τ).loc Cert.AdamArInRefIdeal.main_v10) = v3 c
          ∧ r.2.mem ((c.tc : Thread Cert.AdamArInRefIdeal.nD Cert.AdamArInRefIdeal.τ).loc Cert.AdamArInRefIdeal.main_arg0) = m' ((c.tc : Thread Cert.AdamArInRefIdeal.nD Cert.AdamArInRefIdeal.τ).loc Cert.AdamArInRefIdeal.main_arg0)
          ∧ r.2.mem ((c.tc : Thread Cert.AdamArInRefIdeal.nD Cert.AdamArInRefIdeal.τ).loc Cert.AdamArInRefIdeal.main_arg1) = m' ((c.tc : Thread Cert.AdamArInRefIdeal.nD Cert.AdamArInRefIdeal.τ).loc Cert.AdamArInRefIdeal.main_arg1)
          ∧ r.2.mem ((c.tc : Thread Cert.AdamArInRefIdeal.nD Cert.AdamArInRefIdeal.τ).loc Cert.AdamArInRefIdeal.main_arg2) = m' ((c.tc : Thread Cert.AdamArInRefIdeal.nD Cert.AdamArInRefIdeal.τ).loc Cert.AdamArInRefIdeal.main_arg2)
          ∧ r.2.mem ((c.tc : Thread Cert.AdamArInRefIdeal.nD Cert.AdamArInRefIdeal.τ).loc Cert.AdamArInRefIdeal.main_arg3) = m' ((c.tc : Thread Cert.AdamArInRefIdeal.nD Cert.AdamArInRefIdeal.τ).loc Cert.AdamArInRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v23) = v0 c
          ∧ r.2.mem ((c.tc : Thread Cert.AdamConvWRefIdeal.nD Cert.AdamConvWRefIdeal.τ).loc Cert.AdamConvWRefIdeal.main_v4) = v1 c
          ∧ r.2.mem ((c.tc : Thread Cert.AdamConvWRefIdeal.nD Cert.AdamConvWRefIdeal.τ).loc Cert.AdamConvWRefIdeal.main_v10) = v2 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGmIn_AdamGmInIdeal : Prop :=
  True

def algebraic_AdamGmInIdeal_AdamGmInRefIdeal [hAdamGmInIdeal : Cert.AdamGmInIdeal.Facts] [hAdamGmInRefIdeal : Cert.AdamGmInRefIdeal.Facts] : Prop :=
  ∀ (m : (ℓ : Loc Cert.AdamGmInIdeal.nD Cert.AdamGmInIdeal.τ Cert.AdamGmInIdeal.sig) → Buf (Elt Ideal) ℓ) (g : Dev Cert.AdamGmInIdeal.nD → PrngReg)
    (m' : (ℓ : Loc Cert.AdamGmInRefIdeal.nD Cert.AdamGmInRefIdeal.τ Cert.AdamGmInRefIdeal.sig) → Buf (Elt Ideal) ℓ) (g' : Dev Cert.AdamGmInRefIdeal.nD → PrngReg), Pre_AdamGmInIdeal m →
    (∀ c : Dev Cert.AdamGmInIdeal.nD,
      m' ((c.tc : Thread Cert.AdamGmInRefIdeal.nD Cert.AdamGmInRefIdeal.τ).loc Cert.AdamGmInRefIdeal.main_arg0) = m ((c.tc : Thread Cert.AdamGmInIdeal.nD Cert.AdamGmInIdeal.τ).loc Cert.AdamGmInIdeal.main_arg0)
      ∧ m' ((c.tc : Thread Cert.AdamGmInRefIdeal.nD Cert.AdamGmInRefIdeal.τ).loc Cert.AdamGmInRefIdeal.main_arg1) = m ((c.tc : Thread Cert.AdamGmInIdeal.nD Cert.AdamGmInIdeal.τ).loc Cert.AdamGmInIdeal.main_arg1)
      ∧ m' ((c.tc : Thread Cert.AdamGmInRefIdeal.nD Cert.AdamGmInRefIdeal.τ).loc Cert.AdamGmInRefIdeal.main_arg2) = m ((c.tc : Thread Cert.AdamGmInIdeal.nD Cert.AdamGmInIdeal.τ).loc Cert.AdamGmInIdeal.main_arg2)
      ∧ m' ((c.tc : Thread Cert.AdamGmInRefIdeal.nD Cert.AdamGmInRefIdeal.τ).loc Cert.AdamGmInRefIdeal.main_arg3) = m ((c.tc : Thread Cert.AdamGmInIdeal.nD Cert.AdamGmInIdeal.τ).loc Cert.AdamGmInIdeal.main_arg3)) →
    ∃ (v0 : (c : Dev Cert.AdamGmInIdeal.nD) → Buf (Elt Ideal) ((c.tc : Thread Cert.AdamGmInIdeal.nD Cert.AdamGmInIdeal.τ).loc Cert.AdamGmInIdeal.main_v0_0)) (v1 : (c : Dev Cert.AdamGmInIdeal.nD) → Buf (Elt Ideal) ((c.tc : Thread Cert.AdamGmInIdeal.nD Cert.AdamGmInIdeal.τ).loc Cert.AdamGmInIdeal.main_v0_1)) (v2 : (c : Dev Cert.AdamGmInIdeal.nD) → Buf (Elt Ideal) ((c.tc : Thread Cert.AdamGmInIdeal.nD Cert.AdamGmInIdeal.τ).loc Cert.AdamGmInIdeal.main_v0_2)) (v3 : (c : Dev Cert.AdamGmInIdeal.nD) → Buf (Elt Ideal) ((c.tc : Thread Cert.AdamGmInIdeal.nD Cert.AdamGmInIdeal.τ).loc Cert.AdamGmInIdeal.main_v0_3)),
      θ_run (Cert.AdamGmInIdeal.defs (F := Ideal)) (onTc (τ := Cert.AdamGmInIdeal.τ) (Cert.AdamGmInIdeal.main (F := Ideal))) ⟨m, fun _ => 0, g⟩ (fun r => ∀ c : Dev Cert.AdamGmInIdeal.nD,
          r.2.mem ((c.tc : Thread Cert.AdamGmInIdeal.nD Cert.AdamGmInIdeal.τ).loc Cert.AdamGmInIdeal.main_v0_0) = v0 c
          ∧ r.2.mem ((c.tc : Thread Cert.AdamGmInIdeal.nD Cert.AdamGmInIdeal.τ).loc Cert.AdamGmInIdeal.main_v0_1) = v1 c
          ∧ r.2.mem ((c.tc : Thread Cert.AdamGmInIdeal.nD Cert.AdamGmInIdeal.τ).loc Cert.AdamGmInIdeal.main_v0_2) = v2 c
          ∧ r.2.mem ((c.tc : Thread Cert.AdamGmInIdeal.nD Cert.AdamGmInIdeal.τ).loc Cert.AdamGmInIdeal.main_v0_3) = v3 c
          ∧ r.2.mem ((c.tc : Thread Cert.AdamGmInIdeal.nD Cert.AdamGmInIdeal.τ).loc Cert.AdamGmInIdeal.main_arg0) = m ((c.tc : Thread Cert.AdamGmInIdeal.nD Cert.AdamGmInIdeal.τ).loc Cert.AdamGmInIdeal.main_arg0)
          ∧ r.2.mem ((c.tc : Thread Cert.AdamGmInIdeal.nD Cert.AdamGmInIdeal.τ).loc Cert.AdamGmInIdeal.main_arg1) = m ((c.tc : Thread Cert.AdamGmInIdeal.nD Cert.AdamGmInIdeal.τ).loc Cert.AdamGmInIdeal.main_arg1)
          ∧ r.2.mem ((c.tc : Thread Cert.AdamGmInIdeal.nD Cert.AdamGmInIdeal.τ).loc Cert.AdamGmInIdeal.main_arg2) = m ((c.tc : Thread Cert.AdamGmInIdeal.nD Cert.AdamGmInIdeal.τ).loc Cert.AdamGmInIdeal.main_arg2)
          ∧ r.2.mem ((c.tc : Thread Cert.AdamGmInIdeal.nD Cert.AdamGmInIdeal.τ).loc Cert.AdamGmInIdeal.main_arg3) = m ((c.tc : Thread Cert.AdamGmInIdeal.nD Cert.AdamGmInIdeal.τ).loc Cert.AdamGmInIdeal.main_arg3))
      ∧ θ_run (Cert.AdamGmInRefIdeal.defs (F := Ideal)) (onTc (τ := Cert.AdamGmInRefIdeal.τ) (Cert.AdamGmInRefIdeal.main (F := Ideal))) ⟨m', fun _ => 0, g'⟩ (fun r => ∀ c : Dev Cert.AdamGmInRefIdeal.nD,
          r.2.mem ((c.tc : Thread Cert.AdamGmInRefIdeal.nD Cert.AdamGmInRefIdeal.τ).loc Cert.AdamGmInRefIdeal.main_arg1) = v0 c
          ∧ r.2.mem ((c.tc : Thread Cert.AdamGmInRefIdeal.nD Cert.AdamGmInRefIdeal.τ).loc Cert.AdamGmInRefIdeal.main_v23) = v1 c
          ∧ r.2.mem ((c.tc : Thread Cert.AdamGmInRefIdeal.nD Cert.AdamGmInRefIdeal.τ).loc Cert.AdamGmInRefIdeal.main_v4) = v2 c
          ∧ r.2.mem ((c.tc : Thread Cert.AdamGmInRefIdeal.nD Cert.AdamGmInRefIdeal.τ).loc Cert.AdamGmInRefIdeal.main_v10) = v3 c
          ∧ r.2.mem ((c.tc : Thread Cert.AdamGmInRefIdeal.nD Cert.AdamGmInRefIdeal.τ).loc Cert.AdamGmInRefIdeal.main_arg0) = m' ((c.tc : Thread Cert.AdamGmInRefIdeal.nD Cert.AdamGmInRefIdeal.τ).loc Cert.AdamGmInRefIdeal.main_arg0)
          ∧ r.2.mem ((c.tc : Thread Cert.AdamGmInRefIdeal.nD Cert.AdamGmInRefIdeal.τ).loc Cert.AdamGmInRefIdeal.main_arg1) = m' ((c.tc : Thread Cert.AdamGmInRefIdeal.nD Cert.AdamGmInRefIdeal.τ).loc Cert.AdamGmInRefIdeal.main_arg1)
          ∧ r.2.mem ((c.tc : Thread Cert.AdamGmInRefIdeal.nD Cert.AdamGmInRefIdeal.τ).loc Cert.AdamGmInRefIdeal.main_arg2) = m' ((c.tc : Thread Cert.AdamGmInRefIdeal.nD Cert.AdamGmInRefIdeal.τ).loc Cert.AdamGmInRefIdeal.main_arg2)
          ∧ r.2.mem ((c.tc : Thread Cert.AdamGmInRefIdeal.nD Cert.AdamGmInRefIdeal.τ).loc Cert.AdamGmInRefIdeal.main_arg3) = m' ((c.tc : Thread Cert.AdamGmInRefIdeal.nD Cert.AdamGmInRefIdeal.τ).loc Cert.AdamGmInRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v23) = v0 c
          ∧ r.2.mem ((c.tc : Thread Cert.AdamGainRefIdeal.nD Cert.AdamGainRefIdeal.τ).loc Cert.AdamGainRefIdeal.main_v4) = v1 c
          ∧ r.2.mem ((c.tc : Thread Cert.AdamGainRefIdeal.nD Cert.AdamGainRefIdeal.τ).loc Cert.AdamGainRefIdeal.main_v10) = v2 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamSp_AdamSpIdeal : Prop :=
  True

def algebraic_AdamSpIdeal_AdamSpRefIdeal [hAdamSpIdeal : Cert.AdamSpIdeal.Facts] [hAdamSpRefIdeal : Cert.AdamSpRefIdeal.Facts] : Prop :=
  ∀ (m : (ℓ : Loc Cert.AdamSpIdeal.nD Cert.AdamSpIdeal.τ Cert.AdamSpIdeal.sig) → Buf (Elt Ideal) ℓ) (g : Dev Cert.AdamSpIdeal.nD → PrngReg)
    (m' : (ℓ : Loc Cert.AdamSpRefIdeal.nD Cert.AdamSpRefIdeal.τ Cert.AdamSpRefIdeal.sig) → Buf (Elt Ideal) ℓ) (g' : Dev Cert.AdamSpRefIdeal.nD → PrngReg), Pre_AdamSpIdeal m →
    (∀ c : Dev Cert.AdamSpIdeal.nD,
      m' ((c.tc : Thread Cert.AdamSpRefIdeal.nD Cert.AdamSpRefIdeal.τ).loc Cert.AdamSpRefIdeal.main_arg0) = m ((c.tc : Thread Cert.AdamSpIdeal.nD Cert.AdamSpIdeal.τ).loc Cert.AdamSpIdeal.main_arg0)
      ∧ m' ((c.tc : Thread Cert.AdamSpRefIdeal.nD Cert.AdamSpRefIdeal.τ).loc Cert.AdamSpRefIdeal.main_arg1) = m ((c.tc : Thread Cert.AdamSpIdeal.nD Cert.AdamSpIdeal.τ).loc Cert.AdamSpIdeal.main_arg1)
      ∧ m' ((c.tc : Thread Cert.AdamSpRefIdeal.nD Cert.AdamSpRefIdeal.τ).loc Cert.AdamSpRefIdeal.main_arg2) = m ((c.tc : Thread Cert.AdamSpIdeal.nD Cert.AdamSpIdeal.τ).loc Cert.AdamSpIdeal.main_arg2)
      ∧ m' ((c.tc : Thread Cert.AdamSpRefIdeal.nD Cert.AdamSpRefIdeal.τ).loc Cert.AdamSpRefIdeal.main_arg3) = m ((c.tc : Thread Cert.AdamSpIdeal.nD Cert.AdamSpIdeal.τ).loc Cert.AdamSpIdeal.main_arg3)) →
    ∃ (v0 : (c : Dev Cert.AdamSpIdeal.nD) → Buf (Elt Ideal) ((c.tc : Thread Cert.AdamSpIdeal.nD Cert.AdamSpIdeal.τ).loc Cert.AdamSpIdeal.main_v0_0)) (v1 : (c : Dev Cert.AdamSpIdeal.nD) → Buf (Elt Ideal) ((c.tc : Thread Cert.AdamSpIdeal.nD Cert.AdamSpIdeal.τ).loc Cert.AdamSpIdeal.main_v0_1)) (v2 : (c : Dev Cert.AdamSpIdeal.nD) → Buf (Elt Ideal) ((c.tc : Thread Cert.AdamSpIdeal.nD Cert.AdamSpIdeal.τ).loc Cert.AdamSpIdeal.main_v0_2)),
      θ_run (Cert.AdamSpIdeal.defs (F := Ideal)) (onTc (τ := Cert.AdamSpIdeal.τ) (Cert.AdamSpIdeal.main (F := Ideal))) ⟨m, fun _ => 0, g⟩ (fun r => ∀ c : Dev Cert.AdamSpIdeal.nD,
          r.2.mem ((c.tc : Thread Cert.AdamSpIdeal.nD Cert.AdamSpIdeal.τ).loc Cert.AdamSpIdeal.main_v0_0) = v0 c
          ∧ r.2.mem ((c.tc : Thread Cert.AdamSpIdeal.nD Cert.AdamSpIdeal.τ).loc Cert.AdamSpIdeal.main_v0_1) = v1 c
          ∧ r.2.mem ((c.tc : Thread Cert.AdamSpIdeal.nD Cert.AdamSpIdeal.τ).loc Cert.AdamSpIdeal.main_v0_2) = v2 c
          ∧ r.2.mem ((c.tc : Thread Cert.AdamSpIdeal.nD Cert.AdamSpIdeal.τ).loc Cert.AdamSpIdeal.main_arg0) = m ((c.tc : Thread Cert.AdamSpIdeal.nD Cert.AdamSpIdeal.τ).loc Cert.AdamSpIdeal.main_arg0)
          ∧ r.2.mem ((c.tc : Thread Cert.AdamSpIdeal.nD Cert.AdamSpIdeal.τ).loc Cert.AdamSpIdeal.main_arg1) = m ((c.tc : Thread Cert.AdamSpIdeal.nD Cert.AdamSpIdeal.τ).loc Cert.AdamSpIdeal.main_arg1)
          ∧ r.2.mem ((c.tc : Thread Cert.AdamSpIdeal.nD Cert.AdamSpIdeal.τ).loc Cert.AdamSpIdeal.main_arg2) = m ((c.tc : Thread Cert.AdamSpIdeal.nD Cert.AdamSpIdeal.τ).loc Cert.AdamSpIdeal.main_arg2)
          ∧ r.2.mem ((c.tc : Thread Cert.AdamSpIdeal.nD Cert.AdamSpIdeal.τ).loc Cert.AdamSpIdeal.main_arg3) = m ((c.tc : Thread Cert.AdamSpIdeal.nD Cert.AdamSpIdeal.τ).loc Cert.AdamSpIdeal.main_arg3))
      ∧ θ_run (Cert.AdamSpRefIdeal.defs (F := Ideal)) (onTc (τ := Cert.AdamSpRefIdeal.τ) (Cert.AdamSpRefIdeal.main (F := Ideal))) ⟨m', fun _ => 0, g'⟩ (fun r => ∀ c : Dev Cert.AdamSpRefIdeal.nD,
          r.2.mem ((c.tc : Thread Cert.AdamSpRefIdeal.nD Cert.AdamSpRefIdeal.τ).loc Cert.AdamSpRefIdeal.main_v23) = v0 c
          ∧ r.2.mem ((c.tc : Thread Cert.AdamSpRefIdeal.nD Cert.AdamSpRefIdeal.τ).loc Cert.AdamSpRefIdeal.main_v4) = v1 c
          ∧ r.2.mem ((c.tc : Thread Cert.AdamSpRefIdeal.nD Cert.AdamSpRefIdeal.τ).loc Cert.AdamSpRefIdeal.main_v10) = v2 c
          ∧ r.2.mem ((c.tc : Thread Cert.AdamSpRefIdeal.nD Cert.AdamSpRefIdeal.τ).loc Cert.AdamSpRefIdeal.main_arg0) = m' ((c.tc : Thread Cert.AdamSpRefIdeal.nD Cert.AdamSpRefIdeal.τ).loc Cert.AdamSpRefIdeal.main_arg0)
          ∧ r.2.mem ((c.tc : Thread Cert.AdamSpRefIdeal.nD Cert.AdamSpRefIdeal.τ).loc Cert.AdamSpRefIdeal.main_arg1) = m' ((c.tc : Thread Cert.AdamSpRefIdeal.nD Cert.AdamSpRefIdeal.τ).loc Cert.AdamSpRefIdeal.main_arg1)
          ∧ r.2.mem ((c.tc : Thread Cert.AdamSpRefIdeal.nD Cert.AdamSpRefIdeal.τ).loc Cert.AdamSpRefIdeal.main_arg2) = m' ((c.tc : Thread Cert.AdamSpRefIdeal.nD Cert.AdamSpRefIdeal.τ).loc Cert.AdamSpRefIdeal.main_arg2)
          ∧ r.2.mem ((c.tc : Thread Cert.AdamSpRefIdeal.nD Cert.AdamSpRefIdeal.τ).loc Cert.AdamSpRefIdeal.main_arg3) = m' ((c.tc : Thread Cert.AdamSpRefIdeal.nD Cert.AdamSpRefIdeal.τ).loc Cert.AdamSpRefIdeal.main_arg3))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)) →
    ∃ (v0 : (c : Dev Cert.ModFwdIdeal.nD) → Buf (Elt Ideal) ((c.tc : Thread Cert.ModFwdIdeal.nD Cert.ModFwdIdeal.τ).loc Cert.ModFwdIdeal.main_v3)) (v1 : (c : Dev Cert.ModFwdIdeal.nD) → Buf (Elt Ideal) ((c.tc : Thread Cert.ModFwdIdeal.nD Cert.ModFwdIdeal.τ).loc Cert.ModFwdIdeal.main_v7)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v3) = v0 c
          ∧ r.2.mem ((c.tc : Thread Cert.ModFwdIdeal.nD Cert.ModFwdIdeal.τ).loc Cert.ModFwdIdeal.main_v7) = v1 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v7) = v0 c
          ∧ r.2.mem ((c.tc : Thread Cert.ModFwdRefIdeal.nD Cert.ModFwdRefIdeal.τ).loc Cert.ModFwdRefIdeal.main_v15) = v1 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)
      ∧ m' ((c.tc : Thread Cert.ModDwRefIdeal.nD Cert.ModDwRefIdeal.τ).loc Cert.ModDwRefIdeal.main_arg2) = m ((c.tc : Thread Cert.ModDwIdeal.nD Cert.ModDwIdeal.τ).loc Cert.ModDwIdeal.main_arg2)) →
    ∃ (v0 : (c : Dev Cert.ModDwIdeal.nD) → Buf (Elt Ideal) ((c.tc : Thread Cert.ModDwIdeal.nD Cert.ModDwIdeal.τ).loc Cert.ModDwIdeal.main_v1)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v1) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
          ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v15) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1)
          ∧ r.2.mem ((c.tc : Thread Cert.ModDwRefIdeal.nD Cert.ModDwRefIdeal.τ).loc Cert.ModDwRefIdeal.main_arg2) = m' ((c.tc : Thread Cert.ModDwRefIdeal.nD Cert.ModDwRefIdeal.τ).loc Cert.ModDwRefIdeal.main_arg2))

def preserves_ModDs_ModDsIdeal : Prop :=
  True

def algebraic_ModDsIdeal_ModDsRefIdeal [hModDsIdeal : Cert.ModDsIdeal.Facts] [hModDsRefIdeal : Cert.ModDsRefIdeal.Facts] : Prop :=
  ∀ (m : (ℓ : Loc Cert.ModDsIdeal.nD Cert.ModDsIdeal.τ Cert.ModDsIdeal.sig) → Buf (Elt Ideal) ℓ) (g : Dev Cert.ModDsIdeal.nD → PrngReg)
    (m' : (ℓ : Loc Cert.ModDsRefIdeal.nD Cert.ModDsRefIdeal.τ Cert.ModDsRefIdeal.sig) → Buf (Elt Ideal) ℓ) (g' : Dev Cert.ModDsRefIdeal.nD → PrngReg), Pre_ModDsIdeal m →
    (∀ c : Dev Cert.ModDsIdeal.nD,
      m' ((c.tc : Thread Cert.ModDsRefIdeal.nD Cert.ModDsRefIdeal.τ).loc Cert.ModDsRefIdeal.main_arg0) = m ((c.tc : Thread Cert.ModDsIdeal.nD Cert.ModDsIdeal.τ).loc Cert.ModDsIdeal.main_arg0)
      ∧ m' ((c.tc : Thread Cert.ModDsRefIdeal.nD Cert.ModDsRefIdeal.τ).loc Cert.ModDsRefIdeal.main_arg1) = m ((c.tc : Thread Cert.ModDsIdeal.nD Cert.ModDsIdeal.τ).loc Cert.ModDsIdeal.main_arg1)) →
    ∃ (v0 : (c : Dev Cert.ModDsIdeal.nD) → Buf (Elt Ideal) ((c.tc : Thread Cert.ModDsIdeal.nD Cert.ModDsIdeal.τ).loc Cert.ModDsIdeal.main_v0)),
      θ_run (Cert.ModDsIdeal.defs (F := Ideal)) (onTc (τ := Cert.ModDsIdeal.τ) (Cert.ModDsIdeal.main (F := Ideal))) ⟨m, fun _ => 0, g⟩ (fun r => ∀ c : Dev Cert.ModDsIdeal.nD,
          r.2.mem ((c.tc : Thread Cert.ModDsIdeal.nD Cert.ModDsIdeal.τ).loc Cert.ModDsIdeal.main_v0) = v0 c
          ∧ r.2.mem ((c.tc : Thread Cert.ModDsIdeal.nD Cert.ModDsIdeal.τ).loc Cert.ModDsIdeal.main_arg0) = m ((c.tc : Thread Cert.ModDsIdeal.nD Cert.ModDsIdeal.τ).loc Cert.ModDsIdeal.main_arg0)
          ∧ r.2.mem ((c.tc : Thread Cert.ModDsIdeal.nD Cert.ModDsIdeal.τ).loc Cert.ModDsIdeal.main_arg1) = m ((c.tc : Thread Cert.ModDsIdeal.nD Cert.ModDsIdeal.τ).loc Cert.ModDsIdeal.main_arg1))
      ∧ θ_run (Cert.ModDsRefIdeal.defs (F := Ideal)) (onTc (τ := Cert.ModDsRefIdeal.τ) (Cert.ModDsRefIdeal.main (F := Ideal))) ⟨m', fun _ => 0, g'⟩ (fun r => ∀ c : Dev Cert.ModDsRefIdeal.nD,
          r.2.mem ((c.tc : Thread Cert.ModDsRefIdeal.nD Cert.ModDsRefIdeal.τ).loc Cert.ModDsRefIdeal.main_v4) = v0 c
          ∧ r.2.mem ((c.tc : Thread Cert.ModDsRefIdeal.nD Cert.ModDsRefIdeal.τ).loc Cert.ModDsRefIdeal.main_arg0) = m' ((c.tc : Thread Cert.ModDsRefIdeal.nD Cert.ModDsRefIdeal.τ).loc Cert.ModDsRefIdeal.main_arg0)
          ∧ r.2.mem ((c.tc : Thread Cert.ModDsRefIdeal.nD Cert.ModDsRefIdeal.τ).loc Cert.ModDsRefIdeal.main_arg1) = m' ((c.tc : Thread Cert.ModDsRefIdeal.nD Cert.ModDsRefIdeal.τ).loc Cert.ModDsRefIdeal.main_arg1))

def preserves_SmallSums_SmallSumsIdeal : Prop :=
  True

def algebraic_SmallSumsIdeal_SmallSumsRefIdeal [hSmallSumsIdeal : Cert.SmallSumsIdeal.Facts] [hSmallSumsRefIdeal : Cert.SmallSumsRefIdeal.Facts] : Prop :=
  ∀ (m : (ℓ : Loc Cert.SmallSumsIdeal.nD Cert.SmallSumsIdeal.τ Cert.SmallSumsIdeal.sig) → Buf (Elt Ideal) ℓ) (g : Dev Cert.SmallSumsIdeal.nD → PrngReg)
    (m' : (ℓ : Loc Cert.SmallSumsRefIdeal.nD Cert.SmallSumsRefIdeal.τ Cert.SmallSumsRefIdeal.sig) → Buf (Elt Ideal) ℓ) (g' : Dev Cert.SmallSumsRefIdeal.nD → PrngReg), Pre_SmallSumsIdeal m →
    (∀ c : Dev Cert.SmallSumsIdeal.nD,
      m' ((c.tc : Thread Cert.SmallSumsRefIdeal.nD Cert.SmallSumsRefIdeal.τ).loc Cert.SmallSumsRefIdeal.main_arg0) = m ((c.tc : Thread Cert.SmallSumsIdeal.nD Cert.SmallSumsIdeal.τ).loc Cert.SmallSumsIdeal.main_arg0)) →
    ∃ (v0 : (c : Dev Cert.SmallSumsIdeal.nD) → Buf (Elt Ideal) ((c.tc : Thread Cert.SmallSumsIdeal.nD Cert.SmallSumsIdeal.τ).loc Cert.SmallSumsIdeal.main_v34)) (v1 : (c : Dev Cert.SmallSumsIdeal.nD) → Buf (Elt Ideal) ((c.tc : Thread Cert.SmallSumsIdeal.nD Cert.SmallSumsIdeal.τ).loc Cert.SmallSumsIdeal.main_v41)) (v2 : (c : Dev Cert.SmallSumsIdeal.nD) → Buf (Elt Ideal) ((c.tc : Thread Cert.SmallSumsIdeal.nD Cert.SmallSumsIdeal.τ).loc Cert.SmallSumsIdeal.main_v9)) (v3 : (c : Dev Cert.SmallSumsIdeal.nD) → Buf (Elt Ideal) ((c.tc : Thread Cert.SmallSumsIdeal.nD Cert.SmallSumsIdeal.τ).loc Cert.SmallSumsIdeal.main_v11)) (v4 : (c : Dev Cert.SmallSumsIdeal.nD) → Buf (Elt Ideal) ((c.tc : Thread Cert.SmallSumsIdeal.nD Cert.SmallSumsIdeal.τ).loc Cert.SmallSumsIdeal.main_v13)) (v5 : (c : Dev Cert.SmallSumsIdeal.nD) → Buf (Elt Ideal) ((c.tc : Thread Cert.SmallSumsIdeal.nD Cert.SmallSumsIdeal.τ).loc Cert.SmallSumsIdeal.main_v42)) (v6 : (c : Dev Cert.SmallSumsIdeal.nD) → Buf (Elt Ideal) ((c.tc : Thread Cert.SmallSumsIdeal.nD Cert.SmallSumsIdeal.τ).loc Cert.SmallSumsIdeal.main_v17)) (v7 : (c : Dev Cert.SmallSumsIdeal.nD) → Buf (Elt Ideal) ((c.tc : Thread Cert.SmallSumsIdeal.nD Cert.SmallSumsIdeal.τ).loc Cert.SmallSumsIdeal.main_v43)) (v8 : (c : Dev Cert.SmallSumsIdeal.nD) → Buf (Elt Ideal) ((c.tc : Thread Cert.SmallSumsIdeal.nD Cert.SmallSumsIdeal.τ).loc Cert.SmallSumsIdeal.main_v44)) (v9 : (c : Dev Cert.SmallSumsIdeal.nD) → Buf (Elt Ideal) ((c.tc : Thread Cert.SmallSumsIdeal.nD Cert.SmallSumsIdeal.τ).loc Cert.SmallSumsIdeal.main_v45)) (v10 : (c : Dev Cert.SmallSumsIdeal.nD) → Buf (Elt Ideal) ((c.tc : Thread Cert.SmallSumsIdeal.nD Cert.SmallSumsIdeal.τ).loc Cert.SmallSumsIdeal.main_v25)) (v11 : (c : Dev Cert.SmallSumsIdeal.nD) → Buf (Elt Ideal) ((c.tc : Thread Cert.SmallSumsIdeal.nD Cert.SmallSumsIdeal.τ).loc Cert.SmallSumsIdeal.main_v27)) (v12 : (c : Dev Cert.SmallSumsIdeal.nD) → Buf (Elt Ideal) ((c.tc : Thread Cert.SmallSumsIdeal.nD Cert.SmallSumsIdeal.τ).loc Cert.SmallSumsIdeal.main_v29)) (v13 : (c : Dev Cert.SmallSumsIdeal.nD) → Buf (Elt Ideal) ((c.tc : Thread Cert.SmallSumsIdeal.nD Cert.SmallSumsIdeal.τ).loc Cert.SmallSumsIdeal.main_v46)),
      θ_run (Cert.SmallSumsIdeal.defs (F := Ideal)) (onTc (τ := Cert.SmallSumsIdeal.τ) (Cert.SmallSumsIdeal.main (F := Ideal))) ⟨m, fun _ => 0, g⟩ (fun r => ∀ c : Dev Cert.SmallSumsIdeal.nD,
          r.2.mem ((c.tc : Thread Cert.SmallSumsIdeal.nD Cert.SmallSumsIdeal.τ).loc Cert.SmallSumsIdeal.main_v34) = v0 c
          ∧ r.2.mem ((c.tc : Thread Cert.SmallSumsIdeal.nD Cert.SmallSumsIdeal.τ).loc Cert.SmallSumsIdeal.main_v41) = v1 c
          ∧ r.2.mem ((c.tc : Thread Cert.SmallSumsIdeal.nD Cert.SmallSumsIdeal.τ).loc Cert.SmallSumsIdeal.main_v9) = v2 c
          ∧ r.2.mem ((c.tc : Thread Cert.SmallSumsIdeal.nD Cert.SmallSumsIdeal.τ).loc Cert.SmallSumsIdeal.main_v11) = v3 c
          ∧ r.2.mem ((c.tc : Thread Cert.SmallSumsIdeal.nD Cert.SmallSumsIdeal.τ).loc Cert.SmallSumsIdeal.main_v13) = v4 c
          ∧ r.2.mem ((c.tc : Thread Cert.SmallSumsIdeal.nD Cert.SmallSumsIdeal.τ).loc Cert.SmallSumsIdeal.main_v42) = v5 c
          ∧ r.2.mem ((c.tc : Thread Cert.SmallSumsIdeal.nD Cert.SmallSumsIdeal.τ).loc Cert.SmallSumsIdeal.main_v17) = v6 c
          ∧ r.2.mem ((c.tc : Thread Cert.SmallSumsIdeal.nD Cert.SmallSumsIdeal.τ).loc Cert.SmallSumsIdeal.main_v43) = v7 c
          ∧ r.2.mem ((c.tc : Thread Cert.SmallSumsIdeal.nD Cert.SmallSumsIdeal.τ).loc Cert.SmallSumsIdeal.main_v44) = v8 c
          ∧ r.2.mem ((c.tc : Thread Cert.SmallSumsIdeal.nD Cert.SmallSumsIdeal.τ).loc Cert.SmallSumsIdeal.main_v45) = v9 c
          ∧ r.2.mem ((c.tc : Thread Cert.SmallSumsIdeal.nD Cert.SmallSumsIdeal.τ).loc Cert.SmallSumsIdeal.main_v25) = v10 c
          ∧ r.2.mem ((c.tc : Thread Cert.SmallSumsIdeal.nD Cert.SmallSumsIdeal.τ).loc Cert.SmallSumsIdeal.main_v27) = v11 c
          ∧ r.2.mem ((c.tc : Thread Cert.SmallSumsIdeal.nD Cert.SmallSumsIdeal.τ).loc Cert.SmallSumsIdeal.main_v29) = v12 c
          ∧ r.2.mem ((c.tc : Thread Cert.SmallSumsIdeal.nD Cert.SmallSumsIdeal.τ).loc Cert.SmallSumsIdeal.main_v46) = v13 c
          ∧ r.2.mem ((c.tc : Thread Cert.SmallSumsIdeal.nD Cert.SmallSumsIdeal.τ).loc Cert.SmallSumsIdeal.main_arg0) = m ((c.tc : Thread Cert.SmallSumsIdeal.nD Cert.SmallSumsIdeal.τ).loc Cert.SmallSumsIdeal.main_arg0))
      ∧ θ_run (Cert.SmallSumsRefIdeal.defs (F := Ideal)) (onTc (τ := Cert.SmallSumsRefIdeal.τ) (Cert.SmallSumsRefIdeal.main (F := Ideal))) ⟨m', fun _ => 0, g'⟩ (fun r => ∀ c : Dev Cert.SmallSumsRefIdeal.nD,
          r.2.mem ((c.tc : Thread Cert.SmallSumsRefIdeal.nD Cert.SmallSumsRefIdeal.τ).loc Cert.SmallSumsRefIdeal.main_v10) = v0 c
          ∧ r.2.mem ((c.tc : Thread Cert.SmallSumsRefIdeal.nD Cert.SmallSumsRefIdeal.τ).loc Cert.SmallSumsRefIdeal.main_v17) = v1 c
          ∧ r.2.mem ((c.tc : Thread Cert.SmallSumsRefIdeal.nD Cert.SmallSumsRefIdeal.τ).loc Cert.SmallSumsRefIdeal.main_v19) = v2 c
          ∧ r.2.mem ((c.tc : Thread Cert.SmallSumsRefIdeal.nD Cert.SmallSumsRefIdeal.τ).loc Cert.SmallSumsRefIdeal.main_v21) = v3 c
          ∧ r.2.mem ((c.tc : Thread Cert.SmallSumsRefIdeal.nD Cert.SmallSumsRefIdeal.τ).loc Cert.SmallSumsRefIdeal.main_v23) = v4 c
          ∧ r.2.mem ((c.tc : Thread Cert.SmallSumsRefIdeal.nD Cert.SmallSumsRefIdeal.τ).loc Cert.SmallSumsRefIdeal.main_v26) = v5 c
          ∧ r.2.mem ((c.tc : Thread Cert.SmallSumsRefIdeal.nD Cert.SmallSumsRefIdeal.τ).loc Cert.SmallSumsRefIdeal.main_v28) = v6 c
          ∧ r.2.mem ((c.tc : Thread Cert.SmallSumsRefIdeal.nD Cert.SmallSumsRefIdeal.τ).loc Cert.SmallSumsRefIdeal.main_v31) = v7 c
          ∧ r.2.mem ((c.tc : Thread Cert.SmallSumsRefIdeal.nD Cert.SmallSumsRefIdeal.τ).loc Cert.SmallSumsRefIdeal.main_v34) = v8 c
          ∧ r.2.mem ((c.tc : Thread Cert.SmallSumsRefIdeal.nD Cert.SmallSumsRefIdeal.τ).loc Cert.SmallSumsRefIdeal.main_v37) = v9 c
          ∧ r.2.mem ((c.tc : Thread Cert.SmallSumsRefIdeal.nD Cert.SmallSumsRefIdeal.τ).loc Cert.SmallSumsRefIdeal.main_v39) = v10 c
          ∧ r.2.mem ((c.tc : Thread Cert.SmallSumsRefIdeal.nD Cert.SmallSumsRefIdeal.τ).loc Cert.SmallSumsRefIdeal.main_v41) = v11 c
          ∧ r.2.mem ((c.tc : Thread Cert.SmallSumsRefIdeal.nD Cert.SmallSumsRefIdeal.τ).loc Cert.SmallSumsRefIdeal.main_v43) = v12 c
          ∧ r.2.mem ((c.tc : Thread Cert.SmallSumsRefIdeal.nD Cert.SmallSumsRefIdeal.τ).loc Cert.SmallSumsRefIdeal.main_v46) = v13 c
          ∧ r.2.mem ((c.tc : Thread Cert.SmallSumsRefIdeal.nD Cert.SmallSumsRefIdeal.τ).loc Cert.SmallSumsRefIdeal.main_arg0) = m' ((c.tc : Thread Cert.SmallSumsRefIdeal.nD Cert.SmallSumsRefIdeal.τ).loc Cert.SmallSumsRefIdeal.main_arg0))

def preserves_GateSums_GateSumsIdeal : Prop :=
  True

def algebraic_GateSumsIdeal_GateSumsRefIdeal [hGateSumsIdeal : Cert.GateSumsIdeal.Facts] [hGateSumsRefIdeal : Cert.GateSumsRefIdeal.Facts] : Prop :=
  ∀ (m : (ℓ : Loc Cert.GateSumsIdeal.nD Cert.GateSumsIdeal.τ Cert.GateSumsIdeal.sig) → Buf (Elt Ideal) ℓ) (g : Dev Cert.GateSumsIdeal.nD → PrngReg)
    (m' : (ℓ : Loc Cert.GateSumsRefIdeal.nD Cert.GateSumsRefIdeal.τ Cert.GateSumsRefIdeal.sig) → Buf (Elt Ideal) ℓ) (g' : Dev Cert.GateSumsRefIdeal.nD → PrngReg), Pre_GateSumsIdeal m →
    (∀ c : Dev Cert.GateSumsIdeal.nD,
      m' ((c.tc : Thread Cert.GateSumsRefIdeal.nD Cert.GateSumsRefIdeal.τ).loc Cert.GateSumsRefIdeal.main_arg0) = m ((c.tc : Thread Cert.GateSumsIdeal.nD Cert.GateSumsIdeal.τ).loc Cert.GateSumsIdeal.main_arg0)) →
    ∃ (v0 : (c : Dev Cert.GateSumsIdeal.nD) → Buf (Elt Ideal) ((c.tc : Thread Cert.GateSumsIdeal.nD Cert.GateSumsIdeal.τ).loc Cert.GateSumsIdeal.main_v8)) (v1 : (c : Dev Cert.GateSumsIdeal.nD) → Buf (Elt Ideal) ((c.tc : Thread Cert.GateSumsIdeal.nD Cert.GateSumsIdeal.τ).loc Cert.GateSumsIdeal.main_v9)) (v2 : (c : Dev Cert.GateSumsIdeal.nD) → Buf (Elt Ideal) ((c.tc : Thread Cert.GateSumsIdeal.nD Cert.GateSumsIdeal.τ).loc Cert.GateSumsIdeal.main_v10)),
      θ_run (Cert.GateSumsIdeal.defs (F := Ideal)) (onTc (τ := Cert.GateSumsIdeal.τ) (Cert.GateSumsIdeal.main (F := Ideal))) ⟨m, fun _ => 0, g⟩ (fun r => ∀ c : Dev Cert.GateSumsIdeal.nD,
          r.2.mem ((c.tc : Thread Cert.GateSumsIdeal.nD Cert.GateSumsIdeal.τ).loc Cert.GateSumsIdeal.main_v8) = v0 c
          ∧ r.2.mem ((c.tc : Thread Cert.GateSumsIdeal.nD Cert.GateSumsIdeal.τ).loc Cert.GateSumsIdeal.main_v9) = v1 c
          ∧ r.2.mem ((c.tc : Thread Cert.GateSumsIdeal.nD Cert.GateSumsIdeal.τ).loc Cert.GateSumsIdeal.main_v10) = v2 c
          ∧ r.2.mem ((c.tc : Thread Cert.GateSumsIdeal.nD Cert.GateSumsIdeal.τ).loc Cert.GateSumsIdeal.main_arg0) = m ((c.tc : Thread Cert.GateSumsIdeal.nD Cert.GateSumsIdeal.τ).loc Cert.GateSumsIdeal.main_arg0))
      ∧ θ_run (Cert.GateSumsRefIdeal.defs (F := Ideal)) (onTc (τ := Cert.GateSumsRefIdeal.τ) (Cert.GateSumsRefIdeal.main (F := Ideal))) ⟨m', fun _ => 0, g'⟩ (fun r => ∀ c : Dev Cert.GateSumsRefIdeal.nD,
          r.2.mem ((c.tc : Thread Cert.GateSumsRefIdeal.nD Cert.GateSumsRefIdeal.τ).loc Cert.GateSumsRefIdeal.main_v5) = v0 c
          ∧ r.2.mem ((c.tc : Thread Cert.GateSumsRefIdeal.nD Cert.GateSumsRefIdeal.τ).loc Cert.GateSumsRefIdeal.main_v8) = v1 c
          ∧ r.2.mem ((c.tc : Thread Cert.GateSumsRefIdeal.nD Cert.GateSumsRefIdeal.τ).loc Cert.GateSumsRefIdeal.main_v11) = v2 c
          ∧ r.2.mem ((c.tc : Thread Cert.GateSumsRefIdeal.nD Cert.GateSumsRefIdeal.τ).loc Cert.GateSumsRefIdeal.main_arg0) = m' ((c.tc : Thread Cert.GateSumsRefIdeal.nD Cert.GateSumsRefIdeal.τ).loc Cert.GateSumsRefIdeal.main_arg0))

def preserves_ResMod_ResModIdeal : Prop :=
  True

def algebraic_ResModIdeal_ResModRefIdeal [hResModIdeal : Cert.ResModIdeal.Facts] [hResModRefIdeal : Cert.ResModRefIdeal.Facts] : Prop :=
  ∀ (m : (ℓ : Loc Cert.ResModIdeal.nD Cert.ResModIdeal.τ Cert.ResModIdeal.sig) → Buf (Elt Ideal) ℓ) (g : Dev Cert.ResModIdeal.nD → PrngReg)
    (m' : (ℓ : Loc Cert.ResModRefIdeal.nD Cert.ResModRefIdeal.τ Cert.ResModRefIdeal.sig) → Buf (Elt Ideal) ℓ) (g' : Dev Cert.ResModRefIdeal.nD → PrngReg), Pre_ResModIdeal m →
    (∀ c : Dev Cert.ResModIdeal.nD,
      m' ((c.tc : Thread Cert.ResModRefIdeal.nD Cert.ResModRefIdeal.τ).loc Cert.ResModRefIdeal.main_arg0) = m ((c.tc : Thread Cert.ResModIdeal.nD Cert.ResModIdeal.τ).loc Cert.ResModIdeal.main_arg0)
      ∧ m' ((c.tc : Thread Cert.ResModRefIdeal.nD Cert.ResModRefIdeal.τ).loc Cert.ResModRefIdeal.main_arg1) = m ((c.tc : Thread Cert.ResModIdeal.nD Cert.ResModIdeal.τ).loc Cert.ResModIdeal.main_arg1)
      ∧ m' ((c.tc : Thread Cert.ResModRefIdeal.nD Cert.ResModRefIdeal.τ).loc Cert.ResModRefIdeal.main_arg2) = m ((c.tc : Thread Cert.ResModIdeal.nD Cert.ResModIdeal.τ).loc Cert.ResModIdeal.main_arg2)
      ∧ m' ((c.tc : Thread Cert.ResModRefIdeal.nD Cert.ResModRefIdeal.τ).loc Cert.ResModRefIdeal.main_arg3) = m ((c.tc : Thread Cert.ResModIdeal.nD Cert.ResModIdeal.τ).loc Cert.ResModIdeal.main_arg3)
      ∧ m' ((c.tc : Thread Cert.ResModRefIdeal.nD Cert.ResModRefIdeal.τ).loc Cert.ResModRefIdeal.main_arg4) = m ((c.tc : Thread Cert.ResModIdeal.nD Cert.ResModIdeal.τ).loc Cert.ResModIdeal.main_arg4)
      ∧ m' ((c.tc : Thread Cert.ResModRefIdeal.nD Cert.ResModRefIdeal.τ).loc Cert.ResModRefIdeal.main_arg5) = m ((c.tc : Thread Cert.ResModIdeal.nD Cert.ResModIdeal.τ).loc Cert.ResModIdeal.main_arg5)
      ∧ m' ((c.tc : Thread Cert.ResModRefIdeal.nD Cert.ResModRefIdeal.τ).loc Cert.ResModRefIdeal.main_arg6) = m ((c.tc : Thread Cert.ResModIdeal.nD Cert.ResModIdeal.τ).loc Cert.ResModIdeal.main_arg6)) →
    ∃ (v0 : (c : Dev Cert.ResModIdeal.nD) → Buf (Elt Ideal) ((c.tc : Thread Cert.ResModIdeal.nD Cert.ResModIdeal.τ).loc Cert.ResModIdeal.main_v2_0)) (v1 : (c : Dev Cert.ResModIdeal.nD) → Buf (Elt Ideal) ((c.tc : Thread Cert.ResModIdeal.nD Cert.ResModIdeal.τ).loc Cert.ResModIdeal.main_v2_1)),
      θ_run (Cert.ResModIdeal.defs (F := Ideal)) (onTc (τ := Cert.ResModIdeal.τ) (Cert.ResModIdeal.main (F := Ideal))) ⟨m, fun _ => 0, g⟩ (fun r => ∀ c : Dev Cert.ResModIdeal.nD,
          r.2.mem ((c.tc : Thread Cert.ResModIdeal.nD Cert.ResModIdeal.τ).loc Cert.ResModIdeal.main_v2_0) = v0 c
          ∧ r.2.mem ((c.tc : Thread Cert.ResModIdeal.nD Cert.ResModIdeal.τ).loc Cert.ResModIdeal.main_v2_1) = v1 c
          ∧ r.2.mem ((c.tc : Thread Cert.ResModIdeal.nD Cert.ResModIdeal.τ).loc Cert.ResModIdeal.main_arg0) = m ((c.tc : Thread Cert.ResModIdeal.nD Cert.ResModIdeal.τ).loc Cert.ResModIdeal.main_arg0)
          ∧ r.2.mem ((c.tc : Thread Cert.ResModIdeal.nD Cert.ResModIdeal.τ).loc Cert.ResModIdeal.main_arg1) = m ((c.tc : Thread Cert.ResModIdeal.nD Cert.ResModIdeal.τ).loc Cert.ResModIdeal.main_arg1)
          ∧ r.2.mem ((c.tc : Thread Cert.ResModIdeal.nD Cert.ResModIdeal.τ).loc Cert.ResModIdeal.main_arg2) = m ((c.tc : Thread Cert.ResModIdeal.nD Cert.ResModIdeal.τ).loc Cert.ResModIdeal.main_arg2)
          ∧ r.2.mem ((c.tc : Thread Cert.ResModIdeal.nD Cert.ResModIdeal.τ).loc Cert.ResModIdeal.main_arg3) = m ((c.tc : Thread Cert.ResModIdeal.nD Cert.ResModIdeal.τ).loc Cert.ResModIdeal.main_arg3)
          ∧ r.2.mem ((c.tc : Thread Cert.ResModIdeal.nD Cert.ResModIdeal.τ).loc Cert.ResModIdeal.main_arg4) = m ((c.tc : Thread Cert.ResModIdeal.nD Cert.ResModIdeal.τ).loc Cert.ResModIdeal.main_arg4)
          ∧ r.2.mem ((c.tc : Thread Cert.ResModIdeal.nD Cert.ResModIdeal.τ).loc Cert.ResModIdeal.main_arg5) = m ((c.tc : Thread Cert.ResModIdeal.nD Cert.ResModIdeal.τ).loc Cert.ResModIdeal.main_arg5)
          ∧ r.2.mem ((c.tc : Thread Cert.ResModIdeal.nD Cert.ResModIdeal.τ).loc Cert.ResModIdeal.main_arg6) = m ((c.tc : Thread Cert.ResModIdeal.nD Cert.ResModIdeal.τ).loc Cert.ResModIdeal.main_arg6))
      ∧ θ_run (Cert.ResModRefIdeal.defs (F := Ideal)) (onTc (τ := Cert.ResModRefIdeal.τ) (Cert.ResModRefIdeal.main (F := Ideal))) ⟨m', fun _ => 0, g'⟩ (fun r => ∀ c : Dev Cert.ResModRefIdeal.nD,
          r.2.mem ((c.tc : Thread Cert.ResModRefIdeal.nD Cert.ResModRefIdeal.τ).loc Cert.ResModRefIdeal.main_v14) = v0 c
          ∧ r.2.mem ((c.tc : Thread Cert.ResModRefIdeal.nD Cert.ResModRefIdeal.τ).loc Cert.ResModRefIdeal.main_v33) = v1 c
          ∧ r.2.mem ((c.tc : Thread Cert.ResModRefIdeal.nD Cert.ResModRefIdeal.τ).loc Cert.ResModRefIdeal.main_arg0) = m' ((c.tc : Thread Cert.ResModRefIdeal.nD Cert.ResModRefIdeal.τ).loc Cert.ResModRefIdeal.main_arg0)
          ∧ r.2.mem ((c.tc : Thread Cert.ResModRefIdeal.nD Cert.ResModRefIdeal.τ).loc Cert.ResModRefIdeal.main_arg1) = m' ((c.tc : Thread Cert.ResModRefIdeal.nD Cert.ResModRefIdeal.τ).loc Cert.ResModRefIdeal.main_arg1)
          ∧ r.2.mem ((c.tc : Thread Cert.ResModRefIdeal.nD Cert.ResModRefIdeal.τ).loc Cert.ResModRefIdeal.main_arg2) = m' ((c.tc : Thread Cert.ResModRefIdeal.nD Cert.ResModRefIdeal.τ).loc Cert.ResModRefIdeal.main_arg2)
          ∧ r.2.mem ((c.tc : Thread Cert.ResModRefIdeal.nD Cert.ResModRefIdeal.τ).loc Cert.ResModRefIdeal.main_arg3) = m' ((c.tc : Thread Cert.ResModRefIdeal.nD Cert.ResModRefIdeal.τ).loc Cert.ResModRefIdeal.main_arg3)
          ∧ r.2.mem ((c.tc : Thread Cert.ResModRefIdeal.nD Cert.ResModRefIdeal.τ).loc Cert.ResModRefIdeal.main_arg4) = m' ((c.tc : Thread Cert.ResModRefIdeal.nD Cert.ResModRefIdeal.τ).loc Cert.ResModRefIdeal.main_arg4)
          ∧ r.2.mem ((c.tc : Thread Cert.ResModRefIdeal.nD Cert.ResModRefIdeal.τ).loc Cert.ResModRefIdeal.main_arg5) = m' ((c.tc : Thread Cert.ResModRefIdeal.nD Cert.ResModRefIdeal.τ).loc Cert.ResModRefIdeal.main_arg5)
          ∧ r.2.mem ((c.tc : Thread Cert.ResModRefIdeal.nD Cert.ResModRefIdeal.τ).loc Cert.ResModRefIdeal.main_arg6) = m' ((c.tc : Thread Cert.ResModRefIdeal.nD Cert.ResModRefIdeal.τ).loc Cert.ResModRefIdeal.main_arg6))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)
      ∧ m' ((c.tc : Thread Cert.NormFwdRefIdeal.nD Cert.NormFwdRefIdeal.τ).loc Cert.NormFwdRefIdeal.main_arg4) = m ((c.tc : Thread Cert.NormFwdIdeal.nD Cert.NormFwdIdeal.τ).loc Cert.NormFwdIdeal.main_arg4)
      ∧ m' ((c.tc : Thread Cert.NormFwdRefIdeal.nD Cert.NormFwdRefIdeal.τ).loc Cert.NormFwdRefIdeal.main_arg5) = m ((c.tc : Thread Cert.NormFwdIdeal.nD Cert.NormFwdIdeal.τ).loc Cert.NormFwdIdeal.main_arg5)
      ∧ m' ((c.tc : Thread Cert.NormFwdRefIdeal.nD Cert.NormFwdRefIdeal.τ).loc Cert.NormFwdRefIdeal.main_arg6) = m ((c.tc : Thread Cert.NormFwdIdeal.nD Cert.NormFwdIdeal.τ).loc Cert.NormFwdIdeal.main_arg6)) →
    ∃ (v0 : (c : Dev Cert.NormFwdIdeal.nD) → Buf (Elt Ideal) ((c.tc : Thread Cert.NormFwdIdeal.nD Cert.NormFwdIdeal.τ).loc Cert.NormFwdIdeal.main_v5)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v5) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
          ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
          ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5)
          ∧ r.2.mem ((c.tc : Thread Cert.NormFwdIdeal.nD Cert.NormFwdIdeal.τ).loc Cert.NormFwdIdeal.main_arg6) = m ((c.tc : Thread Cert.NormFwdIdeal.nD Cert.NormFwdIdeal.τ).loc Cert.NormFwdIdeal.main_arg6))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v37) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3)
          ∧ r.2.mem ((c.tc : Thread Cert.NormFwdRefIdeal.nD Cert.NormFwdRefIdeal.τ).loc Cert.NormFwdRefIdeal.main_arg4) = m' ((c.tc : Thread Cert.NormFwdRefIdeal.nD Cert.NormFwdRefIdeal.τ).loc Cert.NormFwdRefIdeal.main_arg4)
          ∧ r.2.mem ((c.tc : Thread Cert.NormFwdRefIdeal.nD Cert.NormFwdRefIdeal.τ).loc Cert.NormFwdRefIdeal.main_arg5) = m' ((c.tc : Thread Cert.NormFwdRefIdeal.nD Cert.NormFwdRefIdeal.τ).loc Cert.NormFwdRefIdeal.main_arg5)
          ∧ r.2.mem ((c.tc : Thread Cert.NormFwdRefIdeal.nD Cert.NormFwdRefIdeal.τ).loc Cert.NormFwdRefIdeal.main_arg6) = m' ((c.tc : Thread Cert.NormFwdRefIdeal.nD Cert.NormFwdRefIdeal.τ).loc Cert.NormFwdRefIdeal.main_arg6))

def preserves_ModRows_ModRowsIdeal : Prop :=
  True

def algebraic_ModRowsIdeal_ModRowsRefIdeal_pre_parts_finite [hModRowsIdeal : Cert.ModRowsIdeal.Facts] [hModRowsRefIdeal : Cert.ModRowsRefIdeal.Facts] [hPre_parts_finite : Cert.Pre_parts_finite.Facts] : Prop :=
  ∀ (m : (ℓ : Loc Cert.ModRowsIdeal.nD Cert.ModRowsIdeal.τ Cert.ModRowsIdeal.sig) → Buf (Elt Ideal) ℓ) (g : Dev Cert.ModRowsIdeal.nD → PrngReg)
    (m' : (ℓ : Loc Cert.ModRowsRefIdeal.nD Cert.ModRowsRefIdeal.τ Cert.ModRowsRefIdeal.sig) → Buf (Elt Ideal) ℓ) (g' : Dev Cert.ModRowsRefIdeal.nD → PrngReg), Pre_ModRowsIdeal_parts_finite m →
    (∀ c : Dev Cert.ModRowsIdeal.nD,
      m' ((c.tc : Thread Cert.ModRowsRefIdeal.nD Cert.ModRowsRefIdeal.τ).loc Cert.ModRowsRefIdeal.main_arg0) = m ((c.tc : Thread Cert.ModRowsIdeal.nD Cert.ModRowsIdeal.τ).loc Cert.ModRowsIdeal.main_arg0)
      ∧ m' ((c.tc : Thread Cert.ModRowsRefIdeal.nD Cert.ModRowsRefIdeal.τ).loc Cert.ModRowsRefIdeal.main_arg1) = m ((c.tc : Thread Cert.ModRowsIdeal.nD Cert.ModRowsIdeal.τ).loc Cert.ModRowsIdeal.main_arg1)
      ∧ m' ((c.tc : Thread Cert.ModRowsRefIdeal.nD Cert.ModRowsRefIdeal.τ).loc Cert.ModRowsRefIdeal.main_arg2) = m ((c.tc : Thread Cert.ModRowsIdeal.nD Cert.ModRowsIdeal.τ).loc Cert.ModRowsIdeal.main_arg2)) →
    ∃ (v0 : (c : Dev Cert.ModRowsIdeal.nD) → Buf (Elt Ideal) ((c.tc : Thread Cert.ModRowsIdeal.nD Cert.ModRowsIdeal.τ).loc Cert.ModRowsIdeal.main_v1_0)) (v1 : (c : Dev Cert.ModRowsIdeal.nD) → Buf (Elt Ideal) ((c.tc : Thread Cert.ModRowsIdeal.nD Cert.ModRowsIdeal.τ).loc Cert.ModRowsIdeal.main_v2)),
      θ_run (Cert.ModRowsIdeal.defs (F := Ideal)) (onTc (τ := Cert.ModRowsIdeal.τ) (Cert.ModRowsIdeal.main (F := Ideal))) ⟨m, fun _ => 0, g⟩ (fun r => ∀ c : Dev Cert.ModRowsIdeal.nD,
          r.2.mem ((c.tc : Thread Cert.ModRowsIdeal.nD Cert.ModRowsIdeal.τ).loc Cert.ModRowsIdeal.main_v1_0) = v0 c
          ∧ r.2.mem ((c.tc : Thread Cert.ModRowsIdeal.nD Cert.ModRowsIdeal.τ).loc Cert.ModRowsIdeal.main_v2) = v1 c
          ∧ r.2.mem ((c.tc : Thread Cert.ModRowsIdeal.nD Cert.ModRowsIdeal.τ).loc Cert.ModRowsIdeal.main_arg0) = m ((c.tc : Thread Cert.ModRowsIdeal.nD Cert.ModRowsIdeal.τ).loc Cert.ModRowsIdeal.main_arg0)
          ∧ r.2.mem ((c.tc : Thread Cert.ModRowsIdeal.nD Cert.ModRowsIdeal.τ).loc Cert.ModRowsIdeal.main_arg1) = m ((c.tc : Thread Cert.ModRowsIdeal.nD Cert.ModRowsIdeal.τ).loc Cert.ModRowsIdeal.main_arg1)
          ∧ r.2.mem ((c.tc : Thread Cert.ModRowsIdeal.nD Cert.ModRowsIdeal.τ).loc Cert.ModRowsIdeal.main_arg2) = m ((c.tc : Thread Cert.ModRowsIdeal.nD Cert.ModRowsIdeal.τ).loc Cert.ModRowsIdeal.main_arg2))
      ∧ θ_run (Cert.ModRowsRefIdeal.defs (F := Ideal)) (onTc (τ := Cert.ModRowsRefIdeal.τ) (Cert.ModRowsRefIdeal.main (F := Ideal))) ⟨m', fun _ => 0, g'⟩ (fun r => ∀ c : Dev Cert.ModRowsRefIdeal.nD,
          r.2.mem ((c.tc : Thread Cert.ModRowsRefIdeal.nD Cert.ModRowsRefIdeal.τ).loc Cert.ModRowsRefIdeal.main_v4) = v0 c
          ∧ r.2.mem ((c.tc : Thread Cert.ModRowsRefIdeal.nD Cert.ModRowsRefIdeal.τ).loc Cert.ModRowsRefIdeal.main_v9) = v1 c
          ∧ r.2.mem ((c.tc : Thread Cert.ModRowsRefIdeal.nD Cert.ModRowsRefIdeal.τ).loc Cert.ModRowsRefIdeal.main_arg0) = m' ((c.tc : Thread Cert.ModRowsRefIdeal.nD Cert.ModRowsRefIdeal.τ).loc Cert.ModRowsRefIdeal.main_arg0)
          ∧ r.2.mem ((c.tc : Thread Cert.ModRowsRefIdeal.nD Cert.ModRowsRefIdeal.τ).loc Cert.ModRowsRefIdeal.main_arg1) = m' ((c.tc : Thread Cert.ModRowsRefIdeal.nD Cert.ModRowsRefIdeal.τ).loc Cert.ModRowsRefIdeal.main_arg1)
          ∧ r.2.mem ((c.tc : Thread Cert.ModRowsRefIdeal.nD Cert.ModRowsRefIdeal.τ).loc Cert.ModRowsRefIdeal.main_arg2) = m' ((c.tc : Thread Cert.ModRowsRefIdeal.nD Cert.ModRowsRefIdeal.τ).loc Cert.ModRowsRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnOut : Cert.FfnOut.Facts) (hFfnOutIdeal : Cert.FfnOutIdeal.Facts) (hFfnOutRefIdeal : Cert.FfnOutRefIdeal.Facts) (hFfnOutDw : Cert.FfnOutDw.Facts) (hFfnOutDwIdeal : Cert.FfnOutDwIdeal.Facts) (hFfnOutDwRefIdeal : Cert.FfnOutDwRefIdeal.Facts) (hFfnInDw : Cert.FfnInDw.Facts) (hFfnInDwIdeal : Cert.FfnInDwIdeal.Facts) (hFfnInDwRefIdeal : Cert.FfnInDwRefIdeal.Facts) (hFfnInDx : Cert.FfnInDx.Facts) (hFfnInDxIdeal : Cert.FfnInDxIdeal.Facts) (hFfnInDxRefIdeal : Cert.FfnInDxRefIdeal.Facts) (hMixOut : Cert.MixOut.Facts) (hMixOutIdeal : Cert.MixOutIdeal.Facts) (hMixOutRefIdeal : Cert.MixOutRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hGmIn : Cert.GmIn.Facts) (hGmInIdeal : Cert.GmInIdeal.Facts) (hGmInRefIdeal : Cert.GmInRefIdeal.Facts) (hGmInDw : Cert.GmInDw.Facts) (hGmInDwIdeal : Cert.GmInDwIdeal.Facts) (hGmInDwRefIdeal : Cert.GmInDwRefIdeal.Facts) (hGmInDx : Cert.GmInDx.Facts) (hGmInDxIdeal : Cert.GmInDxIdeal.Facts) (hGmInDxRefIdeal : Cert.GmInDxRefIdeal.Facts) (hArInLat : Cert.ArInLat.Facts) (hArInLatIdeal : Cert.ArInLatIdeal.Facts) (hArInLatRefIdeal : Cert.ArInLatRefIdeal.Facts) (hArInCtx : Cert.ArInCtx.Facts) (hArInCtxIdeal : Cert.ArInCtxIdeal.Facts) (hArInCtxRefIdeal : Cert.ArInCtxRefIdeal.Facts) (hArInDw : Cert.ArInDw.Facts) (hArInDwIdeal : Cert.ArInDwIdeal.Facts) (hArInDwRefIdeal : Cert.ArInDwRefIdeal.Facts) (hArInDxLat : Cert.ArInDxLat.Facts) (hArInDxLatIdeal : Cert.ArInDxLatIdeal.Facts) (hArInDxLatRefIdeal : Cert.ArInDxLatRefIdeal.Facts) (hArInDxCtx : Cert.ArInDxCtx.Facts) (hArInDxCtxIdeal : Cert.ArInDxCtxIdeal.Facts) (hArInDxCtxRefIdeal : Cert.ArInDxCtxRefIdeal.Facts) (hModBwd : Cert.ModBwd.Facts) (hModBwdIdeal : Cert.ModBwdIdeal.Facts) (hModBwdRefIdeal : Cert.ModBwdRefIdeal.Facts) (hAdamFf : Cert.AdamFf.Facts) (hAdamFfIdeal : Cert.AdamFfIdeal.Facts) (hAdamFfRefIdeal : Cert.AdamFfRefIdeal.Facts) (hAdamMod : Cert.AdamMod.Facts) (hAdamModIdeal : Cert.AdamModIdeal.Facts) (hAdamModRefIdeal : Cert.AdamModRefIdeal.Facts) (hAdamCtx : Cert.AdamCtx.Facts) (hAdamCtxIdeal : Cert.AdamCtxIdeal.Facts) (hAdamCtxRefIdeal : Cert.AdamCtxRefIdeal.Facts) (hAdamBMod : Cert.AdamBMod.Facts) (hAdamBModIdeal : Cert.AdamBModIdeal.Facts) (hAdamBModRefIdeal : Cert.AdamBModRefIdeal.Facts) (hAdamNorm : Cert.AdamNorm.Facts) (hAdamNormIdeal : Cert.AdamNormIdeal.Facts) (hAdamNormRefIdeal : Cert.AdamNormRefIdeal.Facts) (hAdamArIn : Cert.AdamArIn.Facts) (hAdamArInIdeal : Cert.AdamArInIdeal.Facts) (hAdamArInRefIdeal : Cert.AdamArInRefIdeal.Facts) (hAdamHead : Cert.AdamHead.Facts) (hAdamHeadIdeal : Cert.AdamHeadIdeal.Facts) (hAdamHeadRefIdeal : Cert.AdamHeadRefIdeal.Facts) (hAdamConvW : Cert.AdamConvW.Facts) (hAdamConvWIdeal : Cert.AdamConvWIdeal.Facts) (hAdamConvWRefIdeal : Cert.AdamConvWRefIdeal.Facts) (hAdamRow : Cert.AdamRow.Facts) (hAdamRowIdeal : Cert.AdamRowIdeal.Facts) (hAdamRowRefIdeal : Cert.AdamRowRefIdeal.Facts) (hAdamGate : Cert.AdamGate.Facts) (hAdamGateIdeal : Cert.AdamGateIdeal.Facts) (hAdamGateRefIdeal : Cert.AdamGateRefIdeal.Facts) (hAdamBias : Cert.AdamBias.Facts) (hAdamBiasIdeal : Cert.AdamBiasIdeal.Facts) (hAdamBiasRefIdeal : Cert.AdamBiasRefIdeal.Facts) (hAdamOut : Cert.AdamOut.Facts) (hAdamOutIdeal : Cert.AdamOutIdeal.Facts) (hAdamOutRefIdeal : Cert.AdamOutRefIdeal.Facts) (hAdamGmIn : Cert.AdamGmIn.Facts) (hAdamGmInIdeal : Cert.AdamGmInIdeal.Facts) (hAdamGmInRefIdeal : Cert.AdamGmInRefIdeal.Facts) (hAdamGain : Cert.AdamGain.Facts) (hAdamGainIdeal : Cert.AdamGainIdeal.Facts) (hAdamGainRefIdeal : Cert.AdamGainRefIdeal.Facts) (hAdamSp : Cert.AdamSp.Facts) (hAdamSpIdeal : Cert.AdamSpIdeal.Facts) (hAdamSpRefIdeal : Cert.AdamSpRefIdeal.Facts) (hModFwd : Cert.ModFwd.Facts) (hModFwdIdeal : Cert.ModFwdIdeal.Facts) (hModFwdRefIdeal : Cert.ModFwdRefIdeal.Facts) (hModDw : Cert.ModDw.Facts) (hModDwIdeal : Cert.ModDwIdeal.Facts) (hModDwRefIdeal : Cert.ModDwRefIdeal.Facts) (hModDs : Cert.ModDs.Facts) (hModDsIdeal : Cert.ModDsIdeal.Facts) (hModDsRefIdeal : Cert.ModDsRefIdeal.Facts) (hSmallSums : Cert.SmallSums.Facts) (hSmallSumsIdeal : Cert.SmallSumsIdeal.Facts) (hSmallSumsRefIdeal : Cert.SmallSumsRefIdeal.Facts) (hGateSums : Cert.GateSums.Facts) (hGateSumsIdeal : Cert.GateSumsIdeal.Facts) (hGateSumsRefIdeal : Cert.GateSumsRefIdeal.Facts) (hResMod : Cert.ResMod.Facts) (hResModIdeal : Cert.ResModIdeal.Facts) (hResModRefIdeal : Cert.ResModRefIdeal.Facts) (hNormFwd : Cert.NormFwd.Facts) (hNormFwdIdeal : Cert.NormFwdIdeal.Facts) (hNormFwdRefIdeal : Cert.NormFwdRefIdeal.Facts) (hModRows : Cert.ModRows.Facts) (hModRowsIdeal : Cert.ModRowsIdeal.Facts) (hModRowsRefIdeal : Cert.ModRowsRefIdeal.Facts) (hPre_finite : Cert.Pre_finite.Facts) (hPre_parts_finite : Cert.Pre_parts_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_GmInDw (hGmInDw := hGmInDw)
    ∧ quiescent_GmInDwIdeal (hGmInDwIdeal := hGmInDwIdeal)
    ∧ quiescent_GmInDwRefIdeal (hGmInDwRefIdeal := hGmInDwRefIdeal)
    ∧ quiescent_GmInDx (hGmInDx := hGmInDx)
    ∧ quiescent_GmInDxIdeal (hGmInDxIdeal := hGmInDxIdeal)
    ∧ quiescent_GmInDxRefIdeal (hGmInDxRefIdeal := hGmInDxRefIdeal)
    ∧ quiescent_ArInLat (hArInLat := hArInLat)
    ∧ quiescent_ArInLatIdeal (hArInLatIdeal := hArInLatIdeal)
    ∧ quiescent_ArInLatRefIdeal (hArInLatRefIdeal := hArInLatRefIdeal)
    ∧ quiescent_ArInCtx (hArInCtx := hArInCtx)
    ∧ quiescent_ArInCtxIdeal (hArInCtxIdeal := hArInCtxIdeal)
    ∧ quiescent_ArInCtxRefIdeal (hArInCtxRefIdeal := hArInCtxRefIdeal)
    ∧ quiescent_ArInDw (hArInDw := hArInDw)
    ∧ quiescent_ArInDwIdeal (hArInDwIdeal := hArInDwIdeal)
    ∧ quiescent_ArInDwRefIdeal (hArInDwRefIdeal := hArInDwRefIdeal)
    ∧ quiescent_ArInDxLat (hArInDxLat := hArInDxLat)
    ∧ quiescent_ArInDxLatIdeal (hArInDxLatIdeal := hArInDxLatIdeal)
    ∧ quiescent_ArInDxLatRefIdeal (hArInDxLatRefIdeal := hArInDxLatRefIdeal)
    ∧ quiescent_ArInDxCtx (hArInDxCtx := hArInDxCtx)
    ∧ quiescent_ArInDxCtxIdeal (hArInDxCtxIdeal := hArInDxCtxIdeal)
    ∧ quiescent_ArInDxCtxRefIdeal (hArInDxCtxRefIdeal := hArInDxCtxRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_AdamFf (hAdamFf := hAdamFf)
    ∧ quiescent_AdamFfIdeal (hAdamFfIdeal := hAdamFfIdeal)
    ∧ quiescent_AdamFfRefIdeal (hAdamFfRefIdeal := hAdamFfRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamCtx (hAdamCtx := hAdamCtx)
    ∧ quiescent_AdamCtxIdeal (hAdamCtxIdeal := hAdamCtxIdeal)
    ∧ quiescent_AdamCtxRefIdeal (hAdamCtxRefIdeal := hAdamCtxRefIdeal)
    ∧ quiescent_AdamBMod (hAdamBMod := hAdamBMod)
    ∧ quiescent_AdamBModIdeal (hAdamBModIdeal := hAdamBModIdeal)
    ∧ quiescent_AdamBModRefIdeal (hAdamBModRefIdeal := hAdamBModRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamArIn (hAdamArIn := hAdamArIn)
    ∧ quiescent_AdamArInIdeal (hAdamArInIdeal := hAdamArInIdeal)
    ∧ quiescent_AdamArInRefIdeal (hAdamArInRefIdeal := hAdamArInRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGmIn (hAdamGmIn := hAdamGmIn)
    ∧ quiescent_AdamGmInIdeal (hAdamGmInIdeal := hAdamGmInIdeal)
    ∧ quiescent_AdamGmInRefIdeal (hAdamGmInRefIdeal := hAdamGmInRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamSp (hAdamSp := hAdamSp)
    ∧ quiescent_AdamSpIdeal (hAdamSpIdeal := hAdamSpIdeal)
    ∧ quiescent_AdamSpRefIdeal (hAdamSpRefIdeal := hAdamSpRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_ModDs (hModDs := hModDs)
    ∧ quiescent_ModDsIdeal (hModDsIdeal := hModDsIdeal)
    ∧ quiescent_ModDsRefIdeal (hModDsRefIdeal := hModDsRefIdeal)
    ∧ quiescent_SmallSums (hSmallSums := hSmallSums)
    ∧ quiescent_SmallSumsIdeal (hSmallSumsIdeal := hSmallSumsIdeal)
    ∧ quiescent_SmallSumsRefIdeal (hSmallSumsRefIdeal := hSmallSumsRefIdeal)
    ∧ quiescent_GateSums (hGateSums := hGateSums)
    ∧ quiescent_GateSumsIdeal (hGateSumsIdeal := hGateSumsIdeal)
    ∧ quiescent_GateSumsRefIdeal (hGateSumsRefIdeal := hGateSumsRefIdeal)
    ∧ quiescent_ResMod (hResMod := hResMod)
    ∧ quiescent_ResModIdeal (hResModIdeal := hResModIdeal)
    ∧ quiescent_ResModRefIdeal (hResModRefIdeal := hResModRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ModRows (hModRows := hModRows)
    ∧ quiescent_ModRowsIdeal (hModRowsIdeal := hModRowsIdeal)
    ∧ quiescent_ModRowsIdeal_pre_parts_finite (hModRowsIdeal := hModRowsIdeal) (hPre_parts_finite := hPre_parts_finite)
    ∧ quiescent_ModRowsRefIdeal (hModRowsRefIdeal := hModRowsRefIdeal)
    ∧ quiescent_ModRowsRefIdeal_pre_parts_finite (hModRowsRefIdeal := hModRowsRefIdeal) (hPre_parts_finite := hPre_parts_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_MixOut_MixOutIdeal
    ∧ algebraic_MixOutIdeal_MixOutRefIdeal (hMixOutIdeal := hMixOutIdeal) (hMixOutRefIdeal := hMixOutRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_GmIn_GmInIdeal
    ∧ algebraic_GmInIdeal_GmInRefIdeal (hGmInIdeal := hGmInIdeal) (hGmInRefIdeal := hGmInRefIdeal)
    ∧ preserves_GmInDw_GmInDwIdeal
    ∧ algebraic_GmInDwIdeal_GmInDwRefIdeal (hGmInDwIdeal := hGmInDwIdeal) (hGmInDwRefIdeal := hGmInDwRefIdeal)
    ∧ preserves_GmInDx_GmInDxIdeal
    ∧ algebraic_GmInDxIdeal_GmInDxRefIdeal (hGmInDxIdeal := hGmInDxIdeal) (hGmInDxRefIdeal := hGmInDxRefIdeal)
    ∧ preserves_ArInLat_ArInLatIdeal
    ∧ algebraic_ArInLatIdeal_ArInLatRefIdeal (hArInLatIdeal := hArInLatIdeal) (hArInLatRefIdeal := hArInLatRefIdeal)
    ∧ preserves_ArInCtx_ArInCtxIdeal
    ∧ algebraic_ArInCtxIdeal_ArInCtxRefIdeal (hArInCtxIdeal := hArInCtxIdeal) (hArInCtxRefIdeal := hArInCtxRefIdeal)
    ∧ preserves_ArInDw_ArInDwIdeal
    ∧ algebraic_ArInDwIdeal_ArInDwRefIdeal (hArInDwIdeal := hArInDwIdeal) (hArInDwRefIdeal := hArInDwRefIdeal)
    ∧ preserves_ArInDxLat_ArInDxLatIdeal
    ∧ algebraic_ArInDxLatIdeal_ArInDxLatRefIdeal (hArInDxLatIdeal := hArInDxLatIdeal) (hArInDxLatRefIdeal := hArInDxLatRefIdeal)
    ∧ preserves_ArInDxCtx_ArInDxCtxIdeal
    ∧ algebraic_ArInDxCtxIdeal_ArInDxCtxRefIdeal (hArInDxCtxIdeal := hArInDxCtxIdeal) (hArInDxCtxRefIdeal := hArInDxCtxRefIdeal)
    ∧ preserves_ModBwd_ModBwdIdeal
    ∧ algebraic_ModBwdIdeal_ModBwdRefIdeal (hModBwdIdeal := hModBwdIdeal) (hModBwdRefIdeal := hModBwdRefIdeal)
    ∧ preserves_AdamFf_AdamFfIdeal
    ∧ algebraic_AdamFfIdeal_AdamFfRefIdeal (hAdamFfIdeal := hAdamFfIdeal) (hAdamFfRefIdeal := hAdamFfRefIdeal)
    ∧ preserves_AdamMod_AdamModIdeal
    ∧ algebraic_AdamModIdeal_AdamModRefIdeal (hAdamModIdeal := hAdamModIdeal) (hAdamModRefIdeal := hAdamModRefIdeal)
    ∧ preserves_AdamCtx_AdamCtxIdeal
    ∧ algebraic_AdamCtxIdeal_AdamCtxRefIdeal (hAdamCtxIdeal := hAdamCtxIdeal) (hAdamCtxRefIdeal := hAdamCtxRefIdeal)
    ∧ preserves_AdamBMod_AdamBModIdeal
    ∧ algebraic_AdamBModIdeal_AdamBModRefIdeal (hAdamBModIdeal := hAdamBModIdeal) (hAdamBModRefIdeal := hAdamBModRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamArIn_AdamArInIdeal
    ∧ algebraic_AdamArInIdeal_AdamArInRefIdeal (hAdamArInIdeal := hAdamArInIdeal) (hAdamArInRefIdeal := hAdamArInRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGmIn_AdamGmInIdeal
    ∧ algebraic_AdamGmInIdeal_AdamGmInRefIdeal (hAdamGmInIdeal := hAdamGmInIdeal) (hAdamGmInRefIdeal := hAdamGmInRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamSp_AdamSpIdeal
    ∧ algebraic_AdamSpIdeal_AdamSpRefIdeal (hAdamSpIdeal := hAdamSpIdeal) (hAdamSpRefIdeal := hAdamSpRefIdeal)
    ∧ preserves_ModFwd_ModFwdIdeal
    ∧ algebraic_ModFwdIdeal_ModFwdRefIdeal (hModFwdIdeal := hModFwdIdeal) (hModFwdRefIdeal := hModFwdRefIdeal)
    ∧ preserves_ModDw_ModDwIdeal
    ∧ algebraic_ModDwIdeal_ModDwRefIdeal (hModDwIdeal := hModDwIdeal) (hModDwRefIdeal := hModDwRefIdeal)
    ∧ preserves_ModDs_ModDsIdeal
    ∧ algebraic_ModDsIdeal_ModDsRefIdeal (hModDsIdeal := hModDsIdeal) (hModDsRefIdeal := hModDsRefIdeal)
    ∧ preserves_SmallSums_SmallSumsIdeal
    ∧ algebraic_SmallSumsIdeal_SmallSumsRefIdeal (hSmallSumsIdeal := hSmallSumsIdeal) (hSmallSumsRefIdeal := hSmallSumsRefIdeal)
    ∧ preserves_GateSums_GateSumsIdeal
    ∧ algebraic_GateSumsIdeal_GateSumsRefIdeal (hGateSumsIdeal := hGateSumsIdeal) (hGateSumsRefIdeal := hGateSumsRefIdeal)
    ∧ preserves_ResMod_ResModIdeal
    ∧ algebraic_ResModIdeal_ResModRefIdeal (hResModIdeal := hResModIdeal) (hResModRefIdeal := hResModRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ModRows_ModRowsIdeal
    ∧ algebraic_ModRowsIdeal_ModRowsRefIdeal_pre_parts_finite (hModRowsIdeal := hModRowsIdeal) (hModRowsRefIdeal := hModRowsRefIdeal) (hPre_parts_finite := hPre_parts_finite)
-- ==== Pre_finite.lean ====
abbrev S4096x1024 : Shape := ⟨2, ![4096, 1024]⟩
abbrev S4352x256 : Shape := ⟨2, ![4352, 256]⟩
abbrev S4096x2048 : Shape := ⟨2, ![4096, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4352x256 : S_.BroadcastsInDim S4352x256 (![] : Fin 0 → Fin S4352x256.rank)
  reducesTo_S4352x256_S_d0_1 : S4352x256.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v16 : IVec S_ 1) (main_v17 : FVec F S4096x2048 .f32) : IVec S_ 1 :=
  let main_cst_4 : FVec F S_ .f32 := constant S_ .f32 0x7F800000#32
  let main_v18 : FVec F S4096x2048 .f32 := broadcastInDim S4096x2048 ![] bcast_S_S4096x2048 main_cst_4
  let main_v19 : IVec S4096x2048 1 := cmpf .olt main_v17 main_v18
  let main_c_5 : IVec S_ 1 := constantI S_ 1 1#1
  let main_v20 : IVec S_ 1 := (fun x v => Host.reduce IntOp.andi x v reducesTo_S4096x2048_S_d0_1 h_S_) main_v19 main_c_5
  let main_v21 : IVec S_ 1 := andi main_v16 main_v20
  main_v21

def fn {F : FTy → Type} [FloatOps F] (main_arg0 : FVec F S4096x1024 .bf16) (main_arg1 : FVec F S4352x256 .bf16) (main_arg2 : FVec F S4352x256 .bf16) (main_arg3 : FVec F S4096x2048 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4352x256 .f32 := (extf .f32 · bitsLt_bf16_f32) main_arg1
  let main_v6 : FVec F S4352x256 .f32 := Host.absf main_v5
  let main_cst_0 : FVec F S_ .f32 := constant S_ .f32 0x7F800000#32
  let main_v7 : FVec F S4352x256 .f32 := broadcastInDim S4352x256 ![] bcast_S_S4352x256 main_cst_0
  let main_v8 : IVec S4352x256 1 := cmpf .olt main_v6 main_v7
  let main_c_1 : IVec S_ 1 := constantI S_ 1 1#1
  let main_v9 : IVec S_ 1 := (fun x v => Host.reduce IntOp.andi x v reducesTo_S4352x256_S_d0_1 h_S_) main_v8 main_c_1
  let main_v10 : IVec S_ 1 := andi main_v4 main_v9
  let main_v11 : FVec F S4352x256 .f32 := (extf .f32 · bitsLt_bf16_f32) main_arg2
  let main_v12 : FVec F S4352x256 .f32 := Host.absf main_v11
  let main_cst_2 : FVec F S_ .f32 := constant S_ .f32 0x7F800000#32
  let main_v13 : FVec F S4352x256 .f32 := broadcastInDim S4352x256 ![] bcast_S_S4352x256 main_cst_2
  let main_v14 : IVec S4352x256 1 := cmpf .olt main_v12 main_v13
  let main_c_3 : IVec S_ 1 := constantI S_ 1 1#1
  let main_v15 : IVec S_ 1 := (fun x v => Host.reduce IntOp.andi x v reducesTo_S4352x256_S_d0_1 h_S_) main_v14 main_c_3
  let main_v16 : IVec S_ 1 := andi main_v10 main_v15
  let main_v17 : FVec F S4096x2048 .f32 := Host.absf main_arg3
  fn_part1 (F := F) main_v16 main_v17
-- ==== Pre_parts_finite.lean ====
abbrev S8x2048 : Shape := ⟨2, ![8, 2048]⟩
abbrev S2048 : Shape := ⟨1, ![2048]⟩
abbrev S8x8x2048 : Shape := ⟨3, ![8, 8, 2048]⟩
abbrev S4x1x2048 : Shape := ⟨3, ![4, 1, 2048]⟩
abbrev S4x2048 : Shape := ⟨2, ![4, 2048]⟩
abbrev S_ : Shape := ⟨0, ![]⟩

class Facts : Prop where
  slicesBy_S8x8x2048_S4x1x2048_0s2_0s1_0s1 : S8x8x2048.SlicesBy (![0, 0, 0] : Fin 3 → Nat) ![2, 1, 1] S4x1x2048
  shapeCasts_S4x1x2048_S4x2048 : S4x1x2048.ShapeCasts S4x2048
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S8x2048 .f32) (main_arg1 : FVec F S2048 .f32) (main_arg2 : FVec F S8x8x2048 .f32) : IVec S_ 1 :=
  let main_v0 : FVec F S4x1x2048 .f32 := (Host.slice S4x1x2048 ![0, 0, 0] ![2, 1, 1] · slicesBy_S8x8x2048_S4x1x2048_0s2_0s1_0s1) main_arg2
  let main_v1 : FVec F S4x2048 .f32 := shapeCast S4x2048 main_v0 shapeCasts_S4x1x2048_S4x2048
  let main_v2 : FVec F S4x2048 .f32 := Host.absf main_v1
  let main_cst : FVec F S_ .f32 := constant S_ .f32 0x7F800000#32
  let main_v3 : FVec F S4x2048 .f32 := broadcastInDim S4x2048 ![] bcast_S_S4x2048 main_cst
  let main_v4 : IVec S4x2048 1 := cmpf .olt main_v2 main_v3
  let main_c : IVec S_ 1 := constantI S_ 1 1#1
  let main_v5 : IVec S_ 1 := (fun x v => Host.reduce IntOp.andi x v reducesTo_S4x2048_S_d0_1 h_S_) main_v4 main_c
  main_v5
-- ==== Kernel.lean ====
abbrev S4096x1024 : Shape := ⟨2, ![4096, 1024]⟩
abbrev S4352x256 : Shape := ⟨2, ![4352, 256]⟩
abbrev S4096x2048 : Shape := ⟨2, ![4096, 2048]⟩
abbrev S2x4096x4 : Shape := ⟨3, ![2, 4096, 4]⟩
abbrev S512x512 : Shape := ⟨2, ![512, 512]⟩
abbrev S4352x128 : Shape := ⟨2, ![4352, 128]⟩
abbrev S1x512x4 : Shape := ⟨3, ![1, 512, 4]⟩
abbrev S512x128 : Shape := ⟨2, ![512, 128]⟩
abbrev S512x4352 : Shape := ⟨2, ![512, 4352]⟩
abbrev S512 : Shape := ⟨1, ![512]⟩
abbrev S512x1 : Shape := ⟨2, ![512, 1]⟩
abbrev S1x512x1 : Shape := ⟨3, ![1, 512, 1]⟩

abbrev nBuf : Space → Nat
  | .hbm => 9
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4352x256, .bf16⟩
  | .hbm, ⟨2, _⟩ => ⟨S4352x256, .bf16⟩
  | .hbm, ⟨3, _⟩ => ⟨S4096x2048, .f32⟩
  | .hbm, ⟨4, _⟩ => ⟨S4096x2048, .bf16⟩
  | .hbm, ⟨5, _⟩ => ⟨S2x4096x4, .f32⟩
  | .hbm, ⟨6, _⟩ => ⟨S4096x1024, .f32⟩
  | .hbm, ⟨7, _⟩ => ⟨S4352x256, .f32⟩
  | .hbm, ⟨8, _⟩ => ⟨S4352x256, .f32⟩
  | .local _ .vmem, ⟨0, _⟩ => ⟨S512x512, .bf16⟩
  | .local _ .vmem, ⟨1, _⟩ => ⟨S512x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S512x512, .bf16⟩
  | .local _ .vmem, ⟨7, _⟩ => ⟨S512x512, .bf16⟩
  | .local _ .vmem, ⟨8, _⟩ => ⟨S1x512x4, .f32⟩
  | .local _ .vmem, ⟨9, _⟩ => ⟨S1x512x4, .f32⟩
  | .local _ .vmem, ⟨10, _⟩ => ⟨S512x512, .bf16⟩
  | .local _ .vmem, ⟨11, _⟩ => ⟨S512x512, .bf16⟩
  | .local _ .vmem, ⟨12, _⟩ => ⟨S4352x128, .bf16⟩
  | .local _ .vmem, ⟨13, _⟩ => ⟨S4352x128, .bf16⟩
  | .local _ .vmem, ⟨14, _⟩ => ⟨S4352x128, .bf16⟩
  | .local _ .vmem, ⟨15, _⟩ => ⟨S4352x128, .bf16⟩
  | .local _ .vmem, ⟨16, _⟩ => ⟨S512x512, .bf16⟩
  | .local _ .vmem, ⟨17, _⟩ => ⟨S512x512, .bf16⟩
  | .local _ .vmem, ⟨18, _⟩ => ⟨S1x512x4, .f32⟩
  | .local _ .vmem, ⟨19, _⟩ => ⟨S1x512x4, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S4352x128, .f32⟩
  | .local _ .vmem, ⟨25, _⟩ => ⟨S4352x128, .f32⟩
  | .local _ .vmem, ⟨26, _⟩ => ⟨S4352x128, .f32⟩
  | .local _ .vmem, ⟨27, _⟩ => ⟨S4352x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4352x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4352x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4352x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S4096x1024 : Shape := ⟨2, ![4096, 1024]⟩
abbrev S4352x256 : Shape := ⟨2, ![4352, 256]⟩
abbrev S4096x2048 : Shape := ⟨2, ![4096, 2048]⟩
abbrev S1x4096x8x128 : Shape := ⟨4, ![1, 4096, 8, 128]⟩
abbrev S1x4352x2x128 : Shape := ⟨4, ![1, 4352, 2, 128]⟩
abbrev S1x4096x2x4x128 : Shape := ⟨5, ![1, 4096, 2, 4, 128]⟩
abbrev S1x2x4352x4096x4 : Shape := ⟨5, ![1, 2, 4352, 4096, 4]⟩
abbrev S1x2x4x4096x4352 : Shape := ⟨5, ![1, 2, 4, 4096, 4352]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x128x4x4096 : Shape := ⟨5, ![1, 2, 128, 4, 4096]⟩
abbrev S1x4096x1024 : Shape := ⟨3, ![1, 4096, 1024]⟩
abbrev S1x2x128x4352 : Shape := ⟨4, ![1, 2, 128, 4352]⟩
abbrev S2x4x4096 : Shape := ⟨3, ![2, 4, 4096]⟩
abbrev S1x2x4096x4x128 : Shape := ⟨5, ![1, 2, 4096, 4, 128]⟩
abbrev S1x2x4352x128 : Shape := ⟨4, ![1, 2, 4352, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4352x256, .bf16⟩
  | .hbm, ⟨2, _⟩ => ⟨S4352x256, .bf16⟩
  | .hbm, ⟨3, _⟩ => ⟨S4096x2048, .f32⟩
  | .hbm, ⟨4, _⟩ => ⟨S4096x1024, .f32⟩
  | .hbm, ⟨5, _⟩ => ⟨S4352x256, .f32⟩
  | .hbm, ⟨6, _⟩ => ⟨S4352x256, .f32⟩
  | .hbm, ⟨7, _⟩ => ⟨S1x4096x8x128, .f32⟩
  | .hbm, ⟨8, _⟩ => ⟨S1x4352x2x128, .f32⟩
  | .hbm, ⟨9, _⟩ => ⟨S1x4352x2x128, .f32⟩
  | .hbm, ⟨10, _⟩ => ⟨S1x4096x2x4x128, .f32⟩
  | .hbm, ⟨11, _⟩ => ⟨S1x2x4352x4096x4, .f32⟩
  | .hbm, ⟨12, _⟩ => ⟨S1x2x4x4096x4352, .f32⟩
  | .hbm, ⟨13, _⟩ => ⟨S_, .f32⟩
  | .hbm, ⟨14, _⟩ => ⟨S1x2x4x4096x4352, .f32⟩
  | .hbm, ⟨15, _⟩ => ⟨S1x2x4x4096x4352, .f32⟩
  | .hbm, ⟨16, _⟩ => ⟨S_, .f32⟩
  | .hbm, ⟨17, _⟩ => ⟨S1x2x4x4096, .f32⟩
  | .hbm, ⟨18, _⟩ => ⟨S1x2x4x4096x1, .f32⟩
  | .hbm, ⟨19, _⟩ => ⟨S1x2x4x4096x4352, .f32⟩
  | .hbm, ⟨20, _⟩ => ⟨S1x2x4x4096x4352, .i1⟩
  | .hbm, ⟨21, _⟩ => ⟨S1x2x4x4096x4352, .f32⟩
  | .hbm, ⟨22, _⟩ => ⟨S_, .f32⟩
  | .hbm, ⟨23, _⟩ => ⟨S1x2x4x4096, .f32⟩
  | .hbm, ⟨24, _⟩ => ⟨S_, .f32⟩
  | .hbm, ⟨25, _⟩ => ⟨S1x2x4x4096, .f32⟩
  | .hbm, ⟨26, _⟩ => ⟨S1x2x4x4096, .f32⟩
  | .hbm, ⟨27, _⟩ => ⟨S_, .f32⟩
  | .hbm, ⟨28, _⟩ => ⟨S1x2x4x4096, .f32⟩
  | .hbm, ⟨29, _⟩ => ⟨S1x2x4x4096, .i1⟩
  | .hbm, ⟨30, _⟩ => ⟨S_, .f32⟩
  | .hbm, ⟨31, _⟩ => ⟨S1x2x4x4096, .f32⟩
  | .hbm, ⟨32, _⟩ => ⟨S1x2x4x4096, .i1⟩
  | .hbm, ⟨33, _⟩ => ⟨S_, .f32⟩
  | .hbm, ⟨34, _⟩ => ⟨S1x2x4x4096, .f32⟩
  | .hbm, ⟨35, _⟩ => ⟨S_, .f32⟩
  | .hbm, ⟨36, _⟩ => ⟨S1x2x4x4096, .f32⟩
  | .hbm, ⟨37, _⟩ => ⟨S_, .f32⟩
  | .hbm, ⟨38, _⟩ => ⟨S1x2x4x4096, .f32⟩
  | .hbm, ⟨39, _⟩ => ⟨S1x2x4x4096, .f32⟩
  | .hbm, ⟨40, _⟩ => ⟨S1x2x4x4096, .f32⟩
  | .hbm, ⟨41, _⟩ => ⟨S1x2x4x4096x1, .f32⟩
  | .hbm, ⟨42, _⟩ => ⟨S1x2x4x4096x4352, .f32⟩
  | .hbm, ⟨43, _⟩ => ⟨S1x2x4x4096x4352, .f32⟩
  | .hbm, ⟨44, _⟩ => ⟨S1x2x4x4096x4352, .f32⟩
  | .hbm, ⟨45, _⟩ => ⟨S_, .f32⟩
  | .hbm, ⟨46, _⟩ => ⟨S1x2x4x4096, .f32⟩
  | .hbm, ⟨47, _⟩ => ⟨S1x2x4x4096x1, .f32⟩
  | .hbm, ⟨48, _⟩ => ⟨S1x2x4x4096x4352, .f32⟩
  | .hbm, ⟨49, _⟩ => ⟨S1x2x4x4096x4352, .f32⟩
  | .hbm, ⟨50, _⟩ => ⟨S1x2x4x4096x1, .f32⟩
  | .hbm, ⟨51, _⟩ => ⟨S_, .f32⟩
  | .hbm, ⟨52, _⟩ => ⟨S1x2x4x4096x1, .f32⟩
  | .hbm, ⟨53, _⟩ => ⟨S1x2x4x4096x1, .f32⟩
  | .hbm, ⟨54, _⟩ => ⟨S1x2x128x4x4096, .f32⟩
  | .hbm, ⟨55, _⟩ => ⟨S1x4096x2x4x128, .f32⟩
  | .hbm, ⟨56, _⟩ => ⟨S1x4096x1024, .f32⟩
  | .hbm, ⟨57, _⟩ => ⟨S4096x1024, .f32⟩
  | .hbm, ⟨58, _⟩ => ⟨S4096x1024, .f32⟩
  | .hbm, ⟨59, _⟩ => ⟨S1x4096x1024, .f32⟩
  | .hbm, ⟨60, _⟩ => ⟨S1x4096x2x4x128, .f32⟩
  | .hbm, ⟨61, _⟩ => ⟨S1x2x128x4x4096, .f32⟩
  | .hbm, ⟨62, _⟩ => ⟨S1x2x4x4096x4352, .f32⟩
  | .hbm, ⟨63, _⟩ => ⟨S1x2x128x4352, .f32⟩
  | .hbm, ⟨64, _⟩ => ⟨S1x4352x2x128, .f32⟩
  | .hbm, ⟨65, _⟩ => ⟨S1x2x4x4096x4352, .f32⟩
  | .hbm, ⟨66, _⟩ => ⟨S1x2x4x4096x4352, .f32⟩
  | .hbm, ⟨67, _⟩ => ⟨S1x2x4x4096x4352, .f32⟩
  | .hbm, ⟨68, _⟩ => ⟨S_, .f32⟩
  | .hbm, ⟨69, _⟩ => ⟨S1x2x4x4096, .f32⟩
  | .hbm, ⟨70, _⟩ => ⟨S1x2x4x4096x1, .f32⟩
  | .hbm, ⟨71, _⟩ => ⟨S1x2x4x4096x1, .f32⟩
  | .hbm, ⟨72, _⟩ => ⟨S1x2x4x4096x4352, .f32⟩
  | .hbm, ⟨73, _⟩ => ⟨S1x2x4x4096x4352, .f32⟩
  | .hbm, ⟨74, _⟩ => ⟨S_, .f32⟩
  | .hbm, ⟨75, _⟩ => ⟨S2x4x4096, .f32⟩
  | .hbm, ⟨76, _⟩ => ⟨S1x2x4x4096, .f32⟩
  | .hbm, ⟨77, _⟩ => ⟨S1x2x4x4096x4352, .f32⟩
  | .hbm, ⟨78, _⟩ => ⟨S1x2x4x4096x4352, .f32⟩
  | .hbm, ⟨79, _⟩ => ⟨S1x2x4x4096x4352, .f32⟩
  | .hbm, ⟨80, _⟩ => ⟨S_, .f32⟩
  | .hbm, ⟨81, _⟩ => ⟨S1x2x4x4096x4352, .f32⟩
  | .hbm, ⟨82, _⟩ => ⟨S1x2x4x4096x4352, .f32⟩
  | .hbm, ⟨83, _⟩ => ⟨S1x2x4352x4096x4, .f32⟩
  | .hbm, ⟨84, _⟩ => ⟨S1x2x4096x4x128, .f32⟩
  | .hbm, ⟨85, _⟩ => ⟨S1x4096x2x4x128, .f32⟩
  | .hbm, ⟨86, _⟩ => ⟨S1x2x4352x128, .f32⟩
  | .hbm, ⟨87, _⟩ => ⟨S1x4352x2x128, .f32⟩
  | .hbm, ⟨88, _⟩ => ⟨S1x4096x8x128, .f32⟩
  | .hbm, ⟨89, _⟩ => ⟨S4352x256, .f32⟩
  | .hbm, ⟨90, _⟩ => ⟨S4352x256, .f32⟩
  | .hbm, ⟨91, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Ffn.lean ====
abbrev S4096x2048 : Shape := ⟨2, ![4096, 2048]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S2048x4x2048, .bf16⟩
  | .hbm, ⟨5, _⟩ => ⟨S4x2048x2048, .bf16⟩
  | .hbm, ⟨6, _⟩ => ⟨S4096x8192, .bf16⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== FfnRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S4096x2048, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .bf16⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .i1⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x2048, .f32⟩
  | .hbm, ⟨27, _⟩ => ⟨S4096x8192, .f32⟩
  | .hbm, ⟨28, _⟩ => ⟨S4096x8192, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call1_cst : Ref sig .tc := ⟨.hbm, 14, rfl⟩
abbrev main_call1_v0 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== FfnOut.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnOutDw.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S_, .f32⟩
  | .hbm, ⟨5, _⟩ => ⟨S8192x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnInDw.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnInDx.lean ====
abbrev S4096x8192 : Shape := ⟨2, ![4096, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x8192, .f32⟩
  | .hbm, ⟨3, _⟩ => ⟨S2048x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmIn.lean ====
abbrev S4096x2048 : Shape := ⟨2, ![4096, 2048]⟩
abbrev S2048x4096 : Shape := ⟨2, ![2048, 4096]⟩
abbrev S1x4096 : Shape := ⟨2, ![1, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S2048x4x1024, .bf16⟩
  | .hbm, ⟨4, _⟩ => ⟨S4x2048x1024, .bf16⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmInRefIdeal.lean ====
abbrev S4096x2048 : Shape := ⟨2, ![4096, 2048]⟩
abbrev S2048x4096 : Shape := ⟨2, ![2048, 4096]⟩
abbrev S1x4096 : Shape := ⟨2, ![1, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GmInDw.lean ====
abbrev S4096x2048 : Shape := ⟨2, ![4096, 2048]⟩
abbrev S4096x4096 : Shape := ⟨2, ![4096, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GmInDx.lean ====
abbrev S4096x4096 : Shape := ⟨2, ![4096, 4096]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4096x2048 : Shape := ⟨2, ![4096, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDxRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x4096, .f32⟩
  | .hbm, ⟨3, _⟩ => ⟨S2048x4096, .f32⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ArInLat.lean ====
abbrev S4352x2048 : Shape := ⟨2, ![4352, 2048]⟩
abbrev S2048x3584 : Shape := ⟨2, ![2048, 3584]⟩
abbrev S2048x4x896 : Shape := ⟨3, ![2048, 4, 896]⟩
abbrev S4x2048x896 : Shape := ⟨3, ![4, 2048, 896]⟩
abbrev S4096x3584 : Shape := ⟨2, ![4096, 3584]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x3584, .bf16⟩
  | .hbm, ⟨2, _⟩ => ⟨S2048x4x896, .bf16⟩
  | .hbm, ⟨3, _⟩ => ⟨S4x2048x896, .bf16⟩
  | .hbm, ⟨4, _⟩ => ⟨S4096x3584, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ArInLatRefIdeal.lean ====
abbrev S4352x2048 : Shape := ⟨2, ![4352, 2048]⟩
abbrev S2048x3584 : Shape := ⟨2, ![2048, 3584]⟩
abbrev S4096x2048 : Shape := ⟨2, ![4096, 2048]⟩
abbrev S4096x3584 : Shape := ⟨2, ![4096, 3584]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3584, .bf16⟩
  | .hbm, ⟨2, _⟩ => ⟨S4096x2048, .bf16⟩
  | .hbm, ⟨3, _⟩ => ⟨S4096x2048, .f32⟩
  | .hbm, ⟨4, _⟩ => ⟨S2048x3584, .f32⟩
  | .hbm, ⟨5, _⟩ => ⟨S4096x3584, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ArInCtx.lean ====
abbrev S4352x2048 : Shape := ⟨2, ![4352, 2048]⟩
abbrev S2048x3584 : Shape := ⟨2, ![2048, 3584]⟩
abbrev S2048x4x896 : Shape := ⟨3, ![2048, 4, 896]⟩
abbrev S4x2048x896 : Shape := ⟨3, ![4, 2048, 896]⟩
abbrev S256x3584 : Shape := ⟨2, ![256, 3584]⟩
abbrev S256x2048 : Shape := ⟨2, ![256, 2048]⟩
abbrev S1x2048x896 : Shape := ⟨3, ![1, 2048, 896]⟩
abbrev S256x896 : Shape := ⟨2, ![256, 896]⟩
abbrev S2048x896 : Shape := ⟨2, ![2048, 896]⟩

abbrev nBuf : Space → Nat
  | .hbm => 5
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x3584, .bf16⟩
  | .hbm, ⟨2, _⟩ => ⟨S2048x4x896, .bf16⟩
  | .hbm, ⟨3, _⟩ => ⟨S4x2048x896, .bf16⟩
  | .hbm, ⟨4, _⟩ => ⟨S256x3584, .f32⟩
  | .local _ .vmem, ⟨0, _⟩ => ⟨S256x2048, .bf16⟩
  | .local _ .vmem, ⟨1, _⟩ => ⟨S1x2048x896, .bf16⟩
  | .local _ .vmem, ⟨2, _⟩ => ⟨S1x2048x896, .bf16⟩
  | .local _ .vmem, ⟨3, _⟩ => ⟨S256x896, .f32⟩
  | .local _ .vmem, ⟨4, _⟩ => ⟨S256x896, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg0 c16_i32
  let c0_i32 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ArInCtxRefIdeal.lean ====
abbrev S4352x2048 : Shape := ⟨2, ![4352, 2048]⟩
abbrev S2048x3584 : Shape := ⟨2, ![2048, 3584]⟩
abbrev S256x2048 : Shape := ⟨2, ![256, 2048]⟩
abbrev S256x3584 : Shape := ⟨2, ![256, 3584]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3584, .bf16⟩
  | .hbm, ⟨2, _⟩ => ⟨S256x2048, .bf16⟩
  | .hbm, ⟨3, _⟩ => ⟨S256x2048, .f32⟩
  | .hbm, ⟨4, _⟩ => ⟨S2048x3584, .f32⟩
  | .hbm, ⟨5, _⟩ => ⟨S256x3584, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ArInDw.lean ====
abbrev S4352x2048 : Shape := ⟨2, ![4352, 2048]⟩
abbrev S4352x3584 : Shape := ⟨2, ![4352, 3584]⟩
abbrev S4x2048x896 : Shape := ⟨3, ![4, 2048, 896]⟩
abbrev S1088x1024 : Shape := ⟨2, ![1088, 1024]⟩
abbrev S1088x896 : Shape := ⟨2, ![1088, 896]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x3584, .bf16⟩
  | .hbm, ⟨2, _⟩ => ⟨S4x2048x896, .bf16⟩
  | .local _ .vmem, ⟨0, _⟩ => ⟨S1088x1024, .bf16⟩
  | .local _ .vmem, ⟨1, _⟩ => ⟨S1088x1024, .bf16⟩
  | .local _ .vmem, ⟨2, _⟩ => ⟨S1088x896, .bf16⟩
  | .local _ .vmem, ⟨3, _⟩ => ⟨S1088x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ArInDwRefIdeal.lean ====
abbrev S4352x2048 : Shape := ⟨2, ![4352, 2048]⟩
abbrev S4352x3584 : Shape := ⟨2, ![4352, 3584]⟩
abbrev S_ : Shape := ⟨0, ![]⟩
abbrev S2048x3584 : Shape := ⟨2, ![2048, 3584]⟩
abbrev S3584x2048 : Shape := ⟨2, ![3584, 2048]⟩
abbrev S2048x4x896 : Shape := ⟨3, ![2048, 4, 896]⟩
abbrev S4x2048x896 : Shape := ⟨3, ![4, 2048, 896]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x3584, .bf16⟩
  | .hbm, ⟨2, _⟩ => ⟨S4352x2048, .f32⟩
  | .hbm, ⟨3, _⟩ => ⟨S4352x3584, .f32⟩
  | .hbm, ⟨4, _⟩ => ⟨S_, .f32⟩
  | .hbm, ⟨5, _⟩ => ⟨S2048x3584, .f32⟩
  | .hbm, ⟨6, _⟩ => ⟨S4352x3584, .f32⟩
  | .hbm, ⟨7, _⟩ => ⟨S3584x2048, .f32⟩
  | .hbm, ⟨8, _⟩ => ⟨S2048x3584, .f32⟩
  | .hbm, ⟨9, _⟩ => ⟨S2048x4x896, .f32⟩
  | .hbm, ⟨10, _⟩ => ⟨S4x2048x896, .f32⟩
  | .hbm, ⟨11, _⟩ => ⟨S4x2048x896, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ArInDxLat.lean ====
abbrev S4352x3584 : Shape := ⟨2, ![4352, 3584]⟩
abbrev S2048x3584 : Shape := ⟨2, ![2048, 3584]⟩
abbrev S2048x4x896 : Shape := ⟨3, ![2048, 4, 896]⟩
abbrev S4x2048x896 : Shape := ⟨3, ![4, 2048, 896]⟩
abbrev S4096x2048 : Shape := ⟨2, ![4096, 2048]⟩
abbrev S1024x1792 : Shape := ⟨2, ![1024, 1792]⟩
abbrev S2x1024x896 : Shape := ⟨3, ![2, 1024, 896]⟩
abbrev S1024x1024 : Shape := ⟨2, ![1024, 1024]⟩
abbrev S1024x896 : Shape := ⟨2, ![1024, 896]⟩
abbrev S1x1024x896 : Shape := ⟨3, ![1, 1024, 896]⟩

abbrev nBuf : Space → Nat
  | .hbm => 5
  | .vmem => 7
  | .smem => 0
  | _ => 0

abbrev bufTy : (tb : Table) → Fin (tcTables nBuf tb) → BufTy
  | .hbm, ⟨0, _⟩ => ⟨S4352x3584, .bf16⟩
  | .hbm, ⟨1, _⟩ => ⟨S2048x3584, .bf16⟩
  | .hbm, ⟨2, _⟩ => ⟨S2048x4x896, .bf16⟩
  | .hbm, ⟨3, _⟩ => ⟨S4x2048x896, .bf16⟩
  | .hbm, ⟨4, _⟩ => ⟨S4096x2048, .f32⟩
  | .local _ .vmem, ⟨0, _⟩ => ⟨S1024x1792, .bf16⟩
  | .local _ .vmem, ⟨1, _⟩ => ⟨S1024x1792, .bf16⟩
  | .local _ .vmem, ⟨2, _⟩ => ⟨S2x1024x896, .bf16⟩
  | .local _ .vmem, ⟨3, _⟩ => ⟨S2x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ArInDxLatRefIdeal.lean ====
abbrev S4352x3584 : Shape := ⟨2, ![4352, 3584]⟩
abbrev S2048x3584 : Shape := ⟨2, ![2048, 3584]⟩
abbrev S4096x3584 : Shape := ⟨2, ![4096, 3584]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x3584, .bf16⟩
  | .hbm, ⟨1, _⟩ => ⟨S2048x3584, .bf16⟩
  | .hbm, ⟨2, _⟩ => ⟨S4096x3584, .bf16⟩
  | .hbm, ⟨3, _⟩ => ⟨S4096x3584, .f32⟩
  | .hbm, ⟨4, _⟩ => ⟨S2048x3584, .f32⟩
  | .hbm, ⟨5, _⟩ => ⟨S_, .f32⟩
  | .hbm, ⟨6, _⟩ => ⟨S4096x2048, .f32⟩
  | .hbm, ⟨7, _⟩ => ⟨S4096x3584, .f32⟩
  | .hbm, ⟨8, _⟩ => ⟨S4096x2048, .f32⟩
  | _, _ => ⟨S4352x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ArInDxCtx.lean ====
abbrev S4352x3584 : Shape := ⟨2, ![4352, 3584]⟩
abbrev S2048x3584 : Shape := ⟨2, ![2048, 3584]⟩
abbrev S2048x4x896 : Shape := ⟨3, ![2048, 4, 896]⟩
abbrev S4x2048x896 : Shape := ⟨3, ![4, 2048, 896]⟩
abbrev S256x2048 : Shape := ⟨2, ![256, 2048]⟩
abbrev S256x1792 : Shape := ⟨2, ![256, 1792]⟩
abbrev S2x1024x896 : Shape := ⟨3, ![2, 1024, 896]⟩
abbrev S256x1024 : Shape := ⟨2, ![256, 1024]⟩
abbrev S256x896 : Shape := ⟨2, ![256, 896]⟩
abbrev S1x1024x896 : Shape := ⟨3, ![1, 1024, 896]⟩
abbrev S1024x896 : Shape := ⟨2, ![1024, 896]⟩

abbrev nBuf : Space → Nat
  | .hbm => 5
  | .vmem => 7
  | .smem => 0
  | _ => 0

abbrev bufTy : (tb : Table) → Fin (tcTables nBuf tb) → BufTy
  | .hbm, ⟨0, _⟩ => ⟨S4352x3584, .bf16⟩
  | .hbm, ⟨1, _⟩ => ⟨S2048x3584, .bf16⟩
  | .hbm, ⟨2, _⟩ => ⟨S2048x4x896, .bf16⟩
  | .hbm, ⟨3, _⟩ => ⟨S4x2048x896, .bf16⟩
  | .hbm, ⟨4, _⟩ => ⟨S256x2048, .f32⟩
  | .local _ .vmem, ⟨0, _⟩ => ⟨S256x1792, .bf16⟩
  | .local _ .vmem, ⟨1, _⟩ => ⟨S256x1792, .bf16⟩
  | .local _ .vmem, ⟨2, _⟩ => ⟨S2x1024x896, .bf16⟩
  | .local _ .vmem, ⟨3, _⟩ => ⟨S2x1024x896, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4352x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg0 c16_i32
  let c0_i32 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ArInDxCtxRefIdeal.lean ====
abbrev S4352x3584 : Shape := ⟨2, ![4352, 3584]⟩
abbrev S2048x3584 : Shape := ⟨2, ![2048, 3584]⟩
abbrev S256x3584 : Shape := ⟨2, ![256, 3584]⟩
abbrev S_ : Shape := ⟨0, ![]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x3584, .bf16⟩
  | .hbm, ⟨1, _⟩ => ⟨S2048x3584, .bf16⟩
  | .hbm, ⟨2, _⟩ => ⟨S256x3584, .bf16⟩
  | .hbm, ⟨3, _⟩ => ⟨S256x3584, .f32⟩
  | .hbm, ⟨4, _⟩ => ⟨S2048x3584, .f32⟩
  | .hbm, ⟨5, _⟩ => ⟨S_, .f32⟩
  | .hbm, ⟨6, _⟩ => ⟨S256x2048, .f32⟩
  | .hbm, ⟨7, _⟩ => ⟨S256x3584, .f32⟩
  | .hbm, ⟨8, _⟩ => ⟨S256x2048, .f32⟩
  | _, _ => ⟨S4352x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ModBwd.lean ====
abbrev S4096x2048 : Shape := ⟨2, ![4096, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ModBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamFf.lean ====
abbrev S4096x2048 : Shape := ⟨2, ![4096, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfIdeal.lean ====
abbrev S4096x2048 : Shape := ⟨2, ![4096, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfRefIdeal.lean ====
abbrev S4096x2048 : Shape := ⟨2, ![4096, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S4096x3072 : Shape := ⟨2, ![4096, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModIdeal.lean ====
abbrev S4096x3072 : Shape := ⟨2, ![4096, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S4096x3072 : Shape := ⟨2, ![4096, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S_, .f32⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCtx.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCtxIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCtxRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBMod.lean ====
abbrev S2x12288 : Shape := ⟨2, ![2, 12288]⟩

abbrev nBuf : Space → Nat
  | .hbm => 7
  | .vmem => 7
  | .smem => 0
  | _ => 0

abbrev bufTy : (tb : Table) → Fin (tcTables nBuf tb) → BufTy
  | .hbm, ⟨0, _⟩ => ⟨S2x12288, .f32⟩
  | .hbm, ⟨1, _⟩ => ⟨S2x12288, .f32⟩
  | .hbm, ⟨2, _⟩ => ⟨S2x12288, .f32⟩
  | .hbm, ⟨3, _⟩ => ⟨S2x12288, .f32⟩
  | .hbm, ⟨4, _⟩ => ⟨S2x12288, .f32⟩
  | .hbm, ⟨5, _⟩ => ⟨S2x12288, .f32⟩
  | .hbm, ⟨6, _⟩ => ⟨S2x12288, .f32⟩
  | .local _ .vmem, ⟨0, _⟩ => ⟨S2x12288, .f32⟩
  | .local _ .vmem, ⟨1, _⟩ => ⟨S2x12288, .f32⟩
  | .local _ .vmem, ⟨2, _⟩ => ⟨S2x12288, .f32⟩
  | .local _ .vmem, ⟨3, _⟩ => ⟨S2x12288, .f32⟩
  | .local _ .vmem, ⟨4, _⟩ => ⟨S2x12288, .f32⟩
  | .local _ .vmem, ⟨5, _⟩ => ⟨S2x12288, .f32⟩
  | .local _ .vmem, ⟨6, _⟩ => ⟨S2x12288, .f32⟩
  | _, _ => ⟨S2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBModIdeal.lean ====
abbrev S2x12288 : Shape := ⟨2, ![2, 12288]⟩

abbrev nBuf : Space → Nat
  | .hbm => 7
  | .vmem => 7
  | .smem => 0
  | _ => 0

abbrev bufTy : (tb : Table) → Fin (tcTables nBuf tb) → BufTy
  | .hbm, ⟨0, _⟩ => ⟨S2x12288, .f32⟩
  | .hbm, ⟨1, _⟩ => ⟨S2x12288, .f32⟩
  | .hbm, ⟨2, _⟩ => ⟨S2x12288, .f32⟩
  | .hbm, ⟨3, _⟩ => ⟨S2x12288, .f32⟩
  | .hbm, ⟨4, _⟩ => ⟨S2x12288, .f32⟩
  | .hbm, ⟨5, _⟩ => ⟨S2x12288, .f32⟩
  | .hbm, ⟨6, _⟩ => ⟨S2x12288, .f32⟩
  | .local _ .vmem, ⟨0, _⟩ => ⟨S2x12288, .f32⟩
  | .local _ .vmem, ⟨1, _⟩ => ⟨S2x12288, .f32⟩
  | .local _ .vmem, ⟨2, _⟩ => ⟨S2x12288, .f32⟩
  | .local _ .vmem, ⟨3, _⟩ => ⟨S2x12288, .f32⟩
  | .local _ .vmem, ⟨4, _⟩ => ⟨S2x12288, .f32⟩
  | .local _ .vmem, ⟨5, _⟩ => ⟨S2x12288, .f32⟩
  | .local _ .vmem, ⟨6, _⟩ => ⟨S2x12288, .f32⟩
  | _, _ => ⟨S2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBModRefIdeal.lean ====
abbrev S2x12288 : Shape := ⟨2, ![2, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x12288, .f32⟩
  | .hbm, ⟨1, _⟩ => ⟨S2x12288, .f32⟩
  | .hbm, ⟨2, _⟩ => ⟨S2x12288, .f32⟩
  | .hbm, ⟨3, _⟩ => ⟨S2x12288, .f32⟩
  | .hbm, ⟨4, _⟩ => ⟨S_, .f32⟩
  | .hbm, ⟨5, _⟩ => ⟨S2x12288, .f32⟩
  | .hbm, ⟨6, _⟩ => ⟨S2x12288, .f32⟩
  | .hbm, ⟨7, _⟩ => ⟨S_, .f32⟩
  | .hbm, ⟨8, _⟩ => ⟨S2x12288, .f32⟩
  | .hbm, ⟨9, _⟩ => ⟨S2x12288, .f32⟩
  | .hbm, ⟨10, _⟩ => ⟨S2x12288, .f32⟩
  | .hbm, ⟨11, _⟩ => ⟨S_, .f32⟩
  | .hbm, ⟨12, _⟩ => ⟨S2x12288, .f32⟩
  | .hbm, ⟨13, _⟩ => ⟨S2x12288, .f32⟩
  | .hbm, ⟨14, _⟩ => ⟨S2x12288, .f32⟩
  | .hbm, ⟨15, _⟩ => ⟨S_, .f32⟩
  | .hbm, ⟨16, _⟩ => ⟨S2x12288, .f32⟩
  | .hbm, ⟨17, _⟩ => ⟨S2x12288, .f32⟩
  | .hbm, ⟨18, _⟩ => ⟨S2x12288, .f32⟩
  | .hbm, ⟨19, _⟩ => ⟨S_, .f32⟩
  | .hbm, ⟨20, _⟩ => ⟨S2x12288, .f32⟩
  | .hbm, ⟨21, _⟩ => ⟨S2x12288, .f32⟩
  | .hbm, ⟨22, _⟩ => ⟨S_, .f32⟩
  | .hbm, ⟨23, _⟩ => ⟨S2x12288, .f32⟩
  | .hbm, ⟨24, _⟩ => ⟨S2x12288, .f32⟩
  | .hbm, ⟨25, _⟩ => ⟨S2x12288, .f32⟩
  | .hbm, ⟨26, _⟩ => ⟨S_, .f32⟩
  | .hbm, ⟨27, _⟩ => ⟨S2x12288, .f32⟩
  | .hbm, ⟨28, _⟩ => ⟨S2x12288, .f32⟩
  | .hbm, ⟨29, _⟩ => ⟨S2x12288, .f32⟩
  | .hbm, ⟨30, _⟩ => ⟨S_, .f32⟩
  | .hbm, ⟨31, _⟩ => ⟨S2x12288, .f32⟩
  | .hbm, ⟨32, _⟩ => ⟨S2x12288, .f32⟩
  | .hbm, ⟨33, _⟩ => ⟨S2x12288, .f32⟩
  | .hbm, ⟨34, _⟩ => ⟨S_, .f32⟩
  | .hbm, ⟨35, _⟩ => ⟨S2x12288, .f32⟩
  | .hbm, ⟨36, _⟩ => ⟨S2x12288, .f32⟩
  | _, _ => ⟨S2x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S8x512 : Shape := ⟨2, ![8, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S_, .f32⟩
  | .hbm, ⟨5, _⟩ => ⟨S8x512, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S8x512, .f32⟩
  | .hbm, ⟨11, _⟩ => ⟨S_, .f32⟩
  | .hbm, ⟨12, _⟩ => ⟨S8x512, .f32⟩
  | .hbm, ⟨13, _⟩ => ⟨S8x512, .f32⟩
  | .hbm, ⟨14, _⟩ => ⟨S8x512, .f32⟩
  | .hbm, ⟨15, _⟩ => ⟨S_, .f32⟩
  | .hbm, ⟨16, _⟩ => ⟨S8x512, .f32⟩
  | .hbm, ⟨17, _⟩ => ⟨S8x512, .f32⟩
  | .hbm, ⟨18, _⟩ => ⟨S8x512, .f32⟩
  | .hbm, ⟨19, _⟩ => ⟨S_, .f32⟩
  | .hbm, ⟨20, _⟩ => ⟨S8x512, .f32⟩
  | .hbm, ⟨21, _⟩ => ⟨S8x512, .f32⟩
  | .hbm, ⟨22, _⟩ => ⟨S_, .f32⟩
  | .hbm, ⟨23, _⟩ => ⟨S8x512, .f32⟩
  | .hbm, ⟨24, _⟩ => ⟨S8x512, .f32⟩
  | .hbm, ⟨25, _⟩ => ⟨S8x512, .f32⟩
  | .hbm, ⟨26, _⟩ => ⟨S_, .f32⟩
  | .hbm, ⟨27, _⟩ => ⟨S8x512, .f32⟩
  | .hbm, ⟨28, _⟩ => ⟨S8x512, .f32⟩
  | .hbm, ⟨29, _⟩ => ⟨S8x512, .f32⟩
  | .hbm, ⟨30, _⟩ => ⟨S_, .f32⟩
  | .hbm, ⟨31, _⟩ => ⟨S8x512, .f32⟩
  | .hbm, ⟨32, _⟩ => ⟨S8x512, .f32⟩
  | .hbm, ⟨33, _⟩ => ⟨S8x512, .f32⟩
  | .hbm, ⟨34, _⟩ => ⟨S_, .f32⟩
  | .hbm, ⟨35, _⟩ => ⟨S8x512, .f32⟩
  | .hbm, ⟨36, _⟩ => ⟨S8x512, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamArIn.lean ====
abbrev S2048x896 : Shape := ⟨2, ![2048, 896]⟩
abbrev S512x896 : Shape := ⟨2, ![512, 896]⟩

abbrev nBuf : Space → Nat
  | .hbm => 8
  | .vmem => 16
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | .local _ .vmem, ⟨14, _⟩ => ⟨S512x896, .f32⟩
  | .local _ .vmem, ⟨15, _⟩ => ⟨S512x896, .f32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamArInIdeal.lean ====
abbrev S2048x896 : Shape := ⟨2, ![2048, 896]⟩
abbrev S512x896 : Shape := ⟨2, ![512, 896]⟩

abbrev nBuf : Space → Nat
  | .hbm => 8
  | .vmem => 16
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | .local _ .vmem, ⟨14, _⟩ => ⟨S512x896, .f32⟩
  | .local _ .vmem, ⟨15, _⟩ => ⟨S512x896, .f32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamArInRefIdeal.lean ====
abbrev S2048x896 : Shape := ⟨2, ![2048, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S_, .f32⟩
  | .hbm, ⟨5, _⟩ => ⟨S2048x896, .f32⟩
  | .hbm, ⟨6, _⟩ => ⟨S2048x896, .f32⟩
  | .hbm, ⟨7, _⟩ => ⟨S_, .f32⟩
  | .hbm, ⟨8, _⟩ => ⟨S2048x896, .f32⟩
  | .hbm, ⟨9, _⟩ => ⟨S2048x896, .f32⟩
  | .hbm, ⟨10, _⟩ => ⟨S2048x896, .f32⟩
  | .hbm, ⟨11, _⟩ => ⟨S_, .f32⟩
  | .hbm, ⟨12, _⟩ => ⟨S2048x896, .f32⟩
  | .hbm, ⟨13, _⟩ => ⟨S2048x896, .f32⟩
  | .hbm, ⟨14, _⟩ => ⟨S2048x896, .f32⟩
  | .hbm, ⟨15, _⟩ => ⟨S_, .f32⟩
  | .hbm, ⟨16, _⟩ => ⟨S2048x896, .f32⟩
  | .hbm, ⟨17, _⟩ => ⟨S2048x896, .f32⟩
  | .hbm, ⟨18, _⟩ => ⟨S2048x896, .f32⟩
  | .hbm, ⟨19, _⟩ => ⟨S_, .f32⟩
  | .hbm, ⟨20, _⟩ => ⟨S2048x896, .f32⟩
  | .hbm, ⟨21, _⟩ => ⟨S2048x896, .f32⟩
  | .hbm, ⟨22, _⟩ => ⟨S_, .f32⟩
  | .hbm, ⟨23, _⟩ => ⟨S2048x896, .f32⟩
  | .hbm, ⟨24, _⟩ => ⟨S2048x896, .f32⟩
  | .hbm, ⟨25, _⟩ => ⟨S2048x896, .f32⟩
  | .hbm, ⟨26, _⟩ => ⟨S_, .f32⟩
  | .hbm, ⟨27, _⟩ => ⟨S2048x896, .f32⟩
  | .hbm, ⟨28, _⟩ => ⟨S2048x896, .f32⟩
  | .hbm, ⟨29, _⟩ => ⟨S2048x896, .f32⟩
  | .hbm, ⟨30, _⟩ => ⟨S_, .f32⟩
  | .hbm, ⟨31, _⟩ => ⟨S2048x896, .f32⟩
  | .hbm, ⟨32, _⟩ => ⟨S2048x896, .f32⟩
  | .hbm, ⟨33, _⟩ => ⟨S2048x896, .f32⟩
  | .hbm, ⟨34, _⟩ => ⟨S_, .f32⟩
  | .hbm, ⟨35, _⟩ => ⟨S2048x896, .f32⟩
  | .hbm, ⟨36, _⟩ => ⟨S2048x896, .f32⟩
  | _, _ => ⟨S2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvW.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWRefIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateIdeal.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasRefIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGmIn.lean ====
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGmInIdeal.lean ====
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGmInRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSp.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSpRefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ModFwd.lean ====
abbrev S16x2048 : Shape := ⟨2, ![16, 2048]⟩
abbrev S2x2048x3072 : Shape := ⟨3, ![2, 2048, 3072]⟩
abbrev S2x3072 : Shape := ⟨2, ![2, 3072]⟩
abbrev S1x3072 : Shape := ⟨2, ![1, 3072]⟩
abbrev S3072 : Shape := ⟨1, ![3072]⟩
abbrev S16x3072 : Shape := ⟨2, ![16, 3072]⟩
abbrev S1x2048x1024 : Shape := ⟨3, ![1, 2048, 1024]⟩
abbrev S1x1024 : Shape := ⟨2, ![1, 1024]⟩
abbrev S16x1024 : Shape := ⟨2, ![16, 1024]⟩
abbrev S2048x1024 : Shape := ⟨2, ![2048, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x3072, .f32⟩
  | .hbm, ⟨3, _⟩ => ⟨S1x3072, .f32⟩
  | .hbm, ⟨4, _⟩ => ⟨S3072, .f32⟩
  | .hbm, ⟨5, _⟩ => ⟨S1x3072, .f32⟩
  | .hbm, ⟨6, _⟩ => ⟨S16x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S16x3072, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | .local _ .vmem, ⟨7, _⟩ => ⟨S16x2048, .f32⟩
  | .local _ .vmem, ⟨8, _⟩ => ⟨S1x2048x1024, .f32⟩
  | .local _ .vmem, ⟨9, _⟩ => ⟨S1x2048x1024, .f32⟩
  | .local _ .vmem, ⟨10, _⟩ => ⟨S1x1024, .f32⟩
  | .local _ .vmem, ⟨11, _⟩ => ⟨S1x1024, .f32⟩
  | .local _ .vmem, ⟨12, _⟩ => ⟨S16x1024, .f32⟩
  | .local _ .vmem, ⟨13, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S16x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ModFwdRefIdeal.lean ====
abbrev S16x2048 : Shape := ⟨2, ![16, 2048]⟩
abbrev S2x2048x3072 : Shape := ⟨3, ![2, 2048, 3072]⟩
abbrev S2x3072 : Shape := ⟨2, ![2, 3072]⟩
abbrev S1x2048x3072 : Shape := ⟨3, ![1, 2048, 3072]⟩
abbrev S2048x3072 : Shape := ⟨2, ![2048, 3072]⟩
abbrev S16x3072 : Shape := ⟨2, ![16, 3072]⟩
abbrev S1x3072 : Shape := ⟨2, ![1, 3072]⟩
abbrev S3072 : Shape := ⟨1, ![3072]⟩

abbrev nBuf : Space → Nat
  | .hbm => 19
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x3072, .f32⟩
  | .hbm, ⟨3, _⟩ => ⟨S1x2048x3072, .f32⟩
  | .hbm, ⟨4, _⟩ => ⟨S2048x3072, .f32⟩
  | .hbm, ⟨5, _⟩ => ⟨S16x3072, .f32⟩
  | .hbm, ⟨6, _⟩ => ⟨S1x3072, .f32⟩
  | .hbm, ⟨7, _⟩ => ⟨S3072, .f32⟩
  | .hbm, ⟨8, _⟩ => ⟨S1x3072, .f32⟩
  | .hbm, ⟨9, _⟩ => ⟨S16x3072, .f32⟩
  | .hbm, ⟨10, _⟩ => ⟨S16x3072, .f32⟩
  | .hbm, ⟨11, _⟩ => ⟨S1x2048x3072, .f32⟩
  | .hbm, ⟨12, _⟩ => ⟨S2048x3072, .f32⟩
  | .hbm, ⟨13, _⟩ => ⟨S16x3072, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S16x3072, .f32⟩
  | .hbm, ⟨18, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== ModDw.lean ====
abbrev S16x2048 : Shape := ⟨2, ![16, 2048]⟩
abbrev S16x3072 : Shape := ⟨2, ![16, 3072]⟩
abbrev S2x2048x3072 : Shape := ⟨3, ![2, 2048, 3072]⟩
abbrev S16x1024 : Shape := ⟨2, ![16, 1024]⟩
abbrev S1x1024x1024 : Shape := ⟨3, ![1, 1024, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S16x3072, .f32⟩
  | .hbm, ⟨3, _⟩ => ⟨S2x2048x3072, .f32⟩
  | .hbm, ⟨4, _⟩ => ⟨S2x2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S1x1024x1024, .f32⟩
  | .local _ .vmem, ⟨11, _⟩ => ⟨S1x1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage1_0 : Fin 2 → Memref sig .tc .vmem S16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ModDwRefIdeal.lean ====
abbrev S16x2048 : Shape := ⟨2, ![16, 2048]⟩
abbrev S16x3072 : Shape := ⟨2, ![16, 3072]⟩
abbrev S_ : Shape := ⟨0, ![]⟩
abbrev S2x2048x3072 : Shape := ⟨3, ![2, 2048, 3072]⟩
abbrev S1x2048x3072 : Shape := ⟨3, ![1, 2048, 3072]⟩
abbrev S2048x3072 : Shape := ⟨2, ![2048, 3072]⟩
abbrev S3072x2048 : Shape := ⟨2, ![3072, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S16x3072, .f32⟩
  | .hbm, ⟨3, _⟩ => ⟨S_, .f32⟩
  | .hbm, ⟨4, _⟩ => ⟨S2x2048x3072, .f32⟩
  | .hbm, ⟨5, _⟩ => ⟨S1x2048x3072, .f32⟩
  | .hbm, ⟨6, _⟩ => ⟨S2048x3072, .f32⟩
  | .hbm, ⟨7, _⟩ => ⟨S16x3072, .f32⟩
  | .hbm, ⟨8, _⟩ => ⟨S1x2048x3072, .f32⟩
  | .hbm, ⟨9, _⟩ => ⟨S2048x3072, .f32⟩
  | .hbm, ⟨10, _⟩ => ⟨S16x3072, .f32⟩
  | .hbm, ⟨11, _⟩ => ⟨S3072x2048, .f32⟩
  | .hbm, ⟨12, _⟩ => ⟨S2048x3072, .f32⟩
  | .hbm, ⟨13, _⟩ => ⟨S1x2048x3072, .f32⟩
  | .hbm, ⟨14, _⟩ => ⟨S_, .f32⟩
  | .hbm, ⟨15, _⟩ => ⟨S2x2048x3072, .f32⟩
  | .hbm, ⟨16, _⟩ => ⟨S3072x2048, .f32⟩
  | .hbm, ⟨17, _⟩ => ⟨S2048x3072, .f32⟩
  | .hbm, ⟨18, _⟩ => ⟨S1x2048x3072, .f32⟩
  | .hbm, ⟨19, _⟩ => ⟨S_, .f32⟩
  | .hbm, ⟨20, _⟩ => ⟨S2x2048x3072, .f32⟩
  | .hbm, ⟨21, _⟩ => ⟨S2x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ModDs.lean ====
abbrev S16x3072 : Shape := ⟨2, ![16, 3072]⟩
abbrev S2x2048x3072 : Shape := ⟨3, ![2, 2048, 3072]⟩
abbrev S16x2048 : Shape := ⟨2, ![16, 2048]⟩
abbrev S16x1536 : Shape := ⟨2, ![16, 1536]⟩
abbrev S1x1024x1536 : Shape := ⟨3, ![1, 1024, 1536]⟩
abbrev S16x1024 : Shape := ⟨2, ![16, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S16x3072, .f32⟩
  | .hbm, ⟨1, _⟩ => ⟨S2x2048x3072, .f32⟩
  | .hbm, ⟨2, _⟩ => ⟨S16x2048, .f32⟩
  | .local _ .vmem, ⟨0, _⟩ => ⟨S16x1536, .f32⟩
  | .local _ .vmem, ⟨1, _⟩ => ⟨S16x1536, .f32⟩
  | .local _ .vmem, ⟨2, _⟩ => ⟨S1x1024x1536, .f32⟩
  | .local _ .vmem, ⟨3, _⟩ => ⟨S1x1024x1536, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDsRefIdeal.lean ====
abbrev S16x3072 : Shape := ⟨2, ![16, 3072]⟩
abbrev S2x2048x3072 : Shape := ⟨3, ![2, 2048, 3072]⟩
abbrev S_ : Shape := ⟨0, ![]⟩
abbrev S16x2048 : Shape := ⟨2, ![16, 2048]⟩
abbrev S1x2048x3072 : Shape := ⟨3, ![1, 2048, 3072]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S2x2048x3072, .f32⟩
  | .hbm, ⟨2, _⟩ => ⟨S_, .f32⟩
  | .hbm, ⟨3, _⟩ => ⟨S16x2048, .f32⟩
  | .hbm, ⟨4, _⟩ => ⟨S1x2048x3072, .f32⟩
  | .hbm, ⟨5, _⟩ => ⟨S2048x3072, .f32⟩
  | .hbm, ⟨6, _⟩ => ⟨S16x3072, .f32⟩
  | .hbm, ⟨7, _⟩ => ⟨S16x2048, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SmallSums.lean ====
abbrev S8x80x1024 : Shape := ⟨3, ![8, 80, 1024]⟩
abbrev S80x1024 : Shape := ⟨2, ![80, 1024]⟩
abbrev S8x16x1024 : Shape := ⟨3, ![8, 16, 1024]⟩
abbrev S16x1024 : Shape := ⟨2, ![16, 1024]⟩
abbrev S1x16x1024 : Shape := ⟨3, ![1, 16, 1024]⟩
abbrev S81920 : Shape := ⟨1, ![81920]⟩
abbrev S12288 : Shape := ⟨1, ![12288]⟩
abbrev S1x12288 : Shape := ⟨2, ![1, 12288]⟩
abbrev S16384 : Shape := ⟨1, ![16384]⟩
abbrev S2x4x2048 : Shape := ⟨3, ![2, 4, 2048]⟩
abbrev S128 : Shape := ⟨1, ![128]⟩
abbrev S1x128 : Shape := ⟨2, ![1, 128]⟩
abbrev S4096 : Shape := ⟨1, ![4096]⟩
abbrev S4x1024 : Shape := ⟨2, ![4, 1024]⟩
abbrev S1024 : Shape := ⟨1, ![1024]⟩
abbrev S1x1024 : Shape := ⟨2, ![1, 1024]⟩
abbrev S2048 : Shape := ⟨1, ![2048]⟩
abbrev S2x1024 : Shape := ⟨2, ![2, 1024]⟩
abbrev S1x4096 : Shape := ⟨2, ![1, 4096]⟩
abbrev S1x2048 : Shape := ⟨2, ![1, 2048]⟩
abbrev S16x128 : Shape := ⟨2, ![16, 128]⟩
abbrev S1 : Shape := ⟨1, ![1]⟩
abbrev S1x1 : Shape := ⟨2, ![1, 1]⟩
abbrev S_ : Shape := ⟨0, ![]⟩
abbrev S2x12288 : Shape := ⟨2, ![2, 12288]⟩
abbrev S1x4x1024 : Shape := ⟨3, ![1, 4, 1024]⟩
abbrev S1x2x1024 : Shape := ⟨3, ![1, 2, 1024]⟩
abbrev S1x16x128 : Shape := ⟨3, ![1, 16, 128]⟩

abbrev nBuf : Space → Nat
  | .hbm => 48
  | .vmem => 4
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .hbm, ⟨2, _⟩ => ⟨S81920, .f32⟩
  | .hbm, ⟨3, _⟩ => ⟨S12288, .f32⟩
  | .hbm, ⟨4, _⟩ => ⟨S1x12288, .f32⟩
  | .hbm, ⟨5, _⟩ => ⟨S12288, .f32⟩
  | .hbm, ⟨6, _⟩ => ⟨S1x12288, .f32⟩
  | .hbm, ⟨7, _⟩ => ⟨S12288, .f32⟩
  | .hbm, ⟨8, _⟩ => ⟨S1x12288, .f32⟩
  | .hbm, ⟨9, _⟩ => ⟨S16384, .f32⟩
  | .hbm, ⟨10, _⟩ => ⟨S2x4x2048, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S4096, .f32⟩
  | .hbm, ⟨16, _⟩ => ⟨S4x1024, .f32⟩
  | .hbm, ⟨17, _⟩ => ⟨S1024, .f32⟩
  | .hbm, ⟨18, _⟩ => ⟨S1x1024, .f32⟩
  | .hbm, ⟨19, _⟩ => ⟨S2048, .f32⟩
  | .hbm, ⟨20, _⟩ => ⟨S2x1024, .f32⟩
  | .hbm, ⟨21, _⟩ => ⟨S2048, .f32⟩
  | .hbm, ⟨22, _⟩ => ⟨S2x1024, .f32⟩
  | .hbm, ⟨23, _⟩ => ⟨S2048, .f32⟩
  | .hbm, ⟨24, _⟩ => ⟨S2x1024, .f32⟩
  | .hbm, ⟨25, _⟩ => ⟨S4096, .f32⟩
  | .hbm, ⟨26, _⟩ => ⟨S1x4096, .f32⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S16x128, .f32⟩
  | .hbm, ⟨33, _⟩ => ⟨S1, .f32⟩
  | .hbm, ⟨34, _⟩ => ⟨S1x1, .f32⟩
  | .hbm, ⟨35, _⟩ => ⟨S_, .f32⟩
  | .hbm, ⟨36, _⟩ => ⟨S12288, .f32⟩
  | .hbm, ⟨37, _⟩ => ⟨S12288, .f32⟩
  | .hbm, ⟨38, _⟩ => ⟨S12288, .f32⟩
  | .hbm, ⟨39, _⟩ => ⟨S12288, .f32⟩
  | .hbm, ⟨40, _⟩ => ⟨S1x12288, .f32⟩
  | .hbm, ⟨41, _⟩ => ⟨S1x12288, .f32⟩
  | .hbm, ⟨42, _⟩ => ⟨S2x12288, .f32⟩
  | .hbm, ⟨43, _⟩ => ⟨S1x4x1024, .f32⟩
  | .hbm, ⟨44, _⟩ => ⟨S1x2x1024, .f32⟩
  | .hbm, ⟨45, _⟩ => ⟨S1x2x1024, .f32⟩
  | .hbm, ⟨46, _⟩ => ⟨S1x2x1024, .f32⟩
  | .hbm, ⟨47, _⟩ => ⟨S1x16x128, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SmallSumsRefIdeal.lean ====
abbrev S8x80x1024 : Shape := ⟨3, ![8, 80, 1024]⟩
abbrev S_ : Shape := ⟨0, ![]⟩
abbrev S80x1024 : Shape := ⟨2, ![80, 1024]⟩
abbrev S81920 : Shape := ⟨1, ![81920]⟩
abbrev S12288 : Shape := ⟨1, ![12288]⟩
abbrev S1x12288 : Shape := ⟨2, ![1, 12288]⟩
abbrev S1 : Shape := ⟨1, ![1]⟩
abbrev S1x1 : Shape := ⟨2, ![1, 1]⟩
abbrev S2x12288 : Shape := ⟨2, ![2, 12288]⟩
abbrev S16384 : Shape := ⟨1, ![16384]⟩
abbrev S2x4x2048 : Shape := ⟨3, ![2, 4, 2048]⟩
abbrev S128 : Shape := ⟨1, ![128]⟩
abbrev S1x128 : Shape := ⟨2, ![1, 128]⟩
abbrev S4096 : Shape := ⟨1, ![4096]⟩
abbrev S4x1024 : Shape := ⟨2, ![4, 1024]⟩
abbrev S1x4x1024 : Shape := ⟨3, ![1, 4, 1024]⟩
abbrev S1024 : Shape := ⟨1, ![1024]⟩
abbrev S1x1024 : Shape := ⟨2, ![1, 1024]⟩
abbrev S2048 : Shape := ⟨1, ![2048]⟩
abbrev S2x1024 : Shape := ⟨2, ![2, 1024]⟩
abbrev S1x2x1024 : Shape := ⟨3, ![1, 2, 1024]⟩
abbrev S1x4096 : Shape := ⟨2, ![1, 4096]⟩
abbrev S1x2048 : Shape := ⟨2, ![1, 2048]⟩
abbrev S16x128 : Shape := ⟨2, ![16, 128]⟩
abbrev S1x16x128 : Shape := ⟨3, ![1, 16, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | .hbm, ⟨3, _⟩ => ⟨S81920, .f32⟩
  | .hbm, ⟨4, _⟩ => ⟨S12288, .f32⟩
  | .hbm, ⟨5, _⟩ => ⟨S1x12288, .f32⟩
  | .hbm, ⟨6, _⟩ => ⟨S12288, .f32⟩
  | .hbm, ⟨7, _⟩ => ⟨S1x12288, .f32⟩
  | .hbm, ⟨8, _⟩ => ⟨S12288, .f32⟩
  | .hbm, ⟨9, _⟩ => ⟨S1x12288, .f32⟩
  | .hbm, ⟨10, _⟩ => ⟨S1, .f32⟩
  | .hbm, ⟨11, _⟩ => ⟨S1x1, .f32⟩
  | .hbm, ⟨12, _⟩ => ⟨S_, .f32⟩
  | .hbm, ⟨13, _⟩ => ⟨S12288, .f32⟩
  | .hbm, ⟨14, _⟩ => ⟨S12288, .f32⟩
  | .hbm, ⟨15, _⟩ => ⟨S12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S2x12288, .f32⟩
  | .hbm, ⟨20, _⟩ => ⟨S16384, .f32⟩
  | .hbm, ⟨21, _⟩ => ⟨S2x4x2048, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S4096, .f32⟩
  | .hbm, ⟨27, _⟩ => ⟨S4x1024, .f32⟩
  | .hbm, ⟨28, _⟩ => ⟨S1x4x1024, .f32⟩
  | .hbm, ⟨29, _⟩ => ⟨S1024, .f32⟩
  | .hbm, ⟨30, _⟩ => ⟨S1x1024, .f32⟩
  | .hbm, ⟨31, _⟩ => ⟨S2048, .f32⟩
  | .hbm, ⟨32, _⟩ => ⟨S2x1024, .f32⟩
  | .hbm, ⟨33, _⟩ => ⟨S1x2x1024, .f32⟩
  | .hbm, ⟨34, _⟩ => ⟨S2048, .f32⟩
  | .hbm, ⟨35, _⟩ => ⟨S2x1024, .f32⟩
  | .hbm, ⟨36, _⟩ => ⟨S1x2x1024, .f32⟩
  | .hbm, ⟨37, _⟩ => ⟨S2048, .f32⟩
  | .hbm, ⟨38, _⟩ => ⟨S2x1024, .f32⟩
  | .hbm, ⟨39, _⟩ => ⟨S1x2x1024, .f32⟩
  | .hbm, ⟨40, _⟩ => ⟨S4096, .f32⟩
  | .hbm, ⟨41, _⟩ => ⟨S1x4096, .f32⟩
  | .hbm, ⟨42, _⟩ => ⟨S2048, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S2048, .f32⟩
  | .hbm, ⟨47, _⟩ => ⟨S16x128, .f32⟩
  | .hbm, ⟨48, _⟩ => ⟨S1x16x128, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩

abbrev nD : Nat := 1
abbrev τ : Topo := Topo.v7x

variable {F : FTy → Type} [FloatOps F]
-- ==== GateSums.lean ====
abbrev S8x768x1024 : Shape := ⟨3, ![8, 768, 1024]⟩
abbrev S768x1024 : Shape := ⟨2, ![768, 1024]⟩
abbrev S8x64x1024 : Shape := ⟨3, ![8, 64, 1024]⟩
abbrev S64x1024 : Shape := ⟨2, ![64, 1024]⟩
abbrev S1x64x1024 : Shape := ⟨3, ![1, 64, 1024]⟩
abbrev S786432 : Shape := ⟨1, ![786432]⟩
abbrev S262144 : Shape := ⟨1, ![262144]⟩
abbrev S2x8x128x128 : Shape := ⟨4, ![2, 8, 128, 128]⟩
abbrev S16x128x128 : Shape := ⟨3, ![16, 128, 128]⟩
abbrev S1x2x8x128x128 : Shape := ⟨5, ![1, 2, 8, 128, 128]⟩
abbrev S1x16x128x128 : Shape := ⟨4, ![1, 16, 128, 128]⟩

abbrev nBuf : Space → Nat
  | .hbm => 12
  | .vmem => 4
  | .smem => 0
  | _ => 0

abbrev bufTy : (tb : Table) → Fin (tcTables nBuf tb) → BufTy
  | .hbm, ⟨0, _⟩ => ⟨S8x768x1024, .bf16⟩
  | .hbm, ⟨1, _⟩ => ⟨S768x1024, .f32⟩
  | .hbm, ⟨2, _⟩ => ⟨S786432, .f32⟩
  | .hbm, ⟨3, _⟩ => ⟨S262144, .f32⟩
  | .hbm, ⟨4, _⟩ => ⟨S2x8x128x128, .f32⟩
  | .hbm, ⟨5, _⟩ => ⟨S262144, .f32⟩
  | .hbm, ⟨6, _⟩ => ⟨S2x8x128x128, .f32⟩
  | .hbm, ⟨7, _⟩ => ⟨S262144, .f32⟩
  | .hbm, ⟨8, _⟩ => ⟨S16x128x128, .f32⟩
  | .hbm, ⟨9, _⟩ => ⟨S1x2x8x128x128, .f32⟩
  | .hbm, ⟨10, _⟩ => ⟨S1x2x8x128x128, .f32⟩
  | .hbm, ⟨11, _⟩ => ⟨S1x16x128x128, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GateSumsRefIdeal.lean ====
abbrev S8x768x1024 : Shape := ⟨3, ![8, 768, 1024]⟩
abbrev S_ : Shape := ⟨0, ![]⟩
abbrev S768x1024 : Shape := ⟨2, ![768, 1024]⟩
abbrev S786432 : Shape := ⟨1, ![786432]⟩
abbrev S262144 : Shape := ⟨1, ![262144]⟩
abbrev S2x8x128x128 : Shape := ⟨4, ![2, 8, 128, 128]⟩
abbrev S1x2x8x128x128 : Shape := ⟨5, ![1, 2, 8, 128, 128]⟩
abbrev S16x128x128 : Shape := ⟨3, ![16, 128, 128]⟩
abbrev S1x16x128x128 : Shape := ⟨4, ![1, 16, 128, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x768x1024, .bf16⟩
  | .hbm, ⟨1, _⟩ => ⟨S8x768x1024, .f32⟩
  | .hbm, ⟨2, _⟩ => ⟨S_, .f32⟩
  | .hbm, ⟨3, _⟩ => ⟨S768x1024, .f32⟩
  | .hbm, ⟨4, _⟩ => ⟨S786432, .f32⟩
  | .hbm, ⟨5, _⟩ => ⟨S262144, .f32⟩
  | .hbm, ⟨6, _⟩ => ⟨S2x8x128x128, .f32⟩
  | .hbm, ⟨7, _⟩ => ⟨S1x2x8x128x128, .f32⟩
  | .hbm, ⟨8, _⟩ => ⟨S262144, .f32⟩
  | .hbm, ⟨9, _⟩ => ⟨S2x8x128x128, .f32⟩
  | .hbm, ⟨10, _⟩ => ⟨S1x2x8x128x128, .f32⟩
  | .hbm, ⟨11, _⟩ => ⟨S262144, .f32⟩
  | .hbm, ⟨12, _⟩ => ⟨S16x128x128, .f32⟩
  | .hbm, ⟨13, _⟩ => ⟨S1x16x128x128, .f32⟩
  | _, _ => ⟨S8x768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== ResMod.lean ====
abbrev S4096x2048 : Shape := ⟨2, ![4096, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResModRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== NormFwd.lean ====
abbrev S4096x2048 : Shape := ⟨2, ![4096, 2048]⟩
abbrev S256x2048 : Shape := ⟨2, ![256, 2048]⟩
abbrev S1x2048 : Shape := ⟨2, ![1, 2048]⟩
abbrev S_ : Shape := ⟨0, ![]⟩
abbrev S4352x2048 : Shape := ⟨2, ![4352, 2048]⟩
abbrev S512x2048 : Shape := ⟨2, ![512, 2048]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4352x2048, .bf16⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S4352x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]
-- ==== NormFwdRefIdeal.lean ====
abbrev S4096x2048 : Shape := ⟨2, ![4096, 2048]⟩
abbrev S256x2048 : Shape := ⟨2, ![256, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x2048 : Shape := ⟨2, ![4352, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S256x2048, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S4352x2048, .f32⟩
  | .hbm, ⟨52, _⟩ => ⟨S4352x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== ModRows.lean ====
abbrev S8x2048 : Shape := ⟨2, ![8, 2048]⟩
abbrev S2048 : Shape := ⟨1, ![2048]⟩
abbrev S8x8x2048 : Shape := ⟨3, ![8, 8, 2048]⟩
abbrev S1x2048 : Shape := ⟨2, ![1, 2048]⟩
abbrev S16x2048 : Shape := ⟨2, ![16, 2048]⟩
abbrev S1x1x2048 : Shape := ⟨3, ![1, 1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x8x2048, .f32⟩
  | .hbm, ⟨3, _⟩ => ⟨S1x2048, .f32⟩
  | .hbm, ⟨4, _⟩ => ⟨S16x2048, .f32⟩
  | .hbm, ⟨5, _⟩ => ⟨S1x2048, .f32⟩
  | .hbm, ⟨6, _⟩ => ⟨S1x2048, .f32⟩
  | .local _ .vmem, ⟨0, _⟩ => ⟨S8x2048, .f32⟩
  | .local _ .vmem, ⟨1, _⟩ => ⟨S1x2048, .f32⟩
  | .local _ .vmem, ⟨2, _⟩ => ⟨S16x2048, .f32⟩
  | .local _ .vmem, ⟨3, _⟩ => ⟨S1x2048, .f32⟩
  | .local _ .vmem, ⟨4, _⟩ => ⟨S8x8x2048, .f32⟩
  | .local _ .vmem, ⟨5, _⟩ => ⟨S1x2048, .f32⟩
  | .local _ .vmem, ⟨6, _⟩ => ⟨S1x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ModRowsRefIdeal.lean ====
abbrev S8x2048 : Shape := ⟨2, ![8, 2048]⟩
abbrev S2048 : Shape := ⟨1, ![2048]⟩
abbrev S8x8x2048 : Shape := ⟨3, ![8, 8, 2048]⟩
abbrev S_ : Shape := ⟨0, ![]⟩
abbrev S1x2048 : Shape := ⟨2, ![1, 2048]⟩
abbrev S7x2048 : Shape := ⟨2, ![7, 2048]⟩
abbrev S16x2048 : Shape := ⟨2, ![16, 2048]⟩
abbrev S4x1x2048 : Shape := ⟨3, ![4, 1, 2048]⟩
abbrev S4x2048 : Shape := ⟨2, ![4, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x8x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S8x2048, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S1x2048, .f32⟩
  | .hbm, ⟨26, _⟩ => ⟨S_, .f32⟩
  | .hbm, ⟨27, _⟩ => ⟨S7x2048, .f32⟩
  | .hbm, ⟨28, _⟩ => ⟨S16x2048, .f32⟩
  | .hbm, ⟨29, _⟩ => ⟨S4x1x2048, .f32⟩
  | .hbm, ⟨30, _⟩ => ⟨S4x2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S1x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v8 : Ref sig .tc := ⟨.hbm, 36, rfl⟩
abbrev main_v9 : Ref sig .tc := ⟨.hbm, 37, rfl⟩

abbrev nD : Nat := 1
abbrev τ : Topo := Topo.v7x

variable {F : FTy → Type} [FloatOps F]
-- ==== Proof.Lift.lean ====
/- Real numbers inside the extended reals: sums, maxima, and the attention of one head over the reals. -/
module

public import proofs.«01_k».proof.Proof.Gen.KernelIdeal.Skeleton
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws
public import Idealize.ShloMosaic.PureOps.IdealRules

@[expose] public section

set_option maxRecDepth 16384

noncomputable section

open Idealize.ShloMosaic Idealize.ShloMosaic.ValueIdx

namespace Cert.Attn

/-! ## Sums and maxima of reals -/

theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals is the real sum of products. -/
theorem sum_mul_real {n : ℕ} (x y : Fin n → EReal) (f g : Fin n → ℝ) (hx : ∀ i, x i = (f i : EReal)) (hy : ∀ i, y i = (g i : EReal)) :
    ∑ i, x i * y i = ((∑ i, f i * g i : ℝ) : EReal) := by
  rw [← sum_real]
  exact Finset.sum_congr rfl fun i _ => by rw [hx, hy, EReal.coe_mul]

/-- The maximum of finitely many reals, at least one, taken from minus infinity is a real. -/
theorem fold_max_real {ι : Type*} (f : ι → ℝ) (s : Finset ι) (hs : s.Nonempty) :
    ∃ M : ℝ, s.fold max (⊥ : EReal) (fun i => (f i : EReal)) = (M : EReal) := by
  classical
  induction s using Finset.induction_on with
  | empty => exact absurd hs (by simp)
  | insert a s ha ih =>
    rw [Finset.fold_insert ha]
    rcases s.eq_empty_or_nonempty with rfl | h
    · exact ⟨f a, by simp⟩
    · obtain ⟨M, hM⟩ := ih h
      exact ⟨max (f a) M, by rw [hM]; exact (EReal.coe_strictMono.monotone.map_max).symm⟩

theorem ofBits_neg_inf : Ideal.ofBits .f32 0xFF800000#32 = (⊥ : EReal) := by
  simp [Ideal.ofBits, Ideal.ieee]

theorem ofBits_pos_inf : Ideal.ofBits .f32 0x7F800000#32 = (⊤ : EReal) := by
  simp [Ideal.ofBits, Ideal.ieee]

theorem ofBits_zero : Ideal.ofBits .f32 0x00000000#32 = (0 : EReal) := by
  simp [Ideal.ofBits, Ideal.ieee]

theorem ofBits_one : Ideal.ofBits .f32 0x3F800000#32 = (1 : EReal) := by
  simp [Ideal.ofBits, Ideal.ieee, -EReal.coe_mul]; norm_num

/-- The factor of the scores: the f32 word nearest to 1 / √128. -/
def cS : ℝ := 11863283 / 134217728

theorem ofBits_scale : Ideal.ofBits .f32 0x3DB504F3#32 = (cS : EReal) := by
  simp [Ideal.ofBits, Ideal.ieee, -EReal.coe_mul, cS]; norm_num

/-! ## One head over the reals: rows of `Q` against rows of `K` -/

section Head
variable (Q K V G : ℕ → ℕ → ℝ)

/-- The scaled score of row `i` against row `j`. -/
def sc (i j : ℕ) : ℝ := (∑ d : Fin 128, Q i d * K j d) * cS
/-- The sum of the exponentials of a row's scores. -/
def Zs (i : ℕ) : ℝ := ∑ j : Fin 4352, Real.exp (sc Q K i j)
/-- The softmax weight of row `i` at `j`. -/
def pr (i j : ℕ) : ℝ := Real.exp (sc Q K i j) / Zs Q K i
/-- The head's output. -/
def ot (i d : ℕ) : ℝ := ∑ j : Fin 4352, pr Q K i j * V j d
/-- The gradient of the weights. -/
def dp (i j : ℕ) : ℝ := ∑ d : Fin 128, G i d * V j d
/-- The row sum of the output's gradient times the output. -/
def dl (i : ℕ) : ℝ := ∑ d : Fin 128, G i d * ot Q K V i d
/-- The gradient of the scores before scaling, times the factor. -/
def dsc (i j : ℕ) : ℝ := pr Q K i j * (dp V G i j - dl Q K V G i) * cS

theorem Zs_pos (i : ℕ) : 0 < Zs Q K i :=
  Finset.sum_pos (fun _ _ => Real.exp_pos _) ⟨0, Finset.mem_univ _⟩

theorem rpow2 (x : ℝ) : Real.rpow 2 (x * (Real.log 2)⁻¹) = Real.exp x := by
  have h : Real.log 2 ≠ 0 := (Real.log_pos (by norm_num)).ne'
  show (2 : ℝ) ^ (x * (Real.log 2)⁻¹) = _
  rw [Real.rpow_def_of_pos (by norm_num)]
  congr 1
  field_simp

/-- Powers of two of the scores over ln 2, less any real, summed. -/
theorem sum_shift (i : ℕ) (M : ℝ) :
    ∑ j : Fin 4352, Real.rpow 2 (sc Q K i j * (Real.log 2)⁻¹ - M) = Zs Q K i / Real.rpow 2 M := by
  rw [Zs, Finset.sum_div]
  refine Finset.sum_congr rfl fun j _ => ?_
  rw [← rpow2]
  exact Real.rpow_sub (by norm_num) _ _

theorem rpow_pos2 (M : ℝ) : 0 < Real.rpow 2 M := Real.rpow_pos_of_pos (by norm_num) _

/-- The base two logarithm of the row's sum, whatever was subtracted first. -/
theorem lse_shift (i : ℕ) (M : ℝ) :
    M + Real.log (Zs Q K i / Real.rpow 2 M) * (Real.log 2)⁻¹ = Real.log (Zs Q K i) * (Real.log 2)⁻¹ := by
  have h : Real.log 2 ≠ 0 := (Real.log_pos (by norm_num)).ne'
  rw [Real.log_div (Zs_pos Q K i).ne' (rpow_pos2 M).ne', show Real.log (Real.rpow 2 M) = M * Real.log 2 from Real.log_rpow (by norm_num) M]
  field_simp
  ring

/-- The weight from the saved logarithm. -/
theorem pr_of_lse (i j : ℕ) :
    Real.rpow 2 (sc Q K i j * (Real.log 2)⁻¹ - Real.log (Zs Q K i) * (Real.log 2)⁻¹) = pr Q K i j := by
  have h := Real.rpow_sub (show (0 : ℝ) < 2 by norm_num) (sc Q K i j * (Real.log 2)⁻¹) (Real.log (Zs Q K i) * (Real.log 2)⁻¹)
  refine h.trans ?_
  show Real.rpow 2 _ / Real.rpow 2 _ = _
  rw [rpow2, rpow2, Real.exp_log (Zs_pos Q K i)]
  rfl

/-- The output from the shifted powers. -/
theorem ot_shift (i d : ℕ) (M : ℝ) :
    (∑ j : Fin 4352, Real.rpow 2 (sc Q K i j * (Real.log 2)⁻¹ - M) * V j d) * (1 / (Zs Q K i / Real.rpow 2 M)) = ot Q K V i d := by
  rw [ot, Finset.sum_mul]
  refine Finset.sum_congr rfl fun j _ => ?_
  have h := Real.rpow_sub (show (0 : ℝ) < 2 by norm_num) (sc Q K i j * (Real.log 2)⁻¹) M
  rw [show Real.rpow 2 (sc Q K i j * (Real.log 2)⁻¹ - M) = Real.rpow 2 (sc Q K i j * (Real.log 2)⁻¹) / Real.rpow 2 M from h, rpow2, pr]
  have h1 := (Zs_pos Q K i).ne'
  have h2 := (rpow_pos2 M).ne'
  field_simp

/-- The row sum is the weights' mean of their gradient. -/
theorem dl_eq (i : ℕ) : dl Q K V G i = ∑ j : Fin 4352, pr Q K i j * dp V G i j := by
  simp only [dl, ot, dp, Finset.mul_sum]
  rw [Finset.sum_comm]
  exact Finset.sum_congr rfl fun j _ => Finset.sum_congr rfl fun d _ => by ring

end Head

end Cert.Attn

end
-- ==== Proof.Pre.lean ====
/- The precondition read: its side conditions, and the arguments it admits as arrays of reals. -/
module

public import proofs.«01_k».proof.Defs
public import proofs.«01_k».proof.Proof.Gen.KernelIdeal
public import Idealize.ShloMosaic.Lib.ReduceAll
public import Idealize.ShloMosaic.Lib.ValueIdxCore
public import proofs.«01_k».proof.Proof.Lift

@[expose] public section

set_option maxRecDepth 16384

noncomputable section

open Idealize.ShloMosaic Idealize.ShloMosaic.ValueIdx

namespace Cert.Attn

/-- The predicate's side conditions. -/
theorem preFacts : Cert.Pre_finite.Facts where
  bitsLt_bf16_f32 := by decide
  bcast_S_S4096x1024 := by decide
  reducesTo_S4096x1024_S_d0_1 := by decide
  h_S_ := by decide
  bcast_S_S4352x256 := by decide
  reducesTo_S4352x256_S_d0_1 := by decide
  bcast_S_S4096x2048 := by decide
  reducesTo_S4096x2048_S_d0_1 := by decide

/-- An extended real whose absolute value lies below the infinity is a real. -/
theorem real_of_olt (x : EReal) (h : Ideal.cmp .olt (max x (-x)) (Ideal.ofBits .f32 0x7F800000#32) = 1#1) : x ≠ ⊤ ∧ x ≠ ⊥ := by
  constructor
  · rintro rfl
    rw [ofBits_pos_inf] at h
    simp [Ideal.cmp] at h
  · rintro rfl
    rw [ofBits_pos_inf] at h
    simp [Ideal.cmp] at h

/-- A two-axis array of reals as a function of its coordinates. -/
theorem exists_real {a b : ℕ} (x : (⟨2, ![a, b]⟩ : Shape).Idx → EReal) (h : ∀ i, x i ≠ ⊤ ∧ x i ≠ ⊥) :
    ∃ q : ℕ → ℕ → ℝ, ∀ i, x i = ((q (i 0) (i 1) : ℝ) : EReal) := by
  refine ⟨fun r c => if hr : r < a ∧ c < b then (x (ix2 ⟨r, hr.1⟩ ⟨c, hr.2⟩)).toReal else 0, fun i => ?_⟩
  have hb : (i 0).val < a ∧ (i 1).val < b := ⟨(i 0).isLt, (i 1).isLt⟩
  show x i = (((if hr : (i 0).val < a ∧ (i 1).val < b then (x (ix2 ⟨(i 0).val, hr.1⟩ ⟨(i 1).val, hr.2⟩)).toReal else 0 : ℝ)) : EReal)
  rw [dif_pos hb]
  have e : x (ix2 ⟨(i 0).val, hb.1⟩ ⟨(i 1).val, hb.2⟩) = x i := congrArg x (eq_ix2 (n0 := a) (n1 := b) i).symm
  rw [e]
  exact (EReal.coe_toReal (h i).1 (h i).2).symm

instance : Subsingleton Cert.Pre_finite.S_.Idx := ⟨fun _ _ => funext fun a => a.elim0⟩

/-- Arguments the predicate admits are arrays of reals. -/
theorem pre_real [Cert.Pre_finite.Facts] (x0 : FVec Ideal Cert.Pre_finite.S4096x1024 .bf16) (x1 x2 : FVec Ideal Cert.Pre_finite.S4352x256 .bf16)
    (x3 : FVec Ideal Cert.Pre_finite.S4096x2048 .f32) (h : Cert.Pre_finite.fn (F := Ideal) x0 x1 x2 x3 = fun _ => 1#1) :
    (∃ q : ℕ → ℕ → ℝ, ∀ i, x0 i = ((q (i 0) (i 1) : ℝ) : EReal)) ∧ (∃ q : ℕ → ℕ → ℝ, ∀ i, x1 i = ((q (i 0) (i 1) : ℝ) : EReal))
    ∧ (∃ q : ℕ → ℕ → ℝ, ∀ i, x2 i = ((q (i 0) (i 1) : ℝ) : EReal)) ∧ (∃ q : ℕ → ℕ → ℝ, ∀ i, x3 i = ((q (i 0) (i 1) : ℝ) : EReal)) := by
  have h0 := congrFun h (fun a => a.elim0)
  obtain ⟨h012, h3⟩ := IntOp.andi_eq_one.1 h0
  obtain ⟨h01, h2⟩ := IntOp.andi_eq_one.1 h012
  obtain ⟨h0, h1⟩ := IntOp.andi_eq_one.1 h01
  exact ⟨exists_real x0 fun i => real_of_olt _ (Host.reduce_andi_all _ _ _ _ _ h0 i),
    exists_real x1 fun i => real_of_olt _ (Host.reduce_andi_all _ _ _ _ _ h1 i),
    exists_real x2 fun i => real_of_olt _ (Host.reduce_andi_all _ _ _ _ _ h2 i),
    exists_real x3 fun i => real_of_olt _ (Host.reduce_andi_all _ _ _ _ _ h3 i)⟩

end Cert.Attn

end
-- ==== Proof.FwdHead.lean ====
/- The forward call's payloads of one head, read at real arguments. -/
module

public import proofs.«01_k».proof.Proof.Lift

@[expose] public section

set_option maxRecDepth 16384

noncomputable section

open Idealize.ShloMosaic Idealize.ShloMosaic.ValueIdx

namespace Cert.Attn

open Cert.KernelIdeal Cert.KernelIdeal.Gen Cert.KernelIdeal.Facts

/-! ## The contractions and row operations at an index -/

theorem mm_nt (x : FVec Ideal S512x128 .bf16) (y : FVec Ideal S4352x128 .bf16) (i : Fin 512) (j : Fin 4352) :
    matmul dot_S512x128_S4352x128_S512x4352_1_1_0_0_n_n none x y (constant S512x4352 .f32 0x00000000#32) (ix2 i j)
      = ∑ d : Fin 128, x (ix2 i d) * y (ix2 j d) := by
  have h := Ideal.matmul_transposedRhs_apply (M := 512) (K := 128) (N := 4352) none x y (constant S512x4352 .f32 0x00000000#32) i j
  refine h.trans ?_
  show Ideal.ofBits .f32 0x00000000#32 + _ = _
  rw [ofBits_zero, zero_add]

theorem mm_nn (x : FVec Ideal S512x4352 .bf16) (y : FVec Ideal S4352x128 .bf16) (i : Fin 512) (d : Fin 128) :
    matmul dot_S512x4352_S4352x128_S512x128_1_0_0_1_n_n none x y (constant S512x128 .f32 0x00000000#32) (ix2 i d)
      = ∑ j : Fin 4352, x (ix2 i j) * y (ix2 j d) := by
  have h := Ideal.matmul_plain_apply (M := 512) (K := 4352) (N := 128) none x y (constant S512x128 .f32 0x00000000#32) i d
  refine h.trans ?_
  show Ideal.ofBits .f32 0x00000000#32 + _ = _
  rw [ofBits_zero, zero_add]

/-- A column vector spread along the rows. -/
theorem bcast_col {n : ℕ} (hn : n ≠ 1) (x : FVec Ideal S512x1 .f32) (h : S512x1.Broadcasts ⟨2, ![512, n]⟩) (i : Fin 512) (j : Fin n) :
    broadcastTo ⟨2, ![512, n]⟩ x h (ix2 i j) = x (ix2 i 0) :=
  broadcastTo_apply x h _ _ (fun a => by
    match a with
    | ⟨0, _⟩ => rfl
    | ⟨1, _⟩ => rfl)

theorem red_add (x : FVec Ideal S512x4352 .f32) (hφ hacc) (i : Fin 512) :
    multiReduction .add [1] S512 x 0x00000000#32 reduces_S512x4352_S512 hφ hacc (ix1 i) = ∑ j : Fin 4352, x (ix2 i j) := by
  rw [Ideal.multiReduction_add_single]
  refine Finset.sum_congr rfl fun j _ => congrArg x ?_
  funext a
  match a with
  | ⟨0, _⟩ => rfl
  | ⟨1, _⟩ => rfl

theorem red_max (x : FVec Ideal S512x4352 .f32) (hφ hacc) (i : Fin 512) (f : Fin 4352 → ℝ) (hf : ∀ j, x (ix2 i j) = (f j : EReal)) :
    ∃ M : ℝ, multiReduction .maximumf [1] S512 x 0xFF800000#32 reduces_S512x4352_S512 hφ hacc (ix1 i) = (M : EReal) := by
  obtain ⟨M, hM⟩ := fold_max_real f Finset.univ ⟨0, Finset.mem_univ _⟩
  refine ⟨M, ?_⟩
  have e : (x ∘ reduces_S512x4352_S512.lift (ix1 i) : Fin 4352 → EReal) = fun j => ((f j : ℝ) : EReal) := by
    funext j
    rw [← hf]
    refine congrArg x ?_
    funext a
    match a with
    | ⟨0, _⟩ => rfl
    | ⟨1, _⟩ => rfl
  refine (Ideal.multiReduction_maximumf_single x _ reduces_S512x4352_S512 hφ hacc (ix1 i)).trans ?_
  rw [← hM, ← e, ← ofBits_neg_inf]
  rfl

theorem red_add128 (x : FVec Ideal S512x128 .f32) (h : S512x128.Reduces [1] S512) (hφ hacc) (i : Fin 512) :
    multiReduction .add [1] S512 x 0x00000000#32 h hφ hacc (ix1 i) = ∑ j : Fin 128, x (ix2 i j) := by
  rw [Ideal.multiReduction_add_single]
  refine Finset.sum_congr rfl fun j _ => congrArg x ?_
  funext a
  match a with
  | ⟨0, _⟩ => rfl
  | ⟨1, _⟩ => rfl

theorem cast_col (x : FVec Ideal S512 .f32) (i : Fin 512) :
    shapeCast S512x1 x shapeCasts_S512_S512x1 (ix2 i 0) = x (ix1 i) :=
  shapeCast_a_a1_apply x _ i 0

theorem named_scale_log2e : (Named.named (F := Ideal) κ "scale_log2e" 0x3E0293EE#32 : Ideal .f32) = ((cS * (Real.log 2)⁻¹ : ℝ) : EReal) :=
  IdealRules.named_const.ideal_named_scalar _ _ _ _ rfl

theorem named_log2e : (Named.named (F := Ideal) κ "log2e" 0x3FB8AA3B#32 : Ideal .f32) = (((Real.log 2)⁻¹ : ℝ) : EReal) :=
  IdealRules.named_const.ideal_named_scalar _ _ _ _ rfl

/-- The saved logarithm's operations at an index. -/
theorem lse_apply (a b : FVec Ideal S512x1 .f32) (w : Ideal .f32) (i : Fin 512) :
    shapeCast S1x512x1 (addf a (mulf (log b) (broadcast S512x1 w))) shapeCasts_S512x1_S1x512x1 (ix3 0 i 0)
      = a (ix2 i 0) + Ideal.log (b (ix2 i 0)) * w :=
  (shapeCast_ab_1ab_apply (a := 512) (b := 1) (addf a (mulf (log b) (broadcast S512x1 w))) shapeCasts_S512x1_S1x512x1 0 i 0).trans rfl

/-! ## The forward head -/

section
variable {qb : Vec Ideal S512x128 .bf16} {kb vb : Vec Ideal S4352x128 .bf16} {Q K V : ℕ → ℕ → ℝ}
  (hq : ∀ (i : Fin 512) (d : Fin 128), qb (ix2 i d) = ((Q i d : ℝ) : EReal))
  (hk : ∀ (j : Fin 4352) (d : Fin 128), kb (ix2 j d) = ((K j d : ℝ) : EReal))
  (hv : ∀ (j : Fin 4352) (d : Fin 128), vb (ix2 j d) = ((V j d : ℝ) : EReal))
include hq hk

theorem fwd_score (i : Fin 512) (j : Fin 4352) :
    k0_pay8 (F := Ideal) kb qb (ix2 i j) = ((sc Q K i j * (Real.log 2)⁻¹ : ℝ) : EReal) := by
  show matmul dot_S512x128_S4352x128_S512x4352_1_1_0_0_n_n none qb kb (constant S512x4352 .f32 0x00000000#32) (ix2 i j)
    * (Named.named (F := Ideal) κ "scale_log2e" 0x3E0293EE#32 : Ideal .f32) = _
  rw [mm_nt, named_scale_log2e, sum_mul_real _ _ (fun d : Fin 128 => Q i d) (fun d : Fin 128 => K j d) (hq i) (hk j), ← EReal.coe_mul, sc, mul_assoc]

theorem fwd_max (i : Fin 512) : ∃ M : ℝ, k0_pay9 (F := Ideal) kb qb (ix2 i 0) = (M : EReal) := by
  obtain ⟨M, hM⟩ := red_max (k0_pay8 (F := Ideal) kb qb) (.inl rfl) rfl i _ (fwd_score hq hk i)
  refine ⟨M, ?_⟩
  unfold k0_pay9
  dsimp only
  rw [cast_col]
  exact hM

theorem fwd_pow (i : Fin 512) (M : ℝ) (hM : k0_pay9 (F := Ideal) kb qb (ix2 i 0) = (M : EReal)) (j : Fin 4352) :
    k0_pay10 (F := Ideal) kb qb (ix2 i j) = ((Real.rpow 2 (sc Q K i j * (Real.log 2)⁻¹ - M) : ℝ) : EReal) := by
  show Ideal.exp2 (k0_pay8 (F := Ideal) kb qb (ix2 i j) - broadcastTo S512x4352 (k0_pay9 (F := Ideal) kb qb) broadcasts_S512x1_S512x4352 (ix2 i j)) = _
  rw [bcast_col (by decide), hM, fwd_score hq hk, ← EReal.coe_sub, Ideal.exp2_coe]

theorem fwd_sum (i : Fin 512) (M : ℝ) (hM : k0_pay9 (F := Ideal) kb qb (ix2 i 0) = (M : EReal)) :
    k0_pay11 (F := Ideal) kb qb (ix2 i 0) = ((Zs Q K i / Real.rpow 2 M : ℝ) : EReal) := by
  unfold k0_pay11
  dsimp only
  rw [cast_col]
  refine (red_add _ _ _ i).trans ?_
  rw [← sum_shift Q K i M, ← sum_real]
  exact Finset.sum_congr rfl fun j _ => fwd_pow hq hk i M hM j

include hv in
theorem fwd_out (i : Fin 512) (d : Fin 128) :
    k0_pay12 (F := Ideal) kb vb qb (ix2 i d) = ((ot Q K V i d : ℝ) : EReal) := by
  obtain ⟨M, hM⟩ := fwd_max hq hk i
  show Ideal.div (matmul dot_S512x4352_S4352x128_S512x128_1_0_0_1_n_n none (truncf .bf16 (k0_pay10 (F := Ideal) kb qb) bitsLt_bf16_f32) (vb : FVec Ideal S4352x128 .bf16) (constant S512x128 .f32 0x00000000#32) (ix2 i d))
    (broadcastTo S512x128 (k0_pay11 (F := Ideal) kb qb) broadcasts_S512x1_S512x128 (ix2 i d)) = _
  rw [mm_nn, bcast_col (by decide), fwd_sum hq hk i M hM, sum_mul_real (fun j : Fin 4352 => truncf .bf16 (k0_pay10 (F := Ideal) kb qb) bitsLt_bf16_f32 (ix2 i j)) _ (fun j : Fin 4352 => Real.rpow 2 (sc Q K i j * (Real.log 2)⁻¹ - M)) (fun j : Fin 4352 => V j d) (fwd_pow hq hk i M hM) (fun j => hv j d),
    Ideal.div_coe (div_pos (Zs_pos Q K i) (rpow_pos2 M)).ne', ← EReal.coe_mul, ot_shift]

theorem fwd_lse (i : Fin 512) :
    k0_pay13 (F := Ideal) kb qb (ix3 0 i 0) = ((Real.log (Zs Q K i) * (Real.log 2)⁻¹ : ℝ) : EReal) := by
  obtain ⟨M, hM⟩ := fwd_max hq hk i
  unfold k0_pay13
  rw [lse_apply]
  rw [fwd_sum hq hk i M hM, hM, named_log2e, Ideal.log_coe, if_neg (not_le.mpr (div_pos (Zs_pos Q K i) (rpow_pos2 M))),
    ← EReal.coe_mul, ← EReal.coe_add, lse_shift]

end

/-! ## The other heads' payloads are the same terms -/

theorem fwd_out1 (kb vb : Vec Ideal S4352x128 .bf16) (qb : Vec Ideal S512x128 .bf16) :
    k0_pay19 (F := Ideal) vb (k0_pay16 kb qb) = k0_pay12 kb vb qb := rfl

theorem fwd_lse1 (kb : Vec Ideal S4352x128 .bf16) (qb : Vec Ideal S512x128 .bf16) :
    k0_pay20 (F := Ideal) (k0_pay15 kb qb) (k0_pay16 kb qb) = k0_pay13 kb qb := rfl

theorem fwd_out2 (kb vb : Vec Ideal S4352x128 .bf16) (qb : Vec Ideal S512x128 .bf16) :
    k0_pay25 (F := Ideal) kb vb qb = k0_pay12 kb vb qb := rfl

theorem fwd_lse2 (kb : Vec Ideal S4352x128 .bf16) (qb : Vec Ideal S512x128 .bf16) :
    k0_pay1 (F := Ideal) (k0_pay26 kb qb) = k0_pay13 kb qb := rfl

theorem fwd_out3 (kb vb : Vec Ideal S4352x128 .bf16) (qb : Vec Ideal S512x128 .bf16) :
    k0_pay6 (F := Ideal) kb vb qb = k0_pay12 kb vb qb := rfl

theorem fwd_lse3 (kb : Vec Ideal S4352x128 .bf16) (qb : Vec Ideal S512x128 .bf16) :
    k0_pay7 (F := Ideal) kb qb = k0_pay13 kb qb := rfl

end Cert.Attn

end
-- ==== Proof.BwdHead.lean ====
/- The backward call's payloads of one head, read at real arguments. -/
module

public import proofs.«01_k».proof.Proof.FwdHead

@[expose] public section

set_option maxRecDepth 16384

noncomputable section

open Idealize.ShloMosaic Idealize.ShloMosaic.ValueIdx

namespace Cert.Attn

open Cert.KernelIdeal Cert.KernelIdeal.Gen Cert.KernelIdeal.Facts

/-- The product that contracts the rows of both operands. -/
theorem mm_tn (x : FVec Ideal S512x4352 .bf16) (y : FVec Ideal S512x128 .bf16) (j : Fin 4352) (d : Fin 128) :
    matmul dot_S512x4352_S512x128_S4352x128_0_0_1_1_n_n none x y (constant S4352x128 .f32 0x00000000#32) (ix2 j d)
      = ∑ i : Fin 512, x (ix2 i j) * y (ix2 i d) := by
  show FloatOps.matmul dot_S512x4352_S512x128_S4352x128_0_0_1_1_n_n none x y (constant S4352x128 .f32 0x00000000#32) (ix2 j d) = _
  rw [Ideal.matmul_apply, ← Equiv.sum_comp (contrEquiv1 dot_S512x4352_S512x128_S4352x128_0_0_1_1_n_n 512 rfl rfl).symm]
  show Ideal.ofBits .f32 0x00000000#32 + _ = _
  rw [ofBits_zero, zero_add]
  refine Finset.sum_congr rfl fun i _ => ?_
  have hk := contrEquiv1_symm_val dot_S512x4352_S512x128_S4352x128_0_0_1_1_n_n 512 rfl rfl i
  have el : dot_S512x4352_S512x128_S4352x128_0_0_1_1_n_n.lhsIdx (ix2 j d) ((contrEquiv1 dot_S512x4352_S512x128_S4352x128_0_0_1_1_n_n 512 rfl rfl).symm i) = ix2 i j := by
    funext a; apply Fin.ext
    match a with
    | ⟨0, _⟩ => exact hk
    | ⟨1, _⟩ => rfl
  have er : dot_S512x4352_S512x128_S4352x128_0_0_1_1_n_n.rhsIdx (ix2 j d) ((contrEquiv1 dot_S512x4352_S512x128_S4352x128_0_0_1_1_n_n 512 rfl rfl).symm i) = ix2 i d := by
    funext a; apply Fin.ext
    match a with
    | ⟨0, _⟩ => exact hk
    | ⟨1, _⟩ => rfl
  rw [el, er]

theorem uncast_col (x : FVec Ideal S1x512x1 .f32) (i : Fin 512) :
    shapeCast S512x1 x shapeCasts_S1x512x1_S512x1 (ix2 i 0) = x (ix3 0 i 0) :=
  shapeCast_1ab_ab_apply (a := 512) (b := 1) x _ i 0

/-- The operations of the weights at an index. -/
theorem pow_apply (a : FVec Ideal S512x4352 .f32) (b : FVec Ideal S512x1 .f32) (w : Ideal .f32) (i : Fin 512) (j : Fin 4352) :
    exp2 (subf (mulf a (broadcast S512x4352 w)) (broadcastTo S512x4352 b broadcasts_S512x1_S512x4352)) (ix2 i j)
      = Ideal.exp2 (a (ix2 i j) * w - b (ix2 i 0)) :=
  (congrArg (fun z => Ideal.exp2 (a (ix2 i j) * w - z)) (bcast_col (by decide) b broadcasts_S512x1_S512x4352 i j) :)

/-- The operations of the scores' gradient at an index. -/
theorem dsc_apply (p a : FVec Ideal S512x4352 .f32) (b : FVec Ideal S512x1 .f32) (w : Ideal .f32) (h : FTy.bits .bf16 < FTy.bits .f32)
    (i : Fin 512) (j : Fin 4352) :
    truncf .bf16 (mulf (mulf p (subf a (broadcastTo S512x4352 b broadcasts_S512x1_S512x4352))) (broadcast S512x4352 w)) h (ix2 i j)
      = p (ix2 i j) * (a (ix2 i j) - b (ix2 i 0)) * w :=
  (congrArg (fun z => p (ix2 i j) * (a (ix2 i j) - z) * w) (bcast_col (by decide) b broadcasts_S512x1_S512x4352 i j) :)

section
variable {qb : Vec Ideal S512x128 .bf16} {kb vb : Vec Ideal S4352x128 .bf16} {gb : Vec Ideal S512x128 .f32} {lb : Vec Ideal S1x512x1 .f32}
  {ob : Vec Ideal S512x128 .bf16} {Q K V G : ℕ → ℕ → ℝ}
  (hq : ∀ (i : Fin 512) (d : Fin 128), qb (ix2 i d) = ((Q i d : ℝ) : EReal))
  (hk : ∀ (j : Fin 4352) (d : Fin 128), kb (ix2 j d) = ((K j d : ℝ) : EReal))
  (hv : ∀ (j : Fin 4352) (d : Fin 128), vb (ix2 j d) = ((V j d : ℝ) : EReal))
  (hg : ∀ (i : Fin 512) (d : Fin 128), gb (ix2 i d) = ((G i d : ℝ) : EReal))
  (hl : ∀ i : Fin 512, lb (ix3 0 i 0) = ((Real.log (Zs Q K i) * (Real.log 2)⁻¹ : ℝ) : EReal))
  (ho : ∀ (i : Fin 512) (d : Fin 128), ob (ix2 i d) = ((ot Q K V i d : ℝ) : EReal))

include hq hk hl in
theorem bwd_pr (i : Fin 512) (j : Fin 4352) : k1_pay8 (F := Ideal) kb qb lb (ix2 i j) = ((pr Q K i j : ℝ) : EReal) := by
  unfold k1_pay8
  rw [pow_apply, mm_nt, named_scale_log2e, uncast_col, hl, sum_mul_real _ _ (fun d : Fin 128 => Q i d) (fun d : Fin 128 => K j d) (hq i) (hk j),
    ← EReal.coe_mul, ← EReal.coe_sub, Ideal.exp2_coe, ← pr_of_lse, sc, mul_assoc]

include hg ho in
theorem bwd_dl (i : Fin 512) (hφ hacc) :
    shapeCast S512x1 (multiReduction .add [1] S512 (mulf (F := Ideal) (φ := .f32) gb (extf .f32 (shapeCast S512x128 (ob : FVec Ideal S512x128 .bf16) shapeCasts_S512x128_S512x128) bitsLt_bf16_f32)) 0x00000000#32
      reduces_S512x128_S512 hφ hacc) shapeCasts_S512_S512x1 (ix2 i 0) = ((dl Q K V G i : ℝ) : EReal) := by
  rw [cast_col]
  refine (red_add128 _ _ hφ hacc i).trans ?_
  rw [shapeCast_self]
  exact sum_mul_real (fun d : Fin 128 => gb (ix2 i d)) (fun d : Fin 128 => ob (ix2 i d)) (fun d : Fin 128 => G i d) (fun d : Fin 128 => ot Q K V i d) (hg i) (ho i)

include hq hk hv hg hl ho in
theorem bwd_ds (i : Fin 512) (j : Fin 4352) :
    k1_pay9 (F := Ideal) kb vb qb gb lb ob (ix2 i j) = ((dsc Q K V G i j : ℝ) : EReal) := by
  unfold k1_pay9
  dsimp only
  refine (dsc_apply _ _ _ _ _ i j).trans ?_
  refine (congrArg₂ (fun a b => a * (_ - b) * _) (bwd_pr hq hk hl i j) (bwd_dl hg ho i _ _)).trans ?_
  rw [mm_nt]
  show _ * ((∑ d : Fin 128, gb (ix2 i d) * vb (ix2 j d)) - _) * Ideal.ofBits .f32 0x3DB504F3#32 = _
  rw [ofBits_scale, sum_mul_real _ _ (fun d : Fin 128 => G i d) (fun d : Fin 128 => V j d) (hg i) (hv j), ← EReal.coe_sub, ← EReal.coe_mul, ← EReal.coe_mul]
  rfl

include hq hk hv hg hl ho in
theorem bwd_dq (i : Fin 512) (d : Fin 128) :
    k1_pay11 (F := Ideal) kb vb qb gb lb ob (ix2 i d) = ((∑ j : Fin 4352, dsc Q K V G i j * K j d : ℝ) : EReal) := by
  unfold k1_pay11
  rw [mm_nn]
  exact sum_mul_real _ _ (fun j : Fin 4352 => dsc Q K V G i j) (fun j : Fin 4352 => K j d) (bwd_ds hq hk hv hg hl ho i) (fun j => hk j d)

/-- Two factors of a product that contracts rows, added to what was there. -/
theorem acc_apply (x : FVec Ideal S512x4352 .bf16) (y : FVec Ideal S512x128 .bf16) (old : FVec Ideal S4352x128 .f32) (j : Fin 4352) (d : Fin 128)
    (f g : Fin 512 → ℝ) (hf : ∀ i, x (ix2 i j) = (f i : EReal)) (hg : ∀ i, y (ix2 i d) = (g i : EReal)) :
    addf (shapeCast S4352x128 old shapeCasts_S4352x128_S4352x128)
        (matmul dot_S512x4352_S512x128_S4352x128_0_0_1_1_n_n none x y (constant S4352x128 .f32 0x00000000#32)) (ix2 j d)
      = old (ix2 j d) + ((∑ i, f i * g i : ℝ) : EReal) := by
  rw [shapeCast_self]
  show old (ix2 j d) + matmul dot_S512x4352_S512x128_S4352x128_0_0_1_1_n_n none x y (constant S4352x128 .f32 0x00000000#32) (ix2 j d) = _
  rw [mm_tn, sum_mul_real _ _ f g hf hg]

include hq hk hv hg hl ho in
theorem bwd_dk (old : Vec Ideal S4352x128 .f32) (j : Fin 4352) (d : Fin 128) :
    k1_pay12 (F := Ideal) qb (k1_pay9 kb vb qb gb lb ob) old (ix2 j d)
      = old (ix2 j d) + ((∑ i : Fin 512, dsc Q K V G i j * Q i d : ℝ) : EReal) := by
  unfold k1_pay12
  exact acc_apply _ _ _ j d (fun i : Fin 512 => dsc Q K V G i j) (fun i : Fin 512 => Q i d) (fun i => bwd_ds hq hk hv hg hl ho i j) (fun i => hq i d)

include hq hk hg hl in
theorem bwd_dv (old : Vec Ideal S4352x128 .f32) (j : Fin 4352) (d : Fin 128) :
    k1_pay13 (F := Ideal) (k1_pay7 gb) (k1_pay10 kb qb lb) old (ix2 j d)
      = old (ix2 j d) + ((∑ i : Fin 512, pr Q K i j * G i d : ℝ) : EReal) := by
  unfold k1_pay13
  exact acc_apply _ _ _ j d (fun i : Fin 512 => pr Q K i j) (fun i : Fin 512 => G i d) (fun i => bwd_pr hq hk hl i j) (fun i => hg i d)

end

end Cert.Attn

end
-- ==== Proof.BwdBody.lean ====
/- What the backward call's body leaves in each output block, in terms of the payloads of one head. -/
module

public import proofs.«01_k».proof.Proof.BwdHead
public import proofs.«01_k».proof.Proof.Gen.KernelIdeal.Frame
public import Idealize.ShloMosaic.Lib.Tactic
public import Idealize.ShloMosaic.Lib.Pipeline.ValueKit.Tiles

@[expose] public section

set_option maxRecDepth 16384

noncomputable section

open Idealize.ShloMosaic Idealize.ShloMosaic.TcCoe Idealize.SL.Sem Idealize.ShloMosaic.ValueIdx

namespace Cert.Attn

open Cert.KernelIdeal Cert.KernelIdeal.Gen Cert.KernelIdeal.Facts

/-- The columns of head `g` of a block of four heads. -/
def cols {α : Type} (g : Fin 4) (x : S512x512.Idx → α) : S512x128.Idx → α := fun y => x (ix2 (y 0) ⟨128 * g.val + (y 1).val, by have h : (y 1).val < 128 := (y 1).isLt; have := g.isLt; omega⟩)

/-- The column of head `g` of a block of four columns. -/
def lcol {α : Type} (g : Fin 4) (x : S1x512x4.Idx → α) : S1x512x1.Idx → α := fun y => x (ix3 (y 0) (y 1) g)

/-- Four blocks side by side. -/
def glue {α : Type} (f : Fin 4 → S512x128.Idx → α) : S512x512.Idx → α := fun y => f ⟨(y 1).val / 128, by have h : (y 1).val < 512 := (y 1).isLt; omega⟩ (ix2 (y 0) ⟨(y 1).val % 128, Nat.mod_lt _ (by norm_num)⟩)

/-- Four columns side by side. -/
def lglue {α : Type} (f : Fin 4 → S1x512x1.Idx → α) : S1x512x4.Idx → α := fun y => f (y 2) (ix3 (y 0) (y 1) 0)

theorem hz2 : (![0, 0] : Fin 2 → Nat) = fun _ => 0 := funext fun a => by fin_cases a <;> rfl

section
variable {Val : EltTy → Type} {e : EltTy}

theorem ld_cols0 (x : S512x512.Idx → Val e) (inb) : View.ld x (Rect.unit (s := S512x512) ![0, 0] ![512, 128] inb) = cols 0 x :=
  funext fun y => View.ld_unit_apply_of x _ _ inb y _ fun a => by
    match a with
    | ⟨0, _⟩ => exact (Nat.zero_add _).symm
    | ⟨1, _⟩ => rfl

theorem ld_lcol0 (x : S1x512x4.Idx → Val e) (inb) : View.ld x (Rect.unit (s := S1x512x4) ![0, 0, 0] ![1, 512, 1] inb) = lcol 0 x :=
  funext fun y => View.ld_unit_apply_of x _ _ inb y _ fun a => by
    match a with
    | ⟨0, _⟩ => exact (Nat.zero_add _).symm
    | ⟨1, _⟩ => exact (Nat.zero_add _).symm
    | ⟨2, _⟩ => have h : (y 2).val < 1 := (y 2).isLt; show 0 = 0 + (y 2).val; omega

theorem emb_cols0 (inb) (f : Fin 4 → S512x128.Idx → Val e) (x : S512x128.Idx) :
    f 0 x = glue f ((Rect.unit (s := S512x512) ![0, 0] S512x128.size inb).emb x) := by
  have h1 : (x 1).val < 128 := (x 1).isLt
  have e0 : (((Rect.unit (s := S512x512) ![0, 0] S512x128.size inb).emb x) 0).val = (x 0).val := (Rect.idx_unit_val _ _ inb x 0).trans (Nat.zero_add _)
  have e1 : (((Rect.unit (s := S512x512) ![0, 0] S512x128.size inb).emb x) 1).val = 0 + (x 1).val := Rect.idx_unit_val _ _ inb x 1
  refine congr (congrArg f (Fin.ext ?_)) (funext fun a => ?_)
  · show 0 = (((Rect.unit (s := S512x512) ![0, 0] S512x128.size inb).emb x) 1).val / 128
    rw [e1]; omega
  · match a with
    | ⟨0, _⟩ => exact Fin.ext e0.symm
    | ⟨1, _⟩ => refine Fin.ext ?_; show (x 1).val = (((Rect.unit (s := S512x512) ![0, 0] S512x128.size inb).emb x) 1).val % 128; rw [e1]; omega

theorem emb_lcol0 (inb) (f : Fin 4 → S1x512x1.Idx → Val e) (x : S1x512x1.Idx) :
    f 0 x = lglue f ((Rect.unit (s := S1x512x4) ![0, 0, 0] S1x512x1.size inb).emb x) := by
  have h1 : (x 2).val < 1 := (x 2).isLt
  have e0 : (((Rect.unit (s := S1x512x4) ![0, 0, 0] S1x512x1.size inb).emb x) 0).val = (x 0).val := (Rect.idx_unit_val _ _ inb x 0).trans (Nat.zero_add _)
  have e1 : (((Rect.unit (s := S1x512x4) ![0, 0, 0] S1x512x1.size inb).emb x) 1).val = (x 1).val := (Rect.idx_unit_val _ _ inb x 1).trans (Nat.zero_add _)
  have e2 : (((Rect.unit (s := S1x512x4) ![0, 0, 0] S1x512x1.size inb).emb x) 2).val = 0 + (x 2).val := Rect.idx_unit_val _ _ inb x 2
  refine congr (congrArg f (Fin.ext ?_)) (funext fun a => ?_)
  · show 0 = (((Rect.unit (s := S1x512x4) ![0, 0, 0] S1x512x1.size inb).emb x) 2).val
    rw [e2]; omega
  · match a with
    | ⟨0, _⟩ => exact Fin.ext e0.symm
    | ⟨1, _⟩ => exact Fin.ext e1.symm
    | ⟨2, _⟩ => exact Fin.ext (by show (x 2).val = 0; omega)

theorem ld_cols1 (x : S512x512.Idx → Val e) (inb) : View.ld x (Rect.unit (s := S512x512) ![0, 128] ![512, 128] inb) = cols 1 x :=
  funext fun y => View.ld_unit_apply_of x _ _ inb y _ fun a => by
    match a with
    | ⟨0, _⟩ => exact (Nat.zero_add _).symm
    | ⟨1, _⟩ => rfl

theorem ld_lcol1 (x : S1x512x4.Idx → Val e) (inb) : View.ld x (Rect.unit (s := S1x512x4) ![0, 0, 1] ![1, 512, 1] inb) = lcol 1 x :=
  funext fun y => View.ld_unit_apply_of x _ _ inb y _ fun a => by
    match a with
    | ⟨0, _⟩ => exact (Nat.zero_add _).symm
    | ⟨1, _⟩ => exact (Nat.zero_add _).symm
    | ⟨2, _⟩ => have h : (y 2).val < 1 := (y 2).isLt; show 1 = 1 + (y 2).val; omega

theorem emb_cols1 (inb) (f : Fin 4 → S512x128.Idx → Val e) (x : S512x128.Idx) :
    f 1 x = glue f ((Rect.unit (s := S512x512) ![0, 128] S512x128.size inb).emb x) := by
  have h1 : (x 1).val < 128 := (x 1).isLt
  have e0 : (((Rect.unit (s := S512x512) ![0, 128] S512x128.size inb).emb x) 0).val = (x 0).val := (Rect.idx_unit_val _ _ inb x 0).trans (Nat.zero_add _)
  have e1 : (((Rect.unit (s := S512x512) ![0, 128] S512x128.size inb).emb x) 1).val = 128 + (x 1).val := Rect.idx_unit_val _ _ inb x 1
  refine congr (congrArg f (Fin.ext ?_)) (funext fun a => ?_)
  · show 1 = (((Rect.unit (s := S512x512) ![0, 128] S512x128.size inb).emb x) 1).val / 128
    rw [e1]; omega
  · match a with
    | ⟨0, _⟩ => exact Fin.ext e0.symm
    | ⟨1, _⟩ => refine Fin.ext ?_; show (x 1).val = (((Rect.unit (s := S512x512) ![0, 128] S512x128.size inb).emb x) 1).val % 128; rw [e1]; omega

theorem emb_lcol1 (inb) (f : Fin 4 → S1x512x1.Idx → Val e) (x : S1x512x1.Idx) :
    f 1 x = lglue f ((Rect.unit (s := S1x512x4) ![0, 0, 1] S1x512x1.size inb).emb x) := by
  have h1 : (x 2).val < 1 := (x 2).isLt
  have e0 : (((Rect.unit (s := S1x512x4) ![0, 0, 1] S1x512x1.size inb).emb x) 0).val = (x 0).val := (Rect.idx_unit_val _ _ inb x 0).trans (Nat.zero_add _)
  have e1 : (((Rect.unit (s := S1x512x4) ![0, 0, 1] S1x512x1.size inb).emb x) 1).val = (x 1).val := (Rect.idx_unit_val _ _ inb x 1).trans (Nat.zero_add _)
  have e2 : (((Rect.unit (s := S1x512x4) ![0, 0, 1] S1x512x1.size inb).emb x) 2).val = 1 + (x 2).val := Rect.idx_unit_val _ _ inb x 2
  refine congr (congrArg f (Fin.ext ?_)) (funext fun a => ?_)
  · show 1 = (((Rect.unit (s := S1x512x4) ![0, 0, 1] S1x512x1.size inb).emb x) 2).val
    rw [e2]; omega
  · match a with
    | ⟨0, _⟩ => exact Fin.ext e0.symm
    | ⟨1, _⟩ => exact Fin.ext e1.symm
    | ⟨2, _⟩ => exact Fin.ext (by show (x 2).val = 0; omega)

theorem ld_cols2 (x : S512x512.Idx → Val e) (inb) : View.ld x (Rect.unit (s := S512x512) ![0, 256] ![512, 128] inb) = cols 2 x :=
  funext fun y => View.ld_unit_apply_of x _ _ inb y _ fun a => by
    match a with
    | ⟨0, _⟩ => exact (Nat.zero_add _).symm
    | ⟨1, _⟩ => rfl

theorem ld_lcol2 (x : S1x512x4.Idx → Val e) (inb) : View.ld x (Rect.unit (s := S1x512x4) ![0, 0, 2] ![1, 512, 1] inb) = lcol 2 x :=
  funext fun y => View.ld_unit_apply_of x _ _ inb y _ fun a => by
    match a with
    | ⟨0, _⟩ => exact (Nat.zero_add _).symm
    | ⟨1, _⟩ => exact (Nat.zero_add _).symm
    | ⟨2, _⟩ => have h : (y 2).val < 1 := (y 2).isLt; show 2 = 2 + (y 2).val; omega

theorem emb_cols2 (inb) (f : Fin 4 → S512x128.Idx → Val e) (x : S512x128.Idx) :
    f 2 x = glue f ((Rect.unit (s := S512x512) ![0, 256] S512x128.size inb).emb x) := by
  have h1 : (x 1).val < 128 := (x 1).isLt
  have e0 : (((Rect.unit (s := S512x512) ![0, 256] S512x128.size inb).emb x) 0).val = (x 0).val := (Rect.idx_unit_val _ _ inb x 0).trans (Nat.zero_add _)
  have e1 : (((Rect.unit (s := S512x512) ![0, 256] S512x128.size inb).emb x) 1).val = 256 + (x 1).val := Rect.idx_unit_val _ _ inb x 1
  refine congr (congrArg f (Fin.ext ?_)) (funext fun a => ?_)
  · show 2 = (((Rect.unit (s := S512x512) ![0, 256] S512x128.size inb).emb x) 1).val / 128
    rw [e1]; omega
  · match a with
    | ⟨0, _⟩ => exact Fin.ext e0.symm
    | ⟨1, _⟩ => refine Fin.ext ?_; show (x 1).val = (((Rect.unit (s := S512x512) ![0, 256] S512x128.size inb).emb x) 1).val % 128; rw [e1]; omega

theorem emb_lcol2 (inb) (f : Fin 4 → S1x512x1.Idx → Val e) (x : S1x512x1.Idx) :
    f 2 x = lglue f ((Rect.unit (s := S1x512x4) ![0, 0, 2] S1x512x1.size inb).emb x) := by
  have h1 : (x 2).val < 1 := (x 2).isLt
  have e0 : (((Rect.unit (s := S1x512x4) ![0, 0, 2] S1x512x1.size inb).emb x) 0).val = (x 0).val := (Rect.idx_unit_val _ _ inb x 0).trans (Nat.zero_add _)
  have e1 : (((Rect.unit (s := S1x512x4) ![0, 0, 2] S1x512x1.size inb).emb x) 1).val = (x 1).val := (Rect.idx_unit_val _ _ inb x 1).trans (Nat.zero_add _)
  have e2 : (((Rect.unit (s := S1x512x4) ![0, 0, 2] S1x512x1.size inb).emb x) 2).val = 2 + (x 2).val := Rect.idx_unit_val _ _ inb x 2
  refine congr (congrArg f (Fin.ext ?_)) (funext fun a => ?_)
  · show 2 = (((Rect.unit (s := S1x512x4) ![0, 0, 2] S1x512x1.size inb).emb x) 2).val
    rw [e2]; omega
  · match a with
    | ⟨0, _⟩ => exact Fin.ext e0.symm
    | ⟨1, _⟩ => exact Fin.ext e1.symm
    | ⟨2, _⟩ => exact Fin.ext (by show (x 2).val = 0; omega)

theorem ld_cols3 (x : S512x512.Idx → Val e) (inb) : View.ld x (Rect.unit (s := S512x512) ![0, 384] ![512, 128] inb) = cols 3 x :=
  funext fun y => View.ld_unit_apply_of x _ _ inb y _ fun a => by
    match a with
    | ⟨0, _⟩ => exact (Nat.zero_add _).symm
    | ⟨1, _⟩ => rfl

theorem ld_lcol3 (x : S1x512x4.Idx → Val e) (inb) : View.ld x (Rect.unit (s := S1x512x4) ![0, 0, 3] ![1, 512, 1] inb) = lcol 3 x :=
  funext fun y => View.ld_unit_apply_of x _ _ inb y _ fun a => by
    match a with
    | ⟨0, _⟩ => exact (Nat.zero_add _).symm
    | ⟨1, _⟩ => exact (Nat.zero_add _).symm
    | ⟨2, _⟩ => have h : (y 2).val < 1 := (y 2).isLt; show 3 = 3 + (y 2).val; omega

theorem emb_cols3 (inb) (f : Fin 4 → S512x128.Idx → Val e) (x : S512x128.Idx) :
    f 3 x = glue f ((Rect.unit (s := S512x512) ![0, 384] S512x128.size inb).emb x) := by
  have h1 : (x 1).val < 128 := (x 1).isLt
  have e0 : (((Rect.unit (s := S512x512) ![0, 384] S512x128.size inb).emb x) 0).val = (x 0).val := (Rect.idx_unit_val _ _ inb x 0).trans (Nat.zero_add _)
  have e1 : (((Rect.unit (s := S512x512) ![0, 384] S512x128.size inb).emb x) 1).val = 384 + (x 1).val := Rect.idx_unit_val _ _ inb x 1
  refine congr (congrArg f (Fin.ext ?_)) (funext fun a => ?_)
  · show 3 = (((Rect.unit (s := S512x512) ![0, 384] S512x128.size inb).emb x) 1).val / 128
    rw [e1]; omega
  · match a with
    | ⟨0, _⟩ => exact Fin.ext e0.symm
    | ⟨1, _⟩ => refine Fin.ext ?_; show (x 1).val = (((Rect.unit (s := S512x512) ![0, 384] S512x128.size inb).emb x) 1).val % 128; rw [e1]; omega

theorem emb_lcol3 (inb) (f : Fin 4 → S1x512x1.Idx → Val e) (x : S1x512x1.Idx) :
    f 3 x = lglue f ((Rect.unit (s := S1x512x4) ![0, 0, 3] S1x512x1.size inb).emb x) := by
  have h1 : (x 2).val < 1 := (x 2).isLt
  have e0 : (((Rect.unit (s := S1x512x4) ![0, 0, 3] S1x512x1.size inb).emb x) 0).val = (x 0).val := (Rect.idx_unit_val _ _ inb x 0).trans (Nat.zero_add _)
  have e1 : (((Rect.unit (s := S1x512x4) ![0, 0, 3] S1x512x1.size inb).emb x) 1).val = (x 1).val := (Rect.idx_unit_val _ _ inb x 1).trans (Nat.zero_add _)
  have e2 : (((Rect.unit (s := S1x512x4) ![0, 0, 3] S1x512x1.size inb).emb x) 2).val = 3 + (x 2).val := Rect.idx_unit_val _ _ inb x 2
  refine congr (congrArg f (Fin.ext ?_)) (funext fun a => ?_)
  · show 3 = (((Rect.unit (s := S1x512x4) ![0, 0, 3] S1x512x1.size inb).emb x) 2).val
    rw [e2]; omega
  · match a with
    | ⟨0, _⟩ => exact Fin.ext e0.symm
    | ⟨1, _⟩ => exact Fin.ext e1.symm
    | ⟨2, _⟩ => exact Fin.ext (by show (x 2).val = 0; omega)

variable [∀ e, Nonempty (Val e)]

/-- Four stores of a head's columns leave the four heads side by side. -/
theorem canon_glue (i0 i1 i2 i3) (f : Fin 4 → S512x128.Idx → Val e) :
    View.canon ([⟨Rect.unit (s := S512x512) ![0, 384] S512x128.size i3, f 3⟩, ⟨Rect.unit (s := S512x512) ![0, 256] S512x128.size i2, f 2⟩,
      ⟨Rect.unit (s := S512x512) ![0, 128] S512x128.size i1, f 1⟩, ⟨Rect.unit (s := S512x512) ![0, 0] S512x128.size i0, f 0⟩] : List (View.Piece Val S512x512 e)) = glue f := by
  funext y
  refine View.canon_apply_of_pieces (glue f) _ (fun p hp => ?_) y (@View.cover_of_tiled S512x512 e Val _ S512x128.size (by rfl) y)
  simp only [List.mem_cons, List.not_mem_nil, or_false] at hp
  rcases hp with rfl | rfl | rfl | rfl
  · exact emb_cols3 i3 f
  · exact emb_cols2 i2 f
  · exact emb_cols1 i1 f
  · exact emb_cols0 i0 f

theorem canon_lglue (i0 i1 i2 i3) (f : Fin 4 → S1x512x1.Idx → Val e) :
    View.canon ([⟨Rect.unit (s := S1x512x4) ![0, 0, 3] S1x512x1.size i3, f 3⟩, ⟨Rect.unit (s := S1x512x4) ![0, 0, 2] S1x512x1.size i2, f 2⟩,
      ⟨Rect.unit (s := S1x512x4) ![0, 0, 1] S1x512x1.size i1, f 1⟩, ⟨Rect.unit (s := S1x512x4) ![0, 0, 0] S1x512x1.size i0, f 0⟩] : List (View.Piece Val S1x512x4 e)) = lglue f := by
  funext y
  refine View.canon_apply_of_pieces (lglue f) _ (fun p hp => ?_) y (@View.cover_of_tiled S1x512x4 e Val _ S1x512x1.size (by rfl) y)
  simp only [List.mem_cons, List.not_mem_nil, or_false] at hp
  rcases hp with rfl | rfl | rfl | rfl
  · exact emb_lcol3 i3 f
  · exact emb_lcol2 i2 f
  · exact emb_lcol1 i1 f
  · exact emb_lcol0 i0 f

end

variable {F : FTy → Type} [FloatOps F] [Named F]

/-- What the body adds for head `g` to the gradient of the keys. -/
def dkStep (x0 : Vec F S512x512 .bf16) (x1 x2 : Vec F S4352x128 .bf16) (x3 : Vec F S512x512 .bf16) (x4 : Vec F S1x512x4 .f32) (x5 : Vec F S512x512 .f32)
    (g : Fin 4) (old : Vec F S4352x128 .f32) : Vec F S4352x128 .f32 :=
  k1_pay12 (cols g x0) (k1_pay9 x1 x2 (cols g x0) (cols g x5) (lcol g x4) (cols g x3)) old

/-- What the body adds for head `g` to the gradient of the values. -/
def dvStep (x0 : Vec F S512x512 .bf16) (x1 : Vec F S4352x128 .bf16) (x4 : Vec F S1x512x4 .f32) (x5 : Vec F S512x512 .f32)
    (g : Fin 4) (old : Vec F S4352x128 .f32) : Vec F S4352x128 .f32 :=
  k1_pay13 (k1_pay7 (cols g x5)) (k1_pay10 x1 (cols g x0) (lcol g x4)) old

/-- The gradient of the queries of head `g`. -/
def dqHead (x0 : Vec F S512x512 .bf16) (x1 x2 : Vec F S4352x128 .bf16) (x3 : Vec F S512x512 .bf16) (x4 : Vec F S1x512x4 .f32) (x5 : Vec F S512x512 .f32)
    (g : Fin 4) : Vec F S512x128 .f32 :=
  k1_pay11 x1 x2 (cols g x0) (cols g x5) (lcol g x4) (cols g x3)

theorem outB7 (c : Dev nD) (i : grid1.Coords) (a2) (h2) (a3) (h3) (a4) (h4) (a5) (h5) (a6) (h6) (a7) (h7) (a8) (h8) (a9) (h9) (a10) (h10) (hc0) (x0 x1 x2 x3 x4 x5) (xo7 xo8) :
    out1_B_7 (F := F) c i a2 h2 a3 h3 a4 h4 a5 h5 a6 h6 a7 h7 a8 h8 a9 h9 a10 h10 hc0 x0 x1 x2 x3 x4 x5 xo7 xo8
      = dkStep x0 x1 x2 x3 x4 x5 3 (dkStep x0 x1 x2 x3 x4 x5 2 (dkStep x0 x1 x2 x3 x4 x5 1 (dkStep x0 x1 x2 x3 x4 x5 0 xo7))) := by
  unfold out1_B_7
  rw [View.read_writes_eq_canon _ _ _ (cover1_B_7 c i a2 h2 a3 h3 a4 h4 a5 h5 a6 h6 a7 h7 a8 h8 a9 h9 a10 h10 hc0 x0 x1 x2 x3 x4 x5 xo7 xo8)]
  unfold kernelRun1_B
  dsimp only
  sl_unfold_words
  rw [View.canon_cons_unit_zero (S := S4352x128) hz2]
  simp only [View.readCov_cons_toLoadRect, View.readAt_eq_ld, h2.read_unread, h3.read_unread, h4.read_unread, h5.read_unread, h6.read_unread, h7.read_unread, h8.read_unread, h9.read_unread, h10.read_unread, ld_cols0, ld_lcol0, ld_cols1, ld_lcol1, ld_cols2, ld_lcol2, ld_cols3, ld_lcol3, View.ld_unit_zero (S := S4352x128) hz2]
  rfl

theorem outB6 (c : Dev nD) (i : grid1.Coords) (a2) (h2) (a3) (h3) (a4) (h4) (a5) (h5) (a6) (h6) (a7) (h7) (a8) (h8) (a9) (h9) (a10) (h10) (hc0) (x0 x1 x2 x3 x4 x5) (xo7 xo8) :
    out1_B_6 (F := F) c i a2 h2 a3 h3 a4 h4 a5 h5 a6 h6 a7 h7 a8 h8 a9 h9 a10 h10 hc0 x0 x1 x2 x3 x4 x5 xo7 xo8
      = glue (dqHead x0 x1 x2 x3 x4 x5) := by
  unfold out1_B_6
  rw [View.read_writes_eq_canon _ _ _ (cover1_B_6 c i a2 h2 a3 h3 a4 h4 a5 h5 a6 h6 a7 h7 a8 h8 a9 h9 a10 h10 hc0 x0 x1 x2 x3 x4 x5 xo7 xo8)]
  unfold kernelRun1_B
  dsimp only
  sl_unfold_words
  simp only [View.readAt_eq_ld, h2.read_unread, h3.read_unread, h4.read_unread, h5.read_unread, h6.read_unread, h7.read_unread, h8.read_unread, h9.read_unread, h10.read_unread, ld_cols0, ld_lcol0, ld_cols1, ld_lcol1, ld_cols2, ld_lcol2, ld_cols3, ld_lcol3, View.ld_unit_zero (S := S4352x128) hz2]
  exact canon_glue _ _ _ _ (dqHead x0 x1 x2 x3 x4 x5)

theorem outB8 (c : Dev nD) (i : grid1.Coords) (a2) (h2) (a3) (h3) (a4) (h4) (a5) (h5) (a6) (h6) (a7) (h7) (a8) (h8) (a9) (h9) (a10) (h10) (hc0) (x0 x1 x2 x3 x4 x5) (xo7 xo8) :
    out1_B_8 (F := F) c i a2 h2 a3 h3 a4 h4 a5 h5 a6 h6 a7 h7 a8 h8 a9 h9 a10 h10 hc0 x0 x1 x2 x3 x4 x5 xo7 xo8
      = dvStep x0 x1 x4 x5 3 (dvStep x0 x1 x4 x5 2 (dvStep x0 x1 x4 x5 1 (dvStep x0 x1 x4 x5 0 xo8))) := by
  unfold out1_B_8
  rw [View.read_writes_eq_canon _ _ _ (cover1_B_8 c i a2 h2 a3 h3 a4 h4 a5 h5 a6 h6 a7 h7 a8 h8 a9 h9 a10 h10 hc0 x0 x1 x2 x3 x4 x5 xo7 xo8)]
  unfold kernelRun1_B
  dsimp only
  sl_unfold_words
  rw [View.canon_cons_unit_zero (S := S4352x128) hz2]
  simp only [View.readCov_cons_toLoadRect, View.readAt_eq_ld, h2.read_unread, h3.read_unread, h4.read_unread, h5.read_unread, h6.read_unread, h7.read_unread, h8.read_unread, h9.read_unread, h10.read_unread, ld_cols0, ld_lcol0, ld_cols1, ld_lcol1, ld_cols2, ld_lcol2, ld_cols3, ld_lcol3, View.ld_unit_zero (S := S4352x128) hz2]
  rfl

theorem outA7 (c : Dev nD) (i : grid1.Coords) (a2) (h2) (a3) (h3) (a4) (h4) (a5) (h5) (a6) (h6) (a7) (h7) (a8) (h8) (a9) (h9) (a10) (h10) (hc0) (x0 x1 x2 x3 x4 x5) :
    out1_A_7 (F := F) c i a2 h2 a3 h3 a4 h4 a5 h5 a6 h6 a7 h7 a8 h8 a9 h9 a10 h10 hc0 x0 x1 x2 x3 x4 x5
      = dkStep x0 x1 x2 x3 x4 x5 3 (dkStep x0 x1 x2 x3 x4 x5 2 (dkStep x0 x1 x2 x3 x4 x5 1 (dkStep x0 x1 x2 x3 x4 x5 0 k1_pay5))) := by
  unfold out1_A_7
  rw [View.read_writes_eq_canon _ _ _ (cover1_A_7 c i a2 h2 a3 h3 a4 h4 a5 h5 a6 h6 a7 h7 a8 h8 a9 h9 a10 h10 hc0 x0 x1 x2 x3 x4 x5)]
  unfold kernelRun1_A
  dsimp only
  sl_unfold_words
  rw [View.canon_cons_unit_zero (S := S4352x128) hz2]
  simp only [View.readCov_cons_toLoadRect, View.readAt_eq_ld, h2.read_unread, h3.read_unread, h4.read_unread, h5.read_unread, h6.read_unread, h7.read_unread, h8.read_unread, h9.read_unread, h10.read_unread, ld_cols0, ld_lcol0, ld_cols1, ld_lcol1, ld_cols2, ld_lcol2, ld_cols3, ld_lcol3, View.ld_unit_zero (S := S4352x128) hz2]
  rfl

theorem outA6 (c : Dev nD) (i : grid1.Coords) (a2) (h2) (a3) (h3) (a4) (h4) (a5) (h5) (a6) (h6) (a7) (h7) (a8) (h8) (a9) (h9) (a10) (h10) (hc0) (x0 x1 x2 x3 x4 x5) :
    out1_A_6 (F := F) c i a2 h2 a3 h3 a4 h4 a5 h5 a6 h6 a7 h7 a8 h8 a9 h9 a10 h10 hc0 x0 x1 x2 x3 x4 x5
      = glue (dqHead x0 x1 x2 x3 x4 x5) := by
  unfold out1_A_6
  rw [View.read_writes_eq_canon _ _ _ (cover1_A_6 c i a2 h2 a3 h3 a4 h4 a5 h5 a6 h6 a7 h7 a8 h8 a9 h9 a10 h10 hc0 x0 x1 x2 x3 x4 x5)]
  unfold kernelRun1_A
  dsimp only
  sl_unfold_words
  simp only [View.readAt_eq_ld, h2.read_unread, h3.read_unread, h4.read_unread, h5.read_unread, h6.read_unread, h7.read_unread, h8.read_unread, h9.read_unread, h10.read_unread, ld_cols0, ld_lcol0, ld_cols1, ld_lcol1, ld_cols2, ld_lcol2, ld_cols3, ld_lcol3, View.ld_unit_zero (S := S4352x128) hz2]
  exact canon_glue _ _ _ _ (dqHead x0 x1 x2 x3 x4 x5)

theorem outA8 (c : Dev nD) (i : grid1.Coords) (a2) (h2) (a3) (h3) (a4) (h4) (a5) (h5) (a6) (h6) (a7) (h7) (a8) (h8) (a9) (h9) (a10) (h10) (hc0) (x0 x1 x2 x3 x4 x5) :
    out1_A_8 (F := F) c i a2 h2 a3 h3 a4 h4 a5 h5 a6 h6 a7 h7 a8 h8 a9 h9 a10 h10 hc0 x0 x1 x2 x3 x4 x5
      = dvStep x0 x1 x4 x5 3 (dvStep x0 x1 x4 x5 2 (dvStep x0 x1 x4 x5 1 (dvStep x0 x1 x4 x5 0 k1_pay6))) := by
  unfold out1_A_8
  rw [View.read_writes_eq_canon _ _ _ (cover1_A_8 c i a2 h2 a3 h3 a4 h4 a5 h5 a6 h6 a7 h7 a8 h8 a9 h9 a10 h10 hc0 x0 x1 x2 x3 x4 x5)]
  unfold kernelRun1_A
  dsimp only
  sl_unfold_words
  rw [View.canon_cons_unit_zero (S := S4352x128) hz2]
  simp only [View.readCov_cons_toLoadRect, View.readAt_eq_ld, h2.read_unread, h3.read_unread, h4.read_unread, h5.read_unread, h6.read_unread, h7.read_unread, h8.read_unread, h9.read_unread, h10.read_unread, ld_cols0, ld_lcol0, ld_cols1, ld_lcol1, ld_cols2, ld_lcol2, ld_cols3, ld_lcol3, View.ld_unit_zero (S := S4352x128) hz2]
  rfl

end Cert.Attn

end
-- ==== Proof.FwdArr.lean ====
/- The forward call's two arrays after its run, at real arguments. -/
module

public import proofs.«01_k».proof.Proof.BwdBody
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Attn

open Cert.KernelIdeal Cert.KernelIdeal.Gen Cert.KernelIdeal.Facts

/-- The columns of head `h` of an array of heads. -/
def hd (x : ℕ → ℕ → ℝ) (h : ℕ) : ℕ → ℕ → ℝ := fun i d => x i (128 * h + d)

/-- The rows of a matrix from `a` on. -/
def dn (x : ℕ → ℕ → ℝ) (a : ℕ) : ℕ → ℕ → ℝ := fun i d => x (a + i) d

section
variable {F : FTy → Type} [FloatOps F] [Named F]

theorem ld_r0 {α : EltTy → Type} {e : EltTy} (x : S512x512.Idx → α e) : View.ld x r0_1 = cols 0 x := ld_cols0 x _
theorem ld_r1 {α : EltTy → Type} {e : EltTy} (x : S512x512.Idx → α e) : View.ld x r0_3 = cols 1 x := ld_cols1 x _
theorem ld_r2 {α : EltTy → Type} {e : EltTy} (x : S512x512.Idx → α e) : View.ld x r0_5 = cols 2 x := ld_cols2 x _
theorem ld_r3 {α : EltTy → Type} {e : EltTy} (x : S512x512.Idx → α e) : View.ld x r0_7 = cols 3 x := ld_cols3 x _

theorem out0_3_eq (x0 : Vec F S512x512 .bf16) (x1 x2 : Vec F S4352x128 .bf16) :
    out0_3 (F := F) x0 x1 x2 = glue fun g => k0_pay12 x1 x2 (cols g x0) := by
  unfold out0_3 k0_pay27
  simp only [ld_r0, ld_r1, ld_r2, ld_r3, View.ld_unit_zero (S := S4352x128) hz2]
  exact canon_glue (Val := Elt F) (e := .bf16) inb_S512x512_S512x128_0_0 inb_S512x512_S512x128_0_128 inb_S512x512_S512x128_0_256 inb_S512x512_S512x128_0_384 fun g => k0_pay12 x1 x2 (cols g x0)

theorem out0_4_eq (x0 : Vec F S512x512 .bf16) (x1 x2 : Vec F S4352x128 .bf16) :
    out0_4 (F := F) x0 x1 x2 = lglue fun g => k0_pay13 x1 (cols g x0) := by
  unfold out0_4 k0_pay27
  simp only [ld_r0, ld_r1, ld_r2, ld_r3, View.ld_unit_zero (S := S4352x128) hz2]
  exact canon_lglue (Val := Elt F) (e := .f32) inb_S1x512x4_S1x512x1_0_0_0 inb_S1x512x4_S1x512x1_0_0_1 inb_S1x512x4_S1x512x1_0_0_2 inb_S1x512x4_S1x512x1_0_0_3 fun g => k0_pay13 x1 (cols g x0)

end

theorem e0_0 : ∀ t : Fin cfg0.N, win0_0.index t = ![t.val % 8, t.val / 8] := (by decide +kernel : ∀ t : Fin grid0.N, win0_0.index t = ![t.val % 8, t.val / 8])
theorem e0_1 : ∀ t : Fin cfg0.N, win0_1.index t = ![0, t.val / 8] := (by decide +kernel : ∀ t : Fin grid0.N, win0_1.index t = ![0, t.val / 8])
theorem e0_2 : ∀ t : Fin cfg0.N, win0_2.index t = ![0, t.val / 8] := (by decide +kernel : ∀ t : Fin grid0.N, win0_2.index t = ![0, t.val / 8])
theorem e0_3 : ∀ t : Fin cfg0.N, win0_3.index t = ![t.val % 8, t.val / 8] := (by decide +kernel : ∀ t : Fin grid0.N, win0_3.index t = ![t.val % 8, t.val / 8])
theorem e0_4 : ∀ t : Fin cfg0.N, win0_4.index t = ![t.val / 8, t.val % 8, 0] := (by decide +kernel : ∀ t : Fin grid0.N, win0_4.index t = ![t.val / 8, t.val % 8, 0])

section
variable {V : (c : Dev nD) → (b : Ref sig .tc) → Buf (Elt Ideal) ((c : Thread nD τ).loc b)} {c : Dev nD} {q k v : ℕ → ℕ → ℝ}
  (hq : ∀ i : S4096x1024.Idx, V c main_arg0 i = ((q (i 0) (i 1) : ℝ) : EReal))
  (hk : ∀ i : S4352x256.Idx, V c main_arg1 i = ((k (i 0) (i 1) : ℝ) : EReal))
  (hv : ∀ i : S4352x256.Idx, V c main_arg2 i = ((v (i 0) (i 1) : ℝ) : EReal))

include hq in
theorem blk0_q (t : Fin cfg0.N) (g : Fin 4) (i : Fin 512) (d : Fin 128) :
    cols g (iblk0 (F := Ideal) V c 0 t) (ix2 i d) = ((dn (hd q (4 * (t.val / 8) + g.val)) (512 * (t.val % 8)) i d : ℝ) : EReal) := by
  unfold cols
  blk_simp [iblk0, e0_0]
  refine (hq _).trans ?_
  unfold hd dn
  congr 2
  · blk_simp [e0_0]
    show t.val % 8 * 512 + i.val = _
    omega
  · blk_simp [e0_0]
    show t.val / 8 * 512 + (128 * g.val + d.val) = _
    omega

include hk in
theorem blk0_k (t : Fin cfg0.N) (j : Fin 4352) (d : Fin 128) :
    iblk0 (F := Ideal) V c 1 t (ix2 j d) = ((hd k (t.val / 8) j d : ℝ) : EReal) := by
  blk_simp [iblk0, e0_1]
  refine (hk _).trans ?_
  unfold hd
  congr 2
  · blk_simp [e0_1]
  · blk_simp [e0_1]
    show t.val / 8 * 128 + d.val = _
    omega

include hv in
theorem blk0_v (t : Fin cfg0.N) (j : Fin 4352) (d : Fin 128) :
    iblk0 (F := Ideal) V c 2 t (ix2 j d) = ((hd v (t.val / 8) j d : ℝ) : EReal) := by
  blk_simp [iblk0, e0_2]
  refine (hv _).trans ?_
  unfold hd
  congr 2
  · blk_simp [e0_2]
  · blk_simp [e0_2]
    show t.val / 8 * 128 + d.val = _
    omega

/-- The attention's output at row `i` and column `c`. -/
def oR (q k v : ℕ → ℕ → ℝ) (i c : ℕ) : ℝ := ot (hd q (c / 128)) (hd k (c / 512)) (hd v (c / 512)) i (c % 128)

/-- The base-two logarithm of the sum of a row's weights, for head `g` of group `n`. -/
def lR (q k : ℕ → ℕ → ℝ) (n i g : ℕ) : ℝ := Real.log (Zs (hd q (4 * n + g)) (hd k n) i) * (Real.log 2)⁻¹

include hq hk hv in
theorem o_arr (i : S4096x2048.Idx) (hi : (i 1).val < 1024) :
    (dat0 V c).arrAt 3 cfg0.N i = ((oR q k v (i 0) (i 1) : ℝ) : EReal) := by
  refine (dat0 V c).arrAt_forall_of_coversWhere 3 (fun i x => (i 1).val < 1024 → x = ((oR q k v (i 0) (i 1) : ℝ) : EReal)) (fun β => β (1 : Fin _) < 2)
    (by decide +kernel) (fun t hf y => ?_) (fun j hj => ?_) i (Memref.isWhole_whole _) hi
  · blk_simp
    rw [after0_3, out0_3_eq]
    intro _
    have h1 : (y 1).val < 512 := (y 1).isLt
    refine (fwd_out (blk0_q hq t _) (blk0_k hk t) (blk0_v hv t) _ _).trans ?_
    unfold oR
    blk_simp [e0_3]
    rw [show (t.val / 8 * 512 + (y 1).val) / 128 = 4 * (t.val / 8) + (y 1).val / 128 by omega, show (t.val / 8 * 512 + (y 1).val) / 512 = t.val / 8 by omega,
      show (t.val / 8 * 512 + (y 1).val) % 128 = (y 1).val % 128 by omega, Nat.mul_comm (t.val % 8) 512]
    rfl
  · intro h
    blk_simp [Pipeline.Window.cell_apply] at hj
    have h' : (j 1).val < 1024 := h
    omega

include hq hk in
theorem lse_arr (i : S2x4096x4.Idx) :
    (dat0 V c).arrAt 4 cfg0.N i = ((lR q k (i 0) (i 1) (i 2) : ℝ) : EReal) := by
  refine (dat0 V c).arrAt_forall_of_covers 4 (fun i x => x = ((lR q k (i 0) (i 1) (i 2) : ℝ) : EReal))
    (by decide +kernel) (fun t hf y => ?_) i (Memref.isWhole_whole _)
  blk_simp
  rw [after0_4, out0_4_eq]
  have h0 : (y 0).val < 1 := (y 0).isLt
  have h1 : (y 1).val < 512 := (y 1).isLt
  have hz : (ix3 (y 0) (y 1) 0 : S1x512x1.Idx) = ix3 0 (y 1) 0 := congrArg (fun z => ix3 z (y 1) 0) (Subsingleton.elim (α := Fin 1) (y 0) 0)
  refine (congrArg (k0_pay13 (F := Ideal) (iblk0 V c 1 t) (cols (y 2) (iblk0 V c 0 t))) hz).trans ((fwd_lse (blk0_q hq t (y 2)) (blk0_k hk t) (y 1)).trans ?_)
  unfold lR
  blk_simp [e0_4]
  rw [Nat.mul_comm (t.val % 8) 512]
  rfl
end

end Cert.Attn

end
-- ==== Proof.BwdArr.lean ====
/- The backward call's three arrays after its run, at real arguments. -/
module

public import proofs.«01_k».proof.Proof.FwdArr

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Attn

open Cert.KernelIdeal Cert.KernelIdeal.Gen Cert.KernelIdeal.Facts

theorem e1_0 : ∀ t : Fin cfg1.N, win1_0.index t = ![t.val % 8, t.val / 8] := (by decide +kernel : ∀ t : Fin grid1.N, win1_0.index t = ![t.val % 8, t.val / 8])
theorem e1_1 : ∀ t : Fin cfg1.N, win1_1.index t = ![0, t.val / 8] := (by decide +kernel : ∀ t : Fin grid1.N, win1_1.index t = ![0, t.val / 8])
theorem e1_2 : ∀ t : Fin cfg1.N, win1_2.index t = ![0, t.val / 8] := (by decide +kernel : ∀ t : Fin grid1.N, win1_2.index t = ![0, t.val / 8])
theorem e1_3 : ∀ t : Fin cfg1.N, win1_3.index t = ![t.val % 8, t.val / 8] := (by decide +kernel : ∀ t : Fin grid1.N, win1_3.index t = ![t.val % 8, t.val / 8])
theorem e1_4 : ∀ t : Fin cfg1.N, win1_4.index t = ![t.val / 8, t.val % 8, 0] := (by decide +kernel : ∀ t : Fin grid1.N, win1_4.index t = ![t.val / 8, t.val % 8, 0])
theorem e1_5 : ∀ t : Fin cfg1.N, win1_5.index t = ![t.val % 8, t.val / 8] := (by decide +kernel : ∀ t : Fin grid1.N, win1_5.index t = ![t.val % 8, t.val / 8])
theorem e1_6 : ∀ t : Fin cfg1.N, win1_6.index t = ![t.val % 8, t.val / 8] := (by decide +kernel : ∀ t : Fin grid1.N, win1_6.index t = ![t.val % 8, t.val / 8])
theorem e1_7 : ∀ t : Fin cfg1.N, win1_7.index t = ![0, t.val / 8] := (by decide +kernel : ∀ t : Fin grid1.N, win1_7.index t = ![0, t.val / 8])
theorem e1_8 : ∀ t : Fin cfg1.N, win1_8.index t = ![0, t.val / 8] := (by decide +kernel : ∀ t : Fin grid1.N, win1_8.index t = ![0, t.val / 8])

/-- The gradient of the scores of head `h`, of the keys' group `n`. -/
def dsR (q k v g : ℕ → ℕ → ℝ) (n h i j : ℕ) : ℝ := dsc (hd q h) (hd k n) (hd v n) (hd g h) i j

/-- The gradient of the queries. -/
def dqR (q k v g : ℕ → ℕ → ℝ) (i c : ℕ) : ℝ := ∑ j : Fin 4352, dsR q k v g (c / 512) (c / 128) i j * hd k (c / 512) j (c % 128)

/-- What row `i` of head `h` adds to the gradient of the keys. -/
def dkT (q k v g : ℕ → ℕ → ℝ) (n j d h i : ℕ) : ℝ := dsR q k v g n h i j * hd q h i d

/-- What row `i` of head `h` adds to the gradient of the values. -/
def dvT (q k g : ℕ → ℕ → ℝ) (n j d h i : ℕ) : ℝ := pr (hd q h) (hd k n) i j * hd g h i d

/-- The sum over the first `M` rows and the four heads of group `n`. -/
def upto (f : ℕ → ℕ → ℝ) (n M : ℕ) : ℝ := ∑ i ∈ Finset.range M, ∑ a : Fin 4, f (4 * n + a.val) i

/-- The gradient of the keys. -/
def dkR (q k v g : ℕ → ℕ → ℝ) (j c : ℕ) : ℝ := upto (dkT q k v g (c / 128) j (c % 128)) (c / 128) 4096

/-- The gradient of the values. -/
def dvR (q k g : ℕ → ℕ → ℝ) (j c : ℕ) : ℝ := upto (dvT q k g (c / 128) j (c % 128)) (c / 128) 4096

theorem upto_step (f : ℕ → ℕ → ℝ) (n T : ℕ) :
    upto f n (512 * (T + 1)) = upto f n (512 * T) + (∑ i : Fin 512, f (4 * n + (0 : Fin 4).val) (512 * T + i)) + (∑ i : Fin 512, f (4 * n + (1 : Fin 4).val) (512 * T + i))
      + (∑ i : Fin 512, f (4 * n + (2 : Fin 4).val) (512 * T + i)) + (∑ i : Fin 512, f (4 * n + (3 : Fin 4).val) (512 * T + i)) := by
  unfold upto
  rw [Nat.mul_add, Nat.mul_one, Finset.sum_range_add, add_assoc, add_assoc, add_assoc]
  congr 1
  rw [Finset.sum_range (fun x => ∑ a : Fin 4, f (4 * n + a.val) (512 * T + x))]
  simp only [Fin.sum_univ_four, Finset.sum_add_distrib, add_assoc]

section
variable {V : (c : Dev nD) → (b : Ref sig .tc) → Buf (Elt Ideal) ((c : Thread nD τ).loc b)} {c : Dev nD} {q k v g : ℕ → ℕ → ℝ}
  (hq : ∀ i : S4096x1024.Idx, V c main_arg0 i = ((q (i 0) (i 1) : ℝ) : EReal))
  (hk : ∀ i : S4352x256.Idx, V c main_arg1 i = ((k (i 0) (i 1) : ℝ) : EReal))
  (hv : ∀ i : S4352x256.Idx, V c main_arg2 i = ((v (i 0) (i 1) : ℝ) : EReal))
  (hg : ∀ i : S4096x2048.Idx, V c main_arg3 i = ((g (i 0) (i 1) : ℝ) : EReal))
  (ho : ∀ i : S4096x2048.Idx, (i 1).val < 1024 → V c main_v0_0 i = ((oR q k v (i 0) (i 1) : ℝ) : EReal))
  (hl : ∀ i : S2x4096x4.Idx, V c main_v0_1 i = ((lR q k (i 0) (i 1) (i 2) : ℝ) : EReal))

include hq in
theorem blk1_q (t : Fin cfg1.N) (a : Fin 4) (i : Fin 512) (d : Fin 128) :
    cols a (iblk1 (F := Ideal) V c 0 t) (ix2 i d) = ((dn (hd q (4 * (t.val / 8) + a.val)) (512 * (t.val % 8)) i d : ℝ) : EReal) := by
  unfold cols
  blk_simp [iblk1, e1_0]
  refine (hq _).trans ?_
  unfold hd dn
  congr 2
  · blk_simp [e1_0]
    show t.val % 8 * 512 + i.val = _
    omega
  · blk_simp [e1_0]
    show t.val / 8 * 512 + (128 * a.val + d.val) = _
    omega

include hg in
theorem blk1_g (t : Fin cfg1.N) (a : Fin 4) (i : Fin 512) (d : Fin 128) :
    cols a (iblk1 (F := Ideal) V c 5 t) (ix2 i d) = ((dn (hd g (4 * (t.val / 8) + a.val)) (512 * (t.val % 8)) i d : ℝ) : EReal) := by
  unfold cols
  blk_simp [iblk1, e1_5]
  refine (hg _).trans ?_
  unfold hd dn
  congr 2
  · blk_simp [e1_5]
    show t.val % 8 * 512 + i.val = _
    omega
  · blk_simp [e1_5]
    show t.val / 8 * 512 + (128 * a.val + d.val) = _
    omega

include hk in
theorem blk1_k (t : Fin cfg1.N) (j : Fin 4352) (d : Fin 128) :
    iblk1 (F := Ideal) V c 1 t (ix2 j d) = ((hd k (t.val / 8) j d : ℝ) : EReal) := by
  blk_simp [iblk1, e1_1]
  refine (hk _).trans ?_
  unfold hd
  congr 2
  · blk_simp [e1_1]
  · blk_simp [e1_1]
    show t.val / 8 * 128 + d.val = _
    omega

include hv in
theorem blk1_v (t : Fin cfg1.N) (j : Fin 4352) (d : Fin 128) :
    iblk1 (F := Ideal) V c 2 t (ix2 j d) = ((hd v (t.val / 8) j d : ℝ) : EReal) := by
  blk_simp [iblk1, e1_2]
  refine (hv _).trans ?_
  unfold hd
  congr 2
  · blk_simp [e1_2]
  · blk_simp [e1_2]
    show t.val / 8 * 128 + d.val = _
    omega

include ho in
theorem blk1_o (t : Fin cfg1.N) (a : Fin 4) (i : Fin 512) (d : Fin 128) :
    cols a (iblk1 (F := Ideal) V c 3 t) (ix2 i d)
      = ((ot (dn (hd q (4 * (t.val / 8) + a.val)) (512 * (t.val % 8))) (hd k (t.val / 8)) (hd v (t.val / 8)) i d : ℝ) : EReal) := by
  have ht : t.val < 16 := t.isLt.trans_eq N_1
  have ha : a.val < 4 := a.isLt
  have hd' : d.val < 128 := d.isLt
  unfold cols
  blk_simp [iblk1, e1_3]
  refine (ho _ ?_).trans ?_
  · blk_simp [e1_3]
    show t.val / 8 * 512 + (128 * a.val + d.val) < 1024
    omega
  · unfold oR
    blk_simp [e1_3]
    have e1 : t.val / 8 * 512 + (128 * a.val + d.val) = 128 * (4 * (t.val / 8) + a.val) + d.val := by omega
    show ((ot (hd q ((t.val / 8 * 512 + (128 * a.val + d.val)) / 128)) (hd k ((t.val / 8 * 512 + (128 * a.val + d.val)) / 512))
      (hd v ((t.val / 8 * 512 + (128 * a.val + d.val)) / 512)) (t.val % 8 * 512 + i.val) ((t.val / 8 * 512 + (128 * a.val + d.val)) % 128) : ℝ) : EReal) = _
    rw [show (t.val / 8 * 512 + (128 * a.val + d.val)) / 128 = 4 * (t.val / 8) + a.val by omega,
      show (t.val / 8 * 512 + (128 * a.val + d.val)) / 512 = t.val / 8 by omega,
      show (t.val / 8 * 512 + (128 * a.val + d.val)) % 128 = d.val by omega, Nat.mul_comm (t.val % 8) 512]
    rfl

include hl in
theorem blk1_l (t : Fin cfg1.N) (a : Fin 4) (i : Fin 512) :
    lcol a (iblk1 (F := Ideal) V c 4 t) (ix3 0 i 0)
      = ((Real.log (Zs (dn (hd q (4 * (t.val / 8) + a.val)) (512 * (t.val % 8))) (hd k (t.val / 8)) i) * (Real.log 2)⁻¹ : ℝ) : EReal) := by
  unfold lcol
  blk_simp [iblk1, e1_4]
  refine (hl _).trans ?_
  unfold lR
  blk_simp [e1_4]
  show ((Real.log (Zs (hd q (4 * (t.val / 8) + a.val)) (hd k (t.val / 8)) (t.val % 8 * 512 + i.val)) * (Real.log 2)⁻¹ : ℝ) : EReal) = _
  rw [Nat.mul_comm (t.val % 8) 512]
  rfl

include hq hk hv hg ho hl in
theorem dkStep_val (t : Fin cfg1.N) (a : Fin 4) (old : Vec Ideal S4352x128 .f32) (j : Fin 4352) (d : Fin 128) :
    dkStep (iblk1 V c 0 t) (iblk1 V c 1 t) (iblk1 V c 2 t) (iblk1 V c 3 t) (iblk1 V c 4 t) (iblk1 V c 5 t) a old (ix2 j d)
      = old (ix2 j d) + ((∑ i : Fin 512, dkT q k v g (t.val / 8) j d (4 * (t.val / 8) + a.val) (512 * (t.val % 8) + i) : ℝ) : EReal) :=
  bwd_dk (blk1_q hq t a) (blk1_k hk t) (blk1_v hv t) (blk1_g hg t a) (blk1_l hl t a) (blk1_o ho t a) old j d

include hq hk hg hl in
theorem dvStep_val (t : Fin cfg1.N) (a : Fin 4) (old : Vec Ideal S4352x128 .f32) (j : Fin 4352) (d : Fin 128) :
    dvStep (iblk1 V c 0 t) (iblk1 V c 1 t) (iblk1 V c 4 t) (iblk1 V c 5 t) a old (ix2 j d)
      = old (ix2 j d) + ((∑ i : Fin 512, dvT q k g (t.val / 8) j d (4 * (t.val / 8) + a.val) (512 * (t.val % 8) + i) : ℝ) : EReal) :=
  bwd_dv (blk1_q hq t a) (blk1_k hk t) (blk1_g hg t a) (blk1_l hl t a) old j d

theorem zero_pay5 (y) : k1_pay5 (F := Ideal) y = ((0 : ℝ) : EReal) := ofBits_zero
theorem zero_pay6 (y) : k1_pay6 (F := Ideal) y = ((0 : ℝ) : EReal) := ofBits_zero

/-- Four steps on a real accumulator. -/
theorem four_steps {S : Fin 4 → Vec Ideal S4352x128 .f32 → Vec Ideal S4352x128 .f32} {f : ℕ → ℕ → ℝ} {n T : ℕ} {y : S4352x128.Idx}
    (hS : ∀ a old, S a old y = old y + ((∑ i : Fin 512, f (4 * n + a.val) (512 * T + i) : ℝ) : EReal))
    (old : Vec Ideal S4352x128 .f32) (h0 : old y = ((upto f n (512 * T) : ℝ) : EReal)) :
    S 3 (S 2 (S 1 (S 0 old))) y = ((upto f n (512 * (T + 1)) : ℝ) : EReal) := by
  rw [hS, hS, hS, hS, h0, upto_step, ← EReal.coe_add, ← EReal.coe_add, ← EReal.coe_add, ← EReal.coe_add]

theorem upto_zero (f : ℕ → ℕ → ℝ) (n : ℕ) : upto f n (512 * 0) = 0 := by simp [upto]

include hq hk hv hg ho hl in
theorem dk_inv (j : Fin 4352) (d : Fin 128) : ∀ (m : ℕ) (hm : m < cfg1.N),
    (outsAt1 V c m hm).2.1 (ix2 j d) = ((upto (dkT q k v g (m / 8) j d) (m / 8) (512 * (m % 8 + 1)) : ℝ) : EReal) := by
  intro m
  induction m with
  | zero =>
    intro hm
    rw [show outsAt1 V c 0 hm = _ from outsAt1_A V c ⟨0, hm⟩ rfl]
    dsimp only
    rw [outA7]
    exact four_steps (fun a old => dkStep_val hq hk hv hg ho hl ⟨0, hm⟩ a old j d) _ ((zero_pay5 _).trans (congrArg _ (upto_zero _ _).symm))
  | succ m ih =>
    intro hm
    by_cases h0 : (m + 1) % 8 = 0
    · rw [show outsAt1 V c (m + 1) hm = _ from outsAt1_A V c ⟨m + 1, hm⟩ h0]
      dsimp only
      rw [outA7]
      refine four_steps (T := (m + 1) % 8) (fun a old => dkStep_val hq hk hv hg ho hl ⟨m + 1, hm⟩ a old j d) _ ?_
      rw [h0]
      exact ((zero_pay5 _).trans (congrArg _ (upto_zero _ _).symm))
    · rw [show outsAt1 V c (m + 1) hm = _ from outsAt1_B V c ⟨m + 1, hm⟩ h0]
      dsimp only
      rw [outB7]
      refine four_steps (T := (m + 1) % 8) (fun a old => dkStep_val hq hk hv hg ho hl ⟨m + 1, hm⟩ a old j d) _ ?_
      refine (ih _).trans ?_
      rw [show (m + 1) / 8 = m / 8 by omega, show (m + 1) % 8 = m % 8 + 1 by omega]

include hq hk hg hl in
theorem dv_inv (j : Fin 4352) (d : Fin 128) : ∀ (m : ℕ) (hm : m < cfg1.N),
    (outsAt1 V c m hm).2.2 (ix2 j d) = ((upto (dvT q k g (m / 8) j d) (m / 8) (512 * (m % 8 + 1)) : ℝ) : EReal) := by
  intro m
  induction m with
  | zero =>
    intro hm
    rw [show outsAt1 V c 0 hm = _ from outsAt1_A V c ⟨0, hm⟩ rfl]
    dsimp only
    rw [outA8]
    exact four_steps (fun a old => dvStep_val hq hk hg hl ⟨0, hm⟩ a old j d) _ ((zero_pay6 _).trans (congrArg _ (upto_zero _ _).symm))
  | succ m ih =>
    intro hm
    by_cases h0 : (m + 1) % 8 = 0
    · rw [show outsAt1 V c (m + 1) hm = _ from outsAt1_A V c ⟨m + 1, hm⟩ h0]
      dsimp only
      rw [outA8]
      refine four_steps (T := (m + 1) % 8) (fun a old => dvStep_val hq hk hg hl ⟨m + 1, hm⟩ a old j d) _ ?_
      rw [h0]
      exact ((zero_pay6 _).trans (congrArg _ (upto_zero _ _).symm))
    · rw [show outsAt1 V c (m + 1) hm = _ from outsAt1_B V c ⟨m + 1, hm⟩ h0]
      dsimp only
      rw [outB8]
      refine four_steps (T := (m + 1) % 8) (fun a old => dvStep_val hq hk hg hl ⟨m + 1, hm⟩ a old j d) _ ?_
      refine (ih _).trans ?_
      rw [show (m + 1) / 8 = m / 8 by omega, show (m + 1) % 8 = m % 8 + 1 by omega]

theorem dq_outs (t : Fin cfg1.N) :
    (outsAt1 (F := Ideal) V c t.val t.isLt).1 = glue (dqHead (iblk1 V c 0 t) (iblk1 V c 1 t) (iblk1 V c 2 t) (iblk1 V c 3 t) (iblk1 V c 4 t) (iblk1 V c 5 t)) := by
  by_cases h0 : t.val % 8 = 0
  · rw [outsAt1_A V c t h0]
    dsimp only
    rw [outA6]
  · rw [outsAt1_B V c t h0]
    dsimp only
    rw [outB6]

include hq hk hv hg ho hl in
theorem dq_arr (i : S4096x1024.Idx) : (dat1 V c).arrAt 6 cfg1.N i = ((dqR q k v g (i 0) (i 1) : ℝ) : EReal) := by
  refine (dat1 V c).arrAt_forall_of_covers 6 (fun i x => x = ((dqR q k v g (i 0) (i 1) : ℝ) : EReal)) (by decide +kernel) (fun t hf y => ?_) i (Memref.isWhole_whole _)
  blk_simp
  rw [after1_6, dq_outs]
  have h1 : (y 1).val < 512 := (y 1).isLt
  refine (bwd_dq (blk1_q hq t _) (blk1_k hk t) (blk1_v hv t) (blk1_g hg t _) (blk1_l hl t _) (blk1_o ho t _) _ _).trans ?_
  unfold dqR dsR
  blk_simp [e1_6]
  rw [show (t.val / 8 * 512 + (y 1).val) / 128 = 4 * (t.val / 8) + (y 1).val / 128 by omega, show (t.val / 8 * 512 + (y 1).val) / 512 = t.val / 8 by omega,
    show (t.val / 8 * 512 + (y 1).val) % 128 = (y 1).val % 128 by omega, Nat.mul_comm (t.val % 8) 512]
  rfl

include hq hk hv hg ho hl in
theorem dk_arr (i : S4352x256.Idx) : (dat1 V c).arrAt 7 cfg1.N i = ((dkR q k v g (i 0) (i 1) : ℝ) : EReal) := by
  refine (dat1 V c).arrAt_forall_of_covers 7 (fun i x => x = ((dkR q k v g (i 0) (i 1) : ℝ) : EReal)) (by decide +kernel) (fun t hf y => ?_) i (Memref.isWhole_whole _)
  have h7 := (flush1_7 t).mp hf
  have h1 : (y 1).val < 128 := (y 1).isLt
  blk_simp
  rw [after1_7]
  refine (congrArg (outsAt1 (F := Ideal) V c t.val t.isLt).2.1 (eq_ix2 (n0 := 4352) (n1 := 128) y)).trans ((dk_inv hq hk hv hg ho hl _ _ t.val t.isLt).trans ?_)
  unfold dkR
  blk_simp [e1_7]
  rw [show (t.val / 8 * 128 + (y 1).val) / 128 = t.val / 8 by omega, show (t.val / 8 * 128 + (y 1).val) % 128 = (y 1).val by omega, h7]

include hq hk hg hl in
theorem dv_arr (i : S4352x256.Idx) : (dat1 V c).arrAt 8 cfg1.N i = ((dvR q k g (i 0) (i 1) : ℝ) : EReal) := by
  refine (dat1 V c).arrAt_forall_of_covers 8 (fun i x => x = ((dvR q k g (i 0) (i 1) : ℝ) : EReal)) (by decide +kernel) (fun t hf y => ?_) i (Memref.isWhole_whole _)
  have h7 := (flush1_8 t).mp hf
  have h1 : (y 1).val < 128 := (y 1).isLt
  blk_simp
  rw [after1_8]
  refine (congrArg (outsAt1 (F := Ideal) V c t.val t.isLt).2.2 (eq_ix2 (n0 := 4352) (n1 := 128) y)).trans ((dv_inv hq hk hg hl _ _ t.val t.isLt).trans ?_)
  unfold dvR
  blk_simp [e1_8]
  rw [show (t.val / 8 * 128 + (y 1).val) / 128 = t.val / 8 by omega, show (t.val / 8 * 128 + (y 1).val) % 128 = (y 1).val by omega, h7]

end

end Cert.Attn

end
-- ==== Proof.KernelRun.lean ====
/- The kernel's run, ending with its three results at what the second call's write-backs leave. -/
module

public import proofs.«01_k».proof.Proof.Gen.KernelIdeal.Frame
public import proofs.«01_k».proof.Proof.BwdArr

@[expose] public section

set_option maxRecDepth 16384

noncomputable section

namespace Cert.Attn

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the run ends with the results at the last boundary's contents and the arguments unchanged. -/
theorem run_results : θ_run defs (onTc (τ := τ) (main (F := F))) ⟨m, fun _ => 0, ρ⟩ (fun r => ∀ c : Dev nD,
      r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_v1_2) = W2 m ρ c (Proc.devRef .tc main_v1_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨h c _ (mem_uc main_v1_0 (by decide)), h c _ (mem_uc main_v1_1 (by decide)), h c _ (mem_uc main_v1_2 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Run

/-- From arguments that are arrays of reals, the run ends with the three gradients. -/
theorem run_grads (m : (ℓ : Loc nD τ sig) → Buf (Elt Ideal) ℓ) (ρ : Dev nD → PrngReg) (q k v g : Dev nD → ℕ → ℕ → ℝ)
    (hq : ∀ c : Dev nD, ∀ i : S4096x1024.Idx, m ((c.tc : Thread nD τ).loc main_arg0) i = ((q c (i 0) (i 1) : ℝ) : EReal))
    (hk : ∀ c : Dev nD, ∀ i : S4352x256.Idx, m ((c.tc : Thread nD τ).loc main_arg1) i = ((k c (i 0) (i 1) : ℝ) : EReal))
    (hv : ∀ c : Dev nD, ∀ i : S4352x256.Idx, m ((c.tc : Thread nD τ).loc main_arg2) i = ((v c (i 0) (i 1) : ℝ) : EReal))
    (hg : ∀ c : Dev nD, ∀ i : S4096x2048.Idx, m ((c.tc : Thread nD τ).loc main_arg3) i = ((g c (i 0) (i 1) : ℝ) : EReal)) :
    θ_run defs (onTc (τ := τ) (main (F := Ideal))) ⟨m, fun _ => 0, ρ⟩ (fun r => ∀ c : Dev nD,
      (∀ i : S4096x1024.Idx, r.2.mem ((c.tc : Thread nD τ).loc main_v1_0) i = ((dqR (q c) (k c) (v c) (g c) (i 0) (i 1) : ℝ) : EReal))
      ∧ (∀ i : S4352x256.Idx, r.2.mem ((c.tc : Thread nD τ).loc main_v1_1) i = ((dkR (q c) (k c) (v c) (g c) (i 0) (i 1) : ℝ) : EReal))
      ∧ (∀ i : S4352x256.Idx, r.2.mem ((c.tc : Thread nD τ).loc main_v1_2) i = ((dvR (q c) (k c) (g c) (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_results m ρ)
  obtain ⟨h0, h1, h2, ha⟩ := h c
  have q0 : ∀ i : S4096x1024.Idx, V0 m ρ c main_arg0 i = ((q c (i 0) (i 1) : ℝ) : EReal) := hq c
  have k0 : ∀ i : S4352x256.Idx, V0 m ρ c main_arg1 i = ((k c (i 0) (i 1) : ℝ) : EReal) := hk c
  have v0 : ∀ i : S4352x256.Idx, V0 m ρ c main_arg2 i = ((v c (i 0) (i 1) : ℝ) : EReal) := hv c
  have q1 : ∀ i : S4096x1024.Idx, V1 m ρ c main_arg0 i = ((q c (i 0) (i 1) : ℝ) : EReal) := fun i =>
    (congrFun (W1_args m ρ c main_arg0 (by decide)) i).trans (hq c i)
  have k1 : ∀ i : S4352x256.Idx, V1 m ρ c main_arg1 i = ((k c (i 0) (i 1) : ℝ) : EReal) := fun i =>
    (congrFun (W1_args m ρ c main_arg1 (by decide)) i).trans (hk c i)
  have v1 : ∀ i : S4352x256.Idx, V1 m ρ c main_arg2 i = ((v c (i 0) (i 1) : ℝ) : EReal) := fun i =>
    (congrFun (W1_args m ρ c main_arg2 (by decide)) i).trans (hv c i)
  have g1 : ∀ i : S4096x2048.Idx, V1 m ρ c main_arg3 i = ((g c (i 0) (i 1) : ℝ) : EReal) := fun i =>
    (congrFun (W1_args m ρ c main_arg3 (by decide)) i).trans (hg c i)
  have o1 : ∀ i : S4096x2048.Idx, (i 1).val < 1024 → V1 m ρ c main_v0_0 i = ((oR (q c) (k c) (v c) (i 0) (i 1) : ℝ) : EReal) := fun i hi =>
    (congrFun (W1_arr m ρ c 3) i).trans (o_arr q0 k0 v0 i hi)
  have l1 : ∀ i : S2x4096x4.Idx, V1 m ρ c main_v0_1 i = ((lR (q c) (k c) (i 0) (i 1) (i 2) : ℝ) : EReal) := fun i =>
    (congrFun (W1_arr m ρ c 4) i).trans (lse_arr q0 k0 i)
  exact ⟨fun i => (congrFun (h0.trans (W2_arr m ρ c 6)) i).trans (dq_arr q1 k1 v1 g1 o1 l1 i),
    fun i => (congrFun (h1.trans (W2_arr m ρ c 7)) i).trans (dk_arr q1 k1 v1 g1 o1 l1 i),
    fun i => (congrFun (h2.trans (W2_arr m ρ c 8)) i).trans (dv_arr q1 k1 g1 l1 i), ha⟩

end Cert.Attn

end
-- ==== Proof.RefVal.lean ====
/- The reference's results at an index, over arrays of reals. -/
module

public import proofs.«01_k».proof.Proof.Gen.ReferenceIdeal.Read
public import proofs.«01_k».proof.Proof.BwdArr
public import Idealize.ShloMosaic.Lib.TwoAxisContraction
public import Idealize.ShloMosaic.Lib.KernelVsHost

@[expose] public section

set_option maxRecDepth 16384

noncomputable section

open Idealize.ShloMosaic Idealize.ShloMosaic.ValueIdx

namespace Cert.Attn.Ref

open Cert.ReferenceIdeal Cert.ReferenceIdeal.Gen Cert.ReferenceIdeal.Facts Cert.ReferenceIdeal.Read

/-! ## The product giving the gradient of the values -/

theorem pv_lhs_0 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.lhsIdx i q 0).val = (i 0).val := by
  unfold DotDims.lhsIdx
  rw [dif_pos (show (0 : Fin S1x2x128x4x4096.rank) ∈ dot_S1x2x128x4x4096_S1x2x4x4096x4352_S1x2x128x4352_34_23_2_4_01_01.lhsBatch by decide)]
  rfl

theorem pv_lhs_1 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.lhsIdx i q 1).val = (i 1).val := by
  unfold DotDims.lhsIdx
  rw [dif_pos (show (1 : Fin S1x2x128x4x4096.rank) ∈ dot_S1x2x128x4x4096_S1x2x4x4096x4352_S1x2x128x4352_34_23_2_4_01_01.lhsBatch by decide)]
  rfl

theorem pv_lhs_2 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.lhsIdx i q 2).val = (i 2).val := by
  unfold DotDims.lhsIdx
  rw [dif_neg (show ¬(2 : Fin S1x2x128x4x4096.rank) ∈ dot_S1x2x128x4x4096_S1x2x4x4096x4352_S1x2x128x4352_34_23_2_4_01_01.lhsBatch by decide), dif_pos (show (2 : Fin S1x2x128x4x4096.rank) ∈ dot_S1x2x128x4x4096_S1x2x4x4096x4352_S1x2x128x4352_34_23_2_4_01_01.lhsNonContracting by decide)]
  rfl

theorem pv_lhs_3 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.lhsIdx i q 3).val = (q ⟨0, by decide⟩).val := by
  unfold DotDims.lhsIdx
  rw [dif_neg (show ¬(3 : Fin S1x2x128x4x4096.rank) ∈ dot_S1x2x128x4x4096_S1x2x4x4096x4352_S1x2x128x4352_34_23_2_4_01_01.lhsBatch by decide), dif_neg (show ¬(3 : Fin S1x2x128x4x4096.rank) ∈ dot_S1x2x128x4x4096_S1x2x4x4096x4352_S1x2x128x4352_34_23_2_4_01_01.lhsNonContracting by decide)]
  rfl

theorem pv_lhs_4 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.lhsIdx i q 4).val = (q ⟨1, by decide⟩).val := by
  unfold DotDims.lhsIdx
  rw [dif_neg (show ¬(4 : Fin S1x2x128x4x4096.rank) ∈ dot_S1x2x128x4x4096_S1x2x4x4096x4352_S1x2x128x4352_34_23_2_4_01_01.lhsBatch by decide), dif_neg (show ¬(4 : Fin S1x2x128x4x4096.rank) ∈ dot_S1x2x128x4x4096_S1x2x4x4096x4352_S1x2x128x4352_34_23_2_4_01_01.lhsNonContracting by decide)]
  rfl

/-- Where the left operand is read. -/
abbrev pv_l (i : S1x2x128x4352.Idx) (a : Fin 4) (b : Fin 4096) : S1x2x128x4x4096.Idx := fun x => match x with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨a.val, a.isLt⟩
  | ⟨4, _⟩ => ⟨b.val, b.isLt⟩

theorem pv_rhs_0 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.rhsIdx i q 0).val = (i 0).val := by
  unfold DotDims.rhsIdx
  rw [dif_pos (show (0 : Fin S1x2x4x4096x4352.rank) ∈ dot_S1x2x128x4x4096_S1x2x4x4096x4352_S1x2x128x4352_34_23_2_4_01_01.rhsBatch by decide)]
  rfl

theorem pv_rhs_1 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.rhsIdx i q 1).val = (i 1).val := by
  unfold DotDims.rhsIdx
  rw [dif_pos (show (1 : Fin S1x2x4x4096x4352.rank) ∈ dot_S1x2x128x4x4096_S1x2x4x4096x4352_S1x2x128x4352_34_23_2_4_01_01.rhsBatch by decide)]
  rfl

theorem pv_rhs_2 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.rhsIdx i q 2).val = (q ⟨0, by decide⟩).val := by
  unfold DotDims.rhsIdx
  rw [dif_neg (show ¬(2 : Fin S1x2x4x4096x4352.rank) ∈ dot_S1x2x128x4x4096_S1x2x4x4096x4352_S1x2x128x4352_34_23_2_4_01_01.rhsBatch by decide), dif_neg (show ¬(2 : Fin S1x2x4x4096x4352.rank) ∈ dot_S1x2x128x4x4096_S1x2x4x4096x4352_S1x2x128x4352_34_23_2_4_01_01.rhsNonContracting by decide)]
  rfl

theorem pv_rhs_3 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.rhsIdx i q 3).val = (q ⟨1, by decide⟩).val := by
  unfold DotDims.rhsIdx
  rw [dif_neg (show ¬(3 : Fin S1x2x4x4096x4352.rank) ∈ dot_S1x2x128x4x4096_S1x2x4x4096x4352_S1x2x128x4352_34_23_2_4_01_01.rhsBatch by decide), dif_neg (show ¬(3 : Fin S1x2x4x4096x4352.rank) ∈ dot_S1x2x128x4x4096_S1x2x4x4096x4352_S1x2x128x4352_34_23_2_4_01_01.rhsNonContracting by decide)]
  rfl

theorem pv_rhs_4 (i : S1x2x128x4352.Idx) (q : dot_S1x2x128x4x4096_S1x2x4x4096x4352_S1x2x128x4352_34_23_2_4_01_01.contr.Idx) :
    (dot_S1x2x128x4x4096_S1x2x4x4096x4352_S1x2x128x4352_34_23_2_4_01_01.rhsIdx i q 4).val = (i 3).val := by
  unfold DotDims.rhsIdx
  rw [dif_neg (show ¬(4 : Fin S1x2x4x4096x4352.rank) ∈ dot_S1x2x128x4x4096_S1x2x4x4096x4352_S1x2x128x4352_34_23_2_4_01_01.rhsBatch by decide), dif_pos (show (4 : Fin S1x2x4x4096x4352.rank) ∈ dot_S1x2x128x4x4096_S1x2x4x4096x4352_S1x2x128x4352_34_23_2_4_01_01.rhsNonContracting by decide)]
  rfl

/-- Where the right operand is read. -/
abbrev pv_r (i : S1x2x128x4352.Idx) (a : Fin 4) (b : Fin 4096) : S1x2x4x4096x4352.Idx := fun x => match x with
  | ⟨0, _⟩ => ⟨(i 0).val, (i 0).isLt⟩
  | ⟨1, _⟩ => ⟨(i 1).val, (i 1).isLt⟩
  | ⟨2, _⟩ => ⟨a.val, a.isLt⟩
  | ⟨3, _⟩ => ⟨b.val, b.isLt⟩
  | ⟨4, _⟩ => ⟨(i 3).val, (i 3).isLt⟩

theorem pv_apply (x : S1x2x128x4x4096.Idx → EReal) (y : S1x2x4x4096x4352.Idx → EReal) (i : S1x2x128x4352.Idx) :
    Host.dotGeneral (F := Ideal) (φ₁ := .f32) (φ₂ := .f32) dot_S1x2x128x4x4096_S1x2x4x4096x4352_S1x2x128x4352_34_23_2_4_01_01 none x y i = ∑ a : Fin 4, ∑ b : Fin 4096, x (pv_l i a b) * y (pv_r i a b) := by
  simp only [Host.dotGeneral]
  rw [Ideal.dotGeneral_apply, sum_contr2 dot_S1x2x128x4x4096_S1x2x4x4096x4352_S1x2x128x4352_34_23_2_4_01_01 4 4096 rfl rfl rfl]
  refine Finset.sum_congr rfl fun a _ => Finset.sum_congr rfl fun b _ => ?_
  have h0 := contrEquiv2_symm_val0 dot_S1x2x128x4x4096_S1x2x4x4096x4352_S1x2x128x4352_34_23_2_4_01_01 4 4096 rfl rfl rfl (a, b)
  have h1 := contrEquiv2_symm_val1 dot_S1x2x128x4x4096_S1x2x4x4096x4352_S1x2x128x4352_34_23_2_4_01_01 4 4096 rfl rfl rfl (a, b)
  have el : dot_S1x2x128x4x4096_S1x2x4x4096x4352_S1x2x128x4352_34_23_2_4_01_01.lhsIdx i ((contrEquiv2 dot_S1x2x128x4x4096_S1x2x4x4096x4352_S1x2x128x4352_34_23_2_4_01_01 4 4096 rfl rfl rfl).symm (a, b)) = pv_l i a b := funext fun x => Fin.ext (by
    match x with
    | ⟨0, _⟩ => exact pv_lhs_0 _ _
    | ⟨1, _⟩ => exact pv_lhs_1 _ _
    | ⟨2, _⟩ => exact pv_lhs_2 _ _
    | ⟨3, _⟩ => exact (pv_lhs_3 _ _).trans h0
    | ⟨4, _⟩ => exact (pv_lhs_4 _ _).trans h1)
  have er : dot_S1x2x128x4x4096_S1x2x4x4096x4352_S1x2x128x4352_34_23_2_4_01_01.rhsIdx i ((contrEquiv2 dot_S1x2x128x4x4096_S1x2x4x4096x4352_S1x2x128x4352_34_23_2_4_01_01 4 4096 rfl rfl rfl).symm (a, b)) = pv_r i a b := funext fun x => Fin.ext (by
    match x with
    | ⟨0, _⟩ => exact pv_rhs_0 _ _
    | ⟨1, _⟩ => exact pv_rhs_1 _ _
    | ⟨2, _⟩ => exact (pv_rhs_2 _ _).trans h0
    | ⟨3, _⟩ => exact (pv_rhs_3 _ _).trans h1
    | ⟨4, _⟩ => exact pv_rhs_4 _ _)
  rw [el, er]

/-! ## The product giving the gradient of the keys -/

theorem qs_lhs_0 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.lhsIdx i q 0).val = (i 0).val := by
  unfold DotDims.lhsIdx
  rw [dif_pos (show (0 : Fin S1x2x4352x4096x4.rank) ∈ dot_S1x2x4352x4096x4_S1x4096x2x4x128_S1x2x4352x128_34_13_2_4_01_02.lhsBatch by decide)]
  rfl

theorem qs_lhs_1 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.lhsIdx i q 1).val = (i 1).val := by
  unfold DotDims.lhsIdx
  rw [dif_pos (show (1 : Fin S1x2x4352x4096x4.rank) ∈ dot_S1x2x4352x4096x4_S1x4096x2x4x128_S1x2x4352x128_34_13_2_4_01_02.lhsBatch by decide)]
  rfl

theorem qs_lhs_2 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.lhsIdx i q 2).val = (i 2).val := by
  unfold DotDims.lhsIdx
  rw [dif_neg (show ¬(2 : Fin S1x2x4352x4096x4.rank) ∈ dot_S1x2x4352x4096x4_S1x4096x2x4x128_S1x2x4352x128_34_13_2_4_01_02.lhsBatch by decide), dif_pos (show (2 : Fin S1x2x4352x4096x4.rank) ∈ dot_S1x2x4352x4096x4_S1x4096x2x4x128_S1x2x4352x128_34_13_2_4_01_02.lhsNonContracting by decide)]
  rfl

theorem qs_lhs_3 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.lhsIdx i q 3).val = (q ⟨0, by decide⟩).val := by
  unfold DotDims.lhsIdx
  rw [dif_neg (show ¬(3 : Fin S1x2x4352x4096x4.rank) ∈ dot_S1x2x4352x4096x4_S1x4096x2x4x128_S1x2x4352x128_34_13_2_4_01_02.lhsBatch by decide), dif_neg (show ¬(3 : Fin S1x2x4352x4096x4.rank) ∈ dot_S1x2x4352x4096x4_S1x4096x2x4x128_S1x2x4352x128_34_13_2_4_01_02.lhsNonContracting by decide)]
  rfl

theorem qs_lhs_4 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.lhsIdx i q 4).val = (q ⟨1, by decide⟩).val := by
  unfold DotDims.lhsIdx
  rw [dif_neg (show ¬(4 : Fin S1x2x4352x4096x4.rank) ∈ dot_S1x2x4352x4096x4_S1x4096x2x4x128_S1x2x4352x128_34_13_2_4_01_02.lhsBatch by decide), dif_neg (show ¬(4 : Fin S1x2x4352x4096x4.rank) ∈ dot_S1x2x4352x4096x4_S1x4096x2x4x128_S1x2x4352x128_34_13_2_4_01_02.lhsNonContracting by decide)]
  rfl

/-- Where the left operand is read. -/
abbrev qs_l (i : S1x2x4352x128.Idx) (a : Fin 4096) (b : Fin 4) : S1x2x4352x4096x4.Idx := fun x => match x with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨a.val, a.isLt⟩
  | ⟨4, _⟩ => ⟨b.val, b.isLt⟩

theorem qs_rhs_0 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.rhsIdx i q 0).val = (i 0).val := by
  unfold DotDims.rhsIdx
  rw [dif_pos (show (0 : Fin S1x4096x2x4x128.rank) ∈ dot_S1x2x4352x4096x4_S1x4096x2x4x128_S1x2x4352x128_34_13_2_4_01_02.rhsBatch by decide)]
  rfl

theorem qs_rhs_1 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.rhsIdx i q 1).val = (q ⟨0, by decide⟩).val := by
  unfold DotDims.rhsIdx
  rw [dif_neg (show ¬(1 : Fin S1x4096x2x4x128.rank) ∈ dot_S1x2x4352x4096x4_S1x4096x2x4x128_S1x2x4352x128_34_13_2_4_01_02.rhsBatch by decide), dif_neg (show ¬(1 : Fin S1x4096x2x4x128.rank) ∈ dot_S1x2x4352x4096x4_S1x4096x2x4x128_S1x2x4352x128_34_13_2_4_01_02.rhsNonContracting by decide)]
  rfl

theorem qs_rhs_2 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.rhsIdx i q 2).val = (i 1).val := by
  unfold DotDims.rhsIdx
  rw [dif_pos (show (2 : Fin S1x4096x2x4x128.rank) ∈ dot_S1x2x4352x4096x4_S1x4096x2x4x128_S1x2x4352x128_34_13_2_4_01_02.rhsBatch by decide)]
  rfl

theorem qs_rhs_3 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.rhsIdx i q 3).val = (q ⟨1, by decide⟩).val := by
  unfold DotDims.rhsIdx
  rw [dif_neg (show ¬(3 : Fin S1x4096x2x4x128.rank) ∈ dot_S1x2x4352x4096x4_S1x4096x2x4x128_S1x2x4352x128_34_13_2_4_01_02.rhsBatch by decide), dif_neg (show ¬(3 : Fin S1x4096x2x4x128.rank) ∈ dot_S1x2x4352x4096x4_S1x4096x2x4x128_S1x2x4352x128_34_13_2_4_01_02.rhsNonContracting by decide)]
  rfl

theorem qs_rhs_4 (i : S1x2x4352x128.Idx) (q : dot_S1x2x4352x4096x4_S1x4096x2x4x128_S1x2x4352x128_34_13_2_4_01_02.contr.Idx) :
    (dot_S1x2x4352x4096x4_S1x4096x2x4x128_S1x2x4352x128_34_13_2_4_01_02.rhsIdx i q 4).val = (i 3).val := by
  unfold DotDims.rhsIdx
  rw [dif_neg (show ¬(4 : Fin S1x4096x2x4x128.rank) ∈ dot_S1x2x4352x4096x4_S1x4096x2x4x128_S1x2x4352x128_34_13_2_4_01_02.rhsBatch by decide), dif_pos (show (4 : Fin S1x4096x2x4x128.rank) ∈ dot_S1x2x4352x4096x4_S1x4096x2x4x128_S1x2x4352x128_34_13_2_4_01_02.rhsNonContracting by decide)]
  rfl

/-- Where the right operand is read. -/
abbrev qs_r (i : S1x2x4352x128.Idx) (a : Fin 4096) (b : Fin 4) : S1x4096x2x4x128.Idx := fun x => match x with
  | ⟨0, _⟩ => ⟨(i 0).val, (i 0).isLt⟩
  | ⟨1, _⟩ => ⟨a.val, a.isLt⟩
  | ⟨2, _⟩ => ⟨(i 1).val, (i 1).isLt⟩
  | ⟨3, _⟩ => ⟨b.val, b.isLt⟩
  | ⟨4, _⟩ => ⟨(i 3).val, (i 3).isLt⟩

theorem qs_apply (x : S1x2x4352x4096x4.Idx → EReal) (y : S1x4096x2x4x128.Idx → EReal) (i : S1x2x4352x128.Idx) :
    Host.dotGeneral (F := Ideal) (φ₁ := .f32) (φ₂ := .f32) dot_S1x2x4352x4096x4_S1x4096x2x4x128_S1x2x4352x128_34_13_2_4_01_02 none x y i = ∑ a : Fin 4096, ∑ b : Fin 4, x (qs_l i a b) * y (qs_r i a b) := by
  simp only [Host.dotGeneral]
  rw [Ideal.dotGeneral_apply, sum_contr2 dot_S1x2x4352x4096x4_S1x4096x2x4x128_S1x2x4352x128_34_13_2_4_01_02 4096 4 rfl rfl rfl]
  refine Finset.sum_congr rfl fun a _ => Finset.sum_congr rfl fun b _ => ?_
  have h0 := contrEquiv2_symm_val0 dot_S1x2x4352x4096x4_S1x4096x2x4x128_S1x2x4352x128_34_13_2_4_01_02 4096 4 rfl rfl rfl (a, b)
  have h1 := contrEquiv2_symm_val1 dot_S1x2x4352x4096x4_S1x4096x2x4x128_S1x2x4352x128_34_13_2_4_01_02 4096 4 rfl rfl rfl (a, b)
  have el : dot_S1x2x4352x4096x4_S1x4096x2x4x128_S1x2x4352x128_34_13_2_4_01_02.lhsIdx i ((contrEquiv2 dot_S1x2x4352x4096x4_S1x4096x2x4x128_S1x2x4352x128_34_13_2_4_01_02 4096 4 rfl rfl rfl).symm (a, b)) = qs_l i a b := funext fun x => Fin.ext (by
    match x with
    | ⟨0, _⟩ => exact qs_lhs_0 _ _
    | ⟨1, _⟩ => exact qs_lhs_1 _ _
    | ⟨2, _⟩ => exact qs_lhs_2 _ _
    | ⟨3, _⟩ => exact (qs_lhs_3 _ _).trans h0
    | ⟨4, _⟩ => exact (qs_lhs_4 _ _).trans h1)
  have er : dot_S1x2x4352x4096x4_S1x4096x2x4x128_S1x2x4352x128_34_13_2_4_01_02.rhsIdx i ((contrEquiv2 dot_S1x2x4352x4096x4_S1x4096x2x4x128_S1x2x4352x128_34_13_2_4_01_02 4096 4 rfl rfl rfl).symm (a, b)) = qs_r i a b := funext fun x => Fin.ext (by
    match x with
    | ⟨0, _⟩ => exact qs_rhs_0 _ _
    | ⟨1, _⟩ => exact (qs_rhs_1 _ _).trans h0
    | ⟨2, _⟩ => exact qs_rhs_2 _ _
    | ⟨3, _⟩ => exact (qs_rhs_3 _ _).trans h1
    | ⟨4, _⟩ => exact qs_rhs_4 _ _)
  rw [el, er]

/-! ## Real identities -/

/-- A double sum of products of reals. -/
theorem sum2_mul_real {n m : ℕ} (x y : Fin n → Fin m → EReal) (f : Fin n → Fin m → ℝ) (h : ∀ a b, x a b * y a b = ((f a b : ℝ) : EReal)) :
    ∑ a, ∑ b, x a b * y a b = ((∑ a, ∑ b, f a b : ℝ) : EReal) := by
  rw [← sum_real]
  refine Finset.sum_congr rfl fun a _ => ?_
  rw [← sum_real]
  exact Finset.sum_congr rfl fun b _ => h a b

theorem div_real (x y : ℝ) (h : y ≠ 0) : Ideal.div (x : EReal) (y : EReal) = ((x / y : ℝ) : EReal) := by
  rw [Ideal.div_coe h, ← EReal.coe_mul, mul_one_div]

section Head

variable (Q K V G : ℕ → ℕ → ℝ)

/-- The row's exponentials less any real. -/
def es (M : ℝ) (i j : ℕ) : ℝ := Real.exp (sc Q K i j - M)

/-- Their sum. -/
def ls (M : ℝ) (i : ℕ) : ℝ := ∑ j : Fin 4352, es Q K M i j

theorem es_eq (M : ℝ) (i j : ℕ) : es Q K M i j = Real.exp (sc Q K i j) * Real.exp (-M) := by
  rw [es, sub_eq_add_neg, Real.exp_add]

theorem ls_eq (M : ℝ) (i : ℕ) : ls Q K M i = Zs Q K i * Real.exp (-M) := by
  rw [ls, Zs, Finset.sum_mul]
  exact Finset.sum_congr rfl fun j _ => es_eq Q K M i j

theorem ls_pos (M : ℝ) (i : ℕ) : 0 < ls Q K M i := by
  rw [ls_eq]
  exact mul_pos (Zs_pos Q K i) (Real.exp_pos _)

theorem es_div_ls (M : ℝ) (i j : ℕ) : es Q K M i j / ls Q K M i = pr Q K i j := by
  rw [es_eq, ls_eq, pr, mul_div_mul_right _ _ (Real.exp_pos _).ne']

/-- The softmax's gradient as the reference takes it. -/
theorem ds_eq (M : ℝ) (i j : ℕ) :
    (dp V G i j / ls Q K M i + -(∑ l : Fin 4352, dp V G i l * (1 / (ls Q K M i * ls Q K M i)) * es Q K M i l)) * es Q K M i j * cS
      = dsc Q K V G i j := by
  have h := (ls_pos Q K M i).ne'
  have e : (∑ l : Fin 4352, dp V G i l * (1 / (ls Q K M i * ls Q K M i)) * es Q K M i l) = dl Q K V G i / ls Q K M i := by
    rw [dl_eq, Finset.sum_div]
    refine Finset.sum_congr rfl fun l _ => ?_
    rw [← es_div_ls Q K M i l]
    field_simp
  rw [e, dsc, ← es_div_ls Q K M i j]
  field_simp
  ring

end Head

/-- A four-axis array of reals as a function of its last three coordinates. -/
theorem exists_rows (x : S1x2x4x4096.Idx → EReal) (h : ∀ i, ∃ r : ℝ, x i = (r : EReal)) :
    ∃ M : ℕ → ℕ → ℕ → ℝ, ∀ i : S1x2x4x4096.Idx, x i = ((M (i 1) (i 2) (i 3) : ℝ) : EReal) := by
  choose f hf using h
  let e : ∀ n a r : ℕ, n < 2 → a < 4 → r < 4096 → S1x2x4x4096.Idx := fun n a r hn ha hr => fun b => match b with
    | ⟨0, _⟩ => ⟨0, Nat.one_pos⟩
    | ⟨1, _⟩ => ⟨n, hn⟩
    | ⟨2, _⟩ => ⟨a, ha⟩
    | ⟨3, _⟩ => ⟨r, hr⟩
  refine ⟨fun n a r => if hr : n < 2 ∧ a < 4 ∧ r < 4096 then f (e n a r hr.1 hr.2.1 hr.2.2) else 0, fun i => ?_⟩
  have hb : (i 1).val < 2 ∧ (i 2).val < 4 ∧ (i 3).val < 4096 := ⟨(i 1).isLt, (i 2).isLt, (i 3).isLt⟩
  show x i = (((if hr : (i 1).val < 2 ∧ (i 2).val < 4 ∧ (i 3).val < 4096 then f (e (i 1) (i 2) (i 3) hr.1 hr.2.1 hr.2.2) else 0 : ℝ)) : EReal)
  rw [dif_pos hb, ← hf]
  refine congrArg x (funext fun b => Fin.ext ?_)
  match b with
  | ⟨0, _⟩ => have h0 : (i 0).val < 1 := (i 0).isLt; show (i 0).val = 0; omega
  | ⟨1, _⟩ => rfl
  | ⟨2, _⟩ => rfl
  | ⟨3, _⟩ => rfl

/-! ## The values -/

section Values

variable {q k v g : ℕ → ℕ → ℝ}
variable {x0 : (⟨S4096x1024, .bf16⟩ : BufTy).Contents (Elt Ideal)} {x1 x2 : (⟨S4352x256, .bf16⟩ : BufTy).Contents (Elt Ideal)}
  {x3 : (⟨S4096x2048, .f32⟩ : BufTy).Contents (Elt Ideal)}

theorem v6_val (hq : ∀ i : S4096x1024.Idx, x0 i = ((q (i 0) (i 1) : ℝ) : EReal)) (i : S1x4096x2x4x128.Idx) :
    val_main_v6 (F := Ideal) x0 i = ((hd q (4 * (i 2).val + (i 3).val) (i 1).val (i 4).val : ℝ) : EReal) := by
  rw [val_main_v6_apply, val_main_v3_apply]
  refine (hq _).trans (congrArg Real.toEReal ?_)
  have h0 : (i 0).val < 1 := (i 0).isLt
  have h1 : (i 1).val < 4096 := (i 1).isLt
  have h2 : (i 2).val < 2 := (i 2).isLt
  have h3 : (i 3).val < 4 := (i 3).isLt
  have h4 : (i 4).val < 128 := (i 4).isLt
  show q ((((0 * 4096 + ((((((i 0).val * 4096 + (i 1).val) * 2 + (i 2).val) * 4 + (i 3).val) * 128 + (i 4).val) / 1024 % 4096)) * 8 + ((((((i 0).val * 4096 + (i 1).val) * 2 + (i 2).val) * 4 + (i 3).val) * 128 + (i 4).val) / 128 % 8)) * 128 + ((((((i 0).val * 4096 + (i 1).val) * 2 + (i 2).val) * 4 + (i 3).val) * 128 + (i 4).val) % 128)) / 1024)
    ((((0 * 4096 + ((((((i 0).val * 4096 + (i 1).val) * 2 + (i 2).val) * 4 + (i 3).val) * 128 + (i 4).val) / 1024 % 4096)) * 8 + ((((((i 0).val * 4096 + (i 1).val) * 2 + (i 2).val) * 4 + (i 3).val) * 128 + (i 4).val) / 128 % 8)) * 128 + ((((((i 0).val * 4096 + (i 1).val) * 2 + (i 2).val) * 4 + (i 3).val) * 128 + (i 4).val) % 128)) % 1024)
    = q (i 1).val (128 * (4 * (i 2).val + (i 3).val) + (i 4).val)
  congr 1 <;> omega

theorem v4_val (hk : ∀ i : S4352x256.Idx, x1 i = ((k (i 0) (i 1) : ℝ) : EReal)) (i : S1x4352x2x128.Idx) :
    val_main_v4 (F := Ideal) x1 i = ((hd k (i 2).val (i 1).val (i 3).val : ℝ) : EReal) := by
  rw [val_main_v4_apply]
  refine (hk _).trans (congrArg Real.toEReal ?_)
  have h0 : (i 0).val < 1 := (i 0).isLt
  have h1 : (i 1).val < 4352 := (i 1).isLt
  have h2 : (i 2).val < 2 := (i 2).isLt
  have h3 : (i 3).val < 128 := (i 3).isLt
  show k (((((i 0).val * 4352 + (i 1).val) * 2 + (i 2).val) * 128 + (i 3).val) / 256) (((((i 0).val * 4352 + (i 1).val) * 2 + (i 2).val) * 128 + (i 3).val) % 256)
    = k (i 1).val (128 * (i 2).val + (i 3).val)
  congr 1 <;> omega

theorem v5_val (hv : ∀ i : S4352x256.Idx, x2 i = ((v (i 0) (i 1) : ℝ) : EReal)) (i : S1x4352x2x128.Idx) :
    val_main_v5 (F := Ideal) x2 i = ((hd v (i 2).val (i 1).val (i 3).val : ℝ) : EReal) := by
  rw [val_main_v5_apply]
  refine (hv _).trans (congrArg Real.toEReal ?_)
  have h0 : (i 0).val < 1 := (i 0).isLt
  have h1 : (i 1).val < 4352 := (i 1).isLt
  have h2 : (i 2).val < 2 := (i 2).isLt
  have h3 : (i 3).val < 128 := (i 3).isLt
  show v (((((i 0).val * 4352 + (i 1).val) * 2 + (i 2).val) * 128 + (i 3).val) / 256) (((((i 0).val * 4352 + (i 1).val) * 2 + (i 2).val) * 128 + (i 3).val) % 256)
    = v (i 1).val (128 * (i 2).val + (i 3).val)
  congr 1 <;> omega

theorem v10_val (hq : ∀ i : S4096x1024.Idx, x0 i = ((q (i 0) (i 1) : ℝ) : EReal)) (hk : ∀ i : S4352x256.Idx, x1 i = ((k (i 0) (i 1) : ℝ) : EReal)) (i : S1x2x4x4096x4352.Idx) :
    val_main_v10 (F := Ideal) x0 x1 i = ((sc (hd q (4 * (i 1).val + (i 2).val)) (hd k (i 1).val) (i 3).val (i 4).val : ℝ) : EReal) := by
  have e : val_main_v8 (F := Ideal) x0 x1 i = ((∑ d : Fin 128, hd q (4 * (i 1).val + (i 2).val) (i 3).val d.val * hd k (i 1).val (i 4).val d.val : ℝ) : EReal) := by
    rw [val_main_v8_apply, val_main_v7_apply]
    refine (sum_mul_real _ _ (fun d : Fin 128 => hd k (i 1).val (i 4).val d.val) (fun d : Fin 128 => hd q (4 * (i 1).val + (i 2).val) (i 3).val d.val)
      (fun d => v4_val hk _) (fun d => v6_val hq _)).trans (congrArg Real.toEReal ?_)
    exact Finset.sum_congr rfl fun d _ => mul_comm _ _
  rw [val_main_v10_apply, e, val_main_v9_apply, val_main_cst_apply]
  show _ * Ideal.ofBits .f32 0x3DB504F3#32 = _
  rw [ofBits_scale, sc, EReal.coe_mul]

theorem host_max (x : FVec Ideal S1x2x4x4096x4352 .f32) (hr : S1x2x4x4096x4352.Reduces [4] S1x2x4x4096) (i : S1x2x4x4096.Idx) (f : Fin 4352 → ℝ)
    (hf : ∀ j : Fin 4352, x (hr.lift i j) = (f j : EReal)) :
    ∃ M : ℝ, Host.reduce FloatOps.maximumf x (constant S_ .f32 0xFF800000#32) reducesTo_S1x2x4x4096x4352_S1x2x4x4096_d4 h_S_ i = (M : EReal) := by
  obtain ⟨M, hM⟩ := fold_max_real f Finset.univ ⟨0, Finset.mem_univ _⟩
  refine ⟨M, ?_⟩
  have e : (x ∘ hr.lift i : Fin 4352 → EReal) = fun j => ((f j : ℝ) : EReal) := funext hf
  have hφ : FKind.Formats .f32 := by decide
  refine (congrFun (hostReduce_maximumf_eq_multiReduction (F := Ideal) (φ := .f32) x 0xFF800000#32 _ _ hr hφ rfl) i).trans ?_
  refine (Ideal.multiReduction_maximumf_single x _ hr _ _ i).trans ?_
  rw [← hM, ← e, ← ofBits_neg_inf]
  rfl

theorem v18_real (hq : ∀ i : S4096x1024.Idx, x0 i = ((q (i 0) (i 1) : ℝ) : EReal)) (hk : ∀ i : S4352x256.Idx, x1 i = ((k (i 0) (i 1) : ℝ) : EReal)) (i : S1x2x4x4096.Idx) : ∃ r : ℝ, val_main_v18 (F := Ideal) x0 x1 i = (r : EReal) := by
  have hr : S1x2x4x4096x4352.Reduces [4] S1x2x4x4096 := by decide
  obtain ⟨M, hM⟩ := host_max (val_main_v10 (F := Ideal) x0 x1) hr i
    (fun j => (fun i : S1x2x4x4096x4352.Idx => sc (hd q (4 * (i 1).val + (i 2).val)) (hd k (i 1).val) (i 3).val (i 4).val) (hr.lift i j)) (fun j => v10_val hq hk _)
  refine ⟨M, ?_⟩
  rw [val_main_v18_apply, show val_main_v11 (F := Ideal) x0 x1 i = (M : EReal) from hM, val_main_v17_apply, val_main_cst_2_apply]
  show max (Ideal.ofBits .f32 0xFF800000#32) (M : EReal) = _
  rw [ofBits_neg_inf]
  exact max_eq_right bot_le

theorem v31_val (hq : ∀ i : S4096x1024.Idx, x0 i = ((q (i 0) (i 1) : ℝ) : EReal)) (hk : ∀ i : S4352x256.Idx, x1 i = ((k (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096x4352.Idx) :
    val_main_v31 (F := Ideal) x0 x1 i = ((es (hd q (4 * (i 1).val + (i 2).val)) (hd k (i 1).val) (M (i 1).val (i 2).val (i 3).val) (i 3).val (i 4).val : ℝ) : EReal) := by
  rw [val_main_v31_apply, val_main_v30_apply, v10_val hq hk, val_main_v29_apply, val_main_v28_apply, hM]
  exact congrArg Ideal.exp (EReal.coe_sub _ _).symm

theorem v32_val (hq : ∀ i : S4096x1024.Idx, x0 i = ((q (i 0) (i 1) : ℝ) : EReal)) (hk : ∀ i : S4352x256.Idx, x1 i = ((k (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096.Idx) :
    val_main_v32 (F := Ideal) x0 x1 i = ((ls (hd q (4 * (i 1).val + (i 2).val)) (hd k (i 1).val) (M (i 1).val (i 2).val (i 3).val) (i 3).val : ℝ) : EReal) := by
  rw [val_main_v32_apply, val_main_cst_8_apply]
  show Ideal.ofBits .f32 0x00000000#32 + _ = _
  rw [ofBits_zero, zero_add, ls, ← sum_real]
  exact Finset.sum_congr rfl fun j _ => v31_val hq hk M hM _

theorem v33_val (hq : ∀ i : S4096x1024.Idx, x0 i = ((q (i 0) (i 1) : ℝ) : EReal)) (hk : ∀ i : S4352x256.Idx, x1 i = ((k (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096x1.Idx) :
    val_main_v33 (F := Ideal) x0 x1 i = ((ls (hd q (4 * (i 1).val + (i 2).val)) (hd k (i 1).val) (M (i 1).val (i 2).val (i 3).val) (i 3).val : ℝ) : EReal) :=
  (val_main_v33_apply x0 x1 i).trans (v32_val hq hk M hM _)

theorem v35_val (hq : ∀ i : S4096x1024.Idx, x0 i = ((q (i 0) (i 1) : ℝ) : EReal)) (hk : ∀ i : S4352x256.Idx, x1 i = ((k (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096x4352.Idx) :
    val_main_v35 (F := Ideal) x0 x1 i = ((pr (hd q (4 * (i 1).val + (i 2).val)) (hd k (i 1).val) (i 3).val (i 4).val : ℝ) : EReal) := by
  rw [val_main_v35_apply, v31_val hq hk M hM, val_main_v34_apply, v33_val hq hk M hM]
  show Ideal.div _ _ = _
  refine (div_real _ _ (ls_pos _ _ _ _).ne').trans (congrArg Real.toEReal ?_)
  exact es_div_ls _ _ _ _ _

theorem v38_val (hq : ∀ i : S4096x1024.Idx, x0 i = ((q (i 0) (i 1) : ℝ) : EReal)) (hk : ∀ i : S4352x256.Idx, x1 i = ((k (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096x1.Idx) :
    val_main_v38 (F := Ideal) x0 x1 i = ((1 / (ls (hd q (4 * (i 1).val + (i 2).val)) (hd k (i 1).val) (M (i 1).val (i 2).val (i 3).val) (i 3).val * ls (hd q (4 * (i 1).val + (i 2).val)) (hd k (i 1).val) (M (i 1).val (i 2).val (i 3).val) (i 3).val) : ℝ) : EReal) := by
  rw [val_main_v38_apply, val_main_v36_apply, v33_val hq hk M hM, val_main_v37_apply, val_main_cst_9_apply]
  show Ideal.div (Ideal.ofBits .f32 0x3F800000#32) (_ * _) = _
  rw [ofBits_one, ← EReal.coe_mul]
  exact div_real 1 _ (mul_pos (ls_pos _ _ _ _) (ls_pos _ _ _ _)).ne'

theorem v46_val (hg : ∀ i : S4096x2048.Idx, x3 i = ((g (i 0) (i 1) : ℝ) : EReal)) (i : S1x2x128x4x4096.Idx) :
    val_main_v46 (F := Ideal) x3 i = ((hd g (4 * (i 1).val + (i 3).val) (i 4).val (i 2).val : ℝ) : EReal) := by
  rw [val_main_v46_apply, val_main_v45_apply, val_main_v44_apply, val_main_v43_apply]
  refine (hg _).trans (congrArg Real.toEReal ?_)
  have h0 : (i 0).val < 1 := (i 0).isLt
  have h1 : (i 1).val < 2 := (i 1).isLt
  have h2 : (i 2).val < 128 := (i 2).isLt
  have h3 : (i 3).val < 4 := (i 3).isLt
  have h4 : (i 4).val < 4096 := (i 4).isLt
  show g ((((((i 0).val * 4096 + (i 4).val) * 2 + (i 1).val) * 4 + (i 3).val) * 128 + (i 2).val) / 1024 % 4096)
    ((((((i 0).val * 4096 + (i 4).val) * 2 + (i 1).val) * 4 + (i 3).val) * 128 + (i 2).val) % 1024) = g (i 4).val (128 * (4 * (i 1).val + (i 3).val) + (i 2).val)
  congr 1 <;> omega

theorem v47_val (hv : ∀ i : S4352x256.Idx, x2 i = ((v (i 0) (i 1) : ℝ) : EReal)) (hg : ∀ i : S4096x2048.Idx, x3 i = ((g (i 0) (i 1) : ℝ) : EReal)) (i : S1x2x4x4096x4352.Idx) :
    val_main_v47 (F := Ideal) x2 x3 i = ((dp (hd v (i 1).val) (hd g (4 * (i 1).val + (i 2).val)) (i 3).val (i 4).val : ℝ) : EReal) := by
  rw [val_main_v47_apply]
  exact sum_mul_real _ _ (fun d : Fin 128 => hd g (4 * (i 1).val + (i 2).val) (i 3).val d.val) (fun d : Fin 128 => hd v (i 1).val (i 4).val d.val)
    (fun d => v46_val hg _) (fun d => v5_val hv _)

/-- The sum the reference subtracts in a row. -/
def rs (q k v g : ℕ → ℕ → ℝ) (M : ℕ → ℕ → ℕ → ℝ) (n a r : ℕ) : ℝ :=
  ∑ l : Fin 4352, dp (hd v n) (hd g (4 * n + a)) r l * (1 / (ls (hd q (4 * n + a)) (hd k n) (M n a r) r * ls (hd q (4 * n + a)) (hd k n) (M n a r) r))
    * es (hd q (4 * n + a)) (hd k n) (M n a r) r l

theorem v53_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096.Idx) :
    val_main_v53 (F := Ideal) x0 x1 x2 x3 i = ((rs q k v g M (i 1).val (i 2).val (i 3).val : ℝ) : EReal) := by
  rw [val_main_v53_apply, val_main_cst_10_apply]
  show Ideal.ofBits .f32 0x00000000#32 + _ = _
  rw [ofBits_zero, zero_add, rs, ← sum_real]
  refine Finset.sum_congr rfl fun l _ => ?_
  rw [val_main_v52_apply, val_main_v51_apply, v47_val hv hg, val_main_v50_apply, v38_val hq hk M hM, v31_val hq hk M hM]
  show (_ * _) * _ = _
  rw [← EReal.coe_mul, ← EReal.coe_mul]

theorem v55_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096x1.Idx) :
    val_main_v55 (F := Ideal) x0 x1 x2 x3 i = ((-rs q k v g M (i 1).val (i 2).val (i 3).val : ℝ) : EReal) := by
  rw [val_main_v55_apply, val_main_v54_apply, v53_val hq hk hv hg M hM]
  show -_ = _
  rw [← EReal.coe_neg]
  refine congrArg Real.toEReal (congrArg Neg.neg ?_)
  have h0 : (i 0).val < 1 := (i 0).isLt
  have h1 : (i 1).val < 2 := (i 1).isLt
  have h2 : (i 2).val < 4 := (i 2).isLt
  have h3 : (i 3).val < 4096 := (i 3).isLt
  have h4 : (i 4).val < 1 := (i 4).isLt
  show rs q k v g M ((((((i 0).val * 2 + (i 1).val) * 4 + (i 2).val) * 4096 + (i 3).val) * 1 + (i 4).val) / 16384 % 2)
    ((((((i 0).val * 2 + (i 1).val) * 4 + (i 2).val) * 4096 + (i 3).val) * 1 + (i 4).val) / 4096 % 4)
    ((((((i 0).val * 2 + (i 1).val) * 4 + (i 2).val) * 4096 + (i 3).val) * 1 + (i 4).val) % 4096) = rs q k v g M (i 1).val (i 2).val (i 3).val
  congr 1 <;> omega

/-- The index of the five-axis array over a three-axis one. -/
abbrev up (i : S2x4x4096.Idx) : S1x2x4x4096x1.Idx := fun a => match a with
  | ⟨0, _⟩ => ⟨0, Nat.one_pos⟩
  | ⟨1, _⟩ => ⟨(i 0).val, (i 0).isLt⟩
  | ⟨2, _⟩ => ⟨(i 1).val, (i 1).isLt⟩
  | ⟨3, _⟩ => ⟨(i 2).val, (i 2).isLt⟩
  | ⟨4, _⟩ => ⟨0, Nat.one_pos⟩

theorem v58_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S2x4x4096.Idx) :
    val_main_v58 (F := Ideal) x0 x1 x2 x3 i = ((-rs q k v g M (i 0).val (i 1).val (i 2).val : ℝ) : EReal) := by
  unfold val_main_v58
  show Ideal.hostReduceAdd reducesTo_S1x2x4x4096x1_S2x4x4096_d0_4 (val_main_v55 (F := Ideal) x0 x1 x2 x3) (val_main_cst_11 (F := Ideal) (Shape.Idx.first h_S_)) i = _
  unfold Ideal.hostReduceAdd
  have e0 : val_main_cst_11 (F := Ideal) (Shape.Idx.first h_S_) = (0 : EReal) := ofBits_zero
  have hup : reducesTo_S1x2x4x4096x1_S2x4x4096_d0_4.drop (up i) = i := funext fun a => Fin.ext (by
    match a with
    | ⟨0, _⟩ => rfl
    | ⟨1, _⟩ => rfl
    | ⟨2, _⟩ => rfl)
  rw [e0, zero_add, Finset.sum_eq_single (up i)]
  · exact v55_val hq hk hv hg M hM _
  · intro b hb hne
    refine absurd (funext fun a => Fin.ext ?_) hne
    have hd' := (Finset.mem_filter.1 hb).2
    match a with
    | ⟨0, _⟩ => have h0 : (b 0).val < 1 := (b 0).isLt; show (b 0).val = 0; omega
    | ⟨1, _⟩ => exact congrArg Fin.val (congrFun hd' 0)
    | ⟨2, _⟩ => exact congrArg Fin.val (congrFun hd' 1)
    | ⟨3, _⟩ => exact congrArg Fin.val (congrFun hd' 2)
    | ⟨4, _⟩ => have h0 : (b 4).val < 1 := (b 4).isLt; show (b 4).val = 0; omega
  · intro h
    exact absurd hup (by simpa using h)

theorem v64_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4x4096x4352.Idx) :
    val_main_v64 (F := Ideal) x0 x1 x2 x3 i = ((dsR q k v g (i 1).val (4 * (i 1).val + (i 2).val) (i 3).val (i 4).val : ℝ) : EReal) := by
  rw [val_main_v64_apply, val_main_v62_apply, val_main_v61_apply, val_main_v57_apply, v47_val hv hg, val_main_v56_apply, v33_val hq hk M hM,
    val_main_v60_apply, val_main_v59_apply, v58_val hq hk hv hg M hM, v31_val hq hk M hM, val_main_v63_apply, val_main_cst_12_apply]
  show ((Ideal.div _ _ + _) * _) * Ideal.ofBits .f32 0x3DB504F3#32 = _
  rw [ofBits_scale, div_real _ _ (ls_pos _ _ _ _).ne', ← EReal.coe_add, ← EReal.coe_mul, ← EReal.coe_mul]
  exact congrArg Real.toEReal (ds_eq (hd q (4 * (i 1).val + (i 2).val)) (hd k (i 1).val) (hd v (i 1).val) (hd g (4 * (i 1).val + (i 2).val)) (M (i 1).val (i 2).val (i 3).val) (i 3).val (i 4).val)

theorem v66_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4096x4x128.Idx) :
    val_main_v66 (F := Ideal) x0 x1 x2 x3 i
      = ((∑ j : Fin 4352, dsR q k v g (i 1).val (4 * (i 1).val + (i 3).val) (i 2).val j * hd k (i 1).val j.val (i 4).val : ℝ) : EReal) := by
  rw [val_main_v66_apply]
  refine sum_mul_real _ _ (fun j : Fin 4352 => dsR q k v g (i 1).val (4 * (i 1).val + (i 3).val) (i 2).val j) (fun j : Fin 4352 => hd k (i 1).val j.val (i 4).val)
    (fun j => ?_) (fun j => v4_val hk _)
  exact (val_main_v65_apply x0 x1 x2 x3 _).trans (v64_val hq hk hv hg M hM _)

theorem v68_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x4352x128.Idx) :
    val_main_v68 (F := Ideal) x0 x1 x2 x3 i = ((upto (dkT q k v g (i 1).val (i 2).val (i 3).val) (i 1).val 4096 : ℝ) : EReal) := by
  unfold val_main_v68
  refine (qs_apply _ _ i).trans ?_
  refine (sum2_mul_real _ _ (fun (r : Fin 4096) (a : Fin 4) => dkT q k v g (i 1).val (i 2).val (i 3).val (4 * (i 1).val + a.val) r.val) fun r a => ?_).trans
    (congrArg Real.toEReal ?_)
  · rw [val_main_v65_apply, v64_val hq hk hv hg M hM, v6_val hq, ← EReal.coe_mul]
    rfl
  · rw [upto, Finset.sum_range]

theorem v48_val (hq : ∀ i : S4096x1024.Idx, x0 i = ((q (i 0) (i 1) : ℝ) : EReal)) (hk : ∀ i : S4352x256.Idx, x1 i = ((k (i 0) (i 1) : ℝ) : EReal)) (hg : ∀ i : S4096x2048.Idx, x3 i = ((g (i 0) (i 1) : ℝ) : EReal)) (M : ℕ → ℕ → ℕ → ℝ) (hM : ∀ i : S1x2x4x4096.Idx, val_main_v18 (F := Ideal) x0 x1 i = ((M (i 1) (i 2) (i 3) : ℝ) : EReal)) (i : S1x2x128x4352.Idx) :
    val_main_v48 (F := Ideal) x0 x1 x3 i = ((upto (dvT q k g (i 1).val (i 3).val (i 2).val) (i 1).val 4096 : ℝ) : EReal) := by
  unfold val_main_v48
  refine (pv_apply _ _ i).trans ?_
  refine (sum2_mul_real _ _ (fun (a : Fin 4) (r : Fin 4096) => dvT q k g (i 1).val (i 3).val (i 2).val (4 * (i 1).val + a.val) r.val) fun a r => ?_).trans
    (congrArg Real.toEReal ?_)
  · rw [v46_val hg, v35_val hq hk M hM, ← EReal.coe_mul]
    exact congrArg Real.toEReal (mul_comm _ _)
  · rw [upto, Finset.sum_range, Finset.sum_comm]

/-! ## The three results -/

theorem dq_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (i : S4096x1024.Idx) :
    val_main_v73 (F := Ideal) x0 x1 x2 x3 i = ((dqR q k v g (i 0) (i 1) : ℝ) : EReal) := by
  obtain ⟨M, hM⟩ := exists_rows _ (v18_real hq hk)
  rw [val_main_v73_apply, val_main_v70_apply, val_main_v67_apply, v66_val hq hk hv hg M hM]
  refine congrArg Real.toEReal ?_
  have h0 : (i 0).val < 4096 := (i 0).isLt
  have h1 : (i 1).val < 1024 := (i 1).isLt
  obtain ⟨r, hr⟩ : ∃ r, r = (i 0).val := ⟨_, rfl⟩
  obtain ⟨c, hc⟩ : ∃ c, c = (i 1).val := ⟨_, rfl⟩
  have key : ∀ n a s d : ℕ, n = c / 512 → a = c / 128 % 4 → s = r → d = c % 128 →
      (∑ j : Fin 4352, dsR q k v g n (4 * n + a) s j * hd k n j.val d) = dqR q k v g r c := by
    rintro n a s d rfl rfl rfl rfl
    rw [dqR, show 4 * (c / 512) + c / 128 % 4 = c / 128 by omega]
  rw [← hr, ← hc]
  refine key _ _ _ _ ?_ ?_ ?_ ?_
  · show (((0 * 4096 + ((i 0).val * 1024 + (i 1).val) / 1024 % 4096) * 8 + ((i 0).val * 1024 + (i 1).val) / 128 % 8) * 128 + ((i 0).val * 1024 + (i 1).val) % 128) / 512 % 2 = c / 512
    omega
  · show (((0 * 4096 + ((i 0).val * 1024 + (i 1).val) / 1024 % 4096) * 8 + ((i 0).val * 1024 + (i 1).val) / 128 % 8) * 128 + ((i 0).val * 1024 + (i 1).val) % 128) / 128 % 4 = c / 128 % 4
    omega
  · show (((0 * 4096 + ((i 0).val * 1024 + (i 1).val) / 1024 % 4096) * 8 + ((i 0).val * 1024 + (i 1).val) / 128 % 8) * 128 + ((i 0).val * 1024 + (i 1).val) % 128) / 1024 % 4096 = r
    omega
  · show (((0 * 4096 + ((i 0).val * 1024 + (i 1).val) / 1024 % 4096) * 8 + ((i 0).val * 1024 + (i 1).val) / 128 % 8) * 128 + ((i 0).val * 1024 + (i 1).val) % 128) % 128 = c % 128
    omega

theorem dk_val (hq : ∀ i : S4096x1024.Idx, x0 i = ((q (i 0) (i 1) : ℝ) : EReal)) (hk : ∀ i : S4352x256.Idx, x1 i = ((k (i 0) (i 1) : ℝ) : EReal)) (hv : ∀ i : S4352x256.Idx, x2 i = ((v (i 0) (i 1) : ℝ) : EReal)) (hg : ∀ i : S4096x2048.Idx, x3 i = ((g (i 0) (i 1) : ℝ) : EReal)) (i : S4352x256.Idx) :
    val_main_v72 (F := Ideal) x0 x1 x2 x3 i = ((dkR q k v g (i 0) (i 1) : ℝ) : EReal) := by
  obtain ⟨M, hM⟩ := exists_rows _ (v18_real hq hk)
  rw [val_main_v72_apply, val_main_v69_apply, v68_val hq hk hv hg M hM]
  refine congrArg Real.toEReal ?_
  have h0 : (i 0).val < 4352 := (i 0).isLt
  have h1 : (i 1).val < 256 := (i 1).isLt
  have key : ∀ n j d : ℕ, n = (i 1).val / 128 → j = (i 0).val → d = (i 1).val % 128 →
      upto (dkT q k v g n j d) n 4096 = dkR q k v g (i 0).val (i 1).val := by
    rintro n j d rfl rfl rfl
    rfl
  refine key _ _ _ ?_ ?_ ?_
  · show ((i 0).val * 256 + (i 1).val) / 128 % 2 = (i 1).val / 128
    omega
  · show ((i 0).val * 256 + (i 1).val) / 256 % 4352 = (i 0).val
    omega
  · show ((i 0).val * 256 + (i 1).val) % 128 = (i 1).val % 128
    omega

theorem dv_val (hq : ∀ i : S4096x1024.Idx, x0 i = ((q (i 0) (i 1) : ℝ) : EReal)) (hk : ∀ i : S4352x256.Idx, x1 i = ((k (i 0) (i 1) : ℝ) : EReal)) (hg : ∀ i : S4096x2048.Idx, x3 i = ((g (i 0) (i 1) : ℝ) : EReal)) (i : S4352x256.Idx) :
    val_main_v71 (F := Ideal) x0 x1 x3 i = ((dvR q k g (i 0) (i 1) : ℝ) : EReal) := by
  obtain ⟨M, hM⟩ := exists_rows _ (v18_real hq hk)
  rw [val_main_v71_apply, val_main_v49_apply, v48_val hq hk hg M hM]
  refine congrArg Real.toEReal ?_
  have h0 : (i 0).val < 4352 := (i 0).isLt
  have h1 : (i 1).val < 256 := (i 1).isLt
  have key : ∀ n j d : ℕ, n = (i 1).val / 128 → j = (i 0).val → d = (i 1).val % 128 →
      upto (dvT q k g n j d) n 4096 = dvR q k g (i 0).val (i 1).val := by
    rintro n j d rfl rfl rfl
    rfl
  refine key _ _ _ ?_ ?_ ?_
  · show ((i 0).val * 256 + (i 1).val) / 128 % 2 = (i 1).val / 128
    omega
  · show ((i 0).val * 256 + (i 1).val) / 256 % 4352 = (i 0).val
    omega
  · show ((i 0).val * 256 + (i 1).val) % 128 = (i 1).val % 128
    omega

end Values

end Cert.Attn.Ref

end
-- ==== Proof.Mm.lean ====
/- Products over the extended reals: one block's product at an index, and a long contraction summed block by block. -/
module

public import Idealize.ShloMosaic.PureOps.Ideal
public import Idealize.ShloMosaic.Lib.ValueIdx
public import Idealize.ShloMosaic.Lib.MatmulPlain
public import Idealize.ShloMosaic.Lib.ValueLayout

@[expose] public section

set_option maxRecDepth 16384

noncomputable section

open Idealize.ShloMosaic Idealize.ShloMosaic.ValueIdx

namespace Cert.Mm

theorem hz2 : (![0, 0] : Fin 2 → Nat) = fun _ => 0 := funext fun a => by fin_cases a <;> rfl

theorem hz3 : (![0, 0, 0] : Fin 3 → Nat) = fun _ => 0 := funext fun a => by fin_cases a <;> rfl

theorem word_zero : Ideal.ofBits .f32 0x00000000#32 = 0 := Ideal.ofBits_zero_f32

/-- The first `n + 1` runs of `b` terms are the first `n` runs and one more. -/
theorem sum_run (f : ℕ → EReal) (b n : ℕ) :
    ∑ k ∈ Finset.range (b * n), f k + ∑ k : Fin b, f (b * n + k) = ∑ k ∈ Finset.range (b * (n + 1)), f k := by
  rw [Nat.mul_succ, Finset.sum_range_add]
  exact congrArg _ (Fin.sum_univ_eq_sum_range (fun k => f (b * n + k)) b)

/-- Two runs of `b` terms, one after the other, are one run of twice as many. -/
theorem two_runs (f : ℕ → EReal) (a b n : ℕ) (h : n = b + b) :
    ∑ k : Fin b, f (a + k) + ∑ k : Fin b, f (a + (b + k)) = ∑ k : Fin n, f (a + k) := by
  subst h
  rw [Fin.sum_univ_eq_sum_range (fun k => f (a + k)), Fin.sum_univ_eq_sum_range (fun k => f (a + (b + k))),
    Fin.sum_univ_eq_sum_range (fun k => f (a + k)), Finset.sum_range_add]

/-- A buffer reset at every `p`-th point and holding, after each point, what it held before and one more run of `b`
    terms: after point `n` it holds the first `n % p + 1` runs. -/
theorem acc_inv {N : ℕ} {α : Type} (p b : ℕ) (hp : 0 < p) (s : ∀ n, n < N → α → EReal) (f : ℕ → α → ℕ → EReal)
    (h0 : ∀ n h x, n % p = 0 → s n h x = ∑ k : Fin b, f (n / p) x (b * (n % p) + k))
    (h1 : ∀ n h x, ¬n % p = 0 → s n h x = s (n - 1) (Nat.lt_of_le_of_lt (Nat.sub_le _ _) h) x + ∑ k : Fin b, f (n / p) x (b * (n % p) + k)) :
    ∀ n h x, s n h x = ∑ k ∈ Finset.range (b * (n % p + 1)), f (n / p) x k := by
  intro n
  induction n with
  | zero =>
    intro h x
    rw [h0 0 h x (Nat.zero_mod p), ← sum_run, Nat.zero_mod, Nat.mul_zero, Finset.sum_range_zero, zero_add]
  | succ n ih =>
    intro h x
    by_cases hn : (n + 1) % p = 0
    · rw [h0 _ h x hn, ← sum_run, hn, Nat.mul_zero, Finset.sum_range_zero, zero_add]
    · have hl' : n < N := Nat.lt_of_succ_lt h
      have hm : (n + 1) % p = n % p + 1 := by
        rcases Nat.lt_or_ge (n % p + 1) p with hl | hl
        · rw [Nat.add_mod, Nat.mod_eq_of_lt (show 1 < p by omega), Nat.mod_eq_of_lt hl]
        · exfalso
          have hlt := Nat.mod_lt n hp
          refine hn (Nat.mod_eq_zero_of_dvd ⟨n / p + 1, ?_⟩)
          have := Nat.div_add_mod n p
          rw [Nat.mul_add, Nat.mul_one]
          omega
      have hd : (n + 1) / p = n / p := by
        have e1 := Nat.div_add_mod (n + 1) p
        have e2 := Nat.div_add_mod n p
        have : p * ((n + 1) / p) = p * (n / p) := by omega
        exact Nat.eq_of_mul_eq_mul_left hp this
      rw [h1 _ h x hn, hd, hm]
      exact (congrArg (· + _) (ih hl' x)).trans (sum_run _ _ _)

/-- An array of two axes as a function of two numbers. -/
theorem total2 {M K : ℕ} (x : (⟨2, ![M, K]⟩ : Shape).Idx → EReal) : ∃ A : ℕ → ℕ → EReal, ∀ i, x i = A (i 0).val (i 1).val := by
  refine ⟨fun a b => if h : a < M ∧ b < K then x (ix2 ⟨a, h.1⟩ ⟨b, h.2⟩) else 0, fun i => ?_⟩
  have h0 : (i 0).val < M := (i 0).isLt
  have h1 : (i 1).val < K := (i 1).isLt
  refine (congrArg x (eq_ix2 i)).trans ?_
  show _ = dite ((i 0).val < M ∧ (i 1).val < K) _ _
  rw [dif_pos ⟨h0, h1⟩]
  rfl

/-- Weights of `n * b` columns laid out as `n` blocks of `b` columns, one after another. -/
theorem stacked_apply {M n b : ℕ} (x : (⟨2, ![M, n * b]⟩ : Shape).Idx → EReal) (hs : (⟨2, ![M, n * b]⟩ : Shape).ShapeCasts ⟨3, ![M, n, b]⟩)
    (ht : (⟨3, ![M, n, b]⟩ : Shape).Transposes [1, 0, 2] ⟨3, ![n, M, b]⟩) (B : ℕ → ℕ → EReal) (hB : ∀ i, x i = B (i 0).val (i 1).val)
    (i : (⟨3, ![n, M, b]⟩ : Shape).Idx) :
    transpose ⟨3, ![n, M, b]⟩ [1, 0, 2] (shapeCast ⟨3, ![M, n, b]⟩ x hs) ht i = B (i 1).val (b * (i 0).val + (i 2).val) := by
  have h0 : (i 0).val < n := (i 0).isLt
  have h1 : (i 1).val < M := (i 1).isLt
  have h2 : (i 2).val < b := (i 2).isLt
  have hc : b * (i 0).val + (i 2).val < n * b := by
    calc b * (i 0).val + (i 2).val < b * (i 0).val + b := by omega
      _ = b * ((i 0).val + 1) := by ring
      _ ≤ b * n := Nat.mul_le_mul_left b h0
      _ = n * b := Nat.mul_comm b n
  refine (transpose_apply [1, 0, 2] _ ht i (ix3 (n0 := M) (n1 := n) (n2 := b) ⟨(i 1).val, h1⟩ ⟨(i 0).val, h0⟩ ⟨(i 2).val, h2⟩) (fun a => match a with
    | ⟨0, _⟩ => rfl
    | ⟨1, _⟩ => rfl
    | ⟨2, _⟩ => rfl)).trans ?_
  refine (shapeCast_apply x hs _ (ix2 (n0 := M) (n1 := n * b) ⟨(i 1).val, h1⟩ ⟨b * (i 0).val + (i 2).val, hc⟩) ?_).trans (hB _)
  rw [Shape.rowMajor_val_two, Shape.rowMajor_val_three]
  show (i 1).val * (n * b) + (b * (i 0).val + (i 2).val) = ((i 1).val * n + (i 0).val) * b + (i 2).val
  ring

/-- Rows of the left operand by columns of the right one. -/
theorem nn {φ₁ φ₂ : FTy} {M K N : ℕ} (D : DotDims ⟨2, ![M, K]⟩ ⟨2, ![K, N]⟩ ⟨2, ![M, N]⟩) (hD : D = DotDims.plain M K N)
    (x : FVec Ideal ⟨2, ![M, K]⟩ φ₁) (y : FVec Ideal ⟨2, ![K, N]⟩ φ₂) (i : Fin M) (j : Fin N) :
    matmul D none x y (constant ⟨2, ![M, N]⟩ .f32 0x00000000#32) (ix2 i j) = ∑ k : Fin K, x (ix2 i k) * y (ix2 k j) := by
  subst hD
  refine (Ideal.matmul_plain_apply none x y _ i j).trans ?_
  show Ideal.ofBits .f32 0x00000000#32 + _ = _
  rw [word_zero, zero_add]

/-- Rows of the left operand by rows of the right one. -/
theorem nt {φ₁ φ₂ : FTy} {M K N : ℕ} (D : DotDims ⟨2, ![M, K]⟩ ⟨2, ![N, K]⟩ ⟨2, ![M, N]⟩) (hD : D = DotDims.transposedRhs M K N)
    (x : FVec Ideal ⟨2, ![M, K]⟩ φ₁) (y : FVec Ideal ⟨2, ![N, K]⟩ φ₂) (i : Fin M) (j : Fin N) :
    matmul D none x y (constant ⟨2, ![M, N]⟩ .f32 0x00000000#32) (ix2 i j) = ∑ k : Fin K, x (ix2 i k) * y (ix2 j k) := by
  subst hD
  refine (Ideal.matmul_transposedRhs_apply none x y _ i j).trans ?_
  show Ideal.ofBits .f32 0x00000000#32 + _ = _
  rw [word_zero, zero_add]

/-- Columns of the left operand by columns of the right one. -/
theorem tn {φ₁ φ₂ : FTy} {M K N : ℕ} (wf : DotDims.WF ⟨2, ![K, M]⟩ ⟨2, ![K, N]⟩ ⟨2, ![M, N]⟩ [0] [0] [1] [1] [] [])
    (D : DotDims ⟨2, ![K, M]⟩ ⟨2, ![K, N]⟩ ⟨2, ![M, N]⟩) (hD : D = ⟨[0], [0], [1], [1], [], [], wf⟩)
    (x : FVec Ideal ⟨2, ![K, M]⟩ φ₁) (y : FVec Ideal ⟨2, ![K, N]⟩ φ₂) (i : Fin M) (j : Fin N) :
    matmul D none x y (constant ⟨2, ![M, N]⟩ .f32 0x00000000#32) (ix2 i j) = ∑ k : Fin K, x (ix2 k i) * y (ix2 k j) := by
  have hr : D.contr.rank = 1 := by rw [hD]; rfl
  have hs : D.contr.size ⟨0, by rw [hr]; exact Nat.one_pos⟩ = K := by subst hD; rfl
  show FloatOps.matmul D none x y (constant ⟨2, ![M, N]⟩ .f32 0x00000000#32) (ix2 i j) = _
  rw [Ideal.matmul_apply, ← Equiv.sum_comp (contrEquiv1 D K hr hs).symm]
  show Ideal.ofBits .f32 0x00000000#32 + _ = _
  rw [word_zero, zero_add]
  refine Finset.sum_congr rfl fun k _ => ?_
  have hk := contrEquiv1_symm_val D K hr hs k
  have el : D.lhsIdx (ix2 i j) ((contrEquiv1 D K hr hs).symm k) = ix2 k i := by
    subst hD
    funext a; apply Fin.ext
    match a with
    | ⟨0, _⟩ => exact hk
    | ⟨1, _⟩ => rfl
  have er : D.rhsIdx (ix2 i j) ((contrEquiv1 D K hr hs).symm k) = ix2 k j := by
    subst hD
    funext a; apply Fin.ext
    match a with
    | ⟨0, _⟩ => exact hk
    | ⟨1, _⟩ => rfl
  rw [el, er]

end Cert.Mm

end
-- ==== Proof.FfnVal.lean ====
/- The feed-forward block's two calls without a carried sum: the squared ReLU of a product, and its gradient, which reads the first
   call's ReLU. As the kernel computes them and as the reference states them. -/
module

public import proofs.«01_k».proof.Defs
public import proofs.«01_k».proof.Proof.Mm
public import proofs.«01_k».proof.Proof.Gen.FfnIdeal.Frame
public import proofs.«01_k».proof.Proof.Gen.FfnRefIdeal.Run
public import proofs.«01_k».proof.Proof.Gen.FfnRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.FfnVal

open Cert.FfnIdeal Cert.FfnIdeal.Gen Cert.FfnIdeal.Facts Cert.Mm

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the run ends with the two results at the last boundary's contents and the arguments unchanged. -/
theorem run_results : θ_run defs (onTc (τ := τ) (main (F := F))) ⟨m, fun _ => 0, ρ⟩ (fun r => ∀ c : Dev nD,
      r.2.mem ((c.tc : Thread nD τ).loc main_v2_1) = W3 m ρ c (Proc.devRef .tc main_v2_1)
      ∧ r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v2_1 (by decide)), h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Run

open Idealize.ShloMosaic Idealize.ShloMosaic.TcCoe Idealize.SL.Sem Idealize.ShloMosaic.ValueIdx

section
variable {F : FTy → Type} [FloatOps F]

theorem out0_2_eq (x0 : Vec F S1024x2048 .bf16) (x1 : Vec F S1x2048x1024 .bf16) : out0_2 (F := F) x0 x1 = k0_pay2 x0 x1 := by
  unfold out0_2
  rw [View.canon_unit_zero (S := S1024x1024) hz2]
  simp only [View.ld_unit_zero (S := S1024x2048) hz2, View.ld_unit_zero (S := S1x2048x1024) hz3]

theorem out0_3_eq (x0 : Vec F S1024x2048 .bf16) (x1 : Vec F S1x2048x1024 .bf16) : out0_3 (F := F) x0 x1 = k0_pay3 x0 x1 := by
  unfold out0_3
  rw [View.canon_unit_zero (S := S1024x1024) hz2]
  simp only [View.ld_unit_zero (S := S1024x2048) hz2, View.ld_unit_zero (S := S1x2048x1024) hz3]

theorem out1_3_eq (x0 : Vec F S1024x2048 .bf16) (x1 : Vec F S1024x2048 .bf16) (x2 : Vec F S1024x1024 .bf16) : out1_3 (F := F) x0 x1 x2 = k1_pay1 x0 x1 x2 := by
  unfold out1_3
  rw [View.canon_unit_zero (S := S1024x1024) hz2]
  simp only [View.ld_unit_zero (S := S1024x2048) hz2, View.ld_unit_zero (S := S1024x1024) hz2]

end

theorem e0_0 : ∀ t : Fin cfg0.N, win0_0.index t = ![t.val / 8, 0] := (by decide +kernel : ∀ t : Fin grid0.N, win0_0.index t = ![t.val / 8, 0])
theorem e0_1 : ∀ t : Fin cfg0.N, win0_1.index t = ![t.val / 2 % 4, 0, t.val % 2] :=
  (by decide +kernel : ∀ t : Fin grid0.N, win0_1.index t = ![t.val / 2 % 4, 0, t.val % 2])
theorem e0_2 : ∀ t : Fin cfg0.N, win0_2.index t = ![t.val / 8, t.val % 8] := (by decide +kernel : ∀ t : Fin grid0.N, win0_2.index t = ![t.val / 8, t.val % 8])
theorem e0_3 : ∀ t : Fin cfg0.N, win0_3.index t = ![t.val / 8, t.val % 8] := (by decide +kernel : ∀ t : Fin grid0.N, win0_3.index t = ![t.val / 8, t.val % 8])
theorem e1_0 : ∀ t : Fin cfg1.N, win1_0.index t = ![t.val / 8, 0] := (by decide +kernel : ∀ t : Fin grid1.N, win1_0.index t = ![t.val / 8, 0])
theorem e1_1 : ∀ t : Fin cfg1.N, win1_1.index t = ![t.val % 8, 0] := (by decide +kernel : ∀ t : Fin grid1.N, win1_1.index t = ![t.val % 8, 0])
theorem e1_2 : ∀ t : Fin cfg1.N, win1_2.index t = ![t.val / 8, t.val % 8] := (by decide +kernel : ∀ t : Fin grid1.N, win1_2.index t = ![t.val / 8, t.val % 8])
theorem e1_3 : ∀ t : Fin cfg1.N, win1_3.index t = ![t.val / 8, t.val % 8] := (by decide +kernel : ∀ t : Fin grid1.N, win1_3.index t = ![t.val / 8, t.val % 8])

/-- The word both programs print for the factor two. -/
def two : EReal := Ideal.ofBits .f32 0x40000000#32

theorem pay1 (x : Vec Ideal S1024x2048 .bf16) (y : Vec Ideal S1x2048x1024 .bf16) (i j : Fin 1024) :
    k0_pay1 (F := Ideal) x y (ix2 i j) = max (∑ k : Fin 2048, x (ix2 i k) * y (ix3 0 k j)) 0 := by
  unfold k0_pay1
  refine congrArg₂ max ((nn _ rfl x _ i j).trans (Finset.sum_congr rfl fun k _ => congrArg (x (ix2 i k) * ·) ?_)) word_zero
  exact shapeCast_1ab_ab_apply (a := 2048) (b := 1024) y _ k j

theorem pay2 (x : Vec Ideal S1024x2048 .bf16) (y : Vec Ideal S1x2048x1024 .bf16) (i : S1024x1024.Idx) :
    k0_pay2 (F := Ideal) x y i = k0_pay1 (F := Ideal) x y i := rfl

theorem pay3 (x : Vec Ideal S1024x2048 .bf16) (y : Vec Ideal S1x2048x1024 .bf16) (i : S1024x1024.Idx) :
    k0_pay3 (F := Ideal) x y i = (k0_pay1 (F := Ideal) x y i * k0_pay1 (F := Ideal) x y i : EReal) := rfl

theorem pay_dx (x y : Vec Ideal S1024x2048 .bf16) (r : Vec Ideal S1024x1024 .bf16) (i j : Fin 1024) :
    k1_pay1 (F := Ideal) x y r (ix2 i j) = (∑ k : Fin 2048, x (ix2 i k) * y (ix2 j k)) * (two * r (ix2 i j)) := by
  unfold k1_pay1
  rw [shapeCast_self]
  exact congrArg (· * (two * r (ix2 i j))) (nt _ rfl x y i j)

/-- The block's hidden values before the ReLU. -/
def hid (A B : ℕ → ℕ → EReal) (i j : ℕ) : EReal := ∑ k : Fin 2048, A i k * B k j

/-- The gradient of the hidden values. -/
def dhid (A B C D : ℕ → ℕ → EReal) (i j : ℕ) : EReal := (∑ k : Fin 2048, D i k * C j k) * (two * max (hid A B i j) 0)

section
variable {V : (c : Dev nD) → (b : Ref sig .tc) → Buf (Elt Ideal) ((c : Thread nD τ).loc b)} {c : Dev nD} {A B C D : ℕ → ℕ → EReal}
  (hA : ∀ i : S4096x2048.Idx, V c main_arg0 i = A (i 0).val (i 1).val)
  (hB : ∀ i : S4x2048x2048.Idx, V c main_v1 i = B (i 1).val (2048 * (i 0).val + (i 2).val))
  (hC : ∀ i : S8192x2048.Idx, V c main_arg2 i = C (i 0).val (i 1).val)
  (hD : ∀ i : S4096x2048.Idx, V c main_arg3 i = D (i 0).val (i 1).val)
  (hr : ∀ i : S4096x8192.Idx, V c main_v2_0 i = max (hid A B (i 0).val (i 1).val) 0)

include hA in
theorem blkA (t : Fin cfg0.N) (i : Fin 1024) (k : Fin 2048) : iblk0 (F := Ideal) V c 0 t (ix2 i k) = A (1024 * (t.val / 8) + i.val) k.val := by
  blk_simp [iblk0, e0_0]
  refine (hA _).trans ?_
  congr 1
  · blk_simp [e0_0]
    show t.val / 8 * 1024 + i.val = _
    omega
  · blk_simp [e0_0]

include hB in
theorem blkB (t : Fin cfg0.N) (k : Fin 2048) (j : Fin 1024) : iblk0 (F := Ideal) V c 1 t (ix3 0 k j) = B k.val (1024 * (t.val % 8) + j.val) := by
  blk_simp [iblk0, e0_1]
  refine (hB _).trans ?_
  congr 1
  · blk_simp [e0_1]
  · blk_simp [e0_1]
    show 2048 * (t.val / 2 % 4) + (t.val % 2 * 1024 + j.val) = _
    omega

include hA hB in
theorem blk_relu (t : Fin cfg0.N) (i j : Fin 1024) :
    k0_pay1 (F := Ideal) (iblk0 V c 0 t) (iblk0 V c 1 t) (ix2 i j) = max (hid A B (1024 * (t.val / 8) + i.val) (1024 * (t.val % 8) + j.val)) 0 := by
  refine (pay1 _ _ i j).trans (congrArg (max · 0) (Finset.sum_congr rfl fun k _ => ?_))
  rw [blkA hA, blkB hB]

include hA hB in
theorem arr_r (i : S4096x8192.Idx) : (dat0 (F := Ideal) V c).arrAt 2 cfg0.N i = max (hid A B (i 0).val (i 1).val) 0 := by
  refine (dat0 V c).arrAt_forall_of_covers 2 (fun i x => x = max (hid A B (i 0).val (i 1).val) 0) (by decide +kernel) (fun t hf y => ?_) i (Memref.isWhole_whole _)
  blk_simp
  rw [after0_2, out0_2_eq, pay2]
  refine (congrArg (k0_pay1 (F := Ideal) (iblk0 V c 0 t) (iblk0 V c 1 t)) (eq_ix2 (n0 := 1024) (n1 := 1024) y)).trans ((blk_relu hA hB t (y 0) (y 1)).trans ?_)
  blk_simp [e0_2]
  rw [Nat.mul_comm (t.val / 8) 1024, Nat.mul_comm (t.val % 8) 1024]

include hA hB in
theorem arr_a (i : S4096x8192.Idx) : (dat0 (F := Ideal) V c).arrAt 3 cfg0.N i = max (hid A B (i 0).val (i 1).val) 0 * max (hid A B (i 0).val (i 1).val) 0 := by
  refine (dat0 V c).arrAt_forall_of_covers 3 (fun i x => x = max (hid A B (i 0).val (i 1).val) 0 * max (hid A B (i 0).val (i 1).val) 0) (by decide +kernel) (fun t hf y => ?_) i (Memref.isWhole_whole _)
  have e : k0_pay1 (F := Ideal) (iblk0 V c 0 t) (iblk0 V c 1 t) y = _ :=
    (congrArg (k0_pay1 (F := Ideal) (iblk0 V c 0 t) (iblk0 V c 1 t)) (eq_ix2 (n0 := 1024) (n1 := 1024) y)).trans (blk_relu hA hB t (y 0) (y 1))
  blk_simp
  rw [after0_3, out0_3_eq, pay3]
  refine (congrArg₂ (· * ·) e e).trans ?_
  blk_simp [e0_3]
  rw [Nat.mul_comm (t.val / 8) 1024, Nat.mul_comm (t.val % 8) 1024]

include hD in
theorem blkD (t : Fin cfg1.N) (i : Fin 1024) (k : Fin 2048) : iblk1 (F := Ideal) V c 0 t (ix2 i k) = D (1024 * (t.val / 8) + i.val) k.val := by
  blk_simp [iblk1, e1_0]
  refine (hD _).trans ?_
  congr 1
  · blk_simp [e1_0]
    show t.val / 8 * 1024 + i.val = _
    omega
  · blk_simp [e1_0]

include hC in
theorem blkC (t : Fin cfg1.N) (j : Fin 1024) (k : Fin 2048) : iblk1 (F := Ideal) V c 1 t (ix2 j k) = C (1024 * (t.val % 8) + j.val) k.val := by
  blk_simp [iblk1, e1_1]
  refine (hC _).trans ?_
  congr 1
  · blk_simp [e1_1]
    show t.val % 8 * 1024 + j.val = _
    omega
  · blk_simp [e1_1]

include hr in
theorem blkR (t : Fin cfg1.N) (i j : Fin 1024) :
    iblk1 (F := Ideal) V c 2 t (ix2 i j) = max (hid A B (1024 * (t.val / 8) + i.val) (1024 * (t.val % 8) + j.val)) 0 := by
  blk_simp [iblk1, e1_2]
  refine (hr _).trans ?_
  congr 2
  · blk_simp [e1_2]
    show t.val / 8 * 1024 + i.val = _
    omega
  · blk_simp [e1_2]
    show t.val % 8 * 1024 + j.val = _
    omega

include hC hD hr in
theorem arr_du (i : S4096x8192.Idx) : (dat1 (F := Ideal) V c).arrAt 3 cfg1.N i = dhid A B C D (i 0).val (i 1).val := by
  refine (dat1 V c).arrAt_forall_of_covers 3 (fun i x => x = dhid A B C D (i 0).val (i 1).val) (by decide +kernel) (fun t hf y => ?_) i (Memref.isWhole_whole _)
  have e : k1_pay1 (F := Ideal) (iblk1 V c 0 t) (iblk1 V c 1 t) (iblk1 V c 2 t) y
      = dhid A B C D (1024 * (t.val / 8) + (y 0).val) (1024 * (t.val % 8) + (y 1).val) := by
    refine (congrArg (k1_pay1 (F := Ideal) (iblk1 V c 0 t) (iblk1 V c 1 t) (iblk1 V c 2 t)) (eq_ix2 (n0 := 1024) (n1 := 1024) y)).trans ((pay_dx _ _ _ (y 0) (y 1)).trans ?_)
    rw [blkR (i := y 0) (j := y 1) hr]
    refine congrArg (· * _) (Finset.sum_congr rfl fun k _ => ?_)
    exact congrArg₂ (· * ·) (blkD hD t (y 0) k) (blkC hC t (y 1) k)
  blk_simp
  rw [after1_3, out1_3_eq]
  refine e.trans ?_
  blk_simp [e1_3]
  rw [Nat.mul_comm (t.val / 8) 1024, Nat.mul_comm (t.val % 8) 1024]

end

section
variable (m : (ℓ : Loc nD τ sig) → Buf (Elt Ideal) ℓ) (ρ : Dev nD → PrngReg) (c : Dev nD) (A B C D : ℕ → ℕ → EReal)
  (hA : ∀ i : S4096x2048.Idx, m ((c : Thread nD τ).loc main_arg0) i = A (i 0).val (i 1).val)
  (hB : ∀ i : S2048x8192.Idx, m ((c : Thread nD τ).loc main_arg1) i = B (i 0).val (i 1).val)
  (hC : ∀ i : S8192x2048.Idx, m ((c : Thread nD τ).loc main_arg2) i = C (i 0).val (i 1).val)
  (hD : ∀ i : S4096x2048.Idx, m ((c : Thread nD τ).loc main_arg3) i = D (i 0).val (i 1).val)

/-- The weights as the host lays them out for the call: four blocks of columns, one after another. -/
theorem host_w : V1 (F := Ideal) m ρ c main_v1 = transpose S4x2048x2048 [1, 0, 2]
    (shapeCast S2048x4x2048 (m ((c : Thread nD τ).loc main_arg1)) shapeCasts_S2048x8192_S2048x4x2048) transposes_S2048x4x2048_S4x2048x2048_1_0_2 := by
  unfold V1 W1
  after_results
  rfl

include hA in
theorem v1A (i : S4096x2048.Idx) : V1 (F := Ideal) m ρ c main_arg0 i = A (i 0).val (i 1).val :=
  (congrFun (W1_args m ρ c main_arg0 (by decide)) i).trans (hA i)

include hB in
theorem v1B (i : S4x2048x2048.Idx) : V1 (F := Ideal) m ρ c main_v1 i = B (i 1).val (2048 * (i 0).val + (i 2).val) := by
  rw [host_w]
  exact stacked_apply (m ((c : Thread nD τ).loc main_arg1)) _ _ B hB i

include hA hB in
theorem end_a (i : S4096x8192.Idx) : W3 (F := Ideal) m ρ c (Proc.devRef .tc main_v2_1) i = max (hid A B (i 0).val (i 1).val) 0 * max (hid A B (i 0).val (i 1).val) 0 :=
  (congrFun ((W3_of m ρ c main_v2_1 (by decide +kernel)).trans (W2_arr m ρ c 3)) i).trans (arr_a (v1A m ρ c A hA) (v1B m ρ c B hB) i)

include hA hB hC hD in
theorem end_du (i : S4096x8192.Idx) : W3 (F := Ideal) m ρ c (Proc.devRef .tc main_v3) i = dhid A B C D (i 0).val (i 1).val :=
  (congrFun (W3_arr m ρ c 3) i).trans (arr_du (V := V2 m ρ)
    (fun i => (congrFun (W2_args m ρ c main_arg2 (by decide)) i).trans (hC i))
    (fun i => (congrFun (W2_args m ρ c main_arg3 (by decide)) i).trans (hD i))
    (fun i => (congrFun (W2_arr m ρ c 2) i).trans (arr_r (v1A m ρ c A hA) (v1B m ρ c B hB) i)) i)

end

section
open Cert.FfnRefIdeal.Read
variable (x0 : Vec Ideal S4096x2048 .bf16) (x1 : Vec Ideal S2048x8192 .bf16) (x2 : Vec Ideal S8192x2048 .bf16) (x3 : Vec Ideal S4096x2048 .bf16) (A B C D : ℕ → ℕ → EReal)
  (hA : ∀ i : S4096x2048.Idx, x0 i = A (i 0).val (i 1).val)
  (hB : ∀ i : S2048x8192.Idx, x1 i = B (i 0).val (i 1).val)
  (hC : ∀ i : S8192x2048.Idx, x2 i = C (i 0).val (i 1).val)
  (hD : ∀ i : S4096x2048.Idx, x3 i = D (i 0).val (i 1).val)

include hA hB in
theorem ref_hid (i : S4096x8192.Idx) : val_main_v4 (F := Ideal) x0 x1 i = hid A B (i 0).val (i 1).val := by
  rw [val_main_v4_apply]
  exact Finset.sum_congr rfl fun k _ => congrArg₂ (· * ·) (hA _) (hB _)

include hA hB in
theorem ref_a (i : S4096x8192.Idx) : val_main_v7 (F := Ideal) x0 x1 i = max (hid A B (i 0).val (i 1).val) 0 * max (hid A B (i 0).val (i 1).val) 0 := by
  have e : val_main_v5 (F := Ideal) x0 x1 i = max (hid A B (i 0).val (i 1).val) 0 := by
    rw [val_main_v5_apply, val_main_call0_v0_apply]
    exact congrArg₂ max (ref_hid x0 x1 A B hA hB i) word_zero
  rw [val_main_v7_apply, val_main_v6_apply]
  exact congrArg₂ (· * ·) e e

/-- Where the hidden value is not positive its ReLU is zero, so the mask changes nothing. -/
theorem mask (u g : EReal) : (if 0 < u then g * (two * max u 0) else 0) = g * (two * max u 0) := by
  split
  · rfl
  · next h => rw [max_eq_right (not_lt.mp h), mul_zero, mul_zero]

include hA hB hC hD in
theorem ref_du (i : S4096x8192.Idx) : val_main_v20 (F := Ideal) x0 x1 x2 x3 i = dhid A B C D (i 0).val (i 1).val := by
  have eu := ref_hid x0 x1 A B hA hB i
  have er : val_main_v8 (F := Ideal) x0 x1 i = max (hid A B (i 0).val (i 1).val) 0 := by
    rw [val_main_v8_apply, val_main_call1_v0_apply]
    exact congrArg₂ max eu word_zero
  have eg : val_main_v16 (F := Ideal) x2 x3 i = ∑ k : Fin 2048, D (i 0).val k * C (i 1).val k := by
    rw [val_main_v16_apply]
    exact Finset.sum_congr rfl fun k _ => congrArg₂ (· * ·) (hD _) (hC _)
  have e17 : val_main_v17 (F := Ideal) x0 x1 x2 x3 i = dhid A B C D (i 0).val (i 1).val := by
    rw [val_main_v17_apply, val_main_v14_apply, val_main_v13_apply, eg, er]
    rfl
  have e9 : val_main_v9 (F := Ideal) i = 0 := (val_main_v9_apply i).trans word_zero
  have e18 : val_main_v18 (F := Ideal) i = 0 := (val_main_v18_apply i).trans word_zero
  rw [val_main_v20_apply, val_main_v19_apply, val_main_v10_apply, eu, e17, e9, e18]
  refine Eq.trans ?_ (mask (hid A B (i 0).val (i 1).val) _)
  show Scalar.select (Ideal.cmp .ogt (hid A B (i 0).val (i 1).val) 0) _ _ = _
  unfold Ideal.cmp Scalar.select
  by_cases h : 0 < hid A B (i 0).val (i 1).val
  · simp [h, dhid]
  · simp [h]

end

theorem frame_ref : Cert.quiescent_FfnRefIdeal (hFfnRefIdeal := Cert.FfnRefIdeal.Gen.facts) := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The kernel's squared ReLU and its gradient are the reference's. -/
theorem algebraic : Cert.algebraic_FfnIdeal_FfnRefIdeal (hFfnIdeal := Cert.FfnIdeal.Gen.facts) (hFfnRefIdeal := Cert.FfnRefIdeal.Gen.facts) := by
  intro m ρ m' ρ' _ hagree
  choose A hA using fun c : Dev nD => total2 (M := 4096) (K := 2048) (m ((c : Thread nD τ).loc main_arg0))
  choose B hB using fun c : Dev nD => total2 (M := 2048) (K := 8192) (m ((c : Thread nD τ).loc main_arg1))
  choose C hC using fun c : Dev nD => total2 (M := 8192) (K := 2048) (m ((c : Thread nD τ).loc main_arg2))
  choose D hD using fun c : Dev nD => total2 (M := 4096) (K := 2048) (m ((c : Thread nD τ).loc main_arg3))
  refine ⟨fun c => fun i : S4096x8192.Idx => (max (hid (A c) (B c) (i 0).val (i 1).val) 0 * max (hid (A c) (B c) (i 0).val (i 1).val) 0 : EReal),
    fun c => fun i : S4096x8192.Idx => (dhid (A c) (B c) (C c) (D c) (i 0).val (i 1).val : EReal), ?_, ?_⟩
  · refine (θ_run defs _ _).mono (fun r h c => ?_) (run_results (F := Ideal) m ρ)
    obtain ⟨h0, h1, ha⟩ := h c
    exact ⟨h0.trans (funext (end_a m ρ c (A c) (B c) (hA c) (hB c))),
      h1.trans (funext (end_du m ρ c (A c) (B c) (C c) (D c) (hA c) (hB c) (hC c) (hD c))), ha⟩
  · refine (θ_run Cert.FfnRefIdeal.defs _ _).mono (fun r h c => ?_) (Cert.FfnRefIdeal.Value.run (F := Ideal) m' ρ')
    obtain ⟨h0, h1, ha⟩ := h c
    obtain ⟨a0, a1, a2, a3⟩ := hagree c
    exact ⟨(h0.trans (Cert.FfnRefIdeal.Read.val_main_v7_eq _ _)).trans (funext fun i => ref_a _ _ (A c) (B c)
        (fun i => (congrFun a0 i).trans (hA c i)) (fun i => (congrFun a1 i).trans (hB c i)) i),
      (h1.trans (Cert.FfnRefIdeal.Read.val_main_v20_eq _ _ _ _)).trans (funext fun i => ref_du _ _ _ _ (A c) (B c) (C c) (D c)
        (fun i => (congrFun a0 i).trans (hA c i)) (fun i => (congrFun a1 i).trans (hB c i))
        (fun i => (congrFun a2 i).trans (hC c i)) (fun i => (congrFun a3 i).trans (hD c i)) i), ha⟩

end Cert.FfnVal

end
-- ==== Proof.FfnOutVal.lean ====
/- The product leaving the feed-forward block, as the kernel accumulates it and as the reference states it. -/
module

public import proofs.«01_k».proof.Defs
public import proofs.«01_k».proof.Proof.Mm
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.FfnOutVal

open Cert.FfnOutIdeal Cert.FfnOutIdeal.Gen Cert.FfnOutIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S1024x2048) hz2, View.ld_unit_zero (S := S2048x1024) hz2]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S1024x2048) hz2, View.ld_unit_zero (S := S2048x1024) hz2]

theorem soutC (c : Dev nD) (i : grid0.Coords) (a3) (h3) (a4) (h4) (a5) (h5) (a6) (h6) (hc0) (hc1) (x0 x1 xs) :
    sout0_C_0 (F := F) c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S1024x2048) hz2, View.ld_unit_zero (S := S2048x1024) hz2]

theorem outC (c : Dev nD) (i : grid0.Coords) (a3) (h3) (a4) (h4) (a5) (h5) (a6) (h6) (hc0) (hc1) (x0 x1 xs) :
    out0_C_2 (F := F) c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S1024x2048) hz2, View.ld_unit_zero (S := S2048x1024) hz2]

end

theorem e0_0 : ∀ t : Fin cfg0.N, win0_0.index t = ![t.val / 8, t.val % 4] :=
  (by decide +kernel : ∀ t : Fin grid0.N, win0_0.index t = ![t.val / 8, t.val % 4])
theorem e0_1 : ∀ t : Fin cfg0.N, win0_1.index t = ![t.val % 4, t.val / 4 % 2] :=
  (by decide +kernel : ∀ t : Fin grid0.N, win0_1.index t = ![t.val % 4, t.val / 4 % 2])
theorem e0_2 : ∀ t : Fin cfg0.N, win0_2.index t = ![t.val / 8, t.val / 4 % 2] :=
  (by decide +kernel : ∀ t : Fin grid0.N, win0_2.index t = ![t.val / 8, t.val / 4 % 2])

theorem pay1 (y) : k0_pay1 (F := Ideal) y = 0 := word_zero

theorem pay2 (s : Vec Ideal S1024x1024 .f32) (x : Vec Ideal S1024x2048 .bf16) (y : Vec Ideal S2048x1024 .bf16) (i j : Fin 1024) :
    k0_pay2 (F := Ideal) s x y (ix2 i j) = s (ix2 i j) + ∑ k : Fin 2048, x (ix2 i k) * y (ix2 k j) := by
  unfold k0_pay2
  rw [shapeCast_self]
  exact congrArg (s (ix2 i j) + ·) (nn _ rfl x y i j)

section
variable (m : (ℓ : Loc nD τ sig) → Buf (Elt Ideal) ℓ) (c : Dev nD) (A B : ℕ → ℕ → EReal)
  (hA : ∀ i : S4096x8192.Idx, m ((c : Thread nD τ).loc main_arg0) i = A (i 0).val (i 1).val)
  (hB : ∀ i : S8192x2048.Idx, m ((c : Thread nD τ).loc main_arg1) i = B (i 0).val (i 1).val)

include hA in
theorem blkA (t : Fin cfg0.N) (i : Fin 1024) (k : Fin 2048) :
    iblk (F := Ideal) m c 0 t (ix2 i k) = A (1024 * (t.val / 8) + i.val) (2048 * (t.val % 4) + k.val) := by
  blk_simp [iblk, e0_0]
  refine (hA _).trans ?_
  congr 1
  · blk_simp [e0_0]
    show t.val / 8 * 1024 + i.val = _
    omega
  · blk_simp [e0_0]
    show t.val % 4 * 2048 + k.val = _
    omega

include hB in
theorem blkB (t : Fin cfg0.N) (k : Fin 2048) (j : Fin 1024) :
    iblk (F := Ideal) m c 1 t (ix2 k j) = B (2048 * (t.val % 4) + k.val) (1024 * (t.val / 4 % 2) + j.val) := by
  blk_simp [iblk, e0_1]
  refine (hB _).trans ?_
  congr 1
  · blk_simp [e0_1]
    show t.val % 4 * 2048 + k.val = _
    omega
  · blk_simp [e0_1]
    show t.val / 4 % 2 * 1024 + j.val = _
    omega

/-- The product's term number `k` at an element of the block of run `r`. -/
def term (r : ℕ) (x : Fin 1024 × Fin 1024) (k : ℕ) : EReal := A (1024 * (r / 2) + x.1.val) k * B k (1024 * (r % 2) + x.2.val)

include hA hB in
theorem run_sum (t : Fin cfg0.N) (s : Vec Ideal S1024x1024 .f32) (x : Fin 1024 × Fin 1024) :
    k0_pay2 (F := Ideal) s (iblk m c 0 t) (iblk m c 1 t) (ix2 x.1 x.2)
      = s (ix2 x.1 x.2) + ∑ k : Fin 2048, term A B (t.val / 4) x (2048 * (t.val % 4) + k) := by
  refine (pay2 _ _ _ _ _).trans (congrArg (s (ix2 x.1 x.2) + ·) (Finset.sum_congr rfl fun k _ => ?_))
  rw [blkA m c A hA, blkB m c B hB]
  unfold term
  rw [Nat.div_div_eq_div_mul]

include hA hB in
theorem scr (n : ℕ) (hn : n < cfg0.N) (x : Fin 1024 × Fin 1024) :
    (outsAt0 (F := Ideal) m c n hn).2 (ix2 x.1 x.2) = ∑ k ∈ Finset.range (2048 * (n % 4 + 1)), term A B (n / 4) x k := by
  refine acc_inv 4 2048 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · by_cases h3 : n % 4 = 3
    · rw [outsAt0_C m c ⟨n, h⟩ hm h3]
      dsimp only
      rw [soutC]
      exact run_sum m c A B hA hB ⟨n, h⟩ _ x
    · rw [outsAt0_B m c ⟨n, h⟩ hm h3]
      dsimp only
      rw [soutB]
      exact run_sum m c A B hA hB ⟨n, h⟩ _ x

theorem out_scr (t : Fin cfg0.N) (h3 : t.val % 4 = 3) : (outsAt0 (F := Ideal) m c t.val t.isLt).1 = (outsAt0 (F := Ideal) m c t.val t.isLt).2 := by
  rw [outsAt0_C m c t (by omega) h3]
  dsimp only
  rw [outC, soutC]

include hA hB in
theorem arr (i : S4096x2048.Idx) : (dats (F := Ideal) m 0 c).arrAt 2 cfg0.N i = ∑ k ∈ Finset.range 8192, A (i 0).val k * B k (i 1).val := by
  refine (dats m 0 c).arrAt_forall_of_covers 2 (fun i x => x = ∑ k ∈ Finset.range 8192, A (i 0).val k * B k (i 1).val) (by decide +kernel) (fun t hf y => ?_) i (Memref.isWhole_whole _)
  have h3 := (flush0_2 t).mp hf
  have h0 : (y 0).val < 1024 := (y 0).isLt
  have h1 : (y 1).val < 1024 := (y 1).isLt
  blk_simp
  rw [after0_2, out_scr m c t h3]
  refine (congrArg (outsAt0 (F := Ideal) m c t.val t.isLt).2 (eq_ix2 (n0 := 1024) (n1 := 1024) y)).trans ((scr m c A B hA hB t.val t.isLt (y 0, y 1)).trans ?_)
  unfold term
  blk_simp [e0_2]
  rw [h3, Nat.div_div_eq_div_mul, Nat.mul_comm (t.val / 8) 1024, Nat.mul_comm (t.val / 4 % 2) 1024]

end

theorem ref_val (x0 x1) (A B : ℕ → ℕ → EReal) (hA : ∀ i : S4096x8192.Idx, x0 i = A (i 0).val (i 1).val)
    (hB : ∀ i : S8192x2048.Idx, x1 i = B (i 0).val (i 1).val) (i : S4096x2048.Idx) :
    Cert.FfnOutRefIdeal.Read.val_main_v2 (F := Ideal) x0 x1 i = ∑ k ∈ Finset.range 8192, A (i 0).val k * B k (i 1).val := by
  rw [Cert.FfnOutRefIdeal.Read.val_main_v2_apply, ← Fin.sum_univ_eq_sum_range (fun k => A (i 0).val k * B k (i 1).val)]
  refine Finset.sum_congr rfl fun k _ => ?_
  exact congrArg₂ (· * ·) (hA _) (hB _)

theorem frame_ref : Cert.quiescent_FfnOutRefIdeal (hFfnOutRefIdeal := Cert.FfnOutRefIdeal.Gen.facts) := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)

/-- The kernel's product and the reference's are the same sums. -/
theorem algebraic : Cert.algebraic_FfnOutIdeal_FfnOutRefIdeal (hFfnOutIdeal := Cert.FfnOutIdeal.Gen.facts) (hFfnOutRefIdeal := Cert.FfnOutRefIdeal.Gen.facts) := by
  intro m ρ m' ρ' _ hagree
  choose A hA using fun c : Dev nD => total2 (M := 4096) (K := 8192) (m ((c : Thread nD τ).loc main_arg0))
  choose B hB using fun c : Dev nD => total2 (M := 8192) (K := 2048) (m ((c : Thread nD τ).loc main_arg1))
  refine ⟨fun c => fun i : S4096x2048.Idx => (∑ k ∈ Finset.range 8192, A c (i 0).val k * B c k (i 1).val : EReal), ?_, ?_⟩
  · exact (θ_run defs _ _).mono (fun r h c => ⟨(h c).1.trans (funext (arr m c (A c) (B c) (hA c) (hB c))), (h c).2⟩)
      (Cert.FfnOutIdeal.Value.run_blocks (F := Ideal) m ρ)
  · refine (θ_run Cert.FfnOutRefIdeal.defs _ _).mono (fun r h c => ?_) (Cert.FfnOutRefIdeal.Value.run (F := Ideal) m' ρ')
    obtain ⟨h0, ha⟩ := h c
    obtain ⟨a0, a1⟩ := hagree c
    exact ⟨(h0.trans (Cert.FfnOutRefIdeal.Read.val_main_v2_eq _ _)).trans (funext fun i => ref_val _ _ (A c) (B c)
      (fun i => (congrFun a0 i).trans (hA c i)) (fun i => (congrFun a1 i).trans (hB c i)) i), ha⟩

end Cert.FfnOutVal

end
-- ==== Proof.FfnOutDwVal.lean ====
/- The gradient of the second weights, as the kernel accumulates it and as the reference states it. -/
module

public import proofs.«01_k».proof.Defs
public import proofs.«01_k».proof.Proof.Mm
public import proofs.«01_k».proof.Proof.Gen.FfnOutDwIdeal.Value
public import proofs.«01_k».proof.Proof.Gen.FfnOutDwRefIdeal.Run
public import proofs.«01_k».proof.Proof.Gen.FfnOutDwRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.FfnOutDwVal

open Cert.FfnOutDwIdeal Cert.FfnOutDwIdeal.Gen Cert.FfnOutDwIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S2048x1024) hz2]

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

end

theorem e0_0 : ∀ t : Fin cfg0.N, win0_0.index t = ![t.val % 2, t.val / 4] :=
  (by decide +kernel : ∀ t : Fin grid0.N, win0_0.index t = ![t.val % 2, t.val / 4])
theorem e0_1 : ∀ t : Fin cfg0.N, win0_1.index t = ![t.val % 2, t.val / 2 % 2] :=
  (by decide +kernel : ∀ t : Fin grid0.N, win0_1.index t = ![t.val % 2, t.val / 2 % 2])
theorem e0_2 : ∀ t : Fin cfg0.N, win0_2.index t = ![t.val / 4, t.val / 2 % 2] :=
  (by decide +kernel : ∀ t : Fin grid0.N, win0_2.index t = ![t.val / 4, t.val / 2 % 2])

theorem pay1 (y) : k0_pay1 (F := Ideal) y = 0 := word_zero

theorem pay2 (s : Vec Ideal S1024x1024 .f32) (x : Vec Ideal S2048x1024 .bf16) (y : Vec Ideal S2048x1024 .bf16) (i j : Fin 1024) :
    k0_pay2 (F := Ideal) s x y (ix2 i j) = s (ix2 i j) + ∑ k : Fin 2048, x (ix2 k i) * y (ix2 k j) := by
  unfold k0_pay2
  rw [shapeCast_self]
  exact congrArg (s (ix2 i j) + ·) (tn dot_S2048x1024_S2048x1024_S1024x1024_0_0_1_1_n_n_wf _ rfl x y i j)

section
variable (m : (ℓ : Loc nD τ sig) → Buf (Elt Ideal) ℓ) (c : Dev nD) (A B : ℕ → ℕ → EReal)
  (hA : ∀ i : S4096x8192.Idx, m ((c : Thread nD τ).loc main_arg0) i = A (i 0).val (i 1).val)
  (hB : ∀ i : S4096x2048.Idx, m ((c : Thread nD τ).loc main_arg1) i = B (i 0).val (i 1).val)

include hA in
theorem blkA (t : Fin cfg0.N) (k : Fin 2048) (i : Fin 1024) :
    iblk (F := Ideal) m c 0 t (ix2 k i) = A (2048 * (t.val % 2) + k.val) (1024 * (t.val / 4) + i.val) := by
  blk_simp [iblk, e0_0]
  refine (hA _).trans ?_
  congr 1
  · blk_simp [e0_0]
    show t.val % 2 * 2048 + k.val = _
    omega
  · blk_simp [e0_0]
    show t.val / 4 * 1024 + i.val = _
    omega

include hB in
theorem blkB (t : Fin cfg0.N) (k : Fin 2048) (j : Fin 1024) :
    iblk (F := Ideal) m c 1 t (ix2 k j) = B (2048 * (t.val % 2) + k.val) (1024 * (t.val / 2 % 2) + j.val) := by
  blk_simp [iblk, e0_1]
  refine (hB _).trans ?_
  congr 1
  · blk_simp [e0_1]
    show t.val % 2 * 2048 + k.val = _
    omega
  · blk_simp [e0_1]
    show t.val / 2 % 2 * 1024 + j.val = _
    omega

/-- The product's term number `k` at an element of the block of run `r`. -/
def term (r : ℕ) (x : Fin 1024 × Fin 1024) (k : ℕ) : EReal := A k (1024 * (r / 2) + x.1.val) * B k (1024 * (r % 2) + x.2.val)

include hA hB in
theorem run_sum (t : Fin cfg0.N) (s : Vec Ideal S1024x1024 .f32) (x : Fin 1024 × Fin 1024) :
    k0_pay2 (F := Ideal) s (iblk m c 0 t) (iblk m c 1 t) (ix2 x.1 x.2)
      = s (ix2 x.1 x.2) + ∑ k : Fin 2048, term A B (t.val / 2) x (2048 * (t.val % 2) + k) := by
  refine (pay2 _ _ _ _ _).trans (congrArg (s (ix2 x.1 x.2) + ·) (Finset.sum_congr rfl fun k _ => ?_))
  rw [blkA m c A hA, blkB m c B hB]
  unfold term
  rw [Nat.div_div_eq_div_mul]

include hA hB in
theorem scr (n : ℕ) (hn : n < cfg0.N) (x : Fin 1024 × Fin 1024) :
    (outsAt0 (F := Ideal) m c n hn).2 (ix2 x.1 x.2) = ∑ k ∈ Finset.range (2048 * (n % 2 + 1)), term A B (n / 2) x k := by
  refine acc_inv 2 2048 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = k0_pay3 (outsAt0 (F := Ideal) m c t.val t.isLt).2 := by
  rw [outsAt0_B m c t (by omega) h3]
  dsimp only
  rw [outB, soutB]

include hA hB in
theorem arr (i : S8192x2048.Idx) : (dats (F := Ideal) m 0 c).arrAt 2 cfg0.N i = ∑ k ∈ Finset.range 4096, A k (i 0).val * B k (i 1).val := by
  refine (dats m 0 c).arrAt_forall_of_covers 2 (fun i x => x = ∑ k ∈ Finset.range 4096, A k (i 0).val * B k (i 1).val) (by decide +kernel) (fun t hf y => ?_) i (Memref.isWhole_whole _)
  have h3 := (flush0_2 t).mp hf
  have h0 : (y 0).val < 1024 := (y 0).isLt
  have h1 : (y 1).val < 1024 := (y 1).isLt
  blk_simp
  rw [after0_2, out_scr m c t h3]
  refine (congrArg (outsAt0 (F := Ideal) m c t.val t.isLt).2 (eq_ix2 (n0 := 1024) (n1 := 1024) y)).trans ((scr m c A B hA hB t.val t.isLt (y 0, y 1)).trans ?_)
  unfold term
  blk_simp [e0_2]
  rw [h3, Nat.div_div_eq_div_mul, Nat.mul_comm (t.val / 4) 1024, Nat.mul_comm (t.val / 2 % 2) 1024]

end

theorem ref_val (x0 x1) (A B : ℕ → ℕ → EReal) (hA : ∀ i : S4096x8192.Idx, x0 i = A (i 0).val (i 1).val)
    (hB : ∀ i : S4096x2048.Idx, x1 i = B (i 0).val (i 1).val) (i : S8192x2048.Idx) :
    Cert.FfnOutDwRefIdeal.Read.val_main_v6 (F := Ideal) x0 x1 i = ∑ k ∈ Finset.range 4096, A k (i 0).val * B k (i 1).val := by
  refine ((Cert.FfnOutDwRefIdeal.Read.val_main_v5_apply x0 x1 i).trans (Cert.FfnOutDwRefIdeal.Read.val_main_v4_apply x0 x1 _)).trans ?_
  rw [← Fin.sum_univ_eq_sum_range (fun k => A k (i 0).val * B k (i 1).val)]
  refine Finset.sum_congr rfl fun k _ => ?_
  exact (congrArg₂ (· * ·) (hB _) (hA _)).trans (mul_comm _ _)

theorem frame_ref : Cert.quiescent_FfnOutDwRefIdeal (hFfnOutDwRefIdeal := Cert.FfnOutDwRefIdeal.Gen.facts) := fun m ρ _ =>
  (θ_run Cert.FfnOutDwRefIdeal.defs _ _).mono (fun r h => ⟨fun c => (h c).2, sem_eq_zero_of_no_sems (by decide) r.2⟩)
    (Cert.FfnOutDwRefIdeal.Value.run (F := Ideal) m ρ)

/-- The kernel's gradient and the reference's are the same sums. -/
theorem algebraic : Cert.algebraic_FfnOutDwIdeal_FfnOutDwRefIdeal (hFfnOutDwIdeal := Cert.FfnOutDwIdeal.Gen.facts) (hFfnOutDwRefIdeal := Cert.FfnOutDwRefIdeal.Gen.facts) := by
  intro m ρ m' ρ' _ hagree
  choose A hA using fun c : Dev nD => total2 (M := 4096) (K := 8192) (m ((c : Thread nD τ).loc main_arg0))
  choose B hB using fun c : Dev nD => total2 (M := 4096) (K := 2048) (m ((c : Thread nD τ).loc main_arg1))
  refine ⟨fun c => fun i : S8192x2048.Idx => (∑ k ∈ Finset.range 4096, A c k (i 0).val * B c k (i 1).val : EReal), ?_, ?_⟩
  · exact (θ_run defs _ _).mono (fun r h c => ⟨(h c).1.trans (funext (arr m c (A c) (B c) (hA c) (hB c))), (h c).2⟩)
      (Cert.FfnOutDwIdeal.Value.run_blocks (F := Ideal) m ρ)
  · refine (θ_run Cert.FfnOutDwRefIdeal.defs _ _).mono (fun r h c => ?_) (Cert.FfnOutDwRefIdeal.Value.run (F := Ideal) m' ρ')
    obtain ⟨h0, ha⟩ := h c
    obtain ⟨a0, a1⟩ := hagree c
    exact ⟨(h0.trans (Cert.FfnOutDwRefIdeal.Read.val_main_v6_eq _ _)).trans (funext fun i => ref_val _ _ (A c) (B c)
      (fun i => (congrFun a0 i).trans (hA c i)) (fun i => (congrFun a1 i).trans (hB c i)) i), ha⟩

end Cert.FfnOutDwVal

end
-- ==== Proof.FfnInDwVal.lean ====
/- The gradient of the first weights, as the kernel accumulates it and as the reference states it. -/
module

public import proofs.«01_k».proof.Defs
public import proofs.«01_k».proof.Proof.Mm
public import proofs.«01_k».proof.Proof.Gen.FfnInDwIdeal.Value
public import proofs.«01_k».proof.Proof.Gen.FfnInDwRefIdeal.Run
public import proofs.«01_k».proof.Proof.Gen.FfnInDwRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.FfnInDwVal

open Cert.FfnInDwIdeal Cert.FfnInDwIdeal.Gen Cert.FfnInDwIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S2048x1024) hz2]

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1x1024x1024) hz3]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

end

theorem e0_0 : ∀ t : Fin cfg0.N, win0_0.index t = ![t.val % 2, t.val / 16] :=
  (by decide +kernel : ∀ t : Fin grid0.N, win0_0.index t = ![t.val % 2, t.val / 16])
theorem e0_1 : ∀ t : Fin cfg0.N, win0_1.index t = ![t.val % 2, t.val / 2 % 8] :=
  (by decide +kernel : ∀ t : Fin grid0.N, win0_1.index t = ![t.val % 2, t.val / 2 % 8])
theorem e0_2 : ∀ t : Fin cfg0.N, win0_2.index t = ![t.val / 2 % 8 / 2, t.val / 16, t.val / 2 % 2] :=
  (by decide +kernel : ∀ t : Fin grid0.N, win0_2.index t = ![t.val / 2 % 8 / 2, t.val / 16, t.val / 2 % 2])

theorem pay1 (y) : k0_pay1 (F := Ideal) y = 0 := word_zero

theorem pay2 (s : Vec Ideal S1024x1024 .f32) (x : Vec Ideal S2048x1024 .bf16) (y : Vec Ideal S2048x1024 .bf16) (i j : Fin 1024) :
    k0_pay2 (F := Ideal) s x y (ix2 i j) = s (ix2 i j) + ∑ k : Fin 2048, x (ix2 k i) * y (ix2 k j) := by
  unfold k0_pay2
  rw [shapeCast_self]
  exact congrArg (s (ix2 i j) + ·) (tn dot_S2048x1024_S2048x1024_S1024x1024_0_0_1_1_n_n_wf _ rfl x y i j)

section
variable (m : (ℓ : Loc nD τ sig) → Buf (Elt Ideal) ℓ) (c : Dev nD) (A B : ℕ → ℕ → EReal)
  (hA : ∀ i : S4096x2048.Idx, m ((c : Thread nD τ).loc main_arg0) i = A (i 0).val (i 1).val)
  (hB : ∀ i : S4096x8192.Idx, m ((c : Thread nD τ).loc main_arg1) i = B (i 0).val (i 1).val)

include hA in
theorem blkA (t : Fin cfg0.N) (k : Fin 2048) (i : Fin 1024) :
    iblk (F := Ideal) m c 0 t (ix2 k i) = A (2048 * (t.val % 2) + k.val) (1024 * (t.val / 16) + i.val) := by
  blk_simp [iblk, e0_0]
  refine (hA _).trans ?_
  congr 1
  · blk_simp [e0_0]
    show t.val % 2 * 2048 + k.val = _
    omega
  · blk_simp [e0_0]
    show t.val / 16 * 1024 + i.val = _
    omega

include hB in
theorem blkB (t : Fin cfg0.N) (k : Fin 2048) (j : Fin 1024) :
    iblk (F := Ideal) m c 1 t (ix2 k j) = B (2048 * (t.val % 2) + k.val) (1024 * (t.val / 2 % 8) + j.val) := by
  blk_simp [iblk, e0_1]
  refine (hB _).trans ?_
  congr 1
  · blk_simp [e0_1]
    show t.val % 2 * 2048 + k.val = _
    omega
  · blk_simp [e0_1]
    show t.val / 2 % 8 * 1024 + j.val = _
    omega

/-- The product's term number `k` at an element of the block of run `r`. -/
def term (r : ℕ) (x : Fin 1024 × Fin 1024) (k : ℕ) : EReal := A k (1024 * (r / 8) + x.1.val) * B k (1024 * (r % 8) + x.2.val)

include hA hB in
theorem run_sum (t : Fin cfg0.N) (s : Vec Ideal S1024x1024 .f32) (x : Fin 1024 × Fin 1024) :
    k0_pay2 (F := Ideal) s (iblk m c 0 t) (iblk m c 1 t) (ix2 x.1 x.2)
      = s (ix2 x.1 x.2) + ∑ k : Fin 2048, term A B (t.val / 2) x (2048 * (t.val % 2) + k) := by
  refine (pay2 _ _ _ _ _).trans (congrArg (s (ix2 x.1 x.2) + ·) (Finset.sum_congr rfl fun k _ => ?_))
  rw [blkA m c A hA, blkB m c B hB]
  unfold term
  rw [Nat.div_div_eq_div_mul]

include hA hB in
theorem scr (n : ℕ) (hn : n < cfg0.N) (x : Fin 1024 × Fin 1024) :
    (outsAt0 (F := Ideal) m c n hn).2 (ix2 x.1 x.2) = ∑ k ∈ Finset.range (2048 * (n % 2 + 1)), term A B (n / 2) x k := by
  refine acc_inv 2 2048 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = k0_pay3 (outsAt0 (F := Ideal) m c t.val t.isLt).2 := by
  rw [outsAt0_B m c t (by omega) h3]
  dsimp only
  rw [outB, soutB]

/-- The block written back, at an index. -/
theorem pay3 (s : Vec Ideal S1024x1024 .f32) (y : S1x1024x1024.Idx) : k0_pay3 (F := Ideal) s y = s (ix2 (y 1) (y 2)) := by
  have h : k0_pay3 (F := Ideal) s (ix3 (y 0) (y 1) (y 2)) = s (ix2 (y 1) (y 2)) :=
    shapeCast_ab_1ab_apply (a := 1024) (b := 1024) (truncf (F := Ideal) .bf16 s bitsLt_bf16_f32) _ (y 0) (y 1) (y 2)
  exact (congrArg (k0_pay3 (F := Ideal) s) (eq_ix3 y)).trans h

include hA hB in
theorem arr (i : S4x2048x2048.Idx) : (dats (F := Ideal) m 0 c).arrAt 2 cfg0.N i = ∑ k ∈ Finset.range 4096, A k (i 1).val * B k (2048 * (i 0).val + (i 2).val) := by
  refine (dats m 0 c).arrAt_forall_of_covers 2 (fun i x => x = ∑ k ∈ Finset.range 4096, A k (i 1).val * B k (2048 * (i 0).val + (i 2).val)) (by decide +kernel) (fun t hf y => ?_) i (Memref.isWhole_whole _)
  have h3 := (flush0_2 t).mp hf
  have h0 : (y 0).val < 1 := (y 0).isLt
  have h1 : (y 1).val < 1024 := (y 1).isLt
  have h2 : (y 2).val < 1024 := (y 2).isLt
  blk_simp
  rw [after0_2, out_scr m c t h3]
  refine (pay3 _ y).trans ((scr m c A B hA hB t.val t.isLt (y 1, y 2)).trans ?_)
  unfold term
  blk_simp [e0_2]
  rw [h3, Nat.div_div_eq_div_mul, Nat.mul_comm (t.val / 16) 1024,
    show 1024 * (t.val / 2 % 8) + (y 2).val = 2048 * (t.val / 2 % 8 / 2) + (t.val / 2 % 2 * 1024 + (y 2).val) by omega]

end

theorem ref_val (x0 x1) (A B : ℕ → ℕ → EReal) (hA : ∀ i : S4096x2048.Idx, x0 i = A (i 0).val (i 1).val)
    (hB : ∀ i : S4096x8192.Idx, x1 i = B (i 0).val (i 1).val) (i : S4x2048x2048.Idx) :
    Cert.FfnInDwRefIdeal.Read.val_main_v8 (F := Ideal) x0 x1 i = ∑ k ∈ Finset.range 4096, A k (i 1).val * B k (2048 * (i 0).val + (i 2).val) := by
  have h0 : (i 0).val < 4 := (i 0).isLt
  have h1 : (i 1).val < 2048 := (i 1).isLt
  have h2 : (i 2).val < 2048 := (i 2).isLt
  refine ((Cert.FfnInDwRefIdeal.Read.val_main_v7_apply x0 x1 i).trans ((Cert.FfnInDwRefIdeal.Read.val_main_v6_apply x0 x1 _).trans
    ((Cert.FfnInDwRefIdeal.Read.val_main_v5_apply x0 x1 _).trans (Cert.FfnInDwRefIdeal.Read.val_main_v4_apply x0 x1 _)))).trans ?_
  rw [← Fin.sum_univ_eq_sum_range (fun k => A k (i 1).val * B k (2048 * (i 0).val + (i 2).val))]
  refine Finset.sum_congr rfl fun k _ => ?_
  refine (congrArg₂ (· * ·) (hB _) (hA _)).trans ((mul_comm _ _).trans (congrArg₂ (· * ·) (congrArg (A k) ?_) (congrArg (B k) ?_)))
  · show (((i 1).val * 4 + (i 0).val) * 2048 + (i 2).val) / 8192 = _
    omega
  · show (((i 1).val * 4 + (i 0).val) * 2048 + (i 2).val) % 8192 = _
    omega

theorem frame_ref : Cert.quiescent_FfnInDwRefIdeal (hFfnInDwRefIdeal := Cert.FfnInDwRefIdeal.Gen.facts) := fun m ρ _ =>
  (θ_run Cert.FfnInDwRefIdeal.defs _ _).mono (fun r h => ⟨fun c => (h c).2, sem_eq_zero_of_no_sems (by decide) r.2⟩)
    (Cert.FfnInDwRefIdeal.Value.run (F := Ideal) m ρ)

/-- The kernel's gradient and the reference's are the same sums. -/
theorem algebraic : Cert.algebraic_FfnInDwIdeal_FfnInDwRefIdeal (hFfnInDwIdeal := Cert.FfnInDwIdeal.Gen.facts) (hFfnInDwRefIdeal := Cert.FfnInDwRefIdeal.Gen.facts) := by
  intro m ρ m' ρ' _ hagree
  choose A hA using fun c : Dev nD => total2 (M := 4096) (K := 2048) (m ((c : Thread nD τ).loc main_arg0))
  choose B hB using fun c : Dev nD => total2 (M := 4096) (K := 8192) (m ((c : Thread nD τ).loc main_arg1))
  refine ⟨fun c => fun i : S4x2048x2048.Idx => (∑ k ∈ Finset.range 4096, A c k (i 1).val * B c k (2048 * (i 0).val + (i 2).val) : EReal), ?_, ?_⟩
  · exact (θ_run defs _ _).mono (fun r h c => ⟨(h c).1.trans (funext (arr m c (A c) (B c) (hA c) (hB c))), (h c).2⟩)
      (Cert.FfnInDwIdeal.Value.run_blocks (F := Ideal) m ρ)
  · refine (θ_run Cert.FfnInDwRefIdeal.defs _ _).mono (fun r h c => ?_) (Cert.FfnInDwRefIdeal.Value.run (F := Ideal) m' ρ')
    obtain ⟨h0, ha⟩ := h c
    obtain ⟨a0, a1⟩ := hagree c
    exact ⟨(h0.trans (Cert.FfnInDwRefIdeal.Read.val_main_v8_eq _ _)).trans (funext fun i => ref_val _ _ (A c) (B c)
      (fun i => (congrFun a0 i).trans (hA c i)) (fun i => (congrFun a1 i).trans (hB c i)) i), ha⟩

end Cert.FfnInDwVal

end
-- ==== Proof.FfnInDxVal.lean ====
/- The gradient of the feed-forward block's input, as the kernel accumulates it and as the reference states it. -/
module

public import proofs.«01_k».proof.Defs
public import proofs.«01_k».proof.Proof.Mm
public import proofs.«01_k».proof.Proof.Gen.FfnInDxIdeal.Value
public import proofs.«01_k».proof.Proof.Gen.FfnInDxRefIdeal.Run
public import proofs.«01_k».proof.Proof.Gen.FfnInDxRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.FfnInDxVal

open Cert.FfnInDxIdeal Cert.FfnInDxIdeal.Gen Cert.FfnInDxIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S1024x2048) hz2, View.ld_unit_zero (S := S1x1024x2048) hz3]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S1024x2048) hz2, View.ld_unit_zero (S := S1x1024x2048) hz3]

theorem soutC (c : Dev nD) (i : grid0.Coords) (a3) (h3) (a4) (h4) (a5) (h5) (a6) (h6) (hc0) (hc1) (x0 x1 xs) :
    sout0_C_0 (F := F) c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S1024x2048) hz2, View.ld_unit_zero (S := S1x1024x2048) hz3]

theorem outC (c : Dev nD) (i : grid0.Coords) (a3) (h3) (a4) (h4) (a5) (h5) (a6) (h6) (hc0) (hc1) (x0 x1 xs) :
    out0_C_2 (F := F) c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S1024x2048) hz2, View.ld_unit_zero (S := S1x1024x2048) hz3]

end

theorem e0_0 : ∀ t : Fin cfg0.N, win0_0.index t = ![t.val / 8, t.val % 4] :=
  (by decide +kernel : ∀ t : Fin grid0.N, win0_0.index t = ![t.val / 8, t.val % 4])
theorem e0_1 : ∀ t : Fin cfg0.N, win0_1.index t = ![t.val % 4, t.val / 4 % 2, 0] :=
  (by decide +kernel : ∀ t : Fin grid0.N, win0_1.index t = ![t.val % 4, t.val / 4 % 2, 0])
theorem e0_2 : ∀ t : Fin cfg0.N, win0_2.index t = ![t.val / 8, t.val / 4 % 2] :=
  (by decide +kernel : ∀ t : Fin grid0.N, win0_2.index t = ![t.val / 8, t.val / 4 % 2])

theorem pay1 (y) : k0_pay1 (F := Ideal) y = 0 := word_zero

theorem pay2 (s : Vec Ideal S1024x1024 .f32) (x : Vec Ideal S1024x2048 .bf16) (y : Vec Ideal S1x1024x2048 .bf16) (i j : Fin 1024) :
    k0_pay2 (F := Ideal) s x y (ix2 i j) = s (ix2 i j) + ∑ k : Fin 2048, x (ix2 i k) * y (ix3 0 j k) := by
  unfold k0_pay2
  rw [shapeCast_self]
  refine congrArg (s (ix2 i j) + ·) ((nt _ rfl x _ i j).trans (Finset.sum_congr rfl fun k _ => congrArg (x (ix2 i k) * ·) ?_))
  exact shapeCast_1ab_ab_apply (a := 1024) (b := 2048) y _ j k

section
variable (m : (ℓ : Loc nD τ sig) → Buf (Elt Ideal) ℓ) (c : Dev nD) (A B : ℕ → ℕ → EReal)
  (hA : ∀ i : S4096x8192.Idx, m ((c : Thread nD τ).loc main_arg0) i = A (i 0).val (i 1).val)
  (hB : ∀ i : S2048x8192.Idx, m ((c : Thread nD τ).loc main_arg1) i = B (i 0).val (i 1).val)

/-- The weights as the host lays them out for the call: four blocks of columns, one after another. -/
theorem host_w : V (F := Ideal) m c main_v1 = transpose S4x2048x2048 [1, 0, 2]
    (shapeCast S2048x4x2048 (m ((c : Thread nD τ).loc main_arg1)) shapeCasts_S2048x8192_S2048x4x2048) transposes_S2048x4x2048_S4x2048x2048_1_0_2 := by
  unfold V
  after_results
  rfl

include hB in
theorem host_w_apply (i : S4x2048x2048.Idx) : V (F := Ideal) m c main_v1 i = B (i 1).val (2048 * (i 0).val + (i 2).val) := by
  rw [host_w]
  exact stacked_apply (m ((c : Thread nD τ).loc main_arg1)) _ _ B hB i

include hA in
theorem blkA (t : Fin cfg0.N) (i : Fin 1024) (k : Fin 2048) :
    iblk (F := Ideal) m c 0 t (ix2 i k) = A (1024 * (t.val / 8) + i.val) (2048 * (t.val % 4) + k.val) := by
  blk_simp [iblk, e0_0]
  refine ((congrFun (V_main_arg0 m c) _).trans (hA _)).trans ?_
  congr 1
  · blk_simp [e0_0]
    show t.val / 8 * 1024 + i.val = _
    omega
  · blk_simp [e0_0]
    show t.val % 4 * 2048 + k.val = _
    omega

include hB in
theorem blkB (t : Fin cfg0.N) (j : Fin 1024) (k : Fin 2048) :
    iblk (F := Ideal) m c 1 t (ix3 0 j k) = B (1024 * (t.val / 4 % 2) + j.val) (2048 * (t.val % 4) + k.val) := by
  blk_simp [iblk, e0_1]
  refine (host_w_apply m c B hB _).trans ?_
  congr 1
  · blk_simp [e0_1]
    show t.val / 4 % 2 * 1024 + j.val = _
    omega
  · blk_simp [e0_1]

/-- The product's term number `k` at an element of the block of run `r`. -/
def term (r : ℕ) (x : Fin 1024 × Fin 1024) (k : ℕ) : EReal := A (1024 * (r / 2) + x.1.val) k * B (1024 * (r % 2) + x.2.val) k

include hA hB in
theorem run_sum (t : Fin cfg0.N) (s : Vec Ideal S1024x1024 .f32) (x : Fin 1024 × Fin 1024) :
    k0_pay2 (F := Ideal) s (iblk m c 0 t) (iblk m c 1 t) (ix2 x.1 x.2)
      = s (ix2 x.1 x.2) + ∑ k : Fin 2048, term A B (t.val / 4) x (2048 * (t.val % 4) + k) := by
  refine (pay2 _ _ _ _ _).trans (congrArg (s (ix2 x.1 x.2) + ·) (Finset.sum_congr rfl fun k _ => ?_))
  rw [blkA m c A hA, blkB m c B hB]
  unfold term
  rw [Nat.div_div_eq_div_mul]

include hA hB in
theorem scr (n : ℕ) (hn : n < cfg0.N) (x : Fin 1024 × Fin 1024) :
    (outsAt0 (F := Ideal) m c n hn).2 (ix2 x.1 x.2) = ∑ k ∈ Finset.range (2048 * (n % 4 + 1)), term A B (n / 4) x k := by
  refine acc_inv 4 2048 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · by_cases h3 : n % 4 = 3
    · rw [outsAt0_C m c ⟨n, h⟩ hm h3]
      dsimp only
      rw [soutC]
      exact run_sum m c A B hA hB ⟨n, h⟩ _ x
    · rw [outsAt0_B m c ⟨n, h⟩ hm h3]
      dsimp only
      rw [soutB]
      exact run_sum m c A B hA hB ⟨n, h⟩ _ x

theorem out_scr (t : Fin cfg0.N) (h3 : t.val % 4 = 3) : (outsAt0 (F := Ideal) m c t.val t.isLt).1 = (outsAt0 (F := Ideal) m c t.val t.isLt).2 := by
  rw [outsAt0_C m c t (by omega) h3]
  dsimp only
  rw [outC, soutC]

include hA hB in
theorem arr (i : S4096x2048.Idx) : (dats (F := Ideal) m 0 c).arrAt 2 cfg0.N i = ∑ k ∈ Finset.range 8192, A (i 0).val k * B (i 1).val k := by
  refine (dats m 0 c).arrAt_forall_of_covers 2 (fun i x => x = ∑ k ∈ Finset.range 8192, A (i 0).val k * B (i 1).val k) (by decide +kernel) (fun t hf y => ?_) i (Memref.isWhole_whole _)
  have h3 := (flush0_2 t).mp hf
  have h0 : (y 0).val < 1024 := (y 0).isLt
  have h1 : (y 1).val < 1024 := (y 1).isLt
  blk_simp
  rw [after0_2, out_scr m c t h3]
  refine (congrArg (outsAt0 (F := Ideal) m c t.val t.isLt).2 (eq_ix2 (n0 := 1024) (n1 := 1024) y)).trans ((scr m c A B hA hB t.val t.isLt (y 0, y 1)).trans ?_)
  unfold term
  blk_simp [e0_2]
  rw [h3, Nat.div_div_eq_div_mul, Nat.mul_comm (t.val / 8) 1024, Nat.mul_comm (t.val / 4 % 2) 1024]

end

theorem ref_val (x0 x1) (A B : ℕ → ℕ → EReal) (hA : ∀ i : S4096x8192.Idx, x0 i = A (i 0).val (i 1).val)
    (hB : ∀ i : S2048x8192.Idx, x1 i = B (i 0).val (i 1).val) (i : S4096x2048.Idx) :
    Cert.FfnInDxRefIdeal.Read.val_main_v4 (F := Ideal) x0 x1 i = ∑ k ∈ Finset.range 8192, A (i 0).val k * B (i 1).val k := by
  rw [Cert.FfnInDxRefIdeal.Read.val_main_v4_apply, ← Fin.sum_univ_eq_sum_range (fun k => A (i 0).val k * B (i 1).val k)]
  refine Finset.sum_congr rfl fun k _ => ?_
  exact congrArg₂ (· * ·) (hA _) (hB _)

theorem frame_ref : Cert.quiescent_FfnInDxRefIdeal (hFfnInDxRefIdeal := Cert.FfnInDxRefIdeal.Gen.facts) := fun m ρ _ =>
  (θ_run Cert.FfnInDxRefIdeal.defs _ _).mono (fun r h => ⟨fun c => (h c).2, sem_eq_zero_of_no_sems (by decide) r.2⟩)
    (Cert.FfnInDxRefIdeal.Value.run (F := Ideal) m ρ)

/-- The kernel's gradient and the reference's are the same sums. -/
theorem algebraic : Cert.algebraic_FfnInDxIdeal_FfnInDxRefIdeal (hFfnInDxIdeal := Cert.FfnInDxIdeal.Gen.facts) (hFfnInDxRefIdeal := Cert.FfnInDxRefIdeal.Gen.facts) := by
  intro m ρ m' ρ' _ hagree
  choose A hA using fun c : Dev nD => total2 (M := 4096) (K := 8192) (m ((c : Thread nD τ).loc main_arg0))
  choose B hB using fun c : Dev nD => total2 (M := 2048) (K := 8192) (m ((c : Thread nD τ).loc main_arg1))
  refine ⟨fun c => fun i : S4096x2048.Idx => (∑ k ∈ Finset.range 8192, A c (i 0).val k * B c (i 1).val k : EReal), ?_, ?_⟩
  · exact (θ_run defs _ _).mono (fun r h c => ⟨(h c).1.trans (funext (arr m c (A c) (B c) (hA c) (hB c))), (h c).2⟩)
      (Cert.FfnInDxIdeal.Value.run_blocks (F := Ideal) m ρ)
  · refine (θ_run Cert.FfnInDxRefIdeal.defs _ _).mono (fun r h c => ?_) (Cert.FfnInDxRefIdeal.Value.run (F := Ideal) m' ρ')
    obtain ⟨h0, ha⟩ := h c
    obtain ⟨a0, a1⟩ := hagree c
    exact ⟨(h0.trans (Cert.FfnInDxRefIdeal.Read.val_main_v4_eq _ _)).trans (funext fun i => ref_val _ _ (A c) (B c)
      (fun i => (congrFun a0 i).trans (hA c i)) (fun i => (congrFun a1 i).trans (hB c i)) i), ha⟩

end Cert.FfnInDxVal

end
-- ==== Proof.MixOutVal.lean ====
/- A mixer's output projection, as the kernel computes it and as the reference states it. -/
module

public import proofs.«01_k».proof.Defs
public import proofs.«01_k».proof.Proof.Mm
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.MixOutVal

open Cert.MixOutIdeal Cert.MixOutIdeal.Gen Cert.MixOutIdeal.Facts Cert.Mm

theorem out_eq {F : FTy → Type} [FloatOps F] (x0 : Vec F S1024x2048 .bf16) (x1 : Vec F S2048x1024 .bf16) : out0_2 (F := F) x0 x1 = k0_pay1 x0 x1 := by
  unfold out0_2
  rw [View.canon_unit_zero (S := S1024x1024) hz2]
  simp only [View.ld_unit_zero (S := S1024x2048) hz2, View.ld_unit_zero (S := S2048x1024) hz2]

theorem e0_0 : ∀ t : Fin cfg0.N, win0_0.index t = ![t.val / 2, 0] := (by decide +kernel : ∀ t : Fin grid0.N, win0_0.index t = ![t.val / 2, 0])
theorem e0_1 : ∀ t : Fin cfg0.N, win0_1.index t = ![0, t.val % 2] := (by decide +kernel : ∀ t : Fin grid0.N, win0_1.index t = ![0, t.val % 2])
theorem e0_2 : ∀ t : Fin cfg0.N, win0_2.index t = ![t.val / 2, t.val % 2] := (by decide +kernel : ∀ t : Fin grid0.N, win0_2.index t = ![t.val / 2, t.val % 2])

theorem pay (x : Vec Ideal S1024x2048 .bf16) (y : Vec Ideal S2048x1024 .bf16) (i j : Fin 1024) :
    k0_pay1 (F := Ideal) x y (ix2 i j) = ∑ k : Fin 2048, x (ix2 i k) * y (ix2 k j) := nn _ rfl x y i j

section
variable (m : (ℓ : Loc nD τ sig) → Buf (Elt Ideal) ℓ) (c : Dev nD) (A B : ℕ → ℕ → EReal)
  (hA : ∀ i : S4096x2048.Idx, m ((c : Thread nD τ).loc main_arg0) i = A (i 0).val (i 1).val)
  (hB : ∀ i : S2048x2048.Idx, m ((c : Thread nD τ).loc main_arg1) i = B (i 0).val (i 1).val)

include hA in
theorem blkA (t : Fin cfg0.N) (i : Fin 1024) (k : Fin 2048) : iblk (F := Ideal) m c 0 t (ix2 i k) = A (1024 * (t.val / 2) + i.val) k.val := by
  blk_simp [iblk, e0_0]
  refine (hA _).trans ?_
  congr 1
  · blk_simp [e0_0]
    show t.val / 2 * 1024 + i.val = _
    omega
  · blk_simp [e0_0]

include hB in
theorem blkB (t : Fin cfg0.N) (k : Fin 2048) (j : Fin 1024) : iblk (F := Ideal) m c 1 t (ix2 k j) = B k.val (1024 * (t.val % 2) + j.val) := by
  blk_simp [iblk, e0_1]
  refine (hB _).trans ?_
  congr 1
  · blk_simp [e0_1]
  · blk_simp [e0_1]
    show t.val % 2 * 1024 + j.val = _
    omega

include hA hB in
theorem blk_out (t : Fin cfg0.N) (i j : Fin 1024) : k0_pay1 (F := Ideal) (iblk m c 0 t) (iblk m c 1 t) (ix2 i j)
    = ∑ k : Fin 2048, A (1024 * (t.val / 2) + i.val) k.val * B k.val (1024 * (t.val % 2) + j.val) := by
  refine (pay _ _ i j).trans (Finset.sum_congr rfl fun k _ => ?_)
  rw [blkA m c A hA, blkB m c B hB]

include hA hB in
theorem arr (i : S4096x2048.Idx) : (dats (F := Ideal) m 0 c).arrAt 2 cfg0.N i = ∑ k : Fin 2048, A (i 0).val k.val * B k.val (i 1).val := by
  refine (dats m 0 c).arrAt_forall_of_covers 2 (fun i x => x = ∑ k : Fin 2048, A (i 0).val k.val * B k.val (i 1).val) (by decide +kernel) (fun t hf y => ?_) i (Memref.isWhole_whole _)
  blk_simp
  rw [after0_2, out_eq]
  refine (congrArg (k0_pay1 (F := Ideal) (iblk m c 0 t) (iblk m c 1 t)) (eq_ix2 (n0 := 1024) (n1 := 1024) y)).trans ((blk_out m c A B hA hB t (y 0) (y 1)).trans ?_)
  blk_simp [e0_2]
  rw [Nat.mul_comm (t.val / 2) 1024, Nat.mul_comm (t.val % 2) 1024]

end

theorem ref_val (x0 x1) (A B : ℕ → ℕ → EReal) (hA : ∀ i : S4096x2048.Idx, x0 i = A (i 0).val (i 1).val)
    (hB : ∀ i : S2048x2048.Idx, x1 i = B (i 0).val (i 1).val) (i : S4096x2048.Idx) :
    Cert.MixOutRefIdeal.Read.val_main_v2 (F := Ideal) x0 x1 i = ∑ k : Fin 2048, A (i 0).val k.val * B k.val (i 1).val := by
  rw [Cert.MixOutRefIdeal.Read.val_main_v2_apply]
  exact Finset.sum_congr rfl fun k _ => congrArg₂ (· * ·) (hA _) (hB _)

theorem frame_ref : Cert.quiescent_MixOutRefIdeal (hMixOutRefIdeal := Cert.MixOutRefIdeal.Gen.facts) := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The kernel's product and the reference's are the same sums. -/
theorem algebraic : Cert.algebraic_MixOutIdeal_MixOutRefIdeal (hMixOutIdeal := Cert.MixOutIdeal.Gen.facts) (hMixOutRefIdeal := Cert.MixOutRefIdeal.Gen.facts) := by
  intro m ρ m' ρ' _ hagree
  choose A hA using fun c : Dev nD => total2 (M := 4096) (K := 2048) (m ((c : Thread nD τ).loc main_arg0))
  choose B hB using fun c : Dev nD => total2 (M := 2048) (K := 2048) (m ((c : Thread nD τ).loc main_arg1))
  refine ⟨fun c => fun i : S4096x2048.Idx => (∑ k : Fin 2048, A c (i 0).val k.val * B c k.val (i 1).val : EReal), ?_, ?_⟩
  · exact (θ_run defs _ _).mono (fun r h c => ⟨(h c).1.trans (funext (arr m c (A c) (B c) (hA c) (hB c))), (h c).2⟩)
      (Cert.MixOutIdeal.Value.run_blocks (F := Ideal) m ρ)
  · refine (θ_run Cert.MixOutRefIdeal.defs _ _).mono (fun r h c => ?_) (Cert.MixOutRefIdeal.Value.run (F := Ideal) m' ρ')
    obtain ⟨h0, ha⟩ := h c
    obtain ⟨a0, a1⟩ := hagree c
    exact ⟨(h0.trans (Cert.MixOutRefIdeal.Read.val_main_v2_eq _ _)).trans (funext fun i => ref_val _ _ (A c) (B c)
      (fun i => (congrFun a0 i).trans (hA c i)) (fun i => (congrFun a1 i).trans (hB c i)) i), ha⟩

end Cert.MixOutVal

end
-- ==== Proof.MixOutDxVal.lean ====
/- The input gradient of a mixer's output projection, as the kernel computes it and as the reference states it. -/
module

public import proofs.«01_k».proof.Defs
public import proofs.«01_k».proof.Proof.Mm
public import proofs.«01_k».proof.Proof.Gen.MixOutDxIdeal.Value
public import proofs.«01_k».proof.Proof.Gen.MixOutDxRefIdeal.Run
public import proofs.«01_k».proof.Proof.Gen.MixOutDxRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.MixOutDxVal

open Cert.MixOutDxIdeal Cert.MixOutDxIdeal.Gen Cert.MixOutDxIdeal.Facts Cert.Mm

theorem out_eq {F : FTy → Type} [FloatOps F] (x0 : Vec F S1024x2048 .bf16) (x1 : Vec F S1024x2048 .bf16) : out0_2 (F := F) x0 x1 = k0_pay1 x0 x1 := by
  unfold out0_2
  rw [View.canon_unit_zero (S := S1024x1024) hz2]
  simp only [View.ld_unit_zero (S := S1024x2048) hz2]

theorem e0_0 : ∀ t : Fin cfg0.N, win0_0.index t = ![t.val / 2, 0] := (by decide +kernel : ∀ t : Fin grid0.N, win0_0.index t = ![t.val / 2, 0])
theorem e0_1 : ∀ t : Fin cfg0.N, win0_1.index t = ![t.val % 2, 0] := (by decide +kernel : ∀ t : Fin grid0.N, win0_1.index t = ![t.val % 2, 0])
theorem e0_2 : ∀ t : Fin cfg0.N, win0_2.index t = ![t.val / 2, t.val % 2] := (by decide +kernel : ∀ t : Fin grid0.N, win0_2.index t = ![t.val / 2, t.val % 2])

theorem pay (x : Vec Ideal S1024x2048 .bf16) (y : Vec Ideal S1024x2048 .bf16) (i j : Fin 1024) :
    k0_pay1 (F := Ideal) x y (ix2 i j) = ∑ k : Fin 2048, x (ix2 i k) * y (ix2 j k) := nt _ rfl x y i j

section
variable (m : (ℓ : Loc nD τ sig) → Buf (Elt Ideal) ℓ) (c : Dev nD) (A B : ℕ → ℕ → EReal)
  (hA : ∀ i : S4096x2048.Idx, m ((c : Thread nD τ).loc main_arg0) i = A (i 0).val (i 1).val)
  (hB : ∀ i : S2048x2048.Idx, m ((c : Thread nD τ).loc main_arg1) i = B (i 0).val (i 1).val)

include hA in
theorem blkA (t : Fin cfg0.N) (i : Fin 1024) (k : Fin 2048) : iblk (F := Ideal) m c 0 t (ix2 i k) = A (1024 * (t.val / 2) + i.val) k.val := by
  blk_simp [iblk, e0_0]
  refine (hA _).trans ?_
  congr 1
  · blk_simp [e0_0]
    show t.val / 2 * 1024 + i.val = _
    omega
  · blk_simp [e0_0]

include hB in
theorem blkB (t : Fin cfg0.N) (j : Fin 1024) (k : Fin 2048) : iblk (F := Ideal) m c 1 t (ix2 j k) = B (1024 * (t.val % 2) + j.val) k.val := by
  blk_simp [iblk, e0_1]
  refine (hB _).trans ?_
  congr 1
  · blk_simp [e0_1]
    show t.val % 2 * 1024 + j.val = _
    omega
  · blk_simp [e0_1]

include hA hB in
theorem blk_out (t : Fin cfg0.N) (i j : Fin 1024) : k0_pay1 (F := Ideal) (iblk m c 0 t) (iblk m c 1 t) (ix2 i j)
    = ∑ k : Fin 2048, A (1024 * (t.val / 2) + i.val) k.val * B (1024 * (t.val % 2) + j.val) k.val := by
  refine (pay _ _ i j).trans (Finset.sum_congr rfl fun k _ => ?_)
  rw [blkA m c A hA, blkB m c B hB]

include hA hB in
theorem arr (i : S4096x2048.Idx) : (dats (F := Ideal) m 0 c).arrAt 2 cfg0.N i = ∑ k : Fin 2048, A (i 0).val k.val * B (i 1).val k.val := by
  refine (dats m 0 c).arrAt_forall_of_covers 2 (fun i x => x = ∑ k : Fin 2048, A (i 0).val k.val * B (i 1).val k.val) (by decide +kernel) (fun t hf y => ?_) i (Memref.isWhole_whole _)
  blk_simp
  rw [after0_2, out_eq]
  refine (congrArg (k0_pay1 (F := Ideal) (iblk m c 0 t) (iblk m c 1 t)) (eq_ix2 (n0 := 1024) (n1 := 1024) y)).trans ((blk_out m c A B hA hB t (y 0) (y 1)).trans ?_)
  blk_simp [e0_2]
  rw [Nat.mul_comm (t.val / 2) 1024, Nat.mul_comm (t.val % 2) 1024]

end

theorem ref_val (x0 x1) (A B : ℕ → ℕ → EReal) (hA : ∀ i : S4096x2048.Idx, x0 i = A (i 0).val (i 1).val)
    (hB : ∀ i : S2048x2048.Idx, x1 i = B (i 0).val (i 1).val) (i : S4096x2048.Idx) :
    Cert.MixOutDxRefIdeal.Read.val_main_v4 (F := Ideal) x0 x1 i = ∑ k : Fin 2048, A (i 0).val k.val * B (i 1).val k.val := by
  rw [Cert.MixOutDxRefIdeal.Read.val_main_v4_apply]
  exact Finset.sum_congr rfl fun k _ => congrArg₂ (· * ·) (hA _) (hB _)

theorem frame_ref : Cert.quiescent_MixOutDxRefIdeal (hMixOutDxRefIdeal := Cert.MixOutDxRefIdeal.Gen.facts) := fun m ρ _ =>
  (θ_run Cert.MixOutDxRefIdeal.defs _ _).mono (fun r h => ⟨fun c => (h c).2, sem_eq_zero_of_no_sems (by decide) r.2⟩)
    (Cert.MixOutDxRefIdeal.Value.run (F := Ideal) m ρ)

/-- The kernel's gradient and the reference's are the same sums. -/
theorem algebraic : Cert.algebraic_MixOutDxIdeal_MixOutDxRefIdeal (hMixOutDxIdeal := Cert.MixOutDxIdeal.Gen.facts) (hMixOutDxRefIdeal := Cert.MixOutDxRefIdeal.Gen.facts) := by
  intro m ρ m' ρ' _ hagree
  choose A hA using fun c : Dev nD => total2 (M := 4096) (K := 2048) (m ((c : Thread nD τ).loc main_arg0))
  choose B hB using fun c : Dev nD => total2 (M := 2048) (K := 2048) (m ((c : Thread nD τ).loc main_arg1))
  refine ⟨fun c => fun i : S4096x2048.Idx => (∑ k : Fin 2048, A c (i 0).val k.val * B c (i 1).val k.val : EReal), ?_, ?_⟩
  · exact (θ_run defs _ _).mono (fun r h c => ⟨(h c).1.trans (funext (arr m c (A c) (B c) (hA c) (hB c))), (h c).2⟩)
      (Cert.MixOutDxIdeal.Value.run_blocks (F := Ideal) m ρ)
  · refine (θ_run Cert.MixOutDxRefIdeal.defs _ _).mono (fun r h c => ?_) (Cert.MixOutDxRefIdeal.Value.run (F := Ideal) m' ρ')
    obtain ⟨h0, ha⟩ := h c
    obtain ⟨a0, a1⟩ := hagree c
    exact ⟨(h0.trans (Cert.MixOutDxRefIdeal.Read.val_main_v4_eq _ _)).trans (funext fun i => ref_val _ _ (A c) (B c)
      (fun i => (congrFun a0 i).trans (hA c i)) (fun i => (congrFun a1 i).trans (hB c i)) i), ha⟩

end Cert.MixOutDxVal

end
-- ==== Proof.MixOutDwVal.lean ====
/- The gradient of the weights of a mixer's output projection, as the kernel accumulates it and as the reference states it. -/
module

public import proofs.«01_k».proof.Defs
public import proofs.«01_k».proof.Proof.Mm
public import proofs.«01_k».proof.Proof.Gen.MixOutDwIdeal.Value
public import proofs.«01_k».proof.Proof.Gen.MixOutDwRefIdeal.Run
public import proofs.«01_k».proof.Proof.Gen.MixOutDwRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.MixOutDwVal

open Cert.MixOutDwIdeal Cert.MixOutDwIdeal.Gen Cert.MixOutDwIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S2048x1024) hz2]

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

end

theorem e0_0 : ∀ t : Fin cfg0.N, win0_0.index t = ![t.val % 2, t.val / 4] :=
  (by decide +kernel : ∀ t : Fin grid0.N, win0_0.index t = ![t.val % 2, t.val / 4])
theorem e0_1 : ∀ t : Fin cfg0.N, win0_1.index t = ![t.val % 2, t.val / 2 % 2] :=
  (by decide +kernel : ∀ t : Fin grid0.N, win0_1.index t = ![t.val % 2, t.val / 2 % 2])
theorem e0_2 : ∀ t : Fin cfg0.N, win0_2.index t = ![t.val / 4, t.val / 2 % 2] :=
  (by decide +kernel : ∀ t : Fin grid0.N, win0_2.index t = ![t.val / 4, t.val / 2 % 2])

theorem pay1 (y) : k0_pay1 (F := Ideal) y = 0 := word_zero

theorem pay2 (s : Vec Ideal S1024x1024 .f32) (x : Vec Ideal S2048x1024 .bf16) (y : Vec Ideal S2048x1024 .bf16) (i j : Fin 1024) :
    k0_pay2 (F := Ideal) s x y (ix2 i j) = s (ix2 i j) + ∑ k : Fin 2048, x (ix2 k i) * y (ix2 k j) := by
  unfold k0_pay2
  rw [shapeCast_self]
  exact congrArg (s (ix2 i j) + ·) (tn dot_S2048x1024_S2048x1024_S1024x1024_0_0_1_1_n_n_wf _ rfl x y i j)

section
variable (m : (ℓ : Loc nD τ sig) → Buf (Elt Ideal) ℓ) (c : Dev nD) (A B : ℕ → ℕ → EReal)
  (hA : ∀ i : S4096x2048.Idx, m ((c : Thread nD τ).loc main_arg0) i = A (i 0).val (i 1).val)
  (hB : ∀ i : S4096x2048.Idx, m ((c : Thread nD τ).loc main_arg1) i = B (i 0).val (i 1).val)

include hA in
theorem blkA (t : Fin cfg0.N) (k : Fin 2048) (i : Fin 1024) :
    iblk (F := Ideal) m c 0 t (ix2 k i) = A (2048 * (t.val % 2) + k.val) (1024 * (t.val / 4) + i.val) := by
  blk_simp [iblk, e0_0]
  refine (hA _).trans ?_
  congr 1
  · blk_simp [e0_0]
    show t.val % 2 * 2048 + k.val = _
    omega
  · blk_simp [e0_0]
    show t.val / 4 * 1024 + i.val = _
    omega

include hB in
theorem blkB (t : Fin cfg0.N) (k : Fin 2048) (j : Fin 1024) :
    iblk (F := Ideal) m c 1 t (ix2 k j) = B (2048 * (t.val % 2) + k.val) (1024 * (t.val / 2 % 2) + j.val) := by
  blk_simp [iblk, e0_1]
  refine (hB _).trans ?_
  congr 1
  · blk_simp [e0_1]
    show t.val % 2 * 2048 + k.val = _
    omega
  · blk_simp [e0_1]
    show t.val / 2 % 2 * 1024 + j.val = _
    omega

/-- The product's term number `k` at an element of the block of run `r`. -/
def term (r : ℕ) (x : Fin 1024 × Fin 1024) (k : ℕ) : EReal := A k (1024 * (r / 2) + x.1.val) * B k (1024 * (r % 2) + x.2.val)

include hA hB in
theorem run_sum (t : Fin cfg0.N) (s : Vec Ideal S1024x1024 .f32) (x : Fin 1024 × Fin 1024) :
    k0_pay2 (F := Ideal) s (iblk m c 0 t) (iblk m c 1 t) (ix2 x.1 x.2)
      = s (ix2 x.1 x.2) + ∑ k : Fin 2048, term A B (t.val / 2) x (2048 * (t.val % 2) + k) := by
  refine (pay2 _ _ _ _ _).trans (congrArg (s (ix2 x.1 x.2) + ·) (Finset.sum_congr rfl fun k _ => ?_))
  rw [blkA m c A hA, blkB m c B hB]
  unfold term
  rw [Nat.div_div_eq_div_mul]

include hA hB in
theorem scr (n : ℕ) (hn : n < cfg0.N) (x : Fin 1024 × Fin 1024) :
    (outsAt0 (F := Ideal) m c n hn).2 (ix2 x.1 x.2) = ∑ k ∈ Finset.range (2048 * (n % 2 + 1)), term A B (n / 2) x k := by
  refine acc_inv 2 2048 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = k0_pay3 (outsAt0 (F := Ideal) m c t.val t.isLt).2 := by
  rw [outsAt0_B m c t (by omega) h3]
  dsimp only
  rw [outB, soutB]

include hA hB in
theorem arr (i : S2048x2048.Idx) : (dats (F := Ideal) m 0 c).arrAt 2 cfg0.N i = ∑ k ∈ Finset.range 4096, A k (i 0).val * B k (i 1).val := by
  refine (dats m 0 c).arrAt_forall_of_covers 2 (fun i x => x = ∑ k ∈ Finset.range 4096, A k (i 0).val * B k (i 1).val) (by decide +kernel) (fun t hf y => ?_) i (Memref.isWhole_whole _)
  have h3 := (flush0_2 t).mp hf
  have h0 : (y 0).val < 1024 := (y 0).isLt
  have h1 : (y 1).val < 1024 := (y 1).isLt
  blk_simp
  rw [after0_2, out_scr m c t h3]
  refine (congrArg (outsAt0 (F := Ideal) m c t.val t.isLt).2 (eq_ix2 (n0 := 1024) (n1 := 1024) y)).trans ((scr m c A B hA hB t.val t.isLt (y 0, y 1)).trans ?_)
  unfold term
  blk_simp [e0_2]
  rw [h3, Nat.div_div_eq_div_mul, Nat.mul_comm (t.val / 4) 1024, Nat.mul_comm (t.val / 2 % 2) 1024]

end

theorem ref_val (x0 x1) (A B : ℕ → ℕ → EReal) (hA : ∀ i : S4096x2048.Idx, x0 i = A (i 0).val (i 1).val)
    (hB : ∀ i : S4096x2048.Idx, x1 i = B (i 0).val (i 1).val) (i : S2048x2048.Idx) :
    Cert.MixOutDwRefIdeal.Read.val_main_v6 (F := Ideal) x0 x1 i = ∑ k ∈ Finset.range 4096, A k (i 0).val * B k (i 1).val := by
  refine ((Cert.MixOutDwRefIdeal.Read.val_main_v5_apply x0 x1 i).trans (Cert.MixOutDwRefIdeal.Read.val_main_v4_apply x0 x1 _)).trans ?_
  rw [← Fin.sum_univ_eq_sum_range (fun k => A k (i 0).val * B k (i 1).val)]
  refine Finset.sum_congr rfl fun k _ => ?_
  exact (congrArg₂ (· * ·) (hB _) (hA _)).trans (mul_comm _ _)

theorem frame_ref : Cert.quiescent_MixOutDwRefIdeal (hMixOutDwRefIdeal := Cert.MixOutDwRefIdeal.Gen.facts) := fun m ρ _ =>
  (θ_run Cert.MixOutDwRefIdeal.defs _ _).mono (fun r h => ⟨fun c => (h c).2, sem_eq_zero_of_no_sems (by decide) r.2⟩)
    (Cert.MixOutDwRefIdeal.Value.run (F := Ideal) m ρ)

/-- The kernel's gradient and the reference's are the same sums. -/
theorem algebraic : Cert.algebraic_MixOutDwIdeal_MixOutDwRefIdeal (hMixOutDwIdeal := Cert.MixOutDwIdeal.Gen.facts) (hMixOutDwRefIdeal := Cert.MixOutDwRefIdeal.Gen.facts) := by
  intro m ρ m' ρ' _ hagree
  choose A hA using fun c : Dev nD => total2 (M := 4096) (K := 2048) (m ((c : Thread nD τ).loc main_arg0))
  choose B hB using fun c : Dev nD => total2 (M := 4096) (K := 2048) (m ((c : Thread nD τ).loc main_arg1))
  refine ⟨fun c => fun i : S2048x2048.Idx => (∑ k ∈ Finset.range 4096, A c k (i 0).val * B c k (i 1).val : EReal), ?_, ?_⟩
  · exact (θ_run defs _ _).mono (fun r h c => ⟨(h c).1.trans (funext (arr m c (A c) (B c) (hA c) (hB c))), (h c).2⟩)
      (Cert.MixOutDwIdeal.Value.run_blocks (F := Ideal) m ρ)
  · refine (θ_run Cert.MixOutDwRefIdeal.defs _ _).mono (fun r h c => ?_) (Cert.MixOutDwRefIdeal.Value.run (F := Ideal) m' ρ')
    obtain ⟨h0, ha⟩ := h c
    obtain ⟨a0, a1⟩ := hagree c
    exact ⟨(h0.trans (Cert.MixOutDwRefIdeal.Read.val_main_v6_eq _ _)).trans (funext fun i => ref_val _ _ (A c) (B c)
      (fun i => (congrFun a0 i).trans (hA c i)) (fun i => (congrFun a1 i).trans (hB c i)) i), ha⟩

end Cert.MixOutDwVal

end
-- ==== Proof.GmInVal.lean ====
/- The gMLP's input projection, as the kernel computes it and as the reference states it. -/
module

public import proofs.«01_k».proof.Defs
public import proofs.«01_k».proof.Proof.Mm
public import proofs.«01_k».proof.Proof.Gen.GmInIdeal.Value
public import proofs.«01_k».proof.Proof.Gen.GmInRefIdeal.Run
public import proofs.«01_k».proof.Proof.Gen.GmInRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.GmInVal

open Cert.GmInIdeal Cert.GmInIdeal.Gen Cert.GmInIdeal.Facts Cert.Mm

theorem out_eq {F : FTy → Type} [FloatOps F] (x0 : Vec F S1024x2048 .bf16) (x1 : Vec F S1x2048x1024 .bf16) (x2 : Vec F S1x1024 .f32) : out0_3 (F := F) x0 x1 x2 = k0_pay1 x0 x1 x2 := by
  unfold out0_3
  rw [View.canon_unit_zero (S := S1024x1024) hz2]
  simp only [View.ld_unit_zero (S := S1024x2048) hz2, View.ld_unit_zero (S := S1x2048x1024) hz3, View.ld_unit_zero (S := S1x1024) hz2]

theorem e0_0 : ∀ t : Fin cfg0.N, win0_0.index t = ![t.val / 4, 0] := (by decide +kernel : ∀ t : Fin grid0.N, win0_0.index t = ![t.val / 4, 0])
theorem e0_1 : ∀ t : Fin cfg0.N, win0_1.index t = ![t.val % 4, 0, 0] := (by decide +kernel : ∀ t : Fin grid0.N, win0_1.index t = ![t.val % 4, 0, 0])
theorem e0_2 : ∀ t : Fin cfg0.N, win0_2.index t = ![0, t.val % 4] := (by decide +kernel : ∀ t : Fin grid0.N, win0_2.index t = ![0, t.val % 4])
theorem e0_3 : ∀ t : Fin cfg0.N, win0_3.index t = ![t.val / 4, t.val % 4] := (by decide +kernel : ∀ t : Fin grid0.N, win0_3.index t = ![t.val / 4, t.val % 4])

theorem pay (x : Vec Ideal S1024x2048 .bf16) (y : Vec Ideal S1x2048x1024 .bf16) (b : Vec Ideal S1x1024 .f32) (i j : Fin 1024) :
    k0_pay1 (F := Ideal) x y b (ix2 i j) = (∑ k : Fin 2048, x (ix2 i k) * y (ix3 0 k j)) + b (ix2 0 j) := by
  unfold k0_pay1
  refine congrArg₂ (· + ·) ((nn _ rfl x _ i j).trans (Finset.sum_congr rfl fun k _ => congrArg (x (ix2 i k) * ·) ?_)) ?_
  · exact shapeCast_1ab_ab_apply (a := 2048) (b := 1024) y _ k j
  · exact broadcastTo_1b_ab_apply (a := 1024) (b := 1024) b _ i j

section
variable (m : (ℓ : Loc nD τ sig) → Buf (Elt Ideal) ℓ) (c : Dev nD) (A B D : ℕ → ℕ → EReal)
  (hA : ∀ i : S4096x2048.Idx, m ((c : Thread nD τ).loc main_arg0) i = A (i 0).val (i 1).val)
  (hB : ∀ i : S2048x4096.Idx, m ((c : Thread nD τ).loc main_arg1) i = B (i 0).val (i 1).val)
  (hD : ∀ i : S1x4096.Idx, m ((c : Thread nD τ).loc main_arg2) i = D (i 0).val (i 1).val)

/-- The weights as the host lays them out for the call: four blocks of columns, one after another. -/
theorem host_w : V (F := Ideal) m c main_v1 = transpose S4x2048x1024 [1, 0, 2]
    (shapeCast S2048x4x1024 (m ((c : Thread nD τ).loc main_arg1)) shapeCasts_S2048x4096_S2048x4x1024) transposes_S2048x4x1024_S4x2048x1024_1_0_2 := by
  unfold V
  after_results
  rfl

include hB in
theorem host_w_apply (i : S4x2048x1024.Idx) : V (F := Ideal) m c main_v1 i = B (i 1).val (1024 * (i 0).val + (i 2).val) := by
  rw [host_w]
  exact stacked_apply (m ((c : Thread nD τ).loc main_arg1)) _ _ B hB i

include hA in
theorem blkA (t : Fin cfg0.N) (i : Fin 1024) (k : Fin 2048) : iblk (F := Ideal) m c 0 t (ix2 i k) = A (1024 * (t.val / 4) + i.val) k.val := by
  blk_simp [iblk, e0_0]
  refine ((congrFun (V_main_arg0 m c) _).trans (hA _)).trans ?_
  congr 1
  · blk_simp [e0_0]
    show t.val / 4 * 1024 + i.val = _
    omega
  · blk_simp [e0_0]

include hB in
theorem blkB (t : Fin cfg0.N) (k : Fin 2048) (j : Fin 1024) : iblk (F := Ideal) m c 1 t (ix3 0 k j) = B k.val (1024 * (t.val % 4) + j.val) := by
  blk_simp [iblk, e0_1]
  refine (host_w_apply m c B hB _).trans ?_
  congr 1
  · blk_simp [e0_1]
  · blk_simp [e0_1]

include hD in
theorem blkD (t : Fin cfg0.N) (j : Fin 1024) : iblk (F := Ideal) m c 2 t (ix2 0 j) = D 0 (1024 * (t.val % 4) + j.val) := by
  blk_simp [iblk, e0_2]
  refine ((congrFun (V_main_arg2 m c) _).trans (hD _)).trans ?_
  congr 1
  blk_simp [e0_2]
  show t.val % 4 * 1024 + j.val = _
  omega

include hA hB hD in
theorem blk_out (t : Fin cfg0.N) (i j : Fin 1024) : k0_pay1 (F := Ideal) (iblk m c 0 t) (iblk m c 1 t) (iblk m c 2 t) (ix2 i j)
    = (∑ k : Fin 2048, A (1024 * (t.val / 4) + i.val) k.val * B k.val (1024 * (t.val % 4) + j.val)) + D 0 (1024 * (t.val % 4) + j.val) := by
  refine (pay _ _ _ i j).trans (congrArg₂ (· + ·) (Finset.sum_congr rfl fun k _ => ?_) (blkD m c D hD t j))
  rw [blkA m c A hA, blkB m c B hB]

include hA hB hD in
theorem arr (i : S4096x4096.Idx) : (dats (F := Ideal) m 0 c).arrAt 3 cfg0.N i = (∑ k : Fin 2048, A (i 0).val k.val * B k.val (i 1).val) + D 0 (i 1).val := by
  refine (dats m 0 c).arrAt_forall_of_covers 3 (fun i x => x = (∑ k : Fin 2048, A (i 0).val k.val * B k.val (i 1).val) + D 0 (i 1).val) (by decide +kernel) (fun t hf y => ?_) i (Memref.isWhole_whole _)
  blk_simp
  rw [after0_3, out_eq]
  refine (congrArg (k0_pay1 (F := Ideal) (iblk m c 0 t) (iblk m c 1 t) (iblk m c 2 t)) (eq_ix2 (n0 := 1024) (n1 := 1024) y)).trans ((blk_out m c A B D hA hB hD t (y 0) (y 1)).trans ?_)
  blk_simp [e0_3]
  rw [Nat.mul_comm (t.val / 4) 1024, Nat.mul_comm (t.val % 4) 1024]

end

theorem ref_val (x0 x1 x2) (A B D : ℕ → ℕ → EReal) (hA : ∀ i : S4096x2048.Idx, x0 i = A (i 0).val (i 1).val)
    (hB : ∀ i : S2048x4096.Idx, x1 i = B (i 0).val (i 1).val) (hD : ∀ i : S1x4096.Idx, x2 i = D (i 0).val (i 1).val) (i : S4096x4096.Idx) :
    Cert.GmInRefIdeal.Read.val_main_v4 (F := Ideal) x0 x1 x2 i = (∑ k : Fin 2048, A (i 0).val k.val * B k.val (i 1).val) + D 0 (i 1).val := by
  rw [Cert.GmInRefIdeal.Read.val_main_v4_apply, Cert.GmInRefIdeal.Read.val_main_v2_apply, Cert.GmInRefIdeal.Read.val_main_v3_apply]
  exact congrArg₂ (· + ·) (Finset.sum_congr rfl fun k _ => congrArg₂ (· * ·) (hA _) (hB _)) (hD _)

theorem frame_ref : Cert.quiescent_GmInRefIdeal (hGmInRefIdeal := Cert.GmInRefIdeal.Gen.facts) := fun m ρ _ =>
  (θ_run Cert.GmInRefIdeal.defs _ _).mono (fun r h => ⟨fun c => (h c).2, sem_eq_zero_of_no_sems (by decide) r.2⟩)
    (Cert.GmInRefIdeal.Value.run (F := Ideal) m ρ)

/-- The kernel's product and the reference's are the same sums. -/
theorem algebraic : Cert.algebraic_GmInIdeal_GmInRefIdeal (hGmInIdeal := Cert.GmInIdeal.Gen.facts) (hGmInRefIdeal := Cert.GmInRefIdeal.Gen.facts) := by
  intro m ρ m' ρ' _ hagree
  choose A hA using fun c : Dev nD => total2 (M := 4096) (K := 2048) (m ((c : Thread nD τ).loc main_arg0))
  choose B hB using fun c : Dev nD => total2 (M := 2048) (K := 4096) (m ((c : Thread nD τ).loc main_arg1))
  choose D hD using fun c : Dev nD => total2 (M := 1) (K := 4096) (m ((c : Thread nD τ).loc main_arg2))
  refine ⟨fun c => fun i : S4096x4096.Idx => ((∑ k : Fin 2048, A c (i 0).val k.val * B c k.val (i 1).val) + D c 0 (i 1).val : EReal), ?_, ?_⟩
  · exact (θ_run defs _ _).mono (fun r h c => ⟨(h c).1.trans (funext (arr m c (A c) (B c) (D c) (hA c) (hB c) (hD c))), (h c).2⟩)
      (Cert.GmInIdeal.Value.run_blocks (F := Ideal) m ρ)
  · refine (θ_run Cert.GmInRefIdeal.defs _ _).mono (fun r h c => ?_) (Cert.GmInRefIdeal.Value.run (F := Ideal) m' ρ')
    obtain ⟨h0, ha⟩ := h c
    obtain ⟨a0, a1, a2⟩ := hagree c
    exact ⟨(h0.trans (Cert.GmInRefIdeal.Read.val_main_v4_eq _ _ _)).trans (funext fun i => ref_val _ _ _ (A c) (B c) (D c)
      (fun i => (congrFun a0 i).trans (hA c i)) (fun i => (congrFun a1 i).trans (hB c i)) (fun i => (congrFun a2 i).trans (hD c i)) i), ha⟩

end Cert.GmInVal

end
-- ==== Proof.GmInDwVal.lean ====
/- The gradient of the gMLP's input weights, as the kernel accumulates it and as the reference states it. -/
module

public import proofs.«01_k».proof.Defs
public import proofs.«01_k».proof.Proof.Mm
public import proofs.«01_k».proof.Proof.Gen.GmInDwIdeal.Value
public import proofs.«01_k».proof.Proof.Gen.GmInDwRefIdeal.Run
public import proofs.«01_k».proof.Proof.Gen.GmInDwRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.GmInDwVal

open Cert.GmInDwIdeal Cert.GmInDwIdeal.Gen Cert.GmInDwIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2, View.ld_unit_zero (S := S2048x1024) hz2]

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1x1024x1024) hz3]
  simp only [View.readCov_cons_toLoadRect, View.readAt_eq_ld, h3.read_unread, h4.read_unread, h5.read_unread, h6.read_unread, View.readCov_unit_zero (S := S1024x1024) _ hz2, View.ld_unit_zero (S := S1024x1024) hz2, View.ld_unit_zero (S := S2048x1024) hz2]

end

theorem e0_0 : ∀ t : Fin cfg0.N, win0_0.index t = ![t.val % 2, t.val / 8] :=
  (by decide +kernel : ∀ t : Fin grid0.N, win0_0.index t = ![t.val % 2, t.val / 8])
theorem e0_1 : ∀ t : Fin cfg0.N, win0_1.index t = ![t.val % 2, t.val / 2 % 4] :=
  (by decide +kernel : ∀ t : Fin grid0.N, win0_1.index t = ![t.val % 2, t.val / 2 % 4])
theorem e0_2 : ∀ t : Fin cfg0.N, win0_2.index t = ![t.val / 2 % 4, t.val / 8, 0] :=
  (by decide +kernel : ∀ t : Fin grid0.N, win0_2.index t = ![t.val / 2 % 4, t.val / 8, 0])

theorem pay1 (y) : k0_pay1 (F := Ideal) y = 0 := word_zero

theorem pay2 (s : Vec Ideal S1024x1024 .f32) (x : Vec Ideal S2048x1024 .bf16) (y : Vec Ideal S2048x1024 .bf16) (i j : Fin 1024) :
    k0_pay2 (F := Ideal) s x y (ix2 i j) = s (ix2 i j) + ∑ k : Fin 2048, x (ix2 k i) * y (ix2 k j) := by
  unfold k0_pay2
  rw [shapeCast_self]
  exact congrArg (s (ix2 i j) + ·) (tn dot_S2048x1024_S2048x1024_S1024x1024_0_0_1_1_n_n_wf _ rfl x y i j)

section
variable (m : (ℓ : Loc nD τ sig) → Buf (Elt Ideal) ℓ) (c : Dev nD) (A B : ℕ → ℕ → EReal)
  (hA : ∀ i : S4096x2048.Idx, m ((c : Thread nD τ).loc main_arg0) i = A (i 0).val (i 1).val)
  (hB : ∀ i : S4096x4096.Idx, m ((c : Thread nD τ).loc main_arg1) i = B (i 0).val (i 1).val)

include hA in
theorem blkA (t : Fin cfg0.N) (k : Fin 2048) (i : Fin 1024) :
    iblk (F := Ideal) m c 0 t (ix2 k i) = A (2048 * (t.val % 2) + k.val) (1024 * (t.val / 8) + i.val) := by
  blk_simp [iblk, e0_0]
  refine (hA _).trans ?_
  congr 1
  · blk_simp [e0_0]
    show t.val % 2 * 2048 + k.val = _
    omega
  · blk_simp [e0_0]
    show t.val / 8 * 1024 + i.val = _
    omega

include hB in
theorem blkB (t : Fin cfg0.N) (k : Fin 2048) (j : Fin 1024) :
    iblk (F := Ideal) m c 1 t (ix2 k j) = B (2048 * (t.val % 2) + k.val) (1024 * (t.val / 2 % 4) + j.val) := by
  blk_simp [iblk, e0_1]
  refine (hB _).trans ?_
  congr 1
  · blk_simp [e0_1]
    show t.val % 2 * 2048 + k.val = _
    omega
  · blk_simp [e0_1]
    show t.val / 2 % 4 * 1024 + j.val = _
    omega

/-- The product's term number `k` at an element of the block of run `r`. -/
def term (r : ℕ) (x : Fin 1024 × Fin 1024) (k : ℕ) : EReal := A k (1024 * (r / 4) + x.1.val) * B k (1024 * (r % 4) + x.2.val)

include hA hB in
theorem run_sum (t : Fin cfg0.N) (s : Vec Ideal S1024x1024 .f32) (x : Fin 1024 × Fin 1024) :
    k0_pay2 (F := Ideal) s (iblk m c 0 t) (iblk m c 1 t) (ix2 x.1 x.2)
      = s (ix2 x.1 x.2) + ∑ k : Fin 2048, term A B (t.val / 2) x (2048 * (t.val % 2) + k) := by
  refine (pay2 _ _ _ _ _).trans (congrArg (s (ix2 x.1 x.2) + ·) (Finset.sum_congr rfl fun k _ => ?_))
  rw [blkA m c A hA, blkB m c B hB]
  unfold term
  rw [Nat.div_div_eq_div_mul]

include hA hB in
theorem scr (n : ℕ) (hn : n < cfg0.N) (x : Fin 1024 × Fin 1024) :
    (outsAt0 (F := Ideal) m c n hn).2 (ix2 x.1 x.2) = ∑ k ∈ Finset.range (2048 * (n % 2 + 1)), term A B (n / 2) x k := by
  refine acc_inv 2 2048 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = k0_pay3 (outsAt0 (F := Ideal) m c t.val t.isLt).2 := by
  rw [outsAt0_B m c t (by omega) h3]
  dsimp only
  rw [outB, soutB]

/-- The block written back, at an index. -/
theorem pay3 (s : Vec Ideal S1024x1024 .f32) (y : S1x1024x1024.Idx) : k0_pay3 (F := Ideal) s y = s (ix2 (y 1) (y 2)) := by
  have h : k0_pay3 (F := Ideal) s (ix3 (y 0) (y 1) (y 2)) = s (ix2 (y 1) (y 2)) :=
    shapeCast_ab_1ab_apply (a := 1024) (b := 1024) (truncf (F := Ideal) .bf16 s bitsLt_bf16_f32) _ (y 0) (y 1) (y 2)
  exact (congrArg (k0_pay3 (F := Ideal) s) (eq_ix3 y)).trans h

include hA hB in
theorem arr (i : S4x2048x1024.Idx) : (dats (F := Ideal) m 0 c).arrAt 2 cfg0.N i = ∑ k ∈ Finset.range 4096, A k (i 1).val * B k (1024 * (i 0).val + (i 2).val) := by
  refine (dats m 0 c).arrAt_forall_of_covers 2 (fun i x => x = ∑ k ∈ Finset.range 4096, A k (i 1).val * B k (1024 * (i 0).val + (i 2).val)) (by decide +kernel) (fun t hf y => ?_) i (Memref.isWhole_whole _)
  have h3 := (flush0_2 t).mp hf
  have h0 : (y 0).val < 1 := (y 0).isLt
  have h1 : (y 1).val < 1024 := (y 1).isLt
  have h2 : (y 2).val < 1024 := (y 2).isLt
  blk_simp
  rw [after0_2, out_scr m c t h3]
  refine (pay3 _ y).trans ((scr m c A B hA hB t.val t.isLt (y 1, y 2)).trans ?_)
  unfold term
  blk_simp [e0_2]
  rw [h3, Nat.div_div_eq_div_mul, Nat.mul_comm (t.val / 8) 1024]

end

theorem ref_val (x0 x1) (A B : ℕ → ℕ → EReal) (hA : ∀ i : S4096x2048.Idx, x0 i = A (i 0).val (i 1).val)
    (hB : ∀ i : S4096x4096.Idx, x1 i = B (i 0).val (i 1).val) (i : S4x2048x1024.Idx) :
    Cert.GmInDwRefIdeal.Read.val_main_v8 (F := Ideal) x0 x1 i = ∑ k ∈ Finset.range 4096, A k (i 1).val * B k (1024 * (i 0).val + (i 2).val) := by
  have h0 : (i 0).val < 4 := (i 0).isLt
  have h1 : (i 1).val < 2048 := (i 1).isLt
  have h2 : (i 2).val < 1024 := (i 2).isLt
  refine ((Cert.GmInDwRefIdeal.Read.val_main_v7_apply x0 x1 i).trans ((Cert.GmInDwRefIdeal.Read.val_main_v6_apply x0 x1 _).trans
    ((Cert.GmInDwRefIdeal.Read.val_main_v5_apply x0 x1 _).trans (Cert.GmInDwRefIdeal.Read.val_main_v4_apply x0 x1 _)))).trans ?_
  rw [← Fin.sum_univ_eq_sum_range (fun k => A k (i 1).val * B k (1024 * (i 0).val + (i 2).val))]
  refine Finset.sum_congr rfl fun k _ => ?_
  refine (congrArg₂ (· * ·) (hB _) (hA _)).trans ((mul_comm _ _).trans (congrArg₂ (· * ·) (congrArg (A k) ?_) (congrArg (B k) ?_)))
  · show (((i 1).val * 4 + (i 0).val) * 1024 + (i 2).val) / 4096 = _
    omega
  · show (((i 1).val * 4 + (i 0).val) * 1024 + (i 2).val) % 4096 = _
    omega

theorem frame_ref : Cert.quiescent_GmInDwRefIdeal (hGmInDwRefIdeal := Cert.GmInDwRefIdeal.Gen.facts) := fun m ρ _ =>
  (θ_run Cert.GmInDwRefIdeal.defs _ _).mono (fun r h => ⟨fun c => (h c).2, sem_eq_zero_of_no_sems (by decide) r.2⟩)
    (Cert.GmInDwRefIdeal.Value.run (F := Ideal) m ρ)

/-- The kernel's gradient and the reference's are the same sums. -/
theorem algebraic : Cert.algebraic_GmInDwIdeal_GmInDwRefIdeal (hGmInDwIdeal := Cert.GmInDwIdeal.Gen.facts) (hGmInDwRefIdeal := Cert.GmInDwRefIdeal.Gen.facts) := by
  intro m ρ m' ρ' _ hagree
  choose A hA using fun c : Dev nD => total2 (M := 4096) (K := 2048) (m ((c : Thread nD τ).loc main_arg0))
  choose B hB using fun c : Dev nD => total2 (M := 4096) (K := 4096) (m ((c : Thread nD τ).loc main_arg1))
  refine ⟨fun c => fun i : S4x2048x1024.Idx => (∑ k ∈ Finset.range 4096, A c k (i 1).val * B c k (1024 * (i 0).val + (i 2).val) : EReal), ?_, ?_⟩
  · exact (θ_run defs _ _).mono (fun r h c => ⟨(h c).1.trans (funext (arr m c (A c) (B c) (hA c) (hB c))), (h c).2⟩)
      (Cert.GmInDwIdeal.Value.run_blocks (F := Ideal) m ρ)
  · refine (θ_run Cert.GmInDwRefIdeal.defs _ _).mono (fun r h c => ?_) (Cert.GmInDwRefIdeal.Value.run (F := Ideal) m' ρ')
    obtain ⟨h0, ha⟩ := h c
    obtain ⟨a0, a1⟩ := hagree c
    exact ⟨(h0.trans (Cert.GmInDwRefIdeal.Read.val_main_v8_eq _ _)).trans (funext fun i => ref_val _ _ (A c) (B c)
      (fun i => (congrFun a0 i).trans (hA c i)) (fun i => (congrFun a1 i).trans (hB c i)) i), ha⟩

end Cert.GmInDwVal

end
-- ==== Proof.GmInDxVal.lean ====
/- The gradient of the gMLP projection's input, as the kernel accumulates it and as the reference states it. -/
module

public import proofs.«01_k».proof.Defs
public import proofs.«01_k».proof.Proof.Mm
public import proofs.«01_k».proof.Proof.Gen.GmInDxIdeal.Value
public import proofs.«01_k».proof.Proof.Gen.GmInDxRefIdeal.Run
public import proofs.«01_k».proof.Proof.Gen.GmInDxRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.GmInDxVal

open Cert.GmInDxIdeal Cert.GmInDxIdeal.Gen Cert.GmInDxIdeal.Facts Cert.Mm

section
variable {F : FTy → Type} [FloatOps F]

/-- One grid point's update of the running sum: two runs of the contraction, each with its own block of weights. -/
def step (s : Vec F S1024x1024 .f32) (x : Vec F S1024x2048 .bf16) (y : Vec F S2x1024x1024 .bf16) : Vec F S1024x1024 .f32 :=
  k0_pay2 s (View.ld x (Rect.unit (s := S1024x2048) ![0, 0] S1024x1024.size inb_S1024x2048_S1024x1024_0_0))
    (View.ld y (Rect.unit (s := S2x1024x1024) ![0, 0, 0] S1x1024x1024.size inb_S2x1024x1024_S1x1024x1024_0_0_0))
    (View.ld x (Rect.unit (s := S1024x2048) ![0, 1024] S1024x1024.size inb_S1024x2048_S1024x1024_0_1024))
    (View.ld y (Rect.unit (s := S2x1024x1024) ![1, 0, 0] S1x1024x1024.size inb_S2x1024x1024_S1x1024x1024_1_0_0))

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = step k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2]
  rfl

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = step xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2]
  rfl

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = step xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2]
  rfl

end

theorem e0_0 : ∀ t : Fin cfg0.N, win0_0.index t = ![t.val / 4, t.val % 2] :=
  (by decide +kernel : ∀ t : Fin grid0.N, win0_0.index t = ![t.val / 4, t.val % 2])
theorem e0_1 : ∀ t : Fin cfg0.N, win0_1.index t = ![t.val % 2, t.val / 2 % 2, 0] :=
  (by decide +kernel : ∀ t : Fin grid0.N, win0_1.index t = ![t.val % 2, t.val / 2 % 2, 0])
theorem e0_2 : ∀ t : Fin cfg0.N, win0_2.index t = ![t.val / 4, t.val / 2 % 2] :=
  (by decide +kernel : ∀ t : Fin grid0.N, win0_2.index t = ![t.val / 4, t.val / 2 % 2])

theorem pay1 (y) : k0_pay1 (F := Ideal) y = 0 := word_zero

theorem pay2 (s : Vec Ideal S1024x1024 .f32) (x0 : Vec Ideal S1024x1024 .bf16) (y0 : Vec Ideal S1x1024x1024 .bf16) (x1 : Vec Ideal S1024x1024 .bf16)
    (y1 : Vec Ideal S1x1024x1024 .bf16) (i j : Fin 1024) :
    k0_pay2 (F := Ideal) s x0 y0 x1 y1 (ix2 i j)
      = s (ix2 i j) + (∑ k : Fin 1024, x0 (ix2 i k) * y0 (ix3 0 j k) + ∑ k : Fin 1024, x1 (ix2 i k) * y1 (ix3 0 j k)) := by
  have e (x : Vec Ideal S1024x1024 .bf16) (y : Vec Ideal S1x1024x1024 .bf16) :
      matmul (F := Ideal) (φ₁ := .bf16) (φ₂ := .bf16) dot_S1024x1024_S1024x1024_S1024x1024_1_1_0_0_n_n none x (shapeCast S1024x1024 y shapeCasts_S1x1024x1024_S1024x1024)
        (constant (F := Ideal) S1024x1024 .f32 0x00000000#32) (ix2 i j) = ∑ k : Fin 1024, x (ix2 i k) * y (ix3 0 j k) := by
    refine (nt _ rfl x _ i j).trans (Finset.sum_congr rfl fun k _ => congrArg (x (ix2 i k) * ·) ?_)
    exact shapeCast_1ab_ab_apply (a := 1024) (b := 1024) y _ j k
  unfold k0_pay2
  rw [shapeCast_self]
  refine congrArg (s (ix2 i j) + ·) (congrArg₂ (· + ·) ?_ (e x1 y1))
  refine (congrArg₂ (· + ·) word_zero (e x0 y0)).trans ?_
  exact zero_add _

theorem step_apply (s : Vec Ideal S1024x1024 .f32) (x : Vec Ideal S1024x2048 .bf16) (y : Vec Ideal S2x1024x1024 .bf16) (i j : Fin 1024) :
    step (F := Ideal) s x y (ix2 i j) = s (ix2 i j) + (∑ k : Fin 1024, x (ix2 i ⟨k.val, by omega⟩) * y (ix3 0 j k)
      + ∑ k : Fin 1024, x (ix2 i ⟨1024 + k.val, by omega⟩) * y (ix3 1 j k)) := by
  unfold step
  refine (pay2 s _ _ _ _ i j).trans (congrArg (s (ix2 i j) + ·) (congrArg₂ (· + ·) (Finset.sum_congr rfl fun k _ => ?_) (Finset.sum_congr rfl fun k _ => ?_)))
  · refine congrArg₂ (· * ·) (congrArg x (funext fun a => Fin.ext ?_)) (congrArg y (funext fun a => Fin.ext ?_))
    · fin_cases a <;> simp
    · fin_cases a <;> simp
  · refine congrArg₂ (· * ·) (congrArg x (funext fun a => Fin.ext ?_)) (congrArg y (funext fun a => Fin.ext ?_))
    · fin_cases a <;> simp
    · fin_cases a <;> simp

section
variable (m : (ℓ : Loc nD τ sig) → Buf (Elt Ideal) ℓ) (c : Dev nD) (A B : ℕ → ℕ → EReal)
  (hA : ∀ i : S4096x4096.Idx, m ((c : Thread nD τ).loc main_arg0) i = A (i 0).val (i 1).val)
  (hB : ∀ i : S2048x4096.Idx, m ((c : Thread nD τ).loc main_arg1) i = B (i 0).val (i 1).val)

/-- The weights as the host lays them out for the call: four blocks of columns, one after another. -/
theorem host_w : V (F := Ideal) m c main_v1 = transpose S4x2048x1024 [1, 0, 2]
    (shapeCast S2048x4x1024 (m ((c : Thread nD τ).loc main_arg1)) shapeCasts_S2048x4096_S2048x4x1024) transposes_S2048x4x1024_S4x2048x1024_1_0_2 := by
  unfold V
  after_results
  rfl

include hB in
theorem host_w_apply (i : S4x2048x1024.Idx) : V (F := Ideal) m c main_v1 i = B (i 1).val (1024 * (i 0).val + (i 2).val) := by
  rw [host_w]
  exact stacked_apply (m ((c : Thread nD τ).loc main_arg1)) _ _ B hB i

include hA in
theorem blkA (t : Fin cfg0.N) (i : Fin 1024) (k : Fin 2048) :
    iblk (F := Ideal) m c 0 t (ix2 i k) = A (1024 * (t.val / 4) + i.val) (2048 * (t.val % 2) + k.val) := by
  blk_simp [iblk, e0_0]
  refine ((congrFun (V_main_arg0 m c) _).trans (hA _)).trans ?_
  congr 1
  · blk_simp [e0_0]
    show t.val / 4 * 1024 + i.val = _
    omega
  · blk_simp [e0_0]
    show t.val % 2 * 2048 + k.val = _
    omega

include hB in
theorem blkB (t : Fin cfg0.N) (g : Fin 2) (j : Fin 1024) (k : Fin 1024) :
    iblk (F := Ideal) m c 1 t (ix3 g j k) = B (1024 * (t.val / 2 % 2) + j.val) (2048 * (t.val % 2) + (1024 * g.val + k.val)) := by
  blk_simp [iblk, e0_1]
  refine (host_w_apply m c B hB _).trans ?_
  congr 1
  · blk_simp [e0_1]
    show t.val / 2 % 2 * 1024 + j.val = _
    omega
  · blk_simp [e0_1]
    show 1024 * (t.val % 2 * 2 + g.val) + k.val = _
    omega

/-- The product's term number `k` at an element of the block of run `r`. -/
def term (r : ℕ) (x : Fin 1024 × Fin 1024) (k : ℕ) : EReal := A (1024 * (r / 2) + x.1.val) k * B (1024 * (r % 2) + x.2.val) k

include hA hB in
theorem run_sum (t : Fin cfg0.N) (s : Vec Ideal S1024x1024 .f32) (x : Fin 1024 × Fin 1024) :
    step (F := Ideal) s (iblk m c 0 t) (iblk m c 1 t) (ix2 x.1 x.2)
      = s (ix2 x.1 x.2) + ∑ k : Fin 2048, term A B (t.val / 2) x (2048 * (t.val % 2) + k) := by
  rw [← two_runs (fun k => term A B (t.val / 2) x k) (2048 * (t.val % 2)) 1024 2048 rfl]
  refine (step_apply _ _ _ _ _).trans (congrArg (s (ix2 x.1 x.2) + ·) (congrArg₂ (· + ·) (Finset.sum_congr rfl fun k _ => ?_) (Finset.sum_congr rfl fun k _ => ?_)))
  · rw [blkA m c A hA, blkB m c B hB]
    unfold term
    rw [Nat.div_div_eq_div_mul]
    rw [show 1024 * (0 : Fin 2).val + k.val = k.val from Nat.zero_add _]
  · rw [blkA m c A hA, blkB m c B hB]
    unfold term
    rw [Nat.div_div_eq_div_mul]
    rfl

include hA hB in
theorem scr (n : ℕ) (hn : n < cfg0.N) (x : Fin 1024 × Fin 1024) :
    (outsAt0 (F := Ideal) m c n hn).2 (ix2 x.1 x.2) = ∑ k ∈ Finset.range (2048 * (n % 2 + 1)), term A B (n / 2) x k := by
  refine acc_inv 2 2048 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = (outsAt0 (F := Ideal) m c t.val t.isLt).2 := by
  rw [outsAt0_B m c t (by omega) h3]
  dsimp only
  rw [outB, soutB]

include hA hB in
theorem arr (i : S4096x2048.Idx) : (dats (F := Ideal) m 0 c).arrAt 2 cfg0.N i = ∑ k ∈ Finset.range 4096, A (i 0).val k * B (i 1).val k := by
  refine (dats m 0 c).arrAt_forall_of_covers 2 (fun i x => x = ∑ k ∈ Finset.range 4096, A (i 0).val k * B (i 1).val k) (by decide +kernel) (fun t hf y => ?_) i (Memref.isWhole_whole _)
  have h3 := (flush0_2 t).mp hf
  have h0 : (y 0).val < 1024 := (y 0).isLt
  have h1 : (y 1).val < 1024 := (y 1).isLt
  blk_simp
  rw [after0_2, out_scr m c t h3]
  refine (congrArg (outsAt0 (F := Ideal) m c t.val t.isLt).2 (eq_ix2 (n0 := 1024) (n1 := 1024) y)).trans ((scr m c A B hA hB t.val t.isLt (y 0, y 1)).trans ?_)
  unfold term
  blk_simp [e0_2]
  rw [h3, Nat.div_div_eq_div_mul, Nat.mul_comm (t.val / 4) 1024, Nat.mul_comm (t.val / 2 % 2) 1024]

end

theorem ref_val (x0 x1) (A B : ℕ → ℕ → EReal) (hA : ∀ i : S4096x4096.Idx, x0 i = A (i 0).val (i 1).val)
    (hB : ∀ i : S2048x4096.Idx, x1 i = B (i 0).val (i 1).val) (i : S4096x2048.Idx) :
    Cert.GmInDxRefIdeal.Read.val_main_v4 (F := Ideal) x0 x1 i = ∑ k ∈ Finset.range 4096, A (i 0).val k * B (i 1).val k := by
  rw [Cert.GmInDxRefIdeal.Read.val_main_v4_apply, ← Fin.sum_univ_eq_sum_range (fun k => A (i 0).val k * B (i 1).val k)]
  refine Finset.sum_congr rfl fun k _ => ?_
  exact congrArg₂ (· * ·) (hA _) (hB _)

theorem frame_ref : Cert.quiescent_GmInDxRefIdeal (hGmInDxRefIdeal := Cert.GmInDxRefIdeal.Gen.facts) := fun m ρ _ =>
  (θ_run Cert.GmInDxRefIdeal.defs _ _).mono (fun r h => ⟨fun c => (h c).2, sem_eq_zero_of_no_sems (by decide) r.2⟩)
    (Cert.GmInDxRefIdeal.Value.run (F := Ideal) m ρ)

/-- The kernel's gradient and the reference's are the same sums. -/
theorem algebraic : Cert.algebraic_GmInDxIdeal_GmInDxRefIdeal (hGmInDxIdeal := Cert.GmInDxIdeal.Gen.facts) (hGmInDxRefIdeal := Cert.GmInDxRefIdeal.Gen.facts) := by
  intro m ρ m' ρ' _ hagree
  choose A hA using fun c : Dev nD => total2 (M := 4096) (K := 4096) (m ((c : Thread nD τ).loc main_arg0))
  choose B hB using fun c : Dev nD => total2 (M := 2048) (K := 4096) (m ((c : Thread nD τ).loc main_arg1))
  refine ⟨fun c => fun i : S4096x2048.Idx => (∑ k ∈ Finset.range 4096, A c (i 0).val k * B c (i 1).val k : EReal), ?_, ?_⟩
  · exact (θ_run defs _ _).mono (fun r h c => ⟨(h c).1.trans (funext (arr m c (A c) (B c) (hA c) (hB c))), (h c).2⟩)
      (Cert.GmInDxIdeal.Value.run_blocks (F := Ideal) m ρ)
  · refine (θ_run Cert.GmInDxRefIdeal.defs _ _).mono (fun r h c => ?_) (Cert.GmInDxRefIdeal.Value.run (F := Ideal) m' ρ')
    obtain ⟨h0, ha⟩ := h c
    obtain ⟨a0, a1⟩ := hagree c
    exact ⟨(h0.trans (Cert.GmInDxRefIdeal.Read.val_main_v4_eq _ _)).trans (funext fun i => ref_val _ _ (A c) (B c)
      (fun i => (congrFun a0 i).trans (hA c i)) (fun i => (congrFun a1 i).trans (hB c i)) i), ha⟩

end Cert.GmInDxVal

end
-- ==== Proof.ArInLatVal.lean ====
/- The input projection of the attention and RG-LRU layers on the latent rows, as the kernel computes it and as the reference states it. -/
module

public import proofs.«01_k».proof.Defs
public import proofs.«01_k».proof.Proof.Mm
public import proofs.«01_k».proof.Proof.Gen.ArInLatIdeal.Value
public import proofs.«01_k».proof.Proof.Gen.ArInLatRefIdeal.Run
public import proofs.«01_k».proof.Proof.Gen.ArInLatRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ArInLatVal

open Cert.ArInLatIdeal Cert.ArInLatIdeal.Gen Cert.ArInLatIdeal.Facts Cert.Mm

theorem out_eq {F : FTy → Type} [FloatOps F] (c : Dev nD) (i : grid0.Coords) (a3) (h3) (a4) (h4) (a5) (h5) (x0 : Vec F S1024x2048 .bf16) (x1 : Vec F S1x2048x896 .bf16) :
    out0_A_2 (F := F) c i a3 h3 a4 h4 a5 h5 x0 x1 = k0_pay1 x0 x1 := by
  unfold out0_A_2
  rw [View.read_writes_eq_canon _ _ _ (cover0_A_2 c i a3 h3 a4 h4 a5 h5 x0 x1)]
  unfold kernelRun0_A
  dsimp only
  sl_unfold_words
  rw [View.canon_unit_zero (S := S1024x896) hz2]
  simp only [View.readAt_eq_ld, h3.read_unread, h4.read_unread, View.ld_unit_zero (S := S1024x2048) hz2, View.ld_unit_zero (S := S1x2048x896) hz3]

theorem e0_0 : ∀ t : Fin cfg0.N, win0_0.index t = ![t.val / 4, 0] := (by decide +kernel : ∀ t : Fin grid0.N, win0_0.index t = ![t.val / 4, 0])
theorem e0_1 : ∀ t : Fin cfg0.N, win0_1.index t = ![t.val % 4, 0, 0] := (by decide +kernel : ∀ t : Fin grid0.N, win0_1.index t = ![t.val % 4, 0, 0])
theorem e0_2 : ∀ t : Fin cfg0.N, win0_2.index t = ![t.val / 4, t.val % 4] := (by decide +kernel : ∀ t : Fin grid0.N, win0_2.index t = ![t.val / 4, t.val % 4])

theorem pay (x : Vec Ideal S1024x2048 .bf16) (y : Vec Ideal S1x2048x896 .bf16) (i : Fin 1024) (j : Fin 896) :
    k0_pay1 (F := Ideal) x y (ix2 i j) = ∑ k : Fin 2048, x (ix2 i k) * y (ix3 0 k j) := by
  unfold k0_pay1
  refine (nn _ rfl x _ i j).trans (Finset.sum_congr rfl fun k _ => congrArg (x (ix2 i k) * ·) ?_)
  exact shapeCast_1ab_ab_apply (a := 2048) (b := 896) y _ k j

section
variable (m : (ℓ : Loc nD τ sig) → Buf (Elt Ideal) ℓ) (c : Dev nD) (A B : ℕ → ℕ → EReal)
  (hA : ∀ i : S4352x2048.Idx, m ((c : Thread nD τ).loc main_arg0) i = A (i 0).val (i 1).val)
  (hB : ∀ i : S2048x3584.Idx, m ((c : Thread nD τ).loc main_arg1) i = B (i 0).val (i 1).val)

/-- The weights as the host lays them out for the call: four blocks of columns, one after another. -/
theorem host_w : V (F := Ideal) m c main_v1 = transpose S4x2048x896 [1, 0, 2]
    (shapeCast S2048x4x896 (m ((c : Thread nD τ).loc main_arg1)) shapeCasts_S2048x3584_S2048x4x896) transposes_S2048x4x896_S4x2048x896_1_0_2 := by
  unfold V
  after_results
  rfl

include hB in
theorem host_w_apply (i : S4x2048x896.Idx) : V (F := Ideal) m c main_v1 i = B (i 1).val (896 * (i 0).val + (i 2).val) := by
  rw [host_w]
  exact stacked_apply (m ((c : Thread nD τ).loc main_arg1)) _ _ B hB i

include hA in
theorem blkA (t : Fin cfg0.N) (i : Fin 1024) (k : Fin 2048) : X0_0 (F := Ideal) m c t (ix2 i k) = A (1024 * (t.val / 4) + i.val) k.val := by
  unfold X0_0 Pipeline.Window.fill
  rw [dif_pos (moved0_0 t _)]
  blk_simp [iblk, e0_0]
  refine ((congrFun (V_main_arg0 m c) _).trans (hA _)).trans ?_
  congr 1
  · blk_simp [e0_0]
    show t.val / 4 * 1024 + i.val = _
    omega
  · blk_simp [e0_0]

include hB in
theorem blkB (t : Fin cfg0.N) (k : Fin 2048) (j : Fin 896) : iblk (F := Ideal) m c 1 t (ix3 0 k j) = B k.val (896 * (t.val % 4) + j.val) := by
  blk_simp [iblk, e0_1]
  refine (host_w_apply m c B hB _).trans ?_
  congr 1
  · blk_simp [e0_1]
  · blk_simp [e0_1]

include hA hB in
theorem blk_out (t : Fin cfg0.N) (i : Fin 1024) (j : Fin 896) : k0_pay1 (F := Ideal) (X0_0 m c t) (iblk m c 1 t) (ix2 i j)
    = ∑ k : Fin 2048, A (1024 * (t.val / 4) + i.val) k.val * B k.val (896 * (t.val % 4) + j.val) := by
  refine (pay _ _ i j).trans (Finset.sum_congr rfl fun k _ => ?_)
  rw [blkA m c A hA, blkB m c B hB]

include hA hB in
theorem arr (i : S4096x3584.Idx) : (dats (F := Ideal) m 0 c).arrAt 2 cfg0.N i = ∑ k : Fin 2048, A (i 0).val k.val * B k.val (i 1).val := by
  refine (dats m 0 c).arrAt_forall_of_covers 2 (fun i x => x = ∑ k : Fin 2048, A (i 0).val k.val * B k.val (i 1).val) (by decide +kernel) (fun t hf y => ?_) i (Memref.isWhole_whole _)
  blk_simp
  rw [after0_2]
  unfold outsAt0
  rw [out_eq]
  refine (congrArg (k0_pay1 (F := Ideal) (X0_0 m c t) (iblk m c 1 t)) (eq_ix2 (n0 := 1024) (n1 := 896) y)).trans ((blk_out m c A B hA hB t (y 0) (y 1)).trans ?_)
  blk_simp [e0_2]
  rw [Nat.mul_comm (t.val / 4) 1024, Nat.mul_comm (t.val % 4) 896]

end

theorem ref_val (x0 x1) (A B : ℕ → ℕ → EReal) (hA : ∀ i : S4352x2048.Idx, x0 i = A (i 0).val (i 1).val)
    (hB : ∀ i : S2048x3584.Idx, x1 i = B (i 0).val (i 1).val) (i : S4096x3584.Idx) :
    Cert.ArInLatRefIdeal.Read.val_main_v3 (F := Ideal) x0 x1 i = ∑ k : Fin 2048, A (i 0).val k.val * B k.val (i 1).val := by
  rw [Cert.ArInLatRefIdeal.Read.val_main_v3_apply]
  refine Finset.sum_congr rfl fun k _ => congrArg₂ (· * ·) ?_ (hB _)
  rw [Cert.ArInLatRefIdeal.Read.val_main_v1_apply, Cert.ArInLatRefIdeal.Read.val_main_v0_apply]
  exact hA _

theorem frame_ref : Cert.quiescent_ArInLatRefIdeal (hArInLatRefIdeal := Cert.ArInLatRefIdeal.Gen.facts) := fun m ρ _ =>
  (θ_run Cert.ArInLatRefIdeal.defs _ _).mono (fun r h => ⟨fun c => (h c).2, sem_eq_zero_of_no_sems (by decide) r.2⟩)
    (Cert.ArInLatRefIdeal.Value.run (F := Ideal) m ρ)

/-- The kernel's product and the reference's are the same sums. -/
theorem algebraic : Cert.algebraic_ArInLatIdeal_ArInLatRefIdeal (hArInLatIdeal := Cert.ArInLatIdeal.Gen.facts) (hArInLatRefIdeal := Cert.ArInLatRefIdeal.Gen.facts) := by
  intro m ρ m' ρ' _ hagree
  choose A hA using fun c : Dev nD => total2 (M := 4352) (K := 2048) (m ((c : Thread nD τ).loc main_arg0))
  choose B hB using fun c : Dev nD => total2 (M := 2048) (K := 3584) (m ((c : Thread nD τ).loc main_arg1))
  refine ⟨fun c => fun i : S4096x3584.Idx => (∑ k : Fin 2048, A c (i 0).val k.val * B c k.val (i 1).val : EReal), ?_, ?_⟩
  · exact (θ_run defs _ _).mono (fun r h c => ⟨(h c).1.trans (funext (arr m c (A c) (B c) (hA c) (hB c))), (h c).2⟩)
      (Cert.ArInLatIdeal.Value.run_blocks (F := Ideal) m ρ)
  · refine (θ_run Cert.ArInLatRefIdeal.defs _ _).mono (fun r h c => ?_) (Cert.ArInLatRefIdeal.Value.run (F := Ideal) m' ρ')
    obtain ⟨h0, ha⟩ := h c
    obtain ⟨a0, a1⟩ := hagree c
    exact ⟨(h0.trans (Cert.ArInLatRefIdeal.Read.val_main_v3_eq _ _)).trans (funext fun i => ref_val _ _ (A c) (B c)
      (fun i => (congrFun a0 i).trans (hA c i)) (fun i => (congrFun a1 i).trans (hB c i)) i), ha⟩

end Cert.ArInLatVal

end
-- ==== Proof.ArInCtxVal.lean ====
/- The input projection of the attention and RG-LRU layers on the context rows, as the kernel computes it and as the reference states it. -/
module

public import proofs.«01_k».proof.Defs
public import proofs.«01_k».proof.Proof.Mm
public import proofs.«01_k».proof.Proof.Gen.ArInCtxIdeal.Value
public import proofs.«01_k».proof.Proof.Gen.ArInCtxRefIdeal.Run
public import proofs.«01_k».proof.Proof.Gen.ArInCtxRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ArInCtxVal

open Cert.ArInCtxIdeal Cert.ArInCtxIdeal.Gen Cert.ArInCtxIdeal.Facts Cert.Mm

theorem out_eq {F : FTy → Type} [FloatOps F] (x0 : Vec F S256x2048 .bf16) (x1 : Vec F S1x2048x896 .bf16) : out0_2 (F := F) x0 x1 = k0_pay1 x0 x1 := by
  unfold out0_2
  rw [View.canon_unit_zero (S := S256x896) hz2]
  simp only [View.ld_unit_zero (S := S256x2048) hz2, View.ld_unit_zero (S := S1x2048x896) hz3]

theorem e0_0 : ∀ t : Fin cfg0.N, win0_0.index t = ![16, 0] := (by decide +kernel : ∀ t : Fin grid0.N, win0_0.index t = ![16, 0])
theorem e0_1 : ∀ t : Fin cfg0.N, win0_1.index t = ![t.val, 0, 0] := (by decide +kernel : ∀ t : Fin grid0.N, win0_1.index t = ![t.val, 0, 0])
theorem e0_2 : ∀ t : Fin cfg0.N, win0_2.index t = ![0, t.val] := (by decide +kernel : ∀ t : Fin grid0.N, win0_2.index t = ![0, t.val])

theorem pay (x : Vec Ideal S256x2048 .bf16) (y : Vec Ideal S1x2048x896 .bf16) (i : Fin 256) (j : Fin 896) :
    k0_pay1 (F := Ideal) x y (ix2 i j) = ∑ k : Fin 2048, x (ix2 i k) * y (ix3 0 k j) := by
  unfold k0_pay1
  refine (nn _ rfl x _ i j).trans (Finset.sum_congr rfl fun k _ => congrArg (x (ix2 i k) * ·) ?_)
  exact shapeCast_1ab_ab_apply (a := 2048) (b := 896) y _ k j

section
variable (m : (ℓ : Loc nD τ sig) → Buf (Elt Ideal) ℓ) (c : Dev nD) (A B : ℕ → ℕ → EReal)
  (hA : ∀ i : S4352x2048.Idx, m ((c : Thread nD τ).loc main_arg0) i = A (i 0).val (i 1).val)
  (hB : ∀ i : S2048x3584.Idx, m ((c : Thread nD τ).loc main_arg1) i = B (i 0).val (i 1).val)

/-- The weights as the host lays them out for the call: four blocks of columns, one after another. -/
theorem host_w : V (F := Ideal) m c main_v1 = transpose S4x2048x896 [1, 0, 2]
    (shapeCast S2048x4x896 (m ((c : Thread nD τ).loc main_arg1)) shapeCasts_S2048x3584_S2048x4x896) transposes_S2048x4x896_S4x2048x896_1_0_2 := by
  unfold V
  after_results
  rfl

include hB in
theorem host_w_apply (i : S4x2048x896.Idx) : V (F := Ideal) m c main_v1 i = B (i 1).val (896 * (i 0).val + (i 2).val) := by
  rw [host_w]
  exact stacked_apply (m ((c : Thread nD τ).loc main_arg1)) _ _ B hB i

include hA in
theorem blkA (t : Fin cfg0.N) (i : Fin 256) (k : Fin 2048) : iblk (F := Ideal) m c 0 t (ix2 i k) = A (4096 + i.val) k.val := by
  blk_simp [iblk, e0_0]
  refine ((congrFun (V_main_arg0 m c) _).trans (hA _)).trans ?_
  congr 1
  · blk_simp [e0_0]
  · blk_simp [e0_0]

include hB in
theorem blkB (t : Fin cfg0.N) (k : Fin 2048) (j : Fin 896) : iblk (F := Ideal) m c 1 t (ix3 0 k j) = B k.val (896 * t.val + j.val) := by
  blk_simp [iblk, e0_1]
  refine (host_w_apply m c B hB _).trans ?_
  congr 1
  · blk_simp [e0_1]
  · blk_simp [e0_1]

include hA hB in
theorem blk_out (t : Fin cfg0.N) (i : Fin 256) (j : Fin 896) : k0_pay1 (F := Ideal) (iblk m c 0 t) (iblk m c 1 t) (ix2 i j)
    = ∑ k : Fin 2048, A (4096 + i.val) k.val * B k.val (896 * t.val + j.val) := by
  refine (pay _ _ i j).trans (Finset.sum_congr rfl fun k _ => ?_)
  rw [blkA m c A hA, blkB m c B hB]

include hA hB in
theorem arr (i : S256x3584.Idx) : (dats (F := Ideal) m 0 c).arrAt 2 cfg0.N i = ∑ k : Fin 2048, A (4096 + (i 0).val) k.val * B k.val (i 1).val := by
  refine (dats m 0 c).arrAt_forall_of_covers 2 (fun i x => x = ∑ k : Fin 2048, A (4096 + (i 0).val) k.val * B k.val (i 1).val) (by decide +kernel) (fun t hf y => ?_) i (Memref.isWhole_whole _)
  blk_simp
  rw [after0_2, out_eq]
  refine (congrArg (k0_pay1 (F := Ideal) (iblk m c 0 t) (iblk m c 1 t)) (eq_ix2 (n0 := 256) (n1 := 896) y)).trans ((blk_out m c A B hA hB t (y 0) (y 1)).trans ?_)
  blk_simp [e0_2]
  rw [Nat.mul_comm t.val 896]

end

theorem ref_val (x0 x1) (A B : ℕ → ℕ → EReal) (hA : ∀ i : S4352x2048.Idx, x0 i = A (i 0).val (i 1).val)
    (hB : ∀ i : S2048x3584.Idx, x1 i = B (i 0).val (i 1).val) (i : S256x3584.Idx) :
    Cert.ArInCtxRefIdeal.Read.val_main_v3 (F := Ideal) x0 x1 i = ∑ k : Fin 2048, A (4096 + (i 0).val) k.val * B k.val (i 1).val := by
  rw [Cert.ArInCtxRefIdeal.Read.val_main_v3_apply]
  refine Finset.sum_congr rfl fun k _ => congrArg₂ (· * ·) ?_ (hB _)
  rw [Cert.ArInCtxRefIdeal.Read.val_main_v1_apply, Cert.ArInCtxRefIdeal.Read.val_main_v0_apply]
  exact hA _

theorem frame_ref : Cert.quiescent_ArInCtxRefIdeal (hArInCtxRefIdeal := Cert.ArInCtxRefIdeal.Gen.facts) := fun m ρ _ =>
  (θ_run Cert.ArInCtxRefIdeal.defs _ _).mono (fun r h => ⟨fun c => (h c).2, sem_eq_zero_of_no_sems (by decide) r.2⟩)
    (Cert.ArInCtxRefIdeal.Value.run (F := Ideal) m ρ)

/-- The kernel's product and the reference's are the same sums. -/
theorem algebraic : Cert.algebraic_ArInCtxIdeal_ArInCtxRefIdeal (hArInCtxIdeal := Cert.ArInCtxIdeal.Gen.facts) (hArInCtxRefIdeal := Cert.ArInCtxRefIdeal.Gen.facts) := by
  intro m ρ m' ρ' _ hagree
  choose A hA using fun c : Dev nD => total2 (M := 4352) (K := 2048) (m ((c : Thread nD τ).loc main_arg0))
  choose B hB using fun c : Dev nD => total2 (M := 2048) (K := 3584) (m ((c : Thread nD τ).loc main_arg1))
  refine ⟨fun c => fun i : S256x3584.Idx => (∑ k : Fin 2048, A c (4096 + (i 0).val) k.val * B c k.val (i 1).val : EReal), ?_, ?_⟩
  · exact (θ_run defs _ _).mono (fun r h c => ⟨(h c).1.trans (funext (arr m c (A c) (B c) (hA c) (hB c))), (h c).2⟩)
      (Cert.ArInCtxIdeal.Value.run_blocks (F := Ideal) m ρ)
  · refine (θ_run Cert.ArInCtxRefIdeal.defs _ _).mono (fun r h c => ?_) (Cert.ArInCtxRefIdeal.Value.run (F := Ideal) m' ρ')
    obtain ⟨h0, ha⟩ := h c
    obtain ⟨a0, a1⟩ := hagree c
    exact ⟨(h0.trans (Cert.ArInCtxRefIdeal.Read.val_main_v3_eq _ _)).trans (funext fun i => ref_val _ _ (A c) (B c)
      (fun i => (congrFun a0 i).trans (hA c i)) (fun i => (congrFun a1 i).trans (hB c i)) i), ha⟩

end Cert.ArInCtxVal

end
-- ==== Proof.ArInDwVal.lean ====
/- The gradient of the input weights of the attention and RG-LRU layers, as the kernel accumulates it and as the reference states it. -/
module

public import proofs.«01_k».proof.Defs
public import proofs.«01_k».proof.Proof.Mm
public import proofs.«01_k».proof.Proof.Gen.ArInDwIdeal.Value
public import proofs.«01_k».proof.Proof.Gen.ArInDwRefIdeal.Run
public import proofs.«01_k».proof.Proof.Gen.ArInDwRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ArInDwVal

open Cert.ArInDwIdeal Cert.ArInDwIdeal.Gen Cert.ArInDwIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x896) hz2]
  simp only [View.readCov_cons_toLoadRect, View.readAt_eq_ld, h3.read_unread, h4.read_unread, h5.read_unread, h6.read_unread, View.readCov_unit_zero (S := S1024x896) _ hz2, View.ld_unit_zero (S := S1024x896) hz2, View.ld_unit_zero (S := S1088x1024) hz2, View.ld_unit_zero (S := S1088x896) hz2]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x896) hz2]
  simp only [View.readCov_cons_toLoadRect, View.readAt_eq_ld, h3.read_unread, h4.read_unread, h5.read_unread, h6.read_unread, View.ld_unit_zero (S := S1024x896) hz2, View.ld_unit_zero (S := S1088x1024) hz2, View.ld_unit_zero (S := S1088x896) hz2]

theorem soutC (c : Dev nD) (i : grid0.Coords) (a3) (h3) (a4) (h4) (a5) (h5) (a6) (h6) (hc0) (hc1) (x0 x1 xs) :
    sout0_C_0 (F := F) c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1024x896) hz2]
  simp only [View.readCov_cons_toLoadRect, View.readAt_eq_ld, h3.read_unread, h4.read_unread, h5.read_unread, h6.read_unread, View.ld_unit_zero (S := S1024x896) hz2, View.ld_unit_zero (S := S1088x1024) hz2, View.ld_unit_zero (S := S1088x896) hz2]

theorem outC (c : Dev nD) (i : grid0.Coords) (a3) (h3) (a4) (h4) (a5) (h5) (a6) (h6) (hc0) (hc1) (x0 x1 xs) :
    out0_C_2 (F := F) c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1x1024x896) hz3]
  simp only [View.readCov_cons_toLoadRect, View.readAt_eq_ld, h3.read_unread, h4.read_unread, h5.read_unread, h6.read_unread, View.readCov_unit_zero (S := S1024x896) _ hz2, View.ld_unit_zero (S := S1024x896) hz2, View.ld_unit_zero (S := S1088x1024) hz2, View.ld_unit_zero (S := S1088x896) hz2]

end

theorem e0_0 : ∀ t : Fin cfg0.N, win0_0.index t = ![t.val % 4, t.val / 16] :=
  (by decide +kernel : ∀ t : Fin grid0.N, win0_0.index t = ![t.val % 4, t.val / 16])
theorem e0_1 : ∀ t : Fin cfg0.N, win0_1.index t = ![t.val % 4, t.val / 4 % 4] :=
  (by decide +kernel : ∀ t : Fin grid0.N, win0_1.index t = ![t.val % 4, t.val / 4 % 4])
theorem e0_2 : ∀ t : Fin cfg0.N, win0_2.index t = ![t.val / 4 % 4, t.val / 16, 0] :=
  (by decide +kernel : ∀ t : Fin grid0.N, win0_2.index t = ![t.val / 4 % 4, t.val / 16, 0])

theorem pay1 (y) : k0_pay1 (F := Ideal) y = 0 := word_zero

theorem pay2 (s : Vec Ideal S1024x896 .f32) (x : Vec Ideal S1088x1024 .bf16) (y : Vec Ideal S1088x896 .bf16) (i : Fin 1024) (j : Fin 896) :
    k0_pay2 (F := Ideal) s x y (ix2 i j) = s (ix2 i j) + ∑ k : Fin 1088, x (ix2 k i) * y (ix2 k j) := by
  unfold k0_pay2
  rw [shapeCast_self]
  exact congrArg (s (ix2 i j) + ·) (tn dot_S1088x1024_S1088x896_S1024x896_0_0_1_1_n_n_wf _ rfl x y i j)

section
variable (m : (ℓ : Loc nD τ sig) → Buf (Elt Ideal) ℓ) (c : Dev nD) (A B : ℕ → ℕ → EReal)
  (hA : ∀ i : S4352x2048.Idx, m ((c : Thread nD τ).loc main_arg0) i = A (i 0).val (i 1).val)
  (hB : ∀ i : S4352x3584.Idx, m ((c : Thread nD τ).loc main_arg1) i = B (i 0).val (i 1).val)

include hA in
theorem blkA (t : Fin cfg0.N) (k : Fin 1088) (i : Fin 1024) :
    iblk (F := Ideal) m c 0 t (ix2 k i) = A (1088 * (t.val % 4) + k.val) (1024 * (t.val / 16) + i.val) := by
  blk_simp [iblk, e0_0]
  refine (hA _).trans ?_
  congr 1
  · blk_simp [e0_0]
    show t.val % 4 * 1088 + k.val = _
    omega
  · blk_simp [e0_0]
    show t.val / 16 * 1024 + i.val = _
    omega

include hB in
theorem blkB (t : Fin cfg0.N) (k : Fin 1088) (j : Fin 896) :
    iblk (F := Ideal) m c 1 t (ix2 k j) = B (1088 * (t.val % 4) + k.val) (896 * (t.val / 4 % 4) + j.val) := by
  blk_simp [iblk, e0_1]
  refine (hB _).trans ?_
  congr 1
  · blk_simp [e0_1]
    show t.val % 4 * 1088 + k.val = _
    omega
  · blk_simp [e0_1]
    show t.val / 4 % 4 * 896 + j.val = _
    omega

/-- The product's term number `k` at an element of the block of run `r`. -/
def term (r : ℕ) (x : Fin 1024 × Fin 896) (k : ℕ) : EReal := A k (1024 * (r / 4) + x.1.val) * B k (896 * (r % 4) + x.2.val)

include hA hB in
theorem run_sum (t : Fin cfg0.N) (s : Vec Ideal S1024x896 .f32) (x : Fin 1024 × Fin 896) :
    k0_pay2 (F := Ideal) s (iblk m c 0 t) (iblk m c 1 t) (ix2 x.1 x.2)
      = s (ix2 x.1 x.2) + ∑ k : Fin 1088, term A B (t.val / 4) x (1088 * (t.val % 4) + k) := by
  refine (pay2 _ _ _ _ _).trans (congrArg (s (ix2 x.1 x.2) + ·) (Finset.sum_congr rfl fun k _ => ?_))
  rw [blkA m c A hA, blkB m c B hB]
  unfold term
  rw [Nat.div_div_eq_div_mul]

include hA hB in
theorem scr (n : ℕ) (hn : n < cfg0.N) (x : Fin 1024 × Fin 896) :
    (outsAt0 (F := Ideal) m c n hn).2 (ix2 x.1 x.2) = ∑ k ∈ Finset.range (1088 * (n % 4 + 1)), term A B (n / 4) x k := by
  refine acc_inv 4 1088 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · by_cases h3 : n % 4 = 3
    · rw [outsAt0_C m c ⟨n, h⟩ hm h3]
      dsimp only
      rw [soutC]
      exact run_sum m c A B hA hB ⟨n, h⟩ _ x
    · rw [outsAt0_B m c ⟨n, h⟩ hm h3]
      dsimp only
      rw [soutB]
      exact run_sum m c A B hA hB ⟨n, h⟩ _ x

theorem out_scr (t : Fin cfg0.N) (h3 : t.val % 4 = 3) : (outsAt0 (F := Ideal) m c t.val t.isLt).1 = k0_pay3 (outsAt0 (F := Ideal) m c t.val t.isLt).2 := by
  rw [outsAt0_C m c t (by omega) h3]
  dsimp only
  rw [outC, soutC]

/-- The block written back, at an index. -/
theorem pay3 (s : Vec Ideal S1024x896 .f32) (y : S1x1024x896.Idx) : k0_pay3 (F := Ideal) s y = s (ix2 (y 1) (y 2)) := by
  have h : k0_pay3 (F := Ideal) s (ix3 (y 0) (y 1) (y 2)) = s (ix2 (y 1) (y 2)) :=
    shapeCast_ab_1ab_apply (a := 1024) (b := 896) (truncf (F := Ideal) .bf16 s bitsLt_bf16_f32) _ (y 0) (y 1) (y 2)
  exact (congrArg (k0_pay3 (F := Ideal) s) (eq_ix3 y)).trans h

include hA hB in
theorem arr (i : S4x2048x896.Idx) : (dats (F := Ideal) m 0 c).arrAt 2 cfg0.N i = ∑ k ∈ Finset.range 4352, A k (i 1).val * B k (896 * (i 0).val + (i 2).val) := by
  refine (dats m 0 c).arrAt_forall_of_covers 2 (fun i x => x = ∑ k ∈ Finset.range 4352, A k (i 1).val * B k (896 * (i 0).val + (i 2).val)) (by decide +kernel) (fun t hf y => ?_) i (Memref.isWhole_whole _)
  have h3 := (flush0_2 t).mp hf
  have h0 : (y 0).val < 1 := (y 0).isLt
  have h1 : (y 1).val < 1024 := (y 1).isLt
  have h2 : (y 2).val < 896 := (y 2).isLt
  blk_simp
  rw [after0_2, out_scr m c t h3]
  refine (pay3 _ y).trans ((scr m c A B hA hB t.val t.isLt (y 1, y 2)).trans ?_)
  unfold term
  blk_simp [e0_2]
  rw [h3, Nat.div_div_eq_div_mul, Nat.mul_comm (t.val / 16) 1024]

end

theorem ref_val (x0 x1) (A B : ℕ → ℕ → EReal) (hA : ∀ i : S4352x2048.Idx, x0 i = A (i 0).val (i 1).val)
    (hB : ∀ i : S4352x3584.Idx, x1 i = B (i 0).val (i 1).val) (i : S4x2048x896.Idx) :
    Cert.ArInDwRefIdeal.Read.val_main_v8 (F := Ideal) x0 x1 i = ∑ k ∈ Finset.range 4352, A k (i 1).val * B k (896 * (i 0).val + (i 2).val) := by
  have h0 : (i 0).val < 4 := (i 0).isLt
  have h1 : (i 1).val < 2048 := (i 1).isLt
  have h2 : (i 2).val < 896 := (i 2).isLt
  refine ((Cert.ArInDwRefIdeal.Read.val_main_v7_apply x0 x1 i).trans ((Cert.ArInDwRefIdeal.Read.val_main_v6_apply x0 x1 _).trans
    ((Cert.ArInDwRefIdeal.Read.val_main_v5_apply x0 x1 _).trans (Cert.ArInDwRefIdeal.Read.val_main_v4_apply x0 x1 _)))).trans ?_
  rw [← Fin.sum_univ_eq_sum_range (fun k => A k (i 1).val * B k (896 * (i 0).val + (i 2).val))]
  refine Finset.sum_congr rfl fun k _ => ?_
  refine (congrArg₂ (· * ·) (hB _) (hA _)).trans ((mul_comm _ _).trans (congrArg₂ (· * ·) (congrArg (A k) ?_) (congrArg (B k) ?_)))
  · show (((i 1).val * 4 + (i 0).val) * 896 + (i 2).val) / 3584 = _
    omega
  · show (((i 1).val * 4 + (i 0).val) * 896 + (i 2).val) % 3584 = _
    omega

theorem frame_ref : Cert.quiescent_ArInDwRefIdeal (hArInDwRefIdeal := Cert.ArInDwRefIdeal.Gen.facts) := fun m ρ _ =>
  (θ_run Cert.ArInDwRefIdeal.defs _ _).mono (fun r h => ⟨fun c => (h c).2, sem_eq_zero_of_no_sems (by decide) r.2⟩)
    (Cert.ArInDwRefIdeal.Value.run (F := Ideal) m ρ)

/-- The kernel's gradient and the reference's are the same sums. -/
theorem algebraic : Cert.algebraic_ArInDwIdeal_ArInDwRefIdeal (hArInDwIdeal := Cert.ArInDwIdeal.Gen.facts) (hArInDwRefIdeal := Cert.ArInDwRefIdeal.Gen.facts) := by
  intro m ρ m' ρ' _ hagree
  choose A hA using fun c : Dev nD => total2 (M := 4352) (K := 2048) (m ((c : Thread nD τ).loc main_arg0))
  choose B hB using fun c : Dev nD => total2 (M := 4352) (K := 3584) (m ((c : Thread nD τ).loc main_arg1))
  refine ⟨fun c => fun i : S4x2048x896.Idx => (∑ k ∈ Finset.range 4352, A c k (i 1).val * B c k (896 * (i 0).val + (i 2).val) : EReal), ?_, ?_⟩
  · exact (θ_run defs _ _).mono (fun r h c => ⟨(h c).1.trans (funext (arr m c (A c) (B c) (hA c) (hB c))), (h c).2⟩)
      (Cert.ArInDwIdeal.Value.run_blocks (F := Ideal) m ρ)
  · refine (θ_run Cert.ArInDwRefIdeal.defs _ _).mono (fun r h c => ?_) (Cert.ArInDwRefIdeal.Value.run (F := Ideal) m' ρ')
    obtain ⟨h0, ha⟩ := h c
    obtain ⟨a0, a1⟩ := hagree c
    exact ⟨(h0.trans (Cert.ArInDwRefIdeal.Read.val_main_v8_eq _ _)).trans (funext fun i => ref_val _ _ (A c) (B c)
      (fun i => (congrFun a0 i).trans (hA c i)) (fun i => (congrFun a1 i).trans (hB c i)) i), ha⟩

end Cert.ArInDwVal

end
-- ==== Proof.ArInDxLatVal.lean ====
/- The gradient of the attention and RG-LRU input projection's argument on the latent rows, as the kernel accumulates it and as the reference states it. -/
module

public import proofs.«01_k».proof.Defs
public import proofs.«01_k».proof.Proof.Mm
public import proofs.«01_k».proof.Proof.Gen.ArInDxLatIdeal.Value
public import proofs.«01_k».proof.Proof.Gen.ArInDxLatRefIdeal.Run
public import proofs.«01_k».proof.Proof.Gen.ArInDxLatRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ArInDxLatVal

open Cert.ArInDxLatIdeal Cert.ArInDxLatIdeal.Gen Cert.ArInDxLatIdeal.Facts Cert.Mm

section
variable {F : FTy → Type} [FloatOps F]

/-- One grid point's update of the running sum: two runs of the contraction, each with its own block of weights. -/
def step (s : Vec F S1024x1024 .f32) (x : Vec F S1024x1792 .bf16) (y : Vec F S2x1024x896 .bf16) : Vec F S1024x1024 .f32 :=
  k0_pay2 s (View.ld x (Rect.unit (s := S1024x1792) ![0, 0] S1024x896.size inb_S1024x1792_S1024x896_0_0))
    (View.ld y (Rect.unit (s := S2x1024x896) ![0, 0, 0] S1x1024x896.size inb_S2x1024x896_S1x1024x896_0_0_0))
    (View.ld x (Rect.unit (s := S1024x1792) ![0, 896] S1024x896.size inb_S1024x1792_S1024x896_0_896))
    (View.ld y (Rect.unit (s := S2x1024x896) ![1, 0, 0] S1x1024x896.size inb_S2x1024x896_S1x1024x896_1_0_0))

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = step k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2]
  rfl

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = step xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.ld_unit_zero (S := S1024x1024) hz2]
  rfl

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = step xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x1024) hz2]
  simp only [View.readCov_cons_toLoadRect, View.readAt_eq_ld, h3.read_unread, h4.read_unread, h5.read_unread, h6.read_unread, View.readCov_unit_zero (S := S1024x1024) _ hz2, View.ld_unit_zero (S := S1024x1024) hz2]
  rfl

end

theorem e0_0 : ∀ t : Fin cfg0.N, win0_0.index t = ![t.val / 4, t.val % 2] :=
  (by decide +kernel : ∀ t : Fin grid0.N, win0_0.index t = ![t.val / 4, t.val % 2])
theorem e0_1 : ∀ t : Fin cfg0.N, win0_1.index t = ![t.val % 2, t.val / 2 % 2, 0] :=
  (by decide +kernel : ∀ t : Fin grid0.N, win0_1.index t = ![t.val % 2, t.val / 2 % 2, 0])
theorem e0_2 : ∀ t : Fin cfg0.N, win0_2.index t = ![t.val / 4, t.val / 2 % 2] :=
  (by decide +kernel : ∀ t : Fin grid0.N, win0_2.index t = ![t.val / 4, t.val / 2 % 2])

theorem pay1 (y) : k0_pay1 (F := Ideal) y = 0 := word_zero

theorem pay2 (s : Vec Ideal S1024x1024 .f32) (x0 : Vec Ideal S1024x896 .bf16) (y0 : Vec Ideal S1x1024x896 .bf16) (x1 : Vec Ideal S1024x896 .bf16)
    (y1 : Vec Ideal S1x1024x896 .bf16) (i : Fin 1024) (j : Fin 1024) :
    k0_pay2 (F := Ideal) s x0 y0 x1 y1 (ix2 i j)
      = s (ix2 i j) + (∑ k : Fin 896, x0 (ix2 i k) * y0 (ix3 0 j k) + ∑ k : Fin 896, x1 (ix2 i k) * y1 (ix3 0 j k)) := by
  have e (x : Vec Ideal S1024x896 .bf16) (y : Vec Ideal S1x1024x896 .bf16) :
      matmul (F := Ideal) (φ₁ := .bf16) (φ₂ := .bf16) dot_S1024x896_S1024x896_S1024x1024_1_1_0_0_n_n none x (shapeCast S1024x896 y shapeCasts_S1x1024x896_S1024x896)
        (constant (F := Ideal) S1024x1024 .f32 0x00000000#32) (ix2 i j) = ∑ k : Fin 896, x (ix2 i k) * y (ix3 0 j k) := by
    refine (nt _ rfl x _ i j).trans (Finset.sum_congr rfl fun k _ => congrArg (x (ix2 i k) * ·) ?_)
    exact shapeCast_1ab_ab_apply (a := 1024) (b := 896) y _ j k
  unfold k0_pay2
  rw [shapeCast_self]
  refine congrArg (s (ix2 i j) + ·) (congrArg₂ (· + ·) ?_ (e x1 y1))
  refine (congrArg₂ (· + ·) word_zero (e x0 y0)).trans ?_
  exact zero_add _

theorem step_apply (s : Vec Ideal S1024x1024 .f32) (x : Vec Ideal S1024x1792 .bf16) (y : Vec Ideal S2x1024x896 .bf16) (i : Fin 1024) (j : Fin 1024) :
    step (F := Ideal) s x y (ix2 i j) = s (ix2 i j) + (∑ k : Fin 896, x (ix2 i ⟨k.val, by omega⟩) * y (ix3 0 j k)
      + ∑ k : Fin 896, x (ix2 i ⟨896 + k.val, by omega⟩) * y (ix3 1 j k)) := by
  unfold step
  refine (pay2 s _ _ _ _ i j).trans (congrArg (s (ix2 i j) + ·) (congrArg₂ (· + ·) (Finset.sum_congr rfl fun k _ => ?_) (Finset.sum_congr rfl fun k _ => ?_)))
  · refine congrArg₂ (· * ·) (congrArg x (funext fun a => Fin.ext ?_)) (congrArg y (funext fun a => Fin.ext ?_))
    · fin_cases a <;> simp
    · fin_cases a <;> simp
  · refine congrArg₂ (· * ·) (congrArg x (funext fun a => Fin.ext ?_)) (congrArg y (funext fun a => Fin.ext ?_))
    · fin_cases a <;> simp
    · fin_cases a <;> simp

section
variable (m : (ℓ : Loc nD τ sig) → Buf (Elt Ideal) ℓ) (c : Dev nD) (A B : ℕ → ℕ → EReal)
  (hA : ∀ i : S4352x3584.Idx, m ((c : Thread nD τ).loc main_arg0) i = A (i 0).val (i 1).val)
  (hB : ∀ i : S2048x3584.Idx, m ((c : Thread nD τ).loc main_arg1) i = B (i 0).val (i 1).val)

/-- The weights as the host lays them out for the call: four blocks of columns, one after another. -/
theorem host_w : V (F := Ideal) m c main_v1 = transpose S4x2048x896 [1, 0, 2]
    (shapeCast S2048x4x896 (m ((c : Thread nD τ).loc main_arg1)) shapeCasts_S2048x3584_S2048x4x896) transposes_S2048x4x896_S4x2048x896_1_0_2 := by
  unfold V
  after_results
  rfl

include hB in
theorem host_w_apply (i : S4x2048x896.Idx) : V (F := Ideal) m c main_v1 i = B (i 1).val (896 * (i 0).val + (i 2).val) := by
  rw [host_w]
  exact stacked_apply (m ((c : Thread nD τ).loc main_arg1)) _ _ B hB i

include hA in
theorem blkA (t : Fin cfg0.N) (i : Fin 1024) (k : Fin 1792) :
    X0_0 (F := Ideal) m c t (ix2 i k) = A (1024 * (t.val / 4) + i.val) (1792 * (t.val % 2) + k.val) := by
  unfold X0_0 Pipeline.Window.fill
  rw [dif_pos (moved0_0 t _)]
  blk_simp [iblk, e0_0]
  refine ((congrFun (V_main_arg0 m c) _).trans (hA _)).trans ?_
  congr 1
  · blk_simp [e0_0]
    show t.val / 4 * 1024 + i.val = _
    omega
  · blk_simp [e0_0]
    show t.val % 2 * 1792 + k.val = _
    omega

include hB in
theorem blkB (t : Fin cfg0.N) (g : Fin 2) (j : Fin 1024) (k : Fin 896) :
    iblk (F := Ideal) m c 1 t (ix3 g j k) = B (1024 * (t.val / 2 % 2) + j.val) (1792 * (t.val % 2) + (896 * g.val + k.val)) := by
  blk_simp [iblk, e0_1]
  refine (host_w_apply m c B hB _).trans ?_
  congr 1
  · blk_simp [e0_1]
    show t.val / 2 % 2 * 1024 + j.val = _
    omega
  · blk_simp [e0_1]
    show 896 * (t.val % 2 * 2 + g.val) + k.val = _
    omega

/-- The product's term number `k` at an element of the block of run `r`. -/
def term (r : ℕ) (x : Fin 1024 × Fin 1024) (k : ℕ) : EReal := A (1024 * (r / 2) + x.1.val) k * B (1024 * (r % 2) + x.2.val) k

include hA hB in
theorem run_sum (t : Fin cfg0.N) (s : Vec Ideal S1024x1024 .f32) (x : Fin 1024 × Fin 1024) :
    step (F := Ideal) s (X0_0 m c t) (iblk m c 1 t) (ix2 x.1 x.2)
      = s (ix2 x.1 x.2) + ∑ k : Fin 1792, term A B (t.val / 2) x (1792 * (t.val % 2) + k) := by
  rw [← two_runs (fun k => term A B (t.val / 2) x k) (1792 * (t.val % 2)) 896 1792 rfl]
  refine (step_apply _ _ _ _ _).trans (congrArg (s (ix2 x.1 x.2) + ·) (congrArg₂ (· + ·) (Finset.sum_congr rfl fun k _ => ?_) (Finset.sum_congr rfl fun k _ => ?_)))
  · rw [blkA m c A hA, blkB m c B hB]
    unfold term
    rw [Nat.div_div_eq_div_mul]
    rw [show 896 * (0 : Fin 2).val + k.val = k.val from Nat.zero_add _]
  · rw [blkA m c A hA, blkB m c B hB]
    unfold term
    rw [Nat.div_div_eq_div_mul]
    rfl

include hA hB in
theorem scr (n : ℕ) (hn : n < cfg0.N) (x : Fin 1024 × Fin 1024) :
    (outsAt0 (F := Ideal) m c n hn).2 (ix2 x.1 x.2) = ∑ k ∈ Finset.range (1792 * (n % 2 + 1)), term A B (n / 2) x k := by
  refine acc_inv 2 1792 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = (outsAt0 (F := Ideal) m c t.val t.isLt).2 := by
  rw [outsAt0_B m c t (by omega) h3]
  dsimp only
  rw [outB, soutB]

include hA hB in
theorem arr (i : S4096x2048.Idx) : (dats (F := Ideal) m 0 c).arrAt 2 cfg0.N i = ∑ k ∈ Finset.range 3584, A (i 0).val k * B (i 1).val k := by
  refine (dats m 0 c).arrAt_forall_of_covers 2 (fun i x => x = ∑ k ∈ Finset.range 3584, A (i 0).val k * B (i 1).val k) (by decide +kernel) (fun t hf y => ?_) i (Memref.isWhole_whole _)
  have h3 := (flush0_2 t).mp hf
  have h0 : (y 0).val < 1024 := (y 0).isLt
  have h1 : (y 1).val < 1024 := (y 1).isLt
  blk_simp
  rw [after0_2, out_scr m c t h3]
  refine (congrArg (outsAt0 (F := Ideal) m c t.val t.isLt).2 (eq_ix2 (n0 := 1024) (n1 := 1024) y)).trans ((scr m c A B hA hB t.val t.isLt (y 0, y 1)).trans ?_)
  unfold term
  blk_simp [e0_2]
  rw [h3, Nat.div_div_eq_div_mul, Nat.mul_comm (t.val / 4) 1024, Nat.mul_comm (t.val / 2 % 2) 1024]

end

theorem ref_val (x0 x1) (A B : ℕ → ℕ → EReal) (hA : ∀ i : S4352x3584.Idx, x0 i = A (i 0).val (i 1).val)
    (hB : ∀ i : S2048x3584.Idx, x1 i = B (i 0).val (i 1).val) (i : S4096x2048.Idx) :
    Cert.ArInDxLatRefIdeal.Read.val_main_v5 (F := Ideal) x0 x1 i = ∑ k ∈ Finset.range 3584, A (i 0).val k * B (i 1).val k := by
  rw [Cert.ArInDxLatRefIdeal.Read.val_main_v5_apply, ← Fin.sum_univ_eq_sum_range (fun k => A (i 0).val k * B (i 1).val k)]
  refine Finset.sum_congr rfl fun k _ => ?_
  refine congrArg₂ (· * ·) ?_ (hB _)
  rw [Cert.ArInDxLatRefIdeal.Read.val_main_v1_apply, Cert.ArInDxLatRefIdeal.Read.val_main_v0_apply]
  exact hA _

theorem frame_ref : Cert.quiescent_ArInDxLatRefIdeal (hArInDxLatRefIdeal := Cert.ArInDxLatRefIdeal.Gen.facts) := fun m ρ _ =>
  (θ_run Cert.ArInDxLatRefIdeal.defs _ _).mono (fun r h => ⟨fun c => (h c).2, sem_eq_zero_of_no_sems (by decide) r.2⟩)
    (Cert.ArInDxLatRefIdeal.Value.run (F := Ideal) m ρ)

/-- The kernel's gradient and the reference's are the same sums. -/
theorem algebraic : Cert.algebraic_ArInDxLatIdeal_ArInDxLatRefIdeal (hArInDxLatIdeal := Cert.ArInDxLatIdeal.Gen.facts) (hArInDxLatRefIdeal := Cert.ArInDxLatRefIdeal.Gen.facts) := by
  intro m ρ m' ρ' _ hagree
  choose A hA using fun c : Dev nD => total2 (M := 4352) (K := 3584) (m ((c : Thread nD τ).loc main_arg0))
  choose B hB using fun c : Dev nD => total2 (M := 2048) (K := 3584) (m ((c : Thread nD τ).loc main_arg1))
  refine ⟨fun c => fun i : S4096x2048.Idx => (∑ k ∈ Finset.range 3584, A c (i 0).val k * B c (i 1).val k : EReal), ?_, ?_⟩
  · exact (θ_run defs _ _).mono (fun r h c => ⟨(h c).1.trans (funext (arr m c (A c) (B c) (hA c) (hB c))), (h c).2⟩)
      (Cert.ArInDxLatIdeal.Value.run_blocks (F := Ideal) m ρ)
  · refine (θ_run Cert.ArInDxLatRefIdeal.defs _ _).mono (fun r h c => ?_) (Cert.ArInDxLatRefIdeal.Value.run (F := Ideal) m' ρ')
    obtain ⟨h0, ha⟩ := h c
    obtain ⟨a0, a1⟩ := hagree c
    exact ⟨(h0.trans (Cert.ArInDxLatRefIdeal.Read.val_main_v5_eq _ _)).trans (funext fun i => ref_val _ _ (A c) (B c)
      (fun i => (congrFun a0 i).trans (hA c i)) (fun i => (congrFun a1 i).trans (hB c i)) i), ha⟩

end Cert.ArInDxLatVal

end
-- ==== Proof.NormAlg.lean ====
/- One row of the backward pass of the RMS normalisation over the extended reals: the kernel's grouping and the reference's agree, at the infinities too. -/
module

public import proofs.«01_k».proof.Proof.Lift
public import proofs.«01_k».proof.Proof.Mm

@[expose] public section

set_option maxRecDepth 16384

noncomputable section

open Idealize.ShloMosaic Idealize.ShloMosaic.ValueIdx

namespace Cert.NormAlg

/-- The number of columns of a row, as the word the two programs divide by. -/
def cN : EReal := Ideal.ofBits .f32 0x45000000#32

/-- The small number added to the mean square. -/
def eps : EReal := Ideal.ofBits .f32 0x358637BD#32

/-- Minus one half, the exponent of the normalisation's factor. -/
def mhalf : EReal := Ideal.ofBits .f32 0xBF000000#32

theorem cN_eq : cN = ((2048 : ℝ) : EReal) := by
  unfold cN
  simp [Ideal.ofBits, Ideal.ieee, -EReal.coe_mul]; norm_num

theorem mhalf_eq : mhalf = ((-(1 / 2) : ℝ) : EReal) := by
  unfold mhalf
  simp [Ideal.ofBits, Ideal.ieee, -EReal.coe_mul, -EReal.coe_neg]; norm_num

theorem eps_pos : ∃ e : ℝ, 0 < e ∧ eps = (e : EReal) := by
  refine ⟨8796093 / 8796093022208, by norm_num, ?_⟩
  unfold eps
  simp [Ideal.ofBits, Ideal.ieee, -EReal.coe_mul]; norm_num

theorem sq_nonneg (x : EReal) : 0 ≤ x * x := by
  rcases le_total 0 x with h | h
  · exact EReal.mul_nonneg_iff.mpr (.inl ⟨h, h⟩)
  · exact EReal.mul_nonneg_iff.mpr (.inr ⟨h, h⟩)

/-- A real factor that is not negative passes through a sum. -/
theorem mul_sum {ι : Type*} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

theorem add_self (z : EReal) : z + z = ((2 : ℝ) : EReal) * z := by
  have h := EReal.right_distrib_of_nonneg (a := 1) (b := 1) (c := z) zero_le_one zero_le_one
  rw [one_mul] at h
  rw [← h, show (1 : EReal) = ((1 : ℝ) : EReal) from rfl, ← EReal.coe_add]
  norm_num

/-- The mean square of a row and the small number. -/
def ms {n : ℕ} (X : Fin n → EReal) : EReal := Ideal.div (∑ k, X k * X k) cN + eps

/-- The factor of the normalisation. -/
def rs {n : ℕ} (X : Fin n → EReal) : EReal := Ideal.rsqrt (ms X)

/-- Either the mean square is infinite, or the row is real and its factor is a positive real. -/
theorem cases_row {n : ℕ} (X : Fin n → EReal) :
    ms X = ⊤ ∨ ∃ (x : Fin n → ℝ) (m r : ℝ), (∀ k, X k = (x k : EReal)) ∧ ms X = (m : EReal) ∧ rs X = (r : EReal) ∧ 0 < m ∧ 0 < r ∧ r * r * m = 1 := by
  obtain ⟨e, he, hee⟩ := eps_pos
  by_cases h : ∀ k, X k ≠ ⊤ ∧ X k ≠ ⊥
  · right
    have hx : ∀ k, X k = ((X k).toReal : EReal) := fun k => (EReal.coe_toReal (h k).1 (h k).2).symm
    have hm : ms X = (((∑ k, (X k).toReal * (X k).toReal) * (1 / 2048) + e : ℝ) : EReal) := by
      unfold ms
      rw [Attn.sum_mul_real X X _ _ hx hx, cN_eq, Ideal.div_coe (by norm_num), hee, ← EReal.coe_mul, ← EReal.coe_add]
    have hpos : 0 < (∑ k, (X k).toReal * (X k).toReal) * (1 / 2048) + e :=
      add_pos_of_nonneg_of_pos (mul_nonneg (Finset.sum_nonneg fun k _ => mul_self_nonneg _) (by norm_num)) he
    refine ⟨fun k => (X k).toReal, _, (Real.sqrt ((∑ k, (X k).toReal * (X k).toReal) * (1 / 2048) + e))⁻¹, hx, hm, ?_, hpos, by positivity, ?_⟩
    · unfold rs
      rw [hm, Ideal.rsqrt_coe, if_neg (not_lt.mpr hpos.le), if_neg hpos.ne']
    · rw [← mul_inv, Real.mul_self_sqrt hpos.le, inv_mul_cancel₀ hpos.ne']
  · left
    push Not at h
    obtain ⟨k, hk⟩ := h
    have ht : X k * X k = ⊤ := by
      by_cases h1 : X k = ⊤
      · rw [h1]; rfl
      · rw [hk h1]; rfl
    have hs : ∑ k, X k * X k = ⊤ := top_le_iff.mp (ht ▸ Finset.single_le_sum (f := fun k => X k * X k) (fun i _ => sq_nonneg (X i)) (Finset.mem_univ k))
    unfold ms
    rw [hs, cN_eq, Ideal.div_coe (by norm_num), EReal.top_mul_coe_of_pos (by norm_num), hee]
    exact EReal.top_add_coe e

/-- The gradient of the row as the kernel groups it. -/
def dxK {n : ℕ} (X W : Fin n → EReal) (e : EReal) (j : Fin n) : EReal :=
  rs X * (W j - X j * rs X * Ideal.div (∑ k, W k * (X k * rs X)) cN) + e

/-- The coefficient the reference multiplies the row with, twice. -/
def dR {n : ℕ} (X W : Fin n → EReal) : EReal := Ideal.div ((∑ k, X k * W k) * (mhalf * Ideal.div (rs X) (ms X))) cN

/-- The gradient of the row as the reference groups it. -/
def dxR {n : ℕ} (X W : Fin n → EReal) (e : EReal) (j : Fin n) : EReal :=
  e + W j * rs X + X j * dR X W + dR X W * X j

theorem dx_eq {n : ℕ} (X W : Fin n → EReal) (e : EReal) (j : Fin n) : dxK X W e j = dxR X W e j := by
  rcases cases_row X with ht | ⟨x, m, r, hx, hm, hr, hm0, hr0, hrm⟩
  · have h0 : rs X = 0 := by unfold rs; rw [ht]; exact Ideal.rsqrt_top
    have hd : Ideal.div (0 : EReal) ⊤ = 0 := by unfold Ideal.div; rw [if_neg EReal.top_ne_zero, zero_mul]
    have hR : dR X W = 0 := by
      unfold dR
      rw [h0, ht, hd, mul_zero, mul_zero, cN_eq, Ideal.div_coe (by norm_num), zero_mul]
    unfold dxK dxR
    rw [hR, h0]
    simp
  · have hS : ∑ k, W k * (X k * rs X) = (r : EReal) * ∑ k, X k * W k := by
      rw [mul_sum _ r hr0.le]
      refine Finset.sum_congr rfl fun k _ => ?_
      rw [hr]
      ac_rfl
    have hdiv : Ideal.div (r : EReal) (m : EReal) = ((r * (1 / m) : ℝ) : EReal) := by rw [Ideal.div_coe hm0.ne', ← EReal.coe_mul]
    unfold dxK dxR dR
    rw [hS, hr, hm, hdiv, mhalf_eq, cN_eq, Ideal.div_coe (by norm_num), Ideal.div_coe (by norm_num), hx j]
    generalize ∑ k, X k * W k = S
    rw [sub_eq_add_neg, EReal.left_distrib_of_nonneg_of_ne_top (by exact_mod_cast hr0.le) (EReal.coe_ne_top r)]
    have e1 : (r : EReal) * -((x j : EReal) * (r : EReal) * ((r : EReal) * S * ((1 / 2048 : ℝ) : EReal))) = ((-(x j * r * r * r * (1 / 2048)) : ℝ) : EReal) * S := by
      rw [EReal.coe_neg, EReal.coe_mul, EReal.coe_mul, EReal.coe_mul, EReal.coe_mul, EReal.neg_mul, mul_neg]
      congr 1
      ac_rfl
    have e2 : (x j : EReal) * (S * (((-(1 / 2) : ℝ) : EReal) * ((r * (1 / m) : ℝ) : EReal)) * ((1 / 2048 : ℝ) : EReal))
        = ((x j * (-(1 / 2) * (r * (1 / m))) * (1 / 2048) : ℝ) : EReal) * S := by
      rw [EReal.coe_mul (x j * _), EReal.coe_mul (x j), EReal.coe_mul (-(1 / 2))]
      ac_rfl
    rw [e1, mul_comm (S * _ * _) (x j : EReal), e2, add_assoc (e + _), add_self, ← mul_assoc, ← EReal.coe_mul]
    have e3 : (2 : ℝ) * (x j * (-(1 / 2) * (r * (1 / m))) * (1 / 2048)) = -(x j * r * r * r * (1 / 2048)) := by
      have : r * (1 / m) = r * r * r := by
        field_simp
        nlinarith [hrm]
      rw [this]
      ring
    rw [e3, mul_comm (r : EReal) (W j)]
    abel

end Cert.NormAlg

end
-- ==== Proof.ModBwdVal.lean ====
/- The backward pass of the modulated normalisation: row by row and summed over the rows as the kernel computes it, and as the reference states it. -/
module

public import proofs.«01_k».proof.Defs
public import proofs.«01_k».proof.Proof.NormAlg
public import proofs.«01_k».proof.Proof.Gen.ModBwdIdeal.Value
public import proofs.«01_k».proof.Proof.Gen.ModBwdRefIdeal.Run
public import proofs.«01_k».proof.Proof.Gen.ModBwdRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ModBwdVal

open Cert.ModBwdIdeal Cert.ModBwdIdeal.Gen Cert.ModBwdIdeal.Facts Cert.Mm Cert.NormAlg

section
variable {F : FTy → Type} [FloatOps F] (c : Dev nD) (i : grid0.Coords)
  (a1 a2 : Memref sig .tc .vmem S256x2048 .f32) (h1 : a1.IsWhole) (h2 : a2.IsWhole)
  (a3 a4 : Memref sig .tc .vmem S1x2048 .f32) (h3 : a3.IsWhole) (h4 : a4.IsWhole)
  (a5 a6 : Memref sig .tc .vmem S256x2048 .f32) (h5 : a5.IsWhole) (h6 : a6.IsWhole)
  (a7 a8 a9 : Memref sig .tc .vmem S1x2048 .f32) (h7 : a7.IsWhole) (h8 : a8.IsWhole) (h9 : a9.IsWhole)
  (x0 x1 : Vec F S256x2048 .f32) (x2 x3 : Vec F S1x2048 .f32) (x4 : Vec F S256x2048 .f32) (x6 x7 x8 : Vec F S1x2048 .f32)

theorem outA5 (hc) : out0_A_5 (F := F) c i a1 h1 a2 h2 a3 h3 a4 h4 a5 h5 a6 h6 a7 h7 a8 h8 a9 h9 hc x0 x1 x2 x3 x4
    = k0_pay3 x0 (k0_pay7 x1) (k0_pay8 x1) x2 (k0_pay11 x3) x4 := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  rw [View.canon_unit_zero (S := S256x2048) hz2]
  simp only [View.readCov_cons_toLoadRect, View.readAt_eq_ld, h1.read_unread, h2.read_unread, h3.read_unread, h4.read_unread, h5.read_unread, View.ld_unit_zero (S := S256x2048) hz2, View.ld_unit_zero (S := S1x2048) hz2]

theorem outA6 (hc) : out0_A_6 (F := F) c i a1 h1 a2 h2 a3 h3 a4 h4 a5 h5 a6 h6 a7 h7 a8 h8 a9 h9 hc x0 x1 x2 x3 x4
    = k0_pay2 x0 (k0_pay8 x1) (k0_pay11 x3) k0_pay4 := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  rw [View.canon_cons_unit_zero (S := S1x2048) hz2]
  simp only [View.readCov_cons_toLoadRect, View.readAt_eq_ld, h1.read_unread, h2.read_unread, h3.read_unread, h4.read_unread, h5.read_unread, View.readCov_unit_zero (S := S1x2048) _ hz2, View.ld_unit_zero (S := S256x2048) hz2, View.ld_unit_zero (S := S1x2048) hz2]

theorem outA7 (hc) : out0_A_7 (F := F) c i a1 h1 a2 h2 a3 h3 a4 h4 a5 h5 a6 h6 a7 h7 a8 h8 a9 h9 hc x0 x1 x2 x3 x4
    = k0_pay9 x1 x0 x2 k0_pay5 := by
  unfold out0_A_7
  rw [View.read_writes_eq_canon _ _ _ (cover0_A_7 c i a1 h1 a2 h2 a3 h3 a4 h4 a5 h5 a6 h6 a7 h7 a8 h8 a9 h9 hc x0 x1 x2 x3 x4)]
  unfold kernelRun0_A
  dsimp only
  sl_unfold_words
  rw [View.canon_cons_unit_zero (S := S1x2048) hz2]
  simp only [View.readCov_cons_toLoadRect, View.readAt_eq_ld, h1.read_unread, h2.read_unread, h3.read_unread, h4.read_unread, h5.read_unread, View.readCov_unit_zero (S := S1x2048) _ hz2, View.ld_unit_zero (S := S256x2048) hz2, View.ld_unit_zero (S := S1x2048) hz2]

theorem outA8 (hc) : out0_A_8 (F := F) c i a1 h1 a2 h2 a3 h3 a4 h4 a5 h5 a6 h6 a7 h7 a8 h8 a9 h9 hc x0 x1 x2 x3 x4
    = k0_pay10 x0 k0_pay6 := by
  unfold out0_A_8
  rw [View.read_writes_eq_canon _ _ _ (cover0_A_8 c i a1 h1 a2 h2 a3 h3 a4 h4 a5 h5 a6 h6 a7 h7 a8 h8 a9 h9 hc x0 x1 x2 x3 x4)]
  unfold kernelRun0_A
  dsimp only
  sl_unfold_words
  rw [View.canon_cons_unit_zero (S := S1x2048) hz2]
  simp only [View.readCov_cons_toLoadRect, View.readAt_eq_ld, h1.read_unread, h2.read_unread, h3.read_unread, h4.read_unread, h5.read_unread, View.readCov_unit_zero (S := S1x2048) _ hz2, View.ld_unit_zero (S := S256x2048) hz2, View.ld_unit_zero (S := S1x2048) hz2]

theorem outB5 (hc) : out0_B_5 (F := F) c i a1 h1 a2 h2 a3 h3 a4 h4 a5 h5 a6 h6 a7 h7 a8 h8 a9 h9 hc x0 x1 x2 x3 x4 x6 x7 x8
    = k0_pay3 x0 (k0_pay7 x1) (k0_pay8 x1) x2 (k0_pay11 x3) x4 := by
  unfold out0_B_5
  rw [View.read_writes_eq_canon _ _ _ (cover0_B_5 c i a1 h1 a2 h2 a3 h3 a4 h4 a5 h5 a6 h6 a7 h7 a8 h8 a9 h9 hc x0 x1 x2 x3 x4 x6 x7 x8)]
  unfold kernelRun0_B
  dsimp only
  sl_unfold_words
  rw [View.canon_unit_zero (S := S256x2048) hz2]
  simp only [View.readCov_cons_toLoadRect, View.readAt_eq_ld, h1.read_unread, h2.read_unread, h3.read_unread, h4.read_unread, h5.read_unread, h7.read_unread, h8.read_unread, h9.read_unread, View.ld_unit_zero (S := S256x2048) hz2, View.ld_unit_zero (S := S1x2048) hz2]

theorem outB6 (hc) : out0_B_6 (F := F) c i a1 h1 a2 h2 a3 h3 a4 h4 a5 h5 a6 h6 a7 h7 a8 h8 a9 h9 hc x0 x1 x2 x3 x4 x6 x7 x8
    = k0_pay2 x0 (k0_pay8 x1) (k0_pay11 x3) x6 := by
  unfold out0_B_6
  rw [View.read_writes_eq_canon _ _ _ (cover0_B_6 c i a1 h1 a2 h2 a3 h3 a4 h4 a5 h5 a6 h6 a7 h7 a8 h8 a9 h9 hc x0 x1 x2 x3 x4 x6 x7 x8)]
  unfold kernelRun0_B
  dsimp only
  sl_unfold_words
  rw [View.canon_unit_zero (S := S1x2048) hz2]
  simp only [View.readCov_cons_toLoadRect, View.readAt_eq_ld, h1.read_unread, h2.read_unread, h3.read_unread, h4.read_unread, h5.read_unread, h7.read_unread, h8.read_unread, h9.read_unread, View.ld_unit_zero (S := S256x2048) hz2, View.ld_unit_zero (S := S1x2048) hz2]

theorem outB7 (hc) : out0_B_7 (F := F) c i a1 h1 a2 h2 a3 h3 a4 h4 a5 h5 a6 h6 a7 h7 a8 h8 a9 h9 hc x0 x1 x2 x3 x4 x6 x7 x8
    = k0_pay9 x1 x0 x2 x7 := by
  unfold out0_B_7
  rw [View.read_writes_eq_canon _ _ _ (cover0_B_7 c i a1 h1 a2 h2 a3 h3 a4 h4 a5 h5 a6 h6 a7 h7 a8 h8 a9 h9 hc x0 x1 x2 x3 x4 x6 x7 x8)]
  unfold kernelRun0_B
  dsimp only
  sl_unfold_words
  rw [View.canon_unit_zero (S := S1x2048) hz2]
  simp only [View.readCov_cons_toLoadRect, View.readAt_eq_ld, h1.read_unread, h2.read_unread, h3.read_unread, h4.read_unread, h5.read_unread, h7.read_unread, h8.read_unread, h9.read_unread, View.ld_unit_zero (S := S256x2048) hz2, View.ld_unit_zero (S := S1x2048) hz2]

theorem outB8 (hc) : out0_B_8 (F := F) c i a1 h1 a2 h2 a3 h3 a4 h4 a5 h5 a6 h6 a7 h7 a8 h8 a9 h9 hc x0 x1 x2 x3 x4 x6 x7 x8
    = k0_pay10 x0 x8 := by
  unfold out0_B_8
  rw [View.read_writes_eq_canon _ _ _ (cover0_B_8 c i a1 h1 a2 h2 a3 h3 a4 h4 a5 h5 a6 h6 a7 h7 a8 h8 a9 h9 hc x0 x1 x2 x3 x4 x6 x7 x8)]
  unfold kernelRun0_B
  dsimp only
  sl_unfold_words
  rw [View.canon_unit_zero (S := S1x2048) hz2]
  simp only [View.readCov_cons_toLoadRect, View.readAt_eq_ld, h1.read_unread, h2.read_unread, h3.read_unread, h4.read_unread, h5.read_unread, h7.read_unread, h8.read_unread, h9.read_unread, View.ld_unit_zero (S := S256x2048) hz2, View.ld_unit_zero (S := S1x2048) hz2]

end

/-! ## One block at an index -/

theorem red_row (x : FVec Ideal S256x2048 .f32) (hφ hacc) (i : Fin 256) :
    multiReduction .add [1] S256 x 0x00000000#32 reduces_S256x2048_S256 hφ hacc (ix1 i) = ∑ k : Fin 2048, x (ix2 i k) := by
  rw [Ideal.multiReduction_add_single]
  refine Finset.sum_congr rfl fun j _ => congrArg x ?_
  funext a
  match a with
  | ⟨0, _⟩ => rfl
  | ⟨1, _⟩ => rfl

theorem red_col (x : FVec Ideal S256x2048 .f32) (hφ hacc) (j : Fin 2048) :
    multiReduction .add [0] S2048 x 0x00000000#32 reduces_S256x2048_S2048 hφ hacc (ix1 j) = ∑ k : Fin 256, x (ix2 k j) := by
  rw [Ideal.multiReduction_add_single]
  refine Finset.sum_congr rfl fun j _ => congrArg x ?_
  funext a
  match a with
  | ⟨0, _⟩ => rfl
  | ⟨1, _⟩ => rfl

theorem bcast_col (x : FVec Ideal S256x1 .f32) (i : Fin 256) (j : Fin 2048) : broadcastTo S256x2048 x broadcasts_S256x1_S256x2048 (ix2 i j) = x (ix2 i 0) :=
  broadcastTo_apply x _ _ _ (fun a => by
    match a with
    | ⟨0, _⟩ => rfl
    | ⟨1, _⟩ => rfl)

theorem bcast_row (x : FVec Ideal S1x2048 .f32) (i : Fin 256) (j : Fin 2048) : broadcastTo S256x2048 x broadcasts_S1x2048_S256x2048 (ix2 i j) = x (ix2 0 j) :=
  broadcastTo_1b_ab_apply (a := 256) (b := 2048) x _ i j

section
variable (dy x e : Vec Ideal S256x2048 .f32) (g s p : Vec Ideal S1x2048 .f32) (i : Fin 256) (j : Fin 2048)

/-- A row of a block. -/
def row (x : Vec Ideal S256x2048 .f32) (i : Fin 256) : Fin 2048 → EReal := fun k => x (ix2 i k)

theorem pay7 : k0_pay7 (F := Ideal) x (ix2 i 0) = rs (row x i) := by
  unfold k0_pay7
  refine congrArg (fun z => Ideal.rsqrt (Ideal.div z cN + eps)) ?_
  refine (shapeCast_a_a1_apply _ _ i 0).trans ?_
  exact red_row _ _ _ i

theorem pay8 : k0_pay8 (F := Ideal) x (ix2 i j) = x (ix2 i j) * rs (row x i) := by
  unfold k0_pay8
  refine congrArg (x (ix2 i j) * ·) ?_
  exact (bcast_col _ i j).trans (pay7 x i)

theorem pay11 : k0_pay11 (F := Ideal) s = s := shapeCast_self _ _

theorem pay1 : k0_pay1 (F := Ideal) dy s (ix2 i j) = dy (ix2 i j) * s (ix2 0 j) := by
  unfold k0_pay1
  exact congrArg (dy (ix2 i j) * ·) (bcast_row s i j)

theorem pay3 : k0_pay3 (F := Ideal) dy (k0_pay7 x) (k0_pay8 x) g s e (ix2 i j)
    = dxK (row x i) (fun k => dy (ix2 i k) * s (ix2 0 k) * g (ix2 0 k)) (e (ix2 i j)) j := by
  have hw : ∀ k : Fin 2048, mulf (F := Ideal) (φ := .f32) (k0_pay1 dy s) (broadcastTo S256x2048 g broadcasts_S1x2048_S256x2048) (ix2 i k) = dy (ix2 i k) * s (ix2 0 k) * g (ix2 0 k) :=
    fun k => congrArg₂ (· * ·) (pay1 dy s i k) (bcast_row g i k)
  unfold k0_pay3 dxK
  refine congrArg (· + e (ix2 i j)) (congrArg₂ (· * ·) ((bcast_col _ i j).trans (pay7 x i)) (congrArg₂ (· - ·) (hw j) (congrArg₂ (· * ·) (pay8 x i j) ?_)))
  refine (bcast_col _ i j).trans (congrArg (Ideal.div · cN) ?_)
  refine (shapeCast_a_a1_apply _ _ i 0).trans ((red_row _ _ _ i).trans (Finset.sum_congr rfl fun k _ => ?_))
  exact congrArg₂ (· * ·) (hw k) (pay8 x i k)

theorem pay2 : k0_pay2 (F := Ideal) dy (k0_pay8 x) s p (ix2 0 j)
    = p (ix2 0 j) + ∑ k : Fin 256, dy (ix2 k j) * s (ix2 0 j) * (x (ix2 k j) * rs (row x k)) := by
  unfold k0_pay2
  rw [shapeCast_self]
  refine congrArg (p (ix2 0 j) + ·) ?_
  refine (shapeCast_a_1a_apply _ _ 0 j).trans ((red_col _ _ _ j).trans (Finset.sum_congr rfl fun k _ => ?_))
  exact congrArg₂ (· * ·) (pay1 dy s k j) (pay8 x k j)

theorem pay9 : k0_pay9 (F := Ideal) x dy g p (ix2 0 j)
    = p (ix2 0 j) + ∑ k : Fin 256, dy (ix2 k j) * (x (ix2 k j) * rs (row x k) * g (ix2 0 j)) := by
  unfold k0_pay9
  rw [shapeCast_self]
  refine congrArg (p (ix2 0 j) + ·) ?_
  refine (shapeCast_a_1a_apply _ _ 0 j).trans ((red_col _ _ _ j).trans (Finset.sum_congr rfl fun k _ => ?_))
  exact congrArg (dy (ix2 k j) * ·) (congrArg₂ (· * ·) (pay8 x k j) (bcast_row g k j))

theorem pay10 : k0_pay10 (F := Ideal) dy p (ix2 0 j) = p (ix2 0 j) + ∑ k : Fin 256, dy (ix2 k j) := by
  unfold k0_pay10
  rw [shapeCast_self]
  exact congrArg (p (ix2 0 j) + ·) ((shapeCast_a_1a_apply _ _ 0 j).trans (red_col _ _ _ j))

theorem zero4 (y) : k0_pay4 (F := Ideal) y = 0 := word_zero
theorem zero5 (y) : k0_pay5 (F := Ideal) y = 0 := word_zero
theorem zero6 (y) : k0_pay6 (F := Ideal) y = 0 := word_zero

end

/-! ## The arrays after the run -/

theorem e0_0 : ∀ t : Fin cfg0.N, win0_0.index t = ![t.val, 0] := (by decide +kernel : ∀ t : Fin grid0.N, win0_0.index t = ![t.val, 0])
theorem e0_1 : ∀ t : Fin cfg0.N, win0_1.index t = ![t.val, 0] := (by decide +kernel : ∀ t : Fin grid0.N, win0_1.index t = ![t.val, 0])
theorem e0_2 : ∀ t : Fin cfg0.N, win0_2.index t = ![0, 0] := (by decide +kernel : ∀ t : Fin grid0.N, win0_2.index t = ![0, 0])
theorem e0_3 : ∀ t : Fin cfg0.N, win0_3.index t = ![0, 0] := (by decide +kernel : ∀ t : Fin grid0.N, win0_3.index t = ![0, 0])
theorem e0_4 : ∀ t : Fin cfg0.N, win0_4.index t = ![t.val, 0] := (by decide +kernel : ∀ t : Fin grid0.N, win0_4.index t = ![t.val, 0])
theorem e0_5 : ∀ t : Fin cfg0.N, win0_5.index t = ![t.val, 0] := (by decide +kernel : ∀ t : Fin grid0.N, win0_5.index t = ![t.val, 0])
theorem e0_6 : ∀ t : Fin cfg0.N, win0_6.index t = ![0, 0] := (by decide +kernel : ∀ t : Fin grid0.N, win0_6.index t = ![0, 0])
theorem e0_7 : ∀ t : Fin cfg0.N, win0_7.index t = ![0, 0] := (by decide +kernel : ∀ t : Fin grid0.N, win0_7.index t = ![0, 0])
theorem e0_8 : ∀ t : Fin cfg0.N, win0_8.index t = ![0, 0] := (by decide +kernel : ∀ t : Fin grid0.N, win0_8.index t = ![0, 0])

section
variable (Y X E : ℕ → ℕ → EReal) (G S : ℕ → ℕ → EReal)

/-- Row `a` of the input. -/
def rowX (a : ℕ) : Fin 2048 → EReal := fun k => X a k.val

/-- One and the scale of column `k`. -/
def sc (k : ℕ) : EReal := Ideal.ofBits .f32 0x3F800000#32 + S 0 k

/-- The gradient of the normalised row `a`. -/
def rowW (a : ℕ) : Fin 2048 → EReal := fun k => Y a k.val * sc S k.val * G 0 k.val

/-- What row `a` adds to the gradient of the gain. -/
def gainT (_ : ℕ) (j : Fin 2048) (a : ℕ) : EReal := Y a j.val * sc S j.val * (X a j.val * rs (rowX X a))

/-- What row `a` adds to the gradient of the scale. -/
def scaleT (_ : ℕ) (j : Fin 2048) (a : ℕ) : EReal := Y a j.val * (X a j.val * rs (rowX X a) * G 0 j.val)

/-- What row `a` adds to the gradient of the shift. -/
def shiftT (_ : ℕ) (j : Fin 2048) (a : ℕ) : EReal := Y a j.val

end

section
variable (m : (ℓ : Loc nD τ sig) → Buf (Elt Ideal) ℓ) (c : Dev nD) (Y X E : ℕ → ℕ → EReal) (G S : ℕ → ℕ → EReal)
  (hY : ∀ i : S4096x2048.Idx, m ((c : Thread nD τ).loc main_arg0) i = Y (i 0).val (i 1).val)
  (hX : ∀ i : S4096x2048.Idx, m ((c : Thread nD τ).loc main_arg1) i = X (i 0).val (i 1).val)
  (hG : ∀ i : S1x2048.Idx, m ((c : Thread nD τ).loc main_arg2) i = G (i 0).val (i 1).val)
  (hS : ∀ i : S1x2048.Idx, m ((c : Thread nD τ).loc main_arg3) i = S (i 0).val (i 1).val)
  (hE : ∀ i : S4096x2048.Idx, m ((c : Thread nD τ).loc main_arg4) i = E (i 0).val (i 1).val)

/-- The host adds one to the scale before the call. -/
theorem host_s : V (F := Ideal) m c main_v1 = addf (F := Ideal) (broadcastInDim S1x2048 ![] bcast_S_S1x2048 (constant S_ .f32 0x3F800000#32)) (m ((c : Thread nD τ).loc main_arg3)) := by
  unfold V
  after_results

include hS in
theorem host_s_apply (i : S1x2048.Idx) : V (F := Ideal) m c main_v1 i = sc S (i 1).val := by
  have h0 : (i 0).val = 0 := by have : (i 0).val < 1 := (i 0).isLt; omega
  rw [host_s]
  refine (congrArg (Ideal.ofBits .f32 0x3F800000#32 + ·) (hS i)).trans ?_
  rw [h0]
  rfl

include hY in
theorem blkY (t : Fin cfg0.N) (i : Fin 256) (j : Fin 2048) : iblk (F := Ideal) m c 0 t (ix2 i j) = Y (256 * t.val + i.val) j.val := by
  blk_simp [iblk, e0_0]
  refine ((congrFun (V_main_arg0 m c) _).trans (hY _)).trans ?_
  congr 1
  · blk_simp [e0_0]
    show t.val * 256 + i.val = _
    omega
  · blk_simp [e0_0]

include hX in
theorem blkX (t : Fin cfg0.N) (i : Fin 256) (j : Fin 2048) : iblk (F := Ideal) m c 1 t (ix2 i j) = X (256 * t.val + i.val) j.val := by
  blk_simp [iblk, e0_1]
  refine ((congrFun (V_main_arg1 m c) _).trans (hX _)).trans ?_
  congr 1
  · blk_simp [e0_1]
    show t.val * 256 + i.val = _
    omega
  · blk_simp [e0_1]

include hG in
theorem blkG (t : Fin cfg0.N) (j : Fin 2048) : iblk (F := Ideal) m c 2 t (ix2 0 j) = G 0 j.val := by
  blk_simp [iblk, e0_2]
  refine ((congrFun (V_main_arg2 m c) _).trans (hG _)).trans ?_
  congr 1
  blk_simp [e0_2]

include hS in
theorem blkS (t : Fin cfg0.N) (j : Fin 2048) : iblk (F := Ideal) m c 3 t (ix2 0 j) = sc S j.val := by
  blk_simp [iblk, e0_3]
  refine (host_s_apply m c S hS _).trans ?_
  congr 1
  blk_simp [e0_3]

include hE in
theorem blkE (t : Fin cfg0.N) (i : Fin 256) (j : Fin 2048) : iblk (F := Ideal) m c 4 t (ix2 i j) = E (256 * t.val + i.val) j.val := by
  blk_simp [iblk, e0_4]
  refine ((congrFun (V_main_arg4 m c) _).trans (hE _)).trans ?_
  congr 1
  · blk_simp [e0_4]
    show t.val * 256 + i.val = _
    omega
  · blk_simp [e0_4]

include hX in
theorem blk_row (t : Fin cfg0.N) (i : Fin 256) : row (iblk (F := Ideal) m c 1 t) i = rowX X (256 * t.val + i.val) :=
  funext fun k => blkX m c X hX t i k

include hY hX hG hS hE in
theorem blk_dx (t : Fin cfg0.N) (i : Fin 256) (j : Fin 2048) :
    k0_pay3 (F := Ideal) (iblk m c 0 t) (k0_pay7 (iblk m c 1 t)) (k0_pay8 (iblk m c 1 t)) (iblk m c 2 t) (k0_pay11 (iblk m c 3 t)) (iblk m c 4 t) (ix2 i j)
      = dxK (rowX X (256 * t.val + i.val)) (rowW Y G S (256 * t.val + i.val)) (E (256 * t.val + i.val) j.val) j := by
  rw [pay11]
  refine (pay3 _ _ _ _ _ i j).trans ?_
  rw [blk_row m c X hX, blkE m c E hE]
  refine congrArg (fun w => dxK _ w _ j) (funext fun k => ?_)
  rw [blkY m c Y hY, blkG m c G hG, blkS m c S hS]
  rfl

include hY hX hS in
theorem run_gain (t : Fin cfg0.N) (p : Vec Ideal S1x2048 .f32) (j : Fin 2048) :
    k0_pay2 (F := Ideal) (iblk m c 0 t) (k0_pay8 (iblk m c 1 t)) (k0_pay11 (iblk m c 3 t)) p (ix2 0 j)
      = p (ix2 0 j) + ∑ k : Fin 256, gainT Y X S (t.val / 16) j (256 * (t.val % 16) + k) := by
  have ht : t.val % 16 = t.val := Nat.mod_eq_of_lt t.isLt
  rw [pay11, ht]
  refine (pay2 _ _ _ _ j).trans (congrArg (p (ix2 0 j) + ·) (Finset.sum_congr rfl fun k _ => ?_))
  rw [blk_row m c X hX, blkX m c X hX, blkY m c Y hY, blkS m c S hS]
  rfl

include hY hX hG in
theorem run_scale (t : Fin cfg0.N) (p : Vec Ideal S1x2048 .f32) (j : Fin 2048) :
    k0_pay9 (F := Ideal) (iblk m c 1 t) (iblk m c 0 t) (iblk m c 2 t) p (ix2 0 j)
      = p (ix2 0 j) + ∑ k : Fin 256, scaleT Y X G (t.val / 16) j (256 * (t.val % 16) + k) := by
  have ht : t.val % 16 = t.val := Nat.mod_eq_of_lt t.isLt
  rw [ht]
  refine (pay9 _ _ _ _ j).trans (congrArg (p (ix2 0 j) + ·) (Finset.sum_congr rfl fun k _ => ?_))
  rw [blk_row m c X hX, blkX m c X hX, blkY m c Y hY, blkG m c G hG]
  rfl

include hY in
theorem run_shift (t : Fin cfg0.N) (p : Vec Ideal S1x2048 .f32) (j : Fin 2048) :
    k0_pay10 (F := Ideal) (iblk m c 0 t) p (ix2 0 j) = p (ix2 0 j) + ∑ k : Fin 256, shiftT Y (t.val / 16) j (256 * (t.val % 16) + k) := by
  have ht : t.val % 16 = t.val := Nat.mod_eq_of_lt t.isLt
  rw [ht]
  refine (pay10 _ _ j).trans (congrArg (p (ix2 0 j) + ·) (Finset.sum_congr rfl fun k _ => ?_))
  rw [blkY m c Y hY]
  rfl

include hY hX hS in
theorem acc_gain (n : ℕ) (hn : n < cfg0.N) (j : Fin 2048) :
    (outsAt0 (F := Ideal) m c n hn).2.1 (ix2 0 j) = ∑ k ∈ Finset.range (256 * (n % 16 + 1)), gainT Y X S (n / 16) j k := by
  refine acc_inv 16 256 (by norm_num) (fun n h j => (outsAt0 (F := Ideal) m c n h).2.1 (ix2 0 j)) (gainT Y X S) (fun n h j hm => ?_) (fun n h j hm => ?_) n hn j
  · rw [outsAt0_A m c ⟨n, h⟩ hm]
    dsimp only
    rw [outA6]
    refine (run_gain m c Y X S hY hX hS ⟨n, h⟩ _ j).trans ?_
    rw [zero4, zero_add]
  · rw [outsAt0_B m c ⟨n, h⟩ hm]
    dsimp only
    rw [outB6]
    exact run_gain m c Y X S hY hX hS ⟨n, h⟩ _ j

include hY hX hG in
theorem acc_scale (n : ℕ) (hn : n < cfg0.N) (j : Fin 2048) :
    (outsAt0 (F := Ideal) m c n hn).2.2.1 (ix2 0 j) = ∑ k ∈ Finset.range (256 * (n % 16 + 1)), scaleT Y X G (n / 16) j k := by
  refine acc_inv 16 256 (by norm_num) (fun n h j => (outsAt0 (F := Ideal) m c n h).2.2.1 (ix2 0 j)) (scaleT Y X G) (fun n h j hm => ?_) (fun n h j hm => ?_) n hn j
  · rw [outsAt0_A m c ⟨n, h⟩ hm]
    dsimp only
    rw [outA7]
    refine (run_scale m c Y X G hY hX hG ⟨n, h⟩ _ j).trans ?_
    rw [zero5, zero_add]
  · rw [outsAt0_B m c ⟨n, h⟩ hm]
    dsimp only
    rw [outB7]
    exact run_scale m c Y X G hY hX hG ⟨n, h⟩ _ j

include hY in
theorem acc_shift (n : ℕ) (hn : n < cfg0.N) (j : Fin 2048) :
    (outsAt0 (F := Ideal) m c n hn).2.2.2 (ix2 0 j) = ∑ k ∈ Finset.range (256 * (n % 16 + 1)), shiftT Y (n / 16) j k := by
  refine acc_inv 16 256 (by norm_num) (fun n h j => (outsAt0 (F := Ideal) m c n h).2.2.2 (ix2 0 j)) (shiftT Y) (fun n h j hm => ?_) (fun n h j hm => ?_) n hn j
  · rw [outsAt0_A m c ⟨n, h⟩ hm]
    dsimp only
    rw [outA8]
    refine (run_shift m c Y hY ⟨n, h⟩ _ j).trans ?_
    rw [zero6, zero_add]
  · rw [outsAt0_B m c ⟨n, h⟩ hm]
    dsimp only
    rw [outB8]
    exact run_shift m c Y hY ⟨n, h⟩ _ j

theorem outs5 (t : Fin cfg0.N) : (outsAt0 (F := Ideal) m c t.val t.isLt).1
    = k0_pay3 (iblk m c 0 t) (k0_pay7 (iblk m c 1 t)) (k0_pay8 (iblk m c 1 t)) (iblk m c 2 t) (k0_pay11 (iblk m c 3 t)) (iblk m c 4 t) := by
  by_cases h : t.val % 16 = 0
  · rw [outsAt0_A m c t h]
    dsimp only
    rw [outA5]
  · rw [outsAt0_B m c t h]
    dsimp only
    rw [outB5]

include hY hX hG hS hE in
theorem arr5 (i : S4096x2048.Idx) : (dats (F := Ideal) m 0 c).arrAt 5 cfg0.N i
    = dxK (rowX X (i 0).val) (rowW Y G S (i 0).val) (E (i 0).val (i 1).val) (i 1) := by
  refine (dats m 0 c).arrAt_forall_of_covers 5 (fun i x => x = dxK (rowX X (i 0).val) (rowW Y G S (i 0).val) (E (i 0).val (i 1).val) (i 1))
    (by decide +kernel) (fun t hf y => ?_) i (Memref.isWhole_whole _)
  blk_simp
  rw [after0_5, outs5]
  refine (congrArg (k0_pay3 (F := Ideal) (iblk m c 0 t) (k0_pay7 (iblk m c 1 t)) (k0_pay8 (iblk m c 1 t)) (iblk m c 2 t) (k0_pay11 (iblk m c 3 t)) (iblk m c 4 t))
    (eq_ix2 (n0 := 256) (n1 := 2048) y)).trans ((blk_dx m c Y X E G S hY hX hG hS hE t (y 0) (y 1)).trans ?_)
  blk_simp [e0_5]
  rw [Nat.mul_comm t.val 256]
  refine congrArg (dxK _ _ _) (Fin.ext ?_)
  blk_simp [e0_5]

/-- At the last block the run is the whole column. -/
theorem last_run (n : ℕ) (h : n % 16 = 15) (hn : n < 16) (f : ℕ → ℕ → EReal) : ∑ k ∈ Finset.range (256 * (n % 16 + 1)), f (n / 16) k = ∑ k ∈ Finset.range 4096, f 0 k := by
  rw [h, show n / 16 = 0 by omega]

theorem one_row (y : S1x2048.Idx) : y = ix2 (n0 := 1) (n1 := 2048) 0 (y 1) := by
  refine (eq_ix2 (n0 := 1) (n1 := 2048) y).trans (congrArg (fun a => ix2 (n0 := 1) (n1 := 2048) a (y 1)) (Fin.ext ?_))
  have : (y 0).val < 1 := (y 0).isLt
  show (y 0).val = 0
  omega

include hY hX hS in
theorem arr6 (i : S1x2048.Idx) : (dats (F := Ideal) m 0 c).arrAt 6 cfg0.N i = ∑ k ∈ Finset.range 4096, gainT Y X S 0 (i 1) k := by
  refine (dats m 0 c).arrAt_forall_of_covers 6 (fun i x => x = ∑ k ∈ Finset.range 4096, gainT Y X S 0 (i 1) k) (by decide +kernel) (fun t hf y => ?_) i (Memref.isWhole_whole _)
  have h3 := (flush0_6 t).mp hf
  blk_simp
  rw [after0_6]
  refine (congrArg (outsAt0 (F := Ideal) m c t.val t.isLt).2.1 (one_row y)).trans ((acc_gain m c Y X S hY hX hS t.val t.isLt (y 1)).trans
    ((last_run t.val h3 t.isLt fun n => gainT Y X S n (y 1)).trans (Finset.sum_congr rfl fun k _ => congrArg (fun j => gainT Y X S 0 j k) (Fin.ext ?_))))
  blk_simp [e0_6]

include hY hX hG in
theorem arr7 (i : S1x2048.Idx) : (dats (F := Ideal) m 0 c).arrAt 7 cfg0.N i = ∑ k ∈ Finset.range 4096, scaleT Y X G 0 (i 1) k := by
  refine (dats m 0 c).arrAt_forall_of_covers 7 (fun i x => x = ∑ k ∈ Finset.range 4096, scaleT Y X G 0 (i 1) k) (by decide +kernel) (fun t hf y => ?_) i (Memref.isWhole_whole _)
  have h3 := (flush0_7 t).mp hf
  blk_simp
  rw [after0_7]
  refine (congrArg (outsAt0 (F := Ideal) m c t.val t.isLt).2.2.1 (one_row y)).trans ((acc_scale m c Y X G hY hX hG t.val t.isLt (y 1)).trans
    ((last_run t.val h3 t.isLt fun n => scaleT Y X G n (y 1)).trans (Finset.sum_congr rfl fun k _ => congrArg (fun j => scaleT Y X G 0 j k) (Fin.ext ?_))))
  blk_simp [e0_7]

include hY in
theorem arr8 (i : S1x2048.Idx) : (dats (F := Ideal) m 0 c).arrAt 8 cfg0.N i = ∑ k ∈ Finset.range 4096, shiftT Y 0 (i 1) k := by
  refine (dats m 0 c).arrAt_forall_of_covers 8 (fun i x => x = ∑ k ∈ Finset.range 4096, shiftT Y 0 (i 1) k) (by decide +kernel) (fun t hf y => ?_) i (Memref.isWhole_whole _)
  have h3 := (flush0_8 t).mp hf
  blk_simp
  rw [after0_8]
  refine (congrArg (outsAt0 (F := Ideal) m c t.val t.isLt).2.2.2 (one_row y)).trans ((acc_shift m c Y hY t.val t.isLt (y 1)).trans
    ((last_run t.val h3 t.isLt fun n => shiftT Y n (y 1)).trans (Finset.sum_congr rfl fun k _ => congrArg (fun j => shiftT Y 0 j k) (Fin.ext ?_))))
  blk_simp [e0_8]

end

/-! ## The reference's values -/

section
open Cert.ModBwdRefIdeal.Read

variable (x0 x1 x4 : (⟨S4096x2048, .f32⟩ : BufTy).Contents (Elt Ideal)) (x2 x3 : (⟨S1x2048, .f32⟩ : BufTy).Contents (Elt Ideal)) (Y X E : ℕ → ℕ → EReal) (G S : ℕ → ℕ → EReal)
  (hY : ∀ i : S4096x2048.Idx, x0 i = Y (i 0).val (i 1).val) (hX : ∀ i : S4096x2048.Idx, x1 i = X (i 0).val (i 1).val)
  (hG : ∀ i : S1x2048.Idx, x2 i = G (i 0).val (i 1).val) (hS : ∀ i : S1x2048.Idx, x3 i = S (i 0).val (i 1).val)
  (hE : ∀ i : S4096x2048.Idx, x4 i = E (i 0).val (i 1).val)

include hX in
theorem ref_ms (i : Cert.ModBwdRefIdeal.S4096x1.Idx) : val_main_v7 (F := Ideal) x1 i = ms (rowX X (i 0).val) := by
  rw [val_main_v7_apply, val_main_v5_apply, val_main_v3_apply, val_main_v4_apply, val_main_v6_apply, val_main_v2_apply, val_main_cst_1_apply, val_main_cst_2_apply, val_main_cst_0_apply]
  refine congrArg (fun z => Ideal.div z cN + eps) (((congrArg (· + _) word_zero).trans (zero_add _)).trans (Finset.sum_congr rfl fun k _ => ?_))
  exact congrArg₂ (· * ·) (hX _) (hX _)

include hX in
theorem ref_rs (i : Cert.ModBwdRefIdeal.S4096x1.Idx) : val_main_v8 (F := Ideal) x1 i = rs (rowX X (i 0).val) := by
  rw [val_main_v8_apply, ref_ms x1 X hX]
  rfl

include hX in
theorem ref_norm (i : S4096x2048.Idx) : val_main_v13 (F := Ideal) x1 i = X (i 0).val (i 1).val * rs (rowX X (i 0).val) := by
  rw [val_main_v13_apply, val_main_v12_apply, ref_rs x1 X hX, hX]
  rfl

include hY in
theorem ref_dy (i : S4096x2048.Idx) : val_main_v22 (F := Ideal) x0 i = Y (i 0).val (i 1).val := by
  rw [val_main_v22_apply, hY]
  have h1 : (i 1).val < 2048 := (i 1).isLt
  refine congrArg₂ Y ?_ ?_
  · show ((i 0).val * 2048 + (i 1).val) / 2048 = _
    omega
  · show ((i 0).val * 2048 + (i 1).val) % 2048 = _
    omega

include hS in
theorem ref_sc (i : S4096x2048.Idx) : val_main_v28 (F := Ideal) x3 i = sc S (i 1).val := by
  rw [val_main_v28_apply, val_main_v17_apply, val_main_v16_apply, val_main_cst_4_apply, hS]
  rfl

include hY hS in
theorem ref_dys (i : S4096x2048.Idx) : val_main_v29 (F := Ideal) x0 x3 i = Y (i 0).val (i 1).val * sc S (i 1).val := by
  rw [val_main_v29_apply, ref_dy x0 Y hY, ref_sc x3 S hS]
  rfl

include hY hG hS in
theorem ref_w (i : S4096x2048.Idx) : val_main_v34 (F := Ideal) x0 x2 x3 i = rowW Y G S (i 0).val (i 1) := by
  rw [val_main_v34_apply, ref_dys x0 x3 Y S hY hS, val_main_v33_apply, hG]
  rfl

include hY hX hG hS in
theorem ref_dR (i : Cert.ModBwdRefIdeal.S4096.Idx) : val_main_v44 (F := Ideal) x0 x1 x2 x3 i = dR (rowX X (i 0).val) (rowW Y G S (i 0).val) := by
  rw [val_main_v44_apply, Fin.sum_univ_one, val_main_cst_10_apply]
  refine ((congrArg (· + _) word_zero).trans (zero_add _)).trans ?_
  rw [val_main_v43_apply, val_main_v41_apply, val_main_v42_apply, val_main_cst_9_apply, val_main_v37_apply, val_main_v36_apply, val_main_v11_apply, val_main_v10_apply, val_main_cst_3_apply,
    val_main_v9_apply, ref_rs x1 X hX, ref_ms x1 X hX, val_main_cst_8_apply]
  refine congrArg (fun z => Ideal.div (z * (mhalf * Ideal.div (rs (rowX X (i 0).val)) (ms (rowX X (i 0).val)))) cN) (((congrArg (· + _) word_zero).trans (zero_add _)).trans (Finset.sum_congr rfl fun k _ => ?_))
  rw [val_main_v35_apply, hX, ref_w x0 x2 x3 Y G S hY hG hS]
  have h0 : (i 0).val * 1 + 0 = (i 0).val := by omega
  refine congrArg₂ (· * ·) (congrArg (fun a => X a k.val) h0) (congrArg (fun a => rowW Y G S a k) h0)

include hY hX hG hS hE in
theorem ref_dx (i : S4096x2048.Idx) : val_main_v49 (F := Ideal) x0 x1 x2 x3 x4 i = dxR (rowX X (i 0).val) (rowW Y G S (i 0).val) (E (i 0).val (i 1).val) (i 1) := by
  rw [val_main_v49_apply, val_main_v47_apply, val_main_v40_apply, val_main_v39_apply, val_main_v46_apply, val_main_v48_apply, val_main_v45_apply, val_main_v38_apply,
    ref_dR x0 x1 x2 x3 Y X G S hY hX hG hS, ref_rs x1 X hX, ref_w x0 x2 x3 Y G S hY hG hS, hX, hE]
  rfl

include hY hX hS in
theorem ref_gain (i : S1x2048.Idx) : val_main_v32 (F := Ideal) x0 x1 x3 i = ∑ k ∈ Finset.range 4096, gainT Y X S 0 (i 1) k := by
  have h0 : (i 0).val < 1 := (i 0).isLt
  have h1 : (i 0).val * 2048 + (i 1).val = (i 1).val := by omega
  rw [val_main_v32_apply, val_main_v31_apply, val_main_cst_7_apply, ← Fin.sum_univ_eq_sum_range (gainT Y X S 0 (i 1))]
  refine ((congrArg (· + _) word_zero).trans (zero_add _)).trans (Finset.sum_congr rfl fun k _ => ?_)
  rw [val_main_v30_apply, ref_norm x1 X hX, ref_dys x0 x3 Y S hY hS]
  refine (mul_comm _ _).trans ?_
  exact congrArg (fun a => Y k.val a * sc S a * (X k.val a * rs (rowX X k.val))) h1

include hY hX hG in
theorem ref_scale (i : S1x2048.Idx) : val_main_v27 (F := Ideal) x0 x1 x2 i = ∑ k ∈ Finset.range 4096, scaleT Y X G 0 (i 1) k := by
  have h0 : (i 0).val < 1 := (i 0).isLt
  have h1 : (i 0).val * 2048 + (i 1).val = (i 1).val := by omega
  rw [val_main_v27_apply, val_main_v26_apply, val_main_cst_6_apply, ← Fin.sum_univ_eq_sum_range (scaleT Y X G 0 (i 1))]
  refine ((congrArg (· + _) word_zero).trans (zero_add _)).trans (Finset.sum_congr rfl fun k _ => ?_)
  rw [val_main_v25_apply, val_main_v15_apply, ref_norm x1 X hX, val_main_v14_apply, ref_dy x0 Y hY, hG]
  refine (mul_comm _ _).trans ?_
  exact congrArg (fun a => Y k.val a * (X k.val a * rs (rowX X k.val) * G 0 a)) h1

include hY in
theorem ref_shift (i : S1x2048.Idx) : val_main_v24 (F := Ideal) x0 i = ∑ k ∈ Finset.range 4096, shiftT Y 0 (i 1) k := by
  have h0 : (i 0).val < 1 := (i 0).isLt
  have h1 : (i 0).val * 2048 + (i 1).val = (i 1).val := by omega
  rw [val_main_v24_apply, val_main_v23_apply, val_main_cst_5_apply, ← Fin.sum_univ_eq_sum_range (shiftT Y 0 (i 1))]
  refine ((congrArg (· + _) word_zero).trans (zero_add _)).trans (Finset.sum_congr rfl fun k _ => ?_)
  exact (hY _).trans (congrArg (Y k.val) h1)

end

theorem frame_ref : Cert.quiescent_ModBwdRefIdeal (hModBwdRefIdeal := Cert.ModBwdRefIdeal.Gen.facts) := fun m ρ _ =>
  (θ_run Cert.ModBwdRefIdeal.defs _ _).mono (fun r h => ⟨fun c => (h c).2.2.2.2, sem_eq_zero_of_no_sems (by decide) r.2⟩)
    (Cert.ModBwdRefIdeal.Value.run (F := Ideal) m ρ)

/-- The kernel's four gradients and the reference's agree at every element, whatever the arguments hold. -/
theorem algebraic : Cert.algebraic_ModBwdIdeal_ModBwdRefIdeal (hModBwdIdeal := Cert.ModBwdIdeal.Gen.facts) (hModBwdRefIdeal := Cert.ModBwdRefIdeal.Gen.facts) := by
  intro m ρ m' ρ' _ hagree
  choose Y hY using fun c : Dev nD => total2 (M := 4096) (K := 2048) (m ((c : Thread nD τ).loc main_arg0))
  choose X hX using fun c : Dev nD => total2 (M := 4096) (K := 2048) (m ((c : Thread nD τ).loc main_arg1))
  choose G hG using fun c : Dev nD => total2 (M := 1) (K := 2048) (m ((c : Thread nD τ).loc main_arg2))
  choose S hS using fun c : Dev nD => total2 (M := 1) (K := 2048) (m ((c : Thread nD τ).loc main_arg3))
  choose E hE using fun c : Dev nD => total2 (M := 4096) (K := 2048) (m ((c : Thread nD τ).loc main_arg4))
  refine ⟨fun c => fun i : S4096x2048.Idx => dxK (rowX (X c) (i 0).val) (rowW (Y c) (G c) (S c) (i 0).val) (E c (i 0).val (i 1).val) (i 1),
    fun c => fun i : S1x2048.Idx => (∑ k ∈ Finset.range 4096, gainT (Y c) (X c) (S c) 0 (i 1) k : EReal),
    fun c => fun i : S1x2048.Idx => (∑ k ∈ Finset.range 4096, scaleT (Y c) (X c) (G c) 0 (i 1) k : EReal),
    fun c => fun i : S1x2048.Idx => (∑ k ∈ Finset.range 4096, shiftT (Y c) 0 (i 1) k : EReal), ?_, ?_⟩
  · exact (θ_run defs _ _).mono (fun r h c => ⟨(h c).1.trans (funext (arr5 m c (Y c) (X c) (E c) (G c) (S c) (hY c) (hX c) (hG c) (hS c) (hE c))),
      (h c).2.1.trans (funext (arr6 m c (Y c) (X c) (S c) (hY c) (hX c) (hS c))),
      (h c).2.2.1.trans (funext (arr7 m c (Y c) (X c) (G c) (hY c) (hX c) (hG c))),
      (h c).2.2.2.1.trans (funext (arr8 m c (Y c) (hY c))), (h c).2.2.2.2⟩)
      (Cert.ModBwdIdeal.Value.run_blocks (F := Ideal) m ρ)
  · refine (θ_run Cert.ModBwdRefIdeal.defs _ _).mono (fun r h c => ?_) (Cert.ModBwdRefIdeal.Value.run (F := Ideal) m' ρ')
    obtain ⟨h0, h1, h2, h3, ha⟩ := h c
    obtain ⟨a0, a1, a2, a3, a4⟩ := hagree c
    have y := fun i => (congrFun a0 i).trans (hY c i)
    have x := fun i => (congrFun a1 i).trans (hX c i)
    have g := fun i => (congrFun a2 i).trans (hG c i)
    have s := fun i => (congrFun a3 i).trans (hS c i)
    have e := fun i => (congrFun a4 i).trans (hE c i)
    exact ⟨(h0.trans (Cert.ModBwdRefIdeal.Read.val_main_v49_eq _ _)).trans (funext fun i => (ref_dx _ _ _ _ _ (Y c) (X c) (E c) (G c) (S c) y x g s e i).trans (dx_eq _ _ _ _).symm),
      (h1.trans (Cert.ModBwdRefIdeal.Read.val_main_v32_eq _ _ _)).trans (funext (ref_gain _ _ _ (Y c) (X c) (S c) y x s)),
      (h2.trans (Cert.ModBwdRefIdeal.Read.val_main_v27_eq _ _ _)).trans (funext (ref_scale _ _ _ (Y c) (X c) (G c) y x g)),
      (h3.trans (Cert.ModBwdRefIdeal.Read.val_main_v24_eq _)).trans (funext (ref_shift _ (Y c) y)), ha⟩

end Cert.ModBwdVal

end
-- ==== Proof.Adam.lean ====
/- The AdamW step of one weight, over the reals: the update and the two moments, and that equal arguments give equal results. -/
module

public import Idealize.ShloMosaic.PureOps.Ideal

@[expose] public section

noncomputable section

open Idealize.ShloMosaic

namespace Cert.AdamVal

variable {ι : Type}

/-- The first moment after the step, from the gradient and the moment before it. -/
def mom (g m : ι → EReal) (i : ι) : EReal := Ideal.ofBits .f32 0x3F666666#32 * m i + Ideal.ofBits .f32 0x3DCCCCCD#32 * g i

/-- The second moment after the step. -/
def sec (g v : ι → EReal) (i : ι) : EReal := Ideal.ofBits .f32 0x3F7FBE77#32 * v i + Ideal.ofBits .f32 0x3A83126F#32 * (g i * g i)

/-- What the step adds to the weight. -/
def step (w g m v : ι → EReal) (i : ι) : EReal :=
  Ideal.ofBits .f32 0xBA83126F#32 * (Ideal.div (Ideal.div (mom g m i) (Ideal.ofBits .f32 0x3F26BD02#32))
    (Ideal.sqrt (Ideal.div (sec g v i) (Ideal.ofBits .f32 0x3C231ACC#32)) + Ideal.ofBits .f32 0x322BCC77#32) + Ideal.ofBits .f32 0x3C23D70A#32 * w i)

section
variable {w g m v w' g' m' v' x y z u : ι → EReal} {P : Prop}

/-- Three results named at one program's arguments, read at the other's. -/
theorem same3 (h : x = step w' g' m' v' ∧ y = mom g' m' ∧ z = sec g' v' ∧ P) (ha : w' = w ∧ g' = g ∧ m' = m ∧ v' = v) :
    x = step w g m v ∧ y = mom g m ∧ z = sec g v ∧ P := by
  obtain ⟨rfl, rfl, rfl, rfl⟩ := ha
  exact h

/-- The same with the gradient written out again in front. -/
theorem same4 (h : u = g' ∧ x = step w' g' m' v' ∧ y = mom g' m' ∧ z = sec g' v' ∧ P) (ha : w' = w ∧ g' = g ∧ m' = m ∧ v' = v) :
    u = g ∧ x = step w g m v ∧ y = mom g m ∧ z = sec g v ∧ P :=
  ⟨h.1.trans ha.2.1, same3 h.2 ha⟩

end

end Cert.AdamVal

end
-- ==== Proof.AdamVal.lean ====
/- The AdamW step of the weights whose call has no copy of the gradient: each array is, index by index, the reference's. -/
module

public import proofs.«01_k».proof.Defs
public import proofs.«01_k».proof.Proof.Adam
public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Gen.AdamCtxIdeal.Value
public import proofs.«01_k».proof.Proof.Gen.AdamCtxRefIdeal.Run
public import proofs.«01_k».proof.Proof.Gen.AdamCtxRefIdeal.Read
public import proofs.«01_k».proof.Proof.Gen.AdamBModIdeal.Value
public import proofs.«01_k».proof.Proof.Gen.AdamBModRefIdeal.Run
public import proofs.«01_k».proof.Proof.Gen.AdamBModRefIdeal.Read
public import proofs.«01_k».proof.Proof.Gen.AdamNormIdeal.Value
public import proofs.«01_k».proof.Proof.Gen.AdamNormRefIdeal.Run
public import proofs.«01_k».proof.Proof.Gen.AdamNormRefIdeal.Read
public import proofs.«01_k».proof.Proof.Gen.AdamHeadIdeal.Value
public import proofs.«01_k».proof.Proof.Gen.AdamHeadRefIdeal.Run
public import proofs.«01_k».proof.Proof.Gen.AdamHeadRefIdeal.Read
public import proofs.«01_k».proof.Proof.Gen.AdamConvWIdeal.Value
public import proofs.«01_k».proof.Proof.Gen.AdamConvWRefIdeal.Run
public import proofs.«01_k».proof.Proof.Gen.AdamConvWRefIdeal.Read
public import proofs.«01_k».proof.Proof.Gen.AdamRowIdeal.Value
public import proofs.«01_k».proof.Proof.Gen.AdamRowRefIdeal.Run
public import proofs.«01_k».proof.Proof.Gen.AdamRowRefIdeal.Read
public import proofs.«01_k».proof.Proof.Gen.AdamGateIdeal.Value
public import proofs.«01_k».proof.Proof.Gen.AdamGateRefIdeal.Run
public import proofs.«01_k».proof.Proof.Gen.AdamGateRefIdeal.Read
public import proofs.«01_k».proof.Proof.Gen.AdamBiasIdeal.Value
public import proofs.«01_k».proof.Proof.Gen.AdamBiasRefIdeal.Run
public import proofs.«01_k».proof.Proof.Gen.AdamBiasRefIdeal.Read
public import proofs.«01_k».proof.Proof.Gen.AdamGainIdeal.Value
public import proofs.«01_k».proof.Proof.Gen.AdamGainRefIdeal.Run
public import proofs.«01_k».proof.Proof.Gen.AdamGainRefIdeal.Read
public import proofs.«01_k».proof.Proof.Gen.AdamSpIdeal.Value
public import proofs.«01_k».proof.Proof.Gen.AdamSpRefIdeal.Run
public import proofs.«01_k».proof.Proof.Gen.AdamSpRefIdeal.Read

@[expose] public section

set_option maxRecDepth 16384

noncomputable section

open Idealize.ShloMosaic Idealize.ShloMosaic.TcCoe Idealize.SL.Sem

namespace Cert.AdamVal

theorem frame_AdamMod : Cert.quiescent_AdamModRefIdeal (hAdamModRefIdeal := Cert.AdamModRefIdeal.Gen.facts) := fun m ρ _ =>
  (θ_run _ _ _).mono (fun r h => ⟨fun c => (h c).2.2.2, sem_eq_zero_of_no_sems (by decide) r.2⟩) (Cert.AdamModRefIdeal.Value.run (F := Ideal) m ρ)

theorem algebraic_AdamMod : Cert.algebraic_AdamModIdeal_AdamModRefIdeal (hAdamModIdeal := Cert.AdamModIdeal.Gen.facts) (hAdamModRefIdeal := Cert.AdamModRefIdeal.Gen.facts) :=
  fun m ρ m' ρ' _ hagree => ⟨_, _, _, Cert.AdamModIdeal.Value.run (F := Ideal) m ρ,
    (θ_run _ _ _).mono (fun _ h c => same3 (h c) (hagree c)) (Cert.AdamModRefIdeal.Value.run (F := Ideal) m' ρ')⟩

theorem frame_AdamCtx : Cert.quiescent_AdamCtxRefIdeal (hAdamCtxRefIdeal := Cert.AdamCtxRefIdeal.Gen.facts) := fun m ρ _ =>
  (θ_run _ _ _).mono (fun r h => ⟨fun c => (h c).2.2.2, sem_eq_zero_of_no_sems (by decide) r.2⟩) (Cert.AdamCtxRefIdeal.Value.run (F := Ideal) m ρ)

theorem algebraic_AdamCtx : Cert.algebraic_AdamCtxIdeal_AdamCtxRefIdeal (hAdamCtxIdeal := Cert.AdamCtxIdeal.Gen.facts) (hAdamCtxRefIdeal := Cert.AdamCtxRefIdeal.Gen.facts) :=
  fun m ρ m' ρ' _ hagree => ⟨_, _, _, Cert.AdamCtxIdeal.Value.run (F := Ideal) m ρ,
    (θ_run _ _ _).mono (fun _ h c => same3 (h c) (hagree c)) (Cert.AdamCtxRefIdeal.Value.run (F := Ideal) m' ρ')⟩

theorem frame_AdamBMod : Cert.quiescent_AdamBModRefIdeal (hAdamBModRefIdeal := Cert.AdamBModRefIdeal.Gen.facts) := fun m ρ _ =>
  (θ_run _ _ _).mono (fun r h => ⟨fun c => (h c).2.2.2, sem_eq_zero_of_no_sems (by decide) r.2⟩) (Cert.AdamBModRefIdeal.Value.run (F := Ideal) m ρ)

theorem algebraic_AdamBMod : Cert.algebraic_AdamBModIdeal_AdamBModRefIdeal (hAdamBModIdeal := Cert.AdamBModIdeal.Gen.facts) (hAdamBModRefIdeal := Cert.AdamBModRefIdeal.Gen.facts) :=
  fun m ρ m' ρ' _ hagree => ⟨_, _, _, Cert.AdamBModIdeal.Value.run (F := Ideal) m ρ,
    (θ_run _ _ _).mono (fun _ h c => same3 (h c) (hagree c)) (Cert.AdamBModRefIdeal.Value.run (F := Ideal) m' ρ')⟩

theorem frame_AdamNorm : Cert.quiescent_AdamNormRefIdeal (hAdamNormRefIdeal := Cert.AdamNormRefIdeal.Gen.facts) := fun m ρ _ =>
  (θ_run _ _ _).mono (fun r h => ⟨fun c => (h c).2.2.2, sem_eq_zero_of_no_sems (by decide) r.2⟩) (Cert.AdamNormRefIdeal.Value.run (F := Ideal) m ρ)

theorem algebraic_AdamNorm : Cert.algebraic_AdamNormIdeal_AdamNormRefIdeal (hAdamNormIdeal := Cert.AdamNormIdeal.Gen.facts) (hAdamNormRefIdeal := Cert.AdamNormRefIdeal.Gen.facts) :=
  fun m ρ m' ρ' _ hagree => ⟨_, _, _, Cert.AdamNormIdeal.Value.run (F := Ideal) m ρ,
    (θ_run _ _ _).mono (fun _ h c => same3 (h c) (hagree c)) (Cert.AdamNormRefIdeal.Value.run (F := Ideal) m' ρ')⟩

theorem frame_AdamHead : Cert.quiescent_AdamHeadRefIdeal (hAdamHeadRefIdeal := Cert.AdamHeadRefIdeal.Gen.facts) := fun m ρ _ =>
  (θ_run _ _ _).mono (fun r h => ⟨fun c => (h c).2.2.2, sem_eq_zero_of_no_sems (by decide) r.2⟩) (Cert.AdamHeadRefIdeal.Value.run (F := Ideal) m ρ)

theorem algebraic_AdamHead : Cert.algebraic_AdamHeadIdeal_AdamHeadRefIdeal (hAdamHeadIdeal := Cert.AdamHeadIdeal.Gen.facts) (hAdamHeadRefIdeal := Cert.AdamHeadRefIdeal.Gen.facts) :=
  fun m ρ m' ρ' _ hagree => ⟨_, _, _, Cert.AdamHeadIdeal.Value.run (F := Ideal) m ρ,
    (θ_run _ _ _).mono (fun _ h c => same3 (h c) (hagree c)) (Cert.AdamHeadRefIdeal.Value.run (F := Ideal) m' ρ')⟩

theorem frame_AdamConvW : Cert.quiescent_AdamConvWRefIdeal (hAdamConvWRefIdeal := Cert.AdamConvWRefIdeal.Gen.facts) := fun m ρ _ =>
  (θ_run _ _ _).mono (fun r h => ⟨fun c => (h c).2.2.2, sem_eq_zero_of_no_sems (by decide) r.2⟩) (Cert.AdamConvWRefIdeal.Value.run (F := Ideal) m ρ)

theorem algebraic_AdamConvW : Cert.algebraic_AdamConvWIdeal_AdamConvWRefIdeal (hAdamConvWIdeal := Cert.AdamConvWIdeal.Gen.facts) (hAdamConvWRefIdeal := Cert.AdamConvWRefIdeal.Gen.facts) :=
  fun m ρ m' ρ' _ hagree => ⟨_, _, _, Cert.AdamConvWIdeal.Value.run (F := Ideal) m ρ,
    (θ_run _ _ _).mono (fun _ h c => same3 (h c) (hagree c)) (Cert.AdamConvWRefIdeal.Value.run (F := Ideal) m' ρ')⟩

theorem frame_AdamRow : Cert.quiescent_AdamRowRefIdeal (hAdamRowRefIdeal := Cert.AdamRowRefIdeal.Gen.facts) := fun m ρ _ =>
  (θ_run _ _ _).mono (fun r h => ⟨fun c => (h c).2.2.2, sem_eq_zero_of_no_sems (by decide) r.2⟩) (Cert.AdamRowRefIdeal.Value.run (F := Ideal) m ρ)

theorem algebraic_AdamRow : Cert.algebraic_AdamRowIdeal_AdamRowRefIdeal (hAdamRowIdeal := Cert.AdamRowIdeal.Gen.facts) (hAdamRowRefIdeal := Cert.AdamRowRefIdeal.Gen.facts) :=
  fun m ρ m' ρ' _ hagree => ⟨_, _, _, Cert.AdamRowIdeal.Value.run (F := Ideal) m ρ,
    (θ_run _ _ _).mono (fun _ h c => same3 (h c) (hagree c)) (Cert.AdamRowRefIdeal.Value.run (F := Ideal) m' ρ')⟩

theorem frame_AdamGate : Cert.quiescent_AdamGateRefIdeal (hAdamGateRefIdeal := Cert.AdamGateRefIdeal.Gen.facts) := fun m ρ _ =>
  (θ_run _ _ _).mono (fun r h => ⟨fun c => (h c).2.2.2, sem_eq_zero_of_no_sems (by decide) r.2⟩) (Cert.AdamGateRefIdeal.Value.run (F := Ideal) m ρ)

theorem algebraic_AdamGate : Cert.algebraic_AdamGateIdeal_AdamGateRefIdeal (hAdamGateIdeal := Cert.AdamGateIdeal.Gen.facts) (hAdamGateRefIdeal := Cert.AdamGateRefIdeal.Gen.facts) :=
  fun m ρ m' ρ' _ hagree => ⟨_, _, _, Cert.AdamGateIdeal.Value.run (F := Ideal) m ρ,
    (θ_run _ _ _).mono (fun _ h c => same3 (h c) (hagree c)) (Cert.AdamGateRefIdeal.Value.run (F := Ideal) m' ρ')⟩

theorem frame_AdamBias : Cert.quiescent_AdamBiasRefIdeal (hAdamBiasRefIdeal := Cert.AdamBiasRefIdeal.Gen.facts) := fun m ρ _ =>
  (θ_run _ _ _).mono (fun r h => ⟨fun c => (h c).2.2.2, sem_eq_zero_of_no_sems (by decide) r.2⟩) (Cert.AdamBiasRefIdeal.Value.run (F := Ideal) m ρ)

theorem algebraic_AdamBias : Cert.algebraic_AdamBiasIdeal_AdamBiasRefIdeal (hAdamBiasIdeal := Cert.AdamBiasIdeal.Gen.facts) (hAdamBiasRefIdeal := Cert.AdamBiasRefIdeal.Gen.facts) :=
  fun m ρ m' ρ' _ hagree => ⟨_, _, _, Cert.AdamBiasIdeal.Value.run (F := Ideal) m ρ,
    (θ_run _ _ _).mono (fun _ h c => same3 (h c) (hagree c)) (Cert.AdamBiasRefIdeal.Value.run (F := Ideal) m' ρ')⟩

theorem frame_AdamGain : Cert.quiescent_AdamGainRefIdeal (hAdamGainRefIdeal := Cert.AdamGainRefIdeal.Gen.facts) := fun m ρ _ =>
  (θ_run _ _ _).mono (fun r h => ⟨fun c => (h c).2.2.2, sem_eq_zero_of_no_sems (by decide) r.2⟩) (Cert.AdamGainRefIdeal.Value.run (F := Ideal) m ρ)

theorem algebraic_AdamGain : Cert.algebraic_AdamGainIdeal_AdamGainRefIdeal (hAdamGainIdeal := Cert.AdamGainIdeal.Gen.facts) (hAdamGainRefIdeal := Cert.AdamGainRefIdeal.Gen.facts) :=
  fun m ρ m' ρ' _ hagree => ⟨_, _, _, Cert.AdamGainIdeal.Value.run (F := Ideal) m ρ,
    (θ_run _ _ _).mono (fun _ h c => same3 (h c) (hagree c)) (Cert.AdamGainRefIdeal.Value.run (F := Ideal) m' ρ')⟩

theorem frame_AdamSp : Cert.quiescent_AdamSpRefIdeal (hAdamSpRefIdeal := Cert.AdamSpRefIdeal.Gen.facts) := fun m ρ _ =>
  (θ_run _ _ _).mono (fun r h => ⟨fun c => (h c).2.2.2, sem_eq_zero_of_no_sems (by decide) r.2⟩) (Cert.AdamSpRefIdeal.Value.run (F := Ideal) m ρ)

theorem algebraic_AdamSp : Cert.algebraic_AdamSpIdeal_AdamSpRefIdeal (hAdamSpIdeal := Cert.AdamSpIdeal.Gen.facts) (hAdamSpRefIdeal := Cert.AdamSpRefIdeal.Gen.facts) :=
  fun m ρ m' ρ' _ hagree => ⟨_, _, _, Cert.AdamSpIdeal.Value.run (F := Ideal) m ρ,
    (θ_run _ _ _).mono (fun _ h c => same3 (h c) (hagree c)) (Cert.AdamSpRefIdeal.Value.run (F := Ideal) m' ρ')⟩

end Cert.AdamVal

end
-- ==== Proof.AdamBigVal.lean ====
/- The AdamW step of the weights whose call also copies the gradient: block by block as the kernel writes it, and over the whole arrays as the reference states it. -/
module

public import proofs.«01_k».proof.Defs
public import proofs.«01_k».proof.Proof.Adam
public import proofs.«01_k».proof.Proof.Mm
public import proofs.«01_k».proof.Proof.Gen.AdamFfIdeal.Value
public import proofs.«01_k».proof.Proof.Gen.AdamFfRefIdeal.Run
public import proofs.«01_k».proof.Proof.Gen.AdamFfRefIdeal.Read
public import proofs.«01_k».proof.Proof.Gen.AdamArInIdeal.Value
public import proofs.«01_k».proof.Proof.Gen.AdamArInRefIdeal.Run
public import proofs.«01_k».proof.Proof.Gen.AdamArInRefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamGmInIdeal.Value
public import proofs.«01_k».proof.Proof.Gen.AdamGmInRefIdeal.Run
public import proofs.«01_k».proof.Proof.Gen.AdamGmInRefIdeal.Read
public import Idealize.ShloMosaic.Lib.Pipeline.ValueKit.Tiles
public import Idealize.ShloMosaic.Lib.Pipeline.ValueKit.Geometry

@[expose] public section

set_option maxRecDepth 16384

noncomputable section

open Idealize.ShloMosaic Idealize.ShloMosaic.TcCoe Idealize.SL.Sem

namespace Cert.AdamVal

namespace AdamFf

open Cert.AdamFfIdeal Cert.AdamFfIdeal.Gen Cert.AdamFfIdeal.Facts Cert.Mm

theorem outs (w g m v : Vec Ideal S256x2048 .f32) :
    out0_4 w g m v = g ∧ out0_5 w g m v = step w g m v ∧ out0_6 w g m v = mom g m ∧ out0_7 w g m v = sec g v := by
  simp only [out0_4, out0_5, out0_6, out0_7, View.canon_unit_zero (S := S256x2048) hz2, View.ld_unit_zero (S := S256x2048) hz2]
  exact ⟨trivial, rfl, rfl, rfl⟩

section
variable (m : (ℓ : Loc nD τ sig) → Buf (Elt Ideal) ℓ) (c : Dev nD)

theorem arr4 : (dats (F := Ideal) m 0 c).arrAt 4 cfg0.N = (m ((c : Thread nD τ).loc main_arg1)) := funext fun i => by
  refine (dats m 0 c).arrAt_forall_of_covers 4 (fun i x => x = ((m ((c : Thread nD τ).loc main_arg1)) : S4096x2048.Idx → EReal) i) (by decide +kernel) (fun t hf y => ?_) i (Memref.isWhole_whole _)
  refine (congrFun ((after0_4 m c t).trans (outs _ _ _ _).1) _).trans ?_
  rfl

theorem arr5 : (dats (F := Ideal) m 0 c).arrAt 5 cfg0.N = step (m ((c : Thread nD τ).loc main_arg0)) (m ((c : Thread nD τ).loc main_arg1)) (m ((c : Thread nD τ).loc main_arg2)) (m ((c : Thread nD τ).loc main_arg3)) := funext fun i => by
  refine (dats m 0 c).arrAt_forall_of_covers 5 (fun i x => x = (step (m ((c : Thread nD τ).loc main_arg0)) (m ((c : Thread nD τ).loc main_arg1)) (m ((c : Thread nD τ).loc main_arg2)) (m ((c : Thread nD τ).loc main_arg3)) : S4096x2048.Idx → EReal) i) (by decide +kernel) (fun t hf y => ?_) i (Memref.isWhole_whole _)
  refine (congrFun ((after0_5 m c t).trans (outs _ _ _ _).2.1) _).trans ?_
  rfl

theorem arr6 : (dats (F := Ideal) m 0 c).arrAt 6 cfg0.N = mom (m ((c : Thread nD τ).loc main_arg1)) (m ((c : Thread nD τ).loc main_arg2)) := funext fun i => by
  refine (dats m 0 c).arrAt_forall_of_covers 6 (fun i x => x = (mom (m ((c : Thread nD τ).loc main_arg1)) (m ((c : Thread nD τ).loc main_arg2)) : S4096x2048.Idx → EReal) i) (by decide +kernel) (fun t hf y => ?_) i (Memref.isWhole_whole _)
  refine (congrFun ((after0_6 m c t).trans (outs _ _ _ _).2.2.1) _).trans ?_
  rfl

theorem arr7 : (dats (F := Ideal) m 0 c).arrAt 7 cfg0.N = sec (m ((c : Thread nD τ).loc main_arg1)) (m ((c : Thread nD τ).loc main_arg3)) := funext fun i => by
  refine (dats m 0 c).arrAt_forall_of_covers 7 (fun i x => x = (sec (m ((c : Thread nD τ).loc main_arg1)) (m ((c : Thread nD τ).loc main_arg3)) : S4096x2048.Idx → EReal) i) (by decide +kernel) (fun t hf y => ?_) i (Memref.isWhole_whole _)
  refine (congrFun ((after0_7 m c t).trans (outs _ _ _ _).2.2.2) _).trans ?_
  rfl

end

theorem frame_ref : Cert.quiescent_AdamFfRefIdeal (hAdamFfRefIdeal := Cert.AdamFfRefIdeal.Gen.facts) := fun m ρ _ =>
  (θ_run _ _ _).mono (fun r h => ⟨fun c => (h c).2.2.2.2, sem_eq_zero_of_no_sems (by decide) r.2⟩) (Cert.AdamFfRefIdeal.Value.run (F := Ideal) m ρ)

theorem algebraic : Cert.algebraic_AdamFfIdeal_AdamFfRefIdeal (hAdamFfIdeal := Cert.AdamFfIdeal.Gen.facts) (hAdamFfRefIdeal := Cert.AdamFfRefIdeal.Gen.facts) :=
  fun m ρ m' ρ' _ hagree => ⟨_, _, _, _,
    (θ_run _ _ _).mono (fun _ h c => ⟨(h c).1.trans (arr4 m c), (h c).2.1.trans (arr5 m c), (h c).2.2.1.trans (arr6 m c), (h c).2.2.2.1.trans (arr7 m c), (h c).2.2.2.2⟩)
      (Cert.AdamFfIdeal.Value.run_blocks (F := Ideal) m ρ),
    (θ_run _ _ _).mono (fun _ h c => same4 (h c) (hagree c)) (Cert.AdamFfRefIdeal.Value.run (F := Ideal) m' ρ')⟩

end AdamFf

namespace AdamArIn

open Cert.AdamArInIdeal Cert.AdamArInIdeal.Gen Cert.AdamArInIdeal.Facts Cert.Mm

theorem outs (w g m v : Vec Ideal S512x896 .f32) :
    out0_4 w g m v = g ∧ out0_5 w g m v = step w g m v ∧ out0_6 w g m v = mom g m ∧ out0_7 w g m v = sec g v := by
  simp only [out0_4, out0_5, out0_6, out0_7, View.canon_unit_zero (S := S512x896) hz2, View.ld_unit_zero (S := S512x896) hz2]
  exact ⟨trivial, rfl, rfl, rfl⟩

section
variable (m : (ℓ : Loc nD τ sig) → Buf (Elt Ideal) ℓ) (c : Dev nD)

theorem arr4 : (dats (F := Ideal) m 0 c).arrAt 4 cfg0.N = (m ((c : Thread nD τ).loc main_arg1)) := funext fun i => by
  refine (dats m 0 c).arrAt_forall_of_covers 4 (fun i x => x = ((m ((c : Thread nD τ).loc main_arg1)) : S2048x896.Idx → EReal) i) (by decide +kernel) (fun t hf y => ?_) i (Memref.isWhole_whole _)
  refine (congrFun ((after0_4 m c t).trans (outs _ _ _ _).1) _).trans ?_
  rfl

theorem arr5 : (dats (F := Ideal) m 0 c).arrAt 5 cfg0.N = step (m ((c : Thread nD τ).loc main_arg0)) (m ((c : Thread nD τ).loc main_arg1)) (m ((c : Thread nD τ).loc main_arg2)) (m ((c : Thread nD τ).loc main_arg3)) := funext fun i => by
  refine (dats m 0 c).arrAt_forall_of_covers 5 (fun i x => x = (step (m ((c : Thread nD τ).loc main_arg0)) (m ((c : Thread nD τ).loc main_arg1)) (m ((c : Thread nD τ).loc main_arg2)) (m ((c : Thread nD τ).loc main_arg3)) : S2048x896.Idx → EReal) i) (by decide +kernel) (fun t hf y => ?_) i (Memref.isWhole_whole _)
  refine (congrFun ((after0_5 m c t).trans (outs _ _ _ _).2.1) _).trans ?_
  rfl

theorem arr6 : (dats (F := Ideal) m 0 c).arrAt 6 cfg0.N = mom (m ((c : Thread nD τ).loc main_arg1)) (m ((c : Thread nD τ).loc main_arg2)) := funext fun i => by
  refine (dats m 0 c).arrAt_forall_of_covers 6 (fun i x => x = (mom (m ((c : Thread nD τ).loc main_arg1)) (m ((c : Thread nD τ).loc main_arg2)) : S2048x896.Idx → EReal) i) (by decide +kernel) (fun t hf y => ?_) i (Memref.isWhole_whole _)
  refine (congrFun ((after0_6 m c t).trans (outs _ _ _ _).2.2.1) _).trans ?_
  rfl

theorem arr7 : (dats (F := Ideal) m 0 c).arrAt 7 cfg0.N = sec (m ((c : Thread nD τ).loc main_arg1)) (m ((c : Thread nD τ).loc main_arg3)) := funext fun i => by
  refine (dats m 0 c).arrAt_forall_of_covers 7 (fun i x => x = (sec (m ((c : Thread nD τ).loc main_arg1)) (m ((c : Thread nD τ).loc main_arg3)) : S2048x896.Idx → EReal) i) (by decide +kernel) (fun t hf y => ?_) i (Memref.isWhole_whole _)
  refine (congrFun ((after0_7 m c t).trans (outs _ _ _ _).2.2.2) _).trans ?_
  rfl

end

theorem frame_ref : Cert.quiescent_AdamArInRefIdeal (hAdamArInRefIdeal := Cert.AdamArInRefIdeal.Gen.facts) := fun m ρ _ =>
  (θ_run _ _ _).mono (fun r h => ⟨fun c => (h c).2.2.2.2, sem_eq_zero_of_no_sems (by decide) r.2⟩) (Cert.AdamArInRefIdeal.Value.run (F := Ideal) m ρ)

theorem algebraic : Cert.algebraic_AdamArInIdeal_AdamArInRefIdeal (hAdamArInIdeal := Cert.AdamArInIdeal.Gen.facts) (hAdamArInRefIdeal := Cert.AdamArInRefIdeal.Gen.facts) :=
  fun m ρ m' ρ' _ hagree => ⟨_, _, _, _,
    (θ_run _ _ _).mono (fun _ h c => ⟨(h c).1.trans (arr4 m c), (h c).2.1.trans (arr5 m c), (h c).2.2.1.trans (arr6 m c), (h c).2.2.2.1.trans (arr7 m c), (h c).2.2.2.2⟩)
      (Cert.AdamArInIdeal.Value.run_blocks (F := Ideal) m ρ),
    (θ_run _ _ _).mono (fun _ h c => same4 (h c) (hagree c)) (Cert.AdamArInRefIdeal.Value.run (F := Ideal) m' ρ')⟩

end AdamArIn

namespace AdamOut

open Cert.AdamOutIdeal Cert.AdamOutIdeal.Gen Cert.AdamOutIdeal.Facts Cert.Mm

theorem outs (w g m v : Vec Ideal S256x2048 .f32) :
    out0_4 w g m v = g ∧ out0_5 w g m v = step w g m v ∧ out0_6 w g m v = mom g m ∧ out0_7 w g m v = sec g v := by
  simp only [out0_4, out0_5, out0_6, out0_7, View.canon_unit_zero (S := S256x2048) hz2, View.ld_unit_zero (S := S256x2048) hz2]
  exact ⟨trivial, rfl, rfl, rfl⟩

section
variable (m : (ℓ : Loc nD τ sig) → Buf (Elt Ideal) ℓ) (c : Dev nD)

theorem arr4 : (dats (F := Ideal) m 0 c).arrAt 4 cfg0.N = (m ((c : Thread nD τ).loc main_arg1)) := funext fun i => by
  refine (dats m 0 c).arrAt_forall_of_covers 4 (fun i x => x = ((m ((c : Thread nD τ).loc main_arg1)) : S512x2048.Idx → EReal) i) (by decide +kernel) (fun t hf y => ?_) i (Memref.isWhole_whole _)
  refine (congrFun ((after0_4 m c t).trans (outs _ _ _ _).1) _).trans ?_
  rfl

theorem arr5 : (dats (F := Ideal) m 0 c).arrAt 5 cfg0.N = step (m ((c : Thread nD τ).loc main_arg0)) (m ((c : Thread nD τ).loc main_arg1)) (m ((c : Thread nD τ).loc main_arg2)) (m ((c : Thread nD τ).loc main_arg3)) := funext fun i => by
  refine (dats m 0 c).arrAt_forall_of_covers 5 (fun i x => x = (step (m ((c : Thread nD τ).loc main_arg0)) (m ((c : Thread nD τ).loc main_arg1)) (m ((c : Thread nD τ).loc main_arg2)) (m ((c : Thread nD τ).loc main_arg3)) : S512x2048.Idx → EReal) i) (by decide +kernel) (fun t hf y => ?_) i (Memref.isWhole_whole _)
  refine (congrFun ((after0_5 m c t).trans (outs _ _ _ _).2.1) _).trans ?_
  rfl

theorem arr6 : (dats (F := Ideal) m 0 c).arrAt 6 cfg0.N = mom (m ((c : Thread nD τ).loc main_arg1)) (m ((c : Thread nD τ).loc main_arg2)) := funext fun i => by
  refine (dats m 0 c).arrAt_forall_of_covers 6 (fun i x => x = (mom (m ((c : Thread nD τ).loc main_arg1)) (m ((c : Thread nD τ).loc main_arg2)) : S512x2048.Idx → EReal) i) (by decide +kernel) (fun t hf y => ?_) i (Memref.isWhole_whole _)
  refine (congrFun ((after0_6 m c t).trans (outs _ _ _ _).2.2.1) _).trans ?_
  rfl

theorem arr7 : (dats (F := Ideal) m 0 c).arrAt 7 cfg0.N = sec (m ((c : Thread nD τ).loc main_arg1)) (m ((c : Thread nD τ).loc main_arg3)) := funext fun i => by
  refine (dats m 0 c).arrAt_forall_of_covers 7 (fun i x => x = (sec (m ((c : Thread nD τ).loc main_arg1)) (m ((c : Thread nD τ).loc main_arg3)) : S512x2048.Idx → EReal) i) (by decide +kernel) (fun t hf y => ?_) i (Memref.isWhole_whole _)
  refine (congrFun ((after0_7 m c t).trans (outs _ _ _ _).2.2.2) _).trans ?_
  rfl

end

theorem frame_ref : Cert.quiescent_AdamOutRefIdeal (hAdamOutRefIdeal := Cert.AdamOutRefIdeal.Gen.facts) := fun m ρ _ =>
  (θ_run _ _ _).mono (fun r h => ⟨fun c => (h c).2.2.2.2, sem_eq_zero_of_no_sems (by decide) r.2⟩) (Cert.AdamOutRefIdeal.Value.run (F := Ideal) m ρ)

theorem algebraic : Cert.algebraic_AdamOutIdeal_AdamOutRefIdeal (hAdamOutIdeal := Cert.AdamOutIdeal.Gen.facts) (hAdamOutRefIdeal := Cert.AdamOutRefIdeal.Gen.facts) :=
  fun m ρ m' ρ' _ hagree => ⟨_, _, _, _,
    (θ_run _ _ _).mono (fun _ h c => ⟨(h c).1.trans (arr4 m c), (h c).2.1.trans (arr5 m c), (h c).2.2.1.trans (arr6 m c), (h c).2.2.2.1.trans (arr7 m c), (h c).2.2.2.2⟩)
      (Cert.AdamOutIdeal.Value.run_blocks (F := Ideal) m ρ),
    (θ_run _ _ _).mono (fun _ h c => same4 (h c) (hagree c)) (Cert.AdamOutRefIdeal.Value.run (F := Ideal) m' ρ')⟩

end AdamOut

namespace AdamGmIn

open Cert.AdamGmInIdeal Cert.AdamGmInIdeal.Gen Cert.AdamGmInIdeal.Facts Cert.Mm

theorem outs (w g m v : Vec Ideal S512x1024 .f32) :
    out0_4 w g m v = g ∧ out0_5 w g m v = step w g m v ∧ out0_6 w g m v = mom g m ∧ out0_7 w g m v = sec g v := by
  simp only [out0_4, out0_5, out0_6, out0_7, View.canon_unit_zero (S := S512x1024) hz2, View.ld_unit_zero (S := S512x1024) hz2]
  exact ⟨trivial, rfl, rfl, rfl⟩

section
variable (m : (ℓ : Loc nD τ sig) → Buf (Elt Ideal) ℓ) (c : Dev nD)

theorem arr4 : (dats (F := Ideal) m 0 c).arrAt 4 cfg0.N = (m ((c : Thread nD τ).loc main_arg1)) := funext fun i => by
  refine (dats m 0 c).arrAt_forall_of_covers 4 (fun i x => x = ((m ((c : Thread nD τ).loc main_arg1)) : S2048x1024.Idx → EReal) i) (by decide +kernel) (fun t hf y => ?_) i (Memref.isWhole_whole _)
  refine (congrFun ((after0_4 m c t).trans (outs _ _ _ _).1) _).trans ?_
  rfl

theorem arr5 : (dats (F := Ideal) m 0 c).arrAt 5 cfg0.N = step (m ((c : Thread nD τ).loc main_arg0)) (m ((c : Thread nD τ).loc main_arg1)) (m ((c : Thread nD τ).loc main_arg2)) (m ((c : Thread nD τ).loc main_arg3)) := funext fun i => by
  refine (dats m 0 c).arrAt_forall_of_covers 5 (fun i x => x = (step (m ((c : Thread nD τ).loc main_arg0)) (m ((c : Thread nD τ).loc main_arg1)) (m ((c : Thread nD τ).loc main_arg2)) (m ((c : Thread nD τ).loc main_arg3)) : S2048x1024.Idx → EReal) i) (by decide +kernel) (fun t hf y => ?_) i (Memref.isWhole_whole _)
  refine (congrFun ((after0_5 m c t).trans (outs _ _ _ _).2.1) _).trans ?_
  rfl

theorem arr6 : (dats (F := Ideal) m 0 c).arrAt 6 cfg0.N = mom (m ((c : Thread nD τ).loc main_arg1)) (m ((c : Thread nD τ).loc main_arg2)) := funext fun i => by
  refine (dats m 0 c).arrAt_forall_of_covers 6 (fun i x => x = (mom (m ((c : Thread nD τ).loc main_arg1)) (m ((c : Thread nD τ).loc main_arg2)) : S2048x1024.Idx → EReal) i) (by decide +kernel) (fun t hf y => ?_) i (Memref.isWhole_whole _)
  refine (congrFun ((after0_6 m c t).trans (outs _ _ _ _).2.2.1) _).trans ?_
  rfl

theorem arr7 : (dats (F := Ideal) m 0 c).arrAt 7 cfg0.N = sec (m ((c : Thread nD τ).loc main_arg1)) (m ((c : Thread nD τ).loc main_arg3)) := funext fun i => by
  refine (dats m 0 c).arrAt_forall_of_covers 7 (fun i x => x = (sec (m ((c : Thread nD τ).loc main_arg1)) (m ((c : Thread nD τ).loc main_arg3)) : S2048x1024.Idx → EReal) i) (by decide +kernel) (fun t hf y => ?_) i (Memref.isWhole_whole _)
  refine (congrFun ((after0_7 m c t).trans (outs _ _ _ _).2.2.2) _).trans ?_
  rfl

end

theorem frame_ref : Cert.quiescent_AdamGmInRefIdeal (hAdamGmInRefIdeal := Cert.AdamGmInRefIdeal.Gen.facts) := fun m ρ _ =>
  (θ_run _ _ _).mono (fun r h => ⟨fun c => (h c).2.2.2.2, sem_eq_zero_of_no_sems (by decide) r.2⟩) (Cert.AdamGmInRefIdeal.Value.run (F := Ideal) m ρ)

theorem algebraic : Cert.algebraic_AdamGmInIdeal_AdamGmInRefIdeal (hAdamGmInIdeal := Cert.AdamGmInIdeal.Gen.facts) (hAdamGmInRefIdeal := Cert.AdamGmInRefIdeal.Gen.facts) :=
  fun m ρ m' ρ' _ hagree => ⟨_, _, _, _,
    (θ_run _ _ _).mono (fun _ h c => ⟨(h c).1.trans (arr4 m c), (h c).2.1.trans (arr5 m c), (h c).2.2.1.trans (arr6 m c), (h c).2.2.2.1.trans (arr7 m c), (h c).2.2.2.2⟩)
      (Cert.AdamGmInIdeal.Value.run_blocks (F := Ideal) m ρ),
    (θ_run _ _ _).mono (fun _ h c => same4 (h c) (hagree c)) (Cert.AdamGmInRefIdeal.Value.run (F := Ideal) m' ρ')⟩

end AdamGmIn

end Cert.AdamVal

end
-- ==== Proof.ArInDxCtxVal.lean ====
/- The gradient of the attention and RG-LRU input projection's argument on the context rows, as the kernel accumulates it and as the reference states it. -/
module

public import proofs.«01_k».proof.Defs
public import proofs.«01_k».proof.Proof.Mm
public import proofs.«01_k».proof.Proof.Gen.ArInDxCtxIdeal.Value
public import proofs.«01_k».proof.Proof.Gen.ArInDxCtxRefIdeal.Run
public import proofs.«01_k».proof.Proof.Gen.ArInDxCtxRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ArInDxCtxVal

open Cert.ArInDxCtxIdeal Cert.ArInDxCtxIdeal.Gen Cert.ArInDxCtxIdeal.Facts Cert.Mm

section
variable {F : FTy → Type} [FloatOps F]

/-- One grid point's update of the running sum: two runs of the contraction, each with its own block of weights. -/
def step (s : Vec F S256x1024 .f32) (x : Vec F S256x1792 .bf16) (y : Vec F S2x1024x896 .bf16) : Vec F S256x1024 .f32 :=
  k0_pay2 s (View.ld x (Rect.unit (s := S256x1792) ![0, 0] S256x896.size inb_S256x1792_S256x896_0_0))
    (View.ld y (Rect.unit (s := S2x1024x896) ![0, 0, 0] S1x1024x896.size inb_S2x1024x896_S1x1024x896_0_0_0))
    (View.ld x (Rect.unit (s := S256x1792) ![0, 896] S256x896.size inb_S256x1792_S256x896_0_896))
    (View.ld y (Rect.unit (s := S2x1024x896) ![1, 0, 0] S1x1024x896.size inb_S2x1024x896_S1x1024x896_1_0_0))

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = step k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x1024) hz2]
  simp only [View.readCov_cons_toLoadRect, View.readAt_eq_ld, h3.read_unread, h4.read_unread, h5.read_unread, h6.read_unread, View.readCov_unit_zero (S := S256x1024) _ hz2, View.ld_unit_zero (S := S256x1024) hz2]
  rfl

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = step xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S256x1024) hz2]
  simp only [View.readCov_cons_toLoadRect, View.readAt_eq_ld, h3.read_unread, h4.read_unread, h5.read_unread, h6.read_unread, View.ld_unit_zero (S := S256x1024) hz2]
  rfl

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = step xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S256x1024) hz2]
  simp only [View.readCov_cons_toLoadRect, View.readAt_eq_ld, h3.read_unread, h4.read_unread, h5.read_unread, h6.read_unread, View.readCov_unit_zero (S := S256x1024) _ hz2, View.ld_unit_zero (S := S256x1024) hz2]
  rfl

end

theorem e0_0 : ∀ t : Fin cfg0.N, win0_0.index t = ![16, t.val % 2] :=
  (by decide +kernel : ∀ t : Fin grid0.N, win0_0.index t = ![16, t.val % 2])
theorem e0_1 : ∀ t : Fin cfg0.N, win0_1.index t = ![t.val % 2, t.val / 2, 0] :=
  (by decide +kernel : ∀ t : Fin grid0.N, win0_1.index t = ![t.val % 2, t.val / 2, 0])
theorem e0_2 : ∀ t : Fin cfg0.N, win0_2.index t = ![0, t.val / 2] :=
  (by decide +kernel : ∀ t : Fin grid0.N, win0_2.index t = ![0, t.val / 2])

theorem pay1 (y) : k0_pay1 (F := Ideal) y = 0 := word_zero

theorem pay2 (s : Vec Ideal S256x1024 .f32) (x0 : Vec Ideal S256x896 .bf16) (y0 : Vec Ideal S1x1024x896 .bf16) (x1 : Vec Ideal S256x896 .bf16)
    (y1 : Vec Ideal S1x1024x896 .bf16) (i : Fin 256) (j : Fin 1024) :
    k0_pay2 (F := Ideal) s x0 y0 x1 y1 (ix2 i j)
      = s (ix2 i j) + (∑ k : Fin 896, x0 (ix2 i k) * y0 (ix3 0 j k) + ∑ k : Fin 896, x1 (ix2 i k) * y1 (ix3 0 j k)) := by
  have e (x : Vec Ideal S256x896 .bf16) (y : Vec Ideal S1x1024x896 .bf16) :
      matmul (F := Ideal) (φ₁ := .bf16) (φ₂ := .bf16) dot_S256x896_S1024x896_S256x1024_1_1_0_0_n_n none x (shapeCast S1024x896 y shapeCasts_S1x1024x896_S1024x896)
        (constant (F := Ideal) S256x1024 .f32 0x00000000#32) (ix2 i j) = ∑ k : Fin 896, x (ix2 i k) * y (ix3 0 j k) := by
    refine (nt _ rfl x _ i j).trans (Finset.sum_congr rfl fun k _ => congrArg (x (ix2 i k) * ·) ?_)
    exact shapeCast_1ab_ab_apply (a := 1024) (b := 896) y _ j k
  unfold k0_pay2
  rw [shapeCast_self]
  refine congrArg (s (ix2 i j) + ·) (congrArg₂ (· + ·) ?_ (e x1 y1))
  refine (congrArg₂ (· + ·) word_zero (e x0 y0)).trans ?_
  exact zero_add _

theorem step_apply (s : Vec Ideal S256x1024 .f32) (x : Vec Ideal S256x1792 .bf16) (y : Vec Ideal S2x1024x896 .bf16) (i : Fin 256) (j : Fin 1024) :
    step (F := Ideal) s x y (ix2 i j) = s (ix2 i j) + (∑ k : Fin 896, x (ix2 i ⟨k.val, by omega⟩) * y (ix3 0 j k)
      + ∑ k : Fin 896, x (ix2 i ⟨896 + k.val, by omega⟩) * y (ix3 1 j k)) := by
  unfold step
  refine (pay2 s _ _ _ _ i j).trans (congrArg (s (ix2 i j) + ·) (congrArg₂ (· + ·) (Finset.sum_congr rfl fun k _ => ?_) (Finset.sum_congr rfl fun k _ => ?_)))
  · refine congrArg₂ (· * ·) (congrArg x (funext fun a => Fin.ext ?_)) (congrArg y (funext fun a => Fin.ext ?_))
    · fin_cases a <;> simp
    · fin_cases a <;> simp
  · refine congrArg₂ (· * ·) (congrArg x (funext fun a => Fin.ext ?_)) (congrArg y (funext fun a => Fin.ext ?_))
    · fin_cases a <;> simp
    · fin_cases a <;> simp

section
variable (m : (ℓ : Loc nD τ sig) → Buf (Elt Ideal) ℓ) (c : Dev nD) (A B : ℕ → ℕ → EReal)
  (hA : ∀ i : S4352x3584.Idx, m ((c : Thread nD τ).loc main_arg0) i = A (i 0).val (i 1).val)
  (hB : ∀ i : S2048x3584.Idx, m ((c : Thread nD τ).loc main_arg1) i = B (i 0).val (i 1).val)

/-- The weights as the host lays them out for the call: four blocks of columns, one after another. -/
theorem host_w : V (F := Ideal) m c main_v1 = transpose S4x2048x896 [1, 0, 2]
    (shapeCast S2048x4x896 (m ((c : Thread nD τ).loc main_arg1)) shapeCasts_S2048x3584_S2048x4x896) transposes_S2048x4x896_S4x2048x896_1_0_2 := by
  unfold V
  after_results
  rfl

include hB in
theorem host_w_apply (i : S4x2048x896.Idx) : V (F := Ideal) m c main_v1 i = B (i 1).val (896 * (i 0).val + (i 2).val) := by
  rw [host_w]
  exact stacked_apply (m ((c : Thread nD τ).loc main_arg1)) _ _ B hB i

include hA in
theorem blkA (t : Fin cfg0.N) (i : Fin 256) (k : Fin 1792) :
    iblk (F := Ideal) m c 0 t (ix2 i k) = A (4096 + i.val) (1792 * (t.val % 2) + k.val) := by
  blk_simp [iblk, e0_0]
  refine ((congrFun (V_main_arg0 m c) _).trans (hA _)).trans ?_
  congr 1
  · blk_simp [e0_0]
  · blk_simp [e0_0]
    show t.val % 2 * 1792 + k.val = _
    omega

include hB in
theorem blkB (t : Fin cfg0.N) (g : Fin 2) (j : Fin 1024) (k : Fin 896) :
    iblk (F := Ideal) m c 1 t (ix3 g j k) = B (1024 * (t.val / 2) + j.val) (1792 * (t.val % 2) + (896 * g.val + k.val)) := by
  blk_simp [iblk, e0_1]
  refine (host_w_apply m c B hB _).trans ?_
  congr 1
  · blk_simp [e0_1]
    show t.val / 2 * 1024 + j.val = _
    omega
  · blk_simp [e0_1]
    show 896 * (t.val % 2 * 2 + g.val) + k.val = _
    omega

/-- The product's term number `k` at an element of the block of run `r`. -/
def term (r : ℕ) (x : Fin 256 × Fin 1024) (k : ℕ) : EReal := A (4096 + x.1.val) k * B (1024 * r + x.2.val) k

include hA hB in
theorem run_sum (t : Fin cfg0.N) (s : Vec Ideal S256x1024 .f32) (x : Fin 256 × Fin 1024) :
    step (F := Ideal) s (iblk m c 0 t) (iblk m c 1 t) (ix2 x.1 x.2)
      = s (ix2 x.1 x.2) + ∑ k : Fin 1792, term A B (t.val / 2) x (1792 * (t.val % 2) + k) := by
  rw [← two_runs (fun k => term A B (t.val / 2) x k) (1792 * (t.val % 2)) 896 1792 rfl]
  refine (step_apply _ _ _ _ _).trans (congrArg (s (ix2 x.1 x.2) + ·) (congrArg₂ (· + ·) (Finset.sum_congr rfl fun k _ => ?_) (Finset.sum_congr rfl fun k _ => ?_)))
  · rw [blkA m c A hA, blkB m c B hB]
    unfold term
    rw [show 896 * (0 : Fin 2).val + k.val = k.val from Nat.zero_add _]
  · rw [blkA m c A hA, blkB m c B hB]
    unfold term
    rfl

include hA hB in
theorem scr (n : ℕ) (hn : n < cfg0.N) (x : Fin 256 × Fin 1024) :
    (outsAt0 (F := Ideal) m c n hn).2 (ix2 x.1 x.2) = ∑ k ∈ Finset.range (1792 * (n % 2 + 1)), term A B (n / 2) x k := by
  refine acc_inv 2 1792 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = (outsAt0 (F := Ideal) m c t.val t.isLt).2 := by
  rw [outsAt0_B m c t (by omega) h3]
  dsimp only
  rw [outB, soutB]

include hA hB in
theorem arr (i : S256x2048.Idx) : (dats (F := Ideal) m 0 c).arrAt 2 cfg0.N i = ∑ k ∈ Finset.range 3584, A (4096 + (i 0).val) k * B (i 1).val k := by
  refine (dats m 0 c).arrAt_forall_of_covers 2 (fun i x => x = ∑ k ∈ Finset.range 3584, A (4096 + (i 0).val) k * B (i 1).val k) (by decide +kernel) (fun t hf y => ?_) i (Memref.isWhole_whole _)
  have h3 := (flush0_2 t).mp hf
  have h0 : (y 0).val < 256 := (y 0).isLt
  have h1 : (y 1).val < 1024 := (y 1).isLt
  blk_simp
  rw [after0_2, out_scr m c t h3]
  refine (congrArg (outsAt0 (F := Ideal) m c t.val t.isLt).2 (eq_ix2 (n0 := 256) (n1 := 1024) y)).trans ((scr m c A B hA hB t.val t.isLt (y 0, y 1)).trans ?_)
  unfold term
  blk_simp [e0_2]
  rw [h3, Nat.mul_comm (t.val / 2) 1024]

end

theorem ref_val (x0 x1) (A B : ℕ → ℕ → EReal) (hA : ∀ i : S4352x3584.Idx, x0 i = A (i 0).val (i 1).val)
    (hB : ∀ i : S2048x3584.Idx, x1 i = B (i 0).val (i 1).val) (i : S256x2048.Idx) :
    Cert.ArInDxCtxRefIdeal.Read.val_main_v5 (F := Ideal) x0 x1 i = ∑ k ∈ Finset.range 3584, A (4096 + (i 0).val) k * B (i 1).val k := by
  rw [Cert.ArInDxCtxRefIdeal.Read.val_main_v5_apply, ← Fin.sum_univ_eq_sum_range (fun k => A (4096 + (i 0).val) k * B (i 1).val k)]
  refine Finset.sum_congr rfl fun k _ => ?_
  refine congrArg₂ (· * ·) ?_ (hB _)
  rw [Cert.ArInDxCtxRefIdeal.Read.val_main_v1_apply, Cert.ArInDxCtxRefIdeal.Read.val_main_v0_apply]
  exact hA _

theorem frame_ref : Cert.quiescent_ArInDxCtxRefIdeal (hArInDxCtxRefIdeal := Cert.ArInDxCtxRefIdeal.Gen.facts) := fun m ρ _ =>
  (θ_run Cert.ArInDxCtxRefIdeal.defs _ _).mono (fun r h => ⟨fun c => (h c).2, sem_eq_zero_of_no_sems (by decide) r.2⟩)
    (Cert.ArInDxCtxRefIdeal.Value.run (F := Ideal) m ρ)

/-- The kernel's gradient and the reference's are the same sums. -/
theorem algebraic : Cert.algebraic_ArInDxCtxIdeal_ArInDxCtxRefIdeal (hArInDxCtxIdeal := Cert.ArInDxCtxIdeal.Gen.facts) (hArInDxCtxRefIdeal := Cert.ArInDxCtxRefIdeal.Gen.facts) := by
  intro m ρ m' ρ' _ hagree
  choose A hA using fun c : Dev nD => total2 (M := 4352) (K := 3584) (m ((c : Thread nD τ).loc main_arg0))
  choose B hB using fun c : Dev nD => total2 (M := 2048) (K := 3584) (m ((c : Thread nD τ).loc main_arg1))
  refine ⟨fun c => fun i : S256x2048.Idx => (∑ k ∈ Finset.range 3584, A c (4096 + (i 0).val) k * B c (i 1).val k : EReal), ?_, ?_⟩
  · exact (θ_run defs _ _).mono (fun r h c => ⟨(h c).1.trans (funext (arr m c (A c) (B c) (hA c) (hB c))), (h c).2⟩)
      (Cert.ArInDxCtxIdeal.Value.run_blocks (F := Ideal) m ρ)
  · refine (θ_run Cert.ArInDxCtxRefIdeal.defs _ _).mono (fun r h c => ?_) (Cert.ArInDxCtxRefIdeal.Value.run (F := Ideal) m' ρ')
    obtain ⟨h0, ha⟩ := h c
    obtain ⟨a0, a1⟩ := hagree c
    exact ⟨(h0.trans (Cert.ArInDxCtxRefIdeal.Read.val_main_v5_eq _ _)).trans (funext fun i => ref_val _ _ (A c) (B c)
      (fun i => (congrFun a0 i).trans (hA c i)) (fun i => (congrFun a1 i).trans (hB c i)) i), ha⟩

end Cert.ArInDxCtxVal

end
-- ==== Proof.ModFwdVal.lean ====
/- The modulation's two products with their biases, one for each layer, as the kernel computes them and as the reference states them. -/
module

public import proofs.«01_k».proof.Defs
public import proofs.«01_k».proof.Proof.Mm
public import proofs.«01_k».proof.Proof.Gen.ModFwdIdeal.Frame
public import proofs.«01_k».proof.Proof.Gen.ModFwdRefIdeal.Run
public import proofs.«01_k».proof.Proof.Gen.ModFwdRefIdeal.Read
public import Idealize.ShloMosaic.Lib.ValueLayout
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.ModFwdVal

open Cert.ModFwdIdeal Cert.ModFwdIdeal.Gen Cert.ModFwdIdeal.Facts Cert.Mm

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the run ends with the two results at the last boundary's contents and the arguments unchanged. -/
theorem run_results : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v3 (by decide)), h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Run

open Idealize.ShloMosaic Idealize.ShloMosaic.TcCoe Idealize.SL.Sem Idealize.ShloMosaic.ValueIdx

section
variable {F : FTy → Type} [FloatOps F]

theorem out0_3_eq (x0 : Vec F S16x2048 .f32) (x1 : Vec F S1x2048x1024 .f32) (x2 : Vec F S1x1024 .f32) : out0_3 (F := F) x0 x1 x2 = k0_pay1 x0 x1 x2 := by
  unfold out0_3
  rw [View.canon_unit_zero (S := S16x1024) hz2]
  simp only [View.ld_unit_zero (S := S16x2048) hz2, View.ld_unit_zero (S := S1x2048x1024) hz3, View.ld_unit_zero (S := S1x1024) hz2]

theorem out1_3_eq (x0 : Vec F S16x2048 .f32) (x1 : Vec F S1x2048x1024 .f32) (x2 : Vec F S1x1024 .f32) : out1_3 (F := F) x0 x1 x2 = k0_pay1 x0 x1 x2 := by
  unfold out1_3
  rw [View.canon_unit_zero (S := S16x1024) hz2]
  simp only [View.ld_unit_zero (S := S16x2048) hz2, View.ld_unit_zero (S := S1x2048x1024) hz3, View.ld_unit_zero (S := S1x1024) hz2]
  rfl

end

theorem e0_0 : ∀ t : Fin cfg0.N, win0_0.index t = ![0, 0] := (by decide +kernel : ∀ t : Fin grid0.N, win0_0.index t = ![0, 0])
theorem e0_1 : ∀ t : Fin cfg0.N, win0_1.index t = ![0, 0, t.val] := (by decide +kernel : ∀ t : Fin grid0.N, win0_1.index t = ![0, 0, t.val])
theorem e0_2 : ∀ t : Fin cfg0.N, win0_2.index t = ![0, t.val] := (by decide +kernel : ∀ t : Fin grid0.N, win0_2.index t = ![0, t.val])
theorem e0_3 : ∀ t : Fin cfg0.N, win0_3.index t = ![0, t.val] := (by decide +kernel : ∀ t : Fin grid0.N, win0_3.index t = ![0, t.val])
theorem e1_0 : ∀ t : Fin cfg1.N, win1_0.index t = ![0, 0] := (by decide +kernel : ∀ t : Fin grid1.N, win1_0.index t = ![0, 0])
theorem e1_1 : ∀ t : Fin cfg1.N, win1_1.index t = ![1, 0, t.val] := (by decide +kernel : ∀ t : Fin grid1.N, win1_1.index t = ![1, 0, t.val])
theorem e1_2 : ∀ t : Fin cfg1.N, win1_2.index t = ![0, t.val] := (by decide +kernel : ∀ t : Fin grid1.N, win1_2.index t = ![0, t.val])
theorem e1_3 : ∀ t : Fin cfg1.N, win1_3.index t = ![0, t.val] := (by decide +kernel : ∀ t : Fin grid1.N, win1_3.index t = ![0, t.val])

theorem pay (x : Vec Ideal S16x2048 .f32) (y : Vec Ideal S1x2048x1024 .f32) (b : Vec Ideal S1x1024 .f32) (i : Fin 16) (j : Fin 1024) :
    k0_pay1 (F := Ideal) x y b (ix2 i j) = (∑ k : Fin 2048, x (ix2 i k) * y (ix3 0 k j)) + b (ix2 0 j) := by
  unfold k0_pay1
  rw [shapeCast_self]
  refine congrArg₂ (· + ·) ((nn _ rfl x _ i j).trans (Finset.sum_congr rfl fun k _ => congrArg (x (ix2 i k) * ·) ?_)) ?_
  · exact shapeCast_1ab_ab_apply (a := 2048) (b := 1024) y _ k j
  · exact broadcastTo_1b_ab_apply (a := 16) (b := 1024) b _ i j

/-- A layer's modulation row: the product's row and the bias. -/
def mod (A W : ℕ → ℕ → EReal) (b : ℕ → EReal) (i j : ℕ) : EReal := (∑ k : Fin 2048, A i k * W k j) + b j

section
variable {V : (c : Dev nD) → (b : Ref sig .tc) → Buf (Elt Ideal) ((c : Thread nD τ).loc b)} {c : Dev nD} {A W : ℕ → ℕ → EReal} {b : ℕ → EReal}
  (hA : ∀ i : S16x2048.Idx, V c main_arg0 i = A (i 0).val (i 1).val)
  (hW0 : ∀ (k : Fin 2048) (j : Fin 3072), V c main_arg1 (ix3 (n0 := 2) 0 k j) = W k.val j.val)
  (hb0 : ∀ i : S1x3072.Idx, V c main_v2 i = b (i 1).val)
  (hW1 : ∀ (k : Fin 2048) (j : Fin 3072), V c main_arg1 (ix3 (n0 := 2) 1 k j) = W k.val j.val)
  (hb1 : ∀ i : S1x3072.Idx, V c main_v6 i = b (i 1).val)

include hA in
theorem blkA0 (t : Fin cfg0.N) (i : Fin 16) (k : Fin 2048) : iblk0 (F := Ideal) V c 0 t (ix2 i k) = A i.val k.val := by
  blk_simp [iblk0, e0_0]
  refine (hA _).trans ?_
  congr 1
  · blk_simp [e0_0]
  · blk_simp [e0_0]

include hW0 in
theorem blkW0 (t : Fin cfg0.N) (k : Fin 2048) (j : Fin 1024) : iblk0 (F := Ideal) V c 1 t (ix3 0 k j) = W k.val (1024 * t.val + j.val) := by
  have ht : t.val < 3 := lt_of_lt_of_eq t.isLt (by decide)
  blk_simp [iblk0, e0_1]
  refine Eq.trans (congrArg (V c main_arg1) (funext fun a => Fin.ext ?_)) (hW0 k ⟨1024 * t.val + j.val, by omega⟩)
  fin_cases a
  · blk_simp [e0_1]
    rfl
  · blk_simp [e0_1]
  · blk_simp [e0_1]
    show t.val * 1024 + j.val = 1024 * t.val + j.val
    omega

include hb0 in
theorem blkb0 (t : Fin cfg0.N) (j : Fin 1024) : iblk0 (F := Ideal) V c 2 t (ix2 0 j) = b (1024 * t.val + j.val) := by
  blk_simp [iblk0, e0_2]
  refine (hb0 _).trans ?_
  congr 1
  blk_simp [e0_2]
  show t.val * 1024 + j.val = _
  omega

include hA hW0 hb0 in
theorem arr0 (i : S16x3072.Idx) : (dat0 (F := Ideal) V c).arrAt 3 cfg0.N i = mod A W b (i 0).val (i 1).val := by
  refine (dat0 V c).arrAt_forall_of_covers 3 (fun i x => x = mod A W b (i 0).val (i 1).val) (by decide +kernel) (fun t hf y => ?_) i (Memref.isWhole_whole _)
  have e : k0_pay1 (F := Ideal) (iblk0 V c 0 t) (iblk0 V c 1 t) (iblk0 V c 2 t) y = mod A W b (y 0).val (1024 * t.val + (y 1).val) := by
    refine (congrArg (k0_pay1 (F := Ideal) (iblk0 V c 0 t) (iblk0 V c 1 t) (iblk0 V c 2 t)) (eq_ix2 (n0 := 16) (n1 := 1024) y)).trans ((pay _ _ _ (y 0) (y 1)).trans ?_)
    refine congrArg₂ (· + ·) (Finset.sum_congr rfl fun k _ => ?_) (blkb0 hb0 t (y 1))
    exact congrArg₂ (· * ·) (blkA0 hA t (y 0) k) (blkW0 hW0 t k (y 1))
  blk_simp
  rw [after0_3, out0_3_eq]
  refine e.trans ?_
  blk_simp [e0_3]
  rw [Nat.mul_comm t.val 1024]

include hA in
theorem blkA1 (t : Fin cfg1.N) (i : Fin 16) (k : Fin 2048) : iblk1 (F := Ideal) V c 0 t (ix2 i k) = A i.val k.val := by
  blk_simp [iblk1, e1_0]
  refine (hA _).trans ?_
  congr 1
  · blk_simp [e1_0]
  · blk_simp [e1_0]

include hW1 in
theorem blkW1 (t : Fin cfg1.N) (k : Fin 2048) (j : Fin 1024) : iblk1 (F := Ideal) V c 1 t (ix3 0 k j) = W k.val (1024 * t.val + j.val) := by
  have ht : t.val < 3 := lt_of_lt_of_eq t.isLt (by decide)
  blk_simp [iblk1, e1_1]
  refine Eq.trans (congrArg (V c main_arg1) (funext fun a => Fin.ext ?_)) (hW1 k ⟨1024 * t.val + j.val, by omega⟩)
  fin_cases a
  · blk_simp [e1_1]
    rfl
  · blk_simp [e1_1]
  · blk_simp [e1_1]
    show t.val * 1024 + j.val = 1024 * t.val + j.val
    omega

include hb1 in
theorem blkb1 (t : Fin cfg1.N) (j : Fin 1024) : iblk1 (F := Ideal) V c 2 t (ix2 0 j) = b (1024 * t.val + j.val) := by
  blk_simp [iblk1, e1_2]
  refine (hb1 _).trans ?_
  congr 1
  blk_simp [e1_2]
  show t.val * 1024 + j.val = _
  omega

include hA hW1 hb1 in
theorem arr1 (i : S16x3072.Idx) : (dat1 (F := Ideal) V c).arrAt 3 cfg1.N i = mod A W b (i 0).val (i 1).val := by
  refine (dat1 V c).arrAt_forall_of_covers 3 (fun i x => x = mod A W b (i 0).val (i 1).val) (by decide +kernel) (fun t hf y => ?_) i (Memref.isWhole_whole _)
  have e : k0_pay1 (F := Ideal) (iblk1 V c 0 t) (iblk1 V c 1 t) (iblk1 V c 2 t) y = mod A W b (y 0).val (1024 * t.val + (y 1).val) := by
    refine (congrArg (k0_pay1 (F := Ideal) (iblk1 V c 0 t) (iblk1 V c 1 t) (iblk1 V c 2 t)) (eq_ix2 (n0 := 16) (n1 := 1024) y)).trans ((pay _ _ _ (y 0) (y 1)).trans ?_)
    refine congrArg₂ (· + ·) (Finset.sum_congr rfl fun k _ => ?_) (blkb1 hb1 t (y 1))
    exact congrArg₂ (· * ·) (blkA1 hA t (y 0) k) (blkW1 hW1 t k (y 1))
  blk_simp
  rw [after1_3, out1_3_eq]
  refine e.trans ?_
  blk_simp [e1_3]
  rw [Nat.mul_comm t.val 1024]

end

section
open Cert.ModFwdRefIdeal.Read
variable (x2 : Vec Ideal S2x3072 .f32) (b : ℕ → ℕ → EReal) (hb : ∀ i : S2x3072.Idx, x2 i = b (i 0).val (i 1).val)

include hb in
/-- A layer's bias as a row: the kernel's host code and the reference cut it out the same way. -/
theorem row0 (i : S1x3072.Idx) : val_main_v5 (F := Ideal) x2 i = b 0 (i 1).val := by
  have h1 : (i 1).val < 3072 := (i 1).isLt
  rw [val_main_v5_apply, val_main_v4_apply, val_main_v3_apply, hb]
  show b 0 ((i 1).val % 3072) = _
  rw [Nat.mod_eq_of_lt h1]

include hb in
theorem row1 (i : S1x3072.Idx) : val_main_v13 (F := Ideal) x2 i = b 1 (i 1).val := by
  have h1 : (i 1).val < 3072 := (i 1).isLt
  rw [val_main_v13_apply, val_main_v12_apply, val_main_v11_apply, hb]
  show b 1 ((i 1).val % 3072) = _
  rw [Nat.mod_eq_of_lt h1]

variable (x0 : Vec Ideal S16x2048 .f32) (x1 : Vec Ideal S2x2048x3072 .f32) (A : ℕ → ℕ → EReal) (W : Fin 2 → ℕ → ℕ → EReal)
  (hA : ∀ i : S16x2048.Idx, x0 i = A (i 0).val (i 1).val)
  (hW : ∀ (l : Fin 2) (k : Fin 2048) (j : Fin 3072), x1 (ix3 l k j) = W l k.val j.val)

include hA hW hb in
theorem ref0 (i : S16x3072.Idx) : val_main_v7 (F := Ideal) x0 x1 x2 i = mod A (W 0) (b 0) (i 0).val (i 1).val := by
  have h1 : (i 1).val < 3072 := (i 1).isLt
  rw [val_main_v7_apply, val_main_v2_apply, val_main_v6_apply, row0 x2 b hb]
  refine congrArg (· + _) (Finset.sum_congr rfl fun k _ => congrArg₂ (· * ·) (hA _) ?_)
  rw [val_main_v1_apply, val_main_v0_apply]
  refine Eq.trans (congrArg x1 (funext fun a => Fin.ext ?_)) (hW 0 k (i 1))
  fin_cases a
  · rfl
  · show (k.val * 3072 + (i 1).val) / 3072 % 2048 = k.val
    omega
  · show (k.val * 3072 + (i 1).val) % 3072 = (i 1).val
    omega

include hA hW hb in
theorem ref1 (i : S16x3072.Idx) : val_main_v15 (F := Ideal) x0 x1 x2 i = mod A (W 1) (b 1) (i 0).val (i 1).val := by
  have h1 : (i 1).val < 3072 := (i 1).isLt
  rw [val_main_v15_apply, val_main_v10_apply, val_main_v14_apply, row1 x2 b hb]
  refine congrArg (· + _) (Finset.sum_congr rfl fun k _ => congrArg₂ (· * ·) (hA _) ?_)
  rw [val_main_v9_apply, val_main_v8_apply]
  refine Eq.trans (congrArg x1 (funext fun a => Fin.ext ?_)) (hW 1 k (i 1))
  fin_cases a
  · rfl
  · show (k.val * 3072 + (i 1).val) / 3072 % 2048 = k.val
    omega
  · show (k.val * 3072 + (i 1).val) % 3072 = (i 1).val
    omega

end

section
variable (m : (ℓ : Loc nD τ sig) → Buf (Elt Ideal) ℓ) (ρ : Dev nD → PrngReg) (c : Dev nD) (A b : ℕ → ℕ → EReal) (W : Fin 2 → ℕ → ℕ → EReal)
  (hA : ∀ i : S16x2048.Idx, m ((c : Thread nD τ).loc main_arg0) i = A (i 0).val (i 1).val)
  (hW : ∀ (l : Fin 2) (k : Fin 2048) (j : Fin 3072), m ((c : Thread nD τ).loc main_arg1) (ix3 l k j) = W l k.val j.val)
  (hb : ∀ i : S2x3072.Idx, m ((c : Thread nD τ).loc main_arg2) i = b (i 0).val (i 1).val)

theorem host_b0 : V1 (F := Ideal) m ρ c main_v2 = Cert.ModFwdRefIdeal.Read.val_main_v5 (F := Ideal) (m ((c : Thread nD τ).loc main_arg2)) := by
  unfold V1 W1
  after_results
  rfl

theorem host_b1 : V3 (F := Ideal) m ρ c main_v6 = Cert.ModFwdRefIdeal.Read.val_main_v13 (F := Ideal) (m ((c : Thread nD τ).loc main_arg2)) := by
  refine Eq.trans ?_ (congrArg (Cert.ModFwdRefIdeal.Read.val_main_v13 (F := Ideal)) (W2_args m ρ c main_arg2 (by decide)))
  unfold V3 W3
  after_results
  rfl

include hA hW hb in
theorem end0 (i : S16x3072.Idx) : W4 (F := Ideal) m ρ c (Proc.devRef .tc main_v3) i = mod A (W 0) (b 0) (i 0).val (i 1).val :=
  (congrFun ((W4_of m ρ c main_v3 (by decide +kernel)).trans ((W3_of m ρ c main_v3 (by decide)).trans (W2_arr m ρ c 3))) i).trans (arr0 (V := V1 m ρ)
    (fun i => (congrFun (W1_args m ρ c main_arg0 (by decide)) i).trans (hA i))
    (fun k j => (congrFun (W1_args m ρ c main_arg1 (by decide)) _).trans (hW 0 k j))
    (fun i => (congrFun (host_b0 m ρ c) i).trans (row0 _ b hb i)) i)

include hA hW hb in
theorem end1 (i : S16x3072.Idx) : W4 (F := Ideal) m ρ c (Proc.devRef .tc main_v7) i = mod A (W 1) (b 1) (i 0).val (i 1).val :=
  (congrFun (W4_arr m ρ c 3) i).trans (arr1 (V := V3 m ρ)
    (fun i => (congrFun (W3_args m ρ c main_arg0 (by decide)) i).trans (hA i))
    (fun k j => (congrFun (W3_args m ρ c main_arg1 (by decide)) _).trans (hW 1 k j))
    (fun i => (congrFun (host_b1 m ρ c) i).trans (row1 _ b hb i)) i)

end

theorem frame_ref : Cert.quiescent_ModFwdRefIdeal (hModFwdRefIdeal := Cert.ModFwdRefIdeal.Gen.facts) := fun m ρ _ =>
  (θ_run Cert.ModFwdRefIdeal.defs _ _).mono (fun r h => ⟨fun c => (h c).2.2, sem_eq_zero_of_no_sems (by decide) r.2⟩)
    (Cert.ModFwdRefIdeal.Value.run (F := Ideal) m ρ)

/-- The kernel's two products with their biases and the reference's are the same. -/
theorem algebraic : Cert.algebraic_ModFwdIdeal_ModFwdRefIdeal (hModFwdIdeal := Cert.ModFwdIdeal.Gen.facts) (hModFwdRefIdeal := Cert.ModFwdRefIdeal.Gen.facts) := by
  intro m ρ m' ρ' _ hagree
  choose A hA using fun c : Dev nD => total2 (M := 16) (K := 2048) (m ((c : Thread nD τ).loc main_arg0))
  choose W hW' using fun (c : Dev nD) (l : Fin 2) => total2 (M := 2048) (K := 3072) (fun i => m ((c : Thread nD τ).loc main_arg1) (ix3 l (i 0) (i 1)))
  choose b hb using fun c : Dev nD => total2 (M := 2) (K := 3072) (m ((c : Thread nD τ).loc main_arg2))
  have hW : ∀ (c : Dev nD) (l : Fin 2) (k : Fin 2048) (j : Fin 3072), m ((c : Thread nD τ).loc main_arg1) (ix3 l k j) = W c l k.val j.val :=
    fun c l k j => hW' c l (ix2 k j)
  refine ⟨fun c => fun i : S16x3072.Idx => (mod (A c) (W c 0) (b c 0) (i 0).val (i 1).val : EReal),
    fun c => fun i : S16x3072.Idx => (mod (A c) (W c 1) (b c 1) (i 0).val (i 1).val : EReal), ?_, ?_⟩
  · exact (θ_run defs _ _).mono (fun r h c => ⟨(h c).1.trans (funext (end0 m ρ c (A c) (b c) (W c) (hA c) (hW c) (hb c))),
      (h c).2.1.trans (funext (end1 m ρ c (A c) (b c) (W c) (hA c) (hW c) (hb c))), (h c).2.2⟩) (run_results (F := Ideal) m ρ)
  · refine (θ_run Cert.ModFwdRefIdeal.defs _ _).mono (fun r h c => ?_) (Cert.ModFwdRefIdeal.Value.run (F := Ideal) m' ρ')
    obtain ⟨h0, h1, ha⟩ := h c
    obtain ⟨a0, a1, a2⟩ := hagree c
    exact ⟨(h0.trans (Cert.ModFwdRefIdeal.Read.val_main_v7_eq _ _ _)).trans (funext fun i => ref0 _ (b c) (fun i => (congrFun a2 i).trans (hb c i)) _ _ (A c) (W c)
        (fun i => (congrFun a0 i).trans (hA c i)) (fun l k j => (congrFun a1 _).trans (hW c l k j)) i),
      (h1.trans (Cert.ModFwdRefIdeal.Read.val_main_v15_eq _ _ _)).trans (funext fun i => ref1 _ (b c) (fun i => (congrFun a2 i).trans (hb c i)) _ _ (A c) (W c)
        (fun i => (congrFun a0 i).trans (hA c i)) (fun l k j => (congrFun a1 _).trans (hW c l k j)) i), ha⟩

end Cert.ModFwdVal

end
-- ==== Proof.ModDwVal.lean ====
/- The gradient of the modulation's two weights: one call fills layer 0 of the array, the other adds layer 1 to it in place. As the
   kernel computes them and as the reference states them. -/
module

public import proofs.«01_k».proof.Defs
public import proofs.«01_k».proof.Proof.Mm
public import proofs.«01_k».proof.Proof.Gen.ModDwIdeal.Frame
public import proofs.«01_k».proof.Proof.Gen.ModDwRefIdeal.Run
public import proofs.«01_k».proof.Proof.Gen.ModDwRefIdeal.Read
public import Idealize.ShloMosaic.Lib.KernelVsHost
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.ModDwVal

open Cert.ModDwIdeal Cert.ModDwIdeal.Gen Cert.ModDwIdeal.Facts Cert.Mm

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the run ends with the result at the last boundary's contents and the arguments unchanged. -/
theorem run_results : θ_run defs (onTc (τ := τ) (main (F := F))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Run

open Idealize.ShloMosaic Idealize.ShloMosaic.TcCoe Idealize.SL.Sem Idealize.ShloMosaic.ValueIdx

section
variable {F : FTy → Type} [FloatOps F]

theorem out0_2_eq (x0 x1 : Vec F S16x1024 .f32) : out0_2 (F := F) x0 x1 = k0_pay1 x0 x1 := by
  unfold out0_2
  rw [View.canon_unit_zero (S := S1x1024x1024) hz3]
  simp only [View.ld_unit_zero (S := S16x1024) hz2]

theorem out1_2_eq (c : Dev nD) (i : grid1.Coords) (a3) (h3) (a4) (h4) (a6) (h6) (x0 x1) :
    out1_A_2 (F := F) c i a3 h3 a4 h4 a6 h6 x0 x1 = k1_pay1 x0 x1 := by
  unfold out1_A_2
  rw [View.read_writes_eq_canon _ _ _ (cover1_A_2 c i a3 h3 a4 h4 a6 h6 x0 x1)]
  unfold kernelRun1_A
  dsimp only
  sl_unfold_words
  rw [View.canon_unit_zero (S := S1x1024x1024) hz3]
  simp only [View.readAt_eq_ld, h3.read_unread, h4.read_unread, View.ld_unit_zero (S := S16x1024) hz2]

end

theorem e0_0 : ∀ t : Fin cfg0.N, win0_0.index t = ![0, t.val / 3] := (by decide +kernel : ∀ t : Fin grid0.N, win0_0.index t = ![0, t.val / 3])
theorem e0_1 : ∀ t : Fin cfg0.N, win0_1.index t = ![0, t.val % 3] := (by decide +kernel : ∀ t : Fin grid0.N, win0_1.index t = ![0, t.val % 3])
theorem e0_2 : ∀ t : Fin cfg0.N, win0_2.index t = ![0, t.val / 3, t.val % 3] :=
  (by decide +kernel : ∀ t : Fin grid0.N, win0_2.index t = ![0, t.val / 3, t.val % 3])
theorem e1_0 : ∀ t : Fin cfg1.N, win1_0.index t = ![0, t.val / 3] := (by decide +kernel : ∀ t : Fin grid1.N, win1_0.index t = ![0, t.val / 3])
theorem e1_1 : ∀ t : Fin cfg1.N, win1_1.index t = ![0, t.val % 3] := (by decide +kernel : ∀ t : Fin grid1.N, win1_1.index t = ![0, t.val % 3])
theorem e1_2 : ∀ t : Fin cfg1.N, win1_2.index t = ![1, t.val / 3, t.val % 3] :=
  (by decide +kernel : ∀ t : Fin grid1.N, win1_2.index t = ![1, t.val / 3, t.val % 3])

theorem pay0 (x y : Vec Ideal S16x1024 .f32) (i j : Fin 1024) :
    k0_pay1 (F := Ideal) x y (ix3 0 i j) = ∑ k : Fin 16, x (ix2 k i) * y (ix2 k j) := by
  unfold k0_pay1
  refine (shapeCast_ab_1ab_apply (a := 1024) (b := 1024) _ _ 0 i j).trans ?_
  exact tn dot_S16x1024_S16x1024_S1024x1024_0_0_1_1_n_n_wf _ rfl x y i j

theorem pay1 (x y : Vec Ideal S16x1024 .f32) : k1_pay1 (F := Ideal) x y = k0_pay1 (F := Ideal) x y := rfl

/-- The product's element: one term for each of the sixteen rows. -/
def prod (A B : ℕ → ℕ → EReal) (i j : ℕ) : EReal := ∑ k : Fin 16, A k i * B k j

section
variable {V : (c : Dev nD) → (b : Ref sig .tc) → Buf (Elt Ideal) ((c : Thread nD τ).loc b)} {c : Dev nD} {A B C : ℕ → ℕ → EReal}
  (hA : ∀ i : S16x2048.Idx, V c main_arg0 i = A (i 0).val (i 1).val)
  (hB : ∀ i : S16x3072.Idx, V c main_arg1 i = B (i 0).val (i 1).val)
  (hC : ∀ i : S16x3072.Idx, V c main_arg2 i = C (i 0).val (i 1).val)

include hA in
theorem blkA0 (t : Fin cfg0.N) (k : Fin 16) (i : Fin 1024) : iblk0 (F := Ideal) V c 0 t (ix2 k i) = A k.val (1024 * (t.val / 3) + i.val) := by
  blk_simp [iblk0, e0_0]
  refine (hA _).trans ?_
  congr 1
  · blk_simp [e0_0]
  · blk_simp [e0_0]
    show t.val / 3 * 1024 + i.val = _
    omega

include hB in
theorem blkB (t : Fin cfg0.N) (k : Fin 16) (j : Fin 1024) : iblk0 (F := Ideal) V c 1 t (ix2 k j) = B k.val (1024 * (t.val % 3) + j.val) := by
  blk_simp [iblk0, e0_1]
  refine (hB _).trans ?_
  congr 1
  · blk_simp [e0_1]
  · blk_simp [e0_1]
    show t.val % 3 * 1024 + j.val = _
    omega

include hA in
theorem blkA1 (t : Fin cfg1.N) (k : Fin 16) (i : Fin 1024) : iblk1 (F := Ideal) V c 0 t (ix2 k i) = A k.val (1024 * (t.val / 3) + i.val) := by
  blk_simp [iblk1, e1_0]
  refine (hA _).trans ?_
  congr 1
  · blk_simp [e1_0]
  · blk_simp [e1_0]
    show t.val / 3 * 1024 + i.val = _
    omega

include hC in
theorem blkC (t : Fin cfg1.N) (k : Fin 16) (j : Fin 1024) : iblk1 (F := Ideal) V c 1 t (ix2 k j) = C k.val (1024 * (t.val % 3) + j.val) := by
  blk_simp [iblk1, e1_1]
  refine (hC _).trans ?_
  congr 1
  · blk_simp [e1_1]
  · blk_simp [e1_1]
    show t.val % 3 * 1024 + j.val = _
    omega

include hA hB in
/-- The first call's array, on layer 0. -/
theorem arr0 (i : S2x2048x3072.Idx) : (i 0).val = 0 → (dat0 (F := Ideal) V c).arrAt 2 cfg0.N i = prod A B (i 1).val (i 2).val := by
  refine (dat0 V c).arrAt_forall_of_coversWhere 2 (fun i x => (i 0).val = 0 → x = prod A B (i 1).val (i 2).val)
    (fun β => β (0 : Fin 3) = 0) (by decide +kernel) (fun t hf y => ?_) (fun j hj h => ?_) i (Memref.isWhole_whole _)
  · have h0 : (y 0).val < 1 := (y 0).isLt
    have e : k0_pay1 (F := Ideal) (iblk0 V c 0 t) (iblk0 V c 1 t) y = prod A B (1024 * (t.val / 3) + (y 1).val) (1024 * (t.val % 3) + (y 2).val) := by
      have ey : y = ix3 (n0 := 1) (n1 := 1024) (n2 := 1024) 0 (y 1) (y 2) :=
        (eq_ix3 (n0 := 1) (n1 := 1024) (n2 := 1024) y).trans (congrArg (fun a => ix3 (n0 := 1) (n1 := 1024) (n2 := 1024) a (y 1) (y 2)) (Fin.ext (Nat.lt_one_iff.mp h0)))
      refine (congrArg (k0_pay1 (F := Ideal) (iblk0 V c 0 t) (iblk0 V c 1 t)) ey).trans ((pay0 _ _ (y 1) (y 2)).trans (Finset.sum_congr rfl fun k _ => ?_))
      exact congrArg₂ (· * ·) (blkA0 hA t k (y 1)) (blkB hB t k (y 2))
    blk_simp
    rw [after0_2, out0_2_eq]
    intro _
    refine e.trans ?_
    blk_simp [e0_2]
    rw [Nat.mul_comm (t.val / 3) 1024, Nat.mul_comm (t.val % 3) 1024]
  · refine absurd ?_ hj
    show (j (0 : Fin 3)).val / 1 = 0
    rw [Nat.div_one]
    exact h

include hA hC in
/-- The second call's array: layer 1 its product, layer 0 what stood there. -/
theorem arr1 (h0 : ∀ i : S2x2048x3072.Idx, (i 0).val = 0 → V c main_v1 i = prod A B (i 1).val (i 2).val) (i : S2x2048x3072.Idx) :
    (dat1 (F := Ideal) V c).arrAt 2 cfg1.N i = if (i 0).val = 0 then prod A B (i 1).val (i 2).val else prod A C (i 1).val (i 2).val := by
  refine (dat1 V c).arrAt_forall_of_coversWhere 2 (fun i x => x = if (i 0).val = 0 then prod A B (i 1).val (i 2).val else prod A C (i 1).val (i 2).val)
    (fun β => β (0 : Fin 3) = 1) (by decide +kernel) (fun t hf y => ?_) (fun j hj => ?_) i (Memref.isWhole_whole _)
  · have h0 : (y 0).val < 1 := (y 0).isLt
    have e : k1_pay1 (F := Ideal) (iblk1 V c 0 t) (iblk1 V c 1 t) y = prod A C (1024 * (t.val / 3) + (y 1).val) (1024 * (t.val % 3) + (y 2).val) := by
      have ey : y = ix3 (n0 := 1) (n1 := 1024) (n2 := 1024) 0 (y 1) (y 2) :=
        (eq_ix3 (n0 := 1) (n1 := 1024) (n2 := 1024) y).trans (congrArg (fun a => ix3 (n0 := 1) (n1 := 1024) (n2 := 1024) a (y 1) (y 2)) (Fin.ext (Nat.lt_one_iff.mp h0)))
      refine (congrArg (k1_pay1 (F := Ideal) (iblk1 V c 0 t) (iblk1 V c 1 t)) ey).trans ((pay0 _ _ (y 1) (y 2)).trans (Finset.sum_congr rfl fun k _ => ?_))
      exact congrArg₂ (· * ·) (blkA1 hA t k (y 1)) (blkC hC t k (y 2))
    blk_simp
    rw [after1_2]
    unfold outsAt1
    rw [out1_2_eq]
    refine e.trans ?_
    rw [if_neg (by blk_simp [e1_2]; exact one_ne_zero)]
    blk_simp [e1_2]
    rw [Nat.mul_comm (t.val / 3) 1024, Nat.mul_comm (t.val % 3) 1024]
  · have hl : (j (0 : Fin 3)).val < 2 := (j (0 : Fin 3)).isLt
    have hz : (j (0 : Fin 3)).val = 0 := by
      have hj' : ¬ (j (0 : Fin 3)).val / 1 = 1 := hj
      omega
    rw [A_eq1]
    exact (h0 j hz).trans (if_pos hz).symm

end

section
variable (m : (ℓ : Loc nD τ sig) → Buf (Elt Ideal) ℓ) (ρ : Dev nD → PrngReg) (c : Dev nD) (A B C : ℕ → ℕ → EReal)
  (hA : ∀ i : S16x2048.Idx, m ((c : Thread nD τ).loc main_arg0) i = A (i 0).val (i 1).val)
  (hB : ∀ i : S16x3072.Idx, m ((c : Thread nD τ).loc main_arg1) i = B (i 0).val (i 1).val)
  (hC : ∀ i : S16x3072.Idx, m ((c : Thread nD τ).loc main_arg2) i = C (i 0).val (i 1).val)

/-- The host hands the second call the first one's array. -/
theorem host_v1 : V2 (F := Ideal) m ρ c main_v1 = V1 (F := Ideal) m ρ c main_v0 := by
  unfold V2 W2
  after_results
  rfl

include hA hB hC in
theorem end_dw (i : S2x2048x3072.Idx) : W3 (F := Ideal) m ρ c (Proc.devRef .tc main_v1) i
    = if (i 0).val = 0 then prod A B (i 1).val (i 2).val else prod A C (i 1).val (i 2).val :=
  (congrFun (W3_arr m ρ c 2) i).trans (arr1 (V := V2 m ρ)
    (fun i => (congrFun (W2_args m ρ c main_arg0 (by decide)) i).trans (hA i))
    (fun i => (congrFun (W2_args m ρ c main_arg2 (by decide)) i).trans (hC i))
    (fun i h => (congrFun ((host_v1 m ρ c).trans (W1_arr m ρ c 2)) i).trans (arr0 (V := V0 m ρ) hA hB i h)) i)

end

section
open Cert.ModDwRefIdeal.Read
variable (x0 : Vec Ideal S16x2048 .f32) (x1 x2 : Vec Ideal S16x3072 .f32) (A B C : ℕ → ℕ → EReal)
  (hA : ∀ i : S16x2048.Idx, x0 i = A (i 0).val (i 1).val)
  (hB : ∀ i : S16x3072.Idx, x1 i = B (i 0).val (i 1).val)
  (hC : ∀ i : S16x3072.Idx, x2 i = C (i 0).val (i 1).val)

include hA hB in
theorem ref_first (k : Cert.ModDwRefIdeal.S1x2048x3072.Idx) : val_main_v13 (F := Ideal) x0 x1 k = prod A B (k 1).val (k 2).val := by
  rw [val_main_v13_apply, val_main_v12_apply, val_main_v11_apply]
  exact Finset.sum_congr rfl fun _ _ => (congrArg₂ (· * ·) (hB _) (hA _)).trans (mul_comm _ _)

include hA hC in
theorem ref_second (k : Cert.ModDwRefIdeal.S1x2048x3072.Idx) : val_main_v9 (F := Ideal) x0 x2 k = prod A C (k 1).val (k 2).val := by
  rw [val_main_v9_apply, val_main_v8_apply, val_main_v7_apply]
  exact Finset.sum_congr rfl fun _ _ => (congrArg₂ (· * ·) (hC _) (hA _)).trans (mul_comm _ _)

include hA hB hC in
theorem ref_val (i : S2x2048x3072.Idx) : val_main_v15 (F := Ideal) x0 x1 x2 i
    = if (i 0).val = 0 then prod A B (i 1).val (i 2).val else prod A C (i 1).val (i 2).val := by
  have hl : (i (0 : Fin 3)).val < 2 := (i (0 : Fin 3)).isLt
  rw [val_main_v15_apply]
  unfold val_main_v10 val_main_v14
  by_cases h : (i (0 : Fin 3)).val = 0
  · refine (congrArg₂ (· + ·) (pad_apply_of_not_inside _ _ _ _ _ _ _ i (0 : Fin 3) (fun hh => ?_))
      (pad_apply_of_inside _ _ _ _ _ _ _ i (ix3 (n0 := 1) (n1 := 2048) (n2 := 3072) 0 (i 1) (i 2)) (fun a => ?_))).trans ?_
    · have h1 : 1 ≤ (i (0 : Fin 3)).val := hh.1
      omega
    · fin_cases a
      · exact h
      · show (i 1).val = 0 + (i 1).val * (0 + 1)
        omega
      · show (i 2).val = 0 + (i 2).val * (0 + 1)
        omega
    · rw [if_pos h, ref_first x0 x1 A B hA hB]
      exact (congrArg (· + _) word_zero).trans (zero_add _)
  · refine (congrArg₂ (· + ·) (pad_apply_of_inside _ _ _ _ _ _ _ i (ix3 (n0 := 1) (n1 := 2048) (n2 := 3072) 0 (i 1) (i 2)) (fun a => ?_))
      (pad_apply_of_not_inside _ _ _ _ _ _ _ i (0 : Fin 3) (fun hh => ?_))).trans ?_
    · fin_cases a
      · show (i (0 : Fin 3)).val = 1 + 0 * (0 + 1)
        omega
      · show (i 1).val = 0 + (i 1).val * (0 + 1)
        omega
      · show (i 2).val = 0 + (i 2).val * (0 + 1)
        omega
    · have h1 : ((i (0 : Fin 3)).val - 0) / (0 + 1) < 1 := hh.2.2
      omega
    · rw [if_neg h, ref_second x0 x2 A C hA hC]
      exact (congrArg (_ + ·) word_zero).trans (add_zero _)

end

theorem frame_ref : Cert.quiescent_ModDwRefIdeal (hModDwRefIdeal := Cert.ModDwRefIdeal.Gen.facts) := fun m ρ _ =>
  (θ_run Cert.ModDwRefIdeal.defs _ _).mono (fun r h => ⟨fun c => (h c).2, sem_eq_zero_of_no_sems (by decide) r.2⟩)
    (Cert.ModDwRefIdeal.Value.run (F := Ideal) m ρ)

/-- The kernel's two gradients and the reference's are the same sums. -/
theorem algebraic : Cert.algebraic_ModDwIdeal_ModDwRefIdeal (hModDwIdeal := Cert.ModDwIdeal.Gen.facts) (hModDwRefIdeal := Cert.ModDwRefIdeal.Gen.facts) := by
  intro m ρ m' ρ' _ hagree
  choose A hA using fun c : Dev nD => total2 (M := 16) (K := 2048) (m ((c : Thread nD τ).loc main_arg0))
  choose B hB using fun c : Dev nD => total2 (M := 16) (K := 3072) (m ((c : Thread nD τ).loc main_arg1))
  choose C hC using fun c : Dev nD => total2 (M := 16) (K := 3072) (m ((c : Thread nD τ).loc main_arg2))
  refine ⟨fun c => fun i : S2x2048x3072.Idx => (if (i 0).val = 0 then prod (A c) (B c) (i 1).val (i 2).val else prod (A c) (C c) (i 1).val (i 2).val : EReal), ?_, ?_⟩
  · exact (θ_run defs _ _).mono (fun r h c => ⟨(h c).1.trans (funext (end_dw m ρ c (A c) (B c) (C c) (hA c) (hB c) (hC c))), (h c).2⟩)
      (run_results (F := Ideal) m ρ)
  · refine (θ_run Cert.ModDwRefIdeal.defs _ _).mono (fun r h c => ?_) (Cert.ModDwRefIdeal.Value.run (F := Ideal) m' ρ')
    obtain ⟨h0, ha⟩ := h c
    obtain ⟨a0, a1, a2⟩ := hagree c
    exact ⟨(h0.trans (Cert.ModDwRefIdeal.Read.val_main_v15_eq _ _ _)).trans (funext fun i => ref_val _ _ _ (A c) (B c) (C c)
      (fun i => (congrFun a0 i).trans (hA c i)) (fun i => (congrFun a1 i).trans (hB c i)) (fun i => (congrFun a2 i).trans (hC c i)) i), ha⟩

end Cert.ModDwVal

end
-- ==== Proof.ModDsVal.lean ====
/- The gradient of the modulation's input rows, accumulated by the kernel over two parts of the columns, as the kernel computes it and
   as the reference states it. -/
module

public import proofs.«01_k».proof.Defs
public import proofs.«01_k».proof.Proof.Mm
public import proofs.«01_k».proof.Proof.Gen.ModDsIdeal.Value
public import proofs.«01_k».proof.Proof.Gen.ModDsRefIdeal.Run
public import proofs.«01_k».proof.Proof.Gen.ModDsRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ModDsVal

open Cert.ModDsIdeal Cert.ModDsIdeal.Gen Cert.ModDsIdeal.Facts Cert.Mm

section
variable {F : FTy → Type} [FloatOps F]

theorem soutA (c : Dev nD) (i : grid0.Coords) (a3) (h3) (a4) (h4) (a5) (h5) (a6) (h6) (hc0) (hc1) (x0 x1) :
    sout0_A_0 (F := F) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S16x1024) hz2]
  simp only [View.readCov_cons_toLoadRect, View.readAt_eq_ld, h3.read_unread, h4.read_unread, View.readCov_unit_zero (S := S16x1024) _ hz2, View.ld_unit_zero (S := S16x1536) hz2, View.ld_unit_zero (S := S1x1024x1536) hz3]

theorem soutB (c : Dev nD) (i : grid0.Coords) (a3) (h3) (a4) (h4) (a5) (h5) (a6) (h6) (hc0) (hc1) (x0 x1 xs) :
    sout0_B_0 (F := F) c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S16x1024) hz2]
  simp only [View.readAt_eq_ld, h3.read_unread, h4.read_unread, h6.read_unread, View.ld_unit_zero (S := S16x1024) hz2, View.ld_unit_zero (S := S16x1536) hz2, View.ld_unit_zero (S := S1x1024x1536) hz3]

theorem outB (c : Dev nD) (i : grid0.Coords) (a3) (h3) (a4) (h4) (a5) (h5) (a6) (h6) (hc0) (hc1) (x0 x1 xs) :
    out0_B_2 (F := F) c i a3 h3 a4 h4 a5 h5 a6 h6 hc0 hc1 x0 x1 xs = k0_pay2 xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S16x1024) hz2]
  simp only [View.readAt_eq_ld, h3.read_unread, h4.read_unread, h6.read_unread, View.readCov_unit_zero (S := S16x1024) _ hz2, View.ld_unit_zero (S := S16x1024) hz2, View.ld_unit_zero (S := S16x1536) hz2, View.ld_unit_zero (S := S1x1024x1536) hz3]

end

theorem e0_0 : ∀ t : Fin cfg0.N, win0_0.index t = ![0, t.val % 2] := (by decide +kernel : ∀ t : Fin grid0.N, win0_0.index t = ![0, t.val % 2])
theorem e0_1 : ∀ t : Fin cfg0.N, win0_1.index t = ![0, t.val / 2, t.val % 2] :=
  (by decide +kernel : ∀ t : Fin grid0.N, win0_1.index t = ![0, t.val / 2, t.val % 2])
theorem e0_2 : ∀ t : Fin cfg0.N, win0_2.index t = ![0, t.val / 2] := (by decide +kernel : ∀ t : Fin grid0.N, win0_2.index t = ![0, t.val / 2])

theorem pay1 (y) : k0_pay1 (F := Ideal) y = 0 := by
  unfold k0_pay1
  rw [shapeCast_self]
  exact word_zero

theorem pay2 (s : Vec Ideal S16x1024 .f32) (x : Vec Ideal S16x1536 .f32) (y : Vec Ideal S1x1024x1536 .f32) (i : Fin 16) (j : Fin 1024) :
    k0_pay2 (F := Ideal) s x y (ix2 i j) = s (ix2 i j) + ∑ k : Fin 1536, x (ix2 i k) * y (ix3 0 j k) := by
  unfold k0_pay2
  rw [shapeCast_self]
  refine congrArg (s (ix2 i j) + ·) ((nt _ rfl x _ i j).trans (Finset.sum_congr rfl fun k _ => congrArg (x (ix2 i k) * ·) ?_))
  exact shapeCast_1ab_ab_apply (a := 1024) (b := 1536) y _ j k

section
variable (m : (ℓ : Loc nD τ sig) → Buf (Elt Ideal) ℓ) (c : Dev nD) (A B : ℕ → ℕ → EReal)
  (hA : ∀ i : S16x3072.Idx, m ((c : Thread nD τ).loc main_arg0) i = A (i 0).val (i 1).val)
  (hB : ∀ (r : Fin 2048) (k : Fin 3072), m ((c : Thread nD τ).loc main_arg1) (ix3 (n0 := 2) 0 r k) = B r.val k.val)

include hA in
theorem blkA (t : Fin cfg0.N) (i : Fin 16) (k : Fin 1536) :
    iblk (F := Ideal) m c 0 t (ix2 i k) = A i.val (1536 * (t.val % 2) + k.val) := by
  blk_simp [iblk, e0_0]
  refine (hA _).trans ?_
  congr 1
  · blk_simp [e0_0]
  · blk_simp [e0_0]
    show t.val % 2 * 1536 + k.val = _
    omega

include hB in
theorem blkB (t : Fin cfg0.N) (j : Fin 1024) (k : Fin 1536) :
    iblk (F := Ideal) m c 1 t (ix3 0 j k) = B (1024 * (t.val / 2) + j.val) (1536 * (t.val % 2) + k.val) := by
  have ht : t.val < 4 := lt_of_lt_of_eq t.isLt (by decide)
  blk_simp [iblk, e0_1]
  refine Eq.trans (congrArg (m ((c : Thread nD τ).loc main_arg1)) (funext fun a => Fin.ext ?_)) (hB ⟨1024 * (t.val / 2) + j.val, by omega⟩ ⟨1536 * (t.val % 2) + k.val, by omega⟩)
  fin_cases a
  · blk_simp [e0_1]
    rfl
  · blk_simp [e0_1]
    show t.val / 2 * 1024 + j.val = 1024 * (t.val / 2) + j.val
    omega
  · blk_simp [e0_1]
    show t.val % 2 * 1536 + k.val = 1536 * (t.val % 2) + k.val
    omega

/-- The product's term number `k` at an element of the block of run `r`. -/
def term (r : ℕ) (x : Fin 16 × Fin 1024) (k : ℕ) : EReal := A x.1.val k * B (1024 * r + x.2.val) k

include hA hB in
theorem run_sum (t : Fin cfg0.N) (s : Vec Ideal S16x1024 .f32) (x : Fin 16 × Fin 1024) :
    k0_pay2 (F := Ideal) s (iblk m c 0 t) (iblk m c 1 t) (ix2 x.1 x.2)
      = s (ix2 x.1 x.2) + ∑ k : Fin 1536, term A B (t.val / 2) x (1536 * (t.val % 2) + k) := by
  refine (pay2 _ _ _ _ _).trans (congrArg (s (ix2 x.1 x.2) + ·) (Finset.sum_congr rfl fun k _ => ?_))
  rw [blkA m c A hA, blkB m c B hB]
  rfl

include hA hB in
theorem scr (n : ℕ) (hn : n < cfg0.N) (x : Fin 16 × Fin 1024) :
    (outsAt0 (F := Ideal) m c n hn).2 (ix2 x.1 x.2) = ∑ k ∈ Finset.range (1536 * (n % 2 + 1)), term A B (n / 2) x k := by
  refine acc_inv 2 1536 (by norm_num) (fun n h x => (outsAt0 (F := Ideal) m c n h).2 (ix2 x.1 x.2)) (term A B) (fun n h x hm => ?_) (fun n h x hm => ?_) n hn x
  · rw [outsAt0_A m c ⟨n, h⟩ hm (by dsimp only; omega)]
    dsimp only
    rw [soutA]
    refine (run_sum m c A B hA hB ⟨n, h⟩ _ x).trans ?_
    rw [pay1, zero_add]
  · rw [outsAt0_B m c ⟨n, h⟩ hm (by dsimp only; omega)]
    dsimp only
    rw [soutB]
    exact run_sum m c A B hA hB ⟨n, h⟩ _ x

theorem out_scr (t : Fin cfg0.N) (h3 : t.val % 2 = 1) : (outsAt0 (F := Ideal) m c t.val t.isLt).1 = (outsAt0 (F := Ideal) m c t.val t.isLt).2 := by
  rw [outsAt0_B m c t (by omega) h3]
  dsimp only
  rw [outB, soutB]

include hA hB in
theorem arr (i : S16x2048.Idx) : (dats (F := Ideal) m 0 c).arrAt 2 cfg0.N i = ∑ k ∈ Finset.range 3072, A (i 0).val k * B (i 1).val k := by
  refine (dats m 0 c).arrAt_forall_of_covers 2 (fun i x => x = ∑ k ∈ Finset.range 3072, A (i 0).val k * B (i 1).val k) (by decide +kernel) (fun t hf y => ?_) i (Memref.isWhole_whole _)
  have h3 := (flush0_2 t).mp hf
  blk_simp
  rw [after0_2, out_scr m c t h3]
  refine (congrArg (outsAt0 (F := Ideal) m c t.val t.isLt).2 (eq_ix2 (n0 := 16) (n1 := 1024) y)).trans ((scr m c A B hA hB t.val t.isLt (y 0, y 1)).trans ?_)
  unfold term
  blk_simp [e0_2]
  rw [h3, Nat.mul_comm (t.val / 2) 1024]

end

theorem ref_val (x0 x1) (A B : ℕ → ℕ → EReal) (hA : ∀ i : S16x3072.Idx, x0 i = A (i 0).val (i 1).val)
    (hB : ∀ (r : Fin 2048) (k : Fin 3072), x1 (ix3 (n0 := 2) 0 r k) = B r.val k.val) (i : S16x2048.Idx) :
    Cert.ModDsRefIdeal.Read.val_main_v4 (F := Ideal) x0 x1 i = ∑ k ∈ Finset.range 3072, A (i 0).val k * B (i 1).val k := by
  rw [Cert.ModDsRefIdeal.Read.val_main_v4_apply, ← Fin.sum_univ_eq_sum_range (fun k => A (i 0).val k * B (i 1).val k)]
  refine Finset.sum_congr rfl fun k _ => congrArg₂ (· * ·) (hA _) ?_
  rw [Cert.ModDsRefIdeal.Read.val_main_v2_apply, Cert.ModDsRefIdeal.Read.val_main_v1_apply]
  have h1 : (i 1).val < 2048 := (i 1).isLt
  refine Eq.trans (congrArg x1 (funext fun a => Fin.ext ?_)) (hB (i 1) k)
  fin_cases a
  · rfl
  · show ((i 1).val * 3072 + k.val) / 3072 % 2048 = (i 1).val
    omega
  · show ((i 1).val * 3072 + k.val) % 3072 = k.val
    omega

theorem frame_ref : Cert.quiescent_ModDsRefIdeal (hModDsRefIdeal := Cert.ModDsRefIdeal.Gen.facts) := fun m ρ _ =>
  (θ_run Cert.ModDsRefIdeal.defs _ _).mono (fun r h => ⟨fun c => (h c).2, sem_eq_zero_of_no_sems (by decide) r.2⟩)
    (Cert.ModDsRefIdeal.Value.run (F := Ideal) m ρ)

/-- The kernel's gradient and the reference's are the same sums. -/
theorem algebraic : Cert.algebraic_ModDsIdeal_ModDsRefIdeal (hModDsIdeal := Cert.ModDsIdeal.Gen.facts) (hModDsRefIdeal := Cert.ModDsRefIdeal.Gen.facts) := by
  intro m ρ m' ρ' _ hagree
  choose A hA using fun c : Dev nD => total2 (M := 16) (K := 3072) (m ((c : Thread nD τ).loc main_arg0))
  choose B hB' using fun c : Dev nD => total2 (M := 2048) (K := 3072) (fun i => m ((c : Thread nD τ).loc main_arg1) (ix3 (n0 := 2) 0 (i 0) (i 1)))
  have hB : ∀ (c : Dev nD) (r : Fin 2048) (k : Fin 3072), m ((c : Thread nD τ).loc main_arg1) (ix3 (n0 := 2) 0 r k) = B c r.val k.val :=
    fun c r k => hB' c (ix2 r k)
  refine ⟨fun c => fun i : S16x2048.Idx => (∑ k ∈ Finset.range 3072, A c (i 0).val k * B c (i 1).val k : EReal), ?_, ?_⟩
  · exact (θ_run defs _ _).mono (fun r h c => ⟨(h c).1.trans (funext (arr m c (A c) (B c) (hA c) (hB c))), (h c).2⟩)
      (Cert.ModDsIdeal.Value.run_blocks (F := Ideal) m ρ)
  · refine (θ_run Cert.ModDsRefIdeal.defs _ _).mono (fun r h c => ?_) (Cert.ModDsRefIdeal.Value.run (F := Ideal) m' ρ')
    obtain ⟨h0, ha⟩ := h c
    obtain ⟨a0, a1⟩ := hagree c
    exact ⟨(h0.trans (Cert.ModDsRefIdeal.Read.val_main_v4_eq _ _)).trans (funext fun i => ref_val _ _ (A c) (B c)
      (fun i => (congrFun a0 i).trans (hA c i)) (fun r k => (congrFun a1 _).trans (hB c r k)) i), ha⟩

end Cert.ModDsVal

end
-- ==== Proof.SmallSumsVal.lean ====
/- The loss and the small weights' gradients summed over the devices, as the kernel computes them and as the reference states them. -/
module

public import proofs.«01_k».proof.Defs
public import proofs.«01_k».proof.Proof.Mm
public import proofs.«01_k».proof.Proof.Gen.SmallSumsIdeal.Frame
public import proofs.«01_k».proof.Proof.Gen.SmallSumsRefIdeal.Run
public import proofs.«01_k».proof.Proof.Gen.SmallSumsRefIdeal.Read
public import Idealize.ShloMosaic.Lib.ValueLayout
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.SmallSumsVal

open Cert.SmallSumsIdeal Cert.SmallSumsIdeal.Gen Cert.SmallSumsIdeal.Facts Cert.Mm
open Idealize.ShloMosaic Idealize.ShloMosaic.TcCoe Idealize.SL.Sem Idealize.ShloMosaic.ValueIdx

theorem e0 : ∀ t : Fin cfg0.N, win0_0.index t = ![0, t.val, 0] := (by decide +kernel : ∀ t : Fin grid0.N, win0_0.index t = ![0, t.val, 0])
theorem e1 : ∀ t : Fin cfg0.N, win0_1.index t = ![t.val, 0] := (by decide +kernel : ∀ t : Fin grid0.N, win0_1.index t = ![t.val, 0])

/-- What the body leaves: the sum of the eight parts. -/
theorem out (x : Vec Ideal S8x16x1024 .f32) (i : Fin 16) (j : Fin 1024) :
    out0_1 (F := Ideal) x (ix2 i j) = ∑ k : Fin 8, x (ix3 k i j) := by
  have part (y : Vec Ideal S1x16x1024 .f32) : shapeCast S16x1024 y shapeCasts_S1x16x1024_S16x1024 (ix2 i j) = y (ix3 0 i j) :=
    shapeCast_1ab_ab_apply (a := 16) (b := 1024) y _ i j
  unfold out0_1
  rw [View.canon_unit_zero (S := S16x1024) hz2, Fin.sum_univ_eight]
  unfold k0_pay1
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    refine (part _).trans ?_ <;> refine congrArg x (funext fun a => Fin.ext ?_) <;> fin_cases a <;> first | rfl | exact (Nat.zero_add _).trans (Nat.one_mul _)

section
variable (m : (ℓ : Loc nD τ sig) → Buf (Elt Ideal) ℓ) (c : Dev nD)

/-- A point's block of the argument: its rows of every device's part. -/
theorem blk (t : Fin cfg0.N) (k : Fin 8) (i : Fin 16) (j : Fin 1024) (h : 16 * t.val + i.val < 80) :
    iblk (F := Ideal) m c 0 t (ix3 k i j) = m ((c : Thread nD τ).loc main_arg0) (ix3 (n1 := 80) k ⟨16 * t.val + i.val, h⟩ j) := by
  blk_simp [iblk, e0]
  refine congrArg (m ((c : Thread nD τ).loc main_arg0)) (funext fun a => Fin.ext ?_)
  fin_cases a
  · blk_simp [e0]
  · blk_simp [e0]
    show t.val * 16 + i.val = 16 * t.val + i.val
    omega
  · blk_simp [e0]

/-- The region's array: the sum over the devices. -/
theorem arr : (dats m 0 c).arrAt 1 cfg0.N = Cert.SmallSumsRefIdeal.Read.val_main_v0 (F := Ideal) (m ((c : Thread nD τ).loc main_arg0)) := by
  refine funext fun i => (dats m 0 c).arrAt_forall_of_covers 1 (fun i x => x = Cert.SmallSumsRefIdeal.Read.val_main_v0 (F := Ideal) (m ((c : Thread nD τ).loc main_arg0)) i)
    (by decide +kernel) (fun t hf y => ?_) i (Memref.isWhole_whole _)
  have ht : t.val < 5 := lt_of_lt_of_eq t.isLt (by decide)
  have hy : (y 0).val < 16 := (y 0).isLt
  have hr : 16 * t.val + (y 0).val < 80 := by omega
  have e : out0_1 (F := Ideal) (iblk m c 0 t) y
      = Cert.SmallSumsRefIdeal.Read.val_main_v0 (F := Ideal) (m ((c : Thread nD τ).loc main_arg0)) (ix2 (n0 := 80) (n1 := 1024) ⟨16 * t.val + (y 0).val, hr⟩ (y 1)) := by
    refine (congrArg (out0_1 (F := Ideal) (iblk m c 0 t)) (eq_ix2 (n0 := 16) (n1 := 1024) y)).trans ((out _ (y 0) (y 1)).trans ?_)
    rw [Cert.SmallSumsRefIdeal.Read.val_main_v0_apply]
    refine Eq.trans (Finset.sum_congr rfl fun k _ => ?_) ((congrArg (· + _) Ideal.ofBits_zero_f32).trans (zero_add _)).symm
    refine (blk m c t k (y 0) (y 1) hr).trans (congrArg (m ((c : Thread nD τ).loc main_arg0)) (funext fun a => Fin.ext ?_))
    fin_cases a <;> rfl
  blk_simp
  rw [after0_1]
  refine e.trans (congrArg (Cert.SmallSumsRefIdeal.Read.val_main_v0 (F := Ideal) (m ((c : Thread nD τ).loc main_arg0))) (funext fun a => Fin.ext ?_))
  fin_cases a
  · blk_simp [e1]
    show 16 * t.val + (y 0).val = t.val * 16 + (y 0).val
    omega
  · blk_simp [e1]
    rfl

end

section
variable (W : Valuation τ sig (Elt Ideal)) (x : Vec Ideal S8x80x1024 .f32)
  (h : W (Proc.devRef .tc main_v0) = Cert.SmallSumsRefIdeal.Read.val_main_v0 (F := Ideal) x)

include h in
/-- Each buffer the host code ends with, from the region's array: the reference's result. -/
theorem host :
    StableHlo.after hostOps1 W (Proc.devRef .tc main_v34) = Cert.SmallSumsRefIdeal.Read.val_main_v10 (F := Ideal) x
    ∧ StableHlo.after hostOps1 W (Proc.devRef .tc main_v41) = Cert.SmallSumsRefIdeal.Read.val_main_v17 (F := Ideal) x
    ∧ StableHlo.after hostOps1 W (Proc.devRef .tc main_v9) = Cert.SmallSumsRefIdeal.Read.val_main_v19 (F := Ideal) x
    ∧ StableHlo.after hostOps1 W (Proc.devRef .tc main_v11) = Cert.SmallSumsRefIdeal.Read.val_main_v21 (F := Ideal) x
    ∧ StableHlo.after hostOps1 W (Proc.devRef .tc main_v13) = Cert.SmallSumsRefIdeal.Read.val_main_v23 (F := Ideal) x
    ∧ StableHlo.after hostOps1 W (Proc.devRef .tc main_v42) = Cert.SmallSumsRefIdeal.Read.val_main_v26 (F := Ideal) x
    ∧ StableHlo.after hostOps1 W (Proc.devRef .tc main_v17) = Cert.SmallSumsRefIdeal.Read.val_main_v28 (F := Ideal) x
    ∧ StableHlo.after hostOps1 W (Proc.devRef .tc main_v43) = Cert.SmallSumsRefIdeal.Read.val_main_v31 (F := Ideal) x
    ∧ StableHlo.after hostOps1 W (Proc.devRef .tc main_v44) = Cert.SmallSumsRefIdeal.Read.val_main_v34 (F := Ideal) x
    ∧ StableHlo.after hostOps1 W (Proc.devRef .tc main_v45) = Cert.SmallSumsRefIdeal.Read.val_main_v37 (F := Ideal) x
    ∧ StableHlo.after hostOps1 W (Proc.devRef .tc main_v25) = Cert.SmallSumsRefIdeal.Read.val_main_v39 (F := Ideal) x
    ∧ StableHlo.after hostOps1 W (Proc.devRef .tc main_v27) = Cert.SmallSumsRefIdeal.Read.val_main_v41 (F := Ideal) x
    ∧ StableHlo.after hostOps1 W (Proc.devRef .tc main_v29) = Cert.SmallSumsRefIdeal.Read.val_main_v43 (F := Ideal) x
    ∧ StableHlo.after hostOps1 W (Proc.devRef .tc main_v46) = Cert.SmallSumsRefIdeal.Read.val_main_v46 (F := Ideal) x := by
  refine ⟨?_, ?_, ?_, ?_, ?_, ?_, ?_, ?_, ?_, ?_, ?_, ?_, ?_, ?_⟩ <;> (after_results; rw [h]; rfl)

end

theorem frame_ref : Cert.quiescent_SmallSumsRefIdeal (hSmallSumsRefIdeal := Cert.SmallSumsRefIdeal.Gen.facts) := fun m ρ _ =>
  (θ_run Cert.SmallSumsRefIdeal.defs _ _).mono (fun r h => ⟨fun c => (h c).2.2.2.2.2.2.2.2.2.2.2.2.2.2, sem_eq_zero_of_no_sems (by decide) r.2⟩)
    (Cert.SmallSumsRefIdeal.Value.run (F := Ideal) m ρ)

/-- What the host code after the region starts from. -/
theorem left (m : (ℓ : Loc nD τ sig) → Buf (Elt Ideal) ℓ) (c : Dev nD) :
    Pipeline.withArrays spec0 c (V0 m c) (fun w => (dats m 0 c).arrAt w cfg0.N) (Proc.devRef .tc main_v0)
      = Cert.SmallSumsRefIdeal.Read.val_main_v0 (F := Ideal) (m ((c : Thread nD τ).loc main_arg0)) :=
  (Pipeline.withArrays_arr spec0 (by decide) c (V0 m c) _ 1).trans (arr m c)

/-- The kernel's sums over the devices and the reference's are the same. -/
theorem algebraic : Cert.algebraic_SmallSumsIdeal_SmallSumsRefIdeal (hSmallSumsIdeal := Cert.SmallSumsIdeal.Gen.facts) (hSmallSumsRefIdeal := Cert.SmallSumsRefIdeal.Gen.facts) := by
  intro m ρ m' ρ' _ hagree
  refine ⟨fun c => Cert.SmallSumsRefIdeal.Read.val_main_v10 (F := Ideal) (m ((c : Thread nD τ).loc main_arg0)),
    fun c => Cert.SmallSumsRefIdeal.Read.val_main_v17 (F := Ideal) (m ((c : Thread nD τ).loc main_arg0)),
    fun c => Cert.SmallSumsRefIdeal.Read.val_main_v19 (F := Ideal) (m ((c : Thread nD τ).loc main_arg0)),
    fun c => Cert.SmallSumsRefIdeal.Read.val_main_v21 (F := Ideal) (m ((c : Thread nD τ).loc main_arg0)),
    fun c => Cert.SmallSumsRefIdeal.Read.val_main_v23 (F := Ideal) (m ((c : Thread nD τ).loc main_arg0)),
    fun c => Cert.SmallSumsRefIdeal.Read.val_main_v26 (F := Ideal) (m ((c : Thread nD τ).loc main_arg0)),
    fun c => Cert.SmallSumsRefIdeal.Read.val_main_v28 (F := Ideal) (m ((c : Thread nD τ).loc main_arg0)),
    fun c => Cert.SmallSumsRefIdeal.Read.val_main_v31 (F := Ideal) (m ((c : Thread nD τ).loc main_arg0)),
    fun c => Cert.SmallSumsRefIdeal.Read.val_main_v34 (F := Ideal) (m ((c : Thread nD τ).loc main_arg0)),
    fun c => Cert.SmallSumsRefIdeal.Read.val_main_v37 (F := Ideal) (m ((c : Thread nD τ).loc main_arg0)),
    fun c => Cert.SmallSumsRefIdeal.Read.val_main_v39 (F := Ideal) (m ((c : Thread nD τ).loc main_arg0)),
    fun c => Cert.SmallSumsRefIdeal.Read.val_main_v41 (F := Ideal) (m ((c : Thread nD τ).loc main_arg0)),
    fun c => Cert.SmallSumsRefIdeal.Read.val_main_v43 (F := Ideal) (m ((c : Thread nD τ).loc main_arg0)),
    fun c => Cert.SmallSumsRefIdeal.Read.val_main_v46 (F := Ideal) (m ((c : Thread nD τ).loc main_arg0)), ?_, ?_⟩
  · refine (θ_run defs _ _).mono (fun r h c => ?_) (θ_run_and (run_main (F := Ideal) m ρ) (unchanged (F := Ideal) m ρ))
    obtain ⟨k0, k1, k2, k3, k4, k5, k6, k7, k8, k9, k10, k11, k12, k13⟩ := host _ _ (left m c)
    have hr := fun b hs ha => (h.1 c).2 b (Pipeline.mem_restRefs_of b hs ha)
    exact ⟨(hr main_v34 (by decide) (by decide)).trans k0,
      (hr main_v41 (by decide) (by decide)).trans k1,
      (hr main_v9 (by decide) (by decide)).trans k2,
      (hr main_v11 (by decide) (by decide)).trans k3,
      (hr main_v13 (by decide) (by decide)).trans k4,
      (hr main_v42 (by decide) (by decide)).trans k5,
      (hr main_v17 (by decide) (by decide)).trans k6,
      (hr main_v43 (by decide) (by decide)).trans k7,
      (hr main_v44 (by decide) (by decide)).trans k8,
      (hr main_v45 (by decide) (by decide)).trans k9,
      (hr main_v25 (by decide) (by decide)).trans k10,
      (hr main_v27 (by decide) (by decide)).trans k11,
      (hr main_v29 (by decide) (by decide)).trans k12,
      (hr main_v46 (by decide) (by decide)).trans k13, h.2 c⟩
  · refine (θ_run Cert.SmallSumsRefIdeal.defs _ _).mono (fun r h c => ?_) (Cert.SmallSumsRefIdeal.Value.run (F := Ideal) m' ρ')
    obtain ⟨h0, h1, h2, h3, h4, h5, h6, h7, h8, h9, h10, h11, h12, h13, ha⟩ := h c
    exact ⟨(h0.trans (Cert.SmallSumsRefIdeal.Read.val_main_v10_eq _)).trans (congrArg _ (hagree c)),
      (h1.trans (Cert.SmallSumsRefIdeal.Read.val_main_v17_eq _)).trans (congrArg _ (hagree c)),
      (h2.trans (Cert.SmallSumsRefIdeal.Read.val_main_v19_eq _)).trans (congrArg _ (hagree c)),
      (h3.trans (Cert.SmallSumsRefIdeal.Read.val_main_v21_eq _)).trans (congrArg _ (hagree c)),
      (h4.trans (Cert.SmallSumsRefIdeal.Read.val_main_v23_eq _)).trans (congrArg _ (hagree c)),
      (h5.trans (Cert.SmallSumsRefIdeal.Read.val_main_v26_eq _)).trans (congrArg _ (hagree c)),
      (h6.trans (Cert.SmallSumsRefIdeal.Read.val_main_v28_eq _)).trans (congrArg _ (hagree c)),
      (h7.trans (Cert.SmallSumsRefIdeal.Read.val_main_v31_eq _)).trans (congrArg _ (hagree c)),
      (h8.trans (Cert.SmallSumsRefIdeal.Read.val_main_v34_eq _)).trans (congrArg _ (hagree c)),
      (h9.trans (Cert.SmallSumsRefIdeal.Read.val_main_v37_eq _)).trans (congrArg _ (hagree c)),
      (h10.trans (Cert.SmallSumsRefIdeal.Read.val_main_v39_eq _)).trans (congrArg _ (hagree c)),
      (h11.trans (Cert.SmallSumsRefIdeal.Read.val_main_v41_eq _)).trans (congrArg _ (hagree c)),
      (h12.trans (Cert.SmallSumsRefIdeal.Read.val_main_v43_eq _)).trans (congrArg _ (hagree c)),
      (h13.trans (Cert.SmallSumsRefIdeal.Read.val_main_v46_eq _)).trans (congrArg _ (hagree c)), ha⟩

end Cert.SmallSumsVal

end
-- ==== Proof.GateSumsVal.lean ====
/- The gate and spatial weights' gradients summed over the devices, as the kernel computes them and as the reference states them. -/
module

public import proofs.«01_k».proof.Defs
public import proofs.«01_k».proof.Proof.Mm
public import proofs.«01_k».proof.Proof.Gen.GateSumsIdeal.Frame
public import proofs.«01_k».proof.Proof.Gen.GateSumsRefIdeal.Run
public import proofs.«01_k».proof.Proof.Gen.GateSumsRefIdeal.Read
public import Idealize.ShloMosaic.Lib.ValueLayout
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.GateSumsVal

open Cert.GateSumsIdeal Cert.GateSumsIdeal.Gen Cert.GateSumsIdeal.Facts Cert.Mm
open Idealize.ShloMosaic Idealize.ShloMosaic.TcCoe Idealize.SL.Sem Idealize.ShloMosaic.ValueIdx

theorem e0 : ∀ t : Fin cfg0.N, win0_0.index t = ![0, t.val, 0] := (by decide +kernel : ∀ t : Fin grid0.N, win0_0.index t = ![0, t.val, 0])
theorem e1 : ∀ t : Fin cfg0.N, win0_1.index t = ![t.val, 0] := (by decide +kernel : ∀ t : Fin grid0.N, win0_1.index t = ![t.val, 0])

/-- What the body leaves: the sum of the eight parts. -/
theorem out (x : Vec Ideal S8x64x1024 .bf16) (i : Fin 64) (j : Fin 1024) :
    out0_1 (F := Ideal) x (ix2 i j) = ∑ k : Fin 8, x (ix3 k i j) := by
  have part (y : Vec Ideal S1x64x1024 .bf16) : extf (F := Ideal) .f32 (shapeCast S64x1024 y shapeCasts_S1x64x1024_S64x1024) bitsLt_bf16_f32 (ix2 i j) = y (ix3 0 i j) :=
    shapeCast_1ab_ab_apply (a := 64) (b := 1024) y _ i j
  unfold out0_1
  rw [View.canon_unit_zero (S := S64x1024) hz2, Fin.sum_univ_eight]
  unfold k0_pay1
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    refine (part _).trans ?_ <;> refine congrArg x (funext fun a => Fin.ext ?_) <;> fin_cases a <;> first | rfl | exact (Nat.zero_add _).trans (Nat.one_mul _)

section
variable (m : (ℓ : Loc nD τ sig) → Buf (Elt Ideal) ℓ) (c : Dev nD)

/-- A point's block of the argument: its rows of every device's part. -/
theorem blk (t : Fin cfg0.N) (k : Fin 8) (i : Fin 64) (j : Fin 1024) (h : 64 * t.val + i.val < 768) :
    iblk (F := Ideal) m c 0 t (ix3 k i j) = m ((c : Thread nD τ).loc main_arg0) (ix3 (n1 := 768) k ⟨64 * t.val + i.val, h⟩ j) := by
  blk_simp [iblk, e0]
  refine congrArg (m ((c : Thread nD τ).loc main_arg0)) (funext fun a => Fin.ext ?_)
  fin_cases a
  · blk_simp [e0]
  · blk_simp [e0]
    show t.val * 64 + i.val = 64 * t.val + i.val
    omega
  · blk_simp [e0]

/-- The region's array: the sum over the devices. -/
theorem arr : (dats m 0 c).arrAt 1 cfg0.N = Cert.GateSumsRefIdeal.Read.val_main_v1 (F := Ideal) (m ((c : Thread nD τ).loc main_arg0)) := by
  refine funext fun i => (dats m 0 c).arrAt_forall_of_covers 1 (fun i x => x = Cert.GateSumsRefIdeal.Read.val_main_v1 (F := Ideal) (m ((c : Thread nD τ).loc main_arg0)) i)
    (by decide +kernel) (fun t hf y => ?_) i (Memref.isWhole_whole _)
  have ht : t.val < 12 := lt_of_lt_of_eq t.isLt (by decide)
  have hy : (y 0).val < 64 := (y 0).isLt
  have hr : 64 * t.val + (y 0).val < 768 := by omega
  have e : out0_1 (F := Ideal) (iblk m c 0 t) y
      = Cert.GateSumsRefIdeal.Read.val_main_v1 (F := Ideal) (m ((c : Thread nD τ).loc main_arg0)) (ix2 (n0 := 768) (n1 := 1024) ⟨64 * t.val + (y 0).val, hr⟩ (y 1)) := by
    refine (congrArg (out0_1 (F := Ideal) (iblk m c 0 t)) (eq_ix2 (n0 := 64) (n1 := 1024) y)).trans ((out _ (y 0) (y 1)).trans ?_)
    rw [Cert.GateSumsRefIdeal.Read.val_main_v1_apply]
    refine Eq.trans (Finset.sum_congr rfl fun k _ => ?_) ((congrArg (· + _) Ideal.ofBits_zero_f32).trans (zero_add _)).symm
    refine (blk m c t k (y 0) (y 1) hr).trans (congrArg (m ((c : Thread nD τ).loc main_arg0)) (funext fun a => Fin.ext ?_))
    fin_cases a <;> rfl
  blk_simp
  rw [after0_1]
  refine e.trans (congrArg (Cert.GateSumsRefIdeal.Read.val_main_v1 (F := Ideal) (m ((c : Thread nD τ).loc main_arg0))) (funext fun a => Fin.ext ?_))
  fin_cases a
  · blk_simp [e1]
    show 64 * t.val + (y 0).val = t.val * 64 + (y 0).val
    omega
  · blk_simp [e1]
    rfl

end

section
variable (W : Valuation τ sig (Elt Ideal)) (x : Vec Ideal S8x768x1024 .bf16)
  (h : W (Proc.devRef .tc main_v0) = Cert.GateSumsRefIdeal.Read.val_main_v1 (F := Ideal) x)

include h in
/-- Each buffer the host code ends with, from the region's array: the reference's result. -/
theorem host :
    StableHlo.after hostOps1 W (Proc.devRef .tc main_v8) = Cert.GateSumsRefIdeal.Read.val_main_v5 (F := Ideal) x
    ∧ StableHlo.after hostOps1 W (Proc.devRef .tc main_v9) = Cert.GateSumsRefIdeal.Read.val_main_v8 (F := Ideal) x
    ∧ StableHlo.after hostOps1 W (Proc.devRef .tc main_v10) = Cert.GateSumsRefIdeal.Read.val_main_v11 (F := Ideal) x := by
  refine ⟨?_, ?_, ?_⟩ <;> (after_results; rw [h]; rfl)

end

theorem frame_ref : Cert.quiescent_GateSumsRefIdeal (hGateSumsRefIdeal := Cert.GateSumsRefIdeal.Gen.facts) := fun m ρ _ =>
  (θ_run Cert.GateSumsRefIdeal.defs _ _).mono (fun r h => ⟨fun c => (h c).2.2.2, sem_eq_zero_of_no_sems (by decide) r.2⟩)
    (Cert.GateSumsRefIdeal.Value.run (F := Ideal) m ρ)

/-- What the host code after the region starts from. -/
theorem left (m : (ℓ : Loc nD τ sig) → Buf (Elt Ideal) ℓ) (c : Dev nD) :
    Pipeline.withArrays spec0 c (V0 m c) (fun w => (dats m 0 c).arrAt w cfg0.N) (Proc.devRef .tc main_v0)
      = Cert.GateSumsRefIdeal.Read.val_main_v1 (F := Ideal) (m ((c : Thread nD τ).loc main_arg0)) :=
  (Pipeline.withArrays_arr spec0 (by decide) c (V0 m c) _ 1).trans (arr m c)

/-- The kernel's sums over the devices and the reference's are the same. -/
theorem algebraic : Cert.algebraic_GateSumsIdeal_GateSumsRefIdeal (hGateSumsIdeal := Cert.GateSumsIdeal.Gen.facts) (hGateSumsRefIdeal := Cert.GateSumsRefIdeal.Gen.facts) := by
  intro m ρ m' ρ' _ hagree
  refine ⟨fun c => Cert.GateSumsRefIdeal.Read.val_main_v5 (F := Ideal) (m ((c : Thread nD τ).loc main_arg0)),
    fun c => Cert.GateSumsRefIdeal.Read.val_main_v8 (F := Ideal) (m ((c : Thread nD τ).loc main_arg0)),
    fun c => Cert.GateSumsRefIdeal.Read.val_main_v11 (F := Ideal) (m ((c : Thread nD τ).loc main_arg0)), ?_, ?_⟩
  · refine (θ_run defs _ _).mono (fun r h c => ?_) (θ_run_and (run_main (F := Ideal) m ρ) (unchanged (F := Ideal) m ρ))
    obtain ⟨k0, k1, k2⟩ := host _ _ (left m c)
    have hr := fun b hs ha => (h.1 c).2 b (Pipeline.mem_restRefs_of b hs ha)
    exact ⟨(hr main_v8 (by decide) (by decide)).trans k0,
      (hr main_v9 (by decide) (by decide)).trans k1,
      (hr main_v10 (by decide) (by decide)).trans k2, h.2 c⟩
  · refine (θ_run Cert.GateSumsRefIdeal.defs _ _).mono (fun r h c => ?_) (Cert.GateSumsRefIdeal.Value.run (F := Ideal) m' ρ')
    obtain ⟨h0, h1, h2, ha⟩ := h c
    exact ⟨(h0.trans (Cert.GateSumsRefIdeal.Read.val_main_v5_eq _)).trans (congrArg _ (hagree c)),
      (h1.trans (Cert.GateSumsRefIdeal.Read.val_main_v8_eq _)).trans (congrArg _ (hagree c)),
      (h2.trans (Cert.GateSumsRefIdeal.Read.val_main_v11_eq _)).trans (congrArg _ (hagree c)), ha⟩

end Cert.GateSumsVal

end
-- ==== Proof.NormRow.lean ====
/- The RMS normalisation of a block's rows at an index, with its gain, and one and the scale that modulate it; for any number of rows. -/
module

public import proofs.«01_k».proof.Proof.NormAlg

@[expose] public section

set_option maxRecDepth 16384

noncomputable section

open Idealize.ShloMosaic Idealize.ShloMosaic.ValueIdx

namespace Cert.NormRow

open Cert.NormAlg

/-- Row `a` of an array. -/
def rowOf (X : ℕ → ℕ → EReal) (a : ℕ) : Fin 2048 → EReal := fun k => X a k.val

/-- One and the scale of column `k`. -/
def one (S : ℕ → ℕ → EReal) (k : ℕ) : EReal := Ideal.ofBits .f32 0x3F800000#32 + S 0 k

/-- The normalised and modulated element: the row's, with gain `G`, scale `S` and shift `B`. -/
def modded (X G S B : ℕ → ℕ → EReal) (a k : ℕ) : EReal := X a k * rs (rowOf X a) * G 0 k * one S k + B 0 k

section
variable {n : ℕ} (x : FVec Ideal ⟨2, ![n, 2048]⟩ .f32) (g : FVec Ideal ⟨2, ![1, 2048]⟩ .f32) (i : Fin n) (j : Fin 2048)

/-- The sum over a row. -/
theorem row_sum (hr : (⟨2, ![n, 2048]⟩ : Shape).Reduces [1] ⟨1, ![n]⟩) (hφ hacc) :
    multiReduction .add [1] ⟨1, ![n]⟩ x 0x00000000#32 hr hφ hacc (ix1 i) = ∑ k : Fin 2048, x (ix2 i k) := by
  rw [Ideal.multiReduction_add_single]
  refine Finset.sum_congr rfl fun j _ => congrArg x ?_
  funext a
  match a with
  | ⟨0, _⟩ => rfl
  | ⟨1, _⟩ => rfl

/-- A column laid beside itself. -/
theorem col (y : FVec Ideal ⟨2, ![n, 1]⟩ .f32) (h) : broadcastTo ⟨2, ![n, 2048]⟩ y h (ix2 i j) = y (ix2 i 0) :=
  broadcastTo_apply y _ _ _ (fun a => by
    match a with
    | ⟨0, _⟩ =>
      show i.val = if n = 1 then 0 else i.val
      have := i.isLt
      split <;> omega
    | ⟨1, _⟩ => rfl)

/-- A row laid under itself. -/
theorem lay (h) : broadcastTo ⟨2, ![n, 2048]⟩ g h (ix2 i j) = g (ix2 0 j) := broadcastTo_1b_ab_apply (a := n) (b := 2048) g h i j

/-- The factor of a row. -/
theorem factor (hr : (⟨2, ![n, 2048]⟩ : Shape).Reduces [1] ⟨1, ![n]⟩) (hφ hacc) (hs) :
    rsqrt (F := Ideal) (φ := .f32) (addf (divf (shapeCast ⟨2, ![n, 1]⟩ (multiReduction .add [1] ⟨1, ![n]⟩ (mulf x x) 0x00000000#32 hr hφ hacc) hs)
      (broadcast ⟨2, ![n, 1]⟩ (Scalar.ofBits (F := Ideal) .f32 0x45000000#32))) (broadcast ⟨2, ![n, 1]⟩ (Scalar.ofBits (F := Ideal) .f32 0x358637BD#32))) (ix2 i 0)
      = rs fun k => x (ix2 i k) := by
  refine congrArg (fun z => Ideal.rsqrt (Ideal.div z cN + eps)) ?_
  exact (shapeCast_a_a1_apply _ _ i 0).trans (row_sum (mulf x x) i hr hφ hacc)

/-- The normalised row with its gain. -/
theorem normed (hr : (⟨2, ![n, 2048]⟩ : Shape).Reduces [1] ⟨1, ![n]⟩) (hφ hacc) (hs hb hg) :
    mulf (F := Ideal) (φ := .f32) (mulf x (broadcastTo ⟨2, ![n, 2048]⟩ (rsqrt (addf (divf (shapeCast ⟨2, ![n, 1]⟩ (multiReduction .add [1] ⟨1, ![n]⟩ (mulf x x) 0x00000000#32 hr hφ hacc) hs)
      (broadcast ⟨2, ![n, 1]⟩ (Scalar.ofBits (F := Ideal) .f32 0x45000000#32))) (broadcast ⟨2, ![n, 1]⟩ (Scalar.ofBits (F := Ideal) .f32 0x358637BD#32)))) hb))
      (broadcastTo ⟨2, ![n, 2048]⟩ g hg) (ix2 i j) = x (ix2 i j) * rs (fun k => x (ix2 i k)) * g (ix2 0 j) :=
  congrArg₂ (· * ·) (congrArg (x (ix2 i j) * ·) ((col i j _ hb).trans (factor x i hr hφ hacc hs))) (lay g i j hg)

end

end Cert.NormRow

end
-- ==== Proof.ResModVal.lean ====
/- The residual sum and the next norm with its modulation: row by row as the kernel computes them, and as the reference states them. -/
module

public import proofs.«01_k».proof.Defs
public import proofs.«01_k».proof.Proof.NormRow
public import proofs.«01_k».proof.Proof.Gen.ResModIdeal.Value
public import proofs.«01_k».proof.Proof.Gen.ResModRefIdeal.Run
public import proofs.«01_k».proof.Proof.Gen.ResModRefIdeal.Read
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

open Idealize.ShloMosaic Idealize.ShloMosaic.TcCoe Idealize.SL.Sem Idealize.ShloMosaic.ValueIdx

namespace Cert.ResModVal

open Cert.ResModIdeal Cert.ResModIdeal.Gen Cert.ResModIdeal.Facts Cert.Mm Cert.NormAlg Cert.NormRow

section
variable {F : FTy → Type} [FloatOps F] (x0 x1 : Vec F S256x2048 .f32) (x2 x3 x4 x5 x6 : Vec F S1x2048 .f32)

theorem out7 : out0_7 (F := F) x0 x1 x2 x3 x4 x5 x6 = k0_pay2 x0 x1 x2 x3 := by
  unfold out0_7
  rw [View.canon_unit_zero (S := S256x2048) hz2]
  simp only [View.ld_unit_zero (S := S256x2048) hz2, View.ld_unit_zero (S := S1x2048) hz2]

theorem out8 : out0_8 (F := F) x0 x1 x2 x3 x4 x5 x6 = k0_pay1 (k0_pay3 x0 x1 x2 x3 x4 x5) x6 := by
  unfold out0_8
  rw [View.canon_unit_zero (S := S256x2048) hz2]
  simp only [View.ld_unit_zero (S := S256x2048) hz2, View.ld_unit_zero (S := S1x2048) hz2]

end

section
variable (o x : Vec Ideal S256x2048 .f32) (r t g a b : Vec Ideal S1x2048 .f32) (i : Fin 256) (j : Fin 2048)

theorem pay2 : k0_pay2 (F := Ideal) o x r t (ix2 i j) = x (ix2 i j) + o (ix2 i j) * rs (fun k => o (ix2 i k)) * r (ix2 0 j) * t (ix2 0 j) := by
  unfold k0_pay2
  exact congrArg (x (ix2 i j) + ·) (congrArg₂ (· * ·) (normed (n := 256) o r i j _ _ _ _ _ _) (lay (n := 256) t i j _))

theorem pay1 : k0_pay1 (F := Ideal) (k0_pay3 o x r t g a) b (ix2 i j)
    = k0_pay2 (F := Ideal) o x r t (ix2 i j) * rs (fun k => k0_pay2 (F := Ideal) o x r t (ix2 i k)) * g (ix2 0 j) * a (ix2 0 j) + b (ix2 0 j) := by
  unfold k0_pay1 k0_pay3
  rw [shapeCast_self]
  exact congrArg₂ (· + ·) (congrArg₂ (· * ·) (normed (n := 256) (k0_pay2 o x r t) g i j _ _ _ _ _ _) (lay (n := 256) a i j _)) (lay (n := 256) b i j _)

end

/-- The residual sum: the stream `X` and the normalised output `O` with its gain `R` and gate `T`. -/
def summed (O X R T : ℕ → ℕ → EReal) (a k : ℕ) : EReal := X a k + O a k * rs (rowOf O a) * R 0 k * T 0 k

theorem e0_0 : ∀ t : Fin cfg0.N, win0_0.index t = ![t.val, 0] := (by decide +kernel : ∀ t : Fin grid0.N, win0_0.index t = ![t.val, 0])
theorem e0_1 : ∀ t : Fin cfg0.N, win0_1.index t = ![t.val, 0] := (by decide +kernel : ∀ t : Fin grid0.N, win0_1.index t = ![t.val, 0])
theorem e0_2 : ∀ t : Fin cfg0.N, win0_2.index t = ![0, 0] := (by decide +kernel : ∀ t : Fin grid0.N, win0_2.index t = ![0, 0])
theorem e0_3 : ∀ t : Fin cfg0.N, win0_3.index t = ![0, 0] := (by decide +kernel : ∀ t : Fin grid0.N, win0_3.index t = ![0, 0])
theorem e0_4 : ∀ t : Fin cfg0.N, win0_4.index t = ![0, 0] := (by decide +kernel : ∀ t : Fin grid0.N, win0_4.index t = ![0, 0])
theorem e0_5 : ∀ t : Fin cfg0.N, win0_5.index t = ![0, 0] := (by decide +kernel : ∀ t : Fin grid0.N, win0_5.index t = ![0, 0])
theorem e0_6 : ∀ t : Fin cfg0.N, win0_6.index t = ![0, 0] := (by decide +kernel : ∀ t : Fin grid0.N, win0_6.index t = ![0, 0])
theorem e0_7 : ∀ t : Fin cfg0.N, win0_7.index t = ![t.val, 0] := (by decide +kernel : ∀ t : Fin grid0.N, win0_7.index t = ![t.val, 0])
theorem e0_8 : ∀ t : Fin cfg0.N, win0_8.index t = ![t.val, 0] := (by decide +kernel : ∀ t : Fin grid0.N, win0_8.index t = ![t.val, 0])

section
variable (m : (ℓ : Loc nD τ sig) → Buf (Elt Ideal) ℓ) (c : Dev nD) (O X R T G S B : ℕ → ℕ → EReal)
  (hO : ∀ i : S4096x2048.Idx, m ((c : Thread nD τ).loc main_arg0) i = O (i 0).val (i 1).val)
  (hX : ∀ i : S4096x2048.Idx, m ((c : Thread nD τ).loc main_arg1) i = X (i 0).val (i 1).val)
  (hR : ∀ i : S1x2048.Idx, m ((c : Thread nD τ).loc main_arg2) i = R (i 0).val (i 1).val)
  (hT : ∀ i : S1x2048.Idx, m ((c : Thread nD τ).loc main_arg3) i = T (i 0).val (i 1).val)
  (hG : ∀ i : S1x2048.Idx, m ((c : Thread nD τ).loc main_arg4) i = G (i 0).val (i 1).val)
  (hS : ∀ i : S1x2048.Idx, m ((c : Thread nD τ).loc main_arg5) i = S (i 0).val (i 1).val)
  (hB : ∀ i : S1x2048.Idx, m ((c : Thread nD τ).loc main_arg6) i = B (i 0).val (i 1).val)

/-- The host adds one to the scale before the call. -/
theorem host_s : V (F := Ideal) m c main_v1 = addf (F := Ideal) (broadcastInDim S1x2048 ![] bcast_S_S1x2048 (constant S_ .f32 0x3F800000#32)) (m ((c : Thread nD τ).loc main_arg5)) := by
  unfold V
  after_results

include hS in
theorem host_s_apply (i : S1x2048.Idx) : V (F := Ideal) m c main_v1 i = one S (i 1).val := by
  have h0 : (i 0).val = 0 := by have : (i 0).val < 1 := (i 0).isLt; omega
  rw [host_s]
  refine (congrArg (Ideal.ofBits .f32 0x3F800000#32 + ·) (hS i)).trans ?_
  rw [h0]
  rfl

include hO in
theorem blkO (t : Fin cfg0.N) (i : Fin 256) (j : Fin 2048) : iblk (F := Ideal) m c 0 t (ix2 i j) = O (256 * t.val + i.val) j.val := by
  blk_simp [iblk, e0_0]
  refine ((congrFun (V_main_arg0 m c) _).trans (hO _)).trans ?_
  congr 1
  · blk_simp [e0_0]
    show t.val * 256 + i.val = _
    omega
  · blk_simp [e0_0]

include hX in
theorem blkX (t : Fin cfg0.N) (i : Fin 256) (j : Fin 2048) : iblk (F := Ideal) m c 1 t (ix2 i j) = X (256 * t.val + i.val) j.val := by
  blk_simp [iblk, e0_1]
  refine ((congrFun (V_main_arg1 m c) _).trans (hX _)).trans ?_
  congr 1
  · blk_simp [e0_1]
    show t.val * 256 + i.val = _
    omega
  · blk_simp [e0_1]

include hR in
theorem blkR (t : Fin cfg0.N) (j : Fin 2048) : iblk (F := Ideal) m c 2 t (ix2 0 j) = R 0 j.val := by
  blk_simp [iblk, e0_2]
  refine ((congrFun (V_main_arg2 m c) _).trans (hR _)).trans ?_
  congr 1
  blk_simp [e0_2]

include hT in
theorem blkT (t : Fin cfg0.N) (j : Fin 2048) : iblk (F := Ideal) m c 3 t (ix2 0 j) = T 0 j.val := by
  blk_simp [iblk, e0_3]
  refine ((congrFun (V_main_arg3 m c) _).trans (hT _)).trans ?_
  congr 1
  blk_simp [e0_3]

include hG in
theorem blkG (t : Fin cfg0.N) (j : Fin 2048) : iblk (F := Ideal) m c 4 t (ix2 0 j) = G 0 j.val := by
  blk_simp [iblk, e0_4]
  refine ((congrFun (V_main_arg4 m c) _).trans (hG _)).trans ?_
  congr 1
  blk_simp [e0_4]

include hS in
theorem blkS (t : Fin cfg0.N) (j : Fin 2048) : iblk (F := Ideal) m c 5 t (ix2 0 j) = one S j.val := by
  blk_simp [iblk, e0_5]
  refine (host_s_apply m c S hS _).trans ?_
  congr 1
  blk_simp [e0_5]

include hB in
theorem blkB (t : Fin cfg0.N) (j : Fin 2048) : iblk (F := Ideal) m c 6 t (ix2 0 j) = B 0 j.val := by
  blk_simp [iblk, e0_6]
  refine ((congrFun (V_main_arg6 m c) _).trans (hB _)).trans ?_
  congr 1
  blk_simp [e0_6]

include hO hX hR hT in
theorem blk_sum (t : Fin cfg0.N) (i : Fin 256) (j : Fin 2048) :
    k0_pay2 (F := Ideal) (iblk m c 0 t) (iblk m c 1 t) (iblk m c 2 t) (iblk m c 3 t) (ix2 i j) = summed O X R T (256 * t.val + i.val) j.val := by
  have hrow : (fun k : Fin 2048 => iblk (F := Ideal) m c 0 t (ix2 i k)) = rowOf O (256 * t.val + i.val) := funext fun k => blkO m c O hO t i k
  refine (pay2 _ _ _ _ i j).trans ?_
  exact congrArg₂ (· + ·) (blkX m c X hX t i j) (congrArg₂ (· * ·) (congrArg₂ (· * ·) (congrArg₂ (· * ·) (blkO m c O hO t i j) (congrArg rs hrow)) (blkR m c R hR t j)) (blkT m c T hT t j))

include hO hX hR hT hG hS hB in
theorem blk_mod (t : Fin cfg0.N) (i : Fin 256) (j : Fin 2048) :
    k0_pay1 (F := Ideal) (k0_pay3 (iblk m c 0 t) (iblk m c 1 t) (iblk m c 2 t) (iblk m c 3 t) (iblk m c 4 t) (iblk m c 5 t)) (iblk m c 6 t) (ix2 i j)
      = modded (summed O X R T) G S B (256 * t.val + i.val) j.val := by
  have hsum := fun k => blk_sum m c O X R T hO hX hR hT t i k
  refine (pay1 _ _ _ _ _ _ _ i j).trans ?_
  exact congrArg₂ (· + ·) (congrArg₂ (· * ·) (congrArg₂ (· * ·) (congrArg₂ (· * ·) (hsum j) (congrArg rs (funext hsum))) (blkG m c G hG t j)) (blkS m c S hS t j)) (blkB m c B hB t j)

include hO hX hR hT in
theorem arr7 (i : S4096x2048.Idx) : (dats (F := Ideal) m 0 c).arrAt 7 cfg0.N i = summed O X R T (i 0).val (i 1).val := by
  refine (dats m 0 c).arrAt_forall_of_covers 7 (fun i x => x = summed O X R T (i 0).val (i 1).val) (by decide +kernel) (fun t hf y => ?_) i (Memref.isWhole_whole _)
  blk_simp
  rw [after0_7, out7]
  refine (congrArg (k0_pay2 (F := Ideal) (iblk m c 0 t) (iblk m c 1 t) (iblk m c 2 t) (iblk m c 3 t)) (eq_ix2 (n0 := 256) (n1 := 2048) y)).trans
    ((blk_sum m c O X R T hO hX hR hT t (y 0) (y 1)).trans ?_)
  blk_simp [e0_7]
  rw [Nat.mul_comm t.val 256]

include hO hX hR hT hG hS hB in
theorem arr8 (i : S4096x2048.Idx) : (dats (F := Ideal) m 0 c).arrAt 8 cfg0.N i = modded (summed O X R T) G S B (i 0).val (i 1).val := by
  refine (dats m 0 c).arrAt_forall_of_covers 8 (fun i x => x = modded (summed O X R T) G S B (i 0).val (i 1).val) (by decide +kernel) (fun t hf y => ?_) i (Memref.isWhole_whole _)
  blk_simp
  rw [after0_8, out8]
  refine (congrArg (k0_pay1 (F := Ideal) (k0_pay3 (iblk m c 0 t) (iblk m c 1 t) (iblk m c 2 t) (iblk m c 3 t) (iblk m c 4 t) (iblk m c 5 t)) (iblk m c 6 t))
    (eq_ix2 (n0 := 256) (n1 := 2048) y)).trans ((blk_mod m c O X R T G S B hO hX hR hT hG hS hB t (y 0) (y 1)).trans ?_)
  blk_simp [e0_8]
  rw [Nat.mul_comm t.val 256]

end

/-! ## The reference's values -/

section
open Cert.ResModRefIdeal.Read

variable (x0 x1 : (⟨S4096x2048, .f32⟩ : BufTy).Contents (Elt Ideal)) (x2 x3 x4 x5 x6 : (⟨S1x2048, .f32⟩ : BufTy).Contents (Elt Ideal)) (O X R T G S B : ℕ → ℕ → EReal)
  (hO : ∀ i : S4096x2048.Idx, x0 i = O (i 0).val (i 1).val) (hX : ∀ i : S4096x2048.Idx, x1 i = X (i 0).val (i 1).val)
  (hR : ∀ i : S1x2048.Idx, x2 i = R (i 0).val (i 1).val) (hT : ∀ i : S1x2048.Idx, x3 i = T (i 0).val (i 1).val)
  (hG : ∀ i : S1x2048.Idx, x4 i = G (i 0).val (i 1).val) (hS : ∀ i : S1x2048.Idx, x5 i = S (i 0).val (i 1).val)
  (hB : ∀ i : S1x2048.Idx, x6 i = B (i 0).val (i 1).val)

include hO in
theorem ref_rs (i : Cert.ResModRefIdeal.S4096x1.Idx) : val_main_v7 (F := Ideal) x0 i = rs (rowOf O (i 0).val) := by
  rw [val_main_v7_apply, val_main_v6_apply, val_main_v4_apply, val_main_v2_apply, val_main_v3_apply, val_main_v5_apply, val_main_v1_apply, val_main_cst_0_apply, val_main_cst_1_apply, val_main_cst_apply]
  refine congrArg (fun z => Ideal.rsqrt (Ideal.div z cN + eps)) (((congrArg (· + _) word_zero).trans (zero_add _)).trans (Finset.sum_congr rfl fun k _ => ?_))
  exact congrArg₂ (· * ·) (hO _) (hO _)

include hO hX hR hT in
theorem ref_sum (i : S4096x2048.Idx) : val_main_v14 (F := Ideal) x0 x1 x2 x3 i = summed O X R T (i 0).val (i 1).val := by
  rw [val_main_v14_apply, val_main_v13_apply, val_main_v12_apply, val_main_v11_apply, val_main_v10_apply, val_main_v9_apply, val_main_v8_apply, ref_rs x0 O hO, hO, hX, hR, hT]
  exact congrArg (X (i 0).val (i 1).val + ·) (mul_comm _ _)

include hO hX hR hT in
theorem ref_rs2 (i : Cert.ResModRefIdeal.S4096x1.Idx) : val_main_v22 (F := Ideal) x0 x1 x2 x3 i = rs (rowOf (summed O X R T) (i 0).val) := by
  rw [val_main_v22_apply, val_main_v21_apply, val_main_v19_apply, val_main_v17_apply, val_main_v18_apply, val_main_v20_apply, val_main_v16_apply, val_main_cst_2_apply, val_main_cst_3_apply, val_main_cst_4_apply]
  refine congrArg (fun z => Ideal.rsqrt (Ideal.div z cN + eps)) (((congrArg (· + _) word_zero).trans (zero_add _)).trans (Finset.sum_congr rfl fun k _ => ?_))
  rw [val_main_v15_apply, ref_sum x0 x1 x2 x3 O X R T hO hX hR hT]
  rfl

include hO hX hR hT hG hS hB in
theorem ref_mod (i : S4096x2048.Idx) : val_main_v33 (F := Ideal) x0 x1 x2 x3 x4 x5 x6 i = modded (summed O X R T) G S B (i 0).val (i 1).val := by
  rw [val_main_v33_apply, val_main_v32_apply, val_main_v30_apply, val_main_v31_apply, val_main_v29_apply, val_main_v28_apply, val_main_v27_apply, val_main_cst_5_apply,
    val_main_v26_apply, val_main_v25_apply, val_main_v24_apply, val_main_v23_apply, ref_rs2 x0 x1 x2 x3 O X R T hO hX hR hT, ref_sum x0 x1 x2 x3 O X R T hO hX hR hT, hG, hS, hB]
  rfl

end

theorem frame_ref : Cert.quiescent_ResModRefIdeal (hResModRefIdeal := Cert.ResModRefIdeal.Gen.facts) := fun m ρ _ =>
  (θ_run Cert.ResModRefIdeal.defs _ _).mono (fun r h => ⟨fun c => (h c).2.2, sem_eq_zero_of_no_sems (by decide) r.2⟩)
    (Cert.ResModRefIdeal.Value.run (F := Ideal) m ρ)

/-- The residual sum and the modulated rows are the reference's at every element, whatever the arguments hold. -/
theorem algebraic : Cert.algebraic_ResModIdeal_ResModRefIdeal (hResModIdeal := Cert.ResModIdeal.Gen.facts) (hResModRefIdeal := Cert.ResModRefIdeal.Gen.facts) := by
  intro m ρ m' ρ' _ hagree
  choose O hO using fun c : Dev nD => total2 (M := 4096) (K := 2048) (m ((c : Thread nD τ).loc main_arg0))
  choose X hX using fun c : Dev nD => total2 (M := 4096) (K := 2048) (m ((c : Thread nD τ).loc main_arg1))
  choose R hR using fun c : Dev nD => total2 (M := 1) (K := 2048) (m ((c : Thread nD τ).loc main_arg2))
  choose T hT using fun c : Dev nD => total2 (M := 1) (K := 2048) (m ((c : Thread nD τ).loc main_arg3))
  choose G hG using fun c : Dev nD => total2 (M := 1) (K := 2048) (m ((c : Thread nD τ).loc main_arg4))
  choose S hS using fun c : Dev nD => total2 (M := 1) (K := 2048) (m ((c : Thread nD τ).loc main_arg5))
  choose B hB using fun c : Dev nD => total2 (M := 1) (K := 2048) (m ((c : Thread nD τ).loc main_arg6))
  refine ⟨fun c => fun i : S4096x2048.Idx => (summed (O c) (X c) (R c) (T c) (i 0).val (i 1).val : EReal),
    fun c => fun i : S4096x2048.Idx => (modded (summed (O c) (X c) (R c) (T c)) (G c) (S c) (B c) (i 0).val (i 1).val : EReal), ?_, ?_⟩
  · exact (θ_run defs _ _).mono (fun r h c => ⟨(h c).1.trans (funext (arr7 m c (O c) (X c) (R c) (T c) (hO c) (hX c) (hR c) (hT c))),
      (h c).2.1.trans (funext (arr8 m c (O c) (X c) (R c) (T c) (G c) (S c) (B c) (hO c) (hX c) (hR c) (hT c) (hG c) (hS c) (hB c))), (h c).2.2⟩)
      (Cert.ResModIdeal.Value.run_blocks (F := Ideal) m ρ)
  · refine (θ_run Cert.ResModRefIdeal.defs _ _).mono (fun r h c => ?_) (Cert.ResModRefIdeal.Value.run (F := Ideal) m' ρ')
    obtain ⟨h0, h1, ha⟩ := h c
    obtain ⟨a0, a1, a2, a3, a4, a5, a6⟩ := hagree c
    have o := fun i => (congrFun a0 i).trans (hO c i)
    have x := fun i => (congrFun a1 i).trans (hX c i)
    have r := fun i => (congrFun a2 i).trans (hR c i)
    have t := fun i => (congrFun a3 i).trans (hT c i)
    have g := fun i => (congrFun a4 i).trans (hG c i)
    have s := fun i => (congrFun a5 i).trans (hS c i)
    have b := fun i => (congrFun a6 i).trans (hB c i)
    exact ⟨(h0.trans (Cert.ResModRefIdeal.Read.val_main_v14_eq _ _ _ _)).trans (funext (ref_sum _ _ _ _ (O c) (X c) (R c) (T c) o x r t)),
      (h1.trans (Cert.ResModRefIdeal.Read.val_main_v33_eq _ _ _ _ _ _ _)).trans (funext (ref_mod _ _ _ _ _ _ _ (O c) (X c) (R c) (T c) (G c) (S c) (B c) o x r t g s b)), ha⟩

end Cert.ResModVal

end
-- ==== Proof.NormFwdVal.lean ====
/- The first layer's first norm and modulation: one call for the latent rows and one for the context's, which writes below them in the same array.
   As the kernel computes them and as the reference states them. -/
module

public import proofs.«01_k».proof.Defs
public import proofs.«01_k».proof.Proof.NormRow
public import proofs.«01_k».proof.Proof.Gen.NormFwdIdeal.Frame
public import proofs.«01_k».proof.Proof.Gen.NormFwdRefIdeal.Run
public import proofs.«01_k».proof.Proof.Gen.NormFwdRefIdeal.Read
public import Idealize.ShloMosaic.Lib.KernelVsHost
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.NormFwdVal

open Cert.NormFwdIdeal Cert.NormFwdIdeal.Gen Cert.NormFwdIdeal.Facts Cert.Mm Cert.NormAlg Cert.NormRow

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the run ends with the result at the last boundary's contents and the arguments unchanged. -/
theorem run_results : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Run

open Idealize.ShloMosaic Idealize.ShloMosaic.TcCoe Idealize.SL.Sem Idealize.ShloMosaic.ValueIdx

section
variable {F : FTy → Type} [FloatOps F]

theorem out0 (x0 : Vec F S512x2048 .f32) (x1 x2 x3 : Vec F S1x2048 .f32) : out0_4 (F := F) x0 x1 x2 x3 = k0_pay1 x0 x1 x2 x3 := by
  unfold out0_4
  rw [View.canon_unit_zero (S := S512x2048) hz2]
  simp only [View.ld_unit_zero (S := S512x2048) hz2, View.ld_unit_zero (S := S1x2048) hz2]

theorem out1 (c : Dev nD) (i : grid1.Coords) (a1) (h1) (a2) (h2) (a3) (h3) (a4) (h4) (a6) (h6) (x0 : Vec F S256x2048 .f32) (x1 x2 x3 : Vec F S1x2048 .f32) :
    out1_A_4 (F := F) c i a1 h1 a2 h2 a3 h3 a4 h4 a6 h6 x0 x1 x2 x3 = k1_pay1 x0 x1 x2 x3 := by
  unfold out1_A_4
  rw [View.read_writes_eq_canon _ _ _ (cover1_A_4 c i a1 h1 a2 h2 a3 h3 a4 h4 a6 h6 x0 x1 x2 x3)]
  unfold kernelRun1_A
  dsimp only
  sl_unfold_words
  rw [View.canon_unit_zero (S := S256x2048) hz2]
  simp only [View.readAt_eq_ld, h1.read_unread, h2.read_unread, h3.read_unread, h4.read_unread, View.ld_unit_zero (S := S256x2048) hz2, View.ld_unit_zero (S := S1x2048) hz2]

end

theorem pay0 (x : Vec Ideal S512x2048 .f32) (g a b : Vec Ideal S1x2048 .f32) (i : Fin 512) (j : Fin 2048) :
    k0_pay1 (F := Ideal) x g a b (ix2 i j) = x (ix2 i j) * rs (fun k => x (ix2 i k)) * g (ix2 0 j) * a (ix2 0 j) + b (ix2 0 j) := by
  unfold k0_pay1
  rw [shapeCast_self]
  exact congrArg₂ (· + ·) (congrArg₂ (· * ·) (normed (n := 512) x g i j _ _ _ _ _ _) (lay (n := 512) a i j _)) (lay (n := 512) b i j _)

theorem pay1 (x : Vec Ideal S256x2048 .f32) (g a b : Vec Ideal S1x2048 .f32) (i : Fin 256) (j : Fin 2048) :
    k1_pay1 (F := Ideal) x g a b (ix2 i j) = x (ix2 i j) * rs (fun k => x (ix2 i k)) * g (ix2 0 j) * a (ix2 0 j) + b (ix2 0 j) := by
  unfold k1_pay1
  rw [shapeCast_self]
  exact congrArg₂ (· + ·) (congrArg₂ (· * ·) (normed (n := 256) x g i j _ _ _ _ _ _) (lay (n := 256) a i j _)) (lay (n := 256) b i j _)

theorem e0_0 : ∀ t : Fin cfg0.N, win0_0.index t = ![t.val, 0] := (by decide +kernel : ∀ t : Fin grid0.N, win0_0.index t = ![t.val, 0])
theorem e0_1 : ∀ t : Fin cfg0.N, win0_1.index t = ![0, 0] := (by decide +kernel : ∀ t : Fin grid0.N, win0_1.index t = ![0, 0])
theorem e0_2 : ∀ t : Fin cfg0.N, win0_2.index t = ![0, 0] := (by decide +kernel : ∀ t : Fin grid0.N, win0_2.index t = ![0, 0])
theorem e0_3 : ∀ t : Fin cfg0.N, win0_3.index t = ![0, 0] := (by decide +kernel : ∀ t : Fin grid0.N, win0_3.index t = ![0, 0])
theorem e0_4 : ∀ t : Fin cfg0.N, win0_4.index t = ![t.val, 0] := (by decide +kernel : ∀ t : Fin grid0.N, win0_4.index t = ![t.val, 0])
theorem e1_0 : ∀ t : Fin cfg1.N, win1_0.index t = ![t.val, 0] := (by decide +kernel : ∀ t : Fin grid1.N, win1_0.index t = ![t.val, 0])
theorem e1_1 : ∀ t : Fin cfg1.N, win1_1.index t = ![0, 0] := (by decide +kernel : ∀ t : Fin grid1.N, win1_1.index t = ![0, 0])
theorem e1_2 : ∀ t : Fin cfg1.N, win1_2.index t = ![0, 0] := (by decide +kernel : ∀ t : Fin grid1.N, win1_2.index t = ![0, 0])
theorem e1_3 : ∀ t : Fin cfg1.N, win1_3.index t = ![0, 0] := (by decide +kernel : ∀ t : Fin grid1.N, win1_3.index t = ![0, 0])
theorem e1_4 : ∀ t : Fin cfg1.N, win1_4.index t = ![t.val + 16, 0] := (by decide +kernel : ∀ t : Fin grid1.N, win1_4.index t = ![t.val + 16, 0])

section
variable {V : (c : Dev nD) → (b : Ref sig .tc) → Buf (Elt Ideal) ((c : Thread nD τ).loc b)} {c : Dev nD} {X Y G S B S' B' : ℕ → ℕ → EReal}
  (hX : ∀ i : S4096x2048.Idx, V c main_arg0 i = X (i 0).val (i 1).val)
  (hY : ∀ i : S256x2048.Idx, V c main_arg1 i = Y (i 0).val (i 1).val)
  (hG : ∀ i : S1x2048.Idx, V c main_arg2 i = G (i 0).val (i 1).val)
  (hS : ∀ i : S1x2048.Idx, V c main_v1 i = one S (i 1).val)
  (hB : ∀ i : S1x2048.Idx, V c main_arg4 i = B (i 0).val (i 1).val)
  (hS' : ∀ i : S1x2048.Idx, V c main_v4 i = one S' (i 1).val)
  (hB' : ∀ i : S1x2048.Idx, V c main_arg6 i = B' (i 0).val (i 1).val)

include hX in
theorem blkX (t : Fin cfg0.N) (i : Fin 512) (j : Fin 2048) : iblk0 (F := Ideal) V c 0 t (ix2 i j) = X (512 * t.val + i.val) j.val := by
  blk_simp [iblk0, e0_0]
  refine (hX _).trans ?_
  congr 1
  · blk_simp [e0_0]
    show t.val * 512 + i.val = _
    omega
  · blk_simp [e0_0]

include hG in
theorem blkG (t : Fin cfg0.N) (j : Fin 2048) : iblk0 (F := Ideal) V c 1 t (ix2 0 j) = G 0 j.val := by
  blk_simp [iblk0, e0_1]
  refine (hG _).trans ?_
  congr 1
  blk_simp [e0_1]

include hS in
theorem blkS (t : Fin cfg0.N) (j : Fin 2048) : iblk0 (F := Ideal) V c 2 t (ix2 0 j) = one S j.val := by
  blk_simp [iblk0, e0_2]
  refine (hS _).trans ?_
  congr 1
  blk_simp [e0_2]

include hB in
theorem blkB (t : Fin cfg0.N) (j : Fin 2048) : iblk0 (F := Ideal) V c 3 t (ix2 0 j) = B 0 j.val := by
  blk_simp [iblk0, e0_3]
  refine (hB _).trans ?_
  congr 1
  blk_simp [e0_3]

include hY in
theorem blkY (t : Fin cfg1.N) (i : Fin 256) (j : Fin 2048) : iblk1 (F := Ideal) V c 0 t (ix2 i j) = Y (256 * t.val + i.val) j.val := by
  blk_simp [iblk1, e1_0]
  refine (hY _).trans ?_
  congr 1
  · blk_simp [e1_0]
    show i.val = 256 * 0 + i.val
    omega
  · blk_simp [e1_0]

include hG in
theorem blkG' (t : Fin cfg1.N) (j : Fin 2048) : iblk1 (F := Ideal) V c 1 t (ix2 0 j) = G 0 j.val := by
  blk_simp [iblk1, e1_1]
  refine (hG _).trans ?_
  congr 1
  blk_simp [e1_1]

include hS' in
theorem blkS' (t : Fin cfg1.N) (j : Fin 2048) : iblk1 (F := Ideal) V c 2 t (ix2 0 j) = one S' j.val := by
  blk_simp [iblk1, e1_2]
  refine (hS' _).trans ?_
  congr 1
  blk_simp [e1_2]

include hB' in
theorem blkB' (t : Fin cfg1.N) (j : Fin 2048) : iblk1 (F := Ideal) V c 3 t (ix2 0 j) = B' 0 j.val := by
  blk_simp [iblk1, e1_3]
  refine (hB' _).trans ?_
  congr 1
  blk_simp [e1_3]

include hX hG hS hB in
theorem blk_lat (t : Fin cfg0.N) (i : Fin 512) (j : Fin 2048) :
    k0_pay1 (F := Ideal) (iblk0 V c 0 t) (iblk0 V c 1 t) (iblk0 V c 2 t) (iblk0 V c 3 t) (ix2 i j) = modded X G S B (512 * t.val + i.val) j.val := by
  have hrow : (fun k : Fin 2048 => iblk0 (F := Ideal) V c 0 t (ix2 i k)) = rowOf X (512 * t.val + i.val) := funext fun k => blkX hX t i k
  refine (pay0 _ _ _ _ i j).trans ?_
  exact congrArg₂ (· + ·) (congrArg₂ (· * ·) (congrArg₂ (· * ·) (congrArg₂ (· * ·) (blkX hX t i j) (congrArg rs hrow)) (blkG hG t j)) (blkS hS t j)) (blkB hB t j)

include hY hG hS' hB' in
theorem blk_ctx (t : Fin cfg1.N) (i : Fin 256) (j : Fin 2048) :
    k1_pay1 (F := Ideal) (iblk1 V c 0 t) (iblk1 V c 1 t) (iblk1 V c 2 t) (iblk1 V c 3 t) (ix2 i j) = modded Y G S' B' (256 * t.val + i.val) j.val := by
  have hrow : (fun k : Fin 2048 => iblk1 (F := Ideal) V c 0 t (ix2 i k)) = rowOf Y (256 * t.val + i.val) := funext fun k => blkY hY t i k
  refine (pay1 _ _ _ _ i j).trans ?_
  exact congrArg₂ (· + ·) (congrArg₂ (· * ·) (congrArg₂ (· * ·) (congrArg₂ (· * ·) (blkY hY t i j) (congrArg rs hrow)) (blkG' hG t j)) (blkS' hS' t j)) (blkB' hB' t j)

include hX hG hS hB in
/-- The first call's array, on the latent rows. -/
theorem arr0 (i : S4352x2048.Idx) : (i 0).val < 4096 → (dat0 (F := Ideal) V c).arrAt 4 cfg0.N i = modded X G S B (i 0).val (i 1).val := by
  refine (dat0 V c).arrAt_forall_of_coversWhere 4 (fun i x => (i 0).val < 4096 → x = modded X G S B (i 0).val (i 1).val)
    (fun β => β (0 : Fin 2) < 8) (by decide +kernel) (fun t hf y => ?_) (fun j hj h => ?_) i (Memref.isWhole_whole _)
  · intro _
    have e0 : (((cfg0.win 4).blk t).view.emb y (0 : Fin 2)).val = win0_4.index t (0 : Fin 2) * 512 + (win0_4.xinj (grid0.coords t) y (0 : Fin 2)).val :=
      ValueKit.view_emb_slice_whole_unit_val main_v2 _ _ _ y (0 : Fin 2)
    have e1 : (((cfg0.win 4).blk t).view.emb y (1 : Fin 2)).val = win0_4.index t (1 : Fin 2) * 2048 + (win0_4.xinj (grid0.coords t) y (1 : Fin 2)).val :=
      ValueKit.view_emb_slice_whole_unit_val main_v2 _ _ _ y (1 : Fin 2)
    refine (eq_of_heq (cast_heq _ _)).trans ((congrFun (after0_4 V c t) (win0_4.xinj (grid0.coords t) y)).trans ?_)
    rw [e0, e1, e0_4, out0]
    generalize win0_4.xinj (grid0.coords t) y = z
    refine (congrArg (k0_pay1 (F := Ideal) (iblk0 V c 0 t) (iblk0 V c 1 t) (iblk0 V c 2 t) (iblk0 V c 3 t)) (eq_ix2 (n0 := 512) (n1 := 2048) z)).trans
      ((blk_lat hX hG hS hB t (z 0) (z 1)).trans ?_)
    show modded X G S B (512 * t.val + (z 0).val) (z 1).val = modded X G S B (t.val * 512 + (z 0).val) (0 * 2048 + (z 1).val)
    rw [Nat.mul_comm t.val 512, Nat.zero_mul, Nat.zero_add]
  · refine absurd ?_ hj
    have h' : (j (0 : Fin 2)).val < 4096 := h
    show (j (0 : Fin 2)).val / 512 < 8
    omega

include hY hG hS' hB' in
/-- The second call's array: its own rows at the end, the first call's before them. -/
theorem arr1 (h0 : ∀ i : S4352x2048.Idx, (i 0).val < 4096 → V c main_v5 i = modded X G S B (i 0).val (i 1).val) (i : S4352x2048.Idx) :
    (dat1 (F := Ideal) V c).arrAt 4 cfg1.N i = if (i 0).val < 4096 then modded X G S B (i 0).val (i 1).val else modded Y G S' B' ((i 0).val - 4096) (i 1).val := by
  refine (dat1 V c).arrAt_forall_of_coversWhere 4 (fun i x => x = if (i 0).val < 4096 then modded X G S B (i 0).val (i 1).val else modded Y G S' B' ((i 0).val - 4096) (i 1).val)
    (fun β => β (0 : Fin 2) = 16) (by decide +kernel) (fun t hf y => ?_) (fun j hj => ?_) i (Memref.isWhole_whole _)
  · have ht : t.val = 0 := Nat.lt_one_iff.mp (show t.val < 1 from t.isLt)
    have e0 : (((cfg1.win 4).blk t).view.emb y (0 : Fin 2)).val = win1_4.index t (0 : Fin 2) * 256 + (win1_4.xinj (grid1.coords t) y (0 : Fin 2)).val :=
      ValueKit.view_emb_slice_whole_unit_val main_v5 _ _ _ y (0 : Fin 2)
    have e1 : (((cfg1.win 4).blk t).view.emb y (1 : Fin 2)).val = win1_4.index t (1 : Fin 2) * 2048 + (win1_4.xinj (grid1.coords t) y (1 : Fin 2)).val :=
      ValueKit.view_emb_slice_whole_unit_val main_v5 _ _ _ y (1 : Fin 2)
    refine (eq_of_heq (cast_heq _ _)).trans ((congrFun (after1_4 V c t) (win1_4.xinj (grid1.coords t) y)).trans ?_)
    unfold outsAt1
    rw [e0, e1, e1_4, out1]
    generalize win1_4.xinj (grid1.coords t) y = z
    refine (congrArg (k1_pay1 (F := Ideal) (iblk1 V c 0 t) (iblk1 V c 1 t) (iblk1 V c 2 t) (iblk1 V c 3 t)) (eq_ix2 (n0 := 256) (n1 := 2048) z)).trans
      ((blk_ctx hY hG hS' hB' t (z 0) (z 1)).trans ?_)
    show modded Y G S' B' (256 * t.val + (z 0).val) (z 1).val = if (t.val + 16) * 256 + (z 0).val < 4096 then modded X G S B ((t.val + 16) * 256 + (z 0).val) (0 * 2048 + (z 1).val)
      else modded Y G S' B' ((t.val + 16) * 256 + (z 0).val - 4096) (0 * 2048 + (z 1).val)
    rw [if_neg (by omega), Nat.zero_mul, Nat.zero_add]
    exact congrArg (fun a => modded Y G S' B' a (z 1).val) (by omega)
  · have hl : (j (0 : Fin 2)).val < 4352 := (j (0 : Fin 2)).isLt
    have hz : (j (0 : Fin 2)).val < 4096 := by
      have hj' : ¬ (j (0 : Fin 2)).val / 256 = 16 := hj
      omega
    rw [A_eq1]
    exact (h0 j hz).trans (if_pos hz).symm

end

section
variable (m : (ℓ : Loc nD τ sig) → Buf (Elt Ideal) ℓ) (ρ : Dev nD → PrngReg) (c : Dev nD) (X Y G S B S' B' : ℕ → ℕ → EReal)
  (hX : ∀ i : S4096x2048.Idx, m ((c : Thread nD τ).loc main_arg0) i = X (i 0).val (i 1).val)
  (hY : ∀ i : S256x2048.Idx, m ((c : Thread nD τ).loc main_arg1) i = Y (i 0).val (i 1).val)
  (hG : ∀ i : S1x2048.Idx, m ((c : Thread nD τ).loc main_arg2) i = G (i 0).val (i 1).val)
  (hS : ∀ i : S1x2048.Idx, m ((c : Thread nD τ).loc main_arg3) i = S (i 0).val (i 1).val)
  (hB : ∀ i : S1x2048.Idx, m ((c : Thread nD τ).loc main_arg4) i = B (i 0).val (i 1).val)
  (hS' : ∀ i : S1x2048.Idx, m ((c : Thread nD τ).loc main_arg5) i = S' (i 0).val (i 1).val)
  (hB' : ∀ i : S1x2048.Idx, m ((c : Thread nD τ).loc main_arg6) i = B' (i 0).val (i 1).val)

/-- The host adds one to the latent scale. -/
theorem host_s : V1 (F := Ideal) m ρ c main_v1 = addf (F := Ideal) (broadcastInDim S1x2048 ![] bcast_S_S1x2048 (constant S_ .f32 0x3F800000#32)) (m ((c : Thread nD τ).loc main_arg3)) := by
  unfold V1 W1
  after_results

/-- The host adds one to the context's scale. -/
theorem host_s' : V3 (F := Ideal) m ρ c main_v4 = addf (F := Ideal) (broadcastInDim S1x2048 ![] bcast_S_S1x2048 (constant S_ .f32 0x3F800000#32)) (m ((c : Thread nD τ).loc main_arg5)) := by
  refine Eq.trans ?_ (congrArg (addf (F := Ideal) (φ := .f32) (broadcastInDim S1x2048 ![] bcast_S_S1x2048 (constant S_ .f32 0x3F800000#32))) (W2_args m ρ c main_arg5 (by decide)))
  unfold V3 W3
  after_results

/-- The host hands the second call the first one's array. -/
theorem host_v5 : V3 (F := Ideal) m ρ c main_v5 = V2 (F := Ideal) m ρ c main_v2 := by
  unfold V3 W3
  after_results
  rfl

include hS in
theorem host_s_apply (i : S1x2048.Idx) : V1 (F := Ideal) m ρ c main_v1 i = one S (i 1).val := by
  have h0 : (i 0).val = 0 := by have : (i 0).val < 1 := (i 0).isLt; omega
  rw [host_s]
  refine (congrArg (Ideal.ofBits .f32 0x3F800000#32 + ·) (hS i)).trans ?_
  rw [h0]
  rfl

include hS' in
theorem host_s'_apply (i : S1x2048.Idx) : V3 (F := Ideal) m ρ c main_v4 i = one S' (i 1).val := by
  have h0 : (i 0).val = 0 := by have : (i 0).val < 1 := (i 0).isLt; omega
  rw [host_s']
  refine (congrArg (Ideal.ofBits .f32 0x3F800000#32 + ·) (hS' i)).trans ?_
  rw [h0]
  rfl

include hX hY hG hS hB hS' hB' in
theorem end_norm (i : S4352x2048.Idx) : W4 (F := Ideal) m ρ c (Proc.devRef .tc main_v5) i
    = if (i 0).val < 4096 then modded X G S B (i 0).val (i 1).val else modded Y G S' B' ((i 0).val - 4096) (i 1).val :=
  (congrFun (W4_arr m ρ c 4) i).trans (arr1 (V := V3 m ρ)
    (fun i => (congrFun (W3_args m ρ c main_arg1 (by decide)) i).trans (hY i))
    (fun i => (congrFun (W3_args m ρ c main_arg2 (by decide)) i).trans (hG i))
    (host_s'_apply m ρ c S' hS')
    (fun i => (congrFun (W3_args m ρ c main_arg6 (by decide)) i).trans (hB' i))
    (fun i h => (congrFun ((host_v5 m ρ c).trans (W2_arr m ρ c 4)) i).trans (arr0 (V := V1 m ρ)
      (fun i => (congrFun (W1_args m ρ c main_arg0 (by decide)) i).trans (hX i))
      (fun i => (congrFun (W1_args m ρ c main_arg2 (by decide)) i).trans (hG i))
      (host_s_apply m ρ c S hS)
      (fun i => (congrFun (W1_args m ρ c main_arg4 (by decide)) i).trans (hB i)) i h)) i)

end

section
open Cert.NormFwdRefIdeal.Read
variable (x0 : Vec Ideal S4096x2048 .f32) (x1 : Vec Ideal S256x2048 .f32) (x2 x3 x4 x5 x6 : Vec Ideal S1x2048 .f32) (X Y G S B S' B' : ℕ → ℕ → EReal)
  (hX : ∀ i : S4096x2048.Idx, x0 i = X (i 0).val (i 1).val)
  (hY : ∀ i : S256x2048.Idx, x1 i = Y (i 0).val (i 1).val)
  (hG : ∀ i : S1x2048.Idx, x2 i = G (i 0).val (i 1).val)
  (hS : ∀ i : S1x2048.Idx, x3 i = S (i 0).val (i 1).val)
  (hB : ∀ i : S1x2048.Idx, x4 i = B (i 0).val (i 1).val)
  (hS' : ∀ i : S1x2048.Idx, x5 i = S' (i 0).val (i 1).val)
  (hB' : ∀ i : S1x2048.Idx, x6 i = B' (i 0).val (i 1).val)

include hX in
theorem ref_rs (i : Cert.NormFwdRefIdeal.S4096x1.Idx) : val_main_v7 (F := Ideal) x0 i = rs (rowOf X (i 0).val) := by
  rw [val_main_v7_apply, val_main_v6_apply, val_main_v4_apply, val_main_v2_apply, val_main_v3_apply, val_main_v5_apply, val_main_v1_apply, val_main_cst_0_apply, val_main_cst_1_apply, val_main_cst_apply]
  refine congrArg (fun z => Ideal.rsqrt (Ideal.div z cN + eps)) (((congrArg (· + _) word_zero).trans (zero_add _)).trans (Finset.sum_congr rfl fun k _ => ?_))
  exact congrArg₂ (· * ·) (hX _) (hX _)

include hY in
theorem ref_rs' (i : Cert.NormFwdRefIdeal.S256x1.Idx) : val_main_v25 (F := Ideal) x1 i = rs (rowOf Y (i 0).val) := by
  rw [val_main_v25_apply, val_main_v24_apply, val_main_v22_apply, val_main_v20_apply, val_main_v21_apply, val_main_v23_apply, val_main_v19_apply, val_main_cst_3_apply, val_main_cst_4_apply, val_main_cst_5_apply]
  refine congrArg (fun z => Ideal.rsqrt (Ideal.div z cN + eps)) (((congrArg (· + _) word_zero).trans (zero_add _)).trans (Finset.sum_congr rfl fun k _ => ?_))
  exact congrArg₂ (· * ·) (hY _) (hY _)

include hX hG hS hB in
theorem ref_lat (i : S4096x2048.Idx) : val_main_v17 (F := Ideal) x0 x2 x3 x4 i = modded X G S B (i 0).val (i 1).val := by
  rw [val_main_v17_apply, val_main_v15_apply, val_main_v16_apply, val_main_v14_apply, val_main_v13_apply, val_main_v12_apply, val_main_cst_2_apply,
    val_main_v11_apply, val_main_v10_apply, val_main_v9_apply, val_main_v8_apply, ref_rs x0 X hX, hX, hG, hS, hB]
  rfl

include hY hG hS' hB' in
theorem ref_ctx (i : S256x2048.Idx) : val_main_v35 (F := Ideal) x1 x2 x5 x6 i = modded Y G S' B' (i 0).val (i 1).val := by
  rw [val_main_v35_apply, val_main_v33_apply, val_main_v34_apply, val_main_v32_apply, val_main_v31_apply, val_main_v30_apply, val_main_cst_6_apply,
    val_main_v29_apply, val_main_v28_apply, val_main_v27_apply, val_main_v26_apply, ref_rs' x1 Y hY, hY, hG, hS', hB']
  rfl

include hX hY hG hS hB hS' hB' in
theorem ref_val (i : S4352x2048.Idx) : val_main_v37 (F := Ideal) x0 x1 x2 x3 x4 x5 x6 i
    = if (i 0).val < 4096 then modded X G S B (i 0).val (i 1).val else modded Y G S' B' ((i 0).val - 4096) (i 1).val := by
  have hl : (i (0 : Fin 2)).val < 4352 := (i (0 : Fin 2)).isLt
  rw [val_main_v37_apply]
  show val_main_v36 (F := Ideal) x0 x1 x2 x3 x4 x5 x6 i = _
  unfold val_main_v36
  by_cases h : (i (0 : Fin 2)).val < 4096
  · rw [if_pos h]
    exact (concatenate_pair_apply_left (t := S4352x2048) (s₁ := S4096x2048) (s₂ := S256x2048) 0 _ _ _ i rfl (ix2 (n0 := 4096) (n1 := 2048) ⟨(i 0).val, h⟩ (i 1))
      (fun b => by fin_cases b <;> rfl)).trans (ref_lat x0 x2 x3 x4 X G S B hX hG hS hB _)
  · rw [if_neg h]
    exact (concatenate_pair_apply_right (t := S4352x2048) (s₁ := S4096x2048) (s₂ := S256x2048) 0 _ _ _ i rfl rfl (ix2 (n0 := 256) (n1 := 2048) ⟨(i 0).val - 4096, by omega⟩ (i 1))
      (fun b hb => by
        fin_cases b
        · exact absurd rfl hb
        · rfl)
      (by show (i 0).val - 4096 + 4096 = (i 0).val; omega)).trans (ref_ctx x1 x2 x5 x6 Y G S' B' hY hG hS' hB' _)

end

theorem frame_ref : Cert.quiescent_NormFwdRefIdeal (hNormFwdRefIdeal := Cert.NormFwdRefIdeal.Gen.facts) := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

/-- The kernel's normalised and modulated rows are the reference's at every element, whatever the arguments hold. -/
theorem algebraic : Cert.algebraic_NormFwdIdeal_NormFwdRefIdeal (hNormFwdIdeal := Cert.NormFwdIdeal.Gen.facts) (hNormFwdRefIdeal := Cert.NormFwdRefIdeal.Gen.facts) := by
  intro m ρ m' ρ' _ hagree
  choose X hX using fun c : Dev nD => total2 (M := 4096) (K := 2048) (m ((c : Thread nD τ).loc main_arg0))
  choose Y hY using fun c : Dev nD => total2 (M := 256) (K := 2048) (m ((c : Thread nD τ).loc main_arg1))
  choose G hG using fun c : Dev nD => total2 (M := 1) (K := 2048) (m ((c : Thread nD τ).loc main_arg2))
  choose S hS using fun c : Dev nD => total2 (M := 1) (K := 2048) (m ((c : Thread nD τ).loc main_arg3))
  choose B hB using fun c : Dev nD => total2 (M := 1) (K := 2048) (m ((c : Thread nD τ).loc main_arg4))
  choose S' hS' using fun c : Dev nD => total2 (M := 1) (K := 2048) (m ((c : Thread nD τ).loc main_arg5))
  choose B' hB' using fun c : Dev nD => total2 (M := 1) (K := 2048) (m ((c : Thread nD τ).loc main_arg6))
  refine ⟨fun c => fun i : S4352x2048.Idx => (if (i 0).val < 4096 then modded (X c) (G c) (S c) (B c) (i 0).val (i 1).val
    else modded (Y c) (G c) (S' c) (B' c) ((i 0).val - 4096) (i 1).val : EReal), ?_, ?_⟩
  · exact (θ_run defs _ _).mono (fun r h c => ⟨(h c).1.trans (funext (end_norm m ρ c (X c) (Y c) (G c) (S c) (B c) (S' c) (B' c) (hX c) (hY c) (hG c) (hS c) (hB c) (hS' c) (hB' c))), (h c).2⟩)
      (run_results (F := Ideal) m ρ)
  · refine (θ_run Cert.NormFwdRefIdeal.defs _ _).mono (fun r h c => ?_) (Cert.NormFwdRefIdeal.Value.run (F := Ideal) m' ρ')
    obtain ⟨h0, ha⟩ := h c
    obtain ⟨a0, a1, a2, a3, a4, a5, a6⟩ := hagree c
    exact ⟨(h0.trans (Cert.NormFwdRefIdeal.Read.val_main_v37_eq _ _ _ _ _ _ _)).trans (funext fun i => ref_val _ _ _ _ _ _ _ (X c) (Y c) (G c) (S c) (B c) (S' c) (B' c)
      (fun i => (congrFun a0 i).trans (hX c i)) (fun i => (congrFun a1 i).trans (hY c i)) (fun i => (congrFun a2 i).trans (hG c i)) (fun i => (congrFun a3 i).trans (hS c i))
      (fun i => (congrFun a4 i).trans (hB c i)) (fun i => (congrFun a5 i).trans (hS' c i)) (fun i => (congrFun a6 i).trans (hB' c i)) i), ha⟩

end Cert.NormFwdVal

end
-- ==== Proof.ModRowsVal.lean ====
/- The modulation's SiLU rows and the conditioning's gradient, as the kernel computes them and as the reference states them. -/
module

public import proofs.«01_k».proof.Defs
public import proofs.«01_k».proof.Proof.Mm
public import proofs.«01_k».proof.Proof.Pre
public import proofs.«01_k».proof.Proof.Gen.ModRowsIdeal.Frame
public import proofs.«01_k».proof.Proof.Gen.ModRowsRefIdeal.Run
public import proofs.«01_k».proof.Proof.Gen.ModRowsRefIdeal.Read
public import Idealize.ShloMosaic.Lib.ValueLayout
public import Idealize.ShloMosaic.Lib.Tactic
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.ModRowsVal

open Cert.ModRowsIdeal Cert.ModRowsIdeal.Gen Cert.ModRowsIdeal.Facts Cert.Mm

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the run ends with the rows and the gradient at the last boundary's contents and the arguments unchanged. -/
theorem run_results : θ_run defs (onTc (τ := τ) (main (F := F))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v1_0 (by decide)), h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Run

open Idealize.ShloMosaic Idealize.ShloMosaic.TcCoe Idealize.SL.Sem Idealize.ShloMosaic.ValueIdx

/-! ## The logistic function and SiLU's derivative over the extended reals -/

/-- The word of one. -/
def u : EReal := Ideal.ofBits .f32 0x3F800000#32

theorem u_eq : u = ((1 : ℝ) : EReal) := Cert.Attn.ofBits_one

/-- The logistic function. -/
def sg (x : EReal) : EReal := Ideal.div u (u + Ideal.exp (-x))

theorem sg_top : sg ⊤ = 1 := by
  unfold sg
  rw [EReal.neg_top, show Ideal.exp ⊥ = 0 from rfl, add_zero, u_eq, Ideal.div_coe one_ne_zero, ← EReal.coe_mul, one_div_one, mul_one]
  rfl

theorem sg_bot : sg ⊥ = 0 := by
  unfold sg
  rw [EReal.neg_bot, show Ideal.exp ⊤ = ⊤ from rfl, u_eq, EReal.coe_add_top]
  unfold Ideal.div
  rw [if_neg EReal.top_ne_zero, EReal.inv_top, mul_zero]

theorem sg_real (r : ℝ) : ∃ s : ℝ, sg r = (s : EReal) := by
  refine ⟨1 / (1 + Real.exp (-r)), ?_⟩
  unfold sg
  rw [← EReal.coe_neg, show Ideal.exp ((-r : ℝ) : EReal) = ((Real.exp (-r) : ℝ) : EReal) from rfl, u_eq, ← EReal.coe_add]
  rw [Ideal.div_coe (by positivity), ← EReal.coe_mul, one_mul]

/-- SiLU's derivative at `c` times a real: the kernel's product is the two terms of the reference's backward pass. -/
theorem grad (p : ℝ) (c : EReal) : (p : EReal) * (sg c * (u + c * (u - sg c))) = p * sg c + (c * p) * (sg c * (u - sg c)) := by
  have h1 : ((1 : ℝ) : EReal) - 1 = 0 := by rw [← EReal.coe_one, ← EReal.coe_sub, sub_self, EReal.coe_zero]
  induction c using EReal.rec with
  | bot => rw [sg_bot, zero_mul, zero_mul, mul_zero, mul_zero, add_zero]
  | top => rw [sg_top, u_eq, h1, mul_zero, mul_zero, mul_zero, add_zero, add_zero, one_mul, EReal.coe_one]
  | coe r =>
    obtain ⟨s, hs⟩ := sg_real r
    rw [hs, u_eq]
    simp only [← EReal.coe_sub, ← EReal.coe_mul, ← EReal.coe_add]
    congr 1
    ring

/-- A real sum of four reals. -/
theorem sum_real (f : Fin 4 → EReal) (h : ∀ k, f k ≠ ⊤ ∧ f k ≠ ⊥) : ∃ p : ℝ, ∑ k, f k = (p : EReal) := by
  choose g hg using fun k => (⟨(f k).toReal, (EReal.coe_toReal (h k).1 (h k).2).symm⟩ : ∃ r : ℝ, f k = (r : EReal))
  refine ⟨g 0 + g 1 + g 2 + g 3, ?_⟩
  rw [Fin.sum_univ_four, hg, hg, hg, hg]
  simp only [← EReal.coe_add]

/-! ## The rows -/

/-- The operand's rows: the devices' SiLU rows, the context's, and zeros. -/
def row (X : ℕ → ℕ → EReal) (C : ℕ → EReal) (i j : ℕ) : EReal :=
  if i < 8 then X i j * sg (X i j) else if i = 8 then C j * sg (C j) else 0

theorem sg_kernel (x : EReal) : Ideal.div u (u + Ideal.exp (Ideal.ofBits .f32 0x00000000#32 - x)) = sg x := by
  rw [Ideal.ofBits_zero_f32, zero_sub]
  rfl

section
variable (x0 : Vec Ideal S8x2048 .f32) (x1 : Vec Ideal S1x2048 .f32) (X : ℕ → ℕ → EReal) (C : ℕ → EReal)
  (hX : ∀ i : S8x2048.Idx, x0 i = X (i 0).val (i 1).val) (hC : ∀ i : S1x2048.Idx, x1 i = C (i 1).val)

include hX hC in
theorem pay2 (i : Fin 16) (j : Fin 2048) : k0_pay2 (F := Ideal) x0 x1 (ix2 i j) = row X C i.val j.val := by
  unfold k0_pay2 row
  by_cases h : i.val < 8
  · rw [if_pos h]
    refine (concatenate_pair_apply_left (t := S16x2048) (s₁ := S8x2048) (s₂ := S8x2048) 0 _ _ _ (ix2 i j) rfl (ix2 (n0 := 8) ⟨i.val, h⟩ j) (fun b => by fin_cases b <;> rfl)).trans ?_
    refine congrArg₂ (· * ·) (hX _) ((sg_kernel _).trans (congrArg sg (hX _)))
  · rw [if_neg h]
    have h8 : i.val - 8 < 8 := by omega
    refine (concatenate_pair_apply_right (t := S16x2048) (s₁ := S8x2048) (s₂ := S8x2048) 0 _ _ _ (ix2 i j) rfl rfl (ix2 (n0 := 8) ⟨i.val - 8, h8⟩ j)
      (fun b hb => by fin_cases b <;> first | rfl | exact absurd rfl hb) (Nat.sub_add_cancel (Nat.le_of_not_lt h))).trans ?_
    rw [select_apply]
    have hc : cmpi .eq (iota .tc S8x2048 32 [0] iota_S8x2048_d0_w32) (broadcast S8x2048 0#32) (ix2 (n0 := 8) ⟨i.val - 8, h8⟩ j) = if i.val = 8 then 1#1 else 0#1 := by
      show BitVec.ofBool (BitVec.ofNat 32 (0 * 8 + (i.val - 8)) == 0#32) = _
      rw [zero_mul, zero_add]
      obtain ⟨i, hi⟩ := i
      interval_cases i <;> first | rfl | exact absurd (by decide) h
    rw [hc]
    by_cases h0 : i.val = 8
    · rw [if_pos h0, if_pos h0]
      refine (if_pos rfl).trans ((broadcastTo_1b_ab_apply (a := 8) (b := 2048) _ _ ⟨i.val - 8, h8⟩ j).trans ?_)
      rw [shapeCast_self]
      unfold k0_pay1
      rw [shapeCast_self]
      exact congrArg₂ (· * ·) (hC _) ((sg_kernel _).trans (congrArg sg (hC _)))
    · rw [if_neg h0, if_neg h0]
      exact Ideal.ofBits_zero_f32

include hC in
theorem pay3 (j : Fin 2048) : k0_pay3 (F := Ideal) x1 (ix2 0 j) = sg (C j.val) * (u + C j.val * (u - sg (C j.val))) := by
  unfold k0_pay3 k0_pay1
  rw [shapeCast_self]
  have e : Ideal.div u (u + Ideal.exp (Ideal.ofBits .f32 0x00000000#32 - x1 (ix2 0 j))) = sg (C j.val) := (sg_kernel _).trans (congrArg sg (hC _))
  exact congrArg₂ (· * ·) e (congrArg (u + ·) (congrArg₂ (· * ·) (hC _) (congrArg (u - ·) e)))

end

/-- The gradient's body: the sum of every second device's part, times the derivative. -/
theorem payg (x : Vec Ideal S8x8x2048 .f32) (d : Vec Ideal S1x2048 .f32) (j : Fin 2048) :
    k1_pay1 (F := Ideal) x d (ix2 0 j) = (∑ k : Fin 4, x (ix3 (n0 := 8) ⟨2 * k.val, by omega⟩ 0 j)) * d (ix2 0 j) := by
  have part (y : Vec Ideal S1x1x2048 .f32) : shapeCast S1x2048 y shapeCasts_S1x1x2048_S1x2048 (ix2 0 j) = y (ix3 0 0 j) :=
    shapeCast_1ab_ab_apply (a := 1) (b := 2048) y _ 0 j
  rw [Fin.sum_univ_four]
  unfold k1_pay1
  rw [shapeCast_self]
  refine congrArg (· * _) (congrArg₂ (· + ·) (congrArg₂ (· + ·) (congrArg₂ (· + ·) ?_ ?_) ?_) ?_) <;>
    refine (part _).trans ?_ <;> refine congrArg x (funext fun a => Fin.ext ?_) <;> fin_cases a <;> first | rfl | exact Nat.zero_add _

/-! ## The regions' arrays -/

theorem e0_0 : ∀ t : Fin cfg0.N, win0_0.index t = ![0, 0] := (by decide +kernel : ∀ t : Fin grid0.N, win0_0.index t = ![0, 0])
theorem e0_1 : ∀ t : Fin cfg0.N, win0_1.index t = ![0, 0] := (by decide +kernel : ∀ t : Fin grid0.N, win0_1.index t = ![0, 0])
theorem e0_2 : ∀ t : Fin cfg0.N, win0_2.index t = ![0, 0] := (by decide +kernel : ∀ t : Fin grid0.N, win0_2.index t = ![0, 0])
theorem e0_3 : ∀ t : Fin cfg0.N, win0_3.index t = ![0, 0] := (by decide +kernel : ∀ t : Fin grid0.N, win0_3.index t = ![0, 0])
theorem e1_0 : ∀ t : Fin cfg1.N, win1_0.index t = ![0, 0, 0] := (by decide +kernel : ∀ t : Fin grid1.N, win1_0.index t = ![0, 0, 0])
theorem e1_1 : ∀ t : Fin cfg1.N, win1_1.index t = ![0, 0] := (by decide +kernel : ∀ t : Fin grid1.N, win1_1.index t = ![0, 0])
theorem e1_2 : ∀ t : Fin cfg1.N, win1_2.index t = ![0, 0] := (by decide +kernel : ∀ t : Fin grid1.N, win1_2.index t = ![0, 0])

theorem out0_2_eq (x0 : Vec Ideal S8x2048 .f32) (x1 : Vec Ideal S1x2048 .f32) : out0_2 (F := Ideal) x0 x1 = k0_pay2 x0 x1 := by
  unfold out0_2
  rw [View.canon_unit_zero (S := S16x2048) hz2, View.ld_unit_zero (S := S8x2048) hz2, View.ld_unit_zero (S := S1x2048) hz2]

theorem out0_3_eq (x0 : Vec Ideal S8x2048 .f32) (x1 : Vec Ideal S1x2048 .f32) : out0_3 (F := Ideal) x0 x1 = k0_pay3 x1 := by
  unfold out0_3
  rw [View.canon_unit_zero (S := S1x2048) hz2, View.ld_unit_zero (S := S1x2048) hz2]

theorem out1_2_eq (x0 : Vec Ideal S8x8x2048 .f32) (x1 : Vec Ideal S1x2048 .f32) : out1_2 (F := Ideal) x0 x1 = k1_pay1 x0 x1 := by
  unfold out1_2
  rw [View.canon_unit_zero (S := S1x2048) hz2, View.ld_unit_zero (S := S8x8x2048) hz3, View.ld_unit_zero (S := S1x2048) hz2]

section
variable (V : (c : Dev nD) → (b : Ref sig .tc) → Buf (Elt Ideal) ((c : Thread nD τ).loc b)) (c : Dev nD)

/-- Each block is its whole array. -/
theorem blk0_0 (t : Fin cfg0.N) : iblk0 (F := Ideal) V c 0 t = V c main_arg0 := by
  refine funext fun i : S8x2048.Idx => ?_
  blk_simp [iblk0, e0_0]
  refine congrArg (V c main_arg0) (funext fun a => Fin.ext ?_)
  fin_cases a <;> blk_simp [e0_0] <;> rfl

theorem blk0_1 (t : Fin cfg0.N) : iblk0 (F := Ideal) V c 1 t = V c main_v0 := by
  refine funext fun i : S1x2048.Idx => ?_
  blk_simp [iblk0, e0_1]
  refine congrArg (V c main_v0) (funext fun a => Fin.ext ?_)
  fin_cases a <;> blk_simp [e0_1] <;> rfl

theorem blk1_0 (t : Fin cfg1.N) : iblk1 (F := Ideal) V c 0 t = V c main_arg2 := by
  refine funext fun i : S8x8x2048.Idx => ?_
  blk_simp [iblk1, e1_0]
  refine congrArg (V c main_arg2) (funext fun a => Fin.ext ?_)
  fin_cases a <;> blk_simp [e1_0] <;> rfl

theorem blk1_1 (t : Fin cfg1.N) : iblk1 (F := Ideal) V c 1 t = V c main_v1_1 := by
  refine funext fun i : S1x2048.Idx => ?_
  blk_simp [iblk1, e1_1]
  refine congrArg (V c main_v1_1) (funext fun a => Fin.ext ?_)
  fin_cases a <;> blk_simp [e1_1] <;> rfl

theorem arr2 : (dat0 (F := Ideal) V c).arrAt 2 cfg0.N = k0_pay2 (F := Ideal) (V c main_arg0) (V c main_v0) := by
  refine funext fun i => (dat0 V c).arrAt_forall_of_covers 2 (fun i x => x = k0_pay2 (F := Ideal) (V c main_arg0) (V c main_v0) i)
    (by decide +kernel) (fun t hf y => ?_) i (Memref.isWhole_whole _)
  blk_simp
  rw [after0_2, out0_2_eq, blk0_0, blk0_1]
  refine congrArg (k0_pay2 (F := Ideal) (V c main_arg0) (V c main_v0)) (funext fun a => Fin.ext ?_)
  fin_cases a <;> blk_simp [e0_2] <;> rfl

theorem arr3 : (dat0 (F := Ideal) V c).arrAt 3 cfg0.N = k0_pay3 (F := Ideal) (V c main_v0) := by
  refine funext fun i => (dat0 V c).arrAt_forall_of_covers 3 (fun i x => x = k0_pay3 (F := Ideal) (V c main_v0) i)
    (by decide +kernel) (fun t hf y => ?_) i (Memref.isWhole_whole _)
  blk_simp
  rw [after0_3, out0_3_eq, blk0_1]
  refine congrArg (k0_pay3 (F := Ideal) (V c main_v0)) (funext fun a => Fin.ext ?_)
  fin_cases a <;> blk_simp [e0_3] <;> rfl

theorem arrg : (dat1 (F := Ideal) V c).arrAt 2 cfg1.N = k1_pay1 (F := Ideal) (V c main_arg2) (V c main_v1_1) := by
  refine funext fun i => (dat1 V c).arrAt_forall_of_covers 2 (fun i x => x = k1_pay1 (F := Ideal) (V c main_arg2) (V c main_v1_1) i)
    (by decide +kernel) (fun t hf y => ?_) i (Memref.isWhole_whole _)
  blk_simp
  rw [after1_2, out1_2_eq, blk1_0, blk1_1]
  refine congrArg (k1_pay1 (F := Ideal) (V c main_arg2) (V c main_v1_1)) (funext fun a => Fin.ext ?_)
  fin_cases a <;> blk_simp [e1_2] <;> rfl

end

/-! ## The run's two results -/

section
variable (m : (ℓ : Loc nD τ sig) → Buf (Elt Ideal) ℓ) (ρ : Dev nD → PrngReg) (c : Dev nD) (X : ℕ → ℕ → EReal) (C : ℕ → EReal)
  (hX : ∀ i : S8x2048.Idx, m ((c : Thread nD τ).loc main_arg0) i = X (i 0).val (i 1).val)
  (hC : ∀ i : S2048.Idx, m ((c : Thread nD τ).loc main_arg1) i = C (i 0).val)

include hC in
/-- The context's conditioning as one row. -/
theorem host (i : S1x2048.Idx) : V1 (F := Ideal) m ρ c main_v0 i = C (i 1).val := by
  have h : V1 (F := Ideal) m ρ c main_v0 = broadcastInDim S1x2048 ![1] bcast_S2048_S1x2048_1 (m ((c : Thread nD τ).loc main_arg1)) := by
    unfold V1 W1
    after_results
  refine (congrFun h i).trans ((broadcastInDim_apply _ bcast_S2048_S1x2048_1 _ i (ix1 (i 1)) (fun a => ?_)).trans (hC _))
  fin_cases a
  exact (if_neg (by decide)).symm

include hX hC in
theorem end_rows : W3 (F := Ideal) m ρ c (Proc.devRef .tc main_v1_0) = fun i : S16x2048.Idx => row X C (i 0).val (i 1).val := by
  refine (W3_of m ρ c main_v1_0 (by decide +kernel)).trans ((W2_arr m ρ c 2).trans ((arr2 (V1 m ρ) c).trans (funext fun i : S16x2048.Idx => ?_)))
  refine (congrArg _ (eq_ix2 (n0 := 16) (n1 := 2048) i)).trans (pay2 _ _ X C (fun i => ?_) (host m ρ c C hC) (i 0) (i 1))
  exact (congrFun (W1_args m ρ c main_arg0 (by decide)) i).trans (hX i)

/-- The gradient: the parts' sum times SiLU's derivative. -/
def gr (x : Vec Ideal S8x8x2048 .f32) (C : ℕ → EReal) (j : Fin 2048) : EReal :=
  (∑ k : Fin 4, x (ix3 (n0 := 8) ⟨2 * k.val, by omega⟩ 0 j)) * (sg (C j.val) * (u + C j.val * (u - sg (C j.val))))

include hC in
theorem end_grad : W3 (F := Ideal) m ρ c (Proc.devRef .tc main_v2) = fun i : S1x2048.Idx => gr (m ((c : Thread nD τ).loc main_arg2)) C (i 1) := by
  refine (W3_arr m ρ c 2).trans ((arrg (V2 m ρ) c).trans (funext fun i : S1x2048.Idx => ?_))
  have hi : i = ix2 (n0 := 1) (n1 := 2048) 0 (i 1) := (eq_ix2 (n0 := 1) (n1 := 2048) i).trans (congrArg (fun z : Fin 1 => ix2 (n0 := 1) (n1 := 2048) z (i 1)) (Subsingleton.elim _ _))
  refine (congrArg _ hi).trans ((payg _ _ (i 1)).trans (congrArg₂ (· * ·) (Finset.sum_congr rfl fun k _ => ?_) ?_))
  · exact congrFun (W2_args m ρ c main_arg2 (by decide)) _
  · exact (congrFun ((W2_arr m ρ c 3).trans (arr3 (V1 m ρ) c)) _).trans (pay3 _ C (host m ρ c C hC) (i 1))

end

/-! ## The reference -/

section
open Cert.ModRowsRefIdeal.Read
variable (x0 : Vec Ideal S8x2048 .f32) (x1 : Vec Ideal S2048 .f32) (x2 : Vec Ideal S8x8x2048 .f32) (X : ℕ → ℕ → EReal) (C : ℕ → EReal)
  (hX : ∀ i : S8x2048.Idx, x0 i = X (i 0).val (i 1).val) (hC : ∀ i : S2048.Idx, x1 i = C (i 0).val)

include hX in
theorem ref_rows (i : S8x2048.Idx) : val_main_v1 (F := Ideal) x0 i = X (i 0).val (i 1).val * sg (X (i 0).val (i 1).val) := by
  rw [val_main_v1_apply, val_main_call1_v5_apply, val_main_call1_v4_apply, val_main_call1_v3_apply, val_main_call1_v2_apply, val_main_call1_v1_apply, val_main_call1_v0_apply, hX]
  rfl

include hC in
theorem ref_sg (i : S2048.Idx) : val_main_v0_2 (F := Ideal) x1 i = sg (C (i 0).val) := by
  rw [val_main_v0_2_apply, val_main_call0_v4_apply, val_main_call0_v3_apply, val_main_call0_v2_apply, val_main_call0_v1_apply, val_main_call0_v0_apply, hC]
  rfl

include hX hC in
theorem ref_operand (i : S16x2048.Idx) : val_main_v4 (F := Ideal) x0 x1 i = row X C (i 0).val (i 1).val := by
  have hi : (i 0).val < 16 := (i 0).isLt
  unfold val_main_v4 row
  by_cases h : (i 0).val < 8
  · rw [if_pos h]
    exact (concatenate_apply_piece (t := S16x2048) 0 _ _ i 0 (by show (0 : ℕ) < 3; decide) S8x2048 _ rfl rfl 0 rfl (ix2 (n0 := 8) ⟨(i 0).val, h⟩ (i 1))
      (fun b hb => by fin_cases b <;> first | rfl | exact absurd rfl hb) (Nat.zero_add _)).trans (ref_rows x0 X hX _)
  · rw [if_neg h]
    by_cases h8 : (i 0).val = 8
    · rw [if_pos h8]
      refine (concatenate_apply_piece (t := S16x2048) 0 _ _ i 1 (by show (1 : ℕ) < 3; decide) S1x2048 _ rfl rfl 8 rfl (ix2 (n0 := 1) 0 (i 1))
        (fun b hb => by fin_cases b <;> first | rfl | exact absurd rfl hb) h8.symm).trans ?_
      rw [val_main_v2_apply, val_main_v0_0_apply, ref_sg x1 C hC, hC]
      rfl
    · rw [if_neg h8]
      refine (concatenate_apply_piece (t := S16x2048) 0 _ _ i 2 (by show (2 : ℕ) < 3; decide) Cert.ModRowsRefIdeal.S7x2048 _ rfl rfl 9 rfl (ix2 (n0 := 7) ⟨(i 0).val - 9, by omega⟩ (i 1))
        (fun b hb => by fin_cases b <;> first | rfl | exact absurd rfl hb) (by show 9 + ((i 0).val - 9) = (i 0).val; omega)).trans ?_
      rw [val_main_v3_apply]
      exact Ideal.ofBits_zero_f32

/-- A part the reference sums: the one of every second device. -/
theorem ref_part (i : S2048.Idx) (k : Fin 4) : val_main_v6 (F := Ideal) x2 (idx_main_v7 i k) = x2 (ix3 (n0 := 8) (n1 := 8) (n2 := 2048) ⟨2 * k.val, by omega⟩ 0 (i 0)) := by
  have hk : k.val < 4 := k.isLt
  have hi : (i 0).val < 2048 := (i 0).isLt
  rw [val_main_v6_apply]
  unfold val_main_v5
  refine congrArg x2 (funext fun a => Fin.ext ?_)
  fin_cases a
  · show 0 + 2 * ((k.val * 2048 + (i 0).val) / 2048) = 2 * k.val
    omega
  · rfl
  · show 0 + 1 * ((k.val * 2048 + (i 0).val) % 2048) = (i 0).val
    omega

include hC in
theorem ref_grad (h : ∀ i : Cert.ModRowsRefIdeal.S4x2048.Idx, val_main_v6 (F := Ideal) x2 i ≠ ⊤ ∧ val_main_v6 (F := Ideal) x2 i ≠ ⊥) (i : S1x2048.Idx) :
    val_main_v9 (F := Ideal) x1 x2 i = gr x2 C (i 1) := by
  obtain ⟨p, hp⟩ := sum_real (fun k => val_main_v6 (F := Ideal) x2 (idx_main_v7 (idx_main_v9 i) k)) (fun k => h _)
  have h7 : val_main_v7 (F := Ideal) x2 (idx_main_v9 i) = (p : EReal) := by
    rw [val_main_v7_apply, hp]
    exact (congrArg (· + (p : EReal)) Ideal.ofBits_zero_f32).trans (zero_add _)
  have hs : (∑ k : Fin 4, x2 (ix3 (n0 := 8) (n1 := 8) (n2 := 2048) ⟨2 * k.val, by omega⟩ 0 (i 1))) = (p : EReal) :=
    (Finset.sum_congr rfl fun k _ => (ref_part x2 (idx_main_v9 i) k).symm).trans hp
  unfold gr
  rw [hs, grad]
  rw [val_main_v9_apply, val_main_v8_apply, val_main_call2_v1_apply, val_main_call2_v2_apply, val_main_call2_v0_apply, val_main_v0_1_apply, val_main_call0_v7_apply, val_main_call0_v6_apply, ref_sg x1 C hC, h7, hC]
  rfl

end

/-! ## The claim -/

/-- The predicate's side conditions. -/
theorem preFacts : Cert.Pre_parts_finite.Facts where
  slicesBy_S8x8x2048_S4x1x2048_0s2_0s1_0s1 := by decide
  shapeCasts_S4x1x2048_S4x2048 := by decide
  bcast_S_S4x2048 := by decide
  reducesTo_S4x2048_S_d0_1 := by decide
  h_S_ := by decide

instance : Subsingleton Cert.Pre_parts_finite.S_.Idx := ⟨fun _ _ => funext fun a => a.elim0⟩

/-- The parts the predicate admits are reals. -/
theorem pre_real [Cert.Pre_parts_finite.Facts] (x0 : FVec Ideal Cert.Pre_parts_finite.S8x2048 .f32) (x1 : FVec Ideal Cert.Pre_parts_finite.S2048 .f32)
    (x2 : FVec Ideal Cert.Pre_parts_finite.S8x8x2048 .f32) (h : Cert.Pre_parts_finite.fn (F := Ideal) x0 x1 x2 = fun _ => 1#1) (i : Cert.ModRowsRefIdeal.S4x2048.Idx) :
    Cert.ModRowsRefIdeal.Read.val_main_v6 (F := Ideal) x2 i ≠ ⊤ ∧ Cert.ModRowsRefIdeal.Read.val_main_v6 (F := Ideal) x2 i ≠ ⊥ :=
  Cert.Attn.real_of_olt _ (Host.reduce_andi_all _ _ _ _ _ (congrFun h (fun a => a.elim0)) i)

theorem frame_ref : Cert.quiescent_ModRowsRefIdeal (hModRowsRefIdeal := Cert.ModRowsRefIdeal.Gen.facts) := fun m ρ _ =>
  (θ_run Cert.ModRowsRefIdeal.defs _ _).mono (fun r h => ⟨fun c => (h c).2.2, sem_eq_zero_of_no_sems (by decide) r.2⟩)
    (Cert.ModRowsRefIdeal.Value.run (F := Ideal) m ρ)

/-- The kernel's rows and gradient and the reference's are the same, for real parts. -/
theorem algebraic : Cert.algebraic_ModRowsIdeal_ModRowsRefIdeal_pre_parts_finite (hModRowsIdeal := Cert.ModRowsIdeal.Gen.facts)
    (hModRowsRefIdeal := Cert.ModRowsRefIdeal.Gen.facts) (hPre_parts_finite := preFacts) := by
  intro m ρ m' ρ' hpre hagree
  choose X hX using fun c : Dev nD => total2 (M := 8) (K := 2048) (m ((c : Thread nD τ).loc main_arg0))
  have hC1 : ∀ c : Dev nD, ∃ C : ℕ → EReal, ∀ i : S2048.Idx, m ((c : Thread nD τ).loc main_arg1) i = C (i 0).val := fun c =>
    (total2 (M := 1) (K := 2048) (fun i => m ((c : Thread nD τ).loc main_arg1) (ix1 (i 1)))).elim fun B hB =>
      ⟨B 0, fun i => (congrArg (m ((c : Thread nD τ).loc main_arg1)) (eq_ix1 (n := 2048) i)).trans (hB (ix2 0 (i 0)))⟩
  choose C hC using hC1
  refine ⟨fun c => fun i : S16x2048.Idx => (row (X c) (C c) (i 0).val (i 1).val : EReal),
    fun c => fun i : S1x2048.Idx => (gr (m ((c : Thread nD τ).loc main_arg2)) (C c) (i 1) : EReal), ?_, ?_⟩
  · exact (θ_run defs _ _).mono (fun r h c => ⟨(h c).1.trans (end_rows m ρ c (X c) (C c) (hX c) (hC c)),
      (h c).2.1.trans (end_grad m ρ c (C c) (hC c)), (h c).2.2⟩) (run_results (F := Ideal) m ρ)
  · refine (θ_run Cert.ModRowsRefIdeal.defs _ _).mono (fun r h c => ?_) (Cert.ModRowsRefIdeal.Value.run (F := Ideal) m' ρ')
    obtain ⟨h0, h1, ha⟩ := h c
    obtain ⟨a0, a1, a2⟩ := hagree c
    refine ⟨(h0.trans (Cert.ModRowsRefIdeal.Read.val_main_v4_eq _ _)).trans (funext fun i => ref_operand _ _ (X c) (C c)
        (fun i => (congrFun a0 i).trans (hX c i)) (fun i => (congrFun a1 i).trans (hC c i)) i),
      (h1.trans (Cert.ModRowsRefIdeal.Read.val_main_v9_eq _ _)).trans (funext fun i => ?_), ha⟩
    refine (congrArg (fun z => Cert.ModRowsRefIdeal.Read.val_main_v9 (F := Ideal) _ z i) a2).trans ?_
    exact ref_grad _ _ (C c) (fun i => (congrFun a1 i).trans (hC c i)) (@pre_real preFacts _ _ _ (hpre c)) i

end Cert.ModRowsVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.FfnOutIdeal.Value
public import proofs.«01_k».proof.Proof.Gen.FfnOutDw
public import proofs.«01_k».proof.Proof.Gen.FfnOutDw.Skeleton
public import proofs.«01_k».proof.Proof.Gen.FfnOutDw.Launch
public import proofs.«01_k».proof.Proof.Gen.FfnOutDw.Points
public import proofs.«01_k».proof.Proof.Gen.FfnOutDw.Frame
public import proofs.«01_k».proof.Proof.Gen.FfnOutDwIdeal
public import proofs.«01_k».proof.Proof.Gen.FfnOutDwIdeal.Skeleton
public import proofs.«01_k».proof.Proof.Gen.FfnOutDwIdeal.Launch
public import proofs.«01_k».proof.Proof.Gen.FfnOutDwIdeal.Points
public import proofs.«01_k».proof.Proof.Gen.FfnOutDwIdeal.Frame
public import proofs.«01_k».proof.Proof.Gen.FfnOutDwRefIdeal
public import proofs.«01_k».proof.Proof.Gen.FfnOutDwRefIdeal.Run
public import proofs.«01_k».proof.Proof.Gen.FfnOutDwRefIdeal.Read
public import proofs.«01_k».proof.Proof.Gen.FfnOutDwIdeal.Value
public import proofs.«01_k».proof.Proof.Gen.FfnInDw
public import proofs.«01_k».proof.Proof.Gen.FfnInDw.Skeleton
public import proofs.«01_k».proof.Proof.Gen.FfnInDw.Launch
public import proofs.«01_k».proof.Proof.Gen.FfnInDw.Points
public import proofs.«01_k».proof.Proof.Gen.FfnInDw.Frame
public import proofs.«01_k».proof.Proof.Gen.FfnInDwIdeal
public import proofs.«01_k».proof.Proof.Gen.FfnInDwIdeal.Skeleton
public import proofs.«01_k».proof.Proof.Gen.FfnInDwIdeal.Launch
public import proofs.«01_k».proof.Proof.Gen.FfnInDwIdeal.Points
public import proofs.«01_k».proof.Proof.Gen.FfnInDwIdeal.Frame
public import proofs.«01_k».proof.Proof.Gen.FfnInDwRefIdeal
public import proofs.«01_k».proof.Proof.Gen.FfnInDwRefIdeal.Run
public import proofs.«01_k».proof.Proof.Gen.FfnInDwRefIdeal.Read
public import proofs.«01_k».proof.Proof.Gen.FfnInDwIdeal.Value
public import proofs.«01_k».proof.Proof.Gen.FfnInDx
public import proofs.«01_k».proof.Proof.Gen.FfnInDx.Skeleton
public import proofs.«01_k».proof.Proof.Gen.FfnInDx.Launch
public import proofs.«01_k».proof.Proof.Gen.FfnInDx.Points
public import proofs.«01_k».proof.Proof.Gen.FfnInDx.Frame
public import proofs.«01_k».proof.Proof.Gen.FfnInDxIdeal
public import proofs.«01_k».proof.Proof.Gen.FfnInDxIdeal.Skeleton
public import proofs.«01_k».proof.Proof.Gen.FfnInDxIdeal.Launch
public import proofs.«01_k».proof.Proof.Gen.FfnInDxIdeal.Points
public import proofs.«01_k».proof.Proof.Gen.FfnInDxIdeal.Frame
public import proofs.«01_k».proof.Proof.Gen.FfnInDxRefIdeal
public import proofs.«01_k».proof.Proof.Gen.FfnInDxRefIdeal.Run
public import proofs.«01_k».proof.Proof.Gen.FfnInDxRefIdeal.Read
public import proofs.«01_k».proof.Proof.Gen.FfnInDxIdeal.Value
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixOutIdeal.Value
public import proofs.«01_k».proof.Proof.Gen.MixOutDx
public import proofs.«01_k».proof.Proof.Gen.MixOutDx.Skeleton
public import proofs.«01_k».proof.Proof.Gen.MixOutDx.Launch
public import proofs.«01_k».proof.Proof.Gen.MixOutDx.Points
public import proofs.«01_k».proof.Proof.Gen.MixOutDx.Frame
public import proofs.«01_k».proof.Proof.Gen.MixOutDxIdeal
public import proofs.«01_k».proof.Proof.Gen.MixOutDxIdeal.Skeleton
public import proofs.«01_k».proof.Proof.Gen.MixOutDxIdeal.Launch
public import proofs.«01_k».proof.Proof.Gen.MixOutDxIdeal.Points
public import proofs.«01_k».proof.Proof.Gen.MixOutDxIdeal.Frame
public import proofs.«01_k».proof.Proof.Gen.MixOutDxRefIdeal
public import proofs.«01_k».proof.Proof.Gen.MixOutDxRefIdeal.Run
public import proofs.«01_k».proof.Proof.Gen.MixOutDxRefIdeal.Read
public import proofs.«01_k».proof.Proof.Gen.MixOutDxIdeal.Value
public import proofs.«01_k».proof.Proof.Gen.MixOutDw
public import proofs.«01_k».proof.Proof.Gen.MixOutDw.Skeleton
public import proofs.«01_k».proof.Proof.Gen.MixOutDw.Launch
public import proofs.«01_k».proof.Proof.Gen.MixOutDw.Points
public import proofs.«01_k».proof.Proof.Gen.MixOutDw.Frame
public import proofs.«01_k».proof.Proof.Gen.MixOutDwIdeal
public import proofs.«01_k».proof.Proof.Gen.MixOutDwIdeal.Skeleton
public import proofs.«01_k».proof.Proof.Gen.MixOutDwIdeal.Launch
public import proofs.«01_k».proof.Proof.Gen.MixOutDwIdeal.Points
public import proofs.«01_k».proof.Proof.Gen.MixOutDwIdeal.Frame
public import proofs.«01_k».proof.Proof.Gen.MixOutDwRefIdeal
public import proofs.«01_k».proof.Proof.Gen.MixOutDwRefIdeal.Run
public import proofs.«01_k».proof.Proof.Gen.MixOutDwRefIdeal.Read
public import proofs.«01_k».proof.Proof.Gen.MixOutDwIdeal.Value
public import proofs.«01_k».proof.Proof.Gen.GmIn
public import proofs.«01_k».proof.Proof.Gen.GmIn.Skeleton
public import proofs.«01_k».proof.Proof.Gen.GmIn.Launch
public import proofs.«01_k».proof.Proof.Gen.GmIn.Points
public import proofs.«01_k».proof.Proof.Gen.GmIn.Frame
public import proofs.«01_k».proof.Proof.Gen.GmInIdeal
public import proofs.«01_k».proof.Proof.Gen.GmInIdeal.Skeleton
public import proofs.«01_k».proof.Proof.Gen.GmInIdeal.Launch
public import proofs.«01_k».proof.Proof.Gen.GmInIdeal.Points
public import proofs.«01_k».proof.Proof.Gen.GmInIdeal.Frame
public import proofs.«01_k».proof.Proof.Gen.GmInRefIdeal
public import proofs.«01_k».proof.Proof.Gen.GmInRefIdeal.Run
public import proofs.«01_k».proof.Proof.Gen.GmInRefIdeal.Read
public import proofs.«01_k».proof.Proof.Gen.GmInIdeal.Value
public import proofs.«01_k».proof.Proof.Gen.GmInDw
public import proofs.«01_k».proof.Proof.Gen.GmInDw.Skeleton
public import proofs.«01_k».proof.Proof.Gen.GmInDw.Launch
public import proofs.«01_k».proof.Proof.Gen.GmInDw.Points
public import proofs.«01_k».proof.Proof.Gen.GmInDw.Frame
public import proofs.«01_k».proof.Proof.Gen.GmInDwIdeal
public import proofs.«01_k».proof.Proof.Gen.GmInDwIdeal.Skeleton
public import proofs.«01_k».proof.Proof.Gen.GmInDwIdeal.Launch
public import proofs.«01_k».proof.Proof.Gen.GmInDwIdeal.Points
public import proofs.«01_k».proof.Proof.Gen.GmInDwIdeal.Frame
public import proofs.«01_k».proof.Proof.Gen.GmInDwRefIdeal
public import proofs.«01_k».proof.Proof.Gen.GmInDwRefIdeal.Run
public import proofs.«01_k».proof.Proof.Gen.GmInDwRefIdeal.Read
public import proofs.«01_k».proof.Proof.Gen.GmInDwIdeal.Value
public import proofs.«01_k».proof.Proof.Gen.GmInDx
public import proofs.«01_k».proof.Proof.Gen.GmInDx.Skeleton
public import proofs.«01_k».proof.Proof.Gen.GmInDx.Launch
public import proofs.«01_k».proof.Proof.Gen.GmInDx.Points
public import proofs.«01_k».proof.Proof.Gen.GmInDx.Frame
public import proofs.«01_k».proof.Proof.Gen.GmInDxIdeal
public import proofs.«01_k».proof.Proof.Gen.GmInDxIdeal.Skeleton
public import proofs.«01_k».proof.Proof.Gen.GmInDxIdeal.Launch
public import proofs.«01_k».proof.Proof.Gen.GmInDxIdeal.Points
public import proofs.«01_k».proof.Proof.Gen.GmInDxIdeal.Frame
public import proofs.«01_k».proof.Proof.Gen.GmInDxRefIdeal
public import proofs.«01_k».proof.Proof.Gen.GmInDxRefIdeal.Run
public import proofs.«01_k».proof.Proof.Gen.GmInDxRefIdeal.Read
public import proofs.«01_k».proof.Proof.Gen.GmInDxIdeal.Value
public import proofs.«01_k».proof.Proof.Gen.ArInLat
public import proofs.«01_k».proof.Proof.Gen.ArInLat.Skeleton
public import proofs.«01_k».proof.Proof.Gen.ArInLat.Launch
public import proofs.«01_k».proof.Proof.Gen.ArInLat.Points
public import proofs.«01_k».proof.Proof.Gen.ArInLat.Frame
public import proofs.«01_k».proof.Proof.Gen.ArInLatIdeal
public import proofs.«01_k».proof.Proof.Gen.ArInLatIdeal.Skeleton
public import proofs.«01_k».proof.Proof.Gen.ArInLatIdeal.Launch
public import proofs.«01_k».proof.Proof.Gen.ArInLatIdeal.Points
public import proofs.«01_k».proof.Proof.Gen.ArInLatIdeal.Frame
public import proofs.«01_k».proof.Proof.Gen.ArInLatRefIdeal
public import proofs.«01_k».proof.Proof.Gen.ArInLatRefIdeal.Run
public import proofs.«01_k».proof.Proof.Gen.ArInLatRefIdeal.Read
public import proofs.«01_k».proof.Proof.Gen.ArInLatIdeal.Value
public import proofs.«01_k».proof.Proof.Gen.ArInCtx
public import proofs.«01_k».proof.Proof.Gen.ArInCtx.Skeleton
public import proofs.«01_k».proof.Proof.Gen.ArInCtx.Launch
public import proofs.«01_k».proof.Proof.Gen.ArInCtx.Points
public import proofs.«01_k».proof.Proof.Gen.ArInCtx.Frame
public import proofs.«01_k».proof.Proof.Gen.ArInCtxIdeal
public import proofs.«01_k».proof.Proof.Gen.ArInCtxIdeal.Skeleton
public import proofs.«01_k».proof.Proof.Gen.ArInCtxIdeal.Launch
public import proofs.«01_k».proof.Proof.Gen.ArInCtxIdeal.Points
public import proofs.«01_k».proof.Proof.Gen.ArInCtxIdeal.Frame
public import proofs.«01_k».proof.Proof.Gen.ArInCtxRefIdeal
public import proofs.«01_k».proof.Proof.Gen.ArInCtxRefIdeal.Run
public import proofs.«01_k».proof.Proof.Gen.ArInCtxRefIdeal.Read
public import proofs.«01_k».proof.Proof.Gen.ArInCtxIdeal.Value
public import proofs.«01_k».proof.Proof.Gen.ArInDw
public import proofs.«01_k».proof.Proof.Gen.ArInDw.Skeleton
public import proofs.«01_k».proof.Proof.Gen.ArInDw.Launch
public import proofs.«01_k».proof.Proof.Gen.ArInDw.Points
public import proofs.«01_k».proof.Proof.Gen.ArInDw.Frame
public import proofs.«01_k».proof.Proof.Gen.ArInDwIdeal
public import proofs.«01_k».proof.Proof.Gen.ArInDwIdeal.Skeleton
public import proofs.«01_k».proof.Proof.Gen.ArInDwIdeal.Launch
public import proofs.«01_k».proof.Proof.Gen.ArInDwIdeal.Points
public import proofs.«01_k».proof.Proof.Gen.ArInDwIdeal.Frame
public import proofs.«01_k».proof.Proof.Gen.ArInDwRefIdeal
public import proofs.«01_k».proof.Proof.Gen.ArInDwRefIdeal.Run
public import proofs.«01_k».proof.Proof.Gen.ArInDwRefIdeal.Read
public import proofs.«01_k».proof.Proof.Gen.ArInDwIdeal.Value
public import proofs.«01_k».proof.Proof.Gen.ArInDxLat
public import proofs.«01_k».proof.Proof.Gen.ArInDxLat.Skeleton
public import proofs.«01_k».proof.Proof.Gen.ArInDxLat.Launch
public import proofs.«01_k».proof.Proof.Gen.ArInDxLat.Points
public import proofs.«01_k».proof.Proof.Gen.ArInDxLat.Frame
public import proofs.«01_k».proof.Proof.Gen.ArInDxLatIdeal
public import proofs.«01_k».proof.Proof.Gen.ArInDxLatIdeal.Skeleton
public import proofs.«01_k».proof.Proof.Gen.ArInDxLatIdeal.Launch
public import proofs.«01_k».proof.Proof.Gen.ArInDxLatIdeal.Points
public import proofs.«01_k».proof.Proof.Gen.ArInDxLatIdeal.Frame
public import proofs.«01_k».proof.Proof.Gen.ArInDxLatRefIdeal
public import proofs.«01_k».proof.Proof.Gen.ArInDxLatRefIdeal.Run
public import proofs.«01_k».proof.Proof.Gen.ArInDxLatRefIdeal.Read
public import proofs.«01_k».proof.Proof.Gen.ArInDxLatIdeal.Value
public import proofs.«01_k».proof.Proof.Gen.ArInDxCtx
public import proofs.«01_k».proof.Proof.Gen.ArInDxCtx.Skeleton
public import proofs.«01_k».proof.Proof.Gen.ArInDxCtx.Launch
public import proofs.«01_k».proof.Proof.Gen.ArInDxCtx.Points
public import proofs.«01_k».proof.Proof.Gen.ArInDxCtx.Frame
public import proofs.«01_k».proof.Proof.Gen.ArInDxCtxIdeal
public import proofs.«01_k».proof.Proof.Gen.ArInDxCtxIdeal.Skeleton
public import proofs.«01_k».proof.Proof.Gen.ArInDxCtxIdeal.Launch
public import proofs.«01_k».proof.Proof.Gen.ArInDxCtxIdeal.Points
public import proofs.«01_k».proof.Proof.Gen.ArInDxCtxIdeal.Frame
public import proofs.«01_k».proof.Proof.Gen.ArInDxCtxRefIdeal
public import proofs.«01_k».proof.Proof.Gen.ArInDxCtxRefIdeal.Run
public import proofs.«01_k».proof.Proof.Gen.ArInDxCtxRefIdeal.Read
public import proofs.«01_k».proof.Proof.Gen.ArInDxCtxIdeal.Value
public import proofs.«01_k».proof.Proof.Gen.ModBwd
public import proofs.«01_k».proof.Proof.Gen.ModBwd.Skeleton
public import proofs.«01_k».proof.Proof.Gen.ModBwd.Launch
public import proofs.«01_k».proof.Proof.Gen.ModBwd.Points
public import proofs.«01_k».proof.Proof.Gen.ModBwd.Frame
public import proofs.«01_k».proof.Proof.Gen.ModBwdIdeal
public import proofs.«01_k».proof.Proof.Gen.ModBwdIdeal.Skeleton
public import proofs.«01_k».proof.Proof.Gen.ModBwdIdeal.Launch
public import proofs.«01_k».proof.Proof.Gen.ModBwdIdeal.Points
public import proofs.«01_k».proof.Proof.Gen.ModBwdIdeal.Frame
public import proofs.«01_k».proof.Proof.Gen.ModBwdIdeal.Value
public import proofs.«01_k».proof.Proof.Gen.ModBwdRefIdeal
public import proofs.«01_k».proof.Proof.Gen.ModBwdRefIdeal.Run
public import proofs.«01_k».proof.Proof.Gen.ModBwdRefIdeal.Read
public import proofs.«01_k».proof.Proof.Gen.AdamFf
public import proofs.«01_k».proof.Proof.Gen.AdamFf.Skeleton
public import proofs.«01_k».proof.Proof.Gen.AdamFf.Launch
public import proofs.«01_k».proof.Proof.Gen.AdamFf.Points
public import proofs.«01_k».proof.Proof.Gen.AdamFf.Frame
public import proofs.«01_k».proof.Proof.Gen.AdamFfIdeal
public import proofs.«01_k».proof.Proof.Gen.AdamFfIdeal.Skeleton
public import proofs.«01_k».proof.Proof.Gen.AdamFfIdeal.Launch
public import proofs.«01_k».proof.Proof.Gen.AdamFfIdeal.Points
public import proofs.«01_k».proof.Proof.Gen.AdamFfIdeal.Frame
public import proofs.«01_k».proof.Proof.Gen.AdamFfIdeal.Value
public import proofs.«01_k».proof.Proof.Gen.AdamFfRefIdeal
public import proofs.«01_k».proof.Proof.Gen.AdamFfRefIdeal.Run
public import proofs.«01_k».proof.Proof.Gen.AdamFfRefIdeal.Read
public import proofs.«01_k».proof.Proof.Gen.AdamMod
public import proofs.«01_k».proof.Proof.Gen.AdamMod.Skeleton
public import proofs.«01_k».proof.Proof.Gen.AdamMod.Launch
public import proofs.«01_k».proof.Proof.Gen.AdamMod.Points
public import proofs.«01_k».proof.Proof.Gen.AdamMod.Frame
public import proofs.«01_k».proof.Proof.Gen.AdamModIdeal
public import proofs.«01_k».proof.Proof.Gen.AdamModIdeal.Skeleton
public import proofs.«01_k».proof.Proof.Gen.AdamModIdeal.Launch
public import proofs.«01_k».proof.Proof.Gen.AdamModIdeal.Points
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Run
public import proofs.«01_k».proof.Proof.Gen.AdamModRefIdeal.Read
public import proofs.«01_k».proof.Proof.Gen.AdamCtx
public import proofs.«01_k».proof.Proof.Gen.AdamCtx.Skeleton
public import proofs.«01_k».proof.Proof.Gen.AdamCtx.Launch
public import proofs.«01_k».proof.Proof.Gen.AdamCtx.Points
public import proofs.«01_k».proof.Proof.Gen.AdamCtx.Frame
public import proofs.«01_k».proof.Proof.Gen.AdamCtxIdeal
public import proofs.«01_k».proof.Proof.Gen.AdamCtxIdeal.Skeleton
public import proofs.«01_k».proof.Proof.Gen.AdamCtxIdeal.Launch
public import proofs.«01_k».proof.Proof.Gen.AdamCtxIdeal.Points
public import proofs.«01_k».proof.Proof.Gen.AdamCtxIdeal.Frame
public import proofs.«01_k».proof.Proof.Gen.AdamCtxIdeal.Value
public import proofs.«01_k».proof.Proof.Gen.AdamCtxRefIdeal
public import proofs.«01_k».proof.Proof.Gen.AdamCtxRefIdeal.Run
public import proofs.«01_k».proof.Proof.Gen.AdamCtxRefIdeal.Read
public import proofs.«01_k».proof.Proof.Gen.AdamBMod
public import proofs.«01_k».proof.Proof.Gen.AdamBMod.Skeleton
public import proofs.«01_k».proof.Proof.Gen.AdamBMod.Launch
public import proofs.«01_k».proof.Proof.Gen.AdamBMod.Points
public import proofs.«01_k».proof.Proof.Gen.AdamBMod.Frame
public import proofs.«01_k».proof.Proof.Gen.AdamBModIdeal
public import proofs.«01_k».proof.Proof.Gen.AdamBModIdeal.Skeleton
public import proofs.«01_k».proof.Proof.Gen.AdamBModIdeal.Launch
public import proofs.«01_k».proof.Proof.Gen.AdamBModIdeal.Points
public import proofs.«01_k».proof.Proof.Gen.AdamBModIdeal.Frame
public import proofs.«01_k».proof.Proof.Gen.AdamBModIdeal.Value
public import proofs.«01_k».proof.Proof.Gen.AdamBModRefIdeal
public import proofs.«01_k».proof.Proof.Gen.AdamBModRefIdeal.Run
public import proofs.«01_k».proof.Proof.Gen.AdamBModRefIdeal.Read
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormRefIdeal
public import proofs.«01_k».proof.Proof.Gen.AdamNormRefIdeal.Run
public import proofs.«01_k».proof.Proof.Gen.AdamNormRefIdeal.Read
public import proofs.«01_k».proof.Proof.Gen.AdamArIn
public import proofs.«01_k».proof.Proof.Gen.AdamArIn.Skeleton
public import proofs.«01_k».proof.Proof.Gen.AdamArIn.Launch
public import proofs.«01_k».proof.Proof.Gen.AdamArIn.Points
public import proofs.«01_k».proof.Proof.Gen.AdamArIn.Frame
public import proofs.«01_k».proof.Proof.Gen.AdamArInIdeal
public import proofs.«01_k».proof.Proof.Gen.AdamArInIdeal.Skeleton
public import proofs.«01_k».proof.Proof.Gen.AdamArInIdeal.Launch
public import proofs.«01_k».proof.Proof.Gen.AdamArInIdeal.Points
public import proofs.«01_k».proof.Proof.Gen.AdamArInIdeal.Frame
public import proofs.«01_k».proof.Proof.Gen.AdamArInIdeal.Value
public import proofs.«01_k».proof.Proof.Gen.AdamArInRefIdeal
public import proofs.«01_k».proof.Proof.Gen.AdamArInRefIdeal.Run
public import proofs.«01_k».proof.Proof.Gen.AdamArInRefIdeal.Read
public import proofs.«01_k».proof.Proof.Gen.AdamHead
public import proofs.«01_k».proof.Proof.Gen.AdamHead.Skeleton
public import proofs.«01_k».proof.Proof.Gen.AdamHead.Launch
public import proofs.«01_k».proof.Proof.Gen.AdamHead.Points
public import proofs.«01_k».proof.Proof.Gen.AdamHead.Frame
public import proofs.«01_k».proof.Proof.Gen.AdamHeadIdeal
public import proofs.«01_k».proof.Proof.Gen.AdamHeadIdeal.Skeleton
public import proofs.«01_k».proof.Proof.Gen.AdamHeadIdeal.Launch
public import proofs.«01_k».proof.Proof.Gen.AdamHeadIdeal.Points
public import proofs.«01_k».proof.Proof.Gen.AdamHeadIdeal.Frame
public import proofs.«01_k».proof.Proof.Gen.AdamHeadIdeal.Value
public import proofs.«01_k».proof.Proof.Gen.AdamHeadRefIdeal
public import proofs.«01_k».proof.Proof.Gen.AdamHeadRefIdeal.Run
public import proofs.«01_k».proof.Proof.Gen.AdamHeadRefIdeal.Read
public import proofs.«01_k».proof.Proof.Gen.AdamConvW
public import proofs.«01_k».proof.Proof.Gen.AdamConvW.Skeleton
public import proofs.«01_k».proof.Proof.Gen.AdamConvW.Launch
public import proofs.«01_k».proof.Proof.Gen.AdamConvW.Points
public import proofs.«01_k».proof.Proof.Gen.AdamConvW.Frame
public import proofs.«01_k».proof.Proof.Gen.AdamConvWIdeal
public import proofs.«01_k».proof.Proof.Gen.AdamConvWIdeal.Skeleton
public import proofs.«01_k».proof.Proof.Gen.AdamConvWIdeal.Launch
public import proofs.«01_k».proof.Proof.Gen.AdamConvWIdeal.Points
public import proofs.«01_k».proof.Proof.Gen.AdamConvWIdeal.Frame
public import proofs.«01_k».proof.Proof.Gen.AdamConvWIdeal.Value
public import proofs.«01_k».proof.Proof.Gen.AdamConvWRefIdeal
public import proofs.«01_k».proof.Proof.Gen.AdamConvWRefIdeal.Run
public import proofs.«01_k».proof.Proof.Gen.AdamConvWRefIdeal.Read
public import proofs.«01_k».proof.Proof.Gen.AdamRow
public import proofs.«01_k».proof.Proof.Gen.AdamRow.Skeleton
public import proofs.«01_k».proof.Proof.Gen.AdamRow.Launch
public import proofs.«01_k».proof.Proof.Gen.AdamRow.Points
public import proofs.«01_k».proof.Proof.Gen.AdamRow.Frame
public import proofs.«01_k».proof.Proof.Gen.AdamRowIdeal
public import proofs.«01_k».proof.Proof.Gen.AdamRowIdeal.Skeleton
public import proofs.«01_k».proof.Proof.Gen.AdamRowIdeal.Launch
public import proofs.«01_k».proof.Proof.Gen.AdamRowIdeal.Points
public import proofs.«01_k».proof.Proof.Gen.AdamRowIdeal.Frame
public import proofs.«01_k».proof.Proof.Gen.AdamRowIdeal.Value
public import proofs.«01_k».proof.Proof.Gen.AdamRowRefIdeal
public import proofs.«01_k».proof.Proof.Gen.AdamRowRefIdeal.Run
public import proofs.«01_k».proof.Proof.Gen.AdamRowRefIdeal.Read
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasIdeal.Value
public import proofs.«01_k».proof.Proof.Gen.AdamBiasRefIdeal
public import proofs.«01_k».proof.Proof.Gen.AdamBiasRefIdeal.Run
public import proofs.«01_k».proof.Proof.Gen.AdamBiasRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamGmIn
public import proofs.«01_k».proof.Proof.Gen.AdamGmIn.Skeleton
public import proofs.«01_k».proof.Proof.Gen.AdamGmIn.Launch
public import proofs.«01_k».proof.Proof.Gen.AdamGmIn.Points
public import proofs.«01_k».proof.Proof.Gen.AdamGmIn.Frame
public import proofs.«01_k».proof.Proof.Gen.AdamGmInIdeal
public import proofs.«01_k».proof.Proof.Gen.AdamGmInIdeal.Skeleton
public import proofs.«01_k».proof.Proof.Gen.AdamGmInIdeal.Launch
public import proofs.«01_k».proof.Proof.Gen.AdamGmInIdeal.Points
public import proofs.«01_k».proof.Proof.Gen.AdamGmInIdeal.Frame
public import proofs.«01_k».proof.Proof.Gen.AdamGmInIdeal.Value
public import proofs.«01_k».proof.Proof.Gen.AdamGmInRefIdeal
public import proofs.«01_k».proof.Proof.Gen.AdamGmInRefIdeal.Run
public import proofs.«01_k».proof.Proof.Gen.AdamGmInRefIdeal.Read
public import proofs.«01_k».proof.Proof.Gen.AdamGain
public import proofs.«01_k».proof.Proof.Gen.AdamGain.Skeleton
public import proofs.«01_k».proof.Proof.Gen.AdamGain.Launch
public import proofs.«01_k».proof.Proof.Gen.AdamGain.Points
public import proofs.«01_k».proof.Proof.Gen.AdamGain.Frame
public import proofs.«01_k».proof.Proof.Gen.AdamGainIdeal
public import proofs.«01_k».proof.Proof.Gen.AdamGainIdeal.Skeleton
public import proofs.«01_k».proof.Proof.Gen.AdamGainIdeal.Launch
public import proofs.«01_k».proof.Proof.Gen.AdamGainIdeal.Points
public import proofs.«01_k».proof.Proof.Gen.AdamGainIdeal.Frame
public import proofs.«01_k».proof.Proof.Gen.AdamGainIdeal.Value
public import proofs.«01_k».proof.Proof.Gen.AdamGainRefIdeal
public import proofs.«01_k».proof.Proof.Gen.AdamGainRefIdeal.Run
public import proofs.«01_k».proof.Proof.Gen.AdamGainRefIdeal.Read
public import proofs.«01_k».proof.Proof.Gen.AdamSp
public import proofs.«01_k».proof.Proof.Gen.AdamSp.Skeleton
public import proofs.«01_k».proof.Proof.Gen.AdamSp.Launch
public import proofs.«01_k».proof.Proof.Gen.AdamSp.Points
public import proofs.«01_k».proof.Proof.Gen.AdamSp.Frame
public import proofs.«01_k».proof.Proof.Gen.AdamSpIdeal
public import proofs.«01_k».proof.Proof.Gen.AdamSpIdeal.Skeleton
public import proofs.«01_k».proof.Proof.Gen.AdamSpIdeal.Launch
public import proofs.«01_k».proof.Proof.Gen.AdamSpIdeal.Points
public import proofs.«01_k».proof.Proof.Gen.AdamSpIdeal.Frame
public import proofs.«01_k».proof.Proof.Gen.AdamSpIdeal.Value
public import proofs.«01_k».proof.Proof.Gen.AdamSpRefIdeal
public import proofs.«01_k».proof.Proof.Gen.AdamSpRefIdeal.Run
public import proofs.«01_k».proof.Proof.Gen.AdamSpRefIdeal.Read
public import proofs.«01_k».proof.Proof.Gen.ModFwd
public import proofs.«01_k».proof.Proof.Gen.ModFwd.Skeleton
public import proofs.«01_k».proof.Proof.Gen.ModFwd.Launch
public import proofs.«01_k».proof.Proof.Gen.ModFwd.Points
public import proofs.«01_k».proof.Proof.Gen.ModFwd.Frame
public import proofs.«01_k».proof.Proof.Gen.ModFwdIdeal
public import proofs.«01_k».proof.Proof.Gen.ModFwdIdeal.Skeleton
public import proofs.«01_k».proof.Proof.Gen.ModFwdIdeal.Launch
public import proofs.«01_k».proof.Proof.Gen.ModFwdIdeal.Points
public import proofs.«01_k».proof.Proof.Gen.ModFwdIdeal.Frame
public import proofs.«01_k».proof.Proof.Gen.ModFwdRefIdeal
public import proofs.«01_k».proof.Proof.Gen.ModFwdRefIdeal.Run
public import proofs.«01_k».proof.Proof.Gen.ModFwdRefIdeal.Read
public import proofs.«01_k».proof.Proof.Gen.ModDw
public import proofs.«01_k».proof.Proof.Gen.ModDw.Skeleton
public import proofs.«01_k».proof.Proof.Gen.ModDw.Launch
public import proofs.«01_k».proof.Proof.Gen.ModDw.Points
public import proofs.«01_k».proof.Proof.Gen.ModDw.Frame
public import proofs.«01_k».proof.Proof.Gen.ModDwIdeal
public import proofs.«01_k».proof.Proof.Gen.ModDwIdeal.Skeleton
public import proofs.«01_k».proof.Proof.Gen.ModDwIdeal.Launch
public import proofs.«01_k».proof.Proof.Gen.ModDwIdeal.Points
public import proofs.«01_k».proof.Proof.Gen.ModDwIdeal.Frame
public import proofs.«01_k».proof.Proof.Gen.ModDwRefIdeal
public import proofs.«01_k».proof.Proof.Gen.ModDwRefIdeal.Run
public import proofs.«01_k».proof.Proof.Gen.ModDwRefIdeal.Read
public import proofs.«01_k».proof.Proof.Gen.ModDs
public import proofs.«01_k».proof.Proof.Gen.ModDs.Skeleton
public import proofs.«01_k».proof.Proof.Gen.ModDs.Launch
public import proofs.«01_k».proof.Proof.Gen.ModDs.Points
public import proofs.«01_k».proof.Proof.Gen.ModDs.Frame
public import proofs.«01_k».proof.Proof.Gen.ModDsIdeal
public import proofs.«01_k».proof.Proof.Gen.ModDsIdeal.Skeleton
public import proofs.«01_k».proof.Proof.Gen.ModDsIdeal.Launch
public import proofs.«01_k».proof.Proof.Gen.ModDsIdeal.Points
public import proofs.«01_k».proof.Proof.Gen.ModDsIdeal.Frame
public import proofs.«01_k».proof.Proof.Gen.ModDsIdeal.Value
public import proofs.«01_k».proof.Proof.Gen.ModDsRefIdeal
public import proofs.«01_k».proof.Proof.Gen.ModDsRefIdeal.Run
public import proofs.«01_k».proof.Proof.Gen.ModDsRefIdeal.Read
public import proofs.«01_k».proof.Proof.Gen.SmallSums
public import proofs.«01_k».proof.Proof.Gen.SmallSums.Skeleton
public import proofs.«01_k».proof.Proof.Gen.SmallSums.Launch
public import proofs.«01_k».proof.Proof.Gen.SmallSums.Points
public import proofs.«01_k».proof.Proof.Gen.SmallSums.Frame
public import proofs.«01_k».proof.Proof.Gen.SmallSumsIdeal
public import proofs.«01_k».proof.Proof.Gen.SmallSumsIdeal.Skeleton
public import proofs.«01_k».proof.Proof.Gen.SmallSumsIdeal.Launch
public import proofs.«01_k».proof.Proof.Gen.SmallSumsIdeal.Points
public import proofs.«01_k».proof.Proof.Gen.SmallSumsIdeal.Frame
public import proofs.«01_k».proof.Proof.Gen.SmallSumsRefIdeal
public import proofs.«01_k».proof.Proof.Gen.SmallSumsRefIdeal.Run
public import proofs.«01_k».proof.Proof.Gen.SmallSumsRefIdeal.Read
public import proofs.«01_k».proof.Proof.Gen.GateSums
public import proofs.«01_k».proof.Proof.Gen.GateSums.Skeleton
public import proofs.«01_k».proof.Proof.Gen.GateSums.Launch
public import proofs.«01_k».proof.Proof.Gen.GateSums.Points
public import proofs.«01_k».proof.Proof.Gen.GateSums.Frame
public import proofs.«01_k».proof.Proof.Gen.GateSumsIdeal
public import proofs.«01_k».proof.Proof.Gen.GateSumsIdeal.Skeleton
public import proofs.«01_k».proof.Proof.Gen.GateSumsIdeal.Launch
public import proofs.«01_k».proof.Proof.Gen.GateSumsIdeal.Points
public import proofs.«01_k».proof.Proof.Gen.GateSumsIdeal.Frame
public import proofs.«01_k».proof.Proof.Gen.GateSumsRefIdeal
public import proofs.«01_k».proof.Proof.Gen.GateSumsRefIdeal.Run
public import proofs.«01_k».proof.Proof.Gen.GateSumsRefIdeal.Read
public import proofs.«01_k».proof.Proof.Gen.ResMod
public import proofs.«01_k».proof.Proof.Gen.ResMod.Skeleton
public import proofs.«01_k».proof.Proof.Gen.ResMod.Launch
public import proofs.«01_k».proof.Proof.Gen.ResMod.Points
public import proofs.«01_k».proof.Proof.Gen.ResMod.Frame
public import proofs.«01_k».proof.Proof.Gen.ResModIdeal
public import proofs.«01_k».proof.Proof.Gen.ResModIdeal.Skeleton
public import proofs.«01_k».proof.Proof.Gen.ResModIdeal.Launch
public import proofs.«01_k».proof.Proof.Gen.ResModIdeal.Points
public import proofs.«01_k».proof.Proof.Gen.ResModIdeal.Frame
public import proofs.«01_k».proof.Proof.Gen.ResModIdeal.Value
public import proofs.«01_k».proof.Proof.Gen.ResModRefIdeal
public import proofs.«01_k».proof.Proof.Gen.ResModRefIdeal.Run
public import proofs.«01_k».proof.Proof.Gen.ResModRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.ModRows
public import proofs.«01_k».proof.Proof.Gen.ModRows.Skeleton
public import proofs.«01_k».proof.Proof.Gen.ModRows.Launch
public import proofs.«01_k».proof.Proof.Gen.ModRows.Points
public import proofs.«01_k».proof.Proof.Gen.ModRows.Frame
public import proofs.«01_k».proof.Proof.Gen.ModRowsIdeal
public import proofs.«01_k».proof.Proof.Gen.ModRowsIdeal.Skeleton
public import proofs.«01_k».proof.Proof.Gen.ModRowsIdeal.Launch
public import proofs.«01_k».proof.Proof.Gen.ModRowsIdeal.Points
public import proofs.«01_k».proof.Proof.Gen.ModRowsIdeal.Frame
public import proofs.«01_k».proof.Proof.Gen.ModRowsRefIdeal
public import proofs.«01_k».proof.Proof.Gen.ModRowsRefIdeal.Run
public import proofs.«01_k».proof.Proof.Gen.ModRowsRefIdeal.Read
public import proofs.«01_k».proof.Proof.Pre
public import proofs.«01_k».proof.Proof.KernelRun
public import proofs.«01_k».proof.Proof.RefVal
public import proofs.«01_k».proof.Proof.FfnVal
public import proofs.«01_k».proof.Proof.FfnOutVal
public import proofs.«01_k».proof.Proof.FfnOutDwVal
public import proofs.«01_k».proof.Proof.FfnInDwVal
public import proofs.«01_k».proof.Proof.FfnInDxVal
public import proofs.«01_k».proof.Proof.MixOutVal
public import proofs.«01_k».proof.Proof.MixOutDxVal
public import proofs.«01_k».proof.Proof.MixOutDwVal
public import proofs.«01_k».proof.Proof.GmInVal
public import proofs.«01_k».proof.Proof.GmInDwVal
public import proofs.«01_k».proof.Proof.GmInDxVal
public import proofs.«01_k».proof.Proof.ArInLatVal
public import proofs.«01_k».proof.Proof.ArInCtxVal
public import proofs.«01_k».proof.Proof.ArInDwVal
public import proofs.«01_k».proof.Proof.ArInDxLatVal
public import proofs.«01_k».proof.Proof.ModBwdVal
public import proofs.«01_k».proof.Proof.AdamVal
public import proofs.«01_k».proof.Proof.AdamBigVal
public import proofs.«01_k».proof.Proof.ArInDxCtxVal
public import proofs.«01_k».proof.Proof.ModFwdVal
public import proofs.«01_k».proof.Proof.ModDwVal
public import proofs.«01_k».proof.Proof.ModDsVal
public import proofs.«01_k».proof.Proof.SmallSumsVal
public import proofs.«01_k».proof.Proof.GateSumsVal
public import proofs.«01_k».proof.Proof.NormRow
public import proofs.«01_k».proof.Proof.ResModVal
public import proofs.«01_k».proof.Proof.NormFwdVal
public import proofs.«01_k».proof.Proof.ModRowsVal
public import Idealize.ShloMosaic.Adequacy
public import Idealize.ShloMosaic.Init

@[expose] public section

noncomputable section

namespace Cert.Proof

open Idealize.ShloMosaic Idealize.SL.Sem Cert.Attn

/-- The reference ends with its arguments unchanged and no semaphore counted. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two named constants are the words the kernel was printed with. -/
theorem preserves : Cert.preserves_Kernel_KernelIdeal :=
  ⟨IdealRules.named_const.statement Cert.KernelIdeal.κ "scale_log2e" .f32 0x3E0293EE#32 _ rfl,
    IdealRules.named_const.statement Cert.KernelIdeal.κ "log2e" .f32 0x3FB8AA3B#32 _ rfl⟩

/-- The kernel's three gradients are the reference's. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  have hr := fun c => @pre_real preFacts _ _ _ _ (hpre c)
  choose q hq using fun c => (hr c).1
  choose k hk using fun c => (hr c).2.1
  choose v hv using fun c => (hr c).2.2.1
  choose g hg using fun c => (hr c).2.2.2
  refine ⟨fun c => fun i : Cert.KernelIdeal.S4096x1024.Idx => ((dqR (q c) (k c) (v c) (g c) (i 0) (i 1) : ℝ) : EReal),
    fun c => fun i : Cert.KernelIdeal.S4352x256.Idx => ((dkR (q c) (k c) (v c) (g c) (i 0) (i 1) : ℝ) : EReal),
    fun c => fun i : Cert.KernelIdeal.S4352x256.Idx => ((dvR (q c) (k c) (g c) (i 0) (i 1) : ℝ) : EReal), ?_, ?_⟩
  · exact (θ_run Cert.KernelIdeal.defs _ _).mono (fun r h c => ⟨funext (h c).1, funext (h c).2.1, funext (h c).2.2.1, (h c).2.2.2⟩)
      (run_grads m ρ q k v g hq hk hv hg)
  · refine (θ_run Cert.ReferenceIdeal.defs _ _).mono (fun r h c => ?_) (Cert.ReferenceIdeal.Value.run (F := Ideal) m' ρ')
    obtain ⟨h0, h1, h2, ha⟩ := h c
    obtain ⟨a0, a1, a2, a3⟩ := hagree c
    have hq' := fun i => (congrFun a0 i).trans (hq c i)
    have hk' := fun i => (congrFun a1 i).trans (hk c i)
    have hv' := fun i => (congrFun a2 i).trans (hv c i)
    have hg' := fun i => (congrFun a3 i).trans (hg c i)
    exact ⟨(h0.trans (Cert.ReferenceIdeal.Read.val_main_v73_eq m' c)).trans (funext fun i => Ref.dq_val hq' hk' hv' hg' i),
      (h1.trans (Cert.ReferenceIdeal.Read.val_main_v72_eq m' c)).trans (funext fun i => Ref.dk_val hq' hk' hv' hg' i),
      (h2.trans (Cert.ReferenceIdeal.Read.val_main_v71_eq m' c)).trans (funext fun i => Ref.dv_val hq' hk' hg' i), ha⟩

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.FfnOut.Gen.facts, Cert.FfnOutIdeal.Gen.facts, Cert.FfnOutRefIdeal.Gen.facts, Cert.FfnOutDw.Gen.facts, Cert.FfnOutDwIdeal.Gen.facts, Cert.FfnOutDwRefIdeal.Gen.facts, Cert.FfnInDw.Gen.facts, Cert.FfnInDwIdeal.Gen.facts, Cert.FfnInDwRefIdeal.Gen.facts, Cert.FfnInDx.Gen.facts, Cert.FfnInDxIdeal.Gen.facts, Cert.FfnInDxRefIdeal.Gen.facts, Cert.MixOut.Gen.facts, Cert.MixOutIdeal.Gen.facts, Cert.MixOutRefIdeal.Gen.facts, Cert.MixOutDx.Gen.facts, Cert.MixOutDxIdeal.Gen.facts, Cert.MixOutDxRefIdeal.Gen.facts, Cert.MixOutDw.Gen.facts, Cert.MixOutDwIdeal.Gen.facts, Cert.MixOutDwRefIdeal.Gen.facts, Cert.GmIn.Gen.facts, Cert.GmInIdeal.Gen.facts, Cert.GmInRefIdeal.Gen.facts, Cert.GmInDw.Gen.facts, Cert.GmInDwIdeal.Gen.facts, Cert.GmInDwRefIdeal.Gen.facts, Cert.GmInDx.Gen.facts, Cert.GmInDxIdeal.Gen.facts, Cert.GmInDxRefIdeal.Gen.facts, Cert.ArInLat.Gen.facts, Cert.ArInLatIdeal.Gen.facts, Cert.ArInLatRefIdeal.Gen.facts, Cert.ArInCtx.Gen.facts, Cert.ArInCtxIdeal.Gen.facts, Cert.ArInCtxRefIdeal.Gen.facts, Cert.ArInDw.Gen.facts, Cert.ArInDwIdeal.Gen.facts, Cert.ArInDwRefIdeal.Gen.facts, Cert.ArInDxLat.Gen.facts, Cert.ArInDxLatIdeal.Gen.facts, Cert.ArInDxLatRefIdeal.Gen.facts, Cert.ArInDxCtx.Gen.facts, Cert.ArInDxCtxIdeal.Gen.facts, Cert.ArInDxCtxRefIdeal.Gen.facts, Cert.ModBwd.Gen.facts, Cert.ModBwdIdeal.Gen.facts, Cert.ModBwdRefIdeal.Gen.facts, Cert.AdamFf.Gen.facts, Cert.AdamFfIdeal.Gen.facts, Cert.AdamFfRefIdeal.Gen.facts,
  Cert.AdamMod.Gen.facts, Cert.AdamModIdeal.Gen.facts, Cert.AdamModRefIdeal.Gen.facts,
  Cert.AdamCtx.Gen.facts, Cert.AdamCtxIdeal.Gen.facts, Cert.AdamCtxRefIdeal.Gen.facts,
  Cert.AdamBMod.Gen.facts, Cert.AdamBModIdeal.Gen.facts, Cert.AdamBModRefIdeal.Gen.facts,
  Cert.AdamNorm.Gen.facts, Cert.AdamNormIdeal.Gen.facts, Cert.AdamNormRefIdeal.Gen.facts,
  Cert.AdamArIn.Gen.facts, Cert.AdamArInIdeal.Gen.facts, Cert.AdamArInRefIdeal.Gen.facts,
  Cert.AdamHead.Gen.facts, Cert.AdamHeadIdeal.Gen.facts, Cert.AdamHeadRefIdeal.Gen.facts,
  Cert.AdamConvW.Gen.facts, Cert.AdamConvWIdeal.Gen.facts, Cert.AdamConvWRefIdeal.Gen.facts,
  Cert.AdamRow.Gen.facts, Cert.AdamRowIdeal.Gen.facts, Cert.AdamRowRefIdeal.Gen.facts,
  Cert.AdamGate.Gen.facts, Cert.AdamGateIdeal.Gen.facts, Cert.AdamGateRefIdeal.Gen.facts,
  Cert.AdamBias.Gen.facts, Cert.AdamBiasIdeal.Gen.facts, Cert.AdamBiasRefIdeal.Gen.facts,
  Cert.AdamOut.Gen.facts, Cert.AdamOutIdeal.Gen.facts, Cert.AdamOutRefIdeal.Gen.facts,
  Cert.AdamGmIn.Gen.facts, Cert.AdamGmInIdeal.Gen.facts, Cert.AdamGmInRefIdeal.Gen.facts,
  Cert.AdamGain.Gen.facts, Cert.AdamGainIdeal.Gen.facts, Cert.AdamGainRefIdeal.Gen.facts,
  Cert.AdamSp.Gen.facts, Cert.AdamSpIdeal.Gen.facts, Cert.AdamSpRefIdeal.Gen.facts,
  Cert.ModFwd.Gen.facts, Cert.ModFwdIdeal.Gen.facts, Cert.ModFwdRefIdeal.Gen.facts,
    Cert.ModDw.Gen.facts, Cert.ModDwIdeal.Gen.facts, Cert.ModDwRefIdeal.Gen.facts,
    Cert.ModDs.Gen.facts, Cert.ModDsIdeal.Gen.facts, Cert.ModDsRefIdeal.Gen.facts,
    Cert.SmallSums.Gen.facts, Cert.SmallSumsIdeal.Gen.facts, Cert.SmallSumsRefIdeal.Gen.facts,
    Cert.GateSums.Gen.facts, Cert.GateSumsIdeal.Gen.facts, Cert.GateSumsRefIdeal.Gen.facts,
    Cert.ResMod.Gen.facts, Cert.ResModIdeal.Gen.facts, Cert.ResModRefIdeal.Gen.facts,
    Cert.NormFwd.Gen.facts, Cert.NormFwdIdeal.Gen.facts, Cert.NormFwdRefIdeal.Gen.facts,
    Cert.ModRows.Gen.facts, Cert.ModRowsIdeal.Gen.facts, Cert.ModRowsRefIdeal.Gen.facts,
    preFacts, Cert.ModRowsVal.preFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Ffn.Gen.frame m ρ, fun m ρ _ => Cert.FfnIdeal.Gen.frame m ρ, Cert.FfnVal.frame_ref,
  fun m ρ _ => Cert.FfnOut.Gen.frame m ρ, fun m ρ _ => Cert.FfnOutIdeal.Gen.frame m ρ, Cert.FfnOutVal.frame_ref,
  fun m ρ _ => Cert.FfnOutDw.Gen.frame m ρ, fun m ρ _ => Cert.FfnOutDwIdeal.Gen.frame m ρ, Cert.FfnOutDwVal.frame_ref,
  fun m ρ _ => Cert.FfnInDw.Gen.frame m ρ, fun m ρ _ => Cert.FfnInDwIdeal.Gen.frame m ρ, Cert.FfnInDwVal.frame_ref,
  fun m ρ _ => Cert.FfnInDx.Gen.frame m ρ, fun m ρ _ => Cert.FfnInDxIdeal.Gen.frame m ρ, Cert.FfnInDxVal.frame_ref,
  fun m ρ _ => Cert.MixOut.Gen.frame m ρ, fun m ρ _ => Cert.MixOutIdeal.Gen.frame m ρ, Cert.MixOutVal.frame_ref,
  fun m ρ _ => Cert.MixOutDx.Gen.frame m ρ, fun m ρ _ => Cert.MixOutDxIdeal.Gen.frame m ρ, Cert.MixOutDxVal.frame_ref,
  fun m ρ _ => Cert.MixOutDw.Gen.frame m ρ, fun m ρ _ => Cert.MixOutDwIdeal.Gen.frame m ρ, Cert.MixOutDwVal.frame_ref,
  fun m ρ _ => Cert.GmIn.Gen.frame m ρ, fun m ρ _ => Cert.GmInIdeal.Gen.frame m ρ, Cert.GmInVal.frame_ref,
  fun m ρ _ => Cert.GmInDw.Gen.frame m ρ, fun m ρ _ => Cert.GmInDwIdeal.Gen.frame m ρ, Cert.GmInDwVal.frame_ref,
  fun m ρ _ => Cert.GmInDx.Gen.frame m ρ, fun m ρ _ => Cert.GmInDxIdeal.Gen.frame m ρ, Cert.GmInDxVal.frame_ref,
  fun m ρ _ => Cert.ArInLat.Gen.frame m ρ, fun m ρ _ => Cert.ArInLatIdeal.Gen.frame m ρ, Cert.ArInLatVal.frame_ref,
  fun m ρ _ => Cert.ArInCtx.Gen.frame m ρ, fun m ρ _ => Cert.ArInCtxIdeal.Gen.frame m ρ, Cert.ArInCtxVal.frame_ref,
  fun m ρ _ => Cert.ArInDw.Gen.frame m ρ, fun m ρ _ => Cert.ArInDwIdeal.Gen.frame m ρ, Cert.ArInDwVal.frame_ref,
  fun m ρ _ => Cert.ArInDxLat.Gen.frame m ρ, fun m ρ _ => Cert.ArInDxLatIdeal.Gen.frame m ρ, Cert.ArInDxLatVal.frame_ref,
  fun m ρ _ => Cert.ArInDxCtx.Gen.frame m ρ, fun m ρ _ => Cert.ArInDxCtxIdeal.Gen.frame m ρ, Cert.ArInDxCtxVal.frame_ref,
  fun m ρ _ => Cert.ModBwd.Gen.frame m ρ, fun m ρ _ => Cert.ModBwdIdeal.Gen.frame m ρ, Cert.ModBwdVal.frame_ref,
  fun m ρ _ => Cert.AdamFf.Gen.frame m ρ, fun m ρ _ => Cert.AdamFfIdeal.Gen.frame m ρ, Cert.AdamVal.AdamFf.frame_ref,
  fun m ρ _ => Cert.AdamMod.Gen.frame m ρ, fun m ρ _ => Cert.AdamModIdeal.Gen.frame m ρ, Cert.AdamVal.frame_AdamMod,
  fun m ρ _ => Cert.AdamCtx.Gen.frame m ρ, fun m ρ _ => Cert.AdamCtxIdeal.Gen.frame m ρ, Cert.AdamVal.frame_AdamCtx,
  fun m ρ _ => Cert.AdamBMod.Gen.frame m ρ, fun m ρ _ => Cert.AdamBModIdeal.Gen.frame m ρ, Cert.AdamVal.frame_AdamBMod,
  fun m ρ _ => Cert.AdamNorm.Gen.frame m ρ, fun m ρ _ => Cert.AdamNormIdeal.Gen.frame m ρ, Cert.AdamVal.frame_AdamNorm,
  fun m ρ _ => Cert.AdamArIn.Gen.frame m ρ, fun m ρ _ => Cert.AdamArInIdeal.Gen.frame m ρ, Cert.AdamVal.AdamArIn.frame_ref,
  fun m ρ _ => Cert.AdamHead.Gen.frame m ρ, fun m ρ _ => Cert.AdamHeadIdeal.Gen.frame m ρ, Cert.AdamVal.frame_AdamHead,
  fun m ρ _ => Cert.AdamConvW.Gen.frame m ρ, fun m ρ _ => Cert.AdamConvWIdeal.Gen.frame m ρ, Cert.AdamVal.frame_AdamConvW,
  fun m ρ _ => Cert.AdamRow.Gen.frame m ρ, fun m ρ _ => Cert.AdamRowIdeal.Gen.frame m ρ, Cert.AdamVal.frame_AdamRow,
  fun m ρ _ => Cert.AdamGate.Gen.frame m ρ, fun m ρ _ => Cert.AdamGateIdeal.Gen.frame m ρ, Cert.AdamVal.frame_AdamGate,
  fun m ρ _ => Cert.AdamBias.Gen.frame m ρ, fun m ρ _ => Cert.AdamBiasIdeal.Gen.frame m ρ, Cert.AdamVal.frame_AdamBias,
  fun m ρ _ => Cert.AdamOut.Gen.frame m ρ, fun m ρ _ => Cert.AdamOutIdeal.Gen.frame m ρ, Cert.AdamVal.AdamOut.frame_ref,
  fun m ρ _ => Cert.AdamGmIn.Gen.frame m ρ, fun m ρ _ => Cert.AdamGmInIdeal.Gen.frame m ρ, Cert.AdamVal.AdamGmIn.frame_ref,
  fun m ρ _ => Cert.AdamGain.Gen.frame m ρ, fun m ρ _ => Cert.AdamGainIdeal.Gen.frame m ρ, Cert.AdamVal.frame_AdamGain,
  fun m ρ _ => Cert.AdamSp.Gen.frame m ρ, fun m ρ _ => Cert.AdamSpIdeal.Gen.frame m ρ, Cert.AdamVal.frame_AdamSp,
  fun m ρ _ => Cert.ModFwd.Gen.frame m ρ, fun m ρ _ => Cert.ModFwdIdeal.Gen.frame m ρ, Cert.ModFwdVal.frame_ref,
  fun m ρ _ => Cert.ModDw.Gen.frame m ρ, fun m ρ _ => Cert.ModDwIdeal.Gen.frame m ρ, Cert.ModDwVal.frame_ref,
  fun m ρ _ => Cert.ModDs.Gen.frame m ρ, fun m ρ _ => Cert.ModDsIdeal.Gen.frame m ρ, Cert.ModDsVal.frame_ref,
  fun m ρ _ => Cert.SmallSums.Gen.frame m ρ, fun m ρ _ => Cert.SmallSumsIdeal.Gen.frame m ρ, Cert.SmallSumsVal.frame_ref,
  fun m ρ _ => Cert.GateSums.Gen.frame m ρ, fun m ρ _ => Cert.GateSumsIdeal.Gen.frame m ρ, Cert.GateSumsVal.frame_ref,
  fun m ρ _ => Cert.ResMod.Gen.frame m ρ, fun m ρ _ => Cert.ResModIdeal.Gen.frame m ρ, Cert.ResModVal.frame_ref,
  fun m ρ _ => Cert.NormFwd.Gen.frame m ρ, fun m ρ _ => Cert.NormFwdIdeal.Gen.frame m ρ, Cert.NormFwdVal.frame_ref,
  fun m ρ _ => Cert.ModRows.Gen.frame m ρ, fun m ρ _ => Cert.ModRowsIdeal.Gen.frame m ρ, fun m ρ _ => Cert.ModRowsIdeal.Gen.frame m ρ,
  Cert.ModRowsVal.frame_ref, fun m ρ _ => Cert.ModRowsVal.frame_ref m ρ trivial,
  preserves, algebraic, trivial, Cert.FfnVal.algebraic, trivial, Cert.FfnOutVal.algebraic, trivial, Cert.FfnOutDwVal.algebraic, trivial, Cert.FfnInDwVal.algebraic, trivial, Cert.FfnInDxVal.algebraic,
  trivial, Cert.MixOutVal.algebraic, trivial, Cert.MixOutDxVal.algebraic, trivial, Cert.MixOutDwVal.algebraic, trivial, Cert.GmInVal.algebraic, trivial, Cert.GmInDwVal.algebraic, trivial, Cert.GmInDxVal.algebraic, trivial, Cert.ArInLatVal.algebraic, trivial, Cert.ArInCtxVal.algebraic, trivial, Cert.ArInDwVal.algebraic, trivial, Cert.ArInDxLatVal.algebraic, trivial, Cert.ArInDxCtxVal.algebraic,
  trivial, Cert.ModBwdVal.algebraic, trivial, Cert.AdamVal.AdamFf.algebraic,
  trivial, Cert.AdamVal.algebraic_AdamMod, trivial, Cert.AdamVal.algebraic_AdamCtx, trivial, Cert.AdamVal.algebraic_AdamBMod, trivial, Cert.AdamVal.algebraic_AdamNorm, trivial, Cert.AdamVal.AdamArIn.algebraic, trivial, Cert.AdamVal.algebraic_AdamHead, trivial, Cert.AdamVal.algebraic_AdamConvW, trivial, Cert.AdamVal.algebraic_AdamRow, trivial, Cert.AdamVal.algebraic_AdamGate, trivial, Cert.AdamVal.algebraic_AdamBias, trivial, Cert.AdamVal.AdamOut.algebraic, trivial, Cert.AdamVal.AdamGmIn.algebraic, trivial, Cert.AdamVal.algebraic_AdamGain, trivial, Cert.AdamVal.algebraic_AdamSp,
  trivial, Cert.ModFwdVal.algebraic, trivial, Cert.ModDwVal.algebraic, trivial, Cert.ModDsVal.algebraic,
  trivial, Cert.SmallSumsVal.algebraic, trivial, Cert.GateSumsVal.algebraic, trivial, Cert.ResModVal.algebraic, trivial, Cert.NormFwdVal.algebraic, trivial, Cert.ModRowsVal.algebraic⟩

end Cert.Proof

end
